-- ==== Defs.lean ====
def Pre_GateUp [hPre_planned_gate_up : Cert.Pre_planned_gate_up.Facts] (m : (ℓ : Loc Cert.GateUp.nD Cert.GateUp.τ Cert.GateUp.sig) → Buf (Elt Bits) ℓ) : Prop :=
  ∀ c : Dev Cert.GateUp.nD,
    (Cert.Pre_planned_gate_up.fn (F := Bits) (m ((c.tc : Thread Cert.GateUp.nD Cert.GateUp.τ).loc Cert.GateUp.main_arg0)) (m ((c.tc : Thread Cert.GateUp.nD Cert.GateUp.τ).loc Cert.GateUp.main_arg1)) (m ((c.tc : Thread Cert.GateUp.nD Cert.GateUp.τ).loc Cert.GateUp.main_arg2)) (m ((c.tc : Thread Cert.GateUp.nD Cert.GateUp.τ).loc Cert.GateUp.main_arg3)) (m ((c.tc : Thread Cert.GateUp.nD Cert.GateUp.τ).loc Cert.GateUp.main_arg4)) (m ((c.tc : Thread Cert.GateUp.nD Cert.GateUp.τ).loc Cert.GateUp.main_arg5))) = (fun _ => 1#1)

def Pre_GateUpIdeal [hPre_planned_gate_up : Cert.Pre_planned_gate_up.Facts] (m : (ℓ : Loc Cert.GateUpIdeal.nD Cert.GateUpIdeal.τ Cert.GateUpIdeal.sig) → Buf (Elt Ideal) ℓ) : Prop :=
  ∀ c : Dev Cert.GateUpIdeal.nD,
    (Cert.Pre_planned_gate_up.fn (F := Ideal) (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)) (m ((c.tc : Thread Cert.GateUpIdeal.nD Cert.GateUpIdeal.τ).loc Cert.GateUpIdeal.main_arg3)) (m ((c.tc : Thread Cert.GateUpIdeal.nD Cert.GateUpIdeal.τ).loc Cert.GateUpIdeal.main_arg4)) (m ((c.tc : Thread Cert.GateUpIdeal.nD Cert.GateUpIdeal.τ).loc Cert.GateUpIdeal.main_arg5))) = (fun _ => 1#1)

def Pre_UpReferenceIdeal [hPre_planned_gate_up : Cert.Pre_planned_gate_up.Facts] (m : (ℓ : Loc Cert.UpReferenceIdeal.nD Cert.UpReferenceIdeal.τ Cert.UpReferenceIdeal.sig) → Buf (Elt Ideal) ℓ) : Prop :=
  ∀ c : Dev Cert.UpReferenceIdeal.nD,
    (Cert.Pre_planned_gate_up.fn (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3)) (m ((c.tc : Thread Cert.UpReferenceIdeal.nD Cert.UpReferenceIdeal.τ).loc Cert.UpReferenceIdeal.main_arg4)) (m ((c.tc : Thread Cert.UpReferenceIdeal.nD Cert.UpReferenceIdeal.τ).loc Cert.UpReferenceIdeal.main_arg5))) = (fun _ => 1#1)

def Pre_Down [hPre_planned_down : Cert.Pre_planned_down.Facts] (m : (ℓ : Loc Cert.Down.nD Cert.Down.τ Cert.Down.sig) → Buf (Elt Bits) ℓ) : Prop :=
  ∀ c : Dev Cert.Down.nD,
    (Cert.Pre_planned_down.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4))) = (fun _ => 1#1)

def Pre_DownIdeal [hPre_planned_down : Cert.Pre_planned_down.Facts] (m : (ℓ : Loc Cert.DownIdeal.nD Cert.DownIdeal.τ Cert.DownIdeal.sig) → Buf (Elt Ideal) ℓ) : Prop :=
  ∀ c : Dev Cert.DownIdeal.nD,
    (Cert.Pre_planned_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))) = (fun _ => 1#1)

def Pre_DownReferenceIdeal [hPre_planned_down : Cert.Pre_planned_down.Facts] (m : (ℓ : Loc Cert.DownReferenceIdeal.nD Cert.DownReferenceIdeal.τ Cert.DownReferenceIdeal.sig) → Buf (Elt Ideal) ℓ) : Prop :=
  ∀ c : Dev Cert.DownReferenceIdeal.nD,
    (Cert.Pre_planned_down.fn (F := Ideal) (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1)) (m ((c.tc : Thread Cert.DownReferenceIdeal.nD Cert.DownReferenceIdeal.τ).loc Cert.DownReferenceIdeal.main_arg2)) (m ((c.tc : Thread Cert.DownReferenceIdeal.nD Cert.DownReferenceIdeal.τ).loc Cert.DownReferenceIdeal.main_arg3)) (m ((c.tc : Thread Cert.DownReferenceIdeal.nD Cert.DownReferenceIdeal.τ).loc Cert.DownReferenceIdeal.main_arg4))) = (fun _ => 1#1)

def Pre_DenseUp (m : (ℓ : Loc Cert.DenseUp.nD Cert.DenseUp.τ Cert.DenseUp.sig) → Buf (Elt Bits) ℓ) : Prop :=
  True

def Pre_DenseUpIdeal (m : (ℓ : Loc Cert.DenseUpIdeal.nD Cert.DenseUpIdeal.τ Cert.DenseUpIdeal.sig) → Buf (Elt Ideal) ℓ) : Prop :=
  True

def Pre_DenseUpReferenceIdeal (m : (ℓ : Loc Cert.DenseUpReferenceIdeal.nD Cert.DenseUpReferenceIdeal.τ Cert.DenseUpReferenceIdeal.sig) → Buf (Elt Ideal) ℓ) : Prop :=
  True

def Pre_Values (m : (ℓ : Loc Cert.Values.nD Cert.Values.τ Cert.Values.sig) → Buf (Elt Bits) ℓ) : Prop :=
  True

def Pre_ValuesIdeal (m : (ℓ : Loc Cert.ValuesIdeal.nD Cert.ValuesIdeal.τ Cert.ValuesIdeal.sig) → Buf (Elt Ideal) ℓ) : Prop :=
  True

def Pre_ValuesReferenceIdeal (m : (ℓ : Loc Cert.ValuesReferenceIdeal.nD Cert.ValuesReferenceIdeal.τ Cert.ValuesReferenceIdeal.sig) → Buf (Elt Ideal) ℓ) : Prop :=
  True

def Pre_Keys (m : (ℓ : Loc Cert.Keys.nD Cert.Keys.τ Cert.Keys.sig) → Buf (Elt Bits) ℓ) : Prop :=
  True

def Pre_KeysIdeal (m : (ℓ : Loc Cert.KeysIdeal.nD Cert.KeysIdeal.τ Cert.KeysIdeal.sig) → Buf (Elt Ideal) ℓ) : Prop :=
  True

def Pre_KeysReferenceIdeal (m : (ℓ : Loc Cert.KeysReferenceIdeal.nD Cert.KeysReferenceIdeal.τ Cert.KeysReferenceIdeal.sig) → Buf (Elt Ideal) ℓ) : Prop :=
  True

def Pre_DenseDown (m : (ℓ : Loc Cert.DenseDown.nD Cert.DenseDown.τ Cert.DenseDown.sig) → Buf (Elt Bits) ℓ) : Prop :=
  True

def Pre_DenseDownIdeal (m : (ℓ : Loc Cert.DenseDownIdeal.nD Cert.DenseDownIdeal.τ Cert.DenseDownIdeal.sig) → Buf (Elt Ideal) ℓ) : Prop :=
  True

def Pre_DenseDownReferenceIdeal (m : (ℓ : Loc Cert.DenseDownReferenceIdeal.nD Cert.DenseDownReferenceIdeal.τ Cert.DenseDownReferenceIdeal.sig) → Buf (Elt Ideal) ℓ) : Prop :=
  True

def Pre_AttentionOut (m : (ℓ : Loc Cert.AttentionOut.nD Cert.AttentionOut.τ Cert.AttentionOut.sig) → Buf (Elt Bits) ℓ) : Prop :=
  True

def Pre_AttentionOutIdeal (m : (ℓ : Loc Cert.AttentionOutIdeal.nD Cert.AttentionOutIdeal.τ Cert.AttentionOutIdeal.sig) → Buf (Elt Ideal) ℓ) : Prop :=
  True

def Pre_AttentionOutReferenceIdeal (m : (ℓ : Loc Cert.AttentionOutReferenceIdeal.nD Cert.AttentionOutReferenceIdeal.τ Cert.AttentionOutReferenceIdeal.sig) → Buf (Elt Ideal) ℓ) : Prop :=
  True

def Pre_PlainQueries (m : (ℓ : Loc Cert.PlainQueries.nD Cert.PlainQueries.τ Cert.PlainQueries.sig) → Buf (Elt Bits) ℓ) : Prop :=
  True

def Pre_PlainQueriesIdeal (m : (ℓ : Loc Cert.PlainQueriesIdeal.nD Cert.PlainQueriesIdeal.τ Cert.PlainQueriesIdeal.sig) → Buf (Elt Ideal) ℓ) : Prop :=
  True

def Pre_PlainQueriesReferenceIdeal (m : (ℓ : Loc Cert.PlainQueriesReferenceIdeal.nD Cert.PlainQueriesReferenceIdeal.τ Cert.PlainQueriesReferenceIdeal.sig) → Buf (Elt Ideal) ℓ) : Prop :=
  True

def Pre_Queries (m : (ℓ : Loc Cert.Queries.nD Cert.Queries.τ Cert.Queries.sig) → Buf (Elt Bits) ℓ) : Prop :=
  True

def Pre_QueriesIdeal (m : (ℓ : Loc Cert.QueriesIdeal.nD Cert.QueriesIdeal.τ Cert.QueriesIdeal.sig) → Buf (Elt Ideal) ℓ) : Prop :=
  True

def Pre_QueriesReferenceIdeal (m : (ℓ : Loc Cert.QueriesReferenceIdeal.nD Cert.QueriesReferenceIdeal.τ Cert.QueriesReferenceIdeal.sig) → Buf (Elt Ideal) ℓ) : Prop :=
  True

def Pre_PooledNorm (m : (ℓ : Loc Cert.PooledNorm.nD Cert.PooledNorm.τ Cert.PooledNorm.sig) → Buf (Elt Bits) ℓ) : Prop :=
  True

def Pre_PooledNormIdeal (m : (ℓ : Loc Cert.PooledNormIdeal.nD Cert.PooledNormIdeal.τ Cert.PooledNormIdeal.sig) → Buf (Elt Ideal) ℓ) : Prop :=
  True

def Pre_PooledNormReferenceIdeal (m : (ℓ : Loc Cert.PooledNormReferenceIdeal.nD Cert.PooledNormReferenceIdeal.τ Cert.PooledNormReferenceIdeal.sig) → Buf (Elt Ideal) ℓ) : Prop :=
  True

def Pre_PooledSample (m : (ℓ : Loc Cert.PooledSample.nD Cert.PooledSample.τ Cert.PooledSample.sig) → Buf (Elt Bits) ℓ) : Prop :=
  True

def Pre_PooledSampleIdeal (m : (ℓ : Loc Cert.PooledSampleIdeal.nD Cert.PooledSampleIdeal.τ Cert.PooledSampleIdeal.sig) → Buf (Elt Ideal) ℓ) : Prop :=
  True

def Pre_PooledSampleReferenceIdeal (m : (ℓ : Loc Cert.PooledSampleReferenceIdeal.nD Cert.PooledSampleReferenceIdeal.τ Cert.PooledSampleReferenceIdeal.sig) → Buf (Elt Ideal) ℓ) : Prop :=
  True

def Pre_PooledPrompt (m : (ℓ : Loc Cert.PooledPrompt.nD Cert.PooledPrompt.τ Cert.PooledPrompt.sig) → Buf (Elt Bits) ℓ) : Prop :=
  True

def Pre_PooledPromptIdeal (m : (ℓ : Loc Cert.PooledPromptIdeal.nD Cert.PooledPromptIdeal.τ Cert.PooledPromptIdeal.sig) → Buf (Elt Ideal) ℓ) : Prop :=
  True

def Pre_PooledPromptReferenceIdeal (m : (ℓ : Loc Cert.PooledPromptReferenceIdeal.nD Cert.PooledPromptReferenceIdeal.τ Cert.PooledPromptReferenceIdeal.sig) → Buf (Elt Ideal) ℓ) : Prop :=
  True

def quiescent_GateUp [hGateUp : Cert.GateUp.Facts] [hPre_planned_gate_up : Cert.Pre_planned_gate_up.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5))
      ∧ r.2.sem = fun _ => 0)

def quiescent_GateUpIdeal [hGateUpIdeal : Cert.GateUpIdeal.Facts] [hPre_planned_gate_up : Cert.Pre_planned_gate_up.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ r.2.sem = fun _ => 0)

def quiescent_UpReferenceIdeal [hUpReferenceIdeal : Cert.UpReferenceIdeal.Facts] [hPre_planned_gate_up : Cert.Pre_planned_gate_up.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4)
      ∧ r.2.mem ((c.tc : Thread Cert.UpReferenceIdeal.nD Cert.UpReferenceIdeal.τ).loc Cert.UpReferenceIdeal.main_arg5) = m ((c.tc : Thread Cert.UpReferenceIdeal.nD Cert.UpReferenceIdeal.τ).loc Cert.UpReferenceIdeal.main_arg5))
      ∧ r.2.sem = fun _ => 0)

def quiescent_Down [hDown : Cert.Down.Facts] [hPre_planned_down : Cert.Pre_planned_down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] [hPre_planned_down : Cert.Pre_planned_down.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownReferenceIdeal [hDownReferenceIdeal : Cert.DownReferenceIdeal.Facts] [hPre_planned_down : Cert.Pre_planned_down.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def quiescent_DenseUp [hDenseUp : Cert.DenseUp.Facts] : Prop :=
  ∀ (m : (ℓ : Loc Cert.DenseUp.nD Cert.DenseUp.τ Cert.DenseUp.sig) → Buf (Elt Bits) ℓ) (g : Dev Cert.DenseUp.nD → PrngReg), Pre_DenseUp m →
    θ_run (Cert.DenseUp.defs (F := Bits)) (onTc (τ := Cert.DenseUp.τ) (Cert.DenseUp.main (F := Bits))) ⟨m, fun _ => 0, g⟩ (fun r => (∀ c : Dev Cert.DenseUp.nD,
      r.2.mem ((c.tc : Thread Cert.DenseUp.nD Cert.DenseUp.τ).loc Cert.DenseUp.main_arg0) = m ((c.tc : Thread Cert.DenseUp.nD Cert.DenseUp.τ).loc Cert.DenseUp.main_arg0)
      ∧ r.2.mem ((c.tc : Thread Cert.DenseUp.nD Cert.DenseUp.τ).loc Cert.DenseUp.main_arg1) = m ((c.tc : Thread Cert.DenseUp.nD Cert.DenseUp.τ).loc Cert.DenseUp.main_arg1)
      ∧ r.2.mem ((c.tc : Thread Cert.DenseUp.nD Cert.DenseUp.τ).loc Cert.DenseUp.main_arg2) = m ((c.tc : Thread Cert.DenseUp.nD Cert.DenseUp.τ).loc Cert.DenseUp.main_arg2))
      ∧ r.2.sem = fun _ => 0)

def quiescent_DenseUpIdeal [hDenseUpIdeal : Cert.DenseUpIdeal.Facts] : Prop :=
  ∀ (m : (ℓ : Loc Cert.DenseUpIdeal.nD Cert.DenseUpIdeal.τ Cert.DenseUpIdeal.sig) → Buf (Elt Ideal) ℓ) (g : Dev Cert.DenseUpIdeal.nD → PrngReg), Pre_DenseUpIdeal m →
    θ_run (Cert.DenseUpIdeal.defs (F := Ideal)) (onTc (τ := Cert.DenseUpIdeal.τ) (Cert.DenseUpIdeal.main (F := Ideal))) ⟨m, fun _ => 0, g⟩ (fun r => (∀ c : Dev Cert.DenseUpIdeal.nD,
      r.2.mem ((c.tc : Thread Cert.DenseUpIdeal.nD Cert.DenseUpIdeal.τ).loc Cert.DenseUpIdeal.main_arg0) = m ((c.tc : Thread Cert.DenseUpIdeal.nD Cert.DenseUpIdeal.τ).loc Cert.DenseUpIdeal.main_arg0)
      ∧ r.2.mem ((c.tc : Thread Cert.DenseUpIdeal.nD Cert.DenseUpIdeal.τ).loc Cert.DenseUpIdeal.main_arg1) = m ((c.tc : Thread Cert.DenseUpIdeal.nD Cert.DenseUpIdeal.τ).loc Cert.DenseUpIdeal.main_arg1)
      ∧ r.2.mem ((c.tc : Thread Cert.DenseUpIdeal.nD Cert.DenseUpIdeal.τ).loc Cert.DenseUpIdeal.main_arg2) = m ((c.tc : Thread Cert.DenseUpIdeal.nD Cert.DenseUpIdeal.τ).loc Cert.DenseUpIdeal.main_arg2))
      ∧ r.2.sem = fun _ => 0)

def quiescent_DenseUpReferenceIdeal [hDenseUpReferenceIdeal : Cert.DenseUpReferenceIdeal.Facts] : Prop :=
  ∀ (m : (ℓ : Loc Cert.DenseUpReferenceIdeal.nD Cert.DenseUpReferenceIdeal.τ Cert.DenseUpReferenceIdeal.sig) → Buf (Elt Ideal) ℓ) (g : Dev Cert.DenseUpReferenceIdeal.nD → PrngReg), Pre_DenseUpReferenceIdeal m →
    θ_run (Cert.DenseUpReferenceIdeal.defs (F := Ideal)) (onTc (τ := Cert.DenseUpReferenceIdeal.τ) (Cert.DenseUpReferenceIdeal.main (F := Ideal))) ⟨m, fun _ => 0, g⟩ (fun r => (∀ c : Dev Cert.DenseUpReferenceIdeal.nD,
      r.2.mem ((c.tc : Thread Cert.DenseUpReferenceIdeal.nD Cert.DenseUpReferenceIdeal.τ).loc Cert.DenseUpReferenceIdeal.main_arg0) = m ((c.tc : Thread Cert.DenseUpReferenceIdeal.nD Cert.DenseUpReferenceIdeal.τ).loc Cert.DenseUpReferenceIdeal.main_arg0)
      ∧ r.2.mem ((c.tc : Thread Cert.DenseUpReferenceIdeal.nD Cert.DenseUpReferenceIdeal.τ).loc Cert.DenseUpReferenceIdeal.main_arg1) = m ((c.tc : Thread Cert.DenseUpReferenceIdeal.nD Cert.DenseUpReferenceIdeal.τ).loc Cert.DenseUpReferenceIdeal.main_arg1)
      ∧ r.2.mem ((c.tc : Thread Cert.DenseUpReferenceIdeal.nD Cert.DenseUpReferenceIdeal.τ).loc Cert.DenseUpReferenceIdeal.main_arg2) = m ((c.tc : Thread Cert.DenseUpReferenceIdeal.nD Cert.DenseUpReferenceIdeal.τ).loc Cert.DenseUpReferenceIdeal.main_arg2))
      ∧ r.2.sem = fun _ => 0)

def quiescent_Values [hValues : Cert.Values.Facts] : Prop :=
  ∀ (m : (ℓ : Loc Cert.Values.nD Cert.Values.τ Cert.Values.sig) → Buf (Elt Bits) ℓ) (g : Dev Cert.Values.nD → PrngReg), Pre_Values m →
    θ_run (Cert.Values.defs (F := Bits)) (onTc (τ := Cert.Values.τ) (Cert.Values.main (F := Bits))) ⟨m, fun _ => 0, g⟩ (fun r => (∀ c : Dev Cert.Values.nD,
      r.2.mem ((c.tc : Thread Cert.Values.nD Cert.Values.τ).loc Cert.Values.main_arg0) = m ((c.tc : Thread Cert.Values.nD Cert.Values.τ).loc Cert.Values.main_arg0)
      ∧ r.2.mem ((c.tc : Thread Cert.Values.nD Cert.Values.τ).loc Cert.Values.main_arg1) = m ((c.tc : Thread Cert.Values.nD Cert.Values.τ).loc Cert.Values.main_arg1)
      ∧ r.2.mem ((c.tc : Thread Cert.Values.nD Cert.Values.τ).loc Cert.Values.main_arg2) = m ((c.tc : Thread Cert.Values.nD Cert.Values.τ).loc Cert.Values.main_arg2))
      ∧ r.2.sem = fun _ => 0)

def quiescent_ValuesIdeal [hValuesIdeal : Cert.ValuesIdeal.Facts] : Prop :=
  ∀ (m : (ℓ : Loc Cert.ValuesIdeal.nD Cert.ValuesIdeal.τ Cert.ValuesIdeal.sig) → Buf (Elt Ideal) ℓ) (g : Dev Cert.ValuesIdeal.nD → PrngReg), Pre_ValuesIdeal m →
    θ_run (Cert.ValuesIdeal.defs (F := Ideal)) (onTc (τ := Cert.ValuesIdeal.τ) (Cert.ValuesIdeal.main (F := Ideal))) ⟨m, fun _ => 0, g⟩ (fun r => (∀ c : Dev Cert.ValuesIdeal.nD,
      r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
      ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1)
      ∧ r.2.mem ((c.tc : Thread Cert.ValuesIdeal.nD Cert.ValuesIdeal.τ).loc Cert.ValuesIdeal.main_arg2) = m ((c.tc : Thread Cert.ValuesIdeal.nD Cert.ValuesIdeal.τ).loc Cert.ValuesIdeal.main_arg2))
      ∧ r.2.sem = fun _ => 0)

def quiescent_ValuesReferenceIdeal [hValuesReferenceIdeal : Cert.ValuesReferenceIdeal.Facts] : Prop :=
  ∀ (m : (ℓ : Loc Cert.ValuesReferenceIdeal.nD Cert.ValuesReferenceIdeal.τ Cert.ValuesReferenceIdeal.sig) → Buf (Elt Ideal) ℓ) (g : Dev Cert.ValuesReferenceIdeal.nD → PrngReg), Pre_ValuesReferenceIdeal m →
    θ_run (Cert.ValuesReferenceIdeal.defs (F := Ideal)) (onTc (τ := Cert.ValuesReferenceIdeal.τ) (Cert.ValuesReferenceIdeal.main (F := Ideal))) ⟨m, fun _ => 0, g⟩ (fun r => (∀ c : Dev Cert.ValuesReferenceIdeal.nD,
      r.2.mem ((c.tc : Thread Cert.ValuesReferenceIdeal.nD Cert.ValuesReferenceIdeal.τ).loc Cert.ValuesReferenceIdeal.main_arg0) = m ((c.tc : Thread Cert.ValuesReferenceIdeal.nD Cert.ValuesReferenceIdeal.τ).loc Cert.ValuesReferenceIdeal.main_arg0)
      ∧ r.2.mem ((c.tc : Thread Cert.ValuesReferenceIdeal.nD Cert.ValuesReferenceIdeal.τ).loc Cert.ValuesReferenceIdeal.main_arg1) = m ((c.tc : Thread Cert.ValuesReferenceIdeal.nD Cert.ValuesReferenceIdeal.τ).loc Cert.ValuesReferenceIdeal.main_arg1)
      ∧ r.2.mem ((c.tc : Thread Cert.ValuesReferenceIdeal.nD Cert.ValuesReferenceIdeal.τ).loc Cert.ValuesReferenceIdeal.main_arg2) = m ((c.tc : Thread Cert.ValuesReferenceIdeal.nD Cert.ValuesReferenceIdeal.τ).loc Cert.ValuesReferenceIdeal.main_arg2))
      ∧ r.2.sem = fun _ => 0)

def quiescent_Keys [hKeys : Cert.Keys.Facts] : Prop :=
  ∀ (m : (ℓ : Loc Cert.Keys.nD Cert.Keys.τ Cert.Keys.sig) → Buf (Elt Bits) ℓ) (g : Dev Cert.Keys.nD → PrngReg), Pre_Keys m →
    θ_run (Cert.Keys.defs (F := Bits)) (onTc (τ := Cert.Keys.τ) (Cert.Keys.main (F := Bits))) ⟨m, fun _ => 0, g⟩ (fun r => (∀ c : Dev Cert.Keys.nD,
      r.2.mem ((c.tc : Thread Cert.Keys.nD Cert.Keys.τ).loc Cert.Keys.main_arg0) = m ((c.tc : Thread Cert.Keys.nD Cert.Keys.τ).loc Cert.Keys.main_arg0)
      ∧ r.2.mem ((c.tc : Thread Cert.Keys.nD Cert.Keys.τ).loc Cert.Keys.main_arg1) = m ((c.tc : Thread Cert.Keys.nD Cert.Keys.τ).loc Cert.Keys.main_arg1)
      ∧ r.2.mem ((c.tc : Thread Cert.Keys.nD Cert.Keys.τ).loc Cert.Keys.main_arg2) = m ((c.tc : Thread Cert.Keys.nD Cert.Keys.τ).loc Cert.Keys.main_arg2))
      ∧ r.2.sem = fun _ => 0)

def quiescent_KeysIdeal [hKeysIdeal : Cert.KeysIdeal.Facts] : Prop :=
  ∀ (m : (ℓ : Loc Cert.KeysIdeal.nD Cert.KeysIdeal.τ Cert.KeysIdeal.sig) → Buf (Elt Ideal) ℓ) (g : Dev Cert.KeysIdeal.nD → PrngReg), Pre_KeysIdeal m →
    θ_run (Cert.KeysIdeal.defs (F := Ideal)) (onTc (τ := Cert.KeysIdeal.τ) (Cert.KeysIdeal.main (F := Ideal))) ⟨m, fun _ => 0, g⟩ (fun r => (∀ c : Dev Cert.KeysIdeal.nD,
      r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
      ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1)
      ∧ r.2.mem ((c.tc : Thread Cert.KeysIdeal.nD Cert.KeysIdeal.τ).loc Cert.KeysIdeal.main_arg2) = m ((c.tc : Thread Cert.KeysIdeal.nD Cert.KeysIdeal.τ).loc Cert.KeysIdeal.main_arg2))
      ∧ r.2.sem = fun _ => 0)

def quiescent_KeysReferenceIdeal [hKeysReferenceIdeal : Cert.KeysReferenceIdeal.Facts] : Prop :=
  ∀ (m : (ℓ : Loc Cert.KeysReferenceIdeal.nD Cert.KeysReferenceIdeal.τ Cert.KeysReferenceIdeal.sig) → Buf (Elt Ideal) ℓ) (g : Dev Cert.KeysReferenceIdeal.nD → PrngReg), Pre_KeysReferenceIdeal m →
    θ_run (Cert.KeysReferenceIdeal.defs (F := Ideal)) (onTc (τ := Cert.KeysReferenceIdeal.τ) (Cert.KeysReferenceIdeal.main (F := Ideal))) ⟨m, fun _ => 0, g⟩ (fun r => (∀ c : Dev Cert.KeysReferenceIdeal.nD,
      r.2.mem ((c.tc : Thread Cert.KeysReferenceIdeal.nD Cert.KeysReferenceIdeal.τ).loc Cert.KeysReferenceIdeal.main_arg0) = m ((c.tc : Thread Cert.KeysReferenceIdeal.nD Cert.KeysReferenceIdeal.τ).loc Cert.KeysReferenceIdeal.main_arg0)
      ∧ r.2.mem ((c.tc : Thread Cert.KeysReferenceIdeal.nD Cert.KeysReferenceIdeal.τ).loc Cert.KeysReferenceIdeal.main_arg1) = m ((c.tc : Thread Cert.KeysReferenceIdeal.nD Cert.KeysReferenceIdeal.τ).loc Cert.KeysReferenceIdeal.main_arg1)
      ∧ r.2.mem ((c.tc : Thread Cert.KeysReferenceIdeal.nD Cert.KeysReferenceIdeal.τ).loc Cert.KeysReferenceIdeal.main_arg2) = m ((c.tc : Thread Cert.KeysReferenceIdeal.nD Cert.KeysReferenceIdeal.τ).loc Cert.KeysReferenceIdeal.main_arg2))
      ∧ r.2.sem = fun _ => 0)

def quiescent_DenseDown [hDenseDown : Cert.DenseDown.Facts] : Prop :=
  ∀ (m : (ℓ : Loc Cert.DenseDown.nD Cert.DenseDown.τ Cert.DenseDown.sig) → Buf (Elt Bits) ℓ) (g : Dev Cert.DenseDown.nD → PrngReg), Pre_DenseDown m →
    θ_run (Cert.DenseDown.defs (F := Bits)) (onTc (τ := Cert.DenseDown.τ) (Cert.DenseDown.main (F := Bits))) ⟨m, fun _ => 0, g⟩ (fun r => (∀ c : Dev Cert.DenseDown.nD,
      r.2.mem ((c.tc : Thread Cert.DenseDown.nD Cert.DenseDown.τ).loc Cert.DenseDown.main_arg0) = m ((c.tc : Thread Cert.DenseDown.nD Cert.DenseDown.τ).loc Cert.DenseDown.main_arg0)
      ∧ r.2.mem ((c.tc : Thread Cert.DenseDown.nD Cert.DenseDown.τ).loc Cert.DenseDown.main_arg1) = m ((c.tc : Thread Cert.DenseDown.nD Cert.DenseDown.τ).loc Cert.DenseDown.main_arg1)
      ∧ r.2.mem ((c.tc : Thread Cert.DenseDown.nD Cert.DenseDown.τ).loc Cert.DenseDown.main_arg2) = m ((c.tc : Thread Cert.DenseDown.nD Cert.DenseDown.τ).loc Cert.DenseDown.main_arg2)
      ∧ r.2.mem ((c.tc : Thread Cert.DenseDown.nD Cert.DenseDown.τ).loc Cert.DenseDown.main_arg3) = m ((c.tc : Thread Cert.DenseDown.nD Cert.DenseDown.τ).loc Cert.DenseDown.main_arg3)
      ∧ r.2.mem ((c.tc : Thread Cert.DenseDown.nD Cert.DenseDown.τ).loc Cert.DenseDown.main_arg4) = m ((c.tc : Thread Cert.DenseDown.nD Cert.DenseDown.τ).loc Cert.DenseDown.main_arg4))
      ∧ r.2.sem = fun _ => 0)

def quiescent_DenseDownIdeal [hDenseDownIdeal : Cert.DenseDownIdeal.Facts] : Prop :=
  ∀ (m : (ℓ : Loc Cert.DenseDownIdeal.nD Cert.DenseDownIdeal.τ Cert.DenseDownIdeal.sig) → Buf (Elt Ideal) ℓ) (g : Dev Cert.DenseDownIdeal.nD → PrngReg), Pre_DenseDownIdeal m →
    θ_run (Cert.DenseDownIdeal.defs (F := Ideal)) (onTc (τ := Cert.DenseDownIdeal.τ) (Cert.DenseDownIdeal.main (F := Ideal))) ⟨m, fun _ => 0, g⟩ (fun r => (∀ c : Dev Cert.DenseDownIdeal.nD,
      r.2.mem ((c.tc : Thread Cert.DenseDownIdeal.nD Cert.DenseDownIdeal.τ).loc Cert.DenseDownIdeal.main_arg0) = m ((c.tc : Thread Cert.DenseDownIdeal.nD Cert.DenseDownIdeal.τ).loc Cert.DenseDownIdeal.main_arg0)
      ∧ r.2.mem ((c.tc : Thread Cert.DenseDownIdeal.nD Cert.DenseDownIdeal.τ).loc Cert.DenseDownIdeal.main_arg1) = m ((c.tc : Thread Cert.DenseDownIdeal.nD Cert.DenseDownIdeal.τ).loc Cert.DenseDownIdeal.main_arg1)
      ∧ r.2.mem ((c.tc : Thread Cert.DenseDownIdeal.nD Cert.DenseDownIdeal.τ).loc Cert.DenseDownIdeal.main_arg2) = m ((c.tc : Thread Cert.DenseDownIdeal.nD Cert.DenseDownIdeal.τ).loc Cert.DenseDownIdeal.main_arg2)
      ∧ r.2.mem ((c.tc : Thread Cert.DenseDownIdeal.nD Cert.DenseDownIdeal.τ).loc Cert.DenseDownIdeal.main_arg3) = m ((c.tc : Thread Cert.DenseDownIdeal.nD Cert.DenseDownIdeal.τ).loc Cert.DenseDownIdeal.main_arg3)
      ∧ r.2.mem ((c.tc : Thread Cert.DenseDownIdeal.nD Cert.DenseDownIdeal.τ).loc Cert.DenseDownIdeal.main_arg4) = m ((c.tc : Thread Cert.DenseDownIdeal.nD Cert.DenseDownIdeal.τ).loc Cert.DenseDownIdeal.main_arg4))
      ∧ r.2.sem = fun _ => 0)

def quiescent_DenseDownReferenceIdeal [hDenseDownReferenceIdeal : Cert.DenseDownReferenceIdeal.Facts] : Prop :=
  ∀ (m : (ℓ : Loc Cert.DenseDownReferenceIdeal.nD Cert.DenseDownReferenceIdeal.τ Cert.DenseDownReferenceIdeal.sig) → Buf (Elt Ideal) ℓ) (g : Dev Cert.DenseDownReferenceIdeal.nD → PrngReg), Pre_DenseDownReferenceIdeal m →
    θ_run (Cert.DenseDownReferenceIdeal.defs (F := Ideal)) (onTc (τ := Cert.DenseDownReferenceIdeal.τ) (Cert.DenseDownReferenceIdeal.main (F := Ideal))) ⟨m, fun _ => 0, g⟩ (fun r => (∀ c : Dev Cert.DenseDownReferenceIdeal.nD,
      r.2.mem ((c.tc : Thread Cert.DenseDownReferenceIdeal.nD Cert.DenseDownReferenceIdeal.τ).loc Cert.DenseDownReferenceIdeal.main_arg0) = m ((c.tc : Thread Cert.DenseDownReferenceIdeal.nD Cert.DenseDownReferenceIdeal.τ).loc Cert.DenseDownReferenceIdeal.main_arg0)
      ∧ r.2.mem ((c.tc : Thread Cert.DenseDownReferenceIdeal.nD Cert.DenseDownReferenceIdeal.τ).loc Cert.DenseDownReferenceIdeal.main_arg1) = m ((c.tc : Thread Cert.DenseDownReferenceIdeal.nD Cert.DenseDownReferenceIdeal.τ).loc Cert.DenseDownReferenceIdeal.main_arg1)
      ∧ r.2.mem ((c.tc : Thread Cert.DenseDownReferenceIdeal.nD Cert.DenseDownReferenceIdeal.τ).loc Cert.DenseDownReferenceIdeal.main_arg2) = m ((c.tc : Thread Cert.DenseDownReferenceIdeal.nD Cert.DenseDownReferenceIdeal.τ).loc Cert.DenseDownReferenceIdeal.main_arg2)
      ∧ r.2.mem ((c.tc : Thread Cert.DenseDownReferenceIdeal.nD Cert.DenseDownReferenceIdeal.τ).loc Cert.DenseDownReferenceIdeal.main_arg3) = m ((c.tc : Thread Cert.DenseDownReferenceIdeal.nD Cert.DenseDownReferenceIdeal.τ).loc Cert.DenseDownReferenceIdeal.main_arg3)
      ∧ r.2.mem ((c.tc : Thread Cert.DenseDownReferenceIdeal.nD Cert.DenseDownReferenceIdeal.τ).loc Cert.DenseDownReferenceIdeal.main_arg4) = m ((c.tc : Thread Cert.DenseDownReferenceIdeal.nD Cert.DenseDownReferenceIdeal.τ).loc Cert.DenseDownReferenceIdeal.main_arg4))
      ∧ r.2.sem = fun _ => 0)

def quiescent_AttentionOut [hAttentionOut : Cert.AttentionOut.Facts] : Prop :=
  ∀ (m : (ℓ : Loc Cert.AttentionOut.nD Cert.AttentionOut.τ Cert.AttentionOut.sig) → Buf (Elt Bits) ℓ) (g : Dev Cert.AttentionOut.nD → PrngReg), Pre_AttentionOut m →
    θ_run (Cert.AttentionOut.defs (F := Bits)) (onTc (τ := Cert.AttentionOut.τ) (Cert.AttentionOut.main (F := Bits))) ⟨m, fun _ => 0, g⟩ (fun r => (∀ c : Dev Cert.AttentionOut.nD,
      r.2.mem ((c.tc : Thread Cert.AttentionOut.nD Cert.AttentionOut.τ).loc Cert.AttentionOut.main_arg0) = m ((c.tc : Thread Cert.AttentionOut.nD Cert.AttentionOut.τ).loc Cert.AttentionOut.main_arg0)
      ∧ r.2.mem ((c.tc : Thread Cert.AttentionOut.nD Cert.AttentionOut.τ).loc Cert.AttentionOut.main_arg1) = m ((c.tc : Thread Cert.AttentionOut.nD Cert.AttentionOut.τ).loc Cert.AttentionOut.main_arg1)
      ∧ r.2.mem ((c.tc : Thread Cert.AttentionOut.nD Cert.AttentionOut.τ).loc Cert.AttentionOut.main_arg2) = m ((c.tc : Thread Cert.AttentionOut.nD Cert.AttentionOut.τ).loc Cert.AttentionOut.main_arg2)
      ∧ r.2.mem ((c.tc : Thread Cert.AttentionOut.nD Cert.AttentionOut.τ).loc Cert.AttentionOut.main_arg3) = m ((c.tc : Thread Cert.AttentionOut.nD Cert.AttentionOut.τ).loc Cert.AttentionOut.main_arg3)
      ∧ r.2.mem ((c.tc : Thread Cert.AttentionOut.nD Cert.AttentionOut.τ).loc Cert.AttentionOut.main_arg4) = m ((c.tc : Thread Cert.AttentionOut.nD Cert.AttentionOut.τ).loc Cert.AttentionOut.main_arg4))
      ∧ r.2.sem = fun _ => 0)

def quiescent_AttentionOutIdeal [hAttentionOutIdeal : Cert.AttentionOutIdeal.Facts] : Prop :=
  ∀ (m : (ℓ : Loc Cert.AttentionOutIdeal.nD Cert.AttentionOutIdeal.τ Cert.AttentionOutIdeal.sig) → Buf (Elt Ideal) ℓ) (g : Dev Cert.AttentionOutIdeal.nD → PrngReg), Pre_AttentionOutIdeal m →
    θ_run (Cert.AttentionOutIdeal.defs (F := Ideal)) (onTc (τ := Cert.AttentionOutIdeal.τ) (Cert.AttentionOutIdeal.main (F := Ideal))) ⟨m, fun _ => 0, g⟩ (fun r => (∀ c : Dev Cert.AttentionOutIdeal.nD,
      r.2.mem ((c.tc : Thread Cert.AttentionOutIdeal.nD Cert.AttentionOutIdeal.τ).loc Cert.AttentionOutIdeal.main_arg0) = m ((c.tc : Thread Cert.AttentionOutIdeal.nD Cert.AttentionOutIdeal.τ).loc Cert.AttentionOutIdeal.main_arg0)
      ∧ r.2.mem ((c.tc : Thread Cert.AttentionOutIdeal.nD Cert.AttentionOutIdeal.τ).loc Cert.AttentionOutIdeal.main_arg1) = m ((c.tc : Thread Cert.AttentionOutIdeal.nD Cert.AttentionOutIdeal.τ).loc Cert.AttentionOutIdeal.main_arg1)
      ∧ r.2.mem ((c.tc : Thread Cert.AttentionOutIdeal.nD Cert.AttentionOutIdeal.τ).loc Cert.AttentionOutIdeal.main_arg2) = m ((c.tc : Thread Cert.AttentionOutIdeal.nD Cert.AttentionOutIdeal.τ).loc Cert.AttentionOutIdeal.main_arg2)
      ∧ r.2.mem ((c.tc : Thread Cert.AttentionOutIdeal.nD Cert.AttentionOutIdeal.τ).loc Cert.AttentionOutIdeal.main_arg3) = m ((c.tc : Thread Cert.AttentionOutIdeal.nD Cert.AttentionOutIdeal.τ).loc Cert.AttentionOutIdeal.main_arg3)
      ∧ r.2.mem ((c.tc : Thread Cert.AttentionOutIdeal.nD Cert.AttentionOutIdeal.τ).loc Cert.AttentionOutIdeal.main_arg4) = m ((c.tc : Thread Cert.AttentionOutIdeal.nD Cert.AttentionOutIdeal.τ).loc Cert.AttentionOutIdeal.main_arg4))
      ∧ r.2.sem = fun _ => 0)

def quiescent_AttentionOutReferenceIdeal [hAttentionOutReferenceIdeal : Cert.AttentionOutReferenceIdeal.Facts] : Prop :=
  ∀ (m : (ℓ : Loc Cert.AttentionOutReferenceIdeal.nD Cert.AttentionOutReferenceIdeal.τ Cert.AttentionOutReferenceIdeal.sig) → Buf (Elt Ideal) ℓ) (g : Dev Cert.AttentionOutReferenceIdeal.nD → PrngReg), Pre_AttentionOutReferenceIdeal m →
    θ_run (Cert.AttentionOutReferenceIdeal.defs (F := Ideal)) (onTc (τ := Cert.AttentionOutReferenceIdeal.τ) (Cert.AttentionOutReferenceIdeal.main (F := Ideal))) ⟨m, fun _ => 0, g⟩ (fun r => (∀ c : Dev Cert.AttentionOutReferenceIdeal.nD,
      r.2.mem ((c.tc : Thread Cert.AttentionOutReferenceIdeal.nD Cert.AttentionOutReferenceIdeal.τ).loc Cert.AttentionOutReferenceIdeal.main_arg0) = m ((c.tc : Thread Cert.AttentionOutReferenceIdeal.nD Cert.AttentionOutReferenceIdeal.τ).loc Cert.AttentionOutReferenceIdeal.main_arg0)
      ∧ r.2.mem ((c.tc : Thread Cert.AttentionOutReferenceIdeal.nD Cert.AttentionOutReferenceIdeal.τ).loc Cert.AttentionOutReferenceIdeal.main_arg1) = m ((c.tc : Thread Cert.AttentionOutReferenceIdeal.nD Cert.AttentionOutReferenceIdeal.τ).loc Cert.AttentionOutReferenceIdeal.main_arg1)
      ∧ r.2.mem ((c.tc : Thread Cert.AttentionOutReferenceIdeal.nD Cert.AttentionOutReferenceIdeal.τ).loc Cert.AttentionOutReferenceIdeal.main_arg2) = m ((c.tc : Thread Cert.AttentionOutReferenceIdeal.nD Cert.AttentionOutReferenceIdeal.τ).loc Cert.AttentionOutReferenceIdeal.main_arg2)
      ∧ r.2.mem ((c.tc : Thread Cert.AttentionOutReferenceIdeal.nD Cert.AttentionOutReferenceIdeal.τ).loc Cert.AttentionOutReferenceIdeal.main_arg3) = m ((c.tc : Thread Cert.AttentionOutReferenceIdeal.nD Cert.AttentionOutReferenceIdeal.τ).loc Cert.AttentionOutReferenceIdeal.main_arg3)
      ∧ r.2.mem ((c.tc : Thread Cert.AttentionOutReferenceIdeal.nD Cert.AttentionOutReferenceIdeal.τ).loc Cert.AttentionOutReferenceIdeal.main_arg4) = m ((c.tc : Thread Cert.AttentionOutReferenceIdeal.nD Cert.AttentionOutReferenceIdeal.τ).loc Cert.AttentionOutReferenceIdeal.main_arg4))
      ∧ r.2.sem = fun _ => 0)

def quiescent_PlainQueries [hPlainQueries : Cert.PlainQueries.Facts] : Prop :=
  ∀ (m : (ℓ : Loc Cert.PlainQueries.nD Cert.PlainQueries.τ Cert.PlainQueries.sig) → Buf (Elt Bits) ℓ) (g : Dev Cert.PlainQueries.nD → PrngReg), Pre_PlainQueries m →
    θ_run (Cert.PlainQueries.defs (F := Bits)) (onTc (τ := Cert.PlainQueries.τ) (Cert.PlainQueries.main (F := Bits))) ⟨m, fun _ => 0, g⟩ (fun r => (∀ c : Dev Cert.PlainQueries.nD,
      r.2.mem ((c.tc : Thread Cert.PlainQueries.nD Cert.PlainQueries.τ).loc Cert.PlainQueries.main_arg0) = m ((c.tc : Thread Cert.PlainQueries.nD Cert.PlainQueries.τ).loc Cert.PlainQueries.main_arg0)
      ∧ r.2.mem ((c.tc : Thread Cert.PlainQueries.nD Cert.PlainQueries.τ).loc Cert.PlainQueries.main_arg1) = m ((c.tc : Thread Cert.PlainQueries.nD Cert.PlainQueries.τ).loc Cert.PlainQueries.main_arg1)
      ∧ r.2.mem ((c.tc : Thread Cert.PlainQueries.nD Cert.PlainQueries.τ).loc Cert.PlainQueries.main_arg2) = m ((c.tc : Thread Cert.PlainQueries.nD Cert.PlainQueries.τ).loc Cert.PlainQueries.main_arg2))
      ∧ r.2.sem = fun _ => 0)

def quiescent_PlainQueriesIdeal [hPlainQueriesIdeal : Cert.PlainQueriesIdeal.Facts] : Prop :=
  ∀ (m : (ℓ : Loc Cert.PlainQueriesIdeal.nD Cert.PlainQueriesIdeal.τ Cert.PlainQueriesIdeal.sig) → Buf (Elt Ideal) ℓ) (g : Dev Cert.PlainQueriesIdeal.nD → PrngReg), Pre_PlainQueriesIdeal m →
    θ_run (Cert.PlainQueriesIdeal.defs (F := Ideal)) (onTc (τ := Cert.PlainQueriesIdeal.τ) (Cert.PlainQueriesIdeal.main (F := Ideal))) ⟨m, fun _ => 0, g⟩ (fun r => (∀ c : Dev Cert.PlainQueriesIdeal.nD,
      r.2.mem ((c.tc : Thread Cert.PlainQueriesIdeal.nD Cert.PlainQueriesIdeal.τ).loc Cert.PlainQueriesIdeal.main_arg0) = m ((c.tc : Thread Cert.PlainQueriesIdeal.nD Cert.PlainQueriesIdeal.τ).loc Cert.PlainQueriesIdeal.main_arg0)
      ∧ r.2.mem ((c.tc : Thread Cert.PlainQueriesIdeal.nD Cert.PlainQueriesIdeal.τ).loc Cert.PlainQueriesIdeal.main_arg1) = m ((c.tc : Thread Cert.PlainQueriesIdeal.nD Cert.PlainQueriesIdeal.τ).loc Cert.PlainQueriesIdeal.main_arg1)
      ∧ r.2.mem ((c.tc : Thread Cert.PlainQueriesIdeal.nD Cert.PlainQueriesIdeal.τ).loc Cert.PlainQueriesIdeal.main_arg2) = m ((c.tc : Thread Cert.PlainQueriesIdeal.nD Cert.PlainQueriesIdeal.τ).loc Cert.PlainQueriesIdeal.main_arg2))
      ∧ r.2.sem = fun _ => 0)

def quiescent_PlainQueriesReferenceIdeal [hPlainQueriesReferenceIdeal : Cert.PlainQueriesReferenceIdeal.Facts] : Prop :=
  ∀ (m : (ℓ : Loc Cert.PlainQueriesReferenceIdeal.nD Cert.PlainQueriesReferenceIdeal.τ Cert.PlainQueriesReferenceIdeal.sig) → Buf (Elt Ideal) ℓ) (g : Dev Cert.PlainQueriesReferenceIdeal.nD → PrngReg), Pre_PlainQueriesReferenceIdeal m →
    θ_run (Cert.PlainQueriesReferenceIdeal.defs (F := Ideal)) (onTc (τ := Cert.PlainQueriesReferenceIdeal.τ) (Cert.PlainQueriesReferenceIdeal.main (F := Ideal))) ⟨m, fun _ => 0, g⟩ (fun r => (∀ c : Dev Cert.PlainQueriesReferenceIdeal.nD,
      r.2.mem ((c.tc : Thread Cert.PlainQueriesReferenceIdeal.nD Cert.PlainQueriesReferenceIdeal.τ).loc Cert.PlainQueriesReferenceIdeal.main_arg0) = m ((c.tc : Thread Cert.PlainQueriesReferenceIdeal.nD Cert.PlainQueriesReferenceIdeal.τ).loc Cert.PlainQueriesReferenceIdeal.main_arg0)
      ∧ r.2.mem ((c.tc : Thread Cert.PlainQueriesReferenceIdeal.nD Cert.PlainQueriesReferenceIdeal.τ).loc Cert.PlainQueriesReferenceIdeal.main_arg1) = m ((c.tc : Thread Cert.PlainQueriesReferenceIdeal.nD Cert.PlainQueriesReferenceIdeal.τ).loc Cert.PlainQueriesReferenceIdeal.main_arg1)
      ∧ r.2.mem ((c.tc : Thread Cert.PlainQueriesReferenceIdeal.nD Cert.PlainQueriesReferenceIdeal.τ).loc Cert.PlainQueriesReferenceIdeal.main_arg2) = m ((c.tc : Thread Cert.PlainQueriesReferenceIdeal.nD Cert.PlainQueriesReferenceIdeal.τ).loc Cert.PlainQueriesReferenceIdeal.main_arg2))
      ∧ r.2.sem = fun _ => 0)

def quiescent_Queries [hQueries : Cert.Queries.Facts] : Prop :=
  ∀ (m : (ℓ : Loc Cert.Queries.nD Cert.Queries.τ Cert.Queries.sig) → Buf (Elt Bits) ℓ) (g : Dev Cert.Queries.nD → PrngReg), Pre_Queries m →
    θ_run (Cert.Queries.defs (F := Bits)) (onTc (τ := Cert.Queries.τ) (Cert.Queries.main (F := Bits))) ⟨m, fun _ => 0, g⟩ (fun r => (∀ c : Dev Cert.Queries.nD,
      r.2.mem ((c.tc : Thread Cert.Queries.nD Cert.Queries.τ).loc Cert.Queries.main_arg0) = m ((c.tc : Thread Cert.Queries.nD Cert.Queries.τ).loc Cert.Queries.main_arg0)
      ∧ r.2.mem ((c.tc : Thread Cert.Queries.nD Cert.Queries.τ).loc Cert.Queries.main_arg1) = m ((c.tc : Thread Cert.Queries.nD Cert.Queries.τ).loc Cert.Queries.main_arg1)
      ∧ r.2.mem ((c.tc : Thread Cert.Queries.nD Cert.Queries.τ).loc Cert.Queries.main_arg2) = m ((c.tc : Thread Cert.Queries.nD Cert.Queries.τ).loc Cert.Queries.main_arg2))
      ∧ r.2.sem = fun _ => 0)

def quiescent_QueriesIdeal [hQueriesIdeal : Cert.QueriesIdeal.Facts] : Prop :=
  ∀ (m : (ℓ : Loc Cert.QueriesIdeal.nD Cert.QueriesIdeal.τ Cert.QueriesIdeal.sig) → Buf (Elt Ideal) ℓ) (g : Dev Cert.QueriesIdeal.nD → PrngReg), Pre_QueriesIdeal m →
    θ_run (Cert.QueriesIdeal.defs (F := Ideal)) (onTc (τ := Cert.QueriesIdeal.τ) (Cert.QueriesIdeal.main (F := Ideal))) ⟨m, fun _ => 0, g⟩ (fun r => (∀ c : Dev Cert.QueriesIdeal.nD,
      r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
      ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1)
      ∧ r.2.mem ((c.tc : Thread Cert.QueriesIdeal.nD Cert.QueriesIdeal.τ).loc Cert.QueriesIdeal.main_arg2) = m ((c.tc : Thread Cert.QueriesIdeal.nD Cert.QueriesIdeal.τ).loc Cert.QueriesIdeal.main_arg2))
      ∧ r.2.sem = fun _ => 0)

def quiescent_QueriesReferenceIdeal [hQueriesReferenceIdeal : Cert.QueriesReferenceIdeal.Facts] : Prop :=
  ∀ (m : (ℓ : Loc Cert.QueriesReferenceIdeal.nD Cert.QueriesReferenceIdeal.τ Cert.QueriesReferenceIdeal.sig) → Buf (Elt Ideal) ℓ) (g : Dev Cert.QueriesReferenceIdeal.nD → PrngReg), Pre_QueriesReferenceIdeal m →
    θ_run (Cert.QueriesReferenceIdeal.defs (F := Ideal)) (onTc (τ := Cert.QueriesReferenceIdeal.τ) (Cert.QueriesReferenceIdeal.main (F := Ideal))) ⟨m, fun _ => 0, g⟩ (fun r => (∀ c : Dev Cert.QueriesReferenceIdeal.nD,
      r.2.mem ((c.tc : Thread Cert.QueriesReferenceIdeal.nD Cert.QueriesReferenceIdeal.τ).loc Cert.QueriesReferenceIdeal.main_arg0) = m ((c.tc : Thread Cert.QueriesReferenceIdeal.nD Cert.QueriesReferenceIdeal.τ).loc Cert.QueriesReferenceIdeal.main_arg0)
      ∧ r.2.mem ((c.tc : Thread Cert.QueriesReferenceIdeal.nD Cert.QueriesReferenceIdeal.τ).loc Cert.QueriesReferenceIdeal.main_arg1) = m ((c.tc : Thread Cert.QueriesReferenceIdeal.nD Cert.QueriesReferenceIdeal.τ).loc Cert.QueriesReferenceIdeal.main_arg1)
      ∧ r.2.mem ((c.tc : Thread Cert.QueriesReferenceIdeal.nD Cert.QueriesReferenceIdeal.τ).loc Cert.QueriesReferenceIdeal.main_arg2) = m ((c.tc : Thread Cert.QueriesReferenceIdeal.nD Cert.QueriesReferenceIdeal.τ).loc Cert.QueriesReferenceIdeal.main_arg2))
      ∧ r.2.sem = fun _ => 0)

def quiescent_PooledNorm [hPooledNorm : Cert.PooledNorm.Facts] : Prop :=
  ∀ (m : (ℓ : Loc Cert.PooledNorm.nD Cert.PooledNorm.τ Cert.PooledNorm.sig) → Buf (Elt Bits) ℓ) (g : Dev Cert.PooledNorm.nD → PrngReg), Pre_PooledNorm m →
    θ_run (Cert.PooledNorm.defs (F := Bits)) (onTc (τ := Cert.PooledNorm.τ) (Cert.PooledNorm.main (F := Bits))) ⟨m, fun _ => 0, g⟩ (fun r => (∀ c : Dev Cert.PooledNorm.nD,
      r.2.mem ((c.tc : Thread Cert.PooledNorm.nD Cert.PooledNorm.τ).loc Cert.PooledNorm.main_arg0) = m ((c.tc : Thread Cert.PooledNorm.nD Cert.PooledNorm.τ).loc Cert.PooledNorm.main_arg0)
      ∧ r.2.mem ((c.tc : Thread Cert.PooledNorm.nD Cert.PooledNorm.τ).loc Cert.PooledNorm.main_arg1) = m ((c.tc : Thread Cert.PooledNorm.nD Cert.PooledNorm.τ).loc Cert.PooledNorm.main_arg1)
      ∧ r.2.mem ((c.tc : Thread Cert.PooledNorm.nD Cert.PooledNorm.τ).loc Cert.PooledNorm.main_arg2) = m ((c.tc : Thread Cert.PooledNorm.nD Cert.PooledNorm.τ).loc Cert.PooledNorm.main_arg2)
      ∧ r.2.mem ((c.tc : Thread Cert.PooledNorm.nD Cert.PooledNorm.τ).loc Cert.PooledNorm.main_arg3) = m ((c.tc : Thread Cert.PooledNorm.nD Cert.PooledNorm.τ).loc Cert.PooledNorm.main_arg3))
      ∧ r.2.sem = fun _ => 0)

def quiescent_PooledNormIdeal [hPooledNormIdeal : Cert.PooledNormIdeal.Facts] : Prop :=
  ∀ (m : (ℓ : Loc Cert.PooledNormIdeal.nD Cert.PooledNormIdeal.τ Cert.PooledNormIdeal.sig) → Buf (Elt Ideal) ℓ) (g : Dev Cert.PooledNormIdeal.nD → PrngReg), Pre_PooledNormIdeal m →
    θ_run (Cert.PooledNormIdeal.defs (F := Ideal)) (onTc (τ := Cert.PooledNormIdeal.τ) (Cert.PooledNormIdeal.main (F := Ideal))) ⟨m, fun _ => 0, g⟩ (fun r => (∀ c : Dev Cert.PooledNormIdeal.nD,
      r.2.mem ((c.tc : Thread Cert.PooledNormIdeal.nD Cert.PooledNormIdeal.τ).loc Cert.PooledNormIdeal.main_arg0) = m ((c.tc : Thread Cert.PooledNormIdeal.nD Cert.PooledNormIdeal.τ).loc Cert.PooledNormIdeal.main_arg0)
      ∧ r.2.mem ((c.tc : Thread Cert.PooledNormIdeal.nD Cert.PooledNormIdeal.τ).loc Cert.PooledNormIdeal.main_arg1) = m ((c.tc : Thread Cert.PooledNormIdeal.nD Cert.PooledNormIdeal.τ).loc Cert.PooledNormIdeal.main_arg1)
      ∧ r.2.mem ((c.tc : Thread Cert.PooledNormIdeal.nD Cert.PooledNormIdeal.τ).loc Cert.PooledNormIdeal.main_arg2) = m ((c.tc : Thread Cert.PooledNormIdeal.nD Cert.PooledNormIdeal.τ).loc Cert.PooledNormIdeal.main_arg2)
      ∧ r.2.mem ((c.tc : Thread Cert.PooledNormIdeal.nD Cert.PooledNormIdeal.τ).loc Cert.PooledNormIdeal.main_arg3) = m ((c.tc : Thread Cert.PooledNormIdeal.nD Cert.PooledNormIdeal.τ).loc Cert.PooledNormIdeal.main_arg3))
      ∧ r.2.sem = fun _ => 0)

def quiescent_PooledNormReferenceIdeal [hPooledNormReferenceIdeal : Cert.PooledNormReferenceIdeal.Facts] : Prop :=
  ∀ (m : (ℓ : Loc Cert.PooledNormReferenceIdeal.nD Cert.PooledNormReferenceIdeal.τ Cert.PooledNormReferenceIdeal.sig) → Buf (Elt Ideal) ℓ) (g : Dev Cert.PooledNormReferenceIdeal.nD → PrngReg), Pre_PooledNormReferenceIdeal m →
    θ_run (Cert.PooledNormReferenceIdeal.defs (F := Ideal)) (onTc (τ := Cert.PooledNormReferenceIdeal.τ) (Cert.PooledNormReferenceIdeal.main (F := Ideal))) ⟨m, fun _ => 0, g⟩ (fun r => (∀ c : Dev Cert.PooledNormReferenceIdeal.nD,
      r.2.mem ((c.tc : Thread Cert.PooledNormReferenceIdeal.nD Cert.PooledNormReferenceIdeal.τ).loc Cert.PooledNormReferenceIdeal.main_arg0) = m ((c.tc : Thread Cert.PooledNormReferenceIdeal.nD Cert.PooledNormReferenceIdeal.τ).loc Cert.PooledNormReferenceIdeal.main_arg0)
      ∧ r.2.mem ((c.tc : Thread Cert.PooledNormReferenceIdeal.nD Cert.PooledNormReferenceIdeal.τ).loc Cert.PooledNormReferenceIdeal.main_arg1) = m ((c.tc : Thread Cert.PooledNormReferenceIdeal.nD Cert.PooledNormReferenceIdeal.τ).loc Cert.PooledNormReferenceIdeal.main_arg1)
      ∧ r.2.mem ((c.tc : Thread Cert.PooledNormReferenceIdeal.nD Cert.PooledNormReferenceIdeal.τ).loc Cert.PooledNormReferenceIdeal.main_arg2) = m ((c.tc : Thread Cert.PooledNormReferenceIdeal.nD Cert.PooledNormReferenceIdeal.τ).loc Cert.PooledNormReferenceIdeal.main_arg2)
      ∧ r.2.mem ((c.tc : Thread Cert.PooledNormReferenceIdeal.nD Cert.PooledNormReferenceIdeal.τ).loc Cert.PooledNormReferenceIdeal.main_arg3) = m ((c.tc : Thread Cert.PooledNormReferenceIdeal.nD Cert.PooledNormReferenceIdeal.τ).loc Cert.PooledNormReferenceIdeal.main_arg3))
      ∧ r.2.sem = fun _ => 0)

def quiescent_PooledSample [hPooledSample : Cert.PooledSample.Facts] : Prop :=
  ∀ (m : (ℓ : Loc Cert.PooledSample.nD Cert.PooledSample.τ Cert.PooledSample.sig) → Buf (Elt Bits) ℓ) (g : Dev Cert.PooledSample.nD → PrngReg), Pre_PooledSample m →
    θ_run (Cert.PooledSample.defs (F := Bits)) (onTc (τ := Cert.PooledSample.τ) (Cert.PooledSample.main (F := Bits))) ⟨m, fun _ => 0, g⟩ (fun r => (∀ c : Dev Cert.PooledSample.nD,
      r.2.mem ((c.tc : Thread Cert.PooledSample.nD Cert.PooledSample.τ).loc Cert.PooledSample.main_arg0) = m ((c.tc : Thread Cert.PooledSample.nD Cert.PooledSample.τ).loc Cert.PooledSample.main_arg0)
      ∧ r.2.mem ((c.tc : Thread Cert.PooledSample.nD Cert.PooledSample.τ).loc Cert.PooledSample.main_arg1) = m ((c.tc : Thread Cert.PooledSample.nD Cert.PooledSample.τ).loc Cert.PooledSample.main_arg1)
      ∧ r.2.mem ((c.tc : Thread Cert.PooledSample.nD Cert.PooledSample.τ).loc Cert.PooledSample.main_arg2) = m ((c.tc : Thread Cert.PooledSample.nD Cert.PooledSample.τ).loc Cert.PooledSample.main_arg2)
      ∧ r.2.mem ((c.tc : Thread Cert.PooledSample.nD Cert.PooledSample.τ).loc Cert.PooledSample.main_arg3) = m ((c.tc : Thread Cert.PooledSample.nD Cert.PooledSample.τ).loc Cert.PooledSample.main_arg3))
      ∧ r.2.sem = fun _ => 0)

def quiescent_PooledSampleIdeal [hPooledSampleIdeal : Cert.PooledSampleIdeal.Facts] : Prop :=
  ∀ (m : (ℓ : Loc Cert.PooledSampleIdeal.nD Cert.PooledSampleIdeal.τ Cert.PooledSampleIdeal.sig) → Buf (Elt Ideal) ℓ) (g : Dev Cert.PooledSampleIdeal.nD → PrngReg), Pre_PooledSampleIdeal m →
    θ_run (Cert.PooledSampleIdeal.defs (F := Ideal)) (onTc (τ := Cert.PooledSampleIdeal.τ) (Cert.PooledSampleIdeal.main (F := Ideal))) ⟨m, fun _ => 0, g⟩ (fun r => (∀ c : Dev Cert.PooledSampleIdeal.nD,
      r.2.mem ((c.tc : Thread Cert.PooledSampleIdeal.nD Cert.PooledSampleIdeal.τ).loc Cert.PooledSampleIdeal.main_arg0) = m ((c.tc : Thread Cert.PooledSampleIdeal.nD Cert.PooledSampleIdeal.τ).loc Cert.PooledSampleIdeal.main_arg0)
      ∧ r.2.mem ((c.tc : Thread Cert.PooledSampleIdeal.nD Cert.PooledSampleIdeal.τ).loc Cert.PooledSampleIdeal.main_arg1) = m ((c.tc : Thread Cert.PooledSampleIdeal.nD Cert.PooledSampleIdeal.τ).loc Cert.PooledSampleIdeal.main_arg1)
      ∧ r.2.mem ((c.tc : Thread Cert.PooledSampleIdeal.nD Cert.PooledSampleIdeal.τ).loc Cert.PooledSampleIdeal.main_arg2) = m ((c.tc : Thread Cert.PooledSampleIdeal.nD Cert.PooledSampleIdeal.τ).loc Cert.PooledSampleIdeal.main_arg2)
      ∧ r.2.mem ((c.tc : Thread Cert.PooledSampleIdeal.nD Cert.PooledSampleIdeal.τ).loc Cert.PooledSampleIdeal.main_arg3) = m ((c.tc : Thread Cert.PooledSampleIdeal.nD Cert.PooledSampleIdeal.τ).loc Cert.PooledSampleIdeal.main_arg3))
      ∧ r.2.sem = fun _ => 0)

def quiescent_PooledSampleReferenceIdeal [hPooledSampleReferenceIdeal : Cert.PooledSampleReferenceIdeal.Facts] : Prop :=
  ∀ (m : (ℓ : Loc Cert.PooledSampleReferenceIdeal.nD Cert.PooledSampleReferenceIdeal.τ Cert.PooledSampleReferenceIdeal.sig) → Buf (Elt Ideal) ℓ) (g : Dev Cert.PooledSampleReferenceIdeal.nD → PrngReg), Pre_PooledSampleReferenceIdeal m →
    θ_run (Cert.PooledSampleReferenceIdeal.defs (F := Ideal)) (onTc (τ := Cert.PooledSampleReferenceIdeal.τ) (Cert.PooledSampleReferenceIdeal.main (F := Ideal))) ⟨m, fun _ => 0, g⟩ (fun r => (∀ c : Dev Cert.PooledSampleReferenceIdeal.nD,
      r.2.mem ((c.tc : Thread Cert.PooledSampleReferenceIdeal.nD Cert.PooledSampleReferenceIdeal.τ).loc Cert.PooledSampleReferenceIdeal.main_arg0) = m ((c.tc : Thread Cert.PooledSampleReferenceIdeal.nD Cert.PooledSampleReferenceIdeal.τ).loc Cert.PooledSampleReferenceIdeal.main_arg0)
      ∧ r.2.mem ((c.tc : Thread Cert.PooledSampleReferenceIdeal.nD Cert.PooledSampleReferenceIdeal.τ).loc Cert.PooledSampleReferenceIdeal.main_arg1) = m ((c.tc : Thread Cert.PooledSampleReferenceIdeal.nD Cert.PooledSampleReferenceIdeal.τ).loc Cert.PooledSampleReferenceIdeal.main_arg1)
      ∧ r.2.mem ((c.tc : Thread Cert.PooledSampleReferenceIdeal.nD Cert.PooledSampleReferenceIdeal.τ).loc Cert.PooledSampleReferenceIdeal.main_arg2) = m ((c.tc : Thread Cert.PooledSampleReferenceIdeal.nD Cert.PooledSampleReferenceIdeal.τ).loc Cert.PooledSampleReferenceIdeal.main_arg2)
      ∧ r.2.mem ((c.tc : Thread Cert.PooledSampleReferenceIdeal.nD Cert.PooledSampleReferenceIdeal.τ).loc Cert.PooledSampleReferenceIdeal.main_arg3) = m ((c.tc : Thread Cert.PooledSampleReferenceIdeal.nD Cert.PooledSampleReferenceIdeal.τ).loc Cert.PooledSampleReferenceIdeal.main_arg3))
      ∧ r.2.sem = fun _ => 0)

def quiescent_PooledPrompt [hPooledPrompt : Cert.PooledPrompt.Facts] : Prop :=
  ∀ (m : (ℓ : Loc Cert.PooledPrompt.nD Cert.PooledPrompt.τ Cert.PooledPrompt.sig) → Buf (Elt Bits) ℓ) (g : Dev Cert.PooledPrompt.nD → PrngReg), Pre_PooledPrompt m →
    θ_run (Cert.PooledPrompt.defs (F := Bits)) (onTc (τ := Cert.PooledPrompt.τ) (Cert.PooledPrompt.main (F := Bits))) ⟨m, fun _ => 0, g⟩ (fun r => (∀ c : Dev Cert.PooledPrompt.nD,
      r.2.mem ((c.tc : Thread Cert.PooledPrompt.nD Cert.PooledPrompt.τ).loc Cert.PooledPrompt.main_arg0) = m ((c.tc : Thread Cert.PooledPrompt.nD Cert.PooledPrompt.τ).loc Cert.PooledPrompt.main_arg0)
      ∧ r.2.mem ((c.tc : Thread Cert.PooledPrompt.nD Cert.PooledPrompt.τ).loc Cert.PooledPrompt.main_arg1) = m ((c.tc : Thread Cert.PooledPrompt.nD Cert.PooledPrompt.τ).loc Cert.PooledPrompt.main_arg1)
      ∧ r.2.mem ((c.tc : Thread Cert.PooledPrompt.nD Cert.PooledPrompt.τ).loc Cert.PooledPrompt.main_arg2) = m ((c.tc : Thread Cert.PooledPrompt.nD Cert.PooledPrompt.τ).loc Cert.PooledPrompt.main_arg2))
      ∧ r.2.sem = fun _ => 0)

def quiescent_PooledPromptIdeal [hPooledPromptIdeal : Cert.PooledPromptIdeal.Facts] : Prop :=
  ∀ (m : (ℓ : Loc Cert.PooledPromptIdeal.nD Cert.PooledPromptIdeal.τ Cert.PooledPromptIdeal.sig) → Buf (Elt Ideal) ℓ) (g : Dev Cert.PooledPromptIdeal.nD → PrngReg), Pre_PooledPromptIdeal m →
    θ_run (Cert.PooledPromptIdeal.defs (F := Ideal)) (onTc (τ := Cert.PooledPromptIdeal.τ) (Cert.PooledPromptIdeal.main (F := Ideal))) ⟨m, fun _ => 0, g⟩ (fun r => (∀ c : Dev Cert.PooledPromptIdeal.nD,
      r.2.mem ((c.tc : Thread Cert.PooledPromptIdeal.nD Cert.PooledPromptIdeal.τ).loc Cert.PooledPromptIdeal.main_arg0) = m ((c.tc : Thread Cert.PooledPromptIdeal.nD Cert.PooledPromptIdeal.τ).loc Cert.PooledPromptIdeal.main_arg0)
      ∧ r.2.mem ((c.tc : Thread Cert.PooledPromptIdeal.nD Cert.PooledPromptIdeal.τ).loc Cert.PooledPromptIdeal.main_arg1) = m ((c.tc : Thread Cert.PooledPromptIdeal.nD Cert.PooledPromptIdeal.τ).loc Cert.PooledPromptIdeal.main_arg1)
      ∧ r.2.mem ((c.tc : Thread Cert.PooledPromptIdeal.nD Cert.PooledPromptIdeal.τ).loc Cert.PooledPromptIdeal.main_arg2) = m ((c.tc : Thread Cert.PooledPromptIdeal.nD Cert.PooledPromptIdeal.τ).loc Cert.PooledPromptIdeal.main_arg2))
      ∧ r.2.sem = fun _ => 0)

def quiescent_PooledPromptReferenceIdeal [hPooledPromptReferenceIdeal : Cert.PooledPromptReferenceIdeal.Facts] : Prop :=
  ∀ (m : (ℓ : Loc Cert.PooledPromptReferenceIdeal.nD Cert.PooledPromptReferenceIdeal.τ Cert.PooledPromptReferenceIdeal.sig) → Buf (Elt Ideal) ℓ) (g : Dev Cert.PooledPromptReferenceIdeal.nD → PrngReg), Pre_PooledPromptReferenceIdeal m →
    θ_run (Cert.PooledPromptReferenceIdeal.defs (F := Ideal)) (onTc (τ := Cert.PooledPromptReferenceIdeal.τ) (Cert.PooledPromptReferenceIdeal.main (F := Ideal))) ⟨m, fun _ => 0, g⟩ (fun r => (∀ c : Dev Cert.PooledPromptReferenceIdeal.nD,
      r.2.mem ((c.tc : Thread Cert.PooledPromptReferenceIdeal.nD Cert.PooledPromptReferenceIdeal.τ).loc Cert.PooledPromptReferenceIdeal.main_arg0) = m ((c.tc : Thread Cert.PooledPromptReferenceIdeal.nD Cert.PooledPromptReferenceIdeal.τ).loc Cert.PooledPromptReferenceIdeal.main_arg0)
      ∧ r.2.mem ((c.tc : Thread Cert.PooledPromptReferenceIdeal.nD Cert.PooledPromptReferenceIdeal.τ).loc Cert.PooledPromptReferenceIdeal.main_arg1) = m ((c.tc : Thread Cert.PooledPromptReferenceIdeal.nD Cert.PooledPromptReferenceIdeal.τ).loc Cert.PooledPromptReferenceIdeal.main_arg1)
      ∧ r.2.mem ((c.tc : Thread Cert.PooledPromptReferenceIdeal.nD Cert.PooledPromptReferenceIdeal.τ).loc Cert.PooledPromptReferenceIdeal.main_arg2) = m ((c.tc : Thread Cert.PooledPromptReferenceIdeal.nD Cert.PooledPromptReferenceIdeal.τ).loc Cert.PooledPromptReferenceIdeal.main_arg2))
      ∧ r.2.sem = fun _ => 0)

def preserves_GateUp_GateUpIdeal : Prop :=
  True

def algebraic_GateUpIdeal_UpReferenceIdeal [hGateUpIdeal : Cert.GateUpIdeal.Facts] [hUpReferenceIdeal : Cert.UpReferenceIdeal.Facts] [hPre_planned_gate_up : Cert.Pre_planned_gate_up.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_GateUpIdeal m →
    (∀ c : Dev Cert.GateUpIdeal.nD,
      m' ((c.tc : Thread Cert.UpReferenceIdeal.nD Cert.UpReferenceIdeal.τ).loc Cert.UpReferenceIdeal.main_arg0) = m ((c.tc : Thread Cert.GateUpIdeal.nD Cert.GateUpIdeal.τ).loc Cert.GateUpIdeal.main_arg0)
      ∧ m' ((c.tc : Thread Cert.UpReferenceIdeal.nD Cert.UpReferenceIdeal.τ).loc Cert.UpReferenceIdeal.main_arg1) = m ((c.tc : Thread Cert.GateUpIdeal.nD Cert.GateUpIdeal.τ).loc Cert.GateUpIdeal.main_arg1)
      ∧ m' ((c.tc : Thread Cert.UpReferenceIdeal.nD Cert.UpReferenceIdeal.τ).loc Cert.UpReferenceIdeal.main_arg2) = m ((c.tc : Thread Cert.GateUpIdeal.nD Cert.GateUpIdeal.τ).loc Cert.GateUpIdeal.main_arg2)
      ∧ m' ((c.tc : Thread Cert.UpReferenceIdeal.nD Cert.UpReferenceIdeal.τ).loc Cert.UpReferenceIdeal.main_arg3) = m ((c.tc : Thread Cert.GateUpIdeal.nD Cert.GateUpIdeal.τ).loc Cert.GateUpIdeal.main_arg3)
      ∧ m' ((c.tc : Thread Cert.UpReferenceIdeal.nD Cert.UpReferenceIdeal.τ).loc Cert.UpReferenceIdeal.main_arg4) = m ((c.tc : Thread Cert.GateUpIdeal.nD Cert.GateUpIdeal.τ).loc Cert.GateUpIdeal.main_arg4)
      ∧ m' ((c.tc : Thread Cert.UpReferenceIdeal.nD Cert.UpReferenceIdeal.τ).loc Cert.UpReferenceIdeal.main_arg5) = m ((c.tc : Thread Cert.GateUpIdeal.nD Cert.GateUpIdeal.τ).loc Cert.GateUpIdeal.main_arg5)) →
    ∃ (v0 : (c : Dev Cert.GateUpIdeal.nD) → Buf (Elt Ideal) ((c.tc : Thread Cert.GateUpIdeal.nD Cert.GateUpIdeal.τ).loc Cert.GateUpIdeal.main_v0)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v123) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4)
          ∧ r.2.mem ((c.tc : Thread Cert.UpReferenceIdeal.nD Cert.UpReferenceIdeal.τ).loc Cert.UpReferenceIdeal.main_arg5) = m' ((c.tc : Thread Cert.UpReferenceIdeal.nD Cert.UpReferenceIdeal.τ).loc Cert.UpReferenceIdeal.main_arg5))

def preserves_Down_DownIdeal : Prop :=
  True

def algebraic_DownIdeal_DownReferenceIdeal [hDownIdeal : Cert.DownIdeal.Facts] [hDownReferenceIdeal : Cert.DownReferenceIdeal.Facts] [hPre_planned_down : Cert.Pre_planned_down.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v82) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4))

def preserves_DenseUp_DenseUpIdeal : Prop :=
  True

def algebraic_DenseUpIdeal_DenseUpReferenceIdeal [hDenseUpIdeal : Cert.DenseUpIdeal.Facts] [hDenseUpReferenceIdeal : Cert.DenseUpReferenceIdeal.Facts] : Prop :=
  ∀ (m : (ℓ : Loc Cert.DenseUpIdeal.nD Cert.DenseUpIdeal.τ Cert.DenseUpIdeal.sig) → Buf (Elt Ideal) ℓ) (g : Dev Cert.DenseUpIdeal.nD → PrngReg)
    (m' : (ℓ : Loc Cert.DenseUpReferenceIdeal.nD Cert.DenseUpReferenceIdeal.τ Cert.DenseUpReferenceIdeal.sig) → Buf (Elt Ideal) ℓ) (g' : Dev Cert.DenseUpReferenceIdeal.nD → PrngReg), Pre_DenseUpIdeal m →
    (∀ c : Dev Cert.DenseUpIdeal.nD,
      m' ((c.tc : Thread Cert.DenseUpReferenceIdeal.nD Cert.DenseUpReferenceIdeal.τ).loc Cert.DenseUpReferenceIdeal.main_arg0) = m ((c.tc : Thread Cert.DenseUpIdeal.nD Cert.DenseUpIdeal.τ).loc Cert.DenseUpIdeal.main_arg0)
      ∧ m' ((c.tc : Thread Cert.DenseUpReferenceIdeal.nD Cert.DenseUpReferenceIdeal.τ).loc Cert.DenseUpReferenceIdeal.main_arg1) = m ((c.tc : Thread Cert.DenseUpIdeal.nD Cert.DenseUpIdeal.τ).loc Cert.DenseUpIdeal.main_arg1)
      ∧ m' ((c.tc : Thread Cert.DenseUpReferenceIdeal.nD Cert.DenseUpReferenceIdeal.τ).loc Cert.DenseUpReferenceIdeal.main_arg2) = m ((c.tc : Thread Cert.DenseUpIdeal.nD Cert.DenseUpIdeal.τ).loc Cert.DenseUpIdeal.main_arg2)) →
    ∃ (v0 : (c : Dev Cert.DenseUpIdeal.nD) → Buf (Elt Ideal) ((c.tc : Thread Cert.DenseUpIdeal.nD Cert.DenseUpIdeal.τ).loc Cert.DenseUpIdeal.main_v0)),
      θ_run (Cert.DenseUpIdeal.defs (F := Ideal)) (onTc (τ := Cert.DenseUpIdeal.τ) (Cert.DenseUpIdeal.main (F := Ideal))) ⟨m, fun _ => 0, g⟩ (fun r => ∀ c : Dev Cert.DenseUpIdeal.nD,
          r.2.mem ((c.tc : Thread Cert.DenseUpIdeal.nD Cert.DenseUpIdeal.τ).loc Cert.DenseUpIdeal.main_v0) = v0 c
          ∧ r.2.mem ((c.tc : Thread Cert.DenseUpIdeal.nD Cert.DenseUpIdeal.τ).loc Cert.DenseUpIdeal.main_arg0) = m ((c.tc : Thread Cert.DenseUpIdeal.nD Cert.DenseUpIdeal.τ).loc Cert.DenseUpIdeal.main_arg0)
          ∧ r.2.mem ((c.tc : Thread Cert.DenseUpIdeal.nD Cert.DenseUpIdeal.τ).loc Cert.DenseUpIdeal.main_arg1) = m ((c.tc : Thread Cert.DenseUpIdeal.nD Cert.DenseUpIdeal.τ).loc Cert.DenseUpIdeal.main_arg1)
          ∧ r.2.mem ((c.tc : Thread Cert.DenseUpIdeal.nD Cert.DenseUpIdeal.τ).loc Cert.DenseUpIdeal.main_arg2) = m ((c.tc : Thread Cert.DenseUpIdeal.nD Cert.DenseUpIdeal.τ).loc Cert.DenseUpIdeal.main_arg2))
      ∧ θ_run (Cert.DenseUpReferenceIdeal.defs (F := Ideal)) (onTc (τ := Cert.DenseUpReferenceIdeal.τ) (Cert.DenseUpReferenceIdeal.main (F := Ideal))) ⟨m', fun _ => 0, g'⟩ (fun r => ∀ c : Dev Cert.DenseUpReferenceIdeal.nD,
          r.2.mem ((c.tc : Thread Cert.DenseUpReferenceIdeal.nD Cert.DenseUpReferenceIdeal.τ).loc Cert.DenseUpReferenceIdeal.main_v5) = v0 c
          ∧ r.2.mem ((c.tc : Thread Cert.DenseUpReferenceIdeal.nD Cert.DenseUpReferenceIdeal.τ).loc Cert.DenseUpReferenceIdeal.main_arg0) = m' ((c.tc : Thread Cert.DenseUpReferenceIdeal.nD Cert.DenseUpReferenceIdeal.τ).loc Cert.DenseUpReferenceIdeal.main_arg0)
          ∧ r.2.mem ((c.tc : Thread Cert.DenseUpReferenceIdeal.nD Cert.DenseUpReferenceIdeal.τ).loc Cert.DenseUpReferenceIdeal.main_arg1) = m' ((c.tc : Thread Cert.DenseUpReferenceIdeal.nD Cert.DenseUpReferenceIdeal.τ).loc Cert.DenseUpReferenceIdeal.main_arg1)
          ∧ r.2.mem ((c.tc : Thread Cert.DenseUpReferenceIdeal.nD Cert.DenseUpReferenceIdeal.τ).loc Cert.DenseUpReferenceIdeal.main_arg2) = m' ((c.tc : Thread Cert.DenseUpReferenceIdeal.nD Cert.DenseUpReferenceIdeal.τ).loc Cert.DenseUpReferenceIdeal.main_arg2))

def preserves_Values_ValuesIdeal : Prop :=
  True

def algebraic_ValuesIdeal_ValuesReferenceIdeal [hValuesIdeal : Cert.ValuesIdeal.Facts] [hValuesReferenceIdeal : Cert.ValuesReferenceIdeal.Facts] : Prop :=
  ∀ (m : (ℓ : Loc Cert.ValuesIdeal.nD Cert.ValuesIdeal.τ Cert.ValuesIdeal.sig) → Buf (Elt Ideal) ℓ) (g : Dev Cert.ValuesIdeal.nD → PrngReg)
    (m' : (ℓ : Loc Cert.ValuesReferenceIdeal.nD Cert.ValuesReferenceIdeal.τ Cert.ValuesReferenceIdeal.sig) → Buf (Elt Ideal) ℓ) (g' : Dev Cert.ValuesReferenceIdeal.nD → PrngReg), Pre_ValuesIdeal m →
    (∀ c : Dev Cert.ValuesIdeal.nD,
      m' ((c.tc : Thread Cert.ValuesReferenceIdeal.nD Cert.ValuesReferenceIdeal.τ).loc Cert.ValuesReferenceIdeal.main_arg0) = m ((c.tc : Thread Cert.ValuesIdeal.nD Cert.ValuesIdeal.τ).loc Cert.ValuesIdeal.main_arg0)
      ∧ m' ((c.tc : Thread Cert.ValuesReferenceIdeal.nD Cert.ValuesReferenceIdeal.τ).loc Cert.ValuesReferenceIdeal.main_arg1) = m ((c.tc : Thread Cert.ValuesIdeal.nD Cert.ValuesIdeal.τ).loc Cert.ValuesIdeal.main_arg1)
      ∧ m' ((c.tc : Thread Cert.ValuesReferenceIdeal.nD Cert.ValuesReferenceIdeal.τ).loc Cert.ValuesReferenceIdeal.main_arg2) = m ((c.tc : Thread Cert.ValuesIdeal.nD Cert.ValuesIdeal.τ).loc Cert.ValuesIdeal.main_arg2)) →
    ∃ (v0 : (c : Dev Cert.ValuesIdeal.nD) → Buf (Elt Ideal) ((c.tc : Thread Cert.ValuesIdeal.nD Cert.ValuesIdeal.τ).loc Cert.ValuesIdeal.main_v5)),
      θ_run (Cert.ValuesIdeal.defs (F := Ideal)) (onTc (τ := Cert.ValuesIdeal.τ) (Cert.ValuesIdeal.main (F := Ideal))) ⟨m, fun _ => 0, g⟩ (fun r => ∀ c : Dev Cert.ValuesIdeal.nD,
          r.2.mem ((c.tc : Thread Cert.ValuesIdeal.nD Cert.ValuesIdeal.τ).loc Cert.ValuesIdeal.main_v5) = v0 c
          ∧ r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
          ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1)
          ∧ r.2.mem ((c.tc : Thread Cert.ValuesIdeal.nD Cert.ValuesIdeal.τ).loc Cert.ValuesIdeal.main_arg2) = m ((c.tc : Thread Cert.ValuesIdeal.nD Cert.ValuesIdeal.τ).loc Cert.ValuesIdeal.main_arg2))
      ∧ θ_run (Cert.ValuesReferenceIdeal.defs (F := Ideal)) (onTc (τ := Cert.ValuesReferenceIdeal.τ) (Cert.ValuesReferenceIdeal.main (F := Ideal))) ⟨m', fun _ => 0, g'⟩ (fun r => ∀ c : Dev Cert.ValuesReferenceIdeal.nD,
          r.2.mem ((c.tc : Thread Cert.ValuesReferenceIdeal.nD Cert.ValuesReferenceIdeal.τ).loc Cert.ValuesReferenceIdeal.main_v5) = v0 c
          ∧ r.2.mem ((c.tc : Thread Cert.ValuesReferenceIdeal.nD Cert.ValuesReferenceIdeal.τ).loc Cert.ValuesReferenceIdeal.main_arg0) = m' ((c.tc : Thread Cert.ValuesReferenceIdeal.nD Cert.ValuesReferenceIdeal.τ).loc Cert.ValuesReferenceIdeal.main_arg0)
          ∧ r.2.mem ((c.tc : Thread Cert.ValuesReferenceIdeal.nD Cert.ValuesReferenceIdeal.τ).loc Cert.ValuesReferenceIdeal.main_arg1) = m' ((c.tc : Thread Cert.ValuesReferenceIdeal.nD Cert.ValuesReferenceIdeal.τ).loc Cert.ValuesReferenceIdeal.main_arg1)
          ∧ r.2.mem ((c.tc : Thread Cert.ValuesReferenceIdeal.nD Cert.ValuesReferenceIdeal.τ).loc Cert.ValuesReferenceIdeal.main_arg2) = m' ((c.tc : Thread Cert.ValuesReferenceIdeal.nD Cert.ValuesReferenceIdeal.τ).loc Cert.ValuesReferenceIdeal.main_arg2))

def preserves_Keys_KeysIdeal : Prop :=
  True

def algebraic_KeysIdeal_KeysReferenceIdeal [hKeysIdeal : Cert.KeysIdeal.Facts] [hKeysReferenceIdeal : Cert.KeysReferenceIdeal.Facts] : Prop :=
  ∀ (m : (ℓ : Loc Cert.KeysIdeal.nD Cert.KeysIdeal.τ Cert.KeysIdeal.sig) → Buf (Elt Ideal) ℓ) (g : Dev Cert.KeysIdeal.nD → PrngReg)
    (m' : (ℓ : Loc Cert.KeysReferenceIdeal.nD Cert.KeysReferenceIdeal.τ Cert.KeysReferenceIdeal.sig) → Buf (Elt Ideal) ℓ) (g' : Dev Cert.KeysReferenceIdeal.nD → PrngReg), Pre_KeysIdeal m →
    (∀ c : Dev Cert.KeysIdeal.nD,
      m' ((c.tc : Thread Cert.KeysReferenceIdeal.nD Cert.KeysReferenceIdeal.τ).loc Cert.KeysReferenceIdeal.main_arg0) = m ((c.tc : Thread Cert.KeysIdeal.nD Cert.KeysIdeal.τ).loc Cert.KeysIdeal.main_arg0)
      ∧ m' ((c.tc : Thread Cert.KeysReferenceIdeal.nD Cert.KeysReferenceIdeal.τ).loc Cert.KeysReferenceIdeal.main_arg1) = m ((c.tc : Thread Cert.KeysIdeal.nD Cert.KeysIdeal.τ).loc Cert.KeysIdeal.main_arg1)
      ∧ m' ((c.tc : Thread Cert.KeysReferenceIdeal.nD Cert.KeysReferenceIdeal.τ).loc Cert.KeysReferenceIdeal.main_arg2) = m ((c.tc : Thread Cert.KeysIdeal.nD Cert.KeysIdeal.τ).loc Cert.KeysIdeal.main_arg2)) →
    ∃ (v0 : (c : Dev Cert.KeysIdeal.nD) → Buf (Elt Ideal) ((c.tc : Thread Cert.KeysIdeal.nD Cert.KeysIdeal.τ).loc Cert.KeysIdeal.main_v43)),
      θ_run (Cert.KeysIdeal.defs (F := Ideal)) (onTc (τ := Cert.KeysIdeal.τ) (Cert.KeysIdeal.main (F := Ideal))) ⟨m, fun _ => 0, g⟩ (fun r => ∀ c : Dev Cert.KeysIdeal.nD,
          r.2.mem ((c.tc : Thread Cert.KeysIdeal.nD Cert.KeysIdeal.τ).loc Cert.KeysIdeal.main_v43) = v0 c
          ∧ r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
          ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1)
          ∧ r.2.mem ((c.tc : Thread Cert.KeysIdeal.nD Cert.KeysIdeal.τ).loc Cert.KeysIdeal.main_arg2) = m ((c.tc : Thread Cert.KeysIdeal.nD Cert.KeysIdeal.τ).loc Cert.KeysIdeal.main_arg2))
      ∧ θ_run (Cert.KeysReferenceIdeal.defs (F := Ideal)) (onTc (τ := Cert.KeysReferenceIdeal.τ) (Cert.KeysReferenceIdeal.main (F := Ideal))) ⟨m', fun _ => 0, g'⟩ (fun r => ∀ c : Dev Cert.KeysReferenceIdeal.nD,
          r.2.mem ((c.tc : Thread Cert.KeysReferenceIdeal.nD Cert.KeysReferenceIdeal.τ).loc Cert.KeysReferenceIdeal.main_v81) = v0 c
          ∧ r.2.mem ((c.tc : Thread Cert.KeysReferenceIdeal.nD Cert.KeysReferenceIdeal.τ).loc Cert.KeysReferenceIdeal.main_arg0) = m' ((c.tc : Thread Cert.KeysReferenceIdeal.nD Cert.KeysReferenceIdeal.τ).loc Cert.KeysReferenceIdeal.main_arg0)
          ∧ r.2.mem ((c.tc : Thread Cert.KeysReferenceIdeal.nD Cert.KeysReferenceIdeal.τ).loc Cert.KeysReferenceIdeal.main_arg1) = m' ((c.tc : Thread Cert.KeysReferenceIdeal.nD Cert.KeysReferenceIdeal.τ).loc Cert.KeysReferenceIdeal.main_arg1)
          ∧ r.2.mem ((c.tc : Thread Cert.KeysReferenceIdeal.nD Cert.KeysReferenceIdeal.τ).loc Cert.KeysReferenceIdeal.main_arg2) = m' ((c.tc : Thread Cert.KeysReferenceIdeal.nD Cert.KeysReferenceIdeal.τ).loc Cert.KeysReferenceIdeal.main_arg2))

def preserves_DenseDown_DenseDownIdeal : Prop :=
  True

def algebraic_DenseDownIdeal_DenseDownReferenceIdeal [hDenseDownIdeal : Cert.DenseDownIdeal.Facts] [hDenseDownReferenceIdeal : Cert.DenseDownReferenceIdeal.Facts] : Prop :=
  ∀ (m : (ℓ : Loc Cert.DenseDownIdeal.nD Cert.DenseDownIdeal.τ Cert.DenseDownIdeal.sig) → Buf (Elt Ideal) ℓ) (g : Dev Cert.DenseDownIdeal.nD → PrngReg)
    (m' : (ℓ : Loc Cert.DenseDownReferenceIdeal.nD Cert.DenseDownReferenceIdeal.τ Cert.DenseDownReferenceIdeal.sig) → Buf (Elt Ideal) ℓ) (g' : Dev Cert.DenseDownReferenceIdeal.nD → PrngReg), Pre_DenseDownIdeal m →
    (∀ c : Dev Cert.DenseDownIdeal.nD,
      m' ((c.tc : Thread Cert.DenseDownReferenceIdeal.nD Cert.DenseDownReferenceIdeal.τ).loc Cert.DenseDownReferenceIdeal.main_arg0) = m ((c.tc : Thread Cert.DenseDownIdeal.nD Cert.DenseDownIdeal.τ).loc Cert.DenseDownIdeal.main_arg0)
      ∧ m' ((c.tc : Thread Cert.DenseDownReferenceIdeal.nD Cert.DenseDownReferenceIdeal.τ).loc Cert.DenseDownReferenceIdeal.main_arg1) = m ((c.tc : Thread Cert.DenseDownIdeal.nD Cert.DenseDownIdeal.τ).loc Cert.DenseDownIdeal.main_arg1)
      ∧ m' ((c.tc : Thread Cert.DenseDownReferenceIdeal.nD Cert.DenseDownReferenceIdeal.τ).loc Cert.DenseDownReferenceIdeal.main_arg2) = m ((c.tc : Thread Cert.DenseDownIdeal.nD Cert.DenseDownIdeal.τ).loc Cert.DenseDownIdeal.main_arg2)
      ∧ m' ((c.tc : Thread Cert.DenseDownReferenceIdeal.nD Cert.DenseDownReferenceIdeal.τ).loc Cert.DenseDownReferenceIdeal.main_arg3) = m ((c.tc : Thread Cert.DenseDownIdeal.nD Cert.DenseDownIdeal.τ).loc Cert.DenseDownIdeal.main_arg3)
      ∧ m' ((c.tc : Thread Cert.DenseDownReferenceIdeal.nD Cert.DenseDownReferenceIdeal.τ).loc Cert.DenseDownReferenceIdeal.main_arg4) = m ((c.tc : Thread Cert.DenseDownIdeal.nD Cert.DenseDownIdeal.τ).loc Cert.DenseDownIdeal.main_arg4)) →
    ∃ (v0 : (c : Dev Cert.DenseDownIdeal.nD) → Buf (Elt Ideal) ((c.tc : Thread Cert.DenseDownIdeal.nD Cert.DenseDownIdeal.τ).loc Cert.DenseDownIdeal.main_v2_0)) (v1 : (c : Dev Cert.DenseDownIdeal.nD) → Buf (Elt Ideal) ((c.tc : Thread Cert.DenseDownIdeal.nD Cert.DenseDownIdeal.τ).loc Cert.DenseDownIdeal.main_v2_1)),
      θ_run (Cert.DenseDownIdeal.defs (F := Ideal)) (onTc (τ := Cert.DenseDownIdeal.τ) (Cert.DenseDownIdeal.main (F := Ideal))) ⟨m, fun _ => 0, g⟩ (fun r => ∀ c : Dev Cert.DenseDownIdeal.nD,
          r.2.mem ((c.tc : Thread Cert.DenseDownIdeal.nD Cert.DenseDownIdeal.τ).loc Cert.DenseDownIdeal.main_v2_0) = v0 c
          ∧ r.2.mem ((c.tc : Thread Cert.DenseDownIdeal.nD Cert.DenseDownIdeal.τ).loc Cert.DenseDownIdeal.main_v2_1) = v1 c
          ∧ r.2.mem ((c.tc : Thread Cert.DenseDownIdeal.nD Cert.DenseDownIdeal.τ).loc Cert.DenseDownIdeal.main_arg0) = m ((c.tc : Thread Cert.DenseDownIdeal.nD Cert.DenseDownIdeal.τ).loc Cert.DenseDownIdeal.main_arg0)
          ∧ r.2.mem ((c.tc : Thread Cert.DenseDownIdeal.nD Cert.DenseDownIdeal.τ).loc Cert.DenseDownIdeal.main_arg1) = m ((c.tc : Thread Cert.DenseDownIdeal.nD Cert.DenseDownIdeal.τ).loc Cert.DenseDownIdeal.main_arg1)
          ∧ r.2.mem ((c.tc : Thread Cert.DenseDownIdeal.nD Cert.DenseDownIdeal.τ).loc Cert.DenseDownIdeal.main_arg2) = m ((c.tc : Thread Cert.DenseDownIdeal.nD Cert.DenseDownIdeal.τ).loc Cert.DenseDownIdeal.main_arg2)
          ∧ r.2.mem ((c.tc : Thread Cert.DenseDownIdeal.nD Cert.DenseDownIdeal.τ).loc Cert.DenseDownIdeal.main_arg3) = m ((c.tc : Thread Cert.DenseDownIdeal.nD Cert.DenseDownIdeal.τ).loc Cert.DenseDownIdeal.main_arg3)
          ∧ r.2.mem ((c.tc : Thread Cert.DenseDownIdeal.nD Cert.DenseDownIdeal.τ).loc Cert.DenseDownIdeal.main_arg4) = m ((c.tc : Thread Cert.DenseDownIdeal.nD Cert.DenseDownIdeal.τ).loc Cert.DenseDownIdeal.main_arg4))
      ∧ θ_run (Cert.DenseDownReferenceIdeal.defs (F := Ideal)) (onTc (τ := Cert.DenseDownReferenceIdeal.τ) (Cert.DenseDownReferenceIdeal.main (F := Ideal))) ⟨m', fun _ => 0, g'⟩ (fun r => ∀ c : Dev Cert.DenseDownReferenceIdeal.nD,
          r.2.mem ((c.tc : Thread Cert.DenseDownReferenceIdeal.nD Cert.DenseDownReferenceIdeal.τ).loc Cert.DenseDownReferenceIdeal.main_v28) = v0 c
          ∧ r.2.mem ((c.tc : Thread Cert.DenseDownReferenceIdeal.nD Cert.DenseDownReferenceIdeal.τ).loc Cert.DenseDownReferenceIdeal.main_v29) = v1 c
          ∧ r.2.mem ((c.tc : Thread Cert.DenseDownReferenceIdeal.nD Cert.DenseDownReferenceIdeal.τ).loc Cert.DenseDownReferenceIdeal.main_arg0) = m' ((c.tc : Thread Cert.DenseDownReferenceIdeal.nD Cert.DenseDownReferenceIdeal.τ).loc Cert.DenseDownReferenceIdeal.main_arg0)
          ∧ r.2.mem ((c.tc : Thread Cert.DenseDownReferenceIdeal.nD Cert.DenseDownReferenceIdeal.τ).loc Cert.DenseDownReferenceIdeal.main_arg1) = m' ((c.tc : Thread Cert.DenseDownReferenceIdeal.nD Cert.DenseDownReferenceIdeal.τ).loc Cert.DenseDownReferenceIdeal.main_arg1)
          ∧ r.2.mem ((c.tc : Thread Cert.DenseDownReferenceIdeal.nD Cert.DenseDownReferenceIdeal.τ).loc Cert.DenseDownReferenceIdeal.main_arg2) = m' ((c.tc : Thread Cert.DenseDownReferenceIdeal.nD Cert.DenseDownReferenceIdeal.τ).loc Cert.DenseDownReferenceIdeal.main_arg2)
          ∧ r.2.mem ((c.tc : Thread Cert.DenseDownReferenceIdeal.nD Cert.DenseDownReferenceIdeal.τ).loc Cert.DenseDownReferenceIdeal.main_arg3) = m' ((c.tc : Thread Cert.DenseDownReferenceIdeal.nD Cert.DenseDownReferenceIdeal.τ).loc Cert.DenseDownReferenceIdeal.main_arg3)
          ∧ r.2.mem ((c.tc : Thread Cert.DenseDownReferenceIdeal.nD Cert.DenseDownReferenceIdeal.τ).loc Cert.DenseDownReferenceIdeal.main_arg4) = m' ((c.tc : Thread Cert.DenseDownReferenceIdeal.nD Cert.DenseDownReferenceIdeal.τ).loc Cert.DenseDownReferenceIdeal.main_arg4))

def preserves_AttentionOut_AttentionOutIdeal : Prop :=
  True

def algebraic_AttentionOutIdeal_AttentionOutReferenceIdeal [hAttentionOutIdeal : Cert.AttentionOutIdeal.Facts] [hAttentionOutReferenceIdeal : Cert.AttentionOutReferenceIdeal.Facts] : Prop :=
  ∀ (m : (ℓ : Loc Cert.AttentionOutIdeal.nD Cert.AttentionOutIdeal.τ Cert.AttentionOutIdeal.sig) → Buf (Elt Ideal) ℓ) (g : Dev Cert.AttentionOutIdeal.nD → PrngReg)
    (m' : (ℓ : Loc Cert.AttentionOutReferenceIdeal.nD Cert.AttentionOutReferenceIdeal.τ Cert.AttentionOutReferenceIdeal.sig) → Buf (Elt Ideal) ℓ) (g' : Dev Cert.AttentionOutReferenceIdeal.nD → PrngReg), Pre_AttentionOutIdeal m →
    (∀ c : Dev Cert.AttentionOutIdeal.nD,
      m' ((c.tc : Thread Cert.AttentionOutReferenceIdeal.nD Cert.AttentionOutReferenceIdeal.τ).loc Cert.AttentionOutReferenceIdeal.main_arg0) = m ((c.tc : Thread Cert.AttentionOutIdeal.nD Cert.AttentionOutIdeal.τ).loc Cert.AttentionOutIdeal.main_arg0)
      ∧ m' ((c.tc : Thread Cert.AttentionOutReferenceIdeal.nD Cert.AttentionOutReferenceIdeal.τ).loc Cert.AttentionOutReferenceIdeal.main_arg1) = m ((c.tc : Thread Cert.AttentionOutIdeal.nD Cert.AttentionOutIdeal.τ).loc Cert.AttentionOutIdeal.main_arg1)
      ∧ m' ((c.tc : Thread Cert.AttentionOutReferenceIdeal.nD Cert.AttentionOutReferenceIdeal.τ).loc Cert.AttentionOutReferenceIdeal.main_arg2) = m ((c.tc : Thread Cert.AttentionOutIdeal.nD Cert.AttentionOutIdeal.τ).loc Cert.AttentionOutIdeal.main_arg2)
      ∧ m' ((c.tc : Thread Cert.AttentionOutReferenceIdeal.nD Cert.AttentionOutReferenceIdeal.τ).loc Cert.AttentionOutReferenceIdeal.main_arg3) = m ((c.tc : Thread Cert.AttentionOutIdeal.nD Cert.AttentionOutIdeal.τ).loc Cert.AttentionOutIdeal.main_arg3)
      ∧ m' ((c.tc : Thread Cert.AttentionOutReferenceIdeal.nD Cert.AttentionOutReferenceIdeal.τ).loc Cert.AttentionOutReferenceIdeal.main_arg4) = m ((c.tc : Thread Cert.AttentionOutIdeal.nD Cert.AttentionOutIdeal.τ).loc Cert.AttentionOutIdeal.main_arg4)) →
    ∃ (v0 : (c : Dev Cert.AttentionOutIdeal.nD) → Buf (Elt Ideal) ((c.tc : Thread Cert.AttentionOutIdeal.nD Cert.AttentionOutIdeal.τ).loc Cert.AttentionOutIdeal.main_v2_0)) (v1 : (c : Dev Cert.AttentionOutIdeal.nD) → Buf (Elt Ideal) ((c.tc : Thread Cert.AttentionOutIdeal.nD Cert.AttentionOutIdeal.τ).loc Cert.AttentionOutIdeal.main_v2_1)),
      θ_run (Cert.AttentionOutIdeal.defs (F := Ideal)) (onTc (τ := Cert.AttentionOutIdeal.τ) (Cert.AttentionOutIdeal.main (F := Ideal))) ⟨m, fun _ => 0, g⟩ (fun r => ∀ c : Dev Cert.AttentionOutIdeal.nD,
          r.2.mem ((c.tc : Thread Cert.AttentionOutIdeal.nD Cert.AttentionOutIdeal.τ).loc Cert.AttentionOutIdeal.main_v2_0) = v0 c
          ∧ r.2.mem ((c.tc : Thread Cert.AttentionOutIdeal.nD Cert.AttentionOutIdeal.τ).loc Cert.AttentionOutIdeal.main_v2_1) = v1 c
          ∧ r.2.mem ((c.tc : Thread Cert.AttentionOutIdeal.nD Cert.AttentionOutIdeal.τ).loc Cert.AttentionOutIdeal.main_arg0) = m ((c.tc : Thread Cert.AttentionOutIdeal.nD Cert.AttentionOutIdeal.τ).loc Cert.AttentionOutIdeal.main_arg0)
          ∧ r.2.mem ((c.tc : Thread Cert.AttentionOutIdeal.nD Cert.AttentionOutIdeal.τ).loc Cert.AttentionOutIdeal.main_arg1) = m ((c.tc : Thread Cert.AttentionOutIdeal.nD Cert.AttentionOutIdeal.τ).loc Cert.AttentionOutIdeal.main_arg1)
          ∧ r.2.mem ((c.tc : Thread Cert.AttentionOutIdeal.nD Cert.AttentionOutIdeal.τ).loc Cert.AttentionOutIdeal.main_arg2) = m ((c.tc : Thread Cert.AttentionOutIdeal.nD Cert.AttentionOutIdeal.τ).loc Cert.AttentionOutIdeal.main_arg2)
          ∧ r.2.mem ((c.tc : Thread Cert.AttentionOutIdeal.nD Cert.AttentionOutIdeal.τ).loc Cert.AttentionOutIdeal.main_arg3) = m ((c.tc : Thread Cert.AttentionOutIdeal.nD Cert.AttentionOutIdeal.τ).loc Cert.AttentionOutIdeal.main_arg3)
          ∧ r.2.mem ((c.tc : Thread Cert.AttentionOutIdeal.nD Cert.AttentionOutIdeal.τ).loc Cert.AttentionOutIdeal.main_arg4) = m ((c.tc : Thread Cert.AttentionOutIdeal.nD Cert.AttentionOutIdeal.τ).loc Cert.AttentionOutIdeal.main_arg4))
      ∧ θ_run (Cert.AttentionOutReferenceIdeal.defs (F := Ideal)) (onTc (τ := Cert.AttentionOutReferenceIdeal.τ) (Cert.AttentionOutReferenceIdeal.main (F := Ideal))) ⟨m', fun _ => 0, g'⟩ (fun r => ∀ c : Dev Cert.AttentionOutReferenceIdeal.nD,
          r.2.mem ((c.tc : Thread Cert.AttentionOutReferenceIdeal.nD Cert.AttentionOutReferenceIdeal.τ).loc Cert.AttentionOutReferenceIdeal.main_v28) = v0 c
          ∧ r.2.mem ((c.tc : Thread Cert.AttentionOutReferenceIdeal.nD Cert.AttentionOutReferenceIdeal.τ).loc Cert.AttentionOutReferenceIdeal.main_v29) = v1 c
          ∧ r.2.mem ((c.tc : Thread Cert.AttentionOutReferenceIdeal.nD Cert.AttentionOutReferenceIdeal.τ).loc Cert.AttentionOutReferenceIdeal.main_arg0) = m' ((c.tc : Thread Cert.AttentionOutReferenceIdeal.nD Cert.AttentionOutReferenceIdeal.τ).loc Cert.AttentionOutReferenceIdeal.main_arg0)
          ∧ r.2.mem ((c.tc : Thread Cert.AttentionOutReferenceIdeal.nD Cert.AttentionOutReferenceIdeal.τ).loc Cert.AttentionOutReferenceIdeal.main_arg1) = m' ((c.tc : Thread Cert.AttentionOutReferenceIdeal.nD Cert.AttentionOutReferenceIdeal.τ).loc Cert.AttentionOutReferenceIdeal.main_arg1)
          ∧ r.2.mem ((c.tc : Thread Cert.AttentionOutReferenceIdeal.nD Cert.AttentionOutReferenceIdeal.τ).loc Cert.AttentionOutReferenceIdeal.main_arg2) = m' ((c.tc : Thread Cert.AttentionOutReferenceIdeal.nD Cert.AttentionOutReferenceIdeal.τ).loc Cert.AttentionOutReferenceIdeal.main_arg2)
          ∧ r.2.mem ((c.tc : Thread Cert.AttentionOutReferenceIdeal.nD Cert.AttentionOutReferenceIdeal.τ).loc Cert.AttentionOutReferenceIdeal.main_arg3) = m' ((c.tc : Thread Cert.AttentionOutReferenceIdeal.nD Cert.AttentionOutReferenceIdeal.τ).loc Cert.AttentionOutReferenceIdeal.main_arg3)
          ∧ r.2.mem ((c.tc : Thread Cert.AttentionOutReferenceIdeal.nD Cert.AttentionOutReferenceIdeal.τ).loc Cert.AttentionOutReferenceIdeal.main_arg4) = m' ((c.tc : Thread Cert.AttentionOutReferenceIdeal.nD Cert.AttentionOutReferenceIdeal.τ).loc Cert.AttentionOutReferenceIdeal.main_arg4))

def preserves_PlainQueries_PlainQueriesIdeal : Prop :=
  True

def algebraic_PlainQueriesIdeal_PlainQueriesReferenceIdeal [hPlainQueriesIdeal : Cert.PlainQueriesIdeal.Facts] [hPlainQueriesReferenceIdeal : Cert.PlainQueriesReferenceIdeal.Facts] : Prop :=
  ∀ (m : (ℓ : Loc Cert.PlainQueriesIdeal.nD Cert.PlainQueriesIdeal.τ Cert.PlainQueriesIdeal.sig) → Buf (Elt Ideal) ℓ) (g : Dev Cert.PlainQueriesIdeal.nD → PrngReg)
    (m' : (ℓ : Loc Cert.PlainQueriesReferenceIdeal.nD Cert.PlainQueriesReferenceIdeal.τ Cert.PlainQueriesReferenceIdeal.sig) → Buf (Elt Ideal) ℓ) (g' : Dev Cert.PlainQueriesReferenceIdeal.nD → PrngReg), Pre_PlainQueriesIdeal m →
    (∀ c : Dev Cert.PlainQueriesIdeal.nD,
      m' ((c.tc : Thread Cert.PlainQueriesReferenceIdeal.nD Cert.PlainQueriesReferenceIdeal.τ).loc Cert.PlainQueriesReferenceIdeal.main_arg0) = m ((c.tc : Thread Cert.PlainQueriesIdeal.nD Cert.PlainQueriesIdeal.τ).loc Cert.PlainQueriesIdeal.main_arg0)
      ∧ m' ((c.tc : Thread Cert.PlainQueriesReferenceIdeal.nD Cert.PlainQueriesReferenceIdeal.τ).loc Cert.PlainQueriesReferenceIdeal.main_arg1) = m ((c.tc : Thread Cert.PlainQueriesIdeal.nD Cert.PlainQueriesIdeal.τ).loc Cert.PlainQueriesIdeal.main_arg1)
      ∧ m' ((c.tc : Thread Cert.PlainQueriesReferenceIdeal.nD Cert.PlainQueriesReferenceIdeal.τ).loc Cert.PlainQueriesReferenceIdeal.main_arg2) = m ((c.tc : Thread Cert.PlainQueriesIdeal.nD Cert.PlainQueriesIdeal.τ).loc Cert.PlainQueriesIdeal.main_arg2)) →
    ∃ (v0 : (c : Dev Cert.PlainQueriesIdeal.nD) → Buf (Elt Ideal) ((c.tc : Thread Cert.PlainQueriesIdeal.nD Cert.PlainQueriesIdeal.τ).loc Cert.PlainQueriesIdeal.main_v5)),
      θ_run (Cert.PlainQueriesIdeal.defs (F := Ideal)) (onTc (τ := Cert.PlainQueriesIdeal.τ) (Cert.PlainQueriesIdeal.main (F := Ideal))) ⟨m, fun _ => 0, g⟩ (fun r => ∀ c : Dev Cert.PlainQueriesIdeal.nD,
          r.2.mem ((c.tc : Thread Cert.PlainQueriesIdeal.nD Cert.PlainQueriesIdeal.τ).loc Cert.PlainQueriesIdeal.main_v5) = v0 c
          ∧ r.2.mem ((c.tc : Thread Cert.PlainQueriesIdeal.nD Cert.PlainQueriesIdeal.τ).loc Cert.PlainQueriesIdeal.main_arg0) = m ((c.tc : Thread Cert.PlainQueriesIdeal.nD Cert.PlainQueriesIdeal.τ).loc Cert.PlainQueriesIdeal.main_arg0)
          ∧ r.2.mem ((c.tc : Thread Cert.PlainQueriesIdeal.nD Cert.PlainQueriesIdeal.τ).loc Cert.PlainQueriesIdeal.main_arg1) = m ((c.tc : Thread Cert.PlainQueriesIdeal.nD Cert.PlainQueriesIdeal.τ).loc Cert.PlainQueriesIdeal.main_arg1)
          ∧ r.2.mem ((c.tc : Thread Cert.PlainQueriesIdeal.nD Cert.PlainQueriesIdeal.τ).loc Cert.PlainQueriesIdeal.main_arg2) = m ((c.tc : Thread Cert.PlainQueriesIdeal.nD Cert.PlainQueriesIdeal.τ).loc Cert.PlainQueriesIdeal.main_arg2))
      ∧ θ_run (Cert.PlainQueriesReferenceIdeal.defs (F := Ideal)) (onTc (τ := Cert.PlainQueriesReferenceIdeal.τ) (Cert.PlainQueriesReferenceIdeal.main (F := Ideal))) ⟨m', fun _ => 0, g'⟩ (fun r => ∀ c : Dev Cert.PlainQueriesReferenceIdeal.nD,
          r.2.mem ((c.tc : Thread Cert.PlainQueriesReferenceIdeal.nD Cert.PlainQueriesReferenceIdeal.τ).loc Cert.PlainQueriesReferenceIdeal.main_v5) = v0 c
          ∧ r.2.mem ((c.tc : Thread Cert.PlainQueriesReferenceIdeal.nD Cert.PlainQueriesReferenceIdeal.τ).loc Cert.PlainQueriesReferenceIdeal.main_arg0) = m' ((c.tc : Thread Cert.PlainQueriesReferenceIdeal.nD Cert.PlainQueriesReferenceIdeal.τ).loc Cert.PlainQueriesReferenceIdeal.main_arg0)
          ∧ r.2.mem ((c.tc : Thread Cert.PlainQueriesReferenceIdeal.nD Cert.PlainQueriesReferenceIdeal.τ).loc Cert.PlainQueriesReferenceIdeal.main_arg1) = m' ((c.tc : Thread Cert.PlainQueriesReferenceIdeal.nD Cert.PlainQueriesReferenceIdeal.τ).loc Cert.PlainQueriesReferenceIdeal.main_arg1)
          ∧ r.2.mem ((c.tc : Thread Cert.PlainQueriesReferenceIdeal.nD Cert.PlainQueriesReferenceIdeal.τ).loc Cert.PlainQueriesReferenceIdeal.main_arg2) = m' ((c.tc : Thread Cert.PlainQueriesReferenceIdeal.nD Cert.PlainQueriesReferenceIdeal.τ).loc Cert.PlainQueriesReferenceIdeal.main_arg2))

def preserves_Queries_QueriesIdeal : Prop :=
  True

def algebraic_QueriesIdeal_QueriesReferenceIdeal [hQueriesIdeal : Cert.QueriesIdeal.Facts] [hQueriesReferenceIdeal : Cert.QueriesReferenceIdeal.Facts] : Prop :=
  ∀ (m : (ℓ : Loc Cert.QueriesIdeal.nD Cert.QueriesIdeal.τ Cert.QueriesIdeal.sig) → Buf (Elt Ideal) ℓ) (g : Dev Cert.QueriesIdeal.nD → PrngReg)
    (m' : (ℓ : Loc Cert.QueriesReferenceIdeal.nD Cert.QueriesReferenceIdeal.τ Cert.QueriesReferenceIdeal.sig) → Buf (Elt Ideal) ℓ) (g' : Dev Cert.QueriesReferenceIdeal.nD → PrngReg), Pre_QueriesIdeal m →
    (∀ c : Dev Cert.QueriesIdeal.nD,
      m' ((c.tc : Thread Cert.QueriesReferenceIdeal.nD Cert.QueriesReferenceIdeal.τ).loc Cert.QueriesReferenceIdeal.main_arg0) = m ((c.tc : Thread Cert.QueriesIdeal.nD Cert.QueriesIdeal.τ).loc Cert.QueriesIdeal.main_arg0)
      ∧ m' ((c.tc : Thread Cert.QueriesReferenceIdeal.nD Cert.QueriesReferenceIdeal.τ).loc Cert.QueriesReferenceIdeal.main_arg1) = m ((c.tc : Thread Cert.QueriesIdeal.nD Cert.QueriesIdeal.τ).loc Cert.QueriesIdeal.main_arg1)
      ∧ m' ((c.tc : Thread Cert.QueriesReferenceIdeal.nD Cert.QueriesReferenceIdeal.τ).loc Cert.QueriesReferenceIdeal.main_arg2) = m ((c.tc : Thread Cert.QueriesIdeal.nD Cert.QueriesIdeal.τ).loc Cert.QueriesIdeal.main_arg2)) →
    ∃ (v0 : (c : Dev Cert.QueriesIdeal.nD) → Buf (Elt Ideal) ((c.tc : Thread Cert.QueriesIdeal.nD Cert.QueriesIdeal.τ).loc Cert.QueriesIdeal.main_v43)),
      θ_run (Cert.QueriesIdeal.defs (F := Ideal)) (onTc (τ := Cert.QueriesIdeal.τ) (Cert.QueriesIdeal.main (F := Ideal))) ⟨m, fun _ => 0, g⟩ (fun r => ∀ c : Dev Cert.QueriesIdeal.nD,
          r.2.mem ((c.tc : Thread Cert.QueriesIdeal.nD Cert.QueriesIdeal.τ).loc Cert.QueriesIdeal.main_v43) = v0 c
          ∧ r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
          ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1)
          ∧ r.2.mem ((c.tc : Thread Cert.QueriesIdeal.nD Cert.QueriesIdeal.τ).loc Cert.QueriesIdeal.main_arg2) = m ((c.tc : Thread Cert.QueriesIdeal.nD Cert.QueriesIdeal.τ).loc Cert.QueriesIdeal.main_arg2))
      ∧ θ_run (Cert.QueriesReferenceIdeal.defs (F := Ideal)) (onTc (τ := Cert.QueriesReferenceIdeal.τ) (Cert.QueriesReferenceIdeal.main (F := Ideal))) ⟨m', fun _ => 0, g'⟩ (fun r => ∀ c : Dev Cert.QueriesReferenceIdeal.nD,
          r.2.mem ((c.tc : Thread Cert.QueriesReferenceIdeal.nD Cert.QueriesReferenceIdeal.τ).loc Cert.QueriesReferenceIdeal.main_v81) = v0 c
          ∧ r.2.mem ((c.tc : Thread Cert.QueriesReferenceIdeal.nD Cert.QueriesReferenceIdeal.τ).loc Cert.QueriesReferenceIdeal.main_arg0) = m' ((c.tc : Thread Cert.QueriesReferenceIdeal.nD Cert.QueriesReferenceIdeal.τ).loc Cert.QueriesReferenceIdeal.main_arg0)
          ∧ r.2.mem ((c.tc : Thread Cert.QueriesReferenceIdeal.nD Cert.QueriesReferenceIdeal.τ).loc Cert.QueriesReferenceIdeal.main_arg1) = m' ((c.tc : Thread Cert.QueriesReferenceIdeal.nD Cert.QueriesReferenceIdeal.τ).loc Cert.QueriesReferenceIdeal.main_arg1)
          ∧ r.2.mem ((c.tc : Thread Cert.QueriesReferenceIdeal.nD Cert.QueriesReferenceIdeal.τ).loc Cert.QueriesReferenceIdeal.main_arg2) = m' ((c.tc : Thread Cert.QueriesReferenceIdeal.nD Cert.QueriesReferenceIdeal.τ).loc Cert.QueriesReferenceIdeal.main_arg2))

def preserves_PooledNorm_PooledNormIdeal : Prop :=
  True

def algebraic_PooledNormIdeal_PooledNormReferenceIdeal [hPooledNormIdeal : Cert.PooledNormIdeal.Facts] [hPooledNormReferenceIdeal : Cert.PooledNormReferenceIdeal.Facts] : Prop :=
  ∀ (m : (ℓ : Loc Cert.PooledNormIdeal.nD Cert.PooledNormIdeal.τ Cert.PooledNormIdeal.sig) → Buf (Elt Ideal) ℓ) (g : Dev Cert.PooledNormIdeal.nD → PrngReg)
    (m' : (ℓ : Loc Cert.PooledNormReferenceIdeal.nD Cert.PooledNormReferenceIdeal.τ Cert.PooledNormReferenceIdeal.sig) → Buf (Elt Ideal) ℓ) (g' : Dev Cert.PooledNormReferenceIdeal.nD → PrngReg), Pre_PooledNormIdeal m →
    (∀ c : Dev Cert.PooledNormIdeal.nD,
      m' ((c.tc : Thread Cert.PooledNormReferenceIdeal.nD Cert.PooledNormReferenceIdeal.τ).loc Cert.PooledNormReferenceIdeal.main_arg0) = m ((c.tc : Thread Cert.PooledNormIdeal.nD Cert.PooledNormIdeal.τ).loc Cert.PooledNormIdeal.main_arg0)
      ∧ m' ((c.tc : Thread Cert.PooledNormReferenceIdeal.nD Cert.PooledNormReferenceIdeal.τ).loc Cert.PooledNormReferenceIdeal.main_arg1) = m ((c.tc : Thread Cert.PooledNormIdeal.nD Cert.PooledNormIdeal.τ).loc Cert.PooledNormIdeal.main_arg1)
      ∧ m' ((c.tc : Thread Cert.PooledNormReferenceIdeal.nD Cert.PooledNormReferenceIdeal.τ).loc Cert.PooledNormReferenceIdeal.main_arg2) = m ((c.tc : Thread Cert.PooledNormIdeal.nD Cert.PooledNormIdeal.τ).loc Cert.PooledNormIdeal.main_arg2)
      ∧ m' ((c.tc : Thread Cert.PooledNormReferenceIdeal.nD Cert.PooledNormReferenceIdeal.τ).loc Cert.PooledNormReferenceIdeal.main_arg3) = m ((c.tc : Thread Cert.PooledNormIdeal.nD Cert.PooledNormIdeal.τ).loc Cert.PooledNormIdeal.main_arg3)) →
    ∃ (v0 : (c : Dev Cert.PooledNormIdeal.nD) → Buf (Elt Ideal) ((c.tc : Thread Cert.PooledNormIdeal.nD Cert.PooledNormIdeal.τ).loc Cert.PooledNormIdeal.main_v2_0)) (v1 : (c : Dev Cert.PooledNormIdeal.nD) → Buf (Elt Ideal) ((c.tc : Thread Cert.PooledNormIdeal.nD Cert.PooledNormIdeal.τ).loc Cert.PooledNormIdeal.main_v2_1)),
      θ_run (Cert.PooledNormIdeal.defs (F := Ideal)) (onTc (τ := Cert.PooledNormIdeal.τ) (Cert.PooledNormIdeal.main (F := Ideal))) ⟨m, fun _ => 0, g⟩ (fun r => ∀ c : Dev Cert.PooledNormIdeal.nD,
          r.2.mem ((c.tc : Thread Cert.PooledNormIdeal.nD Cert.PooledNormIdeal.τ).loc Cert.PooledNormIdeal.main_v2_0) = v0 c
          ∧ r.2.mem ((c.tc : Thread Cert.PooledNormIdeal.nD Cert.PooledNormIdeal.τ).loc Cert.PooledNormIdeal.main_v2_1) = v1 c
          ∧ r.2.mem ((c.tc : Thread Cert.PooledNormIdeal.nD Cert.PooledNormIdeal.τ).loc Cert.PooledNormIdeal.main_arg0) = m ((c.tc : Thread Cert.PooledNormIdeal.nD Cert.PooledNormIdeal.τ).loc Cert.PooledNormIdeal.main_arg0)
          ∧ r.2.mem ((c.tc : Thread Cert.PooledNormIdeal.nD Cert.PooledNormIdeal.τ).loc Cert.PooledNormIdeal.main_arg1) = m ((c.tc : Thread Cert.PooledNormIdeal.nD Cert.PooledNormIdeal.τ).loc Cert.PooledNormIdeal.main_arg1)
          ∧ r.2.mem ((c.tc : Thread Cert.PooledNormIdeal.nD Cert.PooledNormIdeal.τ).loc Cert.PooledNormIdeal.main_arg2) = m ((c.tc : Thread Cert.PooledNormIdeal.nD Cert.PooledNormIdeal.τ).loc Cert.PooledNormIdeal.main_arg2)
          ∧ r.2.mem ((c.tc : Thread Cert.PooledNormIdeal.nD Cert.PooledNormIdeal.τ).loc Cert.PooledNormIdeal.main_arg3) = m ((c.tc : Thread Cert.PooledNormIdeal.nD Cert.PooledNormIdeal.τ).loc Cert.PooledNormIdeal.main_arg3))
      ∧ θ_run (Cert.PooledNormReferenceIdeal.defs (F := Ideal)) (onTc (τ := Cert.PooledNormReferenceIdeal.τ) (Cert.PooledNormReferenceIdeal.main (F := Ideal))) ⟨m', fun _ => 0, g'⟩ (fun r => ∀ c : Dev Cert.PooledNormReferenceIdeal.nD,
          r.2.mem ((c.tc : Thread Cert.PooledNormReferenceIdeal.nD Cert.PooledNormReferenceIdeal.τ).loc Cert.PooledNormReferenceIdeal.main_v26) = v0 c
          ∧ r.2.mem ((c.tc : Thread Cert.PooledNormReferenceIdeal.nD Cert.PooledNormReferenceIdeal.τ).loc Cert.PooledNormReferenceIdeal.main_v27) = v1 c
          ∧ r.2.mem ((c.tc : Thread Cert.PooledNormReferenceIdeal.nD Cert.PooledNormReferenceIdeal.τ).loc Cert.PooledNormReferenceIdeal.main_arg0) = m' ((c.tc : Thread Cert.PooledNormReferenceIdeal.nD Cert.PooledNormReferenceIdeal.τ).loc Cert.PooledNormReferenceIdeal.main_arg0)
          ∧ r.2.mem ((c.tc : Thread Cert.PooledNormReferenceIdeal.nD Cert.PooledNormReferenceIdeal.τ).loc Cert.PooledNormReferenceIdeal.main_arg1) = m' ((c.tc : Thread Cert.PooledNormReferenceIdeal.nD Cert.PooledNormReferenceIdeal.τ).loc Cert.PooledNormReferenceIdeal.main_arg1)
          ∧ r.2.mem ((c.tc : Thread Cert.PooledNormReferenceIdeal.nD Cert.PooledNormReferenceIdeal.τ).loc Cert.PooledNormReferenceIdeal.main_arg2) = m' ((c.tc : Thread Cert.PooledNormReferenceIdeal.nD Cert.PooledNormReferenceIdeal.τ).loc Cert.PooledNormReferenceIdeal.main_arg2)
          ∧ r.2.mem ((c.tc : Thread Cert.PooledNormReferenceIdeal.nD Cert.PooledNormReferenceIdeal.τ).loc Cert.PooledNormReferenceIdeal.main_arg3) = m' ((c.tc : Thread Cert.PooledNormReferenceIdeal.nD Cert.PooledNormReferenceIdeal.τ).loc Cert.PooledNormReferenceIdeal.main_arg3))

def preserves_PooledSample_PooledSampleIdeal : Prop :=
  True

def algebraic_PooledSampleIdeal_PooledSampleReferenceIdeal [hPooledSampleIdeal : Cert.PooledSampleIdeal.Facts] [hPooledSampleReferenceIdeal : Cert.PooledSampleReferenceIdeal.Facts] : Prop :=
  ∀ (m : (ℓ : Loc Cert.PooledSampleIdeal.nD Cert.PooledSampleIdeal.τ Cert.PooledSampleIdeal.sig) → Buf (Elt Ideal) ℓ) (g : Dev Cert.PooledSampleIdeal.nD → PrngReg)
    (m' : (ℓ : Loc Cert.PooledSampleReferenceIdeal.nD Cert.PooledSampleReferenceIdeal.τ Cert.PooledSampleReferenceIdeal.sig) → Buf (Elt Ideal) ℓ) (g' : Dev Cert.PooledSampleReferenceIdeal.nD → PrngReg), Pre_PooledSampleIdeal m →
    (∀ c : Dev Cert.PooledSampleIdeal.nD,
      m' ((c.tc : Thread Cert.PooledSampleReferenceIdeal.nD Cert.PooledSampleReferenceIdeal.τ).loc Cert.PooledSampleReferenceIdeal.main_arg0) = m ((c.tc : Thread Cert.PooledSampleIdeal.nD Cert.PooledSampleIdeal.τ).loc Cert.PooledSampleIdeal.main_arg0)
      ∧ m' ((c.tc : Thread Cert.PooledSampleReferenceIdeal.nD Cert.PooledSampleReferenceIdeal.τ).loc Cert.PooledSampleReferenceIdeal.main_arg1) = m ((c.tc : Thread Cert.PooledSampleIdeal.nD Cert.PooledSampleIdeal.τ).loc Cert.PooledSampleIdeal.main_arg1)
      ∧ m' ((c.tc : Thread Cert.PooledSampleReferenceIdeal.nD Cert.PooledSampleReferenceIdeal.τ).loc Cert.PooledSampleReferenceIdeal.main_arg2) = m ((c.tc : Thread Cert.PooledSampleIdeal.nD Cert.PooledSampleIdeal.τ).loc Cert.PooledSampleIdeal.main_arg2)
      ∧ m' ((c.tc : Thread Cert.PooledSampleReferenceIdeal.nD Cert.PooledSampleReferenceIdeal.τ).loc Cert.PooledSampleReferenceIdeal.main_arg3) = m ((c.tc : Thread Cert.PooledSampleIdeal.nD Cert.PooledSampleIdeal.τ).loc Cert.PooledSampleIdeal.main_arg3)) →
    ∃ (v0 : (c : Dev Cert.PooledSampleIdeal.nD) → Buf (Elt Ideal) ((c.tc : Thread Cert.PooledSampleIdeal.nD Cert.PooledSampleIdeal.τ).loc Cert.PooledSampleIdeal.main_v6)) (v1 : (c : Dev Cert.PooledSampleIdeal.nD) → Buf (Elt Ideal) ((c.tc : Thread Cert.PooledSampleIdeal.nD Cert.PooledSampleIdeal.τ).loc Cert.PooledSampleIdeal.main_v4)),
      θ_run (Cert.PooledSampleIdeal.defs (F := Ideal)) (onTc (τ := Cert.PooledSampleIdeal.τ) (Cert.PooledSampleIdeal.main (F := Ideal))) ⟨m, fun _ => 0, g⟩ (fun r => ∀ c : Dev Cert.PooledSampleIdeal.nD,
          r.2.mem ((c.tc : Thread Cert.PooledSampleIdeal.nD Cert.PooledSampleIdeal.τ).loc Cert.PooledSampleIdeal.main_v6) = v0 c
          ∧ r.2.mem ((c.tc : Thread Cert.PooledSampleIdeal.nD Cert.PooledSampleIdeal.τ).loc Cert.PooledSampleIdeal.main_v4) = v1 c
          ∧ r.2.mem ((c.tc : Thread Cert.PooledSampleIdeal.nD Cert.PooledSampleIdeal.τ).loc Cert.PooledSampleIdeal.main_arg0) = m ((c.tc : Thread Cert.PooledSampleIdeal.nD Cert.PooledSampleIdeal.τ).loc Cert.PooledSampleIdeal.main_arg0)
          ∧ r.2.mem ((c.tc : Thread Cert.PooledSampleIdeal.nD Cert.PooledSampleIdeal.τ).loc Cert.PooledSampleIdeal.main_arg1) = m ((c.tc : Thread Cert.PooledSampleIdeal.nD Cert.PooledSampleIdeal.τ).loc Cert.PooledSampleIdeal.main_arg1)
          ∧ r.2.mem ((c.tc : Thread Cert.PooledSampleIdeal.nD Cert.PooledSampleIdeal.τ).loc Cert.PooledSampleIdeal.main_arg2) = m ((c.tc : Thread Cert.PooledSampleIdeal.nD Cert.PooledSampleIdeal.τ).loc Cert.PooledSampleIdeal.main_arg2)
          ∧ r.2.mem ((c.tc : Thread Cert.PooledSampleIdeal.nD Cert.PooledSampleIdeal.τ).loc Cert.PooledSampleIdeal.main_arg3) = m ((c.tc : Thread Cert.PooledSampleIdeal.nD Cert.PooledSampleIdeal.τ).loc Cert.PooledSampleIdeal.main_arg3))
      ∧ θ_run (Cert.PooledSampleReferenceIdeal.defs (F := Ideal)) (onTc (τ := Cert.PooledSampleReferenceIdeal.τ) (Cert.PooledSampleReferenceIdeal.main (F := Ideal))) ⟨m', fun _ => 0, g'⟩ (fun r => ∀ c : Dev Cert.PooledSampleReferenceIdeal.nD,
          r.2.mem ((c.tc : Thread Cert.PooledSampleReferenceIdeal.nD Cert.PooledSampleReferenceIdeal.τ).loc Cert.PooledSampleReferenceIdeal.main_v103) = v0 c
          ∧ r.2.mem ((c.tc : Thread Cert.PooledSampleReferenceIdeal.nD Cert.PooledSampleReferenceIdeal.τ).loc Cert.PooledSampleReferenceIdeal.main_v105) = v1 c
          ∧ r.2.mem ((c.tc : Thread Cert.PooledSampleReferenceIdeal.nD Cert.PooledSampleReferenceIdeal.τ).loc Cert.PooledSampleReferenceIdeal.main_arg0) = m' ((c.tc : Thread Cert.PooledSampleReferenceIdeal.nD Cert.PooledSampleReferenceIdeal.τ).loc Cert.PooledSampleReferenceIdeal.main_arg0)
          ∧ r.2.mem ((c.tc : Thread Cert.PooledSampleReferenceIdeal.nD Cert.PooledSampleReferenceIdeal.τ).loc Cert.PooledSampleReferenceIdeal.main_arg1) = m' ((c.tc : Thread Cert.PooledSampleReferenceIdeal.nD Cert.PooledSampleReferenceIdeal.τ).loc Cert.PooledSampleReferenceIdeal.main_arg1)
          ∧ r.2.mem ((c.tc : Thread Cert.PooledSampleReferenceIdeal.nD Cert.PooledSampleReferenceIdeal.τ).loc Cert.PooledSampleReferenceIdeal.main_arg2) = m' ((c.tc : Thread Cert.PooledSampleReferenceIdeal.nD Cert.PooledSampleReferenceIdeal.τ).loc Cert.PooledSampleReferenceIdeal.main_arg2)
          ∧ r.2.mem ((c.tc : Thread Cert.PooledSampleReferenceIdeal.nD Cert.PooledSampleReferenceIdeal.τ).loc Cert.PooledSampleReferenceIdeal.main_arg3) = m' ((c.tc : Thread Cert.PooledSampleReferenceIdeal.nD Cert.PooledSampleReferenceIdeal.τ).loc Cert.PooledSampleReferenceIdeal.main_arg3))

def preserves_PooledPrompt_PooledPromptIdeal : Prop :=
  True

def algebraic_PooledPromptIdeal_PooledPromptReferenceIdeal [hPooledPromptIdeal : Cert.PooledPromptIdeal.Facts] [hPooledPromptReferenceIdeal : Cert.PooledPromptReferenceIdeal.Facts] : Prop :=
  ∀ (m : (ℓ : Loc Cert.PooledPromptIdeal.nD Cert.PooledPromptIdeal.τ Cert.PooledPromptIdeal.sig) → Buf (Elt Ideal) ℓ) (g : Dev Cert.PooledPromptIdeal.nD → PrngReg)
    (m' : (ℓ : Loc Cert.PooledPromptReferenceIdeal.nD Cert.PooledPromptReferenceIdeal.τ Cert.PooledPromptReferenceIdeal.sig) → Buf (Elt Ideal) ℓ) (g' : Dev Cert.PooledPromptReferenceIdeal.nD → PrngReg), Pre_PooledPromptIdeal m →
    (∀ c : Dev Cert.PooledPromptIdeal.nD,
      m' ((c.tc : Thread Cert.PooledPromptReferenceIdeal.nD Cert.PooledPromptReferenceIdeal.τ).loc Cert.PooledPromptReferenceIdeal.main_arg0) = m ((c.tc : Thread Cert.PooledPromptIdeal.nD Cert.PooledPromptIdeal.τ).loc Cert.PooledPromptIdeal.main_arg0)
      ∧ m' ((c.tc : Thread Cert.PooledPromptReferenceIdeal.nD Cert.PooledPromptReferenceIdeal.τ).loc Cert.PooledPromptReferenceIdeal.main_arg1) = m ((c.tc : Thread Cert.PooledPromptIdeal.nD Cert.PooledPromptIdeal.τ).loc Cert.PooledPromptIdeal.main_arg1)
      ∧ m' ((c.tc : Thread Cert.PooledPromptReferenceIdeal.nD Cert.PooledPromptReferenceIdeal.τ).loc Cert.PooledPromptReferenceIdeal.main_arg2) = m ((c.tc : Thread Cert.PooledPromptIdeal.nD Cert.PooledPromptIdeal.τ).loc Cert.PooledPromptIdeal.main_arg2)) →
    ∃ (v0 : (c : Dev Cert.PooledPromptIdeal.nD) → Buf (Elt Ideal) ((c.tc : Thread Cert.PooledPromptIdeal.nD Cert.PooledPromptIdeal.τ).loc Cert.PooledPromptIdeal.main_v4)) (v1 : (c : Dev Cert.PooledPromptIdeal.nD) → Buf (Elt Ideal) ((c.tc : Thread Cert.PooledPromptIdeal.nD Cert.PooledPromptIdeal.τ).loc Cert.PooledPromptIdeal.main_v2)),
      θ_run (Cert.PooledPromptIdeal.defs (F := Ideal)) (onTc (τ := Cert.PooledPromptIdeal.τ) (Cert.PooledPromptIdeal.main (F := Ideal))) ⟨m, fun _ => 0, g⟩ (fun r => ∀ c : Dev Cert.PooledPromptIdeal.nD,
          r.2.mem ((c.tc : Thread Cert.PooledPromptIdeal.nD Cert.PooledPromptIdeal.τ).loc Cert.PooledPromptIdeal.main_v4) = v0 c
          ∧ r.2.mem ((c.tc : Thread Cert.PooledPromptIdeal.nD Cert.PooledPromptIdeal.τ).loc Cert.PooledPromptIdeal.main_v2) = v1 c
          ∧ r.2.mem ((c.tc : Thread Cert.PooledPromptIdeal.nD Cert.PooledPromptIdeal.τ).loc Cert.PooledPromptIdeal.main_arg0) = m ((c.tc : Thread Cert.PooledPromptIdeal.nD Cert.PooledPromptIdeal.τ).loc Cert.PooledPromptIdeal.main_arg0)
          ∧ r.2.mem ((c.tc : Thread Cert.PooledPromptIdeal.nD Cert.PooledPromptIdeal.τ).loc Cert.PooledPromptIdeal.main_arg1) = m ((c.tc : Thread Cert.PooledPromptIdeal.nD Cert.PooledPromptIdeal.τ).loc Cert.PooledPromptIdeal.main_arg1)
          ∧ r.2.mem ((c.tc : Thread Cert.PooledPromptIdeal.nD Cert.PooledPromptIdeal.τ).loc Cert.PooledPromptIdeal.main_arg2) = m ((c.tc : Thread Cert.PooledPromptIdeal.nD Cert.PooledPromptIdeal.τ).loc Cert.PooledPromptIdeal.main_arg2))
      ∧ θ_run (Cert.PooledPromptReferenceIdeal.defs (F := Ideal)) (onTc (τ := Cert.PooledPromptReferenceIdeal.τ) (Cert.PooledPromptReferenceIdeal.main (F := Ideal))) ⟨m', fun _ => 0, g'⟩ (fun r => ∀ c : Dev Cert.PooledPromptReferenceIdeal.nD,
          r.2.mem ((c.tc : Thread Cert.PooledPromptReferenceIdeal.nD Cert.PooledPromptReferenceIdeal.τ).loc Cert.PooledPromptReferenceIdeal.main_v100) = v0 c
          ∧ r.2.mem ((c.tc : Thread Cert.PooledPromptReferenceIdeal.nD Cert.PooledPromptReferenceIdeal.τ).loc Cert.PooledPromptReferenceIdeal.main_v102) = v1 c
          ∧ r.2.mem ((c.tc : Thread Cert.PooledPromptReferenceIdeal.nD Cert.PooledPromptReferenceIdeal.τ).loc Cert.PooledPromptReferenceIdeal.main_arg0) = m' ((c.tc : Thread Cert.PooledPromptReferenceIdeal.nD Cert.PooledPromptReferenceIdeal.τ).loc Cert.PooledPromptReferenceIdeal.main_arg0)
          ∧ r.2.mem ((c.tc : Thread Cert.PooledPromptReferenceIdeal.nD Cert.PooledPromptReferenceIdeal.τ).loc Cert.PooledPromptReferenceIdeal.main_arg1) = m' ((c.tc : Thread Cert.PooledPromptReferenceIdeal.nD Cert.PooledPromptReferenceIdeal.τ).loc Cert.PooledPromptReferenceIdeal.main_arg1)
          ∧ r.2.mem ((c.tc : Thread Cert.PooledPromptReferenceIdeal.nD Cert.PooledPromptReferenceIdeal.τ).loc Cert.PooledPromptReferenceIdeal.main_arg2) = m' ((c.tc : Thread Cert.PooledPromptReferenceIdeal.nD Cert.PooledPromptReferenceIdeal.τ).loc Cert.PooledPromptReferenceIdeal.main_arg2))

def Claim : Prop :=
  ∃ (hGateUp : Cert.GateUp.Facts) (hGateUpIdeal : Cert.GateUpIdeal.Facts) (hUpReferenceIdeal : Cert.UpReferenceIdeal.Facts) (hDown : Cert.Down.Facts) (hDownIdeal : Cert.DownIdeal.Facts) (hDownReferenceIdeal : Cert.DownReferenceIdeal.Facts) (hDenseUp : Cert.DenseUp.Facts) (hDenseUpIdeal : Cert.DenseUpIdeal.Facts) (hDenseUpReferenceIdeal : Cert.DenseUpReferenceIdeal.Facts) (hValues : Cert.Values.Facts) (hValuesIdeal : Cert.ValuesIdeal.Facts) (hValuesReferenceIdeal : Cert.ValuesReferenceIdeal.Facts) (hKeys : Cert.Keys.Facts) (hKeysIdeal : Cert.KeysIdeal.Facts) (hKeysReferenceIdeal : Cert.KeysReferenceIdeal.Facts) (hDenseDown : Cert.DenseDown.Facts) (hDenseDownIdeal : Cert.DenseDownIdeal.Facts) (hDenseDownReferenceIdeal : Cert.DenseDownReferenceIdeal.Facts) (hAttentionOut : Cert.AttentionOut.Facts) (hAttentionOutIdeal : Cert.AttentionOutIdeal.Facts) (hAttentionOutReferenceIdeal : Cert.AttentionOutReferenceIdeal.Facts) (hPlainQueries : Cert.PlainQueries.Facts) (hPlainQueriesIdeal : Cert.PlainQueriesIdeal.Facts) (hPlainQueriesReferenceIdeal : Cert.PlainQueriesReferenceIdeal.Facts) (hQueries : Cert.Queries.Facts) (hQueriesIdeal : Cert.QueriesIdeal.Facts) (hQueriesReferenceIdeal : Cert.QueriesReferenceIdeal.Facts) (hPooledNorm : Cert.PooledNorm.Facts) (hPooledNormIdeal : Cert.PooledNormIdeal.Facts) (hPooledNormReferenceIdeal : Cert.PooledNormReferenceIdeal.Facts) (hPooledSample : Cert.PooledSample.Facts) (hPooledSampleIdeal : Cert.PooledSampleIdeal.Facts) (hPooledSampleReferenceIdeal : Cert.PooledSampleReferenceIdeal.Facts) (hPooledPrompt : Cert.PooledPrompt.Facts) (hPooledPromptIdeal : Cert.PooledPromptIdeal.Facts) (hPooledPromptReferenceIdeal : Cert.PooledPromptReferenceIdeal.Facts) (hPre_planned_gate_up : Cert.Pre_planned_gate_up.Facts) (hPre_planned_down : Cert.Pre_planned_down.Facts),
    quiescent_GateUp (hGateUp := hGateUp) (hPre_planned_gate_up := hPre_planned_gate_up)
    ∧ quiescent_GateUpIdeal (hGateUpIdeal := hGateUpIdeal) (hPre_planned_gate_up := hPre_planned_gate_up)
    ∧ quiescent_UpReferenceIdeal (hUpReferenceIdeal := hUpReferenceIdeal) (hPre_planned_gate_up := hPre_planned_gate_up)
    ∧ quiescent_Down (hDown := hDown) (hPre_planned_down := hPre_planned_down)
    ∧ quiescent_DownIdeal (hDownIdeal := hDownIdeal) (hPre_planned_down := hPre_planned_down)
    ∧ quiescent_DownReferenceIdeal (hDownReferenceIdeal := hDownReferenceIdeal) (hPre_planned_down := hPre_planned_down)
    ∧ quiescent_DenseUp (hDenseUp := hDenseUp)
    ∧ quiescent_DenseUpIdeal (hDenseUpIdeal := hDenseUpIdeal)
    ∧ quiescent_DenseUpReferenceIdeal (hDenseUpReferenceIdeal := hDenseUpReferenceIdeal)
    ∧ quiescent_Values (hValues := hValues)
    ∧ quiescent_ValuesIdeal (hValuesIdeal := hValuesIdeal)
    ∧ quiescent_ValuesReferenceIdeal (hValuesReferenceIdeal := hValuesReferenceIdeal)
    ∧ quiescent_Keys (hKeys := hKeys)
    ∧ quiescent_KeysIdeal (hKeysIdeal := hKeysIdeal)
    ∧ quiescent_KeysReferenceIdeal (hKeysReferenceIdeal := hKeysReferenceIdeal)
    ∧ quiescent_DenseDown (hDenseDown := hDenseDown)
    ∧ quiescent_DenseDownIdeal (hDenseDownIdeal := hDenseDownIdeal)
    ∧ quiescent_DenseDownReferenceIdeal (hDenseDownReferenceIdeal := hDenseDownReferenceIdeal)
    ∧ quiescent_AttentionOut (hAttentionOut := hAttentionOut)
    ∧ quiescent_AttentionOutIdeal (hAttentionOutIdeal := hAttentionOutIdeal)
    ∧ quiescent_AttentionOutReferenceIdeal (hAttentionOutReferenceIdeal := hAttentionOutReferenceIdeal)
    ∧ quiescent_PlainQueries (hPlainQueries := hPlainQueries)
    ∧ quiescent_PlainQueriesIdeal (hPlainQueriesIdeal := hPlainQueriesIdeal)
    ∧ quiescent_PlainQueriesReferenceIdeal (hPlainQueriesReferenceIdeal := hPlainQueriesReferenceIdeal)
    ∧ quiescent_Queries (hQueries := hQueries)
    ∧ quiescent_QueriesIdeal (hQueriesIdeal := hQueriesIdeal)
    ∧ quiescent_QueriesReferenceIdeal (hQueriesReferenceIdeal := hQueriesReferenceIdeal)
    ∧ quiescent_PooledNorm (hPooledNorm := hPooledNorm)
    ∧ quiescent_PooledNormIdeal (hPooledNormIdeal := hPooledNormIdeal)
    ∧ quiescent_PooledNormReferenceIdeal (hPooledNormReferenceIdeal := hPooledNormReferenceIdeal)
    ∧ quiescent_PooledSample (hPooledSample := hPooledSample)
    ∧ quiescent_PooledSampleIdeal (hPooledSampleIdeal := hPooledSampleIdeal)
    ∧ quiescent_PooledSampleReferenceIdeal (hPooledSampleReferenceIdeal := hPooledSampleReferenceIdeal)
    ∧ quiescent_PooledPrompt (hPooledPrompt := hPooledPrompt)
    ∧ quiescent_PooledPromptIdeal (hPooledPromptIdeal := hPooledPromptIdeal)
    ∧ quiescent_PooledPromptReferenceIdeal (hPooledPromptReferenceIdeal := hPooledPromptReferenceIdeal)
    ∧ preserves_GateUp_GateUpIdeal
    ∧ algebraic_GateUpIdeal_UpReferenceIdeal (hGateUpIdeal := hGateUpIdeal) (hUpReferenceIdeal := hUpReferenceIdeal) (hPre_planned_gate_up := hPre_planned_gate_up)
    ∧ preserves_Down_DownIdeal
    ∧ algebraic_DownIdeal_DownReferenceIdeal (hDownIdeal := hDownIdeal) (hDownReferenceIdeal := hDownReferenceIdeal) (hPre_planned_down := hPre_planned_down)
    ∧ preserves_DenseUp_DenseUpIdeal
    ∧ algebraic_DenseUpIdeal_DenseUpReferenceIdeal (hDenseUpIdeal := hDenseUpIdeal) (hDenseUpReferenceIdeal := hDenseUpReferenceIdeal)
    ∧ preserves_Values_ValuesIdeal
    ∧ algebraic_ValuesIdeal_ValuesReferenceIdeal (hValuesIdeal := hValuesIdeal) (hValuesReferenceIdeal := hValuesReferenceIdeal)
    ∧ preserves_Keys_KeysIdeal
    ∧ algebraic_KeysIdeal_KeysReferenceIdeal (hKeysIdeal := hKeysIdeal) (hKeysReferenceIdeal := hKeysReferenceIdeal)
    ∧ preserves_DenseDown_DenseDownIdeal
    ∧ algebraic_DenseDownIdeal_DenseDownReferenceIdeal (hDenseDownIdeal := hDenseDownIdeal) (hDenseDownReferenceIdeal := hDenseDownReferenceIdeal)
    ∧ preserves_AttentionOut_AttentionOutIdeal
    ∧ algebraic_AttentionOutIdeal_AttentionOutReferenceIdeal (hAttentionOutIdeal := hAttentionOutIdeal) (hAttentionOutReferenceIdeal := hAttentionOutReferenceIdeal)
    ∧ preserves_PlainQueries_PlainQueriesIdeal
    ∧ algebraic_PlainQueriesIdeal_PlainQueriesReferenceIdeal (hPlainQueriesIdeal := hPlainQueriesIdeal) (hPlainQueriesReferenceIdeal := hPlainQueriesReferenceIdeal)
    ∧ preserves_Queries_QueriesIdeal
    ∧ algebraic_QueriesIdeal_QueriesReferenceIdeal (hQueriesIdeal := hQueriesIdeal) (hQueriesReferenceIdeal := hQueriesReferenceIdeal)
    ∧ preserves_PooledNorm_PooledNormIdeal
    ∧ algebraic_PooledNormIdeal_PooledNormReferenceIdeal (hPooledNormIdeal := hPooledNormIdeal) (hPooledNormReferenceIdeal := hPooledNormReferenceIdeal)
    ∧ preserves_PooledSample_PooledSampleIdeal
    ∧ algebraic_PooledSampleIdeal_PooledSampleReferenceIdeal (hPooledSampleIdeal := hPooledSampleIdeal) (hPooledSampleReferenceIdeal := hPooledSampleReferenceIdeal)
    ∧ preserves_PooledPrompt_PooledPromptIdeal
    ∧ algebraic_PooledPromptIdeal_PooledPromptReferenceIdeal (hPooledPromptIdeal := hPooledPromptIdeal) (hPooledPromptReferenceIdeal := hPooledPromptReferenceIdeal)
-- ==== Pre_planned_down.lean ====
abbrev S32768x7168 : Shape := ⟨2, ![32768, 7168]⟩
abbrev S8x7168x2048 : Shape := ⟨3, ![8, 7168, 2048]⟩
abbrev S16 : Shape := ⟨1, ![16]⟩
abbrev S_ : Shape := ⟨0, ![]⟩

class Facts : Prop where
  bcast_S_S16 : S_.BroadcastsInDim S16 (![] : Fin 0 → Fin S16.rank)

variable [Facts]

def fn_part1 {F : FTy → Type} [FloatOps F] (main_arg3 : IVec S16 32) (main_arg4 : IVec S16 32) (main_v0 : IVec S16 32) (main_v17 : IVec S16 1) : IVec S16 1 :=
  let main_c_5 : IVec S_ 32 := constantI S_ 32 0#32
  let main_v18 : IVec S16 32 := broadcastInDim S16 ![] bcast_S_S16 main_c_5
  let main_v19 : IVec S16 1 := cmpi .eq main_arg4 main_v18
  let main_v20 : IVec S16 1 := cmpi .eq main_arg3 main_v0
  let main_v21 : IVec S16 1 := ori main_v19 main_v20
  let main_v22 : IVec S16 1 := andi main_v17 main_v21
  main_v22

def fn {F : FTy → Type} [FloatOps F] (main_arg0 : FVec F S32768x7168 .bf16) (main_arg1 : FVec F S8x7168x2048 .f32) (main_arg2 : IVec S16 32) (main_arg3 : IVec S16 32) (main_arg4 : IVec S16 32) : IVec S16 1 :=
  let main_v0 : IVec S16 32 := iotaInDim S16 32 0
  let main_c : IVec S_ 32 := constantI S_ 32 0#32
  let main_v1 : IVec S16 32 := broadcastInDim S16 ![] bcast_S_S16 main_c
  let main_v2 : IVec S16 1 := cmpi .sge main_arg2 main_v1
  let main_c_0 : IVec S_ 32 := constantI S_ 32 8#32
  let main_v3 : IVec S16 32 := broadcastInDim S16 ![] bcast_S_S16 main_c_0
  let main_v4 : IVec S16 1 := cmpi .slt main_arg2 main_v3
  let main_v5 : IVec S16 1 := andi main_v2 main_v4
  let main_c_1 : IVec S_ 32 := constantI S_ 32 0#32
  let main_v6 : IVec S16 32 := broadcastInDim S16 ![] bcast_S_S16 main_c_1
  let main_v7 : IVec S16 1 := cmpi .sge main_arg3 main_v6
  let main_v8 : IVec S16 1 := andi main_v5 main_v7
  let main_c_2 : IVec S_ 32 := constantI S_ 32 16#32
  let main_v9 : IVec S16 32 := broadcastInDim S16 ![] bcast_S_S16 main_c_2
  let main_v10 : IVec S16 1 := cmpi .slt main_arg3 main_v9
  let main_v11 : IVec S16 1 := andi main_v8 main_v10
  let main_c_3 : IVec S_ 32 := constantI S_ 32 0#32
  let main_v12 : IVec S16 32 := broadcastInDim S16 ![] bcast_S_S16 main_c_3
  let main_v13 : IVec S16 1 := cmpi .sge main_arg4 main_v12
  let main_v14 : IVec S16 1 := andi main_v11 main_v13
  let main_c_4 : IVec S_ 32 := constantI S_ 32 4#32
  let main_v15 : IVec S16 32 := broadcastInDim S16 ![] bcast_S_S16 main_c_4
  let main_v16 : IVec S16 1 := cmpi .sle main_arg4 main_v15
  let main_v17 : IVec S16 1 := andi main_v14 main_v16
  fn_part1 (F := F) main_arg3 main_arg4 main_v0 main_v17
-- ==== Pre_planned_gate_up.lean ====
abbrev S32768x2048 : Shape := ⟨2, ![32768, 2048]⟩
abbrev S8x2048x7168 : Shape := ⟨3, ![8, 2048, 7168]⟩
abbrev S16 : Shape := ⟨1, ![16]⟩
abbrev S_ : Shape := ⟨0, ![]⟩

class Facts : Prop where
  bcast_S_S16 : S_.BroadcastsInDim S16 (![] : Fin 0 → Fin S16.rank)

variable [Facts]

def fn_part1 {F : FTy → Type} [FloatOps F] (main_arg4 : IVec S16 32) (main_arg5 : IVec S16 32) (main_v0 : IVec S16 32) (main_v17 : IVec S16 1) : IVec S16 1 :=
  let main_c_5 : IVec S_ 32 := constantI S_ 32 0#32
  let main_v18 : IVec S16 32 := broadcastInDim S16 ![] bcast_S_S16 main_c_5
  let main_v19 : IVec S16 1 := cmpi .eq main_arg5 main_v18
  let main_v20 : IVec S16 1 := cmpi .eq main_arg4 main_v0
  let main_v21 : IVec S16 1 := ori main_v19 main_v20
  let main_v22 : IVec S16 1 := andi main_v17 main_v21
  main_v22

def fn {F : FTy → Type} [FloatOps F] (main_arg0 : FVec F S32768x2048 .bf16) (main_arg1 : FVec F S8x2048x7168 .f32) (main_arg2 : FVec F S8x2048x7168 .f32) (main_arg3 : IVec S16 32) (main_arg4 : IVec S16 32) (main_arg5 : IVec S16 32) : IVec S16 1 :=
  let main_v0 : IVec S16 32 := iotaInDim S16 32 0
  let main_c : IVec S_ 32 := constantI S_ 32 0#32
  let main_v1 : IVec S16 32 := broadcastInDim S16 ![] bcast_S_S16 main_c
  let main_v2 : IVec S16 1 := cmpi .sge main_arg3 main_v1
  let main_c_0 : IVec S_ 32 := constantI S_ 32 8#32
  let main_v3 : IVec S16 32 := broadcastInDim S16 ![] bcast_S_S16 main_c_0
  let main_v4 : IVec S16 1 := cmpi .slt main_arg3 main_v3
  let main_v5 : IVec S16 1 := andi main_v2 main_v4
  let main_c_1 : IVec S_ 32 := constantI S_ 32 0#32
  let main_v6 : IVec S16 32 := broadcastInDim S16 ![] bcast_S_S16 main_c_1
  let main_v7 : IVec S16 1 := cmpi .sge main_arg4 main_v6
  let main_v8 : IVec S16 1 := andi main_v5 main_v7
  let main_c_2 : IVec S_ 32 := constantI S_ 32 16#32
  let main_v9 : IVec S16 32 := broadcastInDim S16 ![] bcast_S_S16 main_c_2
  let main_v10 : IVec S16 1 := cmpi .slt main_arg4 main_v9
  let main_v11 : IVec S16 1 := andi main_v8 main_v10
  let main_c_3 : IVec S_ 32 := constantI S_ 32 0#32
  let main_v12 : IVec S16 32 := broadcastInDim S16 ![] bcast_S_S16 main_c_3
  let main_v13 : IVec S16 1 := cmpi .sge main_arg5 main_v12
  let main_v14 : IVec S16 1 := andi main_v11 main_v13
  let main_c_4 : IVec S_ 32 := constantI S_ 32 4#32
  let main_v15 : IVec S16 32 := broadcastInDim S16 ![] bcast_S_S16 main_c_4
  let main_v16 : IVec S16 1 := cmpi .sle main_arg5 main_v15
  let main_v17 : IVec S16 1 := andi main_v14 main_v16
  fn_part1 (F := F) main_arg4 main_arg5 main_v0 main_v17
-- ==== GateUp.lean ====
abbrev S32768x2048 : Shape := ⟨2, ![32768, 2048]⟩
abbrev S8x2048x7168 : Shape := ⟨3, ![8, 2048, 7168]⟩
abbrev S16 : Shape := ⟨1, ![16]⟩
abbrev S32768x7168 : Shape := ⟨2, ![32768, 7168]⟩
abbrev S2048x2048 : Shape := ⟨2, ![2048, 2048]⟩
abbrev S1 : Shape := ⟨1, ![1]⟩
abbrev S1x2048x512 : Shape := ⟨3, ![1, 2048, 512]⟩
abbrev S2048x512 : Shape := ⟨2, ![2048, 512]⟩
abbrev S512x2048 : Shape := ⟨2, ![512, 2048]⟩
abbrev S512x512 : Shape := ⟨2, ![512, 512]⟩
abbrev S1536x512 : Shape := ⟨2, ![1536, 512]⟩
abbrev S1024x2048 : Shape := ⟨2, ![1024, 2048]⟩
abbrev S1024x512 : Shape := ⟨2, ![1024, 512]⟩
abbrev S1536x2048 : Shape := ⟨2, ![1536, 2048]⟩

abbrev nBuf : Space → Nat
  | .hbm => 4
  | .vmem => 8
  | .smem => 3
  | _ => 0

abbrev bufTy : (tb : Table) → Fin (tcTables nBuf tb) → BufTy
  | .hbm, ⟨0, _⟩ => ⟨S32768x2048, .bf16⟩
  | .hbm, ⟨1, _⟩ => ⟨S8x2048x7168, .f32⟩
  | .hbm, ⟨2, _⟩ => ⟨S8x2048x7168, .f32⟩
  | .hbm, ⟨3, _⟩ => ⟨S32768x7168, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S2048x512, .bf16⟩
  | .local _ .vmem, ⟨7, _⟩ => ⟨S2048x512, .bf16⟩
  | .local _ .smem, ⟨0, _⟩ => ⟨S16, .i32⟩
  | .local _ .smem, ⟨1, _⟩ => ⟨S16, .i32⟩
  | .local _ .smem, ⟨2, _⟩ => ⟨S16, .i32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev main_arg4 : Ref sig .tc := ⟨.smem, 1, rfl⟩
abbrev main_arg5 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 14], ![false, false]⟩

abbrev pre0 : Pipeline.Prefetch sig := ⟨3, ![main_arg3.idx, main_arg4.idx, main_arg5.idx], fun | 0 => main_arg3.names | 1 => main_arg4.names | 2 => main_arg5.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_cond2 (v1 : BitVec 32) : BitVec 1 :=
  let c2_i32 : BitVec 32 := 2#32
  let v5 : BitVec 1 := Scalar.cmpi .eq v1 c2_i32
  let v6 : BitVec 32 := Scalar.extui v5
  let c0_i32_0 : BitVec 32 := 0#32
  let v7 : BitVec 1 := Scalar.cmpi .ne v6 c0_i32_0
  v7

def k0_cond3 (v1 : BitVec 32) : BitVec 1 :=
  let c3_i32 : BitVec 32 := 3#32
  let v8 : BitVec 1 := Scalar.cmpi .eq v1 c3_i32
  let v9 : BitVec 32 := Scalar.extui v8
  let c0_i32_1 : BitVec 32 := 0#32
  let v10 : BitVec 1 := Scalar.cmpi .ne v9 c0_i32_1
  v10

def k0_cond4 (v1 : BitVec 32) : BitVec 1 :=
  let c4_i32 : BitVec 32 := 4#32
  let v11 : BitVec 1 := Scalar.cmpi .eq v1 c4_i32
  let v12 : BitVec 32 := Scalar.extui v11
  let c0_i32_2 : BitVec 32 := 0#32
  let v13 : BitVec 1 := Scalar.cmpi .ne v12 c0_i32_2
  v13

def k0_cond5 (v1 : BitVec 32) : BitVec 1 :=
  let c0_i32_3 : BitVec 32 := 0#32
  let v14 : BitVec 1 := Scalar.cmpi .eq v1 c0_i32_3
  let v15 : BitVec 32 := Scalar.extui v14
  let c0_i32_4 : BitVec 32 := 0#32
  let v16 : BitVec 1 := Scalar.cmpi .ne v15 c0_i32_4
  v16

def cc0_transform_0 (k0_off1_inb : ∀ i : grid0.Coords, ∀ a, (k0_off1 i) a + S1.size a ≤ S16.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S16) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let v2 : Index := Scalar.indexCast arg0
  let v3 : BitVec 32 := pf.at 2 (Rect.unit (s := S16) ![v2.toNat] S1.size (k0_off1_inb i)) numel1_S1
  let c0_i32 : BitVec 32 := 0#32
  let v4 : BitVec 1 := Scalar.cmpi .sgt v3 c0_i32
  let c13_i32 : BitVec 32 := 13#32
  let v5 : BitVec 32 := Scalar.select v4 arg1 c13_i32
  let c0_i32_0 : BitVec 32 := 0#32
  let c0_i32_1 : BitVec 32 := 0#32
  ![v1.toNat, c0_i32_0.toNat, v5.toNat]

def cc0_transform_2 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let v2 : Index := Scalar.indexCast arg0
  let v3 : BitVec 32 := pf.at 2 (Rect.unit (s := S16) ![v2.toNat] S1.size (k0_off1_inb i)) numel1_S1
  let c0_i32 : BitVec 32 := 0#32
  let v4 : BitVec 1 := Scalar.cmpi .sgt v3 c0_i32
  let c13_i32 : BitVec 32 := 13#32
  let v5 : BitVec 32 := Scalar.select v4 arg1 c13_i32
  let c0_i32_0 : BitVec 32 := 0#32
  let c0_i32_1 : BitVec 32 := 0#32
  ![v1.toNat, c0_i32_0.toNat, v5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpReferenceIdeal.lean ====
abbrev S32768x2048 : Shape := ⟨2, ![32768, 2048]⟩
abbrev S8x2048x7168 : Shape := ⟨3, ![8, 2048, 7168]⟩
abbrev S16 : Shape := ⟨1, ![16]⟩
abbrev S16x1 : Shape := ⟨2, ![16, 1]⟩
abbrev S16x2048 : Shape := ⟨2, ![16, 2048]⟩
abbrev S32768x1 : Shape := ⟨2, ![32768, 1]⟩
abbrev S_ : Shape := ⟨0, ![]⟩
abbrev S1x8 : Shape := ⟨2, ![1, 8]⟩
abbrev S32768x8 : Shape := ⟨2, ![32768, 8]⟩
abbrev S32768x7168 : Shape := ⟨2, ![32768, 7168]⟩
abbrev S1x2048x7168 : Shape := ⟨3, ![1, 2048, 7168]⟩
abbrev S2048x7168 : Shape := ⟨2, ![2048, 7168]⟩

abbrev nBuf : Space → Nat
  | .hbm => 200
  | .vmem => 0
  | .smem => 0
  | _ => 0

abbrev hbmTy0_0 (i : Nat) : BufTy := match i % 128 with
  | 0 => ⟨S32768x2048, .bf16⟩
  | 1 => ⟨S8x2048x7168, .f32⟩
  | 2 => ⟨S8x2048x7168, .f32⟩
  | 3 => ⟨S16, .i32⟩
  | 4 => ⟨S16, .i32⟩
  | 5 => ⟨S16, .i32⟩
  | 6 => ⟨S32768x2048, .f32⟩
  | 7 => ⟨S16x1, .i32⟩
  | 8 => ⟨S16x2048, .i32⟩
  | 9 => ⟨S32768x1, .i32⟩
  | 10 => ⟨S16x2048, .i32⟩
  | 11 => ⟨S16x1, .i32⟩
  | 12 => ⟨S_, .i32⟩
  | 13 => ⟨S16x1, .i32⟩
  | 14 => ⟨S16x1, .i32⟩
  | 15 => ⟨S16x2048, .i32⟩
  | 16 => ⟨S16x2048, .i1⟩
  | 17 => ⟨S32768x1, .i1⟩
  | 18 => ⟨S1x8, .i32⟩
  | 19 => ⟨S32768x8, .i32⟩
  | 20 => ⟨S32768x8, .i32⟩
  | 21 => ⟨S32768x8, .i1⟩
  | 22 => ⟨S32768x8, .i1⟩
  | 23 => ⟨S32768x8, .i1⟩
  | 24 => ⟨S_, .f32⟩
  | 25 => ⟨S_, .f32⟩
  | 26 => ⟨S32768x8, .f32⟩
  | 27 => ⟨S32768x8, .f32⟩
  | 28 => ⟨S32768x8, .f32⟩
  | 29 => ⟨S_, .f32⟩
  | 30 => ⟨S32768x7168, .f32⟩
  | 31 => ⟨S1x2048x7168, .f32⟩
  | 32 => ⟨S2048x7168, .f32⟩
  | 33 => ⟨S32768x7168, .f32⟩
  | 34 => ⟨S32768x7168, .f32⟩
  | 35 => ⟨S32768x7168, .f32⟩
  | 36 => ⟨S_, .f32⟩
  | 37 => ⟨S32768x7168, .f32⟩
  | 38 => ⟨S32768x7168, .f32⟩
  | 39 => ⟨S_, .f32⟩
  | 40 => ⟨S32768x7168, .f32⟩
  | 41 => ⟨S32768x7168, .f32⟩
  | 42 => ⟨S32768x7168, .f32⟩
  | 43 => ⟨S1x2048x7168, .f32⟩
  | 44 => ⟨S2048x7168, .f32⟩
  | 45 => ⟨S32768x7168, .f32⟩
  | 46 => ⟨S32768x7168, .f32⟩
  | 47 => ⟨S32768x1, .f32⟩
  | 48 => ⟨S32768x1, .f32⟩
  | 49 => ⟨S32768x7168, .f32⟩
  | 50 => ⟨S32768x7168, .f32⟩
  | 51 => ⟨S32768x7168, .f32⟩
  | 52 => ⟨S1x2048x7168, .f32⟩
  | 53 => ⟨S2048x7168, .f32⟩
  | 54 => ⟨S32768x7168, .f32⟩
  | 55 => ⟨S32768x7168, .f32⟩
  | 56 => ⟨S32768x7168, .f32⟩
  | 57 => ⟨S_, .f32⟩
  | 58 => ⟨S32768x7168, .f32⟩
  | 59 => ⟨S32768x7168, .f32⟩
  | 60 => ⟨S_, .f32⟩
  | 61 => ⟨S32768x7168, .f32⟩
  | 62 => ⟨S32768x7168, .f32⟩
  | 63 => ⟨S32768x7168, .f32⟩
  | 64 => ⟨S1x2048x7168, .f32⟩
  | 65 => ⟨S2048x7168, .f32⟩
  | 66 => ⟨S32768x7168, .f32⟩
  | 67 => ⟨S32768x7168, .f32⟩
  | 68 => ⟨S32768x1, .f32⟩
  | 69 => ⟨S32768x1, .f32⟩
  | 70 => ⟨S32768x7168, .f32⟩
  | 71 => ⟨S32768x7168, .f32⟩
  | 72 => ⟨S32768x7168, .f32⟩
  | 73 => ⟨S1x2048x7168, .f32⟩
  | 74 => ⟨S2048x7168, .f32⟩
  | 75 => ⟨S32768x7168, .f32⟩
  | 76 => ⟨S32768x7168, .f32⟩
  | 77 => ⟨S32768x7168, .f32⟩
  | 78 => ⟨S_, .f32⟩
  | 79 => ⟨S32768x7168, .f32⟩
  | 80 => ⟨S32768x7168, .f32⟩
  | 81 => ⟨S_, .f32⟩
  | 82 => ⟨S32768x7168, .f32⟩
  | 83 => ⟨S32768x7168, .f32⟩
  | 84 => ⟨S32768x7168, .f32⟩
  | 85 => ⟨S1x2048x7168, .f32⟩
  | 86 => ⟨S2048x7168, .f32⟩
  | 87 => ⟨S32768x7168, .f32⟩
  | 88 => ⟨S32768x7168, .f32⟩
  | 89 => ⟨S32768x1, .f32⟩
  | 90 => ⟨S32768x1, .f32⟩
  | 91 => ⟨S32768x7168, .f32⟩
  | 92 => ⟨S32768x7168, .f32⟩
  | 93 => ⟨S32768x7168, .f32⟩
  | 94 => ⟨S1x2048x7168, .f32⟩
  | 95 => ⟨S2048x7168, .f32⟩
  | 96 => ⟨S32768x7168, .f32⟩
  | 97 => ⟨S32768x7168, .f32⟩
  | 98 => ⟨S32768x7168, .f32⟩
  | 99 => ⟨S_, .f32⟩
  | 100 => ⟨S32768x7168, .f32⟩
  | 101 => ⟨S32768x7168, .f32⟩
  | 102 => ⟨S_, .f32⟩
  | 103 => ⟨S32768x7168, .f32⟩
  | 104 => ⟨S32768x7168, .f32⟩
  | 105 => ⟨S32768x7168, .f32⟩
  | 106 => ⟨S1x2048x7168, .f32⟩
  | 107 => ⟨S2048x7168, .f32⟩
  | 108 => ⟨S32768x7168, .f32⟩
  | 109 => ⟨S32768x7168, .f32⟩
  | 110 => ⟨S32768x1, .f32⟩
  | 111 => ⟨S32768x1, .f32⟩
  | 112 => ⟨S32768x7168, .f32⟩
  | 113 => ⟨S32768x7168, .f32⟩
  | 114 => ⟨S32768x7168, .f32⟩
  | 115 => ⟨S1x2048x7168, .f32⟩
  | 116 => ⟨S2048x7168, .f32⟩
  | 117 => ⟨S32768x7168, .f32⟩
  | 118 => ⟨S32768x7168, .f32⟩
  | 119 => ⟨S32768x7168, .f32⟩
  | 120 => ⟨S_, .f32⟩
  | 121 => ⟨S32768x7168, .f32⟩
  | 122 => ⟨S32768x7168, .f32⟩
  | 123 => ⟨S_, .f32⟩
  | 124 => ⟨S32768x7168, .f32⟩
  | 125 => ⟨S32768x7168, .f32⟩
  | 126 => ⟨S32768x7168, .f32⟩
  | 127 => ⟨S1x2048x7168, .f32⟩
  | _ => ⟨S32768x2048, .bf16⟩

abbrev hbmTy0_1 (i : Nat) : BufTy := match i % 128 with
  | 0 => ⟨S2048x7168, .f32⟩
  | 1 => ⟨S32768x7168, .f32⟩
  | 2 => ⟨S32768x7168, .f32⟩
  | 3 => ⟨S32768x1, .f32⟩
  | 4 => ⟨S32768x1, .f32⟩
  | 5 => ⟨S32768x7168, .f32⟩
  | 6 => ⟨S32768x7168, .f32⟩
  | 7 => ⟨S32768x7168, .f32⟩
  | 8 => ⟨S1x2048x7168, .f32⟩
  | 9 => ⟨S2048x7168, .f32⟩
  | 10 => ⟨S32768x7168, .f32⟩
  | 11 => ⟨S32768x7168, .f32⟩
  | 12 => ⟨S32768x7168, .f32⟩
  | 13 => ⟨S_, .f32⟩
  | 14 => ⟨S32768x7168, .f32⟩
  | 15 => ⟨S32768x7168, .f32⟩
  | 16 => ⟨S_, .f32⟩
  | 17 => ⟨S32768x7168, .f32⟩
  | 18 => ⟨S32768x7168, .f32⟩
  | 19 => ⟨S32768x7168, .f32⟩
  | 20 => ⟨S1x2048x7168, .f32⟩
  | 21 => ⟨S2048x7168, .f32⟩
  | 22 => ⟨S32768x7168, .f32⟩
  | 23 => ⟨S32768x7168, .f32⟩
  | 24 => ⟨S32768x1, .f32⟩
  | 25 => ⟨S32768x1, .f32⟩
  | 26 => ⟨S32768x7168, .f32⟩
  | 27 => ⟨S32768x7168, .f32⟩
  | 28 => ⟨S32768x7168, .f32⟩
  | 29 => ⟨S1x2048x7168, .f32⟩
  | 30 => ⟨S2048x7168, .f32⟩
  | 31 => ⟨S32768x7168, .f32⟩
  | 32 => ⟨S32768x7168, .f32⟩
  | 33 => ⟨S32768x7168, .f32⟩
  | 34 => ⟨S_, .f32⟩
  | 35 => ⟨S32768x7168, .f32⟩
  | 36 => ⟨S32768x7168, .f32⟩
  | 37 => ⟨S_, .f32⟩
  | 38 => ⟨S32768x7168, .f32⟩
  | 39 => ⟨S32768x7168, .f32⟩
  | 40 => ⟨S32768x7168, .f32⟩
  | 41 => ⟨S1x2048x7168, .f32⟩
  | 42 => ⟨S2048x7168, .f32⟩
  | 43 => ⟨S32768x7168, .f32⟩
  | 44 => ⟨S32768x7168, .f32⟩
  | 45 => ⟨S32768x1, .f32⟩
  | 46 => ⟨S32768x1, .f32⟩
  | 47 => ⟨S32768x7168, .f32⟩
  | 48 => ⟨S32768x7168, .f32⟩
  | 49 => ⟨S32768x7168, .f32⟩
  | 50 => ⟨S1x2048x7168, .f32⟩
  | 51 => ⟨S2048x7168, .f32⟩
  | 52 => ⟨S32768x7168, .f32⟩
  | 53 => ⟨S32768x7168, .f32⟩
  | 54 => ⟨S32768x7168, .f32⟩
  | 55 => ⟨S_, .f32⟩
  | 56 => ⟨S32768x7168, .f32⟩
  | 57 => ⟨S32768x7168, .f32⟩
  | 58 => ⟨S_, .f32⟩
  | 59 => ⟨S32768x7168, .f32⟩
  | 60 => ⟨S32768x7168, .f32⟩
  | 61 => ⟨S32768x7168, .f32⟩
  | 62 => ⟨S1x2048x7168, .f32⟩
  | 63 => ⟨S2048x7168, .f32⟩
  | 64 => ⟨S32768x7168, .f32⟩
  | 65 => ⟨S32768x7168, .f32⟩
  | 66 => ⟨S32768x1, .f32⟩
  | 67 => ⟨S32768x1, .f32⟩
  | 68 => ⟨S32768x7168, .f32⟩
  | 69 => ⟨S32768x7168, .f32⟩
  | 70 => ⟨S32768x7168, .f32⟩
  | 71 => ⟨S32768x7168, .bf16⟩
  | _ => ⟨S32768x2048, .bf16⟩

abbrev hbmTy (i : Nat) : BufTy := match i / 128 with
  | 0 => hbmTy0_0 i
  | 1 => hbmTy0_1 i
  | _ => ⟨S32768x2048, .bf16⟩

abbrev bufTy : (tb : Table) → Fin (tcTables nBuf tb) → BufTy
  | .hbm, ⟨i, _⟩ => hbmTy i
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call1_v0 : Ref sig .tc := ⟨.hbm, 34, rfl⟩
abbrev main_call1_v1 : Ref sig .tc := ⟨.hbm, 35, rfl⟩
abbrev main_call1_cst : Ref sig .tc := ⟨.hbm, 36, rfl⟩
abbrev main_call1_v2 : Ref sig .tc := ⟨.hbm, 37, rfl⟩
abbrev main_call1_v3 : Ref sig .tc := ⟨.hbm, 38, rfl⟩
abbrev main_call1_cst_0 : Ref sig .tc := ⟨.hbm, 39, rfl⟩
abbrev main_call1_v4 : Ref sig .tc := ⟨.hbm, 40, rfl⟩
abbrev main_call1_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call2_v0 : Ref sig .tc := ⟨.hbm, 55, rfl⟩
abbrev main_call2_v1 : Ref sig .tc := ⟨.hbm, 56, rfl⟩
abbrev main_call2_cst : Ref sig .tc := ⟨.hbm, 57, rfl⟩
abbrev main_call2_v2 : Ref sig .tc := ⟨.hbm, 58, rfl⟩
abbrev main_call2_v3 : Ref sig .tc := ⟨.hbm, 59, rfl⟩
abbrev main_call2_cst_0 : Ref sig .tc := ⟨.hbm, 60, rfl⟩
abbrev main_call2_v4 : Ref sig .tc := ⟨.hbm, 61, rfl⟩
abbrev main_call2_v5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_call3_v0 : Ref sig .tc := ⟨.hbm, 76, rfl⟩
abbrev main_call3_v1 : Ref sig .tc := ⟨.hbm, 77, rfl⟩
abbrev main_call3_cst : Ref sig .tc := ⟨.hbm, 78, rfl⟩
abbrev main_call3_v2 : Ref sig .tc := ⟨.hbm, 79, rfl⟩
abbrev main_call3_v3 : Ref sig .tc := ⟨.hbm, 80, rfl⟩
abbrev main_call3_cst_0 : Ref sig .tc := ⟨.hbm, 81, rfl⟩
abbrev main_call3_v4 : Ref sig .tc := ⟨.hbm, 82, rfl⟩
abbrev main_call3_v5 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_call4_v0 : Ref sig .tc := ⟨.hbm, 97, rfl⟩
abbrev main_call4_v1 : Ref sig .tc := ⟨.hbm, 98, rfl⟩
abbrev main_call4_cst : Ref sig .tc := ⟨.hbm, 99, rfl⟩
abbrev main_call4_v2 : Ref sig .tc := ⟨.hbm, 100, rfl⟩
abbrev main_call4_v3 : Ref sig .tc := ⟨.hbm, 101, rfl⟩
abbrev main_call4_cst_0 : Ref sig .tc := ⟨.hbm, 102, rfl⟩
abbrev main_call4_v4 : Ref sig .tc := ⟨.hbm, 103, rfl⟩
abbrev main_call4_v5 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_call5_v0 : Ref sig .tc := ⟨.hbm, 118, rfl⟩
abbrev main_call5_v1 : Ref sig .tc := ⟨.hbm, 119, rfl⟩
abbrev main_call5_cst : Ref sig .tc := ⟨.hbm, 120, rfl⟩
abbrev main_call5_v2 : Ref sig .tc := ⟨.hbm, 121, rfl⟩
abbrev main_call5_v3 : Ref sig .tc := ⟨.hbm, 122, rfl⟩
abbrev main_call5_cst_0 : Ref sig .tc := ⟨.hbm, 123, rfl⟩
abbrev main_call5_v4 : Ref sig .tc := ⟨.hbm, 124, rfl⟩
abbrev main_call5_v5 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_call6_v0 : Ref sig .tc := ⟨.hbm, 139, rfl⟩
abbrev main_call6_v1 : Ref sig .tc := ⟨.hbm, 140, rfl⟩
abbrev main_call6_cst : Ref sig .tc := ⟨.hbm, 141, rfl⟩
abbrev main_call6_v2 : Ref sig .tc := ⟨.hbm, 142, rfl⟩
abbrev main_call6_v3 : Ref sig .tc := ⟨.hbm, 143, rfl⟩
abbrev main_call6_cst_0 : Ref sig .tc := ⟨.hbm, 144, rfl⟩
abbrev main_call6_v4 : Ref sig .tc := ⟨.hbm, 145, rfl⟩
abbrev main_call6_v5 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_call7_v0 : Ref sig .tc := ⟨.hbm, 160, rfl⟩
abbrev main_call7_v1 : Ref sig .tc := ⟨.hbm, 161, rfl⟩
abbrev main_call7_cst : Ref sig .tc := ⟨.hbm, 162, rfl⟩
abbrev main_call7_v2 : Ref sig .tc := ⟨.hbm, 163, rfl⟩
abbrev main_call7_v3 : Ref sig .tc := ⟨.hbm, 164, rfl⟩
abbrev main_call7_cst_0 : Ref sig .tc := ⟨.hbm, 165, rfl⟩
abbrev main_call7_v4 : Ref sig .tc := ⟨.hbm, 166, rfl⟩
abbrev main_call7_v5 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_call8_v0 : Ref sig .tc := ⟨.hbm, 181, rfl⟩
abbrev main_call8_v1 : Ref sig .tc := ⟨.hbm, 182, rfl⟩
abbrev main_call8_cst : Ref sig .tc := ⟨.hbm, 183, rfl⟩
abbrev main_call8_v2 : Ref sig .tc := ⟨.hbm, 184, rfl⟩
abbrev main_call8_v3 : Ref sig .tc := ⟨.hbm, 185, rfl⟩
abbrev main_call8_cst_0 : Ref sig .tc := ⟨.hbm, 186, rfl⟩
abbrev main_call8_v4 : Ref sig .tc := ⟨.hbm, 187, rfl⟩
abbrev main_call8_v5 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩

abbrev nD : Nat := 1
abbrev τ : Topo := Topo.v7x

variable {F : FTy → Type} [FloatOps F]
-- ==== Down.lean ====
abbrev S32768x7168 : Shape := ⟨2, ![32768, 7168]⟩
abbrev S8x7168x2048 : Shape := ⟨3, ![8, 7168, 2048]⟩
abbrev S16 : Shape := ⟨1, ![16]⟩
abbrev S32768x2048 : Shape := ⟨2, ![32768, 2048]⟩
abbrev S2048x1024 : Shape := ⟨2, ![2048, 1024]⟩
abbrev S1 : Shape := ⟨1, ![1]⟩
abbrev S1x1024x1024 : Shape := ⟨3, ![1, 1024, 1024]⟩
abbrev S512x1024 : Shape := ⟨2, ![512, 1024]⟩
abbrev S1024x1024 : Shape := ⟨2, ![1024, 1024]⟩
abbrev S1536x1024 : Shape := ⟨2, ![1536, 1024]⟩

abbrev nBuf : Space → Nat
  | .hbm => 3
  | .vmem => 6
  | .smem => 3
  | _ => 0

abbrev bufTy : (tb : Table) → Fin (tcTables nBuf tb) → BufTy
  | .hbm, ⟨0, _⟩ => ⟨S32768x7168, .bf16⟩
  | .hbm, ⟨1, _⟩ => ⟨S8x7168x2048, .f32⟩
  | .hbm, ⟨2, _⟩ => ⟨S32768x2048, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S2048x1024, .f32⟩
  | .local _ .vmem, ⟨5, _⟩ => ⟨S2048x1024, .f32⟩
  | .local _ .smem, ⟨0, _⟩ => ⟨S16, .i32⟩
  | .local _ .smem, ⟨1, _⟩ => ⟨S16, .i32⟩
  | .local _ .smem, ⟨2, _⟩ => ⟨S16, .i32⟩
  | _, _ => ⟨S32768x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev main_arg3 : Ref sig .tc := ⟨.smem, 1, rfl⟩
abbrev main_arg4 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 7], ![false, false, false]⟩

abbrev pre0 : Pipeline.Prefetch sig := ⟨3, ![main_arg2.idx, main_arg3.idx, main_arg4.idx], fun | 0 => main_arg2.names | 1 => main_arg3.names | 2 => main_arg4.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg2 : BitVec 32 := BitVec.ofNat 32 (i 2).val
  let c0_i32 : BitVec 32 := 0#32
  let v2 : BitVec 1 := Scalar.cmpi .eq arg2 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c1_i32 : BitVec 32 := 1#32
  let v5 : BitVec 1 := Scalar.cmpi .eq v1 c1_i32
  let v6 : BitVec 32 := Scalar.extui v5
  let c0_i32_1 : BitVec 32 := 0#32
  let v7 : BitVec 1 := Scalar.cmpi .ne v6 c0_i32_1
  v7

def k0_cond3 (v1 : BitVec 32) : BitVec 1 :=
  let c2_i32 : BitVec 32 := 2#32
  let v8 : BitVec 1 := Scalar.cmpi .eq v1 c2_i32
  let v9 : BitVec 32 := Scalar.extui v8
  let c0_i32_2 : BitVec 32 := 0#32
  let v10 : BitVec 1 := Scalar.cmpi .ne v9 c0_i32_2
  v10

def k0_cond4 (v1 : BitVec 32) : BitVec 1 :=
  let c3_i32 : BitVec 32 := 3#32
  let v11 : BitVec 1 := Scalar.cmpi .eq v1 c3_i32
  let v12 : BitVec 32 := Scalar.extui v11
  let c0_i32_3 : BitVec 32 := 0#32
  let v13 : BitVec 1 := Scalar.cmpi .ne v12 c0_i32_3
  v13

def k0_cond5 (v1 : BitVec 32) : BitVec 1 :=
  let c4_i32 : BitVec 32 := 4#32
  let v14 : BitVec 1 := Scalar.cmpi .eq v1 c4_i32
  let v15 : BitVec 32 := Scalar.extui v14
  let c0_i32_4 : BitVec 32 := 0#32
  let v16 : BitVec 1 := Scalar.cmpi .ne v15 c0_i32_4
  v16

def cc0_transform_0 (k0_off1_inb : ∀ i : grid0.Coords, ∀ a, (k0_off1 i) a + S1.size a ≤ S16.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 1 (Rect.unit (s := S16) ![v0.toNat] S1.size (k0_off1_inb i)) numel1_S1
  let v2 : Index := Scalar.indexCast arg0
  let v3 : BitVec 32 := pf.at 2 (Rect.unit (s := S16) ![v2.toNat] S1.size (k0_off1_inb i)) numel1_S1
  let c0_i32 : BitVec 32 := 0#32
  let v4 : BitVec 1 := Scalar.cmpi .sgt v3 c0_i32
  let c6_i32 : BitVec 32 := 6#32
  let v5 : BitVec 32 := Scalar.select v4 arg2 c6_i32
  let c0_i32_0 : BitVec 32 := 0#32
  ![v1.toNat, v5.toNat]

def cc0_transform_1 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 0 (Rect.unit (s := S16) ![v0.toNat] S1.size (k0_off1_inb i)) numel1_S1
  let v2 : Index := Scalar.indexCast arg0
  let v3 : BitVec 32 := pf.at 2 (Rect.unit (s := S16) ![v2.toNat] S1.size (k0_off1_inb i)) numel1_S1
  let c0_i32 : BitVec 32 := 0#32
  let v4 : BitVec 1 := Scalar.cmpi .sgt v3 c0_i32
  let c6_i32 : BitVec 32 := 6#32
  let v5 : BitVec 32 := Scalar.select v4 arg2 c6_i32
  let c0_i32_0 : BitVec 32 := 0#32
  ![v1.toNat, v5.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S32768x7168 : Shape := ⟨2, ![32768, 7168]⟩
abbrev S8x7168x2048 : Shape := ⟨3, ![8, 7168, 2048]⟩
abbrev S16 : Shape := ⟨1, ![16]⟩
abbrev S16x1 : Shape := ⟨2, ![16, 1]⟩
abbrev S16x2048 : Shape := ⟨2, ![16, 2048]⟩
abbrev S32768x1 : Shape := ⟨2, ![32768, 1]⟩
abbrev S_ : Shape := ⟨0, ![]⟩
abbrev S1x8 : Shape := ⟨2, ![1, 8]⟩
abbrev S32768x8 : Shape := ⟨2, ![32768, 8]⟩
abbrev S32768x2048 : Shape := ⟨2, ![32768, 2048]⟩
abbrev S1x7168x2048 : Shape := ⟨3, ![1, 7168, 2048]⟩
abbrev S7168x2048 : Shape := ⟨2, ![7168, 2048]⟩

abbrev nBuf : Space → Nat
  | .hbm => 94
  | .vmem => 0
  | .smem => 0
  | _ => 0

abbrev bufTy : (tb : Table) → Fin (tcTables nBuf tb) → BufTy
  | .hbm, ⟨0, _⟩ => ⟨S32768x7168, .bf16⟩
  | .hbm, ⟨1, _⟩ => ⟨S8x7168x2048, .f32⟩
  | .hbm, ⟨2, _⟩ => ⟨S16, .i32⟩
  | .hbm, ⟨3, _⟩ => ⟨S16, .i32⟩
  | .hbm, ⟨4, _⟩ => ⟨S16, .i32⟩
  | .hbm, ⟨5, _⟩ => ⟨S32768x7168, .f32⟩
  | .hbm, ⟨6, _⟩ => ⟨S16x1, .i32⟩
  | .hbm, ⟨7, _⟩ => ⟨S16x2048, .i32⟩
  | .hbm, ⟨8, _⟩ => ⟨S32768x1, .i32⟩
  | .hbm, ⟨9, _⟩ => ⟨S16x2048, .i32⟩
  | .hbm, ⟨10, _⟩ => ⟨S16x1, .i32⟩
  | .hbm, ⟨11, _⟩ => ⟨S_, .i32⟩
  | .hbm, ⟨12, _⟩ => ⟨S16x1, .i32⟩
  | .hbm, ⟨13, _⟩ => ⟨S16x1, .i32⟩
  | .hbm, ⟨14, _⟩ => ⟨S16x2048, .i32⟩
  | .hbm, ⟨15, _⟩ => ⟨S16x2048, .i1⟩
  | .hbm, ⟨16, _⟩ => ⟨S32768x1, .i1⟩
  | .hbm, ⟨17, _⟩ => ⟨S1x8, .i32⟩
  | .hbm, ⟨18, _⟩ => ⟨S32768x8, .i32⟩
  | .hbm, ⟨19, _⟩ => ⟨S32768x8, .i32⟩
  | .hbm, ⟨20, _⟩ => ⟨S32768x8, .i1⟩
  | .hbm, ⟨21, _⟩ => ⟨S32768x8, .i1⟩
  | .hbm, ⟨22, _⟩ => ⟨S32768x8, .i1⟩
  | .hbm, ⟨23, _⟩ => ⟨S_, .f32⟩
  | .hbm, ⟨24, _⟩ => ⟨S_, .f32⟩
  | .hbm, ⟨25, _⟩ => ⟨S32768x8, .f32⟩
  | .hbm, ⟨26, _⟩ => ⟨S32768x8, .f32⟩
  | .hbm, ⟨27, _⟩ => ⟨S32768x8, .f32⟩
  | .hbm, ⟨28, _⟩ => ⟨S_, .f32⟩
  | .hbm, ⟨29, _⟩ => ⟨S32768x2048, .f32⟩
  | .hbm, ⟨30, _⟩ => ⟨S1x7168x2048, .f32⟩
  | .hbm, ⟨31, _⟩ => ⟨S7168x2048, .f32⟩
  | .hbm, ⟨32, _⟩ => ⟨S32768x2048, .f32⟩
  | .hbm, ⟨33, _⟩ => ⟨S32768x1, .f32⟩
  | .hbm, ⟨34, _⟩ => ⟨S32768x1, .f32⟩
  | .hbm, ⟨35, _⟩ => ⟨S32768x2048, .f32⟩
  | .hbm, ⟨36, _⟩ => ⟨S32768x2048, .f32⟩
  | .hbm, ⟨37, _⟩ => ⟨S32768x2048, .f32⟩
  | .hbm, ⟨38, _⟩ => ⟨S1x7168x2048, .f32⟩
  | .hbm, ⟨39, _⟩ => ⟨S7168x2048, .f32⟩
  | .hbm, ⟨40, _⟩ => ⟨S32768x2048, .f32⟩
  | .hbm, ⟨41, _⟩ => ⟨S32768x1, .f32⟩
  | .hbm, ⟨42, _⟩ => ⟨S32768x1, .f32⟩
  | .hbm, ⟨43, _⟩ => ⟨S32768x2048, .f32⟩
  | .hbm, ⟨44, _⟩ => ⟨S32768x2048, .f32⟩
  | .hbm, ⟨45, _⟩ => ⟨S32768x2048, .f32⟩
  | .hbm, ⟨46, _⟩ => ⟨S1x7168x2048, .f32⟩
  | .hbm, ⟨47, _⟩ => ⟨S7168x2048, .f32⟩
  | .hbm, ⟨48, _⟩ => ⟨S32768x2048, .f32⟩
  | .hbm, ⟨49, _⟩ => ⟨S32768x1, .f32⟩
  | .hbm, ⟨50, _⟩ => ⟨S32768x1, .f32⟩
  | .hbm, ⟨51, _⟩ => ⟨S32768x2048, .f32⟩
  | .hbm, ⟨52, _⟩ => ⟨S32768x2048, .f32⟩
  | .hbm, ⟨53, _⟩ => ⟨S32768x2048, .f32⟩
  | .hbm, ⟨54, _⟩ => ⟨S1x7168x2048, .f32⟩
  | .hbm, ⟨55, _⟩ => ⟨S7168x2048, .f32⟩
  | .hbm, ⟨56, _⟩ => ⟨S32768x2048, .f32⟩
  | .hbm, ⟨57, _⟩ => ⟨S32768x1, .f32⟩
  | .hbm, ⟨58, _⟩ => ⟨S32768x1, .f32⟩
  | .hbm, ⟨59, _⟩ => ⟨S32768x2048, .f32⟩
  | .hbm, ⟨60, _⟩ => ⟨S32768x2048, .f32⟩
  | .hbm, ⟨61, _⟩ => ⟨S32768x2048, .f32⟩
  | .hbm, ⟨62, _⟩ => ⟨S1x7168x2048, .f32⟩
  | .hbm, ⟨63, _⟩ => ⟨S7168x2048, .f32⟩
  | .hbm, ⟨64, _⟩ => ⟨S32768x2048, .f32⟩
  | .hbm, ⟨65, _⟩ => ⟨S32768x1, .f32⟩
  | .hbm, ⟨66, _⟩ => ⟨S32768x1, .f32⟩
  | .hbm, ⟨67, _⟩ => ⟨S32768x2048, .f32⟩
  | .hbm, ⟨68, _⟩ => ⟨S32768x2048, .f32⟩
  | .hbm, ⟨69, _⟩ => ⟨S32768x2048, .f32⟩
  | .hbm, ⟨70, _⟩ => ⟨S1x7168x2048, .f32⟩
  | .hbm, ⟨71, _⟩ => ⟨S7168x2048, .f32⟩
  | .hbm, ⟨72, _⟩ => ⟨S32768x2048, .f32⟩
  | .hbm, ⟨73, _⟩ => ⟨S32768x1, .f32⟩
  | .hbm, ⟨74, _⟩ => ⟨S32768x1, .f32⟩
  | .hbm, ⟨75, _⟩ => ⟨S32768x2048, .f32⟩
  | .hbm, ⟨76, _⟩ => ⟨S32768x2048, .f32⟩
  | .hbm, ⟨77, _⟩ => ⟨S32768x2048, .f32⟩
  | .hbm, ⟨78, _⟩ => ⟨S1x7168x2048, .f32⟩
  | .hbm, ⟨79, _⟩ => ⟨S7168x2048, .f32⟩
  | .hbm, ⟨80, _⟩ => ⟨S32768x2048, .f32⟩
  | .hbm, ⟨81, _⟩ => ⟨S32768x1, .f32⟩
  | .hbm, ⟨82, _⟩ => ⟨S32768x1, .f32⟩
  | .hbm, ⟨83, _⟩ => ⟨S32768x2048, .f32⟩
  | .hbm, ⟨84, _⟩ => ⟨S32768x2048, .f32⟩
  | .hbm, ⟨85, _⟩ => ⟨S32768x2048, .f32⟩
  | .hbm, ⟨86, _⟩ => ⟨S1x7168x2048, .f32⟩
  | .hbm, ⟨87, _⟩ => ⟨S7168x2048, .f32⟩
  | .hbm, ⟨88, _⟩ => ⟨S32768x2048, .f32⟩
  | .hbm, ⟨89, _⟩ => ⟨S32768x1, .f32⟩
  | .hbm, ⟨90, _⟩ => ⟨S32768x1, .f32⟩
  | .hbm, ⟨91, _⟩ => ⟨S32768x2048, .f32⟩
  | .hbm, ⟨92, _⟩ => ⟨S32768x2048, .f32⟩
  | .hbm, ⟨93, _⟩ => ⟨S32768x2048, .f32⟩
  | _, _ => ⟨S32768x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩

abbrev nD : Nat := 1
abbrev τ : Topo := Topo.v7x

variable {F : FTy → Type} [FloatOps F]
-- ==== DenseUp.lean ====
abbrev S8448x2048 : Shape := ⟨2, ![8448, 2048]⟩
abbrev S2048x7168 : Shape := ⟨2, ![2048, 7168]⟩
abbrev S8448x7168 : Shape := ⟨2, ![8448, 7168]⟩
abbrev S1056x2048 : Shape := ⟨2, ![1056, 2048]⟩
abbrev S2048x512 : Shape := ⟨2, ![2048, 512]⟩
abbrev S1056x512 : Shape := ⟨2, ![1056, 512]⟩

abbrev nBuf : Space → Nat
  | .hbm => 4
  | .vmem => 8
  | .smem => 0
  | _ => 0

abbrev bufTy : (tb : Table) → Fin (tcTables nBuf tb) → BufTy
  | .hbm, ⟨0, _⟩ => ⟨S8448x2048, .bf16⟩
  | .hbm, ⟨1, _⟩ => ⟨S2048x7168, .f32⟩
  | .hbm, ⟨2, _⟩ => ⟨S2048x7168, .f32⟩
  | .hbm, ⟨3, _⟩ => ⟨S8448x7168, .bf16⟩
  | .local _ .vmem, ⟨0, _⟩ => ⟨S1056x2048, .bf16⟩
  | .local _ .vmem, ⟨1, _⟩ => ⟨S1056x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S1056x512, .bf16⟩
  | .local _ .vmem, ⟨7, _⟩ => ⟨S1056x512, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 14], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1056x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DenseUpReferenceIdeal.lean ====
abbrev S8448x2048 : Shape := ⟨2, ![8448, 2048]⟩
abbrev S2048x7168 : Shape := ⟨2, ![2048, 7168]⟩
abbrev S8448x7168 : Shape := ⟨2, ![8448, 7168]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x7168, .f32⟩
  | .hbm, ⟨2, _⟩ => ⟨S2048x7168, .f32⟩
  | .hbm, ⟨3, _⟩ => ⟨S8448x2048, .f32⟩
  | .hbm, ⟨4, _⟩ => ⟨S8448x7168, .f32⟩
  | .hbm, ⟨5, _⟩ => ⟨S8448x7168, .f32⟩
  | .hbm, ⟨6, _⟩ => ⟨S8448x7168, .f32⟩
  | .hbm, ⟨7, _⟩ => ⟨S_, .f32⟩
  | .hbm, ⟨8, _⟩ => ⟨S8448x7168, .f32⟩
  | .hbm, ⟨9, _⟩ => ⟨S8448x7168, .f32⟩
  | .hbm, ⟨10, _⟩ => ⟨S_, .f32⟩
  | .hbm, ⟨11, _⟩ => ⟨S8448x7168, .f32⟩
  | .hbm, ⟨12, _⟩ => ⟨S8448x7168, .f32⟩
  | .hbm, ⟨13, _⟩ => ⟨S8448x7168, .f32⟩
  | .hbm, ⟨14, _⟩ => ⟨S8448x7168, .f32⟩
  | .hbm, ⟨15, _⟩ => ⟨S8448x7168, .f32⟩
  | .hbm, ⟨16, _⟩ => ⟨S8448x7168, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Values.lean ====
abbrev S4x2048x2048 : Shape := ⟨3, ![4, 2048, 2048]⟩
abbrev S8x4x2048 : Shape := ⟨3, ![8, 4, 2048]⟩
abbrev S2048x512 : Shape := ⟨2, ![2048, 512]⟩
abbrev S8192x2048 : Shape := ⟨2, ![8192, 2048]⟩
abbrev S32x2048 : Shape := ⟨2, ![32, 2048]⟩
abbrev S_ : Shape := ⟨0, ![]⟩
abbrev S224x2048 : Shape := ⟨2, ![224, 2048]⟩
abbrev S8448x2048 : Shape := ⟨2, ![8448, 2048]⟩
abbrev S8448x512 : Shape := ⟨2, ![8448, 512]⟩
abbrev S1056x2048 : Shape := ⟨2, ![1056, 2048]⟩
abbrev S1056x512 : Shape := ⟨2, ![1056, 512]⟩

abbrev nBuf : Space → Nat
  | .hbm => 10
  | .vmem => 5
  | .smem => 0
  | _ => 0

abbrev bufTy : (tb : Table) → Fin (tcTables nBuf tb) → BufTy
  | .hbm, ⟨0, _⟩ => ⟨S4x2048x2048, .f32⟩
  | .hbm, ⟨1, _⟩ => ⟨S8x4x2048, .f32⟩
  | .hbm, ⟨2, _⟩ => ⟨S2048x512, .f32⟩
  | .hbm, ⟨3, _⟩ => ⟨S8192x2048, .f32⟩
  | .hbm, ⟨4, _⟩ => ⟨S32x2048, .f32⟩
  | .hbm, ⟨5, _⟩ => ⟨S_, .f32⟩
  | .hbm, ⟨6, _⟩ => ⟨S224x2048, .f32⟩
  | .hbm, ⟨7, _⟩ => ⟨S8448x2048, .f32⟩
  | .hbm, ⟨8, _⟩ => ⟨S8448x2048, .bf16⟩
  | .hbm, ⟨9, _⟩ => ⟨S8448x512, .f32⟩
  | .local _ .vmem, ⟨0, _⟩ => ⟨S1056x2048, .bf16⟩
  | .local _ .vmem, ⟨1, _⟩ => ⟨S1056x2048, .bf16⟩
  | .local _ .vmem, ⟨2, _⟩ => ⟨S2048x512, .f32⟩
  | .local _ .vmem, ⟨3, _⟩ => ⟨S1056x512, .f32⟩
  | .local _ .vmem, ⟨4, _⟩ => ⟨S1056x512, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ValuesReferenceIdeal.lean ====
abbrev S4x2048x2048 : Shape := ⟨3, ![4, 2048, 2048]⟩
abbrev S8x4x2048 : Shape := ⟨3, ![8, 4, 2048]⟩
abbrev S2048x512 : Shape := ⟨2, ![2048, 512]⟩
abbrev S4x2048x512 : Shape := ⟨3, ![4, 2048, 512]⟩
abbrev S8x4x512 : Shape := ⟨3, ![8, 4, 512]⟩
abbrev S8192x512 : Shape := ⟨2, ![8192, 512]⟩
abbrev S32x512 : Shape := ⟨2, ![32, 512]⟩
abbrev S_ : Shape := ⟨0, ![]⟩
abbrev S224x512 : Shape := ⟨2, ![224, 512]⟩
abbrev S8448x512 : Shape := ⟨2, ![8448, 512]⟩

abbrev nBuf : Space → Nat
  | .hbm => 10
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8x4x2048, .f32⟩
  | .hbm, ⟨2, _⟩ => ⟨S2048x512, .f32⟩
  | .hbm, ⟨3, _⟩ => ⟨S4x2048x512, .f32⟩
  | .hbm, ⟨4, _⟩ => ⟨S8x4x512, .f32⟩
  | .hbm, ⟨5, _⟩ => ⟨S8192x512, .f32⟩
  | .hbm, ⟨6, _⟩ => ⟨S32x512, .f32⟩
  | .hbm, ⟨7, _⟩ => ⟨S_, .f32⟩
  | .hbm, ⟨8, _⟩ => ⟨S224x512, .f32⟩
  | .hbm, ⟨9, _⟩ => ⟨S8448x512, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Keys.lean ====
abbrev S4x2048x2048 : Shape := ⟨3, ![4, 2048, 2048]⟩
abbrev S8x4x2048 : Shape := ⟨3, ![8, 4, 2048]⟩
abbrev S2048x512 : Shape := ⟨2, ![2048, 512]⟩
abbrev S2048 : Shape := ⟨1, ![2048]⟩
abbrev S1x2048 : Shape := ⟨2, ![1, 2048]⟩
abbrev S4x2048 : Shape := ⟨2, ![4, 2048]⟩
abbrev S8192 : Shape := ⟨1, ![8192]⟩
abbrev S4 : Shape := ⟨1, ![4]⟩
abbrev S_ : Shape := ⟨0, ![]⟩
abbrev S1x4 : Shape := ⟨2, ![1, 4]⟩
abbrev S8x4 : Shape := ⟨2, ![8, 4]⟩
abbrev S32 : Shape := ⟨1, ![32]⟩
abbrev S224 : Shape := ⟨1, ![224]⟩
abbrev S8448 : Shape := ⟨1, ![8448]⟩
abbrev S8192x2048 : Shape := ⟨2, ![8192, 2048]⟩
abbrev S32x2048 : Shape := ⟨2, ![32, 2048]⟩
abbrev S224x2048 : Shape := ⟨2, ![224, 2048]⟩
abbrev S8448x2048 : Shape := ⟨2, ![8448, 2048]⟩
abbrev S16 : Shape := ⟨1, ![16]⟩
abbrev S8448x1 : Shape := ⟨2, ![8448, 1]⟩
abbrev S1x16 : Shape := ⟨2, ![1, 16]⟩
abbrev S8448x16 : Shape := ⟨2, ![8448, 16]⟩
abbrev S8448x96 : Shape := ⟨2, ![8448, 96]⟩
abbrev S8448x112 : Shape := ⟨2, ![8448, 112]⟩
abbrev S8448x128 : Shape := ⟨2, ![8448, 128]⟩
abbrev S8448x512 : Shape := ⟨2, ![8448, 512]⟩
abbrev S1056x2048 : Shape := ⟨2, ![1056, 2048]⟩
abbrev S1056x128 : Shape := ⟨2, ![1056, 128]⟩
abbrev S1056x512 : Shape := ⟨2, ![1056, 512]⟩

abbrev nBuf : Space → Nat
  | .hbm => 58
  | .vmem => 11
  | .smem => 0
  | _ => 0

abbrev bufTy : (tb : Table) → Fin (tcTables nBuf tb) → BufTy
  | .hbm, ⟨0, _⟩ => ⟨S4x2048x2048, .f32⟩
  | .hbm, ⟨1, _⟩ => ⟨S8x4x2048, .f32⟩
  | .hbm, ⟨2, _⟩ => ⟨S2048x512, .f32⟩
  | .hbm, ⟨3, _⟩ => ⟨S2048, .i32⟩
  | .hbm, ⟨4, _⟩ => ⟨S1x2048, .i32⟩
  | .hbm, ⟨5, _⟩ => ⟨S4x2048, .i32⟩
  | .hbm, ⟨6, _⟩ => ⟨S8192, .i32⟩
  | .hbm, ⟨7, _⟩ => ⟨S4, .i32⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S1x4, .i32⟩
  | .hbm, ⟨12, _⟩ => ⟨S8x4, .i32⟩
  | .hbm, ⟨13, _⟩ => ⟨S32, .i32⟩
  | .hbm, ⟨14, _⟩ => ⟨S_, .i32⟩
  | .hbm, ⟨15, _⟩ => ⟨S224, .i32⟩
  | .hbm, ⟨16, _⟩ => ⟨S8448, .i32⟩
  | .hbm, ⟨17, _⟩ => ⟨S8192x2048, .f32⟩
  | .hbm, ⟨18, _⟩ => ⟨S32x2048, .f32⟩
  | .hbm, ⟨19, _⟩ => ⟨S_, .f32⟩
  | .hbm, ⟨20, _⟩ => ⟨S224x2048, .f32⟩
  | .hbm, ⟨21, _⟩ => ⟨S8448x2048, .f32⟩
  | .hbm, ⟨22, _⟩ => ⟨S8448x2048, .bf16⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S_, .f32⟩
  | .hbm, ⟨35, _⟩ => ⟨S16, .f32⟩
  | .hbm, ⟨36, _⟩ => ⟨S16, .f32⟩
  | .hbm, ⟨37, _⟩ => ⟨S8448, .f32⟩
  | .hbm, ⟨38, _⟩ => ⟨S8448x1, .f32⟩
  | .hbm, ⟨39, _⟩ => ⟨S1x16, .f32⟩
  | .hbm, ⟨40, _⟩ => ⟨S8448x16, .f32⟩
  | .hbm, ⟨41, _⟩ => ⟨S8448x16, .f32⟩
  | .hbm, ⟨42, _⟩ => ⟨S8448x16, .f32⟩
  | .hbm, ⟨43, _⟩ => ⟨S8448x16, .f32⟩
  | .hbm, ⟨44, _⟩ => ⟨S8448x16, .f32⟩
  | .hbm, ⟨45, _⟩ => ⟨S_, .f32⟩
  | .hbm, ⟨46, _⟩ => ⟨S8448x96, .f32⟩
  | .hbm, ⟨47, _⟩ => ⟨S_, .f32⟩
  | .hbm, ⟨48, _⟩ => ⟨S8448x112, .f32⟩
  | .hbm, ⟨49, _⟩ => ⟨S8448x128, .f32⟩
  | .hbm, ⟨50, _⟩ => ⟨S8448x16, .f32⟩
  | .hbm, ⟨51, _⟩ => ⟨S8448x128, .f32⟩
  | .hbm, ⟨52, _⟩ => ⟨S_, .f32⟩
  | .hbm, ⟨53, _⟩ => ⟨S8448x16, .f32⟩
  | .hbm, ⟨54, _⟩ => ⟨S_, .f32⟩
  | .hbm, ⟨55, _⟩ => ⟨S8448x96, .f32⟩
  | .hbm, ⟨56, _⟩ => ⟨S8448x128, .f32⟩
  | .hbm, ⟨57, _⟩ => ⟨S8448x512, .f32⟩
  | .local _ .vmem, ⟨0, _⟩ => ⟨S1056x2048, .bf16⟩
  | .local _ .vmem, ⟨1, _⟩ => ⟨S1056x2048, .bf16⟩
  | .local _ .vmem, ⟨2, _⟩ => ⟨S2048x512, .f32⟩
  | .local _ .vmem, ⟨3, _⟩ => ⟨S1056x128, .f32⟩
  | .local _ .vmem, ⟨4, _⟩ => ⟨S1056x128, .f32⟩
  | .local _ .vmem, ⟨5, _⟩ => ⟨S1056x128, .f32⟩
  | .local _ .vmem, ⟨6, _⟩ => ⟨S1056x128, .f32⟩
  | .local _ .vmem, ⟨7, _⟩ => ⟨S1056x128, .f32⟩
  | .local _ .vmem, ⟨8, _⟩ => ⟨S1056x128, .f32⟩
  | .local _ .vmem, ⟨9, _⟩ => ⟨S1056x512, .f32⟩
  | .local _ .vmem, ⟨10, _⟩ => ⟨S1056x512, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_7 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1056x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1056x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1056x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1056x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KeysReferenceIdeal.lean ====
abbrev S4x2048x2048 : Shape := ⟨3, ![4, 2048, 2048]⟩
abbrev S8x4x2048 : Shape := ⟨3, ![8, 4, 2048]⟩
abbrev S2048x512 : Shape := ⟨2, ![2048, 512]⟩
abbrev S4x2048x512 : Shape := ⟨3, ![4, 2048, 512]⟩
abbrev S4x2048x4x128 : Shape := ⟨4, ![4, 2048, 4, 128]⟩
abbrev S2048 : Shape := ⟨1, ![2048]⟩
abbrev S_ : Shape := ⟨0, ![]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S1x2048x1x16 : Shape := ⟨4, ![1, 2048, 1, 16]⟩
abbrev S4x2048x4x16 : Shape := ⟨4, ![4, 2048, 4, 16]⟩
abbrev S4x2048x4x96 : Shape := ⟨4, ![4, 2048, 4, 96]⟩
abbrev S8x4x512 : Shape := ⟨3, ![8, 4, 512]⟩
abbrev S8x4x4x128 : Shape := ⟨4, ![8, 4, 4, 128]⟩
abbrev S4 : Shape := ⟨1, ![4]⟩
abbrev S4x1 : Shape := ⟨2, ![4, 1]⟩
abbrev S4x16 : Shape := ⟨2, ![4, 16]⟩
abbrev S1x4x1x16 : Shape := ⟨4, ![1, 4, 1, 16]⟩
abbrev S8x4x4x16 : Shape := ⟨4, ![8, 4, 4, 16]⟩
abbrev S8x4x4x96 : Shape := ⟨4, ![8, 4, 4, 96]⟩
abbrev S8192x512 : Shape := ⟨2, ![8192, 512]⟩
abbrev S32x512 : Shape := ⟨2, ![32, 512]⟩
abbrev S224x512 : Shape := ⟨2, ![224, 512]⟩
abbrev S8448x512 : Shape := ⟨2, ![8448, 512]⟩

abbrev nBuf : Space → Nat
  | .hbm => 96
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8x4x2048, .f32⟩
  | .hbm, ⟨2, _⟩ => ⟨S2048x512, .f32⟩
  | .hbm, ⟨3, _⟩ => ⟨S4x2048x512, .f32⟩
  | .hbm, ⟨4, _⟩ => ⟨S4x2048x4x128, .f32⟩
  | .hbm, ⟨5, _⟩ => ⟨S2048, .i32⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S2048, .f32⟩
  | .hbm, ⟨24, _⟩ => ⟨S2048x1, .f32⟩
  | .hbm, ⟨25, _⟩ => ⟨S1x16, .f32⟩
  | .hbm, ⟨26, _⟩ => ⟨S2048x16, .f32⟩
  | .hbm, ⟨27, _⟩ => ⟨S2048x16, .f32⟩
  | .hbm, ⟨28, _⟩ => ⟨S2048x16, .f32⟩
  | .hbm, ⟨29, _⟩ => ⟨S2048x16, .f32⟩
  | .hbm, ⟨30, _⟩ => ⟨S1x2048x1x16, .f32⟩
  | .hbm, ⟨31, _⟩ => ⟨S2048x16, .f32⟩
  | .hbm, ⟨32, _⟩ => ⟨S1x2048x1x16, .f32⟩
  | .hbm, ⟨33, _⟩ => ⟨S4x2048x4x16, .f32⟩
  | .hbm, ⟨34, _⟩ => ⟨S4x2048x4x16, .f32⟩
  | .hbm, ⟨35, _⟩ => ⟨S4x2048x4x16, .f32⟩
  | .hbm, ⟨36, _⟩ => ⟨S4x2048x4x16, .f32⟩
  | .hbm, ⟨37, _⟩ => ⟨S4x2048x4x16, .f32⟩
  | .hbm, ⟨38, _⟩ => ⟨S4x2048x4x16, .f32⟩
  | .hbm, ⟨39, _⟩ => ⟨S4x2048x4x16, .f32⟩
  | .hbm, ⟨40, _⟩ => ⟨S4x2048x4x16, .f32⟩
  | .hbm, ⟨41, _⟩ => ⟨S4x2048x4x16, .f32⟩
  | .hbm, ⟨42, _⟩ => ⟨S4x2048x4x16, .f32⟩
  | .hbm, ⟨43, _⟩ => ⟨S4x2048x4x16, .f32⟩
  | .hbm, ⟨44, _⟩ => ⟨S4x2048x4x16, .f32⟩
  | .hbm, ⟨45, _⟩ => ⟨S4x2048x4x96, .f32⟩
  | .hbm, ⟨46, _⟩ => ⟨S4x2048x4x128, .f32⟩
  | .hbm, ⟨47, _⟩ => ⟨S8x4x512, .f32⟩
  | .hbm, ⟨48, _⟩ => ⟨S8x4x4x128, .f32⟩
  | .hbm, ⟨49, _⟩ => ⟨S4, .i32⟩
  | .hbm, ⟨50, _⟩ => ⟨S_, .i32⟩
  | .hbm, ⟨51, _⟩ => ⟨S4, .i32⟩
  | .hbm, ⟨52, _⟩ => ⟨S4, .i32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S_, .f32⟩
  | .hbm, ⟨58, _⟩ => ⟨S16, .f32⟩
  | .hbm, ⟨59, _⟩ => ⟨S16, .f32⟩
  | .hbm, ⟨60, _⟩ => ⟨S16, .f32⟩
  | .hbm, ⟨61, _⟩ => ⟨S_, .f32⟩
  | .hbm, ⟨62, _⟩ => ⟨S16, .f32⟩
  | .hbm, ⟨63, _⟩ => ⟨S16, .f32⟩
  | .hbm, ⟨64, _⟩ => ⟨S_, .f32⟩
  | .hbm, ⟨65, _⟩ => ⟨S16, .f32⟩
  | .hbm, ⟨66, _⟩ => ⟨S16, .f32⟩
  | .hbm, ⟨67, _⟩ => ⟨S4, .f32⟩
  | .hbm, ⟨68, _⟩ => ⟨S4x1, .f32⟩
  | .hbm, ⟨69, _⟩ => ⟨S1x16, .f32⟩
  | .hbm, ⟨70, _⟩ => ⟨S4x16, .f32⟩
  | .hbm, ⟨71, _⟩ => ⟨S4x16, .f32⟩
  | .hbm, ⟨72, _⟩ => ⟨S4x16, .f32⟩
  | .hbm, ⟨73, _⟩ => ⟨S4x16, .f32⟩
  | .hbm, ⟨74, _⟩ => ⟨S1x4x1x16, .f32⟩
  | .hbm, ⟨75, _⟩ => ⟨S4x16, .f32⟩
  | .hbm, ⟨76, _⟩ => ⟨S1x4x1x16, .f32⟩
  | .hbm, ⟨77, _⟩ => ⟨S8x4x4x16, .f32⟩
  | .hbm, ⟨78, _⟩ => ⟨S8x4x4x16, .f32⟩
  | .hbm, ⟨79, _⟩ => ⟨S8x4x4x16, .f32⟩
  | .hbm, ⟨80, _⟩ => ⟨S8x4x4x16, .f32⟩
  | .hbm, ⟨81, _⟩ => ⟨S8x4x4x16, .f32⟩
  | .hbm, ⟨82, _⟩ => ⟨S8x4x4x16, .f32⟩
  | .hbm, ⟨83, _⟩ => ⟨S8x4x4x16, .f32⟩
  | .hbm, ⟨84, _⟩ => ⟨S8x4x4x16, .f32⟩
  | .hbm, ⟨85, _⟩ => ⟨S8x4x4x16, .f32⟩
  | .hbm, ⟨86, _⟩ => ⟨S8x4x4x16, .f32⟩
  | .hbm, ⟨87, _⟩ => ⟨S8x4x4x16, .f32⟩
  | .hbm, ⟨88, _⟩ => ⟨S8x4x4x16, .f32⟩
  | .hbm, ⟨89, _⟩ => ⟨S8x4x4x96, .f32⟩
  | .hbm, ⟨90, _⟩ => ⟨S8x4x4x128, .f32⟩
  | .hbm, ⟨91, _⟩ => ⟨S8192x512, .f32⟩
  | .hbm, ⟨92, _⟩ => ⟨S32x512, .f32⟩
  | .hbm, ⟨93, _⟩ => ⟨S_, .f32⟩
  | .hbm, ⟨94, _⟩ => ⟨S224x512, .f32⟩
  | .hbm, ⟨95, _⟩ => ⟨S8448x512, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_c_3 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_4 : Ref sig .tc := ⟨.hbm, 54, rfl⟩
abbrev main_v45 : Ref sig .tc := ⟨.hbm, 55, rfl⟩
abbrev main_v46 : Ref sig .tc := ⟨.hbm, 56, rfl⟩
abbrev main_cst_5 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_6 : Ref sig .tc := ⟨.hbm, 61, rfl⟩
abbrev main_v50 : Ref sig .tc := ⟨.hbm, 62, rfl⟩
abbrev main_v51 : Ref sig .tc := ⟨.hbm, 63, rfl⟩
abbrev main_cst_7 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_cst_8 : Ref sig .tc := ⟨.hbm, 93, rfl⟩
abbrev main_v80 : Ref sig .tc := ⟨.hbm, 94, rfl⟩
abbrev main_v81 : Ref sig .tc := ⟨.hbm, 95, rfl⟩

abbrev nD : Nat := 1
abbrev τ : Topo := Topo.v7x

variable {F : FTy → Type} [FloatOps F]
-- ==== DenseDown.lean ====
abbrev S8448x7168 : Shape := ⟨2, ![8448, 7168]⟩
abbrev S7168x2048 : Shape := ⟨2, ![7168, 2048]⟩
abbrev S8448x2048 : Shape := ⟨2, ![8448, 2048]⟩
abbrev S2048 : Shape := ⟨1, ![2048]⟩
abbrev S1x2048 : Shape := ⟨2, ![1, 2048]⟩
abbrev S1056x2048 : Shape := ⟨2, ![1056, 2048]⟩
abbrev S1056x512 : Shape := ⟨2, ![1056, 512]⟩
abbrev S512x2048 : Shape := ⟨2, ![512, 2048]⟩
abbrev S96x2048 : Shape := ⟨2, ![96, 2048]⟩
abbrev S96 : Shape := ⟨1, ![96]⟩
abbrev S96x1 : Shape := ⟨2, ![96, 1]⟩

abbrev nBuf : Space → Nat
  | .hbm => 9
  | .vmem => 12
  | .smem => 0
  | _ => 0

abbrev bufTy : (tb : Table) → Fin (tcTables nBuf tb) → BufTy
  | .hbm, ⟨0, _⟩ => ⟨S8448x7168, .bf16⟩
  | .hbm, ⟨1, _⟩ => ⟨S7168x2048, .f32⟩
  | .hbm, ⟨2, _⟩ => ⟨S8448x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S8448x2048, .f32⟩
  | .hbm, ⟨8, _⟩ => ⟨S8448x2048, .bf16⟩
  | .local _ .vmem, ⟨0, _⟩ => ⟨S1056x2048, .f32⟩
  | .local _ .vmem, ⟨1, _⟩ => ⟨S1056x512, .bf16⟩
  | .local _ .vmem, ⟨2, _⟩ => ⟨S1056x512, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S1056x2048, .f32⟩
  | .local _ .vmem, ⟨8, _⟩ => ⟨S1056x2048, .f32⟩
  | .local _ .vmem, ⟨9, _⟩ => ⟨S1056x2048, .bf16⟩
  | .local _ .vmem, ⟨10, _⟩ => ⟨S1056x2048, .bf16⟩
  | .local _ .vmem, ⟨11, _⟩ => ⟨S1056x2048, .f32⟩
  | _, _ => ⟨S8448x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 14], ![false, false]⟩

def k0_cond2 (i : grid0.Coords) : BitVec 1 :=
  let arg1 : BitVec 32 := BitVec.ofNat 32 (i 1).val
  let c13_i32 : BitVec 32 := 13#32
  let v12 : BitVec 1 := Scalar.cmpi .eq arg1 c13_i32
  let v13 : BitVec 32 := Scalar.extui v12
  let c0_i32_8 : BitVec 32 := 0#32
  let v14 : BitVec 1 := Scalar.cmpi .ne v13 c0_i32_8
  v14

@[reducible] def k0_t1_loop : Scf.Loop 32 :=
  let c0_i32_9 : BitVec 32 := 0#32
  let c11_i32 : BitVec 32 := 11#32
  let v15 : BitVec 32 := Scalar.addi c0_i32_9 c11_i32
  let c1_i32 : BitVec 32 := 1#32
  ⟨c0_i32_9, v15, c1_i32⟩
def k0_mult1 (k0_t1 : Fin k0_t1_loop.trips) : BitVec 32 :=
  let c0_i32_9 : BitVec 32 := 0#32
  let c1_i32 : BitVec 32 := 1#32
  let arg10 : BitVec 32 := Scf.iv c0_i32_9 c1_i32 k0_t1
  let c96_i32 : BitVec 32 := 96#32
  let v16 : BitVec 32 := Scalar.muli arg10 c96_i32
  v16
def k0_off1 (k0_t1 : Fin k0_t1_loop.trips) : Fin 2 → Nat :=
  let c0_i32_9 : BitVec 32 := 0#32
  let c1_i32 : BitVec 32 := 1#32
  let arg10 : BitVec 32 := Scf.iv c0_i32_9 c1_i32 k0_t1
  let c96_i32 : BitVec 32 := 96#32
  let v16 : BitVec 32 := Scalar.muli arg10 c96_i32
  let v17 : BitVec 32 := v16
  let v18 : Index := Scalar.indexCast v17
  let c0_11 : Index := 0#32
  ![v18.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1056x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1056x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1056x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1056x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== DenseDownReferenceIdeal.lean ====
abbrev S8448x7168 : Shape := ⟨2, ![8448, 7168]⟩
abbrev S7168x2048 : Shape := ⟨2, ![7168, 2048]⟩
abbrev S8448x2048 : Shape := ⟨2, ![8448, 2048]⟩
abbrev S2048 : Shape := ⟨1, ![2048]⟩
abbrev S_ : Shape := ⟨0, ![]⟩
abbrev S8448 : Shape := ⟨1, ![8448]⟩
abbrev S8448x1 : Shape := ⟨2, ![8448, 1]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8448x7168, .bf16⟩
  | .hbm, ⟨1, _⟩ => ⟨S7168x2048, .f32⟩
  | .hbm, ⟨2, _⟩ => ⟨S8448x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S8448x2048, .f32⟩
  | .hbm, ⟨7, _⟩ => ⟨S8448x2048, .f32⟩
  | .hbm, ⟨8, _⟩ => ⟨S8448x7168, .f32⟩
  | .hbm, ⟨9, _⟩ => ⟨S8448x2048, .f32⟩
  | .hbm, ⟨10, _⟩ => ⟨S8448x2048, .f32⟩
  | .hbm, ⟨11, _⟩ => ⟨S_, .f32⟩
  | .hbm, ⟨12, _⟩ => ⟨S8448, .f32⟩
  | .hbm, ⟨13, _⟩ => ⟨S8448x1, .f32⟩
  | .hbm, ⟨14, _⟩ => ⟨S_, .f32⟩
  | .hbm, ⟨15, _⟩ => ⟨S8448x1, .f32⟩
  | .hbm, ⟨16, _⟩ => ⟨S8448x1, .f32⟩
  | .hbm, ⟨17, _⟩ => ⟨S8448x2048, .f32⟩
  | .hbm, ⟨18, _⟩ => ⟨S8448x2048, .f32⟩
  | .hbm, ⟨19, _⟩ => ⟨S8448x2048, .f32⟩
  | .hbm, ⟨20, _⟩ => ⟨S_, .f32⟩
  | .hbm, ⟨21, _⟩ => ⟨S8448, .f32⟩
  | .hbm, ⟨22, _⟩ => ⟨S8448x1, .f32⟩
  | .hbm, ⟨23, _⟩ => ⟨S_, .f32⟩
  | .hbm, ⟨24, _⟩ => ⟨S8448x1, .f32⟩
  | .hbm, ⟨25, _⟩ => ⟨S8448x1, .f32⟩
  | .hbm, ⟨26, _⟩ => ⟨S8448x2048, .f32⟩
  | .hbm, ⟨27, _⟩ => ⟨S8448x2048, .f32⟩
  | .hbm, ⟨28, _⟩ => ⟨S_, .f32⟩
  | .hbm, ⟨29, _⟩ => ⟨S8448x1, .f32⟩
  | .hbm, ⟨30, _⟩ => ⟨S8448x1, .f32⟩
  | .hbm, ⟨31, _⟩ => ⟨S8448x1, .f32⟩
  | .hbm, ⟨32, _⟩ => ⟨S8448x2048, .f32⟩
  | .hbm, ⟨33, _⟩ => ⟨S8448x2048, .f32⟩
  | .hbm, ⟨34, _⟩ => ⟨S1x2048, .f32⟩
  | .hbm, ⟨35, _⟩ => ⟨S8448x2048, .f32⟩
  | .hbm, ⟨36, _⟩ => ⟨S8448x2048, .f32⟩
  | .hbm, ⟨37, _⟩ => ⟨S1x2048, .f32⟩
  | .hbm, ⟨38, _⟩ => ⟨S8448x2048, .f32⟩
  | .hbm, ⟨39, _⟩ => ⟨S8448x2048, .f32⟩
  | .hbm, ⟨40, _⟩ => ⟨S8448x2048, .bf16⟩
  | _, _ => ⟨S8448x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== AttentionOut.lean ====
abbrev S8448x2048 : Shape := ⟨2, ![8448, 2048]⟩
abbrev S2048x2048 : Shape := ⟨2, ![2048, 2048]⟩
abbrev S2048 : Shape := ⟨1, ![2048]⟩
abbrev S1x2048 : Shape := ⟨2, ![1, 2048]⟩
abbrev S1056x2048 : Shape := ⟨2, ![1056, 2048]⟩
abbrev S1056x512 : Shape := ⟨2, ![1056, 512]⟩
abbrev S512x2048 : Shape := ⟨2, ![512, 2048]⟩
abbrev S96x2048 : Shape := ⟨2, ![96, 2048]⟩
abbrev S96 : Shape := ⟨1, ![96]⟩
abbrev S96x1 : Shape := ⟨2, ![96, 1]⟩

abbrev nBuf : Space → Nat
  | .hbm => 9
  | .vmem => 12
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .f32⟩
  | .hbm, ⟨2, _⟩ => ⟨S8448x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S8448x2048, .f32⟩
  | .hbm, ⟨8, _⟩ => ⟨S8448x2048, .bf16⟩
  | .local _ .vmem, ⟨0, _⟩ => ⟨S1056x2048, .f32⟩
  | .local _ .vmem, ⟨1, _⟩ => ⟨S1056x512, .bf16⟩
  | .local _ .vmem, ⟨2, _⟩ => ⟨S1056x512, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S1056x2048, .f32⟩
  | .local _ .vmem, ⟨8, _⟩ => ⟨S1056x2048, .f32⟩
  | .local _ .vmem, ⟨9, _⟩ => ⟨S1056x2048, .bf16⟩
  | .local _ .vmem, ⟨10, _⟩ => ⟨S1056x2048, .bf16⟩
  | .local _ .vmem, ⟨11, _⟩ => ⟨S1056x2048, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

@[reducible] def k0_t1_loop : Scf.Loop 32 :=
  let c0_i32_9 : BitVec 32 := 0#32
  let c11_i32 : BitVec 32 := 11#32
  let v15 : BitVec 32 := Scalar.addi c0_i32_9 c11_i32
  let c1_i32 : BitVec 32 := 1#32
  ⟨c0_i32_9, v15, c1_i32⟩
def k0_mult1 (k0_t1 : Fin k0_t1_loop.trips) : BitVec 32 :=
  let c0_i32_9 : BitVec 32 := 0#32
  let c1_i32 : BitVec 32 := 1#32
  let arg10 : BitVec 32 := Scf.iv c0_i32_9 c1_i32 k0_t1
  let c96_i32 : BitVec 32 := 96#32
  let v16 : BitVec 32 := Scalar.muli arg10 c96_i32
  v16
def k0_off1 (k0_t1 : Fin k0_t1_loop.trips) : Fin 2 → Nat :=
  let c0_i32_9 : BitVec 32 := 0#32
  let c1_i32 : BitVec 32 := 1#32
  let arg10 : BitVec 32 := Scf.iv c0_i32_9 c1_i32 k0_t1
  let c96_i32 : BitVec 32 := 96#32
  let v16 : BitVec 32 := Scalar.muli arg10 c96_i32
  let v17 : BitVec 32 := v16
  let v18 : Index := Scalar.indexCast v17
  let c0_11 : Index := 0#32
  ![v18.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1056x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1056x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1056x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1056x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== AttentionOutReferenceIdeal.lean ====
abbrev S8448x2048 : Shape := ⟨2, ![8448, 2048]⟩
abbrev S2048x2048 : Shape := ⟨2, ![2048, 2048]⟩
abbrev S2048 : Shape := ⟨1, ![2048]⟩
abbrev S_ : Shape := ⟨0, ![]⟩
abbrev S8448 : Shape := ⟨1, ![8448]⟩
abbrev S8448x1 : Shape := ⟨2, ![8448, 1]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .f32⟩
  | .hbm, ⟨2, _⟩ => ⟨S8448x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S8448x2048, .f32⟩
  | .hbm, ⟨7, _⟩ => ⟨S8448x2048, .f32⟩
  | .hbm, ⟨8, _⟩ => ⟨S8448x2048, .f32⟩
  | .hbm, ⟨9, _⟩ => ⟨S8448x2048, .f32⟩
  | .hbm, ⟨10, _⟩ => ⟨S8448x2048, .f32⟩
  | .hbm, ⟨11, _⟩ => ⟨S_, .f32⟩
  | .hbm, ⟨12, _⟩ => ⟨S8448, .f32⟩
  | .hbm, ⟨13, _⟩ => ⟨S8448x1, .f32⟩
  | .hbm, ⟨14, _⟩ => ⟨S_, .f32⟩
  | .hbm, ⟨15, _⟩ => ⟨S8448x1, .f32⟩
  | .hbm, ⟨16, _⟩ => ⟨S8448x1, .f32⟩
  | .hbm, ⟨17, _⟩ => ⟨S8448x2048, .f32⟩
  | .hbm, ⟨18, _⟩ => ⟨S8448x2048, .f32⟩
  | .hbm, ⟨19, _⟩ => ⟨S8448x2048, .f32⟩
  | .hbm, ⟨20, _⟩ => ⟨S_, .f32⟩
  | .hbm, ⟨21, _⟩ => ⟨S8448, .f32⟩
  | .hbm, ⟨22, _⟩ => ⟨S8448x1, .f32⟩
  | .hbm, ⟨23, _⟩ => ⟨S_, .f32⟩
  | .hbm, ⟨24, _⟩ => ⟨S8448x1, .f32⟩
  | .hbm, ⟨25, _⟩ => ⟨S8448x1, .f32⟩
  | .hbm, ⟨26, _⟩ => ⟨S8448x2048, .f32⟩
  | .hbm, ⟨27, _⟩ => ⟨S8448x2048, .f32⟩
  | .hbm, ⟨28, _⟩ => ⟨S_, .f32⟩
  | .hbm, ⟨29, _⟩ => ⟨S8448x1, .f32⟩
  | .hbm, ⟨30, _⟩ => ⟨S8448x1, .f32⟩
  | .hbm, ⟨31, _⟩ => ⟨S8448x1, .f32⟩
  | .hbm, ⟨32, _⟩ => ⟨S8448x2048, .f32⟩
  | .hbm, ⟨33, _⟩ => ⟨S8448x2048, .f32⟩
  | .hbm, ⟨34, _⟩ => ⟨S1x2048, .f32⟩
  | .hbm, ⟨35, _⟩ => ⟨S8448x2048, .f32⟩
  | .hbm, ⟨36, _⟩ => ⟨S8448x2048, .f32⟩
  | .hbm, ⟨37, _⟩ => ⟨S1x2048, .f32⟩
  | .hbm, ⟨38, _⟩ => ⟨S8448x2048, .f32⟩
  | .hbm, ⟨39, _⟩ => ⟨S8448x2048, .f32⟩
  | .hbm, ⟨40, _⟩ => ⟨S8448x2048, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== PlainQueries.lean ====
abbrev S4x2048x2048 : Shape := ⟨3, ![4, 2048, 2048]⟩
abbrev S8x4x2048 : Shape := ⟨3, ![8, 4, 2048]⟩
abbrev S2048x2048 : Shape := ⟨2, ![2048, 2048]⟩
abbrev S8192x2048 : Shape := ⟨2, ![8192, 2048]⟩
abbrev S32x2048 : Shape := ⟨2, ![32, 2048]⟩
abbrev S_ : Shape := ⟨0, ![]⟩
abbrev S224x2048 : Shape := ⟨2, ![224, 2048]⟩
abbrev S8448x2048 : Shape := ⟨2, ![8448, 2048]⟩
abbrev S1056x2048 : Shape := ⟨2, ![1056, 2048]⟩
abbrev S2048x512 : Shape := ⟨2, ![2048, 512]⟩
abbrev S1056x512 : Shape := ⟨2, ![1056, 512]⟩

abbrev nBuf : Space → Nat
  | .hbm => 10
  | .vmem => 6
  | .smem => 0
  | _ => 0

abbrev bufTy : (tb : Table) → Fin (tcTables nBuf tb) → BufTy
  | .hbm, ⟨0, _⟩ => ⟨S4x2048x2048, .f32⟩
  | .hbm, ⟨1, _⟩ => ⟨S8x4x2048, .f32⟩
  | .hbm, ⟨2, _⟩ => ⟨S2048x2048, .f32⟩
  | .hbm, ⟨3, _⟩ => ⟨S8192x2048, .f32⟩
  | .hbm, ⟨4, _⟩ => ⟨S32x2048, .f32⟩
  | .hbm, ⟨5, _⟩ => ⟨S_, .f32⟩
  | .hbm, ⟨6, _⟩ => ⟨S224x2048, .f32⟩
  | .hbm, ⟨7, _⟩ => ⟨S8448x2048, .f32⟩
  | .hbm, ⟨8, _⟩ => ⟨S8448x2048, .bf16⟩
  | .hbm, ⟨9, _⟩ => ⟨S8448x2048, .f32⟩
  | .local _ .vmem, ⟨0, _⟩ => ⟨S1056x2048, .bf16⟩
  | .local _ .vmem, ⟨1, _⟩ => ⟨S1056x2048, .bf16⟩
  | .local _ .vmem, ⟨2, _⟩ => ⟨S2048x512, .f32⟩
  | .local _ .vmem, ⟨3, _⟩ => ⟨S2048x512, .f32⟩
  | .local _ .vmem, ⟨4, _⟩ => ⟨S1056x512, .f32⟩
  | .local _ .vmem, ⟨5, _⟩ => ⟨S1056x512, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PlainQueriesReferenceIdeal.lean ====
abbrev S4x2048x2048 : Shape := ⟨3, ![4, 2048, 2048]⟩
abbrev S8x4x2048 : Shape := ⟨3, ![8, 4, 2048]⟩
abbrev S2048x2048 : Shape := ⟨2, ![2048, 2048]⟩
abbrev S8192x2048 : Shape := ⟨2, ![8192, 2048]⟩
abbrev S32x2048 : Shape := ⟨2, ![32, 2048]⟩
abbrev S_ : Shape := ⟨0, ![]⟩
abbrev S224x2048 : Shape := ⟨2, ![224, 2048]⟩
abbrev S8448x2048 : Shape := ⟨2, ![8448, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8x4x2048, .f32⟩
  | .hbm, ⟨2, _⟩ => ⟨S2048x2048, .f32⟩
  | .hbm, ⟨3, _⟩ => ⟨S4x2048x2048, .f32⟩
  | .hbm, ⟨4, _⟩ => ⟨S8x4x2048, .f32⟩
  | .hbm, ⟨5, _⟩ => ⟨S8192x2048, .f32⟩
  | .hbm, ⟨6, _⟩ => ⟨S32x2048, .f32⟩
  | .hbm, ⟨7, _⟩ => ⟨S_, .f32⟩
  | .hbm, ⟨8, _⟩ => ⟨S224x2048, .f32⟩
  | .hbm, ⟨9, _⟩ => ⟨S8448x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Queries.lean ====
abbrev S4x2048x2048 : Shape := ⟨3, ![4, 2048, 2048]⟩
abbrev S8x4x2048 : Shape := ⟨3, ![8, 4, 2048]⟩
abbrev S2048x2048 : Shape := ⟨2, ![2048, 2048]⟩
abbrev S2048 : Shape := ⟨1, ![2048]⟩
abbrev S1x2048 : Shape := ⟨2, ![1, 2048]⟩
abbrev S4x2048 : Shape := ⟨2, ![4, 2048]⟩
abbrev S8192 : Shape := ⟨1, ![8192]⟩
abbrev S4 : Shape := ⟨1, ![4]⟩
abbrev S_ : Shape := ⟨0, ![]⟩
abbrev S1x4 : Shape := ⟨2, ![1, 4]⟩
abbrev S8x4 : Shape := ⟨2, ![8, 4]⟩
abbrev S32 : Shape := ⟨1, ![32]⟩
abbrev S224 : Shape := ⟨1, ![224]⟩
abbrev S8448 : Shape := ⟨1, ![8448]⟩
abbrev S8192x2048 : Shape := ⟨2, ![8192, 2048]⟩
abbrev S32x2048 : Shape := ⟨2, ![32, 2048]⟩
abbrev S224x2048 : Shape := ⟨2, ![224, 2048]⟩
abbrev S8448x2048 : Shape := ⟨2, ![8448, 2048]⟩
abbrev S16 : Shape := ⟨1, ![16]⟩
abbrev S8448x1 : Shape := ⟨2, ![8448, 1]⟩
abbrev S1x16 : Shape := ⟨2, ![1, 16]⟩
abbrev S8448x16 : Shape := ⟨2, ![8448, 16]⟩
abbrev S8448x96 : Shape := ⟨2, ![8448, 96]⟩
abbrev S8448x112 : Shape := ⟨2, ![8448, 112]⟩
abbrev S8448x128 : Shape := ⟨2, ![8448, 128]⟩
abbrev S1056x2048 : Shape := ⟨2, ![1056, 2048]⟩
abbrev S2048x512 : Shape := ⟨2, ![2048, 512]⟩
abbrev S1056x128 : Shape := ⟨2, ![1056, 128]⟩
abbrev S1056x512 : Shape := ⟨2, ![1056, 512]⟩

abbrev nBuf : Space → Nat
  | .hbm => 58
  | .vmem => 12
  | .smem => 0
  | _ => 0

abbrev bufTy : (tb : Table) → Fin (tcTables nBuf tb) → BufTy
  | .hbm, ⟨0, _⟩ => ⟨S4x2048x2048, .f32⟩
  | .hbm, ⟨1, _⟩ => ⟨S8x4x2048, .f32⟩
  | .hbm, ⟨2, _⟩ => ⟨S2048x2048, .f32⟩
  | .hbm, ⟨3, _⟩ => ⟨S2048, .i32⟩
  | .hbm, ⟨4, _⟩ => ⟨S1x2048, .i32⟩
  | .hbm, ⟨5, _⟩ => ⟨S4x2048, .i32⟩
  | .hbm, ⟨6, _⟩ => ⟨S8192, .i32⟩
  | .hbm, ⟨7, _⟩ => ⟨S4, .i32⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S1x4, .i32⟩
  | .hbm, ⟨12, _⟩ => ⟨S8x4, .i32⟩
  | .hbm, ⟨13, _⟩ => ⟨S32, .i32⟩
  | .hbm, ⟨14, _⟩ => ⟨S_, .i32⟩
  | .hbm, ⟨15, _⟩ => ⟨S224, .i32⟩
  | .hbm, ⟨16, _⟩ => ⟨S8448, .i32⟩
  | .hbm, ⟨17, _⟩ => ⟨S8192x2048, .f32⟩
  | .hbm, ⟨18, _⟩ => ⟨S32x2048, .f32⟩
  | .hbm, ⟨19, _⟩ => ⟨S_, .f32⟩
  | .hbm, ⟨20, _⟩ => ⟨S224x2048, .f32⟩
  | .hbm, ⟨21, _⟩ => ⟨S8448x2048, .f32⟩
  | .hbm, ⟨22, _⟩ => ⟨S8448x2048, .bf16⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S_, .f32⟩
  | .hbm, ⟨35, _⟩ => ⟨S16, .f32⟩
  | .hbm, ⟨36, _⟩ => ⟨S16, .f32⟩
  | .hbm, ⟨37, _⟩ => ⟨S8448, .f32⟩
  | .hbm, ⟨38, _⟩ => ⟨S8448x1, .f32⟩
  | .hbm, ⟨39, _⟩ => ⟨S1x16, .f32⟩
  | .hbm, ⟨40, _⟩ => ⟨S8448x16, .f32⟩
  | .hbm, ⟨41, _⟩ => ⟨S8448x16, .f32⟩
  | .hbm, ⟨42, _⟩ => ⟨S8448x16, .f32⟩
  | .hbm, ⟨43, _⟩ => ⟨S8448x16, .f32⟩
  | .hbm, ⟨44, _⟩ => ⟨S8448x16, .f32⟩
  | .hbm, ⟨45, _⟩ => ⟨S_, .f32⟩
  | .hbm, ⟨46, _⟩ => ⟨S8448x96, .f32⟩
  | .hbm, ⟨47, _⟩ => ⟨S_, .f32⟩
  | .hbm, ⟨48, _⟩ => ⟨S8448x112, .f32⟩
  | .hbm, ⟨49, _⟩ => ⟨S8448x128, .f32⟩
  | .hbm, ⟨50, _⟩ => ⟨S8448x16, .f32⟩
  | .hbm, ⟨51, _⟩ => ⟨S8448x128, .f32⟩
  | .hbm, ⟨52, _⟩ => ⟨S_, .f32⟩
  | .hbm, ⟨53, _⟩ => ⟨S8448x16, .f32⟩
  | .hbm, ⟨54, _⟩ => ⟨S_, .f32⟩
  | .hbm, ⟨55, _⟩ => ⟨S8448x96, .f32⟩
  | .hbm, ⟨56, _⟩ => ⟨S8448x128, .f32⟩
  | .hbm, ⟨57, _⟩ => ⟨S8448x2048, .f32⟩
  | .local _ .vmem, ⟨0, _⟩ => ⟨S1056x2048, .bf16⟩
  | .local _ .vmem, ⟨1, _⟩ => ⟨S1056x2048, .bf16⟩
  | .local _ .vmem, ⟨2, _⟩ => ⟨S2048x512, .f32⟩
  | .local _ .vmem, ⟨3, _⟩ => ⟨S2048x512, .f32⟩
  | .local _ .vmem, ⟨4, _⟩ => ⟨S1056x128, .f32⟩
  | .local _ .vmem, ⟨5, _⟩ => ⟨S1056x128, .f32⟩
  | .local _ .vmem, ⟨6, _⟩ => ⟨S1056x128, .f32⟩
  | .local _ .vmem, ⟨7, _⟩ => ⟨S1056x128, .f32⟩
  | .local _ .vmem, ⟨8, _⟩ => ⟨S1056x128, .f32⟩
  | .local _ .vmem, ⟨9, _⟩ => ⟨S1056x128, .f32⟩
  | .local _ .vmem, ⟨10, _⟩ => ⟨S1056x512, .f32⟩
  | .local _ .vmem, ⟨11, _⟩ => ⟨S1056x512, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_7 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1056x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1056x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1056x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1056x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QueriesReferenceIdeal.lean ====
abbrev S4x2048x2048 : Shape := ⟨3, ![4, 2048, 2048]⟩
abbrev S8x4x2048 : Shape := ⟨3, ![8, 4, 2048]⟩
abbrev S2048x2048 : Shape := ⟨2, ![2048, 2048]⟩
abbrev S4x2048x16x128 : Shape := ⟨4, ![4, 2048, 16, 128]⟩
abbrev S2048 : Shape := ⟨1, ![2048]⟩
abbrev S_ : Shape := ⟨0, ![]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S1x2048x1x16 : Shape := ⟨4, ![1, 2048, 1, 16]⟩
abbrev S4x2048x16x16 : Shape := ⟨4, ![4, 2048, 16, 16]⟩
abbrev S4x2048x16x96 : Shape := ⟨4, ![4, 2048, 16, 96]⟩
abbrev S8x4x16x128 : Shape := ⟨4, ![8, 4, 16, 128]⟩
abbrev S4 : Shape := ⟨1, ![4]⟩
abbrev S4x1 : Shape := ⟨2, ![4, 1]⟩
abbrev S4x16 : Shape := ⟨2, ![4, 16]⟩
abbrev S1x4x1x16 : Shape := ⟨4, ![1, 4, 1, 16]⟩
abbrev S8x4x16x16 : Shape := ⟨4, ![8, 4, 16, 16]⟩
abbrev S8x4x16x96 : Shape := ⟨4, ![8, 4, 16, 96]⟩
abbrev S8192x2048 : Shape := ⟨2, ![8192, 2048]⟩
abbrev S32x2048 : Shape := ⟨2, ![32, 2048]⟩
abbrev S224x2048 : Shape := ⟨2, ![224, 2048]⟩
abbrev S8448x2048 : Shape := ⟨2, ![8448, 2048]⟩

abbrev nBuf : Space → Nat
  | .hbm => 96
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8x4x2048, .f32⟩
  | .hbm, ⟨2, _⟩ => ⟨S2048x2048, .f32⟩
  | .hbm, ⟨3, _⟩ => ⟨S4x2048x2048, .f32⟩
  | .hbm, ⟨4, _⟩ => ⟨S4x2048x16x128, .f32⟩
  | .hbm, ⟨5, _⟩ => ⟨S2048, .i32⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S2048, .f32⟩
  | .hbm, ⟨24, _⟩ => ⟨S2048x1, .f32⟩
  | .hbm, ⟨25, _⟩ => ⟨S1x16, .f32⟩
  | .hbm, ⟨26, _⟩ => ⟨S2048x16, .f32⟩
  | .hbm, ⟨27, _⟩ => ⟨S2048x16, .f32⟩
  | .hbm, ⟨28, _⟩ => ⟨S2048x16, .f32⟩
  | .hbm, ⟨29, _⟩ => ⟨S2048x16, .f32⟩
  | .hbm, ⟨30, _⟩ => ⟨S1x2048x1x16, .f32⟩
  | .hbm, ⟨31, _⟩ => ⟨S2048x16, .f32⟩
  | .hbm, ⟨32, _⟩ => ⟨S1x2048x1x16, .f32⟩
  | .hbm, ⟨33, _⟩ => ⟨S4x2048x16x16, .f32⟩
  | .hbm, ⟨34, _⟩ => ⟨S4x2048x16x16, .f32⟩
  | .hbm, ⟨35, _⟩ => ⟨S4x2048x16x16, .f32⟩
  | .hbm, ⟨36, _⟩ => ⟨S4x2048x16x16, .f32⟩
  | .hbm, ⟨37, _⟩ => ⟨S4x2048x16x16, .f32⟩
  | .hbm, ⟨38, _⟩ => ⟨S4x2048x16x16, .f32⟩
  | .hbm, ⟨39, _⟩ => ⟨S4x2048x16x16, .f32⟩
  | .hbm, ⟨40, _⟩ => ⟨S4x2048x16x16, .f32⟩
  | .hbm, ⟨41, _⟩ => ⟨S4x2048x16x16, .f32⟩
  | .hbm, ⟨42, _⟩ => ⟨S4x2048x16x16, .f32⟩
  | .hbm, ⟨43, _⟩ => ⟨S4x2048x16x16, .f32⟩
  | .hbm, ⟨44, _⟩ => ⟨S4x2048x16x16, .f32⟩
  | .hbm, ⟨45, _⟩ => ⟨S4x2048x16x96, .f32⟩
  | .hbm, ⟨46, _⟩ => ⟨S4x2048x16x128, .f32⟩
  | .hbm, ⟨47, _⟩ => ⟨S8x4x2048, .f32⟩
  | .hbm, ⟨48, _⟩ => ⟨S8x4x16x128, .f32⟩
  | .hbm, ⟨49, _⟩ => ⟨S4, .i32⟩
  | .hbm, ⟨50, _⟩ => ⟨S_, .i32⟩
  | .hbm, ⟨51, _⟩ => ⟨S4, .i32⟩
  | .hbm, ⟨52, _⟩ => ⟨S4, .i32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S_, .f32⟩
  | .hbm, ⟨58, _⟩ => ⟨S16, .f32⟩
  | .hbm, ⟨59, _⟩ => ⟨S16, .f32⟩
  | .hbm, ⟨60, _⟩ => ⟨S16, .f32⟩
  | .hbm, ⟨61, _⟩ => ⟨S_, .f32⟩
  | .hbm, ⟨62, _⟩ => ⟨S16, .f32⟩
  | .hbm, ⟨63, _⟩ => ⟨S16, .f32⟩
  | .hbm, ⟨64, _⟩ => ⟨S_, .f32⟩
  | .hbm, ⟨65, _⟩ => ⟨S16, .f32⟩
  | .hbm, ⟨66, _⟩ => ⟨S16, .f32⟩
  | .hbm, ⟨67, _⟩ => ⟨S4, .f32⟩
  | .hbm, ⟨68, _⟩ => ⟨S4x1, .f32⟩
  | .hbm, ⟨69, _⟩ => ⟨S1x16, .f32⟩
  | .hbm, ⟨70, _⟩ => ⟨S4x16, .f32⟩
  | .hbm, ⟨71, _⟩ => ⟨S4x16, .f32⟩
  | .hbm, ⟨72, _⟩ => ⟨S4x16, .f32⟩
  | .hbm, ⟨73, _⟩ => ⟨S4x16, .f32⟩
  | .hbm, ⟨74, _⟩ => ⟨S1x4x1x16, .f32⟩
  | .hbm, ⟨75, _⟩ => ⟨S4x16, .f32⟩
  | .hbm, ⟨76, _⟩ => ⟨S1x4x1x16, .f32⟩
  | .hbm, ⟨77, _⟩ => ⟨S8x4x16x16, .f32⟩
  | .hbm, ⟨78, _⟩ => ⟨S8x4x16x16, .f32⟩
  | .hbm, ⟨79, _⟩ => ⟨S8x4x16x16, .f32⟩
  | .hbm, ⟨80, _⟩ => ⟨S8x4x16x16, .f32⟩
  | .hbm, ⟨81, _⟩ => ⟨S8x4x16x16, .f32⟩
  | .hbm, ⟨82, _⟩ => ⟨S8x4x16x16, .f32⟩
  | .hbm, ⟨83, _⟩ => ⟨S8x4x16x16, .f32⟩
  | .hbm, ⟨84, _⟩ => ⟨S8x4x16x16, .f32⟩
  | .hbm, ⟨85, _⟩ => ⟨S8x4x16x16, .f32⟩
  | .hbm, ⟨86, _⟩ => ⟨S8x4x16x16, .f32⟩
  | .hbm, ⟨87, _⟩ => ⟨S8x4x16x16, .f32⟩
  | .hbm, ⟨88, _⟩ => ⟨S8x4x16x16, .f32⟩
  | .hbm, ⟨89, _⟩ => ⟨S8x4x16x96, .f32⟩
  | .hbm, ⟨90, _⟩ => ⟨S8x4x16x128, .f32⟩
  | .hbm, ⟨91, _⟩ => ⟨S8192x2048, .f32⟩
  | .hbm, ⟨92, _⟩ => ⟨S32x2048, .f32⟩
  | .hbm, ⟨93, _⟩ => ⟨S_, .f32⟩
  | .hbm, ⟨94, _⟩ => ⟨S224x2048, .f32⟩
  | .hbm, ⟨95, _⟩ => ⟨S8448x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_c_3 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_4 : Ref sig .tc := ⟨.hbm, 54, rfl⟩
abbrev main_v45 : Ref sig .tc := ⟨.hbm, 55, rfl⟩
abbrev main_v46 : Ref sig .tc := ⟨.hbm, 56, rfl⟩
abbrev main_cst_5 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_6 : Ref sig .tc := ⟨.hbm, 61, rfl⟩
abbrev main_v50 : Ref sig .tc := ⟨.hbm, 62, rfl⟩
abbrev main_v51 : Ref sig .tc := ⟨.hbm, 63, rfl⟩
abbrev main_cst_7 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_cst_8 : Ref sig .tc := ⟨.hbm, 93, rfl⟩
abbrev main_v80 : Ref sig .tc := ⟨.hbm, 94, rfl⟩
abbrev main_v81 : Ref sig .tc := ⟨.hbm, 95, rfl⟩

abbrev nD : Nat := 1
abbrev τ : Topo := Topo.v7x

variable {F : FTy → Type} [FloatOps F]
-- ==== PooledNorm.lean ====
abbrev S8448x2048 : Shape := ⟨2, ![8448, 2048]⟩
abbrev S2048 : Shape := ⟨1, ![2048]⟩
abbrev S1x2048 : Shape := ⟨2, ![1, 2048]⟩
abbrev S528x2048 : Shape := ⟨2, ![528, 2048]⟩
abbrev S528 : Shape := ⟨1, ![528]⟩
abbrev S528x1 : Shape := ⟨2, ![528, 1]⟩

abbrev nBuf : Space → Nat
  | .hbm => 8
  | .vmem => 10
  | .smem => 0
  | _ => 0

abbrev bufTy : (tb : Table) → Fin (tcTables nBuf tb) → BufTy
  | .hbm, ⟨0, _⟩ => ⟨S8448x2048, .f32⟩
  | .hbm, ⟨1, _⟩ => ⟨S8448x2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S8448x2048, .f32⟩
  | .hbm, ⟨7, _⟩ => ⟨S8448x2048, .bf16⟩
  | .local _ .vmem, ⟨0, _⟩ => ⟨S528x2048, .f32⟩
  | .local _ .vmem, ⟨1, _⟩ => ⟨S528x2048, .f32⟩
  | .local _ .vmem, ⟨2, _⟩ => ⟨S528x2048, .f32⟩
  | .local _ .vmem, ⟨3, _⟩ => ⟨S528x2048, .f32⟩
  | .local _ .vmem, ⟨4, _⟩ => ⟨S1x2048, .f32⟩
  | .local _ .vmem, ⟨5, _⟩ => ⟨S1x2048, .f32⟩
  | .local _ .vmem, ⟨6, _⟩ => ⟨S528x2048, .f32⟩
  | .local _ .vmem, ⟨7, _⟩ => ⟨S528x2048, .f32⟩
  | .local _ .vmem, ⟨8, _⟩ => ⟨S528x2048, .bf16⟩
  | .local _ .vmem, ⟨9, _⟩ => ⟨S528x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S528x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S528x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S528x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S528x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PooledNormReferenceIdeal.lean ====
abbrev S8448x2048 : Shape := ⟨2, ![8448, 2048]⟩
abbrev S2048 : Shape := ⟨1, ![2048]⟩
abbrev S_ : Shape := ⟨0, ![]⟩
abbrev S8448 : Shape := ⟨1, ![8448]⟩
abbrev S8448x1 : Shape := ⟨2, ![8448, 1]⟩
abbrev S1x2048 : Shape := ⟨2, ![1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8448x2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S8448x2048, .f32⟩
  | .hbm, ⟨6, _⟩ => ⟨S8448x2048, .f32⟩
  | .hbm, ⟨7, _⟩ => ⟨S8448x2048, .f32⟩
  | .hbm, ⟨8, _⟩ => ⟨S_, .f32⟩
  | .hbm, ⟨9, _⟩ => ⟨S8448, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S8448x2048, .f32⟩
  | .hbm, ⟨15, _⟩ => ⟨S8448x2048, .f32⟩
  | .hbm, ⟨16, _⟩ => ⟨S8448x2048, .f32⟩
  | .hbm, ⟨17, _⟩ => ⟨S_, .f32⟩
  | .hbm, ⟨18, _⟩ => ⟨S8448, .f32⟩
  | .hbm, ⟨19, _⟩ => ⟨S8448x1, .f32⟩
  | .hbm, ⟨20, _⟩ => ⟨S_, .f32⟩
  | .hbm, ⟨21, _⟩ => ⟨S8448x1, .f32⟩
  | .hbm, ⟨22, _⟩ => ⟨S8448x1, .f32⟩
  | .hbm, ⟨23, _⟩ => ⟨S8448x2048, .f32⟩
  | .hbm, ⟨24, _⟩ => ⟨S8448x2048, .f32⟩
  | .hbm, ⟨25, _⟩ => ⟨S_, .f32⟩
  | .hbm, ⟨26, _⟩ => ⟨S8448x1, .f32⟩
  | .hbm, ⟨27, _⟩ => ⟨S8448x1, .f32⟩
  | .hbm, ⟨28, _⟩ => ⟨S8448x1, .f32⟩
  | .hbm, ⟨29, _⟩ => ⟨S8448x2048, .f32⟩
  | .hbm, ⟨30, _⟩ => ⟨S8448x2048, .f32⟩
  | .hbm, ⟨31, _⟩ => ⟨S1x2048, .f32⟩
  | .hbm, ⟨32, _⟩ => ⟨S8448x2048, .f32⟩
  | .hbm, ⟨33, _⟩ => ⟨S8448x2048, .f32⟩
  | .hbm, ⟨34, _⟩ => ⟨S1x2048, .f32⟩
  | .hbm, ⟨35, _⟩ => ⟨S8448x2048, .f32⟩
  | .hbm, ⟨36, _⟩ => ⟨S8448x2048, .f32⟩
  | .hbm, ⟨37, _⟩ => ⟨S8448x2048, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== PooledSample.lean ====
abbrev S8x15x2048 : Shape := ⟨3, ![8, 15, 2048]⟩
abbrev S8x4x2048 : Shape := ⟨3, ![8, 4, 2048]⟩
abbrev S4x512x512 : Shape := ⟨3, ![4, 512, 512]⟩
abbrev S2048 : Shape := ⟨1, ![2048]⟩
abbrev S_ : Shape := ⟨0, ![]⟩
abbrev S8x1x2048 : Shape := ⟨3, ![8, 1, 2048]⟩
abbrev S8x24x2048 : Shape := ⟨3, ![8, 24, 2048]⟩
abbrev S8x19x2048 : Shape := ⟨3, ![8, 19, 2048]⟩
abbrev S1x2048 : Shape := ⟨2, ![1, 2048]⟩
abbrev S8x8x2048 : Shape := ⟨3, ![8, 8, 2048]⟩
abbrev S1x24x512 : Shape := ⟨3, ![1, 24, 512]⟩
abbrev S1x512x512 : Shape := ⟨3, ![1, 512, 512]⟩
abbrev S1x512 : Shape := ⟨2, ![1, 512]⟩
abbrev S1x8x512 : Shape := ⟨3, ![1, 8, 512]⟩
abbrev S512x512 : Shape := ⟨2, ![512, 512]⟩
abbrev S8x512 : Shape := ⟨2, ![8, 512]⟩
abbrev S8x1 : Shape := ⟨2, ![8, 1]⟩

abbrev nBuf : Space → Nat
  | .hbm => 13
  | .vmem => 8
  | .smem => 0
  | _ => 0

abbrev bufTy : (tb : Table) → Fin (tcTables nBuf tb) → BufTy
  | .hbm, ⟨0, _⟩ => ⟨S8x15x2048, .f32⟩
  | .hbm, ⟨1, _⟩ => ⟨S8x4x2048, .f32⟩
  | .hbm, ⟨2, _⟩ => ⟨S4x512x512, .f32⟩
  | .hbm, ⟨3, _⟩ => ⟨S2048, .f32⟩
  | .hbm, ⟨4, _⟩ => ⟨S_, .f32⟩
  | .hbm, ⟨5, _⟩ => ⟨S8x1x2048, .f32⟩
  | .hbm, ⟨6, _⟩ => ⟨S_, .f32⟩
  | .hbm, ⟨7, _⟩ => ⟨S8x4x2048, .f32⟩
  | .hbm, ⟨8, _⟩ => ⟨S8x24x2048, .f32⟩
  | .hbm, ⟨9, _⟩ => ⟨S8x19x2048, .f32⟩
  | .hbm, ⟨10, _⟩ => ⟨S8x15x2048, .f32⟩
  | .hbm, ⟨11, _⟩ => ⟨S1x2048, .f32⟩
  | .hbm, ⟨12, _⟩ => ⟨S8x8x2048, .f32⟩
  | .local _ .vmem, ⟨0, _⟩ => ⟨S1x24x512, .f32⟩
  | .local _ .vmem, ⟨1, _⟩ => ⟨S1x24x512, .f32⟩
  | .local _ .vmem, ⟨2, _⟩ => ⟨S1x512x512, .f32⟩
  | .local _ .vmem, ⟨3, _⟩ => ⟨S1x512x512, .f32⟩
  | .local _ .vmem, ⟨4, _⟩ => ⟨S1x512, .f32⟩
  | .local _ .vmem, ⟨5, _⟩ => ⟨S1x512, .f32⟩
  | .local _ .vmem, ⟨6, _⟩ => ⟨S1x8x512, .f32⟩
  | .local _ .vmem, ⟨7, _⟩ => ⟨S1x8x512, .f32⟩
  | _, _ => ⟨S8x15x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x24x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== PooledSampleReferenceIdeal.lean ====
abbrev S8x15x2048 : Shape := ⟨3, ![8, 15, 2048]⟩
abbrev S8x4x2048 : Shape := ⟨3, ![8, 4, 2048]⟩
abbrev S4x512x512 : Shape := ⟨3, ![4, 512, 512]⟩
abbrev S2048 : Shape := ⟨1, ![2048]⟩
abbrev S_ : Shape := ⟨0, ![]⟩
abbrev S8x8x2048 : Shape := ⟨3, ![8, 8, 2048]⟩
abbrev S8 : Shape := ⟨1, ![8]⟩
abbrev S8x23x2048 : Shape := ⟨3, ![8, 23, 2048]⟩
abbrev S8x8x512 : Shape := ⟨3, ![8, 8, 512]⟩
abbrev S1x8x1 : Shape := ⟨3, ![1, 8, 1]⟩
abbrev S8x8x4x512 : Shape := ⟨4, ![8, 8, 4, 512]⟩
abbrev S4x512x8x8 : Shape := ⟨4, ![4, 512, 8, 8]⟩
abbrev S1x1x2048 : Shape := ⟨3, ![1, 1, 2048]⟩
abbrev S8x19x2048 : Shape := ⟨3, ![8, 19, 2048]⟩

abbrev nBuf : Space → Nat
  | .hbm => 120
  | .vmem => 0
  | .smem => 0
  | _ => 0

abbrev bufTy : (tb : Table) → Fin (tcTables nBuf tb) → BufTy
  | .hbm, ⟨0, _⟩ => ⟨S8x15x2048, .f32⟩
  | .hbm, ⟨1, _⟩ => ⟨S8x4x2048, .f32⟩
  | .hbm, ⟨2, _⟩ => ⟨S4x512x512, .f32⟩
  | .hbm, ⟨3, _⟩ => ⟨S2048, .f32⟩
  | .hbm, ⟨4, _⟩ => ⟨S_, .f32⟩
  | .hbm, ⟨5, _⟩ => ⟨S8x4x2048, .f32⟩
  | .hbm, ⟨6, _⟩ => ⟨S8x8x2048, .f32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S8x23x2048, .f32⟩
  | .hbm, ⟨12, _⟩ => ⟨S8x8x512, .f32⟩
  | .hbm, ⟨13, _⟩ => ⟨S8x8x512, .f32⟩
  | .hbm, ⟨14, _⟩ => ⟨S8x8x512, .f32⟩
  | .hbm, ⟨15, _⟩ => ⟨S_, .i32⟩
  | .hbm, ⟨16, _⟩ => ⟨S8, .i32⟩
  | .hbm, ⟨17, _⟩ => ⟨S8, .i32⟩
  | .hbm, ⟨18, _⟩ => ⟨S_, .i32⟩
  | .hbm, ⟨19, _⟩ => ⟨S8, .i32⟩
  | .hbm, ⟨20, _⟩ => ⟨S8, .i32⟩
  | .hbm, ⟨21, _⟩ => ⟨S8, .f32⟩
  | .hbm, ⟨22, _⟩ => ⟨S1x8x1, .f32⟩
  | .hbm, ⟨23, _⟩ => ⟨S8x8x512, .f32⟩
  | .hbm, ⟨24, _⟩ => ⟨S8x8x512, .f32⟩
  | .hbm, ⟨25, _⟩ => ⟨S8x8x512, .f32⟩
  | .hbm, ⟨26, _⟩ => ⟨S8x8x512, .f32⟩
  | .hbm, ⟨27, _⟩ => ⟨S8x8x512, .f32⟩
  | .hbm, ⟨28, _⟩ => ⟨S8x8x512, .f32⟩
  | .hbm, ⟨29, _⟩ => ⟨S8x8x512, .f32⟩
  | .hbm, ⟨30, _⟩ => ⟨S8x8x512, .f32⟩
  | .hbm, ⟨31, _⟩ => ⟨S8x8x512, .f32⟩
  | .hbm, ⟨32, _⟩ => ⟨S_, .i32⟩
  | .hbm, ⟨33, _⟩ => ⟨S8, .i32⟩
  | .hbm, ⟨34, _⟩ => ⟨S8, .i32⟩
  | .hbm, ⟨35, _⟩ => ⟨S_, .i32⟩
  | .hbm, ⟨36, _⟩ => ⟨S8, .i32⟩
  | .hbm, ⟨37, _⟩ => ⟨S8, .i32⟩
  | .hbm, ⟨38, _⟩ => ⟨S8, .f32⟩
  | .hbm, ⟨39, _⟩ => ⟨S1x8x1, .f32⟩
  | .hbm, ⟨40, _⟩ => ⟨S8x8x512, .f32⟩
  | .hbm, ⟨41, _⟩ => ⟨S8x8x512, .f32⟩
  | .hbm, ⟨42, _⟩ => ⟨S8x8x512, .f32⟩
  | .hbm, ⟨43, _⟩ => ⟨S8x8x512, .f32⟩
  | .hbm, ⟨44, _⟩ => ⟨S8x8x512, .f32⟩
  | .hbm, ⟨45, _⟩ => ⟨S8x8x512, .f32⟩
  | .hbm, ⟨46, _⟩ => ⟨S8x8x512, .f32⟩
  | .hbm, ⟨47, _⟩ => ⟨S8x8x512, .f32⟩
  | .hbm, ⟨48, _⟩ => ⟨S8x8x512, .f32⟩
  | .hbm, ⟨49, _⟩ => ⟨S8x8x512, .f32⟩
  | .hbm, ⟨50, _⟩ => ⟨S8x8x512, .f32⟩
  | .hbm, ⟨51, _⟩ => ⟨S8x8x512, .f32⟩
  | .hbm, ⟨52, _⟩ => ⟨S8x8x512, .f32⟩
  | .hbm, ⟨53, _⟩ => ⟨S8x8x512, .f32⟩
  | .hbm, ⟨54, _⟩ => ⟨S8x8x512, .f32⟩
  | .hbm, ⟨55, _⟩ => ⟨S8x8x512, .f32⟩
  | .hbm, ⟨56, _⟩ => ⟨S8x8x512, .f32⟩
  | .hbm, ⟨57, _⟩ => ⟨S_, .i32⟩
  | .hbm, ⟨58, _⟩ => ⟨S8, .i32⟩
  | .hbm, ⟨59, _⟩ => ⟨S8, .i32⟩
  | .hbm, ⟨60, _⟩ => ⟨S_, .i32⟩
  | .hbm, ⟨61, _⟩ => ⟨S8, .i32⟩
  | .hbm, ⟨62, _⟩ => ⟨S8, .i32⟩
  | .hbm, ⟨63, _⟩ => ⟨S8, .f32⟩
  | .hbm, ⟨64, _⟩ => ⟨S1x8x1, .f32⟩
  | .hbm, ⟨65, _⟩ => ⟨S8x8x512, .f32⟩
  | .hbm, ⟨66, _⟩ => ⟨S8x8x512, .f32⟩
  | .hbm, ⟨67, _⟩ => ⟨S8x8x512, .f32⟩
  | .hbm, ⟨68, _⟩ => ⟨S8x8x512, .f32⟩
  | .hbm, ⟨69, _⟩ => ⟨S8x8x512, .f32⟩
  | .hbm, ⟨70, _⟩ => ⟨S8x8x512, .f32⟩
  | .hbm, ⟨71, _⟩ => ⟨S8x8x512, .f32⟩
  | .hbm, ⟨72, _⟩ => ⟨S8x8x512, .f32⟩
  | .hbm, ⟨73, _⟩ => ⟨S8x8x512, .f32⟩
  | .hbm, ⟨74, _⟩ => ⟨S8x8x512, .f32⟩
  | .hbm, ⟨75, _⟩ => ⟨S8x8x512, .f32⟩
  | .hbm, ⟨76, _⟩ => ⟨S8x8x512, .f32⟩
  | .hbm, ⟨77, _⟩ => ⟨S8x8x512, .f32⟩
  | .hbm, ⟨78, _⟩ => ⟨S8x8x512, .f32⟩
  | .hbm, ⟨79, _⟩ => ⟨S8x8x512, .f32⟩
  | .hbm, ⟨80, _⟩ => ⟨S8x8x512, .f32⟩
  | .hbm, ⟨81, _⟩ => ⟨S8x8x512, .f32⟩
  | .hbm, ⟨82, _⟩ => ⟨S8x8x512, .f32⟩
  | .hbm, ⟨83, _⟩ => ⟨S8x8x512, .f32⟩
  | .hbm, ⟨84, _⟩ => ⟨S8x8x512, .f32⟩
  | .hbm, ⟨85, _⟩ => ⟨S8x8x512, .f32⟩
  | .hbm, ⟨86, _⟩ => ⟨S8x8x512, .f32⟩
  | .hbm, ⟨87, _⟩ => ⟨S8x8x512, .f32⟩
  | .hbm, ⟨88, _⟩ => ⟨S8x8x512, .f32⟩
  | .hbm, ⟨89, _⟩ => ⟨S8x8x512, .f32⟩
  | .hbm, ⟨90, _⟩ => ⟨S8x8x512, .f32⟩
  | .hbm, ⟨91, _⟩ => ⟨S8x8x512, .f32⟩
  | .hbm, ⟨92, _⟩ => ⟨S8x8x512, .f32⟩
  | .hbm, ⟨93, _⟩ => ⟨S8x8x512, .f32⟩
  | .hbm, ⟨94, _⟩ => ⟨S8x8x512, .f32⟩
  | .hbm, ⟨95, _⟩ => ⟨S8x8x512, .f32⟩
  | .hbm, ⟨96, _⟩ => ⟨S8x8x512, .f32⟩
  | .hbm, ⟨97, _⟩ => ⟨S8x8x512, .f32⟩
  | .hbm, ⟨98, _⟩ => ⟨S_, .i32⟩
  | .hbm, ⟨99, _⟩ => ⟨S8, .i32⟩
  | .hbm, ⟨100, _⟩ => ⟨S8, .i32⟩
  | .hbm, ⟨101, _⟩ => ⟨S_, .i32⟩
  | .hbm, ⟨102, _⟩ => ⟨S8, .i32⟩
  | .hbm, ⟨103, _⟩ => ⟨S8, .i32⟩
  | .hbm, ⟨104, _⟩ => ⟨S8, .f32⟩
  | .hbm, ⟨105, _⟩ => ⟨S1x8x1, .f32⟩
  | .hbm, ⟨106, _⟩ => ⟨S8x8x512, .f32⟩
  | .hbm, ⟨107, _⟩ => ⟨S8x8x512, .f32⟩
  | .hbm, ⟨108, _⟩ => ⟨S8x8x2048, .f32⟩
  | .hbm, ⟨109, _⟩ => ⟨S8x8x2048, .f32⟩
  | .hbm, ⟨110, _⟩ => ⟨S8x8x2048, .f32⟩
  | .hbm, ⟨111, _⟩ => ⟨S8x8x4x512, .f32⟩
  | .hbm, ⟨112, _⟩ => ⟨S4x512x8x8, .f32⟩
  | .hbm, ⟨113, _⟩ => ⟨S8x8x4x512, .f32⟩
  | .hbm, ⟨114, _⟩ => ⟨S8x8x2048, .f32⟩
  | .hbm, ⟨115, _⟩ => ⟨S1x1x2048, .f32⟩
  | .hbm, ⟨116, _⟩ => ⟨S8x8x2048, .f32⟩
  | .hbm, ⟨117, _⟩ => ⟨S8x8x2048, .f32⟩
  | .hbm, ⟨118, _⟩ => ⟨S8x19x2048, .f32⟩
  | .hbm, ⟨119, _⟩ => ⟨S8x15x2048, .f32⟩
  | _, _ => ⟨S8x15x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_2 : Ref sig .tc := ⟨.hbm, 32, rfl⟩
abbrev main_v24 : Ref sig .tc := ⟨.hbm, 33, rfl⟩
abbrev main_v25 : Ref sig .tc := ⟨.hbm, 34, rfl⟩
abbrev main_c_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_c_4 : Ref sig .tc := ⟨.hbm, 57, rfl⟩
abbrev main_v47 : Ref sig .tc := ⟨.hbm, 58, rfl⟩
abbrev main_v48 : Ref sig .tc := ⟨.hbm, 59, rfl⟩
abbrev main_c_5 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_c_6 : Ref sig .tc := ⟨.hbm, 98, rfl⟩
abbrev main_v86 : Ref sig .tc := ⟨.hbm, 99, rfl⟩
abbrev main_v87 : Ref sig .tc := ⟨.hbm, 100, rfl⟩
abbrev main_c_7 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩

abbrev nD : Nat := 1
abbrev τ : Topo := Topo.v7x

variable {F : FTy → Type} [FloatOps F]
-- ==== PooledPrompt.lean ====
abbrev S4x2048x2048 : Shape := ⟨3, ![4, 2048, 2048]⟩
abbrev S4x512x512 : Shape := ⟨3, ![4, 512, 512]⟩
abbrev S2048 : Shape := ⟨1, ![2048]⟩
abbrev S_ : Shape := ⟨0, ![]⟩
abbrev S4x16x2048 : Shape := ⟨3, ![4, 16, 2048]⟩
abbrev S4x2064x2048 : Shape := ⟨3, ![4, 2064, 2048]⟩
abbrev S4x15x2048 : Shape := ⟨3, ![4, 15, 2048]⟩
abbrev S1x2048 : Shape := ⟨2, ![1, 2048]⟩
abbrev S1x2064x512 : Shape := ⟨3, ![1, 2064, 512]⟩
abbrev S1x512x512 : Shape := ⟨3, ![1, 512, 512]⟩
abbrev S1x512 : Shape := ⟨2, ![1, 512]⟩
abbrev S1x2048x512 : Shape := ⟨3, ![1, 2048, 512]⟩
abbrev S512x512 : Shape := ⟨2, ![512, 512]⟩
abbrev S512x1 : Shape := ⟨2, ![512, 1]⟩

abbrev nBuf : Space → Nat
  | .hbm => 9
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S4x512x512, .f32⟩
  | .hbm, ⟨2, _⟩ => ⟨S2048, .f32⟩
  | .hbm, ⟨3, _⟩ => ⟨S_, .f32⟩
  | .hbm, ⟨4, _⟩ => ⟨S4x16x2048, .f32⟩
  | .hbm, ⟨5, _⟩ => ⟨S4x2064x2048, .f32⟩
  | .hbm, ⟨6, _⟩ => ⟨S4x15x2048, .f32⟩
  | .hbm, ⟨7, _⟩ => ⟨S1x2048, .f32⟩
  | .hbm, ⟨8, _⟩ => ⟨S4x2048x2048, .f32⟩
  | .local _ .vmem, ⟨0, _⟩ => ⟨S1x2064x512, .f32⟩
  | .local _ .vmem, ⟨1, _⟩ => ⟨S1x2064x512, .f32⟩
  | .local _ .vmem, ⟨2, _⟩ => ⟨S1x512x512, .f32⟩
  | .local _ .vmem, ⟨3, _⟩ => ⟨S1x512x512, .f32⟩
  | .local _ .vmem, ⟨4, _⟩ => ⟨S1x512, .f32⟩
  | .local _ .vmem, ⟨5, _⟩ => ⟨S1x512, .f32⟩
  | .local _ .vmem, ⟨6, _⟩ => ⟨S1x2048x512, .f32⟩
  | .local _ .vmem, ⟨7, _⟩ => ⟨S1x2048x512, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2064x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== PooledPromptReferenceIdeal.lean ====
abbrev S4x2048x2048 : Shape := ⟨3, ![4, 2048, 2048]⟩
abbrev S4x512x512 : Shape := ⟨3, ![4, 512, 512]⟩
abbrev S2048 : Shape := ⟨1, ![2048]⟩
abbrev S_ : Shape := ⟨0, ![]⟩
abbrev S4x15x2048 : Shape := ⟨3, ![4, 15, 2048]⟩
abbrev S4x2063x2048 : Shape := ⟨3, ![4, 2063, 2048]⟩
abbrev S4x2048x512 : Shape := ⟨3, ![4, 2048, 512]⟩
abbrev S1x2048x1 : Shape := ⟨3, ![1, 2048, 1]⟩
abbrev S4x2048x4x512 : Shape := ⟨4, ![4, 2048, 4, 512]⟩
abbrev S4x512x4x2048 : Shape := ⟨4, ![4, 512, 4, 2048]⟩
abbrev S1x1x2048 : Shape := ⟨3, ![1, 1, 2048]⟩

abbrev nBuf : Space → Nat
  | .hbm => 115
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x512x512, .f32⟩
  | .hbm, ⟨2, _⟩ => ⟨S2048, .f32⟩
  | .hbm, ⟨3, _⟩ => ⟨S_, .f32⟩
  | .hbm, ⟨4, _⟩ => ⟨S4x15x2048, .f32⟩
  | .hbm, ⟨5, _⟩ => ⟨S2048, .i32⟩
  | .hbm, ⟨6, _⟩ => ⟨S4x2063x2048, .f32⟩
  | .hbm, ⟨7, _⟩ => ⟨S4x2048x512, .f32⟩
  | .hbm, ⟨8, _⟩ => ⟨S4x2048x512, .f32⟩
  | .hbm, ⟨9, _⟩ => ⟨S4x2048x512, .f32⟩
  | .hbm, ⟨10, _⟩ => ⟨S_, .i32⟩
  | .hbm, ⟨11, _⟩ => ⟨S2048, .i32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i32⟩
  | .hbm, ⟨16, _⟩ => ⟨S2048, .f32⟩
  | .hbm, ⟨17, _⟩ => ⟨S1x2048x1, .f32⟩
  | .hbm, ⟨18, _⟩ => ⟨S4x2048x512, .f32⟩
  | .hbm, ⟨19, _⟩ => ⟨S4x2048x512, .f32⟩
  | .hbm, ⟨20, _⟩ => ⟨S4x2048x512, .f32⟩
  | .hbm, ⟨21, _⟩ => ⟨S4x2048x512, .f32⟩
  | .hbm, ⟨22, _⟩ => ⟨S4x2048x512, .f32⟩
  | .hbm, ⟨23, _⟩ => ⟨S4x2048x512, .f32⟩
  | .hbm, ⟨24, _⟩ => ⟨S4x2048x512, .f32⟩
  | .hbm, ⟨25, _⟩ => ⟨S4x2048x512, .f32⟩
  | .hbm, ⟨26, _⟩ => ⟨S4x2048x512, .f32⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S_, .i32⟩
  | .hbm, ⟨31, _⟩ => ⟨S2048, .i32⟩
  | .hbm, ⟨32, _⟩ => ⟨S2048, .i32⟩
  | .hbm, ⟨33, _⟩ => ⟨S2048, .f32⟩
  | .hbm, ⟨34, _⟩ => ⟨S1x2048x1, .f32⟩
  | .hbm, ⟨35, _⟩ => ⟨S4x2048x512, .f32⟩
  | .hbm, ⟨36, _⟩ => ⟨S4x2048x512, .f32⟩
  | .hbm, ⟨37, _⟩ => ⟨S4x2048x512, .f32⟩
  | .hbm, ⟨38, _⟩ => ⟨S4x2048x512, .f32⟩
  | .hbm, ⟨39, _⟩ => ⟨S4x2048x512, .f32⟩
  | .hbm, ⟨40, _⟩ => ⟨S4x2048x512, .f32⟩
  | .hbm, ⟨41, _⟩ => ⟨S4x2048x512, .f32⟩
  | .hbm, ⟨42, _⟩ => ⟨S4x2048x512, .f32⟩
  | .hbm, ⟨43, _⟩ => ⟨S4x2048x512, .f32⟩
  | .hbm, ⟨44, _⟩ => ⟨S4x2048x512, .f32⟩
  | .hbm, ⟨45, _⟩ => ⟨S4x2048x512, .f32⟩
  | .hbm, ⟨46, _⟩ => ⟨S4x2048x512, .f32⟩
  | .hbm, ⟨47, _⟩ => ⟨S4x2048x512, .f32⟩
  | .hbm, ⟨48, _⟩ => ⟨S4x2048x512, .f32⟩
  | .hbm, ⟨49, _⟩ => ⟨S4x2048x512, .f32⟩
  | .hbm, ⟨50, _⟩ => ⟨S4x2048x512, .f32⟩
  | .hbm, ⟨51, _⟩ => ⟨S4x2048x512, .f32⟩
  | .hbm, ⟨52, _⟩ => ⟨S_, .i32⟩
  | .hbm, ⟨53, _⟩ => ⟨S2048, .i32⟩
  | .hbm, ⟨54, _⟩ => ⟨S2048, .i32⟩
  | .hbm, ⟨55, _⟩ => ⟨S_, .i32⟩
  | .hbm, ⟨56, _⟩ => ⟨S2048, .i32⟩
  | .hbm, ⟨57, _⟩ => ⟨S2048, .i32⟩
  | .hbm, ⟨58, _⟩ => ⟨S2048, .f32⟩
  | .hbm, ⟨59, _⟩ => ⟨S1x2048x1, .f32⟩
  | .hbm, ⟨60, _⟩ => ⟨S4x2048x512, .f32⟩
  | .hbm, ⟨61, _⟩ => ⟨S4x2048x512, .f32⟩
  | .hbm, ⟨62, _⟩ => ⟨S4x2048x512, .f32⟩
  | .hbm, ⟨63, _⟩ => ⟨S4x2048x512, .f32⟩
  | .hbm, ⟨64, _⟩ => ⟨S4x2048x512, .f32⟩
  | .hbm, ⟨65, _⟩ => ⟨S4x2048x512, .f32⟩
  | .hbm, ⟨66, _⟩ => ⟨S4x2048x512, .f32⟩
  | .hbm, ⟨67, _⟩ => ⟨S4x2048x512, .f32⟩
  | .hbm, ⟨68, _⟩ => ⟨S4x2048x512, .f32⟩
  | .hbm, ⟨69, _⟩ => ⟨S4x2048x512, .f32⟩
  | .hbm, ⟨70, _⟩ => ⟨S4x2048x512, .f32⟩
  | .hbm, ⟨71, _⟩ => ⟨S4x2048x512, .f32⟩
  | .hbm, ⟨72, _⟩ => ⟨S4x2048x512, .f32⟩
  | .hbm, ⟨73, _⟩ => ⟨S4x2048x512, .f32⟩
  | .hbm, ⟨74, _⟩ => ⟨S4x2048x512, .f32⟩
  | .hbm, ⟨75, _⟩ => ⟨S4x2048x512, .f32⟩
  | .hbm, ⟨76, _⟩ => ⟨S4x2048x512, .f32⟩
  | .hbm, ⟨77, _⟩ => ⟨S4x2048x512, .f32⟩
  | .hbm, ⟨78, _⟩ => ⟨S4x2048x512, .f32⟩
  | .hbm, ⟨79, _⟩ => ⟨S4x2048x512, .f32⟩
  | .hbm, ⟨80, _⟩ => ⟨S4x2048x512, .f32⟩
  | .hbm, ⟨81, _⟩ => ⟨S4x2048x512, .f32⟩
  | .hbm, ⟨82, _⟩ => ⟨S4x2048x512, .f32⟩
  | .hbm, ⟨83, _⟩ => ⟨S4x2048x512, .f32⟩
  | .hbm, ⟨84, _⟩ => ⟨S4x2048x512, .f32⟩
  | .hbm, ⟨85, _⟩ => ⟨S4x2048x512, .f32⟩
  | .hbm, ⟨86, _⟩ => ⟨S4x2048x512, .f32⟩
  | .hbm, ⟨87, _⟩ => ⟨S4x2048x512, .f32⟩
  | .hbm, ⟨88, _⟩ => ⟨S4x2048x512, .f32⟩
  | .hbm, ⟨89, _⟩ => ⟨S4x2048x512, .f32⟩
  | .hbm, ⟨90, _⟩ => ⟨S4x2048x512, .f32⟩
  | .hbm, ⟨91, _⟩ => ⟨S4x2048x512, .f32⟩
  | .hbm, ⟨92, _⟩ => ⟨S4x2048x512, .f32⟩
  | .hbm, ⟨93, _⟩ => ⟨S_, .i32⟩
  | .hbm, ⟨94, _⟩ => ⟨S2048, .i32⟩
  | .hbm, ⟨95, _⟩ => ⟨S2048, .i32⟩
  | .hbm, ⟨96, _⟩ => ⟨S_, .i32⟩
  | .hbm, ⟨97, _⟩ => ⟨S2048, .i32⟩
  | .hbm, ⟨98, _⟩ => ⟨S2048, .i32⟩
  | .hbm, ⟨99, _⟩ => ⟨S2048, .f32⟩
  | .hbm, ⟨100, _⟩ => ⟨S1x2048x1, .f32⟩
  | .hbm, ⟨101, _⟩ => ⟨S4x2048x512, .f32⟩
  | .hbm, ⟨102, _⟩ => ⟨S4x2048x512, .f32⟩
  | .hbm, ⟨103, _⟩ => ⟨S4x2048x2048, .f32⟩
  | .hbm, ⟨104, _⟩ => ⟨S4x2048x2048, .f32⟩
  | .hbm, ⟨105, _⟩ => ⟨S4x2048x2048, .f32⟩
  | .hbm, ⟨106, _⟩ => ⟨S4x2048x4x512, .f32⟩
  | .hbm, ⟨107, _⟩ => ⟨S4x512x4x2048, .f32⟩
  | .hbm, ⟨108, _⟩ => ⟨S4x2048x4x512, .f32⟩
  | .hbm, ⟨109, _⟩ => ⟨S4x2048x2048, .f32⟩
  | .hbm, ⟨110, _⟩ => ⟨S1x1x2048, .f32⟩
  | .hbm, ⟨111, _⟩ => ⟨S4x2048x2048, .f32⟩
  | .hbm, ⟨112, _⟩ => ⟨S4x2048x2048, .f32⟩
  | .hbm, ⟨113, _⟩ => ⟨S4x2063x2048, .f32⟩
  | .hbm, ⟨114, _⟩ => ⟨S4x15x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_1 : Ref sig .tc := ⟨.hbm, 27, rfl⟩
abbrev main_v21 : Ref sig .tc := ⟨.hbm, 28, rfl⟩
abbrev main_v22 : Ref sig .tc := ⟨.hbm, 29, rfl⟩
abbrev main_c_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_c_3 : Ref sig .tc := ⟨.hbm, 52, rfl⟩
abbrev main_v44 : Ref sig .tc := ⟨.hbm, 53, rfl⟩
abbrev main_v45 : Ref sig .tc := ⟨.hbm, 54, rfl⟩
abbrev main_c_4 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_c_5 : Ref sig .tc := ⟨.hbm, 93, rfl⟩
abbrev main_v83 : Ref sig .tc := ⟨.hbm, 94, rfl⟩
abbrev main_v84 : Ref sig .tc := ⟨.hbm, 95, rfl⟩
abbrev main_c_6 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩

abbrev nD : Nat := 1
abbrev τ : Topo := Topo.v7x

variable {F : FTy → Type} [FloatOps F]
-- ==== Proof.GateUp.Same.lean ====
module

public import proofs.«01_k».proof.Proof.Gen.GateUp
public import proofs.«01_k».proof.Proof.Gen.GateUpIdeal

@[expose] public section

/-! The printed program of the gate and up call and the one of its ideal reading are the same program over any float type, so what is
proved of the second, over any float type, holds of the first. -/

namespace Cert.GateUp.Same

open Idealize.ShloMosaic Idealize.ShloMosaic.TcCoe

variable {F : FTy → Type} [FloatOps F]

/-- The pipelines are the same. -/
theorem pcfgs_eq : Cert.GateUp.pcfgs (F := F) = Cert.GateUpIdeal.pcfgs (F := F) := rfl

/-- The bodies are the same. -/
theorem body_eq : Cert.GateUp.cc0_moe_gate_up (F := F) = Cert.GateUpIdeal.cc0_moe_gate_up (F := F) := rfl

/-- The bodies' tables are the same. -/
theorem bodies_eq : Cert.GateUp.defs₀ (F := F) = Cert.GateUpIdeal.defs₀ (F := F) := by
  unfold Cert.GateUp.defs₀ Cert.GateUpIdeal.defs₀
  refine congrArg Defs.onTc (funext fun x => ?_)
  match x with
  | 0 => exact funext fun (t, s) => rfl

/-- So are the programs' tables. -/
theorem defs_eq : Cert.GateUp.defs (F := F) = Cert.GateUpIdeal.defs (F := F) := by
  unfold Cert.GateUp.defs Cert.GateUpIdeal.defs
  exact congrArg (Pipeline.defs (Cert.GateUpIdeal.pcfgs (F := F))) bodies_eq

/-- So are the programs. -/
theorem main_eq : Cert.GateUp.main (F := F) = Cert.GateUpIdeal.main (F := F) := rfl

end Cert.GateUp.Same
-- ==== Proof.GateUpIdeal.Kit.lean ====
module

public import proofs.«01_k».proof.Proof.Gen.GateUpIdeal.Launch
public import proofs.«01_k».proof.Proof.Gen.GateUpIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.GateUpIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateUpIdeal Cert.GateUpIdeal.Gen

variable {F : FTy → Type} [FloatOps F]

variable (m : (ℓ : Loc nD τ sig) → Buf (Elt F) ℓ) (ρ : Dev nD → PrngReg)
/-! The launch's set-up for the grouped gate and up products with three prefetched routing tables: the pipeline at
any admissible contents of the tables, the windows' blocks, and the frame read off a run. -/

/-- Window 3 (result 0 (%0)) is written back at every point, at any contents of the tables (its index map reads none). -/
theorem flush0_3 (a : (pcfg0 (F := F)).Adm) : ∀ t : Fin (cfg0 a).N, ((cfg0 a).win 3).flush t = true :=
  (fun t => (Pipeline.Window.flushOf_reads cc0_transform_3 reads0_3 hreads0_3 1 (by decide) (by decide) (Pipeline.Window.sep_of_coord cc0_transform_3 1 1 (fun _ => rfl) (by decide)) (P := 1) (m := 0) (by decide) rfl t).mpr (Nat.mod_one _) : ∀ t : Fin grid0.N, Pipeline.Window.flushOf grid0 true cc0_transform_3 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_gate_up (grid0.coords t) (Memref.whole main_arg3) (Memref.isWhole_whole _) (Memref.whole main_arg4) (Memref.isWhole_whole _) (Memref.whole main_arg5) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3))

/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; the precondition gives it. -/
abbrev Ok : Prop := ok0 (F := F) (tbl m)
/-- The tables' contents as ADMISSIBLE contents, and the pipeline at them: what the launch theorem runs
    . -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S16 .i32 := Memref.whole main_arg3
abbrev htbM0_0 : tbM0_0.IsWhole := Memref.isWhole_whole _
abbrev tbM0_1 : Memref sig .tc .smem S16 .i32 := Memref.whole main_arg4
abbrev htbM0_1 : tbM0_1.IsWhole := Memref.isWhole_whole _
abbrev tbM0_2 : Memref sig .tc .smem S16 .i32 := Memref.whole main_arg5
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp (MT nD τ sig Unit (Elt F) ℕ (UR sig nD τ) ℕ)) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run -/

/-- A run that ends at the library's post leaves every argument array as launched: the three staged inputs are never
    written back, and the tables are not the pipeline's to write. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w)) {r : PUnit × MemSt nD τ sig (Elt F)}
    (h : Pipeline.FramePost (Pipeline.pin pcfgs fun _ => adm m hO) dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 0).trans (((dats 0 c).arrAt_in 0 rfl _).trans ((hA c 0).trans (V_main_arg0 m c))),
   ((h c).1 1).trans (((dats 0 c).arrAt_in 1 rfl _).trans ((hA c 1).trans (V_main_arg1 m c))),
   ((h c).1 2).trans (((dats 0 c).arrAt_in 2 rfl _).trans ((hA c 2).trans (V_main_arg2 m c))),
   ((h c).2 main_arg3 (by decide : main_arg3 ∈ Pipeline.restRefs sig spec0)).trans (V_main_arg3 m c),
   ((h c).2 main_arg4 (by decide : main_arg4 ∈ Pipeline.restRefs sig spec0)).trans (V_main_arg4 m c),
   ((h c).2 main_arg5 (by decide : main_arg5 ∈ Pipeline.restRefs sig spec0)).trans (V_main_arg5 m c)⟩

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S2048x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048x512 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2048x512 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S2048x512 .bf16 := spec0_3.stage ((cfgM m hO).slots t 3)
abbrev hs0_3 (hO : Ok m) (t : Fin (cfgM m hO).N) : (ms0_3 m hO t).IsWhole := hstage0_3 (((cfgM m hO).slots t 3).cast nbuf0_3)

/-- The number of live row tiles of the super-row at grid point `i`: the word of the third table that the body loads. -/
abbrev word (i : grid0.Coords) (T2 : (Memref.whole main_arg5 : Memref sig .tc .smem S16 .i32).view.ty.Contents (Elt F)) : BitVec 32 :=
  View.readAt (Elt F) (tbM0_2).view (Rect.unit (s := S16) (k0_off1 i) S1.size (k0_off1_inb i)).toLoadRect T2 (Shape.Idx.first (numel1_S1.symm ▸ Nat.one_pos))

/-- One staging buffer of the result's window, through which its contents are read. -/
abbrev VO0_3 : View sig .tc .vmem S2048x512 .bf16 := (Memref.whole cc0_stg3_0 : Memref sig .tc .vmem S2048x512 .bf16).view

end Cert.GateUpIdeal.Moe

end
-- ==== Proof.GateUpIdeal.RunA.lean ====
module

public import proofs.«01_k».proof.Proof.GateUpIdeal.Kit

@[expose] public section

set_option maxRecDepth 16384

noncomputable section

namespace Cert.GateUpIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateUpIdeal Cert.GateUpIdeal.Gen

variable {F : FTy → Type} [FloatOps F]

variable (m : (ℓ : Loc nD τ sig) → Buf (Elt F) ℓ) (ρ : Dev nD → PrngReg)
/-! The body of the grouped gate and up products, run at each number of live tiles of the super-row. -/

set_option maxHeartbeats 1000000 in
/-- The body where 1 of the four tiles of the super-row are live: it runs to the end, the inputs' buffers and the tables as they were, and leaves in the result's buffer
    the pieces that the run finds. -/
noncomputable def kernelRun1 (c : Dev nD) (i : grid0.Coords) (arg5 : Memref sig .tc .vmem S2048x2048 .bf16) (harg5 : arg5.IsWhole) (arg6 : Memref sig .tc .vmem S1x2048x512 .f32) (harg6 : arg6.IsWhole) (arg7 : Memref sig .tc .vmem S1x2048x512 .f32) (harg7 : arg7.IsWhole) (arg8 : Memref sig .tc .vmem S2048x512 .bf16) (harg8 : arg8.IsWhole)
    (x0 : Vec F S2048x2048 .bf16) (x1 : Vec F S1x2048x512 .f32) (x2 : Vec F S1x2048x512 .f32) (xt0 : TbBuf0 (F := F) c tbM0_0) (xt1 : TbBuf0 (F := F) c tbM0_1) (xt2 : TbBuf0 (F := F) c tbM0_2) (hw : word i xt2 = 1#32) :
    { L3 : List (View.Piece (Elt F) S2048x512 .bf16) //
      ∀ (E : Set ℕ) (K : PUnit → sProp (MT nD τ sig Unit (Elt F) ℕ (UR sig nD τ) ℕ)),
        iprop(owns (c : Thread nD τ) arg5 fullShare x0 ∗ owns (c : Thread nD τ) arg6 fullShare x1 ∗ owns (c : Thread nD τ) arg7 fullShare x2 ∗ (∃ d, owns (c : Thread nD τ) arg8 fullShare d) ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ (∃ f, arg8.view.loc (c : Thread nD τ) ↦[arg8.view.set]{fullShare} arg8.view.writes (Elt F) f L3) ∗ tbPt0 c tbM0_0 xt0 ∗ tbPt0 c tbM0_1 xt1 ∗ tbPt0 c tbM0_2 xt2) -∗ K ⟨⟩))
          ⊢ wp frame (wpE (defs₀ (F := F)) Variants.none c none) E (cc0_moe_gate_up i tbM0_0 htbM0_0 tbM0_1 htbM0_1 tbM0_2 htbM0_2 arg5 harg5 arg6 harg6 arg7 harg7 arg8 harg8) K } := by
  refine ⟨?_, fun E K => ?run⟩
  case run =>
    have h1 : k0_cond1 (word i xt2) = 1#1 := by rw [hw]; decide
    have h2 : ¬(k0_cond2 (word i xt2) = 1#1) := by rw [hw]; decide
    have h3 : ¬(k0_cond3 (word i xt2) = 1#1) := by rw [hw]; decide
    have h4 : ¬(k0_cond4 (word i xt2) = 1#1) := by rw [hw]; decide
    have h5 : ¬(k0_cond5 (word i xt2) = 1#1) := by rw [hw]; decide
    simp only [cc0_moe_gate_up_eq_skeleton]; unfold cc0_moe_gate_up_skel
    unfold owns
    iintro ⟨⟨%f0, %hf0, H0⟩, ⟨%f1, %hf1, H1⟩, ⟨%f2, %hf2, H2⟩, ⟨%d3, %f3, -, H3⟩, HT0, HT1, HT2, Hk⟩
    obtain rfl := harg5.eq_unread hf0; obtain rfl := harg6.eq_unread hf1; obtain rfl := harg7.eq_unread hf2
    sl_exec
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; iexact H3
    isplitl [HT0]; · iexact HT0
    isplitl [HT1]; · iexact HT1
    iexact HT2

/-- The pieces of that run tile the result's block. -/
theorem cover1 (c : Dev nD) (i : grid0.Coords) (arg5 : Memref sig .tc .vmem S2048x2048 .bf16) (harg5 : arg5.IsWhole) (arg6 : Memref sig .tc .vmem S1x2048x512 .f32) (harg6 : arg6.IsWhole) (arg7 : Memref sig .tc .vmem S1x2048x512 .f32) (harg7 : arg7.IsWhole) (arg8 : Memref sig .tc .vmem S2048x512 .bf16) (harg8 : arg8.IsWhole)
    (x0 : Vec F S2048x2048 .bf16) (x1 : Vec F S1x2048x512 .f32) (x2 : Vec F S1x2048x512 .f32) (xt0 : TbBuf0 (F := F) c tbM0_0) (xt1 : TbBuf0 (F := F) c tbM0_1) (xt2 : TbBuf0 (F := F) c tbM0_2) (hw : word i xt2 = 1#32) (y : S2048x512.Idx) :
    ∃ pc ∈ (kernelRun1 c i arg5 harg5 arg6 harg6 arg7 harg7 arg8 harg8 x0 x1 x2 xt0 xt1 xt2 hw).1, y ∈ pc.1.set :=
  View.cover_of_tiledBy (kernelRun1 c i arg5 harg5 arg6 harg6 arg7 harg7 arg8 harg8 x0 x1 x2 xt0 xt1 xt2 hw).1 ![512, 512] (by sl_kernel_rfl) y

/-- What that run leaves in the result's buffer. -/
def out1 (c : Dev nD) (i : grid0.Coords) (arg5 : Memref sig .tc .vmem S2048x2048 .bf16) (harg5 : arg5.IsWhole) (arg6 : Memref sig .tc .vmem S1x2048x512 .f32) (harg6 : arg6.IsWhole) (arg7 : Memref sig .tc .vmem S1x2048x512 .f32) (harg7 : arg7.IsWhole) (arg8 : Memref sig .tc .vmem S2048x512 .bf16) (harg8 : arg8.IsWhole)
    (x0 : Vec F S2048x2048 .bf16) (x1 : Vec F S1x2048x512 .f32) (x2 : Vec F S1x2048x512 .f32) (xt0 : TbBuf0 (F := F) c tbM0_0) (xt1 : TbBuf0 (F := F) c tbM0_1) (xt2 : TbBuf0 (F := F) c tbM0_2) (hw : word i xt2 = 1#32) : Vec F S2048x512 .bf16 :=
  VO0_3.read (Elt F) (VO0_3.writes (Elt F) VO0_3.junk (kernelRun1 c i arg5 harg5 arg6 harg6 arg7 harg7 arg8 harg8 x0 x1 x2 xt0 xt1 xt2 hw).1)

set_option maxHeartbeats 1000000 in
/-- The body where 2 of the four tiles of the super-row are live: it runs to the end, the inputs' buffers and the tables as they were, and leaves in the result's buffer
    the pieces that the run finds. -/
noncomputable def kernelRun2 (c : Dev nD) (i : grid0.Coords) (arg5 : Memref sig .tc .vmem S2048x2048 .bf16) (harg5 : arg5.IsWhole) (arg6 : Memref sig .tc .vmem S1x2048x512 .f32) (harg6 : arg6.IsWhole) (arg7 : Memref sig .tc .vmem S1x2048x512 .f32) (harg7 : arg7.IsWhole) (arg8 : Memref sig .tc .vmem S2048x512 .bf16) (harg8 : arg8.IsWhole)
    (x0 : Vec F S2048x2048 .bf16) (x1 : Vec F S1x2048x512 .f32) (x2 : Vec F S1x2048x512 .f32) (xt0 : TbBuf0 (F := F) c tbM0_0) (xt1 : TbBuf0 (F := F) c tbM0_1) (xt2 : TbBuf0 (F := F) c tbM0_2) (hw : word i xt2 = 2#32) :
    { L3 : List (View.Piece (Elt F) S2048x512 .bf16) //
      ∀ (E : Set ℕ) (K : PUnit → sProp (MT nD τ sig Unit (Elt F) ℕ (UR sig nD τ) ℕ)),
        iprop(owns (c : Thread nD τ) arg5 fullShare x0 ∗ owns (c : Thread nD τ) arg6 fullShare x1 ∗ owns (c : Thread nD τ) arg7 fullShare x2 ∗ (∃ d, owns (c : Thread nD τ) arg8 fullShare d) ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ (∃ f, arg8.view.loc (c : Thread nD τ) ↦[arg8.view.set]{fullShare} arg8.view.writes (Elt F) f L3) ∗ tbPt0 c tbM0_0 xt0 ∗ tbPt0 c tbM0_1 xt1 ∗ tbPt0 c tbM0_2 xt2) -∗ K ⟨⟩))
          ⊢ wp frame (wpE (defs₀ (F := F)) Variants.none c none) E (cc0_moe_gate_up i tbM0_0 htbM0_0 tbM0_1 htbM0_1 tbM0_2 htbM0_2 arg5 harg5 arg6 harg6 arg7 harg7 arg8 harg8) K } := by
  refine ⟨?_, fun E K => ?run⟩
  case run =>
    have h1 : ¬(k0_cond1 (word i xt2) = 1#1) := by rw [hw]; decide
    have h2 : k0_cond2 (word i xt2) = 1#1 := by rw [hw]; decide
    have h3 : ¬(k0_cond3 (word i xt2) = 1#1) := by rw [hw]; decide
    have h4 : ¬(k0_cond4 (word i xt2) = 1#1) := by rw [hw]; decide
    have h5 : ¬(k0_cond5 (word i xt2) = 1#1) := by rw [hw]; decide
    simp only [cc0_moe_gate_up_eq_skeleton]; unfold cc0_moe_gate_up_skel
    unfold owns
    iintro ⟨⟨%f0, %hf0, H0⟩, ⟨%f1, %hf1, H1⟩, ⟨%f2, %hf2, H2⟩, ⟨%d3, %f3, -, H3⟩, HT0, HT1, HT2, Hk⟩
    obtain rfl := harg5.eq_unread hf0; obtain rfl := harg6.eq_unread hf1; obtain rfl := harg7.eq_unread hf2
    sl_exec
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; iexact H3
    isplitl [HT0]; · iexact HT0
    isplitl [HT1]; · iexact HT1
    iexact HT2

/-- The pieces of that run tile the result's block. -/
theorem cover2 (c : Dev nD) (i : grid0.Coords) (arg5 : Memref sig .tc .vmem S2048x2048 .bf16) (harg5 : arg5.IsWhole) (arg6 : Memref sig .tc .vmem S1x2048x512 .f32) (harg6 : arg6.IsWhole) (arg7 : Memref sig .tc .vmem S1x2048x512 .f32) (harg7 : arg7.IsWhole) (arg8 : Memref sig .tc .vmem S2048x512 .bf16) (harg8 : arg8.IsWhole)
    (x0 : Vec F S2048x2048 .bf16) (x1 : Vec F S1x2048x512 .f32) (x2 : Vec F S1x2048x512 .f32) (xt0 : TbBuf0 (F := F) c tbM0_0) (xt1 : TbBuf0 (F := F) c tbM0_1) (xt2 : TbBuf0 (F := F) c tbM0_2) (hw : word i xt2 = 2#32) (y : S2048x512.Idx) :
    ∃ pc ∈ (kernelRun2 c i arg5 harg5 arg6 harg6 arg7 harg7 arg8 harg8 x0 x1 x2 xt0 xt1 xt2 hw).1, y ∈ pc.1.set :=
  View.cover_of_tiledBy (kernelRun2 c i arg5 harg5 arg6 harg6 arg7 harg7 arg8 harg8 x0 x1 x2 xt0 xt1 xt2 hw).1 ![512, 512] (by sl_kernel_rfl) y

/-- What that run leaves in the result's buffer. -/
def out2 (c : Dev nD) (i : grid0.Coords) (arg5 : Memref sig .tc .vmem S2048x2048 .bf16) (harg5 : arg5.IsWhole) (arg6 : Memref sig .tc .vmem S1x2048x512 .f32) (harg6 : arg6.IsWhole) (arg7 : Memref sig .tc .vmem S1x2048x512 .f32) (harg7 : arg7.IsWhole) (arg8 : Memref sig .tc .vmem S2048x512 .bf16) (harg8 : arg8.IsWhole)
    (x0 : Vec F S2048x2048 .bf16) (x1 : Vec F S1x2048x512 .f32) (x2 : Vec F S1x2048x512 .f32) (xt0 : TbBuf0 (F := F) c tbM0_0) (xt1 : TbBuf0 (F := F) c tbM0_1) (xt2 : TbBuf0 (F := F) c tbM0_2) (hw : word i xt2 = 2#32) : Vec F S2048x512 .bf16 :=
  VO0_3.read (Elt F) (VO0_3.writes (Elt F) VO0_3.junk (kernelRun2 c i arg5 harg5 arg6 harg6 arg7 harg7 arg8 harg8 x0 x1 x2 xt0 xt1 xt2 hw).1)

end Cert.GateUpIdeal.Moe

end
-- ==== Proof.GateUpIdeal.RunB.lean ====
module

public import proofs.«01_k».proof.Proof.GateUpIdeal.RunA

@[expose] public section

set_option maxRecDepth 16384

noncomputable section

namespace Cert.GateUpIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateUpIdeal Cert.GateUpIdeal.Gen

variable {F : FTy → Type} [FloatOps F]

variable (m : (ℓ : Loc nD τ sig) → Buf (Elt F) ℓ) (ρ : Dev nD → PrngReg)
/-! The body of the grouped gate and up products, run at each number of live tiles of the super-row. -/

set_option maxHeartbeats 1000000 in
/-- The body where 3 of the four tiles of the super-row are live: it runs to the end, the inputs' buffers and the tables as they were, and leaves in the result's buffer
    the pieces that the run finds. -/
noncomputable def kernelRun3 (c : Dev nD) (i : grid0.Coords) (arg5 : Memref sig .tc .vmem S2048x2048 .bf16) (harg5 : arg5.IsWhole) (arg6 : Memref sig .tc .vmem S1x2048x512 .f32) (harg6 : arg6.IsWhole) (arg7 : Memref sig .tc .vmem S1x2048x512 .f32) (harg7 : arg7.IsWhole) (arg8 : Memref sig .tc .vmem S2048x512 .bf16) (harg8 : arg8.IsWhole)
    (x0 : Vec F S2048x2048 .bf16) (x1 : Vec F S1x2048x512 .f32) (x2 : Vec F S1x2048x512 .f32) (xt0 : TbBuf0 (F := F) c tbM0_0) (xt1 : TbBuf0 (F := F) c tbM0_1) (xt2 : TbBuf0 (F := F) c tbM0_2) (hw : word i xt2 = 3#32) :
    { L3 : List (View.Piece (Elt F) S2048x512 .bf16) //
      ∀ (E : Set ℕ) (K : PUnit → sProp (MT nD τ sig Unit (Elt F) ℕ (UR sig nD τ) ℕ)),
        iprop(owns (c : Thread nD τ) arg5 fullShare x0 ∗ owns (c : Thread nD τ) arg6 fullShare x1 ∗ owns (c : Thread nD τ) arg7 fullShare x2 ∗ (∃ d, owns (c : Thread nD τ) arg8 fullShare d) ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ (∃ f, arg8.view.loc (c : Thread nD τ) ↦[arg8.view.set]{fullShare} arg8.view.writes (Elt F) f L3) ∗ tbPt0 c tbM0_0 xt0 ∗ tbPt0 c tbM0_1 xt1 ∗ tbPt0 c tbM0_2 xt2) -∗ K ⟨⟩))
          ⊢ wp frame (wpE (defs₀ (F := F)) Variants.none c none) E (cc0_moe_gate_up i tbM0_0 htbM0_0 tbM0_1 htbM0_1 tbM0_2 htbM0_2 arg5 harg5 arg6 harg6 arg7 harg7 arg8 harg8) K } := by
  refine ⟨?_, fun E K => ?run⟩
  case run =>
    have h1 : ¬(k0_cond1 (word i xt2) = 1#1) := by rw [hw]; decide
    have h2 : ¬(k0_cond2 (word i xt2) = 1#1) := by rw [hw]; decide
    have h3 : k0_cond3 (word i xt2) = 1#1 := by rw [hw]; decide
    have h4 : ¬(k0_cond4 (word i xt2) = 1#1) := by rw [hw]; decide
    have h5 : ¬(k0_cond5 (word i xt2) = 1#1) := by rw [hw]; decide
    simp only [cc0_moe_gate_up_eq_skeleton]; unfold cc0_moe_gate_up_skel
    unfold owns
    iintro ⟨⟨%f0, %hf0, H0⟩, ⟨%f1, %hf1, H1⟩, ⟨%f2, %hf2, H2⟩, ⟨%d3, %f3, -, H3⟩, HT0, HT1, HT2, Hk⟩
    obtain rfl := harg5.eq_unread hf0; obtain rfl := harg6.eq_unread hf1; obtain rfl := harg7.eq_unread hf2
    sl_exec
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; iexact H3
    isplitl [HT0]; · iexact HT0
    isplitl [HT1]; · iexact HT1
    iexact HT2

/-- The pieces of that run tile the result's block. -/
theorem cover3 (c : Dev nD) (i : grid0.Coords) (arg5 : Memref sig .tc .vmem S2048x2048 .bf16) (harg5 : arg5.IsWhole) (arg6 : Memref sig .tc .vmem S1x2048x512 .f32) (harg6 : arg6.IsWhole) (arg7 : Memref sig .tc .vmem S1x2048x512 .f32) (harg7 : arg7.IsWhole) (arg8 : Memref sig .tc .vmem S2048x512 .bf16) (harg8 : arg8.IsWhole)
    (x0 : Vec F S2048x2048 .bf16) (x1 : Vec F S1x2048x512 .f32) (x2 : Vec F S1x2048x512 .f32) (xt0 : TbBuf0 (F := F) c tbM0_0) (xt1 : TbBuf0 (F := F) c tbM0_1) (xt2 : TbBuf0 (F := F) c tbM0_2) (hw : word i xt2 = 3#32) (y : S2048x512.Idx) :
    ∃ pc ∈ (kernelRun3 c i arg5 harg5 arg6 harg6 arg7 harg7 arg8 harg8 x0 x1 x2 xt0 xt1 xt2 hw).1, y ∈ pc.1.set :=
  View.cover_of_tiledBy (kernelRun3 c i arg5 harg5 arg6 harg6 arg7 harg7 arg8 harg8 x0 x1 x2 xt0 xt1 xt2 hw).1 ![512, 512] (by sl_kernel_rfl) y

/-- What that run leaves in the result's buffer. -/
def out3 (c : Dev nD) (i : grid0.Coords) (arg5 : Memref sig .tc .vmem S2048x2048 .bf16) (harg5 : arg5.IsWhole) (arg6 : Memref sig .tc .vmem S1x2048x512 .f32) (harg6 : arg6.IsWhole) (arg7 : Memref sig .tc .vmem S1x2048x512 .f32) (harg7 : arg7.IsWhole) (arg8 : Memref sig .tc .vmem S2048x512 .bf16) (harg8 : arg8.IsWhole)
    (x0 : Vec F S2048x2048 .bf16) (x1 : Vec F S1x2048x512 .f32) (x2 : Vec F S1x2048x512 .f32) (xt0 : TbBuf0 (F := F) c tbM0_0) (xt1 : TbBuf0 (F := F) c tbM0_1) (xt2 : TbBuf0 (F := F) c tbM0_2) (hw : word i xt2 = 3#32) : Vec F S2048x512 .bf16 :=
  VO0_3.read (Elt F) (VO0_3.writes (Elt F) VO0_3.junk (kernelRun3 c i arg5 harg5 arg6 harg6 arg7 harg7 arg8 harg8 x0 x1 x2 xt0 xt1 xt2 hw).1)

set_option maxHeartbeats 1000000 in
/-- The body where 4 of the four tiles of the super-row are live: it runs to the end, the inputs' buffers and the tables as they were, and leaves in the result's buffer
    the pieces that the run finds. -/
noncomputable def kernelRun4 (c : Dev nD) (i : grid0.Coords) (arg5 : Memref sig .tc .vmem S2048x2048 .bf16) (harg5 : arg5.IsWhole) (arg6 : Memref sig .tc .vmem S1x2048x512 .f32) (harg6 : arg6.IsWhole) (arg7 : Memref sig .tc .vmem S1x2048x512 .f32) (harg7 : arg7.IsWhole) (arg8 : Memref sig .tc .vmem S2048x512 .bf16) (harg8 : arg8.IsWhole)
    (x0 : Vec F S2048x2048 .bf16) (x1 : Vec F S1x2048x512 .f32) (x2 : Vec F S1x2048x512 .f32) (xt0 : TbBuf0 (F := F) c tbM0_0) (xt1 : TbBuf0 (F := F) c tbM0_1) (xt2 : TbBuf0 (F := F) c tbM0_2) (hw : word i xt2 = 4#32) :
    { L3 : List (View.Piece (Elt F) S2048x512 .bf16) //
      ∀ (E : Set ℕ) (K : PUnit → sProp (MT nD τ sig Unit (Elt F) ℕ (UR sig nD τ) ℕ)),
        iprop(owns (c : Thread nD τ) arg5 fullShare x0 ∗ owns (c : Thread nD τ) arg6 fullShare x1 ∗ owns (c : Thread nD τ) arg7 fullShare x2 ∗ (∃ d, owns (c : Thread nD τ) arg8 fullShare d) ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ (∃ f, arg8.view.loc (c : Thread nD τ) ↦[arg8.view.set]{fullShare} arg8.view.writes (Elt F) f L3) ∗ tbPt0 c tbM0_0 xt0 ∗ tbPt0 c tbM0_1 xt1 ∗ tbPt0 c tbM0_2 xt2) -∗ K ⟨⟩))
          ⊢ wp frame (wpE (defs₀ (F := F)) Variants.none c none) E (cc0_moe_gate_up i tbM0_0 htbM0_0 tbM0_1 htbM0_1 tbM0_2 htbM0_2 arg5 harg5 arg6 harg6 arg7 harg7 arg8 harg8) K } := by
  refine ⟨?_, fun E K => ?run⟩
  case run =>
    have h1 : ¬(k0_cond1 (word i xt2) = 1#1) := by rw [hw]; decide
    have h2 : ¬(k0_cond2 (word i xt2) = 1#1) := by rw [hw]; decide
    have h3 : ¬(k0_cond3 (word i xt2) = 1#1) := by rw [hw]; decide
    have h4 : k0_cond4 (word i xt2) = 1#1 := by rw [hw]; decide
    have h5 : ¬(k0_cond5 (word i xt2) = 1#1) := by rw [hw]; decide
    simp only [cc0_moe_gate_up_eq_skeleton]; unfold cc0_moe_gate_up_skel
    unfold owns
    iintro ⟨⟨%f0, %hf0, H0⟩, ⟨%f1, %hf1, H1⟩, ⟨%f2, %hf2, H2⟩, ⟨%d3, %f3, -, H3⟩, HT0, HT1, HT2, Hk⟩
    obtain rfl := harg5.eq_unread hf0; obtain rfl := harg6.eq_unread hf1; obtain rfl := harg7.eq_unread hf2
    sl_exec
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; iexact H3
    isplitl [HT0]; · iexact HT0
    isplitl [HT1]; · iexact HT1
    iexact HT2

/-- The pieces of that run tile the result's block. -/
theorem cover4 (c : Dev nD) (i : grid0.Coords) (arg5 : Memref sig .tc .vmem S2048x2048 .bf16) (harg5 : arg5.IsWhole) (arg6 : Memref sig .tc .vmem S1x2048x512 .f32) (harg6 : arg6.IsWhole) (arg7 : Memref sig .tc .vmem S1x2048x512 .f32) (harg7 : arg7.IsWhole) (arg8 : Memref sig .tc .vmem S2048x512 .bf16) (harg8 : arg8.IsWhole)
    (x0 : Vec F S2048x2048 .bf16) (x1 : Vec F S1x2048x512 .f32) (x2 : Vec F S1x2048x512 .f32) (xt0 : TbBuf0 (F := F) c tbM0_0) (xt1 : TbBuf0 (F := F) c tbM0_1) (xt2 : TbBuf0 (F := F) c tbM0_2) (hw : word i xt2 = 4#32) (y : S2048x512.Idx) :
    ∃ pc ∈ (kernelRun4 c i arg5 harg5 arg6 harg6 arg7 harg7 arg8 harg8 x0 x1 x2 xt0 xt1 xt2 hw).1, y ∈ pc.1.set :=
  View.cover_of_tiledBy (kernelRun4 c i arg5 harg5 arg6 harg6 arg7 harg7 arg8 harg8 x0 x1 x2 xt0 xt1 xt2 hw).1 ![512, 512] (by sl_kernel_rfl) y

/-- What that run leaves in the result's buffer. -/
def out4 (c : Dev nD) (i : grid0.Coords) (arg5 : Memref sig .tc .vmem S2048x2048 .bf16) (harg5 : arg5.IsWhole) (arg6 : Memref sig .tc .vmem S1x2048x512 .f32) (harg6 : arg6.IsWhole) (arg7 : Memref sig .tc .vmem S1x2048x512 .f32) (harg7 : arg7.IsWhole) (arg8 : Memref sig .tc .vmem S2048x512 .bf16) (harg8 : arg8.IsWhole)
    (x0 : Vec F S2048x2048 .bf16) (x1 : Vec F S1x2048x512 .f32) (x2 : Vec F S1x2048x512 .f32) (xt0 : TbBuf0 (F := F) c tbM0_0) (xt1 : TbBuf0 (F := F) c tbM0_1) (xt2 : TbBuf0 (F := F) c tbM0_2) (hw : word i xt2 = 4#32) : Vec F S2048x512 .bf16 :=
  VO0_3.read (Elt F) (VO0_3.writes (Elt F) VO0_3.junk (kernelRun4 c i arg5 harg5 arg6 harg6 arg7 harg7 arg8 harg8 x0 x1 x2 xt0 xt1 xt2 hw).1)

set_option maxHeartbeats 1000000 in
/-- The body where no tile of the super-row is live: it runs to the end, the inputs' buffers and the tables as they were, and leaves in the result's buffer
    the pieces that the run finds. -/
noncomputable def kernelRun0 (c : Dev nD) (i : grid0.Coords) (arg5 : Memref sig .tc .vmem S2048x2048 .bf16) (harg5 : arg5.IsWhole) (arg6 : Memref sig .tc .vmem S1x2048x512 .f32) (harg6 : arg6.IsWhole) (arg7 : Memref sig .tc .vmem S1x2048x512 .f32) (harg7 : arg7.IsWhole) (arg8 : Memref sig .tc .vmem S2048x512 .bf16) (harg8 : arg8.IsWhole)
    (x0 : Vec F S2048x2048 .bf16) (x1 : Vec F S1x2048x512 .f32) (x2 : Vec F S1x2048x512 .f32) (xt0 : TbBuf0 (F := F) c tbM0_0) (xt1 : TbBuf0 (F := F) c tbM0_1) (xt2 : TbBuf0 (F := F) c tbM0_2) (hw : word i xt2 = 0#32) :
    { L3 : List (View.Piece (Elt F) S2048x512 .bf16) //
      ∀ (E : Set ℕ) (K : PUnit → sProp (MT nD τ sig Unit (Elt F) ℕ (UR sig nD τ) ℕ)),
        iprop(owns (c : Thread nD τ) arg5 fullShare x0 ∗ owns (c : Thread nD τ) arg6 fullShare x1 ∗ owns (c : Thread nD τ) arg7 fullShare x2 ∗ (∃ d, owns (c : Thread nD τ) arg8 fullShare d) ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ (∃ f, arg8.view.loc (c : Thread nD τ) ↦[arg8.view.set]{fullShare} arg8.view.writes (Elt F) f L3) ∗ tbPt0 c tbM0_0 xt0 ∗ tbPt0 c tbM0_1 xt1 ∗ tbPt0 c tbM0_2 xt2) -∗ K ⟨⟩))
          ⊢ wp frame (wpE (defs₀ (F := F)) Variants.none c none) E (cc0_moe_gate_up i tbM0_0 htbM0_0 tbM0_1 htbM0_1 tbM0_2 htbM0_2 arg5 harg5 arg6 harg6 arg7 harg7 arg8 harg8) K } := by
  refine ⟨?_, fun E K => ?run⟩
  case run =>
    have h1 : ¬(k0_cond1 (word i xt2) = 1#1) := by rw [hw]; decide
    have h2 : ¬(k0_cond2 (word i xt2) = 1#1) := by rw [hw]; decide
    have h3 : ¬(k0_cond3 (word i xt2) = 1#1) := by rw [hw]; decide
    have h4 : ¬(k0_cond4 (word i xt2) = 1#1) := by rw [hw]; decide
    have h5 : k0_cond5 (word i xt2) = 1#1 := by rw [hw]; decide
    simp only [cc0_moe_gate_up_eq_skeleton]; unfold cc0_moe_gate_up_skel
    unfold owns
    iintro ⟨⟨%f0, %hf0, H0⟩, ⟨%f1, %hf1, H1⟩, ⟨%f2, %hf2, H2⟩, ⟨%d3, %f3, -, H3⟩, HT0, HT1, HT2, Hk⟩
    obtain rfl := harg5.eq_unread hf0; obtain rfl := harg6.eq_unread hf1; obtain rfl := harg7.eq_unread hf2
    sl_exec
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; iexact H3
    isplitl [HT0]; · iexact HT0
    isplitl [HT1]; · iexact HT1
    iexact HT2

/-- The pieces of that run tile the result's block. -/
theorem cover0 (c : Dev nD) (i : grid0.Coords) (arg5 : Memref sig .tc .vmem S2048x2048 .bf16) (harg5 : arg5.IsWhole) (arg6 : Memref sig .tc .vmem S1x2048x512 .f32) (harg6 : arg6.IsWhole) (arg7 : Memref sig .tc .vmem S1x2048x512 .f32) (harg7 : arg7.IsWhole) (arg8 : Memref sig .tc .vmem S2048x512 .bf16) (harg8 : arg8.IsWhole)
    (x0 : Vec F S2048x2048 .bf16) (x1 : Vec F S1x2048x512 .f32) (x2 : Vec F S1x2048x512 .f32) (xt0 : TbBuf0 (F := F) c tbM0_0) (xt1 : TbBuf0 (F := F) c tbM0_1) (xt2 : TbBuf0 (F := F) c tbM0_2) (hw : word i xt2 = 0#32) (y : S2048x512.Idx) :
    ∃ pc ∈ (kernelRun0 c i arg5 harg5 arg6 harg6 arg7 harg7 arg8 harg8 x0 x1 x2 xt0 xt1 xt2 hw).1, y ∈ pc.1.set :=
  View.cover_of_tiledBy (kernelRun0 c i arg5 harg5 arg6 harg6 arg7 harg7 arg8 harg8 x0 x1 x2 xt0 xt1 xt2 hw).1 ![512, 512] (by sl_kernel_rfl) y

/-- What that run leaves in the result's buffer. -/
def out0 (c : Dev nD) (i : grid0.Coords) (arg5 : Memref sig .tc .vmem S2048x2048 .bf16) (harg5 : arg5.IsWhole) (arg6 : Memref sig .tc .vmem S1x2048x512 .f32) (harg6 : arg6.IsWhole) (arg7 : Memref sig .tc .vmem S1x2048x512 .f32) (harg7 : arg7.IsWhole) (arg8 : Memref sig .tc .vmem S2048x512 .bf16) (harg8 : arg8.IsWhole)
    (x0 : Vec F S2048x2048 .bf16) (x1 : Vec F S1x2048x512 .f32) (x2 : Vec F S1x2048x512 .f32) (xt0 : TbBuf0 (F := F) c tbM0_0) (xt1 : TbBuf0 (F := F) c tbM0_1) (xt2 : TbBuf0 (F := F) c tbM0_2) (hw : word i xt2 = 0#32) : Vec F S2048x512 .bf16 :=
  VO0_3.read (Elt F) (VO0_3.writes (Elt F) VO0_3.junk (kernelRun0 c i arg5 harg5 arg6 harg6 arg7 harg7 arg8 harg8 x0 x1 x2 xt0 xt1 xt2 hw).1)

end Cert.GateUpIdeal.Moe

end
-- ==== Proof.GateUpIdeal.Frame.lean ====
module

public import proofs.«01_k».proof.Proof.GateUpIdeal.RunB
public import Idealize.ShloMosaic.Lib.Claim

@[expose] public section

set_option maxRecDepth 16384

noncomputable section

namespace Cert.GateUpIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateUpIdeal Cert.GateUpIdeal.Gen

variable {F : FTy → Type} [FloatOps F]

variable (m : (ℓ : Loc nD τ sig) → Buf (Elt F) ℓ) (ρ : Dev nD → PrngReg)
/-! The frame of the grouped gate and up products: the proof data, the body at every point, and the run. -/

/-- What the result's buffer holds after the body at point `t`, by the number of live tiles of the point's super-row. -/
def outsAt (hO : Ok m) (c : Dev nD) (t : Fin (cfgM m hO).N) : Vec F S2048x512 .bf16 :=
  if h1 : word (grid0.coords t) (tbl m 2) = 1#32 then out1 c (grid0.coords t) (ms0_0 m hO t) (hs0_0 m hO t) (ms0_1 m hO t) (hs0_1 m hO t) (ms0_2 m hO t) (hs0_2 m hO t) (ms0_3 m hO t) (hs0_3 m hO t) (iblk m hO c 0 t) (iblk m hO c 1 t) (iblk m hO c 2 t) (tbl m 0) (tbl m 1) (tbl m 2) h1 else
  if h2 : word (grid0.coords t) (tbl m 2) = 2#32 then out2 c (grid0.coords t) (ms0_0 m hO t) (hs0_0 m hO t) (ms0_1 m hO t) (hs0_1 m hO t) (ms0_2 m hO t) (hs0_2 m hO t) (ms0_3 m hO t) (hs0_3 m hO t) (iblk m hO c 0 t) (iblk m hO c 1 t) (iblk m hO c 2 t) (tbl m 0) (tbl m 1) (tbl m 2) h2 else
  if h3 : word (grid0.coords t) (tbl m 2) = 3#32 then out3 c (grid0.coords t) (ms0_0 m hO t) (hs0_0 m hO t) (ms0_1 m hO t) (hs0_1 m hO t) (ms0_2 m hO t) (hs0_2 m hO t) (ms0_3 m hO t) (hs0_3 m hO t) (iblk m hO c 0 t) (iblk m hO c 1 t) (iblk m hO c 2 t) (tbl m 0) (tbl m 1) (tbl m 2) h3 else
  if h4 : word (grid0.coords t) (tbl m 2) = 4#32 then out4 c (grid0.coords t) (ms0_0 m hO t) (hs0_0 m hO t) (ms0_1 m hO t) (hs0_1 m hO t) (ms0_2 m hO t) (hs0_2 m hO t) (ms0_3 m hO t) (hs0_3 m hO t) (iblk m hO c 0 t) (iblk m hO c 1 t) (iblk m hO c 2 t) (tbl m 0) (tbl m 1) (tbl m 2) h4 else
  if h0 : word (grid0.coords t) (tbl m 2) = 0#32 then out0 c (grid0.coords t) (ms0_0 m hO t) (hs0_0 m hO t) (ms0_1 m hO t) (hs0_1 m hO t) (ms0_2 m hO t) (hs0_2 m hO t) (ms0_3 m hO t) (hs0_3 m hO t) (iblk m hO c 0 t) (iblk m hO c 1 t) (iblk m hO c 2 t) (tbl m 0) (tbl m 1) (tbl m 2) h0 else
  VO0_3.read (Val := Elt F) VO0_3.junk

theorem outsAt_1 (hO : Ok m) (c : Dev nD) (t : Fin (cfgM m hO).N) (h : word (grid0.coords t) (tbl m 2) = 1#32) :
    outsAt m hO c t = out1 c (grid0.coords t) (ms0_0 m hO t) (hs0_0 m hO t) (ms0_1 m hO t) (hs0_1 m hO t) (ms0_2 m hO t) (hs0_2 m hO t) (ms0_3 m hO t) (hs0_3 m hO t) (iblk m hO c 0 t) (iblk m hO c 1 t) (iblk m hO c 2 t) (tbl m 0) (tbl m 1) (tbl m 2) h := by
  unfold outsAt
  rw [dif_pos h]
theorem outsAt_2 (hO : Ok m) (c : Dev nD) (t : Fin (cfgM m hO).N) (h : word (grid0.coords t) (tbl m 2) = 2#32) :
    outsAt m hO c t = out2 c (grid0.coords t) (ms0_0 m hO t) (hs0_0 m hO t) (ms0_1 m hO t) (hs0_1 m hO t) (ms0_2 m hO t) (hs0_2 m hO t) (ms0_3 m hO t) (hs0_3 m hO t) (iblk m hO c 0 t) (iblk m hO c 1 t) (iblk m hO c 2 t) (tbl m 0) (tbl m 1) (tbl m 2) h := by
  unfold outsAt
  rw [dif_neg (show ¬ word (grid0.coords t) (tbl m 2) = 1#32 by rw [h]; decide), dif_pos h]
theorem outsAt_3 (hO : Ok m) (c : Dev nD) (t : Fin (cfgM m hO).N) (h : word (grid0.coords t) (tbl m 2) = 3#32) :
    outsAt m hO c t = out3 c (grid0.coords t) (ms0_0 m hO t) (hs0_0 m hO t) (ms0_1 m hO t) (hs0_1 m hO t) (ms0_2 m hO t) (hs0_2 m hO t) (ms0_3 m hO t) (hs0_3 m hO t) (iblk m hO c 0 t) (iblk m hO c 1 t) (iblk m hO c 2 t) (tbl m 0) (tbl m 1) (tbl m 2) h := by
  unfold outsAt
  rw [dif_neg (show ¬ word (grid0.coords t) (tbl m 2) = 1#32 by rw [h]; decide), dif_neg (show ¬ word (grid0.coords t) (tbl m 2) = 2#32 by rw [h]; decide), dif_pos h]
theorem outsAt_4 (hO : Ok m) (c : Dev nD) (t : Fin (cfgM m hO).N) (h : word (grid0.coords t) (tbl m 2) = 4#32) :
    outsAt m hO c t = out4 c (grid0.coords t) (ms0_0 m hO t) (hs0_0 m hO t) (ms0_1 m hO t) (hs0_1 m hO t) (ms0_2 m hO t) (hs0_2 m hO t) (ms0_3 m hO t) (hs0_3 m hO t) (iblk m hO c 0 t) (iblk m hO c 1 t) (iblk m hO c 2 t) (tbl m 0) (tbl m 1) (tbl m 2) h := by
  unfold outsAt
  rw [dif_neg (show ¬ word (grid0.coords t) (tbl m 2) = 1#32 by rw [h]; decide), dif_neg (show ¬ word (grid0.coords t) (tbl m 2) = 2#32 by rw [h]; decide), dif_neg (show ¬ word (grid0.coords t) (tbl m 2) = 3#32 by rw [h]; decide), dif_pos h]
theorem outsAt_0 (hO : Ok m) (c : Dev nD) (t : Fin (cfgM m hO).N) (h : word (grid0.coords t) (tbl m 2) = 0#32) :
    outsAt m hO c t = out0 c (grid0.coords t) (ms0_0 m hO t) (hs0_0 m hO t) (ms0_1 m hO t) (hs0_1 m hO t) (ms0_2 m hO t) (hs0_2 m hO t) (ms0_3 m hO t) (hs0_3 m hO t) (iblk m hO c 0 t) (iblk m hO c 1 t) (iblk m hO c 2 t) (tbl m 0) (tbl m 1) (tbl m 2) h := by
  unfold outsAt
  rw [dif_neg (show ¬ word (grid0.coords t) (tbl m 2) = 1#32 by rw [h]; decide), dif_neg (show ¬ word (grid0.coords t) (tbl m 2) = 2#32 by rw [h]; decide), dif_neg (show ¬ word (grid0.coords t) (tbl m 2) = 3#32 by rw [h]; decide), dif_neg (show ¬ word (grid0.coords t) (tbl m 2) = 4#32 by rw [h]; decide), dif_pos h]

/-- The proof data on core `c`: the arrays as launched, after the body the inputs' buffers at their blocks and the
    result's at `outsAt`; the invariant is the scoped rest, the generator register and the tables' halves. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outsAt m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = outsAt m hO c t := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-- What the body is called with at point `t`, -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d)))

/-- and what it returns. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t))

/-- The body at a point whose super-row has 1 live tiles. -/
theorem sound_body1 (hO : Ok m) (c : Dev nD) (t : Fin (cfgM m hO).N) (h : word (grid0.coords t) (tbl m 2) = 1#32) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).Φ t.succ = (dats m hO 0 c).Φ t.castSucc from rfl,
    show (dats m hO 0 c).owesAt () t.succ = (dats m hO 0 c).owesAt () t.castSucc from rfl,
    after0_0, after0_1, after0_2, after0_3, outsAt_1 m hO c t h]
  rw [show (dats m hO 0 c).Φ t.castSucc = iprop(Pipeline.ΦA spec0 c ∗ Pipeline.ΦT pre0 (tbl m) c) from rfl, PhiT0_eq]
  unfold out1
  iintro ⟨⟨HΦ, ⟨HT0, HT1, HT2⟩⟩, Ho, ⟨%d0, H0⟩, ⟨%d1, H1⟩, ⟨%d2, H2⟩, ⟨%d3, H3⟩⟩
  iapply ((kernelRun1 c (grid0.coords t) _ _ _ _ _ _ _ _ (iblk m hO c 0 t) (iblk m hO c 1 t) (iblk m hO c 2 t) (tbl m 0) (tbl m 1) (tbl m 2) h).2 Set.univ _)
  isplitl [H0]; · iexact H0
  isplitl [H1]; · iexact H1
  isplitl [H2]; · iexact H2
  isplitl [H3]; · iexists _; iexact H3
  isplitl [HT0]; · iexact HT0
  isplitl [HT1]; · iexact HT1
  isplitl [HT2]; · iexact HT2
  iintro ⟨H0, H1, H2, ⟨%e3, H3⟩, HT0, HT1, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1 c _ _ _ _ _ _ _ _ _ _ _ _ _ _ _ h)

/-- The body at a point whose super-row has 2 live tiles. -/
theorem sound_body2 (hO : Ok m) (c : Dev nD) (t : Fin (cfgM m hO).N) (h : word (grid0.coords t) (tbl m 2) = 2#32) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).Φ t.succ = (dats m hO 0 c).Φ t.castSucc from rfl,
    show (dats m hO 0 c).owesAt () t.succ = (dats m hO 0 c).owesAt () t.castSucc from rfl,
    after0_0, after0_1, after0_2, after0_3, outsAt_2 m hO c t h]
  rw [show (dats m hO 0 c).Φ t.castSucc = iprop(Pipeline.ΦA spec0 c ∗ Pipeline.ΦT pre0 (tbl m) c) from rfl, PhiT0_eq]
  unfold out2
  iintro ⟨⟨HΦ, ⟨HT0, HT1, HT2⟩⟩, Ho, ⟨%d0, H0⟩, ⟨%d1, H1⟩, ⟨%d2, H2⟩, ⟨%d3, H3⟩⟩
  iapply ((kernelRun2 c (grid0.coords t) _ _ _ _ _ _ _ _ (iblk m hO c 0 t) (iblk m hO c 1 t) (iblk m hO c 2 t) (tbl m 0) (tbl m 1) (tbl m 2) h).2 Set.univ _)
  isplitl [H0]; · iexact H0
  isplitl [H1]; · iexact H1
  isplitl [H2]; · iexact H2
  isplitl [H3]; · iexists _; iexact H3
  isplitl [HT0]; · iexact HT0
  isplitl [HT1]; · iexact HT1
  isplitl [HT2]; · iexact HT2
  iintro ⟨H0, H1, H2, ⟨%e3, H3⟩, HT0, HT1, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover2 c _ _ _ _ _ _ _ _ _ _ _ _ _ _ _ h)

/-- The body at a point whose super-row has 3 live tiles. -/
theorem sound_body3 (hO : Ok m) (c : Dev nD) (t : Fin (cfgM m hO).N) (h : word (grid0.coords t) (tbl m 2) = 3#32) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).Φ t.succ = (dats m hO 0 c).Φ t.castSucc from rfl,
    show (dats m hO 0 c).owesAt () t.succ = (dats m hO 0 c).owesAt () t.castSucc from rfl,
    after0_0, after0_1, after0_2, after0_3, outsAt_3 m hO c t h]
  rw [show (dats m hO 0 c).Φ t.castSucc = iprop(Pipeline.ΦA spec0 c ∗ Pipeline.ΦT pre0 (tbl m) c) from rfl, PhiT0_eq]
  unfold out3
  iintro ⟨⟨HΦ, ⟨HT0, HT1, HT2⟩⟩, Ho, ⟨%d0, H0⟩, ⟨%d1, H1⟩, ⟨%d2, H2⟩, ⟨%d3, H3⟩⟩
  iapply ((kernelRun3 c (grid0.coords t) _ _ _ _ _ _ _ _ (iblk m hO c 0 t) (iblk m hO c 1 t) (iblk m hO c 2 t) (tbl m 0) (tbl m 1) (tbl m 2) h).2 Set.univ _)
  isplitl [H0]; · iexact H0
  isplitl [H1]; · iexact H1
  isplitl [H2]; · iexact H2
  isplitl [H3]; · iexists _; iexact H3
  isplitl [HT0]; · iexact HT0
  isplitl [HT1]; · iexact HT1
  isplitl [HT2]; · iexact HT2
  iintro ⟨H0, H1, H2, ⟨%e3, H3⟩, HT0, HT1, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover3 c _ _ _ _ _ _ _ _ _ _ _ _ _ _ _ h)

/-- The body at a point whose super-row has 4 live tiles. -/
theorem sound_body4 (hO : Ok m) (c : Dev nD) (t : Fin (cfgM m hO).N) (h : word (grid0.coords t) (tbl m 2) = 4#32) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).Φ t.succ = (dats m hO 0 c).Φ t.castSucc from rfl,
    show (dats m hO 0 c).owesAt () t.succ = (dats m hO 0 c).owesAt () t.castSucc from rfl,
    after0_0, after0_1, after0_2, after0_3, outsAt_4 m hO c t h]
  rw [show (dats m hO 0 c).Φ t.castSucc = iprop(Pipeline.ΦA spec0 c ∗ Pipeline.ΦT pre0 (tbl m) c) from rfl, PhiT0_eq]
  unfold out4
  iintro ⟨⟨HΦ, ⟨HT0, HT1, HT2⟩⟩, Ho, ⟨%d0, H0⟩, ⟨%d1, H1⟩, ⟨%d2, H2⟩, ⟨%d3, H3⟩⟩
  iapply ((kernelRun4 c (grid0.coords t) _ _ _ _ _ _ _ _ (iblk m hO c 0 t) (iblk m hO c 1 t) (iblk m hO c 2 t) (tbl m 0) (tbl m 1) (tbl m 2) h).2 Set.univ _)
  isplitl [H0]; · iexact H0
  isplitl [H1]; · iexact H1
  isplitl [H2]; · iexact H2
  isplitl [H3]; · iexists _; iexact H3
  isplitl [HT0]; · iexact HT0
  isplitl [HT1]; · iexact HT1
  isplitl [HT2]; · iexact HT2
  iintro ⟨H0, H1, H2, ⟨%e3, H3⟩, HT0, HT1, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover4 c _ _ _ _ _ _ _ _ _ _ _ _ _ _ _ h)

/-- The body at a point whose super-row has 0 live tiles. -/
theorem sound_body0 (hO : Ok m) (c : Dev nD) (t : Fin (cfgM m hO).N) (h : word (grid0.coords t) (tbl m 2) = 0#32) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).Φ t.succ = (dats m hO 0 c).Φ t.castSucc from rfl,
    show (dats m hO 0 c).owesAt () t.succ = (dats m hO 0 c).owesAt () t.castSucc from rfl,
    after0_0, after0_1, after0_2, after0_3, outsAt_0 m hO c t h]
  rw [show (dats m hO 0 c).Φ t.castSucc = iprop(Pipeline.ΦA spec0 c ∗ Pipeline.ΦT pre0 (tbl m) c) from rfl, PhiT0_eq]
  unfold out0
  iintro ⟨⟨HΦ, ⟨HT0, HT1, HT2⟩⟩, Ho, ⟨%d0, H0⟩, ⟨%d1, H1⟩, ⟨%d2, H2⟩, ⟨%d3, H3⟩⟩
  iapply ((kernelRun0 c (grid0.coords t) _ _ _ _ _ _ _ _ (iblk m hO c 0 t) (iblk m hO c 1 t) (iblk m hO c 2 t) (tbl m 0) (tbl m 1) (tbl m 2) h).2 Set.univ _)
  isplitl [H0]; · iexact H0
  isplitl [H1]; · iexact H1
  isplitl [H2]; · iexact H2
  isplitl [H3]; · iexists _; iexact H3
  isplitl [HT0]; · iexact HT0
  isplitl [HT1]; · iexact HT1
  isplitl [HT2]; · iexact HT2
  iintro ⟨H0, H1, H2, ⟨%e3, H3⟩, HT0, HT1, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0 c _ _ _ _ _ _ _ _ _ _ _ _ _ _ _ h)

/-- Every word of the third table names a number of tiles, none to four. -/
abbrev Tiles : Prop := ∀ i : grid0.Coords, word (F := F) i (tbl m 2) = 1#32 ∨ word (F := F) i (tbl m 2) = 2#32 ∨ word (F := F) i (tbl m 2) = 3#32 ∨ word (F := F) i (tbl m 2) = 4#32 ∨ word (F := F) i (tbl m 2) = 0#32

/-- The body at any point. -/
theorem sound_body (hO : Ok m) (hT : Tiles m) (c : Dev nD) (t : Fin (cfgM m hO).N) :
    bodyPre m hO c t ⊢ wp frame (wpE (defs₀ (F := F)) Variants.none c none) Set.univ (bodyAt0 (adm m hO) t) (fun _ => bodyPost m hO c t) := by
  rcases hT (grid0.coords t) with h | h | h | h | h
  · exact sound_body1 m hO c t h
  · exact sound_body2 m hO c t h
  · exact sound_body3 m hO c t h
  · exact sound_body4 m hO c t h
  · exact sound_body0 m hO c t h

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The result's window is written back at every point, so the obligation asks its contents there in either case. -/
theorem result_post (hO : Ok m) (c : Dev nD) (t : Fin (cfgM m hO).N) :
    (match (cfgM m hO).idle 3 ((cfgM m hO).grid.coords t) with
      | true => match ((cfgM m hO).win 3).flush t with
        | false => iprop(∃ d, owns (c : Thread nD τ) (ms0_3 m hO t) fullShare ((dats m hO 0 c).before 3 t d))
        | true => owns (c : Thread nD τ) (ms0_3 m hO t) fullShare ((dats m hO 0 c).after 3 t)
      | false => owns (c : Thread nD τ) (ms0_3 m hO t) fullShare ((dats m hO 0 c).after 3 t) : sProp (MT nD τ sig Unit (Elt F) ℕ (UR sig nD τ) ℕ))
    = owns (c : Thread nD τ) (ms0_3 m hO t) fullShare ((dats m hO 0 c).after 3 t) := by
  rw [flush0_3 (adm m hO) t]
  cases (cfgM m hO).idle 3 ((cfgM m hO).grid.coords t) <;> rfl

theorem body_obligation (hO : Ok m) (hT : Tiles m) (c : Dev nD) : BodyObligation (dats (F := F) m hO 0 c) (defs₀ (F := F)) Variants.none () Set.univ := fun t => by
  rw [bigSep_W0, bigSep_W0, defs₀_row m hO]
  refine triple_restated (sound_body m hO hT c t) rfl .rfl fun _ => ?_
  exact sep_mono .rfl (sep_mono .rfl (sep_mono .rfl (sep_mono .rfl (sep_mono .rfl (Entails.of_eq (result_post m hO c t).symm)))))

set_option backward.isDefEq.respectTransparency.types false in
/-- Every execution ends with the arrays at what the proof data say and every counter at zero. -/
theorem run_main_quiescent (hO : Ok m) (hT : Tiles m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO hT c).loose) (hshare := fun c => (dats m hO 0 c).share_full fun _ => rfl)
    (howed := fun _ _ => rfl) (V := V m) (hmain := hmain m Variants.none) (hA := A_eq m hO) (hpf := V_pre m) (hΦ := fun _ _ => rfl)

/-- The frame: every execution ends, the arguments unchanged and every counter at zero. -/
theorem frame (hO : Ok m) (hT : Tiles m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨frame_of m hO (dats m hO) (A_eq m hO) h.1, h.2⟩) (run_main_quiescent m ρ hO hT)

/-- The run with the result named: the array of window 3 after the last point. -/
theorem run_value (hO : Ok m) (hT : Tiles m) : θ_run defs (onTc (τ := τ) (main (F := F))) ⟨m, fun _ => 0, ρ⟩ (fun r => ∀ c : Dev nD,
      r.2.mem ((c.tc : Thread nD τ).loc main_v0) = (dats m hO 0 c).arrAt 3 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).1 3, frame_of m hO (dats m hO) (A_eq m hO) h.1 c⟩) (run_main_quiescent m ρ hO hT)

end Cert.GateUpIdeal.Moe

end
-- ==== Proof.Plan.lean ====
module

public import proofs.«01_k».proof.Pre_planned_gate_up
public import proofs.«01_k».proof.Proof.Gen.Pre_planned_gate_up
public import Idealize.ShloMosaic.Lib.StableHlo.Predicate
public import Idealize.ShloMosaic.Lib.Affine

@[expose] public section

/-! The plan of the grouped rows, as the precondition states it, word by word: super-row `s` goes to one of the eight
experts, has at most four live tiles of 512 rows, and if it has one it is fetched from its own place. -/

noncomputable section

namespace Cert.Plan

open Idealize.ShloMosaic

/-- The sixteen words of a table. -/
abbrev T16 : Shape := ⟨1, ![16]⟩

/-- The plan's words at super-row `s`. -/
structure At (se ss st : T16.Idx → BitVec 32) (s : T16.Idx) : Prop where
  expert : (se s).toNat < 8
  src : (ss s).toNat < 16
  tiles : (st s).toNat ≤ 4
  own : (st s).toNat = 0 ∨ (ss s).toNat = (s 0).val

/-- A word at least zero and below a small bound, read signed, is below it read unsigned. -/
theorem toNat_lt_of_signed {v : BitVec 32} {n : ℕ} (hn : n < 2 ^ 31) (h0 : IntOp.cmpi .sge v 0#32 = 1#1)
    (h1 : IntOp.cmpi .slt v (BitVec.ofNat 32 n) = 1#1) : v.toNat < n := by
  have a : (0 : ℤ) ≤ v.toInt := by
    simpa [IntOp.cmpi, BitVec.sle] using (StableHlo.Predicate.ofBool_eq_one_iff _).1 h0
  have b : v.toInt < n := by
    have := (StableHlo.Predicate.ofBool_eq_one_iff _).1 h1
    simp only [IntOp.cmpi, BitVec.slt, decide_eq_true_eq, StableHlo.Predicate.toInt_ofNat_small n hn] at this
    exact this
  have c : v.msb = false := by
    by_contra hc
    have : v.msb = true := by simpa using hc
    have := BitVec.toInt_neg_of_msb_true this
    omega
  have : v.toInt = v.toNat := by rw [BitVec.toInt_eq_msb_cond, c]; simp
  omega

/-- The same with the bound attained. -/
theorem toNat_le_of_signed {v : BitVec 32} {n : ℕ} (hn : n < 2 ^ 31) (h0 : IntOp.cmpi .sge v 0#32 = 1#1)
    (h1 : IntOp.cmpi .sle v (BitVec.ofNat 32 n) = 1#1) : v.toNat ≤ n := by
  have a : (0 : ℤ) ≤ v.toInt := by
    simpa [IntOp.cmpi, BitVec.sle] using (StableHlo.Predicate.ofBool_eq_one_iff _).1 h0
  have b : v.toInt ≤ n := by
    have := (StableHlo.Predicate.ofBool_eq_one_iff _).1 h1
    simp only [IntOp.cmpi, BitVec.sle, decide_eq_true_eq, StableHlo.Predicate.toInt_ofNat_small n hn] at this
    exact this
  have c : v.msb = false := by
    by_contra hc
    have : v.msb = true := by simpa using hc
    have := BitVec.toInt_neg_of_msb_true this
    omega
  have : v.toInt = v.toNat := by rw [BitVec.toInt_eq_msb_cond, c]; simp
  omega

/-- The comparisons at one super-row, all true, say what the plan's words are there. -/
theorem at_of_words {se ss st : T16.Idx → BitVec 32} {s : T16.Idx}
    (a : IntOp.cmpi .sge (se s) 0#32 = 1#1) (b : IntOp.cmpi .slt (se s) 8#32 = 1#1)
    (c : IntOp.cmpi .sge (ss s) 0#32 = 1#1) (d : IntOp.cmpi .slt (ss s) 16#32 = 1#1)
    (e : IntOp.cmpi .sge (st s) 0#32 = 1#1) (f : IntOp.cmpi .sle (st s) 4#32 = 1#1)
    (g : IntOp.cmpi .eq (st s) 0#32 = 1#1 ∨ IntOp.cmpi .eq (ss s) (BitVec.ofNat 32 (s 0).val) = 1#1) : At se ss st s where
  expert := toNat_lt_of_signed (n := 8) (by decide) a b
  src := toNat_lt_of_signed (n := 16) (by decide) c d
  tiles := toNat_le_of_signed (n := 4) (by decide) e f
  own := by
    rcases g with g | g
    · left; rw [StableHlo.Predicate.cmpi_eq_iff.1 g]; rfl
    · right; rw [StableHlo.Predicate.cmpi_eq_iff.1 g]
      have : (s 0).val < 16 := (s 0).isLt
      rw [BitVec.toNat_ofNat]; omega

variable {F : FTy → Type} [FloatOps F]

/-- The precondition of the gate and up products. -/
theorem gate_up_words {x wg wu} {se ss st : T16.Idx → BitVec 32}
    (h : Cert.Pre_planned_gate_up.fn (F := F) x wg wu se ss st = fun _ => 1#1) (s : T16.Idx) : At se ss st s := by
  have e := congrFun h s
  simp only [Cert.Pre_planned_gate_up.fn, Cert.Pre_planned_gate_up.fn_part1, andi, ori, cmpi, IntOp.andi_eq_one, IntOp.ori_eq_one] at e
  obtain ⟨⟨⟨⟨⟨⟨a, b⟩, c⟩, d⟩, e⟩, f⟩, g⟩ := e
  exact at_of_words a b c d e f g

end Cert.Plan

end
-- ==== Proof.GateUpIdeal.Tables.lean ====
module

public import proofs.«01_k».proof.Proof.GateUpIdeal.Frame
public import proofs.«01_k».proof.Proof.Plan
public import Mathlib.Tactic.IntervalCases

@[expose] public section

/-! What the plan's words are to the grouped gate and up products: the side condition of the pipeline, the number of live
tiles the body reads, and the blocks the windows name. -/

noncomputable section

namespace Cert.GateUpIdeal.Moe

open Idealize.ShloMosaic Idealize.ShloMosaic.TcCoe
open Cert.GateUpIdeal Cert.GateUpIdeal.Gen

variable {F : FTy → Type} [FloatOps F]
variable (m : (ℓ : Loc nD τ sig) → Buf (Elt F) ℓ)

/-- The super-row of a grid point, as an index of the tables. -/
abbrev sup (i : grid0.Coords) : S16.Idx := fun a => match a with | ⟨0, _⟩ => ⟨(i 0).val, (i 0).isLt⟩

/-- The plan holds of the launch memory's tables. -/
abbrev Planned : Prop := ∀ s : S16.Idx, Cert.Plan.At (tbl m 0) (tbl m 1) (tbl m 2) s

theorem off1_val (i : grid0.Coords) : k0_off1 i 0 = (i 0).val := by
  have : (i 0).val < 16 := (i 0).isLt
  show (BitVec.ofNat 32 (i 0).val).toNat = _
  rw [BitVec.toNat_ofNat]; omega

theorem emb_eq (i : grid0.Coords) (h) (x) : (Rect.unit (s := S16) (k0_off1 i) S1.size h).emb x = sup i := by
  funext a
  apply Fin.ext
  match a with
  | ⟨0, _⟩ =>
    have hx : (x 0).val < 1 := (x 0).isLt
    show k0_off1 i 0 + 1 * (x 0).val = (i 0).val
    rw [off1_val]; omega

/-- The word of the third table that the body loads is the table's word at the super-row. -/
theorem word_eq (i : grid0.Coords) (T2) : word (F := F) i T2 = T2 (sup i) :=
  congrArg T2 (emb_eq i _ _)

/-- The rows' window: the block row the second table names. -/
theorem map0_eq (pf : pre0.Contents (Elt F)) (i : grid0.Coords) (h) (h1) :
    cc0_transform_0 h h1 pf i = ![(pf 1 (sup i) : BitVec 32).toNat, 0] :=
  congrArg (fun s : S16.Idx => (![(pf 1 s : BitVec 32).toNat, 0] : Fin 2 → ℕ)) (emb_eq i (h i) (Shape.Idx.first (h1.symm ▸ Nat.one_pos)))

/-- The gate weights' window: the expert the first table names, at the column block of the point where a tile is live. -/
theorem map1_eq (pf : pre0.Contents (Elt F)) (i : grid0.Coords) (h) (h1) :
    cc0_transform_1 h h1 pf i = ![(pf 0 (sup i) : BitVec 32).toNat, 0, (Scalar.select (Scalar.cmpi .sgt (pf 2 (sup i) : BitVec 32) 0#32) (BitVec.ofNat 32 (i 1).val) 13#32 : BitVec 32).toNat] :=
  congrArg (fun s : S16.Idx => (![(pf 0 s : BitVec 32).toNat, 0, (Scalar.select (Scalar.cmpi .sgt (pf 2 s : BitVec 32) 0#32) (BitVec.ofNat 32 (i 1).val) 13#32 : BitVec 32).toNat] : Fin 3 → ℕ))
    (emb_eq i (h i) (Shape.Idx.first (h1.symm ▸ Nat.one_pos)))

/-- The up weights' window names the same blocks. -/
theorem map2_eq (pf : pre0.Contents (Elt F)) (i : grid0.Coords) (h) (h1) :
    cc0_transform_2 h h1 pf i = cc0_transform_1 h h1 pf i := rfl

/-- The column block is one of the fourteen. -/
theorem col_lt (v : BitVec 1) (i : grid0.Coords) : (Scalar.select v (BitVec.ofNat 32 (i 1).val) 13#32 : BitVec 32).toNat < 14 := by
  have : (i 1).val < 14 := (i 1).isLt
  unfold Scalar.select
  split
  · rw [BitVec.toNat_ofNat]; omega
  · decide

/-- A live super-row's column block is the point's. -/
theorem col_eq {v : BitVec 32} (h0 : v.toNat ≠ 0) (h4 : v.toNat ≤ 4) (i : grid0.Coords) :
    (Scalar.select (Scalar.cmpi .sgt v 0#32) (BitVec.ofNat 32 (i 1).val) 13#32 : BitVec 32).toNat = (i 1).val := by
  have : (i 1).val < 14 := (i 1).isLt
  have e : Scalar.cmpi .sgt v 0#32 = 1#1 := (StableHlo.Predicate.sgt_iff_toNat (by omega) (by decide)).2 (by simp; omega)
  rw [e]
  show (BitVec.ofNat 32 (i 1).val).toNat = _
  rw [BitVec.toNat_ofNat]; omega

/-- A block of the rows' window is whole words, whichever block row it is: it starts at an even row and has an even number of them. -/
theorem words0 (n : ℕ) (hn : n < 16) (h) : (Rect.block (s := S32768x2048) S2048x2048.size ![n, 0] h).WholeWords (EltTy.packing .bf16) := by
  refine .inl (.inr ⟨by decide, rfl, .inl ⟨⟨n * 1024, ?_⟩, ⟨1024, rfl⟩⟩⟩)
  show n * 2048 = 2 * (n * 1024); omega

/-- Every block a planned table names is inside its array, and whole words. -/
theorem ok_of_planned (h : Planned m) : Ok (F := F) m := by
  refine ⟨fun i => ?_, fun i => ?_, fun i => ?_⟩
  · have hs := (h (sup i)).src
    rw [map0_eq]
    refine ⟨fun a => ?_, ?_⟩
    · match a with
      | ⟨0, _⟩ => show ((tbl m 1 (sup i) : BitVec 32).toNat + 1) * 2048 ≤ 32768; omega
      | ⟨1, _⟩ => show (0 + 1) * 2048 ≤ 2048; omega
    · right
      exact words0 _ hs _
  · have he := (h (sup i)).expert
    have hc := col_lt (Scalar.cmpi .sgt (tbl m 2 (sup i) : BitVec 32) 0#32) i
    rw [map1_eq]
    refine ⟨fun a => ?_, .inl rfl⟩
    match a with
    | ⟨0, _⟩ => show ((tbl m 0 (sup i) : BitVec 32).toNat + 1) * 1 ≤ 8; omega
    | ⟨1, _⟩ => show (0 + 1) * 2048 ≤ 2048; omega
    | ⟨2, _⟩ => show ((Scalar.select (Scalar.cmpi .sgt (tbl m 2 (sup i) : BitVec 32) 0#32) (BitVec.ofNat 32 (i 1).val) 13#32 : BitVec 32).toNat + 1) * 512 ≤ 7168; omega
  · have he := (h (sup i)).expert
    have hc := col_lt (Scalar.cmpi .sgt (tbl m 2 (sup i) : BitVec 32) 0#32) i
    rw [map2_eq, map1_eq]
    refine ⟨fun a => ?_, .inl rfl⟩
    match a with
    | ⟨0, _⟩ => show ((tbl m 0 (sup i) : BitVec 32).toNat + 1) * 1 ≤ 8; omega
    | ⟨1, _⟩ => show (0 + 1) * 2048 ≤ 2048; omega
    | ⟨2, _⟩ => show ((Scalar.select (Scalar.cmpi .sgt (tbl m 2 (sup i) : BitVec 32) 0#32) (BitVec.ofNat 32 (i 1).val) 13#32 : BitVec 32).toNat + 1) * 512 ≤ 7168; omega

/-- A planned table's word is none to four. -/
theorem tiles_of_planned (h : Planned m) : Tiles (F := F) m := by
  intro i
  have ht := (h (sup i)).tiles
  have e := word_eq (F := F) i (tbl m 2)
  have : ∀ v : BitVec 32, v.toNat ≤ 4 → v = 1#32 ∨ v = 2#32 ∨ v = 3#32 ∨ v = 4#32 ∨ v = 0#32 := by
    intro v hv
    obtain ⟨k, hk, rfl⟩ : ∃ k, k ≤ 4 ∧ v = BitVec.ofNat 32 k := ⟨v.toNat, hv, by simp⟩
    interval_cases k <;> simp
  rcases this _ ht with k | k | k | k | k
  · exact .inl (e.trans k)
  · exact .inr (.inl (e.trans k))
  · exact .inr (.inr (.inl (e.trans k)))
  · exact .inr (.inr (.inr (.inl (e.trans k))))
  · exact .inr (.inr (.inr (.inr (e.trans k))))

end Cert.GateUpIdeal.Moe

end
-- ==== Proof.Spec.lean ====
module

public import proofs.«01_k».proof.Proof.Plan
public import Idealize.ShloMosaic.Lib.Pipeline.ValueKit

@[expose] public section

/-! What both programs compute, index by index. A row of the grouped array belongs to the super-row it lies in; it is live
if it lies in one of that super-row's live tiles. A live row is multiplied by the matrices of its super-row's expert, any
other row is zero. -/

noncomputable section

namespace Cert.Plan

open Idealize.ShloMosaic Idealize.ShloMosaic.Tactic

/-- The super-row of row `r`. -/
abbrev supOf (r : Fin 32768) : T16.Idx := fun a => match a with | ⟨0, _⟩ => ⟨r.val / 2048, by show r.val / 2048 < 16; omega⟩

/-- The expert a table's word names (a planned word is below eight, so the remainder is the word itself). -/
def expertOf (se : T16.Idx → BitVec 32) (s : T16.Idx) : Fin 8 := ⟨(se s).toNat % 8, Nat.mod_lt _ (by decide)⟩

/-- Whether a row is live: in the live tiles of 512 rows of its super-row. -/
def Live (st : T16.Idx → BitVec 32) (r : Fin 32768) : Prop := r.val % 2048 < 512 * (st (supOf r)).toNat

instance (st : T16.Idx → BitVec 32) (r : Fin 32768) : Decidable (Live st r) := by unfold Live; infer_instance

/-- The gated activation: the gate's product times its logistic, times the up product. -/
def act (a u : EReal) : EReal := a * Ideal.div 1 (1 + Ideal.exp (-a)) * u

/-- The gated activation of grouped row `r` at column `f`. -/
def upAt (x : Shape.Idx ⟨2, ![32768, 2048]⟩ → EReal) (wg wu : Shape.Idx ⟨3, ![8, 2048, 7168]⟩ → EReal)
    (se st : T16.Idx → BitVec 32) (r : Fin 32768) (f : Fin 7168) : EReal :=
  if Live st r then
    act (∑ k : Fin 2048, x (ix2 r k) * wg (ix3 (expertOf se (supOf r)) k f))
      (∑ k : Fin 2048, x (ix2 r k) * wu (ix3 (expertOf se (supOf r)) k f))
  else 0

/-- The down product of grouped row `r` at column `f`. -/
def downAt (h : Shape.Idx ⟨2, ![32768, 7168]⟩ → EReal) (wd : Shape.Idx ⟨3, ![8, 7168, 2048]⟩ → EReal)
    (se st : T16.Idx → BitVec 32) (r : Fin 32768) (f : Fin 2048) : EReal :=
  if Live st r then ∑ k : Fin 7168, h (ix2 r k) * wd (ix3 (expertOf se (supOf r)) k f) else 0

end Cert.Plan

end
-- ==== Proof.GateUpIdeal.Block.lean ====
module

public import proofs.«01_k».proof.Proof.GateUpIdeal.Tables
public import proofs.«01_k».proof.Proof.Spec
public import Idealize.ShloMosaic.Lib.WholeRead
public import Idealize.ShloMosaic.Lib.Pipeline.Covers

@[expose] public section

/-! What one grid point of the grouped gate and up products leaves in the result's block. -/

noncomputable section

namespace Cert.GateUpIdeal.Moe

open Idealize.ShloMosaic Idealize.ShloMosaic.TcCoe Idealize.ShloMosaic.Tactic
open Idealize.ShloMosaic.Pipeline (Dat Window)
open Cert.GateUpIdeal Cert.GateUpIdeal.Gen Cert.Plan

/-- The activations of one block of rows against one block of columns. -/
def blockAct {r : ℕ} (x : Shape.Idx ⟨2, ![r, 2048]⟩ → EReal) (wg wu : S1x2048x512.Idx → EReal) (j : Shape.Idx ⟨2, ![r, 512]⟩) : EReal :=
  act (∑ k : Fin 2048, x (ix2 (j 0) k) * wg (ix3 0 k (j 1))) (∑ k : Fin 2048, x (ix2 (j 0) k) * wu (ix3 0 k (j 1)))

/-- The activations of a row read the row and the column. -/
theorem blockAct_congr {r r' : ℕ} {x : Shape.Idx ⟨2, ![r, 2048]⟩ → EReal} (x' : Shape.Idx ⟨2, ![r', 2048]⟩ → EReal)
    (wg wu : S1x2048x512.Idx → EReal) {j : Shape.Idx ⟨2, ![r, 512]⟩} {j' : Shape.Idx ⟨2, ![r', 512]⟩}
    (h0 : ∀ k, x (ix2 (j 0) k) = x' (ix2 (j' 0) k)) (h1 : j 1 = j' 1) : blockAct x wg wu j = blockAct x' wg wu j' := by
  unfold blockAct
  rw [h1]
  simp only [h0]

/-- The products on 512 rows. -/
theorem pay1_apply (x : Vec Ideal S512x2048 .bf16) (wg wu : Vec Ideal S1x2048x512 .f32) (j : S512x512.Idx) :
    k0_pay1 (F := Ideal) x wg wu j = blockAct x wg wu j := by
  unfold blockAct act
  rw [← zero_sub]
  pointwise [k0_pay1]

/-- The products on 1024 rows. -/
theorem pay3_apply (x : Vec Ideal S1024x2048 .bf16) (wg wu : Vec Ideal S1x2048x512 .f32) (j : S1024x512.Idx) :
    k0_pay3 (F := Ideal) x wg wu j = blockAct x wg wu j := by
  unfold blockAct act
  rw [← zero_sub]
  pointwise [k0_pay3]

/-- The products on 1536 rows. -/
theorem pay5_apply (x : Vec Ideal S1536x2048 .bf16) (wg wu : Vec Ideal S1x2048x512 .f32) (j : S1536x512.Idx) :
    k0_pay5 (F := Ideal) x wg wu j = blockAct x wg wu j := by
  unfold blockAct act
  rw [← zero_sub]
  pointwise [k0_pay5]

/-- The products on 2048 rows. -/
theorem pay7_apply (x : Vec Ideal S2048x2048 .bf16) (wg wu : Vec Ideal S1x2048x512 .f32) (j : S2048x512.Idx) :
    k0_pay7 (F := Ideal) x wg wu j = blockAct x wg wu j := by
  unfold blockAct act
  rw [← zero_sub]
  pointwise [k0_pay7]

/-- The block where 1 of the tiles are live. -/
theorem out1_apply (c : Dev nD) (i : grid0.Coords) (a5 : Memref sig .tc .vmem S2048x2048 .bf16) (h5 : a5.IsWhole) (a6 : Memref sig .tc .vmem S1x2048x512 .f32) (h6 : a6.IsWhole)
    (a7 : Memref sig .tc .vmem S1x2048x512 .f32) (h7 : a7.IsWhole) (a8 : Memref sig .tc .vmem S2048x512 .bf16) (h8 : a8.IsWhole)
    (x0 : Vec Ideal S2048x2048 .bf16) (x1 x2 : Vec Ideal S1x2048x512 .f32) (xt0 : TbBuf0 (F := Ideal) c tbM0_0) (xt1 : TbBuf0 (F := Ideal) c tbM0_1) (xt2 : TbBuf0 (F := Ideal) c tbM0_2)
    (hw : word i xt2 = 1#32) (y : S2048x512.Idx) :
    out1 c i a5 h5 a6 h6 a7 h7 a8 h8 x0 x1 x2 xt0 xt1 xt2 hw y = if (y 0 : ℕ) < 512 * 1 then blockAct x0 x1 x2 y else 0 := by
  frame_out
  refine View.canon_eq_of_allAt _ y _ (View.cover_of_tiledBy _ ![512, 512] (by sl_kernel_rfl) y) fun p hp x hx => ?_
  simp only [List.mem_cons, List.not_mem_nil, or_false] at hp
  rcases hp with rfl | rfl
  · have e : (y 0 : ℕ) = 512 + 1 * (x 0 : ℕ) := by rw [← hx]; rfl
    rw [if_neg (by omega)]
    pointwise [k0_pay2]
  · have e : (y 0 : ℕ) = 0 + 1 * (x 0 : ℕ) := by rw [← hx]; rfl
    have e1 : (y 1 : ℕ) = 0 + 1 * (x 1 : ℕ) := by rw [← hx]; rfl
    have lx : (x 0 : ℕ) < 512 := (x 0).isLt
    rw [if_pos (by omega)]
    refine (pay1_apply _ _ _ x).trans ?_
    exact blockAct_congr x0 x1 x2 (fun k => congrArg x0 (funext fun a => Fin.ext (by
      match a with
      | ⟨0, _⟩ => show 0 + 1 * (x 0 : ℕ) = (y 0 : ℕ); omega
      | ⟨1, _⟩ => show 0 + 1 * (k : ℕ) = (k : ℕ); omega))) (Fin.ext (by show (x 1 : ℕ) = (y 1 : ℕ); omega))

/-- The block where 2 of the tiles are live. -/
theorem out2_apply (c : Dev nD) (i : grid0.Coords) (a5 : Memref sig .tc .vmem S2048x2048 .bf16) (h5 : a5.IsWhole) (a6 : Memref sig .tc .vmem S1x2048x512 .f32) (h6 : a6.IsWhole)
    (a7 : Memref sig .tc .vmem S1x2048x512 .f32) (h7 : a7.IsWhole) (a8 : Memref sig .tc .vmem S2048x512 .bf16) (h8 : a8.IsWhole)
    (x0 : Vec Ideal S2048x2048 .bf16) (x1 x2 : Vec Ideal S1x2048x512 .f32) (xt0 : TbBuf0 (F := Ideal) c tbM0_0) (xt1 : TbBuf0 (F := Ideal) c tbM0_1) (xt2 : TbBuf0 (F := Ideal) c tbM0_2)
    (hw : word i xt2 = 2#32) (y : S2048x512.Idx) :
    out2 c i a5 h5 a6 h6 a7 h7 a8 h8 x0 x1 x2 xt0 xt1 xt2 hw y = if (y 0 : ℕ) < 512 * 2 then blockAct x0 x1 x2 y else 0 := by
  frame_out
  refine View.canon_eq_of_allAt _ y _ (View.cover_of_tiledBy _ ![512, 512] (by sl_kernel_rfl) y) fun p hp x hx => ?_
  simp only [List.mem_cons, List.not_mem_nil, or_false] at hp
  rcases hp with rfl | rfl
  · have e : (y 0 : ℕ) = 1024 + 1 * (x 0 : ℕ) := by rw [← hx]; rfl
    rw [if_neg (by omega)]
    pointwise [k0_pay4]
  · have e : (y 0 : ℕ) = 0 + 1 * (x 0 : ℕ) := by rw [← hx]; rfl
    have e1 : (y 1 : ℕ) = 0 + 1 * (x 1 : ℕ) := by rw [← hx]; rfl
    have lx : (x 0 : ℕ) < 1024 := (x 0).isLt
    rw [if_pos (by omega)]
    refine (pay3_apply _ _ _ x).trans ?_
    exact blockAct_congr x0 x1 x2 (fun k => congrArg x0 (funext fun a => Fin.ext (by
      match a with
      | ⟨0, _⟩ => show 0 + 1 * (x 0 : ℕ) = (y 0 : ℕ); omega
      | ⟨1, _⟩ => show 0 + 1 * (k : ℕ) = (k : ℕ); omega))) (Fin.ext (by show (x 1 : ℕ) = (y 1 : ℕ); omega))

/-- The block where 3 of the tiles are live. -/
theorem out3_apply (c : Dev nD) (i : grid0.Coords) (a5 : Memref sig .tc .vmem S2048x2048 .bf16) (h5 : a5.IsWhole) (a6 : Memref sig .tc .vmem S1x2048x512 .f32) (h6 : a6.IsWhole)
    (a7 : Memref sig .tc .vmem S1x2048x512 .f32) (h7 : a7.IsWhole) (a8 : Memref sig .tc .vmem S2048x512 .bf16) (h8 : a8.IsWhole)
    (x0 : Vec Ideal S2048x2048 .bf16) (x1 x2 : Vec Ideal S1x2048x512 .f32) (xt0 : TbBuf0 (F := Ideal) c tbM0_0) (xt1 : TbBuf0 (F := Ideal) c tbM0_1) (xt2 : TbBuf0 (F := Ideal) c tbM0_2)
    (hw : word i xt2 = 3#32) (y : S2048x512.Idx) :
    out3 c i a5 h5 a6 h6 a7 h7 a8 h8 x0 x1 x2 xt0 xt1 xt2 hw y = if (y 0 : ℕ) < 512 * 3 then blockAct x0 x1 x2 y else 0 := by
  frame_out
  refine View.canon_eq_of_allAt _ y _ (View.cover_of_tiledBy _ ![512, 512] (by sl_kernel_rfl) y) fun p hp x hx => ?_
  simp only [List.mem_cons, List.not_mem_nil, or_false] at hp
  rcases hp with rfl | rfl
  · have e : (y 0 : ℕ) = 1536 + 1 * (x 0 : ℕ) := by rw [← hx]; rfl
    rw [if_neg (by omega)]
    pointwise [k0_pay6]
  · have e : (y 0 : ℕ) = 0 + 1 * (x 0 : ℕ) := by rw [← hx]; rfl
    have e1 : (y 1 : ℕ) = 0 + 1 * (x 1 : ℕ) := by rw [← hx]; rfl
    have lx : (x 0 : ℕ) < 1536 := (x 0).isLt
    rw [if_pos (by omega)]
    refine (pay5_apply _ _ _ x).trans ?_
    exact blockAct_congr x0 x1 x2 (fun k => congrArg x0 (funext fun a => Fin.ext (by
      match a with
      | ⟨0, _⟩ => show 0 + 1 * (x 0 : ℕ) = (y 0 : ℕ); omega
      | ⟨1, _⟩ => show 0 + 1 * (k : ℕ) = (k : ℕ); omega))) (Fin.ext (by show (x 1 : ℕ) = (y 1 : ℕ); omega))

/-- The block where 4 of the tiles are live. -/
theorem out4_apply (c : Dev nD) (i : grid0.Coords) (a5 : Memref sig .tc .vmem S2048x2048 .bf16) (h5 : a5.IsWhole) (a6 : Memref sig .tc .vmem S1x2048x512 .f32) (h6 : a6.IsWhole)
    (a7 : Memref sig .tc .vmem S1x2048x512 .f32) (h7 : a7.IsWhole) (a8 : Memref sig .tc .vmem S2048x512 .bf16) (h8 : a8.IsWhole)
    (x0 : Vec Ideal S2048x2048 .bf16) (x1 x2 : Vec Ideal S1x2048x512 .f32) (xt0 : TbBuf0 (F := Ideal) c tbM0_0) (xt1 : TbBuf0 (F := Ideal) c tbM0_1) (xt2 : TbBuf0 (F := Ideal) c tbM0_2)
    (hw : word i xt2 = 4#32) (y : S2048x512.Idx) :
    out4 c i a5 h5 a6 h6 a7 h7 a8 h8 x0 x1 x2 xt0 xt1 xt2 hw y = if (y 0 : ℕ) < 512 * 4 then blockAct x0 x1 x2 y else 0 := by
  frame_out
  have ly : (y 0 : ℕ) < 2048 := (y 0).isLt
  rw [if_pos (by omega)]
  exact pay7_apply x0 x1 x2 y

/-- The block where 0 of the tiles are live. -/
theorem out0_apply (c : Dev nD) (i : grid0.Coords) (a5 : Memref sig .tc .vmem S2048x2048 .bf16) (h5 : a5.IsWhole) (a6 : Memref sig .tc .vmem S1x2048x512 .f32) (h6 : a6.IsWhole)
    (a7 : Memref sig .tc .vmem S1x2048x512 .f32) (h7 : a7.IsWhole) (a8 : Memref sig .tc .vmem S2048x512 .bf16) (h8 : a8.IsWhole)
    (x0 : Vec Ideal S2048x2048 .bf16) (x1 x2 : Vec Ideal S1x2048x512 .f32) (xt0 : TbBuf0 (F := Ideal) c tbM0_0) (xt1 : TbBuf0 (F := Ideal) c tbM0_1) (xt2 : TbBuf0 (F := Ideal) c tbM0_2)
    (hw : word i xt2 = 0#32) (y : S2048x512.Idx) :
    out0 c i a5 h5 a6 h6 a7 h7 a8 h8 x0 x1 x2 xt0 xt1 xt2 hw y = if (y 0 : ℕ) < 512 * 0 then blockAct x0 x1 x2 y else 0 := by
  frame_out
  rw [if_neg (by omega)]
  pointwise [k0_pay8]

/-- The blocks a point is handed: its rows, and its expert's gate and up columns. -/
abbrev rowsAt (m : (ℓ : Loc nD τ sig) → Buf (Elt Ideal) ℓ) (hO : Ok m) (c : Dev nD) (t : Fin (cfgM m hO).N) : Vec Ideal S2048x2048 .bf16 := iblk m hO c 0 t
abbrev gateAt (m : (ℓ : Loc nD τ sig) → Buf (Elt Ideal) ℓ) (hO : Ok m) (c : Dev nD) (t : Fin (cfgM m hO).N) : Vec Ideal S1x2048x512 .f32 := iblk m hO c 1 t
abbrev upAtPt (m : (ℓ : Loc nD τ sig) → Buf (Elt Ideal) ℓ) (hO : Ok m) (c : Dev nD) (t : Fin (cfgM m hO).N) : Vec Ideal S1x2048x512 .f32 := iblk m hO c 2 t

/-- The block a point leaves, by the number of live tiles it reads. -/
theorem outsAt_apply (m : (ℓ : Loc nD τ sig) → Buf (Elt Ideal) ℓ) (hO : Ok m) (hT : Tiles m) (c : Dev nD) (t : Fin (cfgM m hO).N) (y : S2048x512.Idx) :
    outsAt m hO c t y = if (y 0 : ℕ) < 512 * (word (grid0.coords t) (tbl m 2)).toNat then
      blockAct (rowsAt m hO c t) (gateAt m hO c t) (upAtPt m hO c t) y else 0 := by
  rcases hT (grid0.coords t) with h | h | h | h | h
  · exact (congrFun (outsAt_1 m hO c t h) y).trans ((out1_apply _ _ _ _ _ _ _ _ _ _ (rowsAt m hO c t) (gateAt m hO c t) (upAtPt m hO c t) _ _ _ h y).trans (by rw [h]; rfl))
  · exact (congrFun (outsAt_2 m hO c t h) y).trans ((out2_apply _ _ _ _ _ _ _ _ _ _ (rowsAt m hO c t) (gateAt m hO c t) (upAtPt m hO c t) _ _ _ h y).trans (by rw [h]; rfl))
  · exact (congrFun (outsAt_3 m hO c t h) y).trans ((out3_apply _ _ _ _ _ _ _ _ _ _ (rowsAt m hO c t) (gateAt m hO c t) (upAtPt m hO c t) _ _ _ h y).trans (by rw [h]; rfl))
  · exact (congrFun (outsAt_4 m hO c t h) y).trans ((out4_apply _ _ _ _ _ _ _ _ _ _ (rowsAt m hO c t) (gateAt m hO c t) (upAtPt m hO c t) _ _ _ h y).trans (by rw [h]; rfl))
  · exact (congrFun (outsAt_0 m hO c t h) y).trans ((out0_apply _ _ _ _ _ _ _ _ _ _ (rowsAt m hO c t) (gateAt m hO c t) (upAtPt m hO c t) _ _ _ h y).trans (by rw [h]; rfl))

end Cert.GateUpIdeal.Moe

end
-- ==== Proof.GateUpIdeal.Value.lean ====
module

public import proofs.«01_k».proof.Proof.GateUpIdeal.Block

@[expose] public section

/-! The array the grouped gate and up products leave. -/

noncomputable section

namespace Cert.GateUpIdeal.Moe

open Idealize.ShloMosaic Idealize.ShloMosaic.TcCoe Idealize.ShloMosaic.Tactic
open Idealize.ShloMosaic.Pipeline (Dat Window)
open Cert.GateUpIdeal Cert.GateUpIdeal.Gen Cert.Plan

variable (m : (ℓ : Loc nD τ sig) → Buf (Elt Ideal) ℓ)

/-- Window 0's block index at a point. -/
theorem index0 (hO : Ok m) (t : Fin (cfgM m hO).N) :
    ((cfgM m hO).win 0).index t = ![(tbl m 1 (sup (grid0.coords t)) : BitVec 32).toNat, 0] :=
  map0_eq (F := Ideal) (tbl m) (grid0.coords t) _ _

/-- Window 1's block index at a point whose super-row has a live tile. -/
theorem index1 (hO : Ok m) (hP : Planned m) (t : Fin (cfgM m hO).N) (h0 : (tbl m 2 (sup (grid0.coords t)) : BitVec 32).toNat ≠ 0) :
    ((cfgM m hO).win 1).index t = ![(tbl m 0 (sup (grid0.coords t)) : BitVec 32).toNat, 0, (grid0.coords t 1).val] := by
  refine (map1_eq (F := Ideal) (tbl m) (grid0.coords t) _ _).trans ?_
  rw [col_eq h0 (hP _).tiles]

theorem index2 (hO : Ok m) (hP : Planned m) (t : Fin (cfgM m hO).N) (h0 : (tbl m 2 (sup (grid0.coords t)) : BitVec 32).toNat ≠ 0) :
    ((cfgM m hO).win 2).index t = ![(tbl m 0 (sup (grid0.coords t)) : BitVec 32).toNat, 0, (grid0.coords t 1).val] :=
  index1 m hO hP t h0

/-- Window 3's block index at a point. -/
theorem index3 (hO : Ok m) (t : Fin (cfgM m hO).N) :
    ((cfgM m hO).win 3).index t = ![(grid0.coords t 0).val, (grid0.coords t 1).val] := by
  have h0 : (grid0.coords t 0).val < 16 := (grid0.coords t 0).isLt
  have h1 : (grid0.coords t 1).val < 14 := (grid0.coords t 1).isLt
  show (![(BitVec.ofNat 32 (grid0.coords t 0).val).toNat, (BitVec.ofNat 32 (grid0.coords t 1).val).toNat] : Fin 2 → ℕ) = _
  rw [BitVec.toNat_ofNat, BitVec.toNat_ofNat, Nat.mod_eq_of_lt (by omega), Nat.mod_eq_of_lt (by omega)]

/-- The rows a point is handed, in the grouped array. -/
theorem rowsAt_apply (hO : Ok m) (c : Dev nD) (t : Fin (cfgM m hO).N) (y k : Fin 2048) (r : Fin 32768)
    (hr : r.val = (tbl m 1 (sup (grid0.coords t)) : BitVec 32).toNat * 2048 + y.val) :
    rowsAt m hO c t (ix2 y k) = V m c main_arg0 (ix2 r k) := by
  refine congrArg (V m c main_arg0) (funext fun a => Fin.ext ?_)
  blk_simp
  rw [index0 m hO t]
  match a with
  | ⟨0, _⟩ => exact hr.symm
  | ⟨1, _⟩ => show 0 * 2048 + (k : ℕ) = (k : ℕ); omega

/-- The gate columns a point is handed, in the weights. -/
theorem gateAt_apply (hO : Ok m) (hP : Planned m) (c : Dev nD) (t : Fin (cfgM m hO).N) (h0 : (tbl m 2 (sup (grid0.coords t)) : BitVec 32).toNat ≠ 0)
    (k : Fin 2048) (z : Fin 512) (e : Fin 8) (f : Fin 7168)
    (he : e.val = (tbl m 0 (sup (grid0.coords t)) : BitVec 32).toNat) (hf : f.val = (grid0.coords t 1).val * 512 + z.val) :
    gateAt m hO c t (ix3 0 k z) = V m c main_arg1 (ix3 e k f) := by
  refine congrArg (V m c main_arg1) (funext fun a => Fin.ext ?_)
  blk_simp
  rw [index1 m hO hP t h0]
  match a with
  | ⟨0, _⟩ => show (tbl m 0 (sup (grid0.coords t)) : BitVec 32).toNat * 1 + 0 = (e : ℕ); omega
  | ⟨1, _⟩ => show 0 * 2048 + (k : ℕ) = (k : ℕ); omega
  | ⟨2, _⟩ => exact hf.symm

/-- The up columns a point is handed, in the weights. -/
theorem upAtPt_apply (hO : Ok m) (hP : Planned m) (c : Dev nD) (t : Fin (cfgM m hO).N) (h0 : (tbl m 2 (sup (grid0.coords t)) : BitVec 32).toNat ≠ 0)
    (k : Fin 2048) (z : Fin 512) (e : Fin 8) (f : Fin 7168)
    (he : e.val = (tbl m 0 (sup (grid0.coords t)) : BitVec 32).toNat) (hf : f.val = (grid0.coords t 1).val * 512 + z.val) :
    upAtPt m hO c t (ix3 0 k z) = V m c main_arg2 (ix3 e k f) := by
  refine congrArg (V m c main_arg2) (funext fun a => Fin.ext ?_)
  blk_simp
  rw [index2 m hO hP t h0]
  match a with
  | ⟨0, _⟩ => show (tbl m 0 (sup (grid0.coords t)) : BitVec 32).toNat * 1 + 0 = (e : ℕ); omega
  | ⟨1, _⟩ => show 0 * 2048 + (k : ℕ) = (k : ℕ); omega
  | ⟨2, _⟩ => exact hf.symm

/-- The block a point leaves is the rows' activations, where they lie in the array. -/
theorem outsAt_eq (hO : Ok m) (hP : Planned m) (c : Dev nD) (t : Fin (cfgM m hO).N) (y : S2048x512.Idx) (r : Fin 32768) (f : Fin 7168)
    (hr : r.val = (grid0.coords t 0).val * 2048 + (y 0).val) (hf : f.val = (grid0.coords t 1).val * 512 + (y 1).val) :
    outsAt m hO c t y = upAt (V m c main_arg0) (V m c main_arg1) (V m c main_arg2) (tbl m 0) (tbl m 2) r f := by
  have hy : (y 0).val < 2048 := (y 0).isLt
  have hs : supOf r = sup (grid0.coords t) := funext fun a => Fin.ext (by
    match a with
    | ⟨0, _⟩ => show r.val / 2048 = (grid0.coords t 0).val; omega)
  rw [outsAt_apply m hO (tiles_of_planned m hP) c t y]
  have hw : word (grid0.coords t) (tbl m 2) = tbl m 2 (sup (grid0.coords t)) := word_eq _ _
  have hm : r.val % 2048 = (y 0).val := by omega
  by_cases hl : (y 0 : ℕ) < 512 * (tbl m 2 (sup (grid0.coords t)) : BitVec 32).toNat
  · have h0 : (tbl m 2 (sup (grid0.coords t)) : BitVec 32).toNat ≠ 0 := by omega
    rw [if_pos (by rw [hw]; exact hl)]
    unfold upAt
    rw [if_pos (show Live (tbl m 2) r by unfold Live; rw [hs, hm]; exact hl), hs]
    have ho := (hP (sup (grid0.coords t))).own.resolve_left h0
    have he := (hP (sup (grid0.coords t))).expert
    have hr' : r.val = (tbl m 1 (sup (grid0.coords t)) : BitVec 32).toNat * 2048 + (y 0).val := by
      rw [ho]; exact hr
    have hx : (expertOf (tbl m 0) (sup (grid0.coords t))).val = (tbl m 0 (sup (grid0.coords t)) : BitVec 32).toNat := Nat.mod_eq_of_lt he
    unfold blockAct
    refine congrArg₂ act (Finset.sum_congr rfl fun k _ => ?_) (Finset.sum_congr rfl fun k _ => ?_)
    · exact congrArg₂ (· * ·) (rowsAt_apply m hO c t (y 0) k r hr') (gateAt_apply m hO hP c t h0 k (y 1) _ f hx hf)
    · exact congrArg₂ (· * ·) (rowsAt_apply m hO c t (y 0) k r hr') (upAtPt_apply m hO hP c t h0 k (y 1) _ f hx hf)
  · rw [if_neg (by rw [hw]; exact hl)]
    unfold upAt
    rw [if_neg (show ¬ Live (tbl m 2) r by unfold Live; rw [hs, hm]; exact hl)]

/-- The array after the run. -/
theorem final (hO : Ok m) (hP : Planned m) (c : Dev nD) :
    (dats m hO 0 c).arrAt 3 (cfgM m hO).N = fun i : S32768x7168.Idx =>
      upAt (V m c main_arg0) (V m c main_arg1) (V m c main_arg2) (tbl m 0) (tbl m 2) (i 0) (i 1) := by
  refine (dats m hO 0 c).arrAt_eq_of_covers 3 _ ?_ fun t hf y => ?_
  · refine ((cfgM m hO).win 3).covers_of_indexMap_surj rfl (fun a => ?_) fun β => ?_
    · match a with
      | ⟨0, _⟩ => exact (by decide : 0 < 2048)
      | ⟨1, _⟩ => exact (by decide : 0 < 512)
    · have b0 : (β (0 : Fin 2)).val < 16 := lt_of_lt_of_eq (β (0 : Fin 2)).isLt (by show (32768 + 2048 - 1) / 2048 = 16; decide)
      have b1 : (β (1 : Fin 2)).val < 14 := lt_of_lt_of_eq (β (1 : Fin 2)).isLt (by show (7168 + 512 - 1) / 512 = 14; decide)
      refine ⟨fun a => match a with | ⟨0, _⟩ => ⟨(β (0 : Fin 2)).val, b0⟩ | ⟨1, _⟩ => ⟨(β (1 : Fin 2)).val, b1⟩, fun a => ?_⟩
      match a with
      | ⟨0, _⟩ => show (BitVec.ofNat 32 (β (0 : Fin 2)).val).toNat = (β (0 : Fin 2)).val; rw [BitVec.toNat_ofNat, Nat.mod_eq_of_lt (by omega)]
      | ⟨1, _⟩ => show (BitVec.ofNat 32 (β (1 : Fin 2)).val).toNat = (β (1 : Fin 2)).val; rw [BitVec.toNat_ofNat, Nat.mod_eq_of_lt (by omega)]
  · blk_simp
    rw [after0_3]
    refine outsAt_eq m hO hP c t y _ _ ?_ ?_
    · blk_simp; rw [index3 m hO t]; rfl
    · blk_simp; rw [index3 m hO t]; rfl

end Cert.GateUpIdeal.Moe

end
-- ==== Proof.Collapse.lean ====
module

public import proofs.«01_k».proof.Proof.Spec
public import Mathlib.Tactic.FinCases

@[expose] public section

/-! A sum over the eight experts with a gate that is one at one of them, or zero throughout. -/

noncomputable section

namespace Cert.Plan

open Idealize.ShloMosaic

/-- The gate of row `r` for expert `e`: one at the expert of its super-row where the row is live. -/
def gate (se st : T16.Idx → BitVec 32) (r : Fin 32768) (e : Fin 8) : EReal :=
  if expertOf se (supOf r) = e ∧ Live st r then 1 else 0

/-- The gated sum is the chosen expert's term. -/
theorem gated_sum (se st : T16.Idx → BitVec 32) (r : Fin 32768) (y : Fin 8 → EReal) :
    ((((((((0 + gate se st r 0 * y 0) + gate se st r 1 * y 1) + gate se st r 2 * y 2) + gate se st r 3 * y 3)
      + gate se st r 4 * y 4) + gate se st r 5 * y 5) + gate se st r 6 * y 6) + gate se st r 7 * y 7)
      = if Live st r then y (expertOf se (supOf r)) else 0 := by
  unfold gate
  generalize expertOf se (supOf r) = e0
  by_cases h : Live st r
  · simp only [h, and_true, if_true]
    fin_cases e0 <;> simp
  · simp [h]

/-- The gate as it is computed: the expert's word is compared with `e`, the row's place in its super-row with 512 rows a live tile. -/
theorem gate_of_words {se ss st : T16.Idx → BitVec 32} {r : Fin 32768} (h : At se ss st (supOf r)) (e : Fin 8) :
    Scalar.select (IntOp.andi (IntOp.cmpi .eq (se (supOf r)) (BitVec.ofNat 32 e.val))
      (IntOp.cmpi .slt (BitVec.ofNat 32 (r.val % 2048)) (IntOp.muli 512#32 (st (supOf r))))) (1 : EReal) 0 = gate se st r e := by
  have he := h.expert
  have ht := h.tiles
  have hm : r.val % 2048 < 2048 := Nat.mod_lt _ (by decide)
  have a : IntOp.cmpi .eq (se (supOf r)) (BitVec.ofNat 32 e.val) = 1#1 ↔ expertOf se (supOf r) = e := by
    rw [StableHlo.Predicate.cmpi_eq_iff]
    have := e.isLt
    constructor
    · intro h; apply Fin.ext; show (se (supOf r)).toNat % 8 = e.val
      rw [h, BitVec.toNat_ofNat]; omega
    · intro h; have := congrArg Fin.val h
      apply BitVec.eq_of_toNat_eq; rw [BitVec.toNat_ofNat]
      have h2 : (se (supOf r)).toNat % 8 = e.val := this
      omega
  have b : IntOp.cmpi .slt (BitVec.ofNat 32 (r.val % 2048)) (IntOp.muli 512#32 (st (supOf r))) = 1#1 ↔ Live st r := by
    have hmul : (IntOp.muli 512#32 (st (supOf r))).toNat = 512 * (st (supOf r)).toNat := by
      show (512#32 * st (supOf r)).toNat = _
      rw [BitVec.toNat_mul]; show 512 * _ % _ = _; omega
    have hp : (BitVec.ofNat 32 (r.val % 2048)).toNat = r.val % 2048 := by rw [BitVec.toNat_ofNat]; omega
    refine (StableHlo.Predicate.slt_iff_toNat (by rw [hp]; omega) (by rw [hmul]; omega)).trans ?_
    rw [hp, hmul]; rfl
  have c : ∀ u v : BitVec 1, IntOp.andi u v = 1#1 ↔ (u = 1#1 ∧ v = 1#1) := by decide
  have d := (c _ _).trans (and_congr a b)
  unfold gate
  by_cases k : expertOf se (supOf r) = e ∧ Live st r
  · rw [if_pos k, d.2 k]; rfl
  · rw [if_neg k]
    have z : ∀ v : BitVec 1, ¬ v = 1#1 → v = 0#1 := by decide
    rw [z _ fun h => k (d.1 h)]; rfl

end Cert.Plan

end
-- ==== Proof.UpReferenceIdeal.Value.lean ====
module

public import proofs.«01_k».proof.Proof.Collapse
public import proofs.«01_k».proof.Proof.Gen.UpReferenceIdeal.Read

@[expose] public section

/-! The reference of the gate and up products, index by index. -/

noncomputable section

namespace Cert.UpReferenceIdeal.Moe

open Idealize.ShloMosaic Idealize.ShloMosaic.TcCoe Idealize.ShloMosaic.Tactic
open Cert.UpReferenceIdeal Cert.UpReferenceIdeal.Read Cert.Plan

variable (x0 : (⟨S32768x2048, .bf16⟩ : BufTy).Contents (Elt Ideal)) (x1 x2 : (⟨S8x2048x7168, .f32⟩ : BufTy).Contents (Elt Ideal))
  (x3 x5 : (⟨S16, .i32⟩ : BufTy).Contents (Elt Ideal)) (ss : T16.Idx → BitVec 32)

/-- The gate's array. -/
theorem gate_at (r : Fin 32768) (e : Fin 8) (h : At x3 ss x5 (supOf r)) (i : S32768x8.Idx) (h0 : (i 0).val = r.val) (h1 : (i 1).val = e.val) :
    val_main_v17 (F := Ideal) x3 x5 i = gate x3 x5 r e := by
  have e3 : idx_main_v1 (idx_main_v2 (idx_main_v3 (idx_main_v12 i))) = supOf r := funext fun a => Fin.ext (by
    match a with
    | ⟨0, _⟩ => show ((i 0).val * 1 + 0) / 2048 = r.val / 2048; omega)
  have e5 : idx_main_v5 (idx_main_v8 (idx_main_v10 (idx_main_v15 i))) = supOf r := funext fun a => Fin.ext (by
    match a with
    | ⟨0, _⟩ => show ((i 0).val * 1 + 0) / 2048 = r.val / 2048; omega)
  have e4 : ((idx_main_v10 (idx_main_v15 i)) 1).val = r.val % 2048 := by
    show ((i 0).val * 1 + 0) % 2048 = r.val % 2048; omega
  have e1 : ((idx_main_v13 i) 1).val = e.val := h1
  rw [val_main_v17_apply, val_main_v16_apply, val_main_v14_apply, val_main_v12_apply, val_main_v3_apply, val_main_v2_apply, val_main_v1_apply,
    val_main_v13_apply, val_main_v11_apply, val_main_v15_apply, val_main_v10_apply, val_main_v9_apply, val_main_v4_apply, val_main_v8_apply,
    val_main_v7_apply, val_main_v6_apply, val_main_c_apply, val_main_v5_apply, val_main_call0_v0_apply, val_main_call0_v1_apply,
    val_main_cst_apply, val_main_cst_0_apply, e3, e5, e4, e1]
  refine Eq.trans ?_ (gate_of_words h e)
  congr 1
  · exact Ideal.ofBits_one_f32
  · exact Ideal.ofBits_zero_f32

/-- One expert's gated activation at row `r`, column `f`. -/
def term (r : Fin 32768) (f : Fin 7168) (e : Fin 8) : EReal :=
  act (∑ k : Fin 2048, x0 (ix2 r k) * x1 (ix3 e k f)) (∑ k : Fin 2048, x0 (ix2 r k) * x2 (ix3 e k f))

/-- Expert 0. -/
theorem term0 (i : S32768x7168.Idx) : val_main_v26 (F := Ideal) x0 x1 x2 i = term x0 x1 x2 (i 0) (i 1) 0 := by
  have hg : val_main_v21 (F := Ideal) x0 x1 i = ∑ k : Fin 2048, x0 (ix2 (i 0) k) * x1 (ix3 0 k (i 1)) := by
    rw [val_main_v21_apply]
    refine Finset.sum_congr rfl fun k _ => ?_
    rw [val_main_v0_apply, val_main_v20_apply, val_main_v19_apply]
    have hk := k.isLt
    have hi : (i 1).val < 7168 := (i 1).isLt
    refine congrArg₂ (· * ·) (congrArg x0 (funext fun a => Fin.ext ?_)) (congrArg x1 (funext fun a => Fin.ext ?_))
    · match a with
      | ⟨0, _⟩ => rfl
      | ⟨1, _⟩ => rfl
    · match a with
      | ⟨0, _⟩ => rfl
      | ⟨1, _⟩ => show (k.val * 7168 + (i 1).val) / 7168 % 2048 = k.val; omega
      | ⟨2, _⟩ => show (k.val * 7168 + (i 1).val) % 7168 = (i 1).val; omega
  have hu : val_main_v25 (F := Ideal) x0 x2 i = ∑ k : Fin 2048, x0 (ix2 (i 0) k) * x2 (ix3 0 k (i 1)) := by
    rw [val_main_v25_apply]
    refine Finset.sum_congr rfl fun k _ => ?_
    rw [val_main_v0_apply, val_main_v24_apply, val_main_v23_apply]
    have hk := k.isLt
    have hi : (i 1).val < 7168 := (i 1).isLt
    refine congrArg₂ (· * ·) (congrArg x0 (funext fun a => Fin.ext ?_)) (congrArg x2 (funext fun a => Fin.ext ?_))
    · match a with
      | ⟨0, _⟩ => rfl
      | ⟨1, _⟩ => rfl
    · match a with
      | ⟨0, _⟩ => rfl
      | ⟨1, _⟩ => show (k.val * 7168 + (i 1).val) / 7168 % 2048 = k.val; omega
      | ⟨2, _⟩ => show (k.val * 7168 + (i 1).val) % 7168 = (i 1).val; omega
  rw [val_main_v26_apply, val_main_v22_apply, val_main_call1_v5_apply, val_main_call1_v4_apply, val_main_call1_cst_0_apply, val_main_call1_v3_apply,
    val_main_call1_v2_apply, val_main_call1_cst_apply, val_main_call1_v1_apply, val_main_call1_v0_apply, hg, hu]
  unfold term act
  have h1 : (FloatOps.ofBits .f32 0x3F800000#32 : Ideal .f32) = (1 : EReal) := Ideal.ofBits_one_f32
  rw [h1]
  rfl

/-- Expert 1. -/
theorem term1 (i : S32768x7168.Idx) : val_main_v39 (F := Ideal) x0 x1 x2 i = term x0 x1 x2 (i 0) (i 1) 1 := by
  have hg : val_main_v34 (F := Ideal) x0 x1 i = ∑ k : Fin 2048, x0 (ix2 (i 0) k) * x1 (ix3 1 k (i 1)) := by
    rw [val_main_v34_apply]
    refine Finset.sum_congr rfl fun k _ => ?_
    rw [val_main_v0_apply, val_main_v33_apply, val_main_v32_apply]
    have hk := k.isLt
    have hi : (i 1).val < 7168 := (i 1).isLt
    refine congrArg₂ (· * ·) (congrArg x0 (funext fun a => Fin.ext ?_)) (congrArg x1 (funext fun a => Fin.ext ?_))
    · match a with
      | ⟨0, _⟩ => rfl
      | ⟨1, _⟩ => rfl
    · match a with
      | ⟨0, _⟩ => rfl
      | ⟨1, _⟩ => show (k.val * 7168 + (i 1).val) / 7168 % 2048 = k.val; omega
      | ⟨2, _⟩ => show (k.val * 7168 + (i 1).val) % 7168 = (i 1).val; omega
  have hu : val_main_v38 (F := Ideal) x0 x2 i = ∑ k : Fin 2048, x0 (ix2 (i 0) k) * x2 (ix3 1 k (i 1)) := by
    rw [val_main_v38_apply]
    refine Finset.sum_congr rfl fun k _ => ?_
    rw [val_main_v0_apply, val_main_v37_apply, val_main_v36_apply]
    have hk := k.isLt
    have hi : (i 1).val < 7168 := (i 1).isLt
    refine congrArg₂ (· * ·) (congrArg x0 (funext fun a => Fin.ext ?_)) (congrArg x2 (funext fun a => Fin.ext ?_))
    · match a with
      | ⟨0, _⟩ => rfl
      | ⟨1, _⟩ => rfl
    · match a with
      | ⟨0, _⟩ => rfl
      | ⟨1, _⟩ => show (k.val * 7168 + (i 1).val) / 7168 % 2048 = k.val; omega
      | ⟨2, _⟩ => show (k.val * 7168 + (i 1).val) % 7168 = (i 1).val; omega
  rw [val_main_v39_apply, val_main_v35_apply, val_main_call2_v5_apply, val_main_call2_v4_apply, val_main_call2_cst_0_apply, val_main_call2_v3_apply,
    val_main_call2_v2_apply, val_main_call2_cst_apply, val_main_call2_v1_apply, val_main_call2_v0_apply, hg, hu]
  unfold term act
  have h1 : (FloatOps.ofBits .f32 0x3F800000#32 : Ideal .f32) = (1 : EReal) := Ideal.ofBits_one_f32
  rw [h1]
  rfl

/-- Expert 2. -/
theorem term2 (i : S32768x7168.Idx) : val_main_v52 (F := Ideal) x0 x1 x2 i = term x0 x1 x2 (i 0) (i 1) 2 := by
  have hg : val_main_v47 (F := Ideal) x0 x1 i = ∑ k : Fin 2048, x0 (ix2 (i 0) k) * x1 (ix3 2 k (i 1)) := by
    rw [val_main_v47_apply]
    refine Finset.sum_congr rfl fun k _ => ?_
    rw [val_main_v0_apply, val_main_v46_apply, val_main_v45_apply]
    have hk := k.isLt
    have hi : (i 1).val < 7168 := (i 1).isLt
    refine congrArg₂ (· * ·) (congrArg x0 (funext fun a => Fin.ext ?_)) (congrArg x1 (funext fun a => Fin.ext ?_))
    · match a with
      | ⟨0, _⟩ => rfl
      | ⟨1, _⟩ => rfl
    · match a with
      | ⟨0, _⟩ => rfl
      | ⟨1, _⟩ => show (k.val * 7168 + (i 1).val) / 7168 % 2048 = k.val; omega
      | ⟨2, _⟩ => show (k.val * 7168 + (i 1).val) % 7168 = (i 1).val; omega
  have hu : val_main_v51 (F := Ideal) x0 x2 i = ∑ k : Fin 2048, x0 (ix2 (i 0) k) * x2 (ix3 2 k (i 1)) := by
    rw [val_main_v51_apply]
    refine Finset.sum_congr rfl fun k _ => ?_
    rw [val_main_v0_apply, val_main_v50_apply, val_main_v49_apply]
    have hk := k.isLt
    have hi : (i 1).val < 7168 := (i 1).isLt
    refine congrArg₂ (· * ·) (congrArg x0 (funext fun a => Fin.ext ?_)) (congrArg x2 (funext fun a => Fin.ext ?_))
    · match a with
      | ⟨0, _⟩ => rfl
      | ⟨1, _⟩ => rfl
    · match a with
      | ⟨0, _⟩ => rfl
      | ⟨1, _⟩ => show (k.val * 7168 + (i 1).val) / 7168 % 2048 = k.val; omega
      | ⟨2, _⟩ => show (k.val * 7168 + (i 1).val) % 7168 = (i 1).val; omega
  rw [val_main_v52_apply, val_main_v48_apply, val_main_call3_v5_apply, val_main_call3_v4_apply, val_main_call3_cst_0_apply, val_main_call3_v3_apply,
    val_main_call3_v2_apply, val_main_call3_cst_apply, val_main_call3_v1_apply, val_main_call3_v0_apply, hg, hu]
  unfold term act
  have h1 : (FloatOps.ofBits .f32 0x3F800000#32 : Ideal .f32) = (1 : EReal) := Ideal.ofBits_one_f32
  rw [h1]
  rfl

/-- Expert 3. -/
theorem term3 (i : S32768x7168.Idx) : val_main_v65 (F := Ideal) x0 x1 x2 i = term x0 x1 x2 (i 0) (i 1) 3 := by
  have hg : val_main_v60 (F := Ideal) x0 x1 i = ∑ k : Fin 2048, x0 (ix2 (i 0) k) * x1 (ix3 3 k (i 1)) := by
    rw [val_main_v60_apply]
    refine Finset.sum_congr rfl fun k _ => ?_
    rw [val_main_v0_apply, val_main_v59_apply, val_main_v58_apply]
    have hk := k.isLt
    have hi : (i 1).val < 7168 := (i 1).isLt
    refine congrArg₂ (· * ·) (congrArg x0 (funext fun a => Fin.ext ?_)) (congrArg x1 (funext fun a => Fin.ext ?_))
    · match a with
      | ⟨0, _⟩ => rfl
      | ⟨1, _⟩ => rfl
    · match a with
      | ⟨0, _⟩ => rfl
      | ⟨1, _⟩ => show (k.val * 7168 + (i 1).val) / 7168 % 2048 = k.val; omega
      | ⟨2, _⟩ => show (k.val * 7168 + (i 1).val) % 7168 = (i 1).val; omega
  have hu : val_main_v64 (F := Ideal) x0 x2 i = ∑ k : Fin 2048, x0 (ix2 (i 0) k) * x2 (ix3 3 k (i 1)) := by
    rw [val_main_v64_apply]
    refine Finset.sum_congr rfl fun k _ => ?_
    rw [val_main_v0_apply, val_main_v63_apply, val_main_v62_apply]
    have hk := k.isLt
    have hi : (i 1).val < 7168 := (i 1).isLt
    refine congrArg₂ (· * ·) (congrArg x0 (funext fun a => Fin.ext ?_)) (congrArg x2 (funext fun a => Fin.ext ?_))
    · match a with
      | ⟨0, _⟩ => rfl
      | ⟨1, _⟩ => rfl
    · match a with
      | ⟨0, _⟩ => rfl
      | ⟨1, _⟩ => show (k.val * 7168 + (i 1).val) / 7168 % 2048 = k.val; omega
      | ⟨2, _⟩ => show (k.val * 7168 + (i 1).val) % 7168 = (i 1).val; omega
  rw [val_main_v65_apply, val_main_v61_apply, val_main_call4_v5_apply, val_main_call4_v4_apply, val_main_call4_cst_0_apply, val_main_call4_v3_apply,
    val_main_call4_v2_apply, val_main_call4_cst_apply, val_main_call4_v1_apply, val_main_call4_v0_apply, hg, hu]
  unfold term act
  have h1 : (FloatOps.ofBits .f32 0x3F800000#32 : Ideal .f32) = (1 : EReal) := Ideal.ofBits_one_f32
  rw [h1]
  rfl

/-- Expert 4. -/
theorem term4 (i : S32768x7168.Idx) : val_main_v78 (F := Ideal) x0 x1 x2 i = term x0 x1 x2 (i 0) (i 1) 4 := by
  have hg : val_main_v73 (F := Ideal) x0 x1 i = ∑ k : Fin 2048, x0 (ix2 (i 0) k) * x1 (ix3 4 k (i 1)) := by
    rw [val_main_v73_apply]
    refine Finset.sum_congr rfl fun k _ => ?_
    rw [val_main_v0_apply, val_main_v72_apply, val_main_v71_apply]
    have hk := k.isLt
    have hi : (i 1).val < 7168 := (i 1).isLt
    refine congrArg₂ (· * ·) (congrArg x0 (funext fun a => Fin.ext ?_)) (congrArg x1 (funext fun a => Fin.ext ?_))
    · match a with
      | ⟨0, _⟩ => rfl
      | ⟨1, _⟩ => rfl
    · match a with
      | ⟨0, _⟩ => rfl
      | ⟨1, _⟩ => show (k.val * 7168 + (i 1).val) / 7168 % 2048 = k.val; omega
      | ⟨2, _⟩ => show (k.val * 7168 + (i 1).val) % 7168 = (i 1).val; omega
  have hu : val_main_v77 (F := Ideal) x0 x2 i = ∑ k : Fin 2048, x0 (ix2 (i 0) k) * x2 (ix3 4 k (i 1)) := by
    rw [val_main_v77_apply]
    refine Finset.sum_congr rfl fun k _ => ?_
    rw [val_main_v0_apply, val_main_v76_apply, val_main_v75_apply]
    have hk := k.isLt
    have hi : (i 1).val < 7168 := (i 1).isLt
    refine congrArg₂ (· * ·) (congrArg x0 (funext fun a => Fin.ext ?_)) (congrArg x2 (funext fun a => Fin.ext ?_))
    · match a with
      | ⟨0, _⟩ => rfl
      | ⟨1, _⟩ => rfl
    · match a with
      | ⟨0, _⟩ => rfl
      | ⟨1, _⟩ => show (k.val * 7168 + (i 1).val) / 7168 % 2048 = k.val; omega
      | ⟨2, _⟩ => show (k.val * 7168 + (i 1).val) % 7168 = (i 1).val; omega
  rw [val_main_v78_apply, val_main_v74_apply, val_main_call5_v5_apply, val_main_call5_v4_apply, val_main_call5_cst_0_apply, val_main_call5_v3_apply,
    val_main_call5_v2_apply, val_main_call5_cst_apply, val_main_call5_v1_apply, val_main_call5_v0_apply, hg, hu]
  unfold term act
  have h1 : (FloatOps.ofBits .f32 0x3F800000#32 : Ideal .f32) = (1 : EReal) := Ideal.ofBits_one_f32
  rw [h1]
  rfl

/-- Expert 5. -/
theorem term5 (i : S32768x7168.Idx) : val_main_v91 (F := Ideal) x0 x1 x2 i = term x0 x1 x2 (i 0) (i 1) 5 := by
  have hg : val_main_v86 (F := Ideal) x0 x1 i = ∑ k : Fin 2048, x0 (ix2 (i 0) k) * x1 (ix3 5 k (i 1)) := by
    rw [val_main_v86_apply]
    refine Finset.sum_congr rfl fun k _ => ?_
    rw [val_main_v0_apply, val_main_v85_apply, val_main_v84_apply]
    have hk := k.isLt
    have hi : (i 1).val < 7168 := (i 1).isLt
    refine congrArg₂ (· * ·) (congrArg x0 (funext fun a => Fin.ext ?_)) (congrArg x1 (funext fun a => Fin.ext ?_))
    · match a with
      | ⟨0, _⟩ => rfl
      | ⟨1, _⟩ => rfl
    · match a with
      | ⟨0, _⟩ => rfl
      | ⟨1, _⟩ => show (k.val * 7168 + (i 1).val) / 7168 % 2048 = k.val; omega
      | ⟨2, _⟩ => show (k.val * 7168 + (i 1).val) % 7168 = (i 1).val; omega
  have hu : val_main_v90 (F := Ideal) x0 x2 i = ∑ k : Fin 2048, x0 (ix2 (i 0) k) * x2 (ix3 5 k (i 1)) := by
    rw [val_main_v90_apply]
    refine Finset.sum_congr rfl fun k _ => ?_
    rw [val_main_v0_apply, val_main_v89_apply, val_main_v88_apply]
    have hk := k.isLt
    have hi : (i 1).val < 7168 := (i 1).isLt
    refine congrArg₂ (· * ·) (congrArg x0 (funext fun a => Fin.ext ?_)) (congrArg x2 (funext fun a => Fin.ext ?_))
    · match a with
      | ⟨0, _⟩ => rfl
      | ⟨1, _⟩ => rfl
    · match a with
      | ⟨0, _⟩ => rfl
      | ⟨1, _⟩ => show (k.val * 7168 + (i 1).val) / 7168 % 2048 = k.val; omega
      | ⟨2, _⟩ => show (k.val * 7168 + (i 1).val) % 7168 = (i 1).val; omega
  rw [val_main_v91_apply, val_main_v87_apply, val_main_call6_v5_apply, val_main_call6_v4_apply, val_main_call6_cst_0_apply, val_main_call6_v3_apply,
    val_main_call6_v2_apply, val_main_call6_cst_apply, val_main_call6_v1_apply, val_main_call6_v0_apply, hg, hu]
  unfold term act
  have h1 : (FloatOps.ofBits .f32 0x3F800000#32 : Ideal .f32) = (1 : EReal) := Ideal.ofBits_one_f32
  rw [h1]
  rfl

/-- Expert 6. -/
theorem term6 (i : S32768x7168.Idx) : val_main_v104 (F := Ideal) x0 x1 x2 i = term x0 x1 x2 (i 0) (i 1) 6 := by
  have hg : val_main_v99 (F := Ideal) x0 x1 i = ∑ k : Fin 2048, x0 (ix2 (i 0) k) * x1 (ix3 6 k (i 1)) := by
    rw [val_main_v99_apply]
    refine Finset.sum_congr rfl fun k _ => ?_
    rw [val_main_v0_apply, val_main_v98_apply, val_main_v97_apply]
    have hk := k.isLt
    have hi : (i 1).val < 7168 := (i 1).isLt
    refine congrArg₂ (· * ·) (congrArg x0 (funext fun a => Fin.ext ?_)) (congrArg x1 (funext fun a => Fin.ext ?_))
    · match a with
      | ⟨0, _⟩ => rfl
      | ⟨1, _⟩ => rfl
    · match a with
      | ⟨0, _⟩ => rfl
      | ⟨1, _⟩ => show (k.val * 7168 + (i 1).val) / 7168 % 2048 = k.val; omega
      | ⟨2, _⟩ => show (k.val * 7168 + (i 1).val) % 7168 = (i 1).val; omega
  have hu : val_main_v103 (F := Ideal) x0 x2 i = ∑ k : Fin 2048, x0 (ix2 (i 0) k) * x2 (ix3 6 k (i 1)) := by
    rw [val_main_v103_apply]
    refine Finset.sum_congr rfl fun k _ => ?_
    rw [val_main_v0_apply, val_main_v102_apply, val_main_v101_apply]
    have hk := k.isLt
    have hi : (i 1).val < 7168 := (i 1).isLt
    refine congrArg₂ (· * ·) (congrArg x0 (funext fun a => Fin.ext ?_)) (congrArg x2 (funext fun a => Fin.ext ?_))
    · match a with
      | ⟨0, _⟩ => rfl
      | ⟨1, _⟩ => rfl
    · match a with
      | ⟨0, _⟩ => rfl
      | ⟨1, _⟩ => show (k.val * 7168 + (i 1).val) / 7168 % 2048 = k.val; omega
      | ⟨2, _⟩ => show (k.val * 7168 + (i 1).val) % 7168 = (i 1).val; omega
  rw [val_main_v104_apply, val_main_v100_apply, val_main_call7_v5_apply, val_main_call7_v4_apply, val_main_call7_cst_0_apply, val_main_call7_v3_apply,
    val_main_call7_v2_apply, val_main_call7_cst_apply, val_main_call7_v1_apply, val_main_call7_v0_apply, hg, hu]
  unfold term act
  have h1 : (FloatOps.ofBits .f32 0x3F800000#32 : Ideal .f32) = (1 : EReal) := Ideal.ofBits_one_f32
  rw [h1]
  rfl

/-- Expert 7. -/
theorem term7 (i : S32768x7168.Idx) : val_main_v117 (F := Ideal) x0 x1 x2 i = term x0 x1 x2 (i 0) (i 1) 7 := by
  have hg : val_main_v112 (F := Ideal) x0 x1 i = ∑ k : Fin 2048, x0 (ix2 (i 0) k) * x1 (ix3 7 k (i 1)) := by
    rw [val_main_v112_apply]
    refine Finset.sum_congr rfl fun k _ => ?_
    rw [val_main_v0_apply, val_main_v111_apply, val_main_v110_apply]
    have hk := k.isLt
    have hi : (i 1).val < 7168 := (i 1).isLt
    refine congrArg₂ (· * ·) (congrArg x0 (funext fun a => Fin.ext ?_)) (congrArg x1 (funext fun a => Fin.ext ?_))
    · match a with
      | ⟨0, _⟩ => rfl
      | ⟨1, _⟩ => rfl
    · match a with
      | ⟨0, _⟩ => rfl
      | ⟨1, _⟩ => show (k.val * 7168 + (i 1).val) / 7168 % 2048 = k.val; omega
      | ⟨2, _⟩ => show (k.val * 7168 + (i 1).val) % 7168 = (i 1).val; omega
  have hu : val_main_v116 (F := Ideal) x0 x2 i = ∑ k : Fin 2048, x0 (ix2 (i 0) k) * x2 (ix3 7 k (i 1)) := by
    rw [val_main_v116_apply]
    refine Finset.sum_congr rfl fun k _ => ?_
    rw [val_main_v0_apply, val_main_v115_apply, val_main_v114_apply]
    have hk := k.isLt
    have hi : (i 1).val < 7168 := (i 1).isLt
    refine congrArg₂ (· * ·) (congrArg x0 (funext fun a => Fin.ext ?_)) (congrArg x2 (funext fun a => Fin.ext ?_))
    · match a with
      | ⟨0, _⟩ => rfl
      | ⟨1, _⟩ => rfl
    · match a with
      | ⟨0, _⟩ => rfl
      | ⟨1, _⟩ => show (k.val * 7168 + (i 1).val) / 7168 % 2048 = k.val; omega
      | ⟨2, _⟩ => show (k.val * 7168 + (i 1).val) % 7168 = (i 1).val; omega
  rw [val_main_v117_apply, val_main_v113_apply, val_main_call8_v5_apply, val_main_call8_v4_apply, val_main_call8_cst_0_apply, val_main_call8_v3_apply,
    val_main_call8_v2_apply, val_main_call8_cst_apply, val_main_call8_v1_apply, val_main_call8_v0_apply, hg, hu]
  unfold term act
  have h1 : (FloatOps.ofBits .f32 0x3F800000#32 : Ideal .f32) = (1 : EReal) := Ideal.ofBits_one_f32
  rw [h1]
  rfl

/-- The reference's result at row `r`, column `f`. -/
theorem ref_at (i : S32768x7168.Idx) (h : ∀ s, At x3 ss x5 s) :
    val_main_v123 (F := Ideal) x0 x1 x2 x3 x5 i = upAt x0 x1 x2 x3 x5 (i 0) (i 1) := by
  have g0 : val_main_v29 (F := Ideal) x3 x5 i = gate x3 x5 (i 0) 0 := by
    rw [val_main_v29_apply, val_main_v28_apply, val_main_v27_apply]
    exact gate_at x3 x5 ss (i 0) 0 (h _) _ rfl rfl
  have g1 : val_main_v42 (F := Ideal) x3 x5 i = gate x3 x5 (i 0) 1 := by
    rw [val_main_v42_apply, val_main_v41_apply, val_main_v40_apply]
    exact gate_at x3 x5 ss (i 0) 1 (h _) _ rfl rfl
  have g2 : val_main_v55 (F := Ideal) x3 x5 i = gate x3 x5 (i 0) 2 := by
    rw [val_main_v55_apply, val_main_v54_apply, val_main_v53_apply]
    exact gate_at x3 x5 ss (i 0) 2 (h _) _ rfl rfl
  have g3 : val_main_v68 (F := Ideal) x3 x5 i = gate x3 x5 (i 0) 3 := by
    rw [val_main_v68_apply, val_main_v67_apply, val_main_v66_apply]
    exact gate_at x3 x5 ss (i 0) 3 (h _) _ rfl rfl
  have g4 : val_main_v81 (F := Ideal) x3 x5 i = gate x3 x5 (i 0) 4 := by
    rw [val_main_v81_apply, val_main_v80_apply, val_main_v79_apply]
    exact gate_at x3 x5 ss (i 0) 4 (h _) _ rfl rfl
  have g5 : val_main_v94 (F := Ideal) x3 x5 i = gate x3 x5 (i 0) 5 := by
    rw [val_main_v94_apply, val_main_v93_apply, val_main_v92_apply]
    exact gate_at x3 x5 ss (i 0) 5 (h _) _ rfl rfl
  have g6 : val_main_v107 (F := Ideal) x3 x5 i = gate x3 x5 (i 0) 6 := by
    rw [val_main_v107_apply, val_main_v106_apply, val_main_v105_apply]
    exact gate_at x3 x5 ss (i 0) 6 (h _) _ rfl rfl
  have g7 : val_main_v120 (F := Ideal) x3 x5 i = gate x3 x5 (i 0) 7 := by
    rw [val_main_v120_apply, val_main_v119_apply, val_main_v118_apply]
    exact gate_at x3 x5 ss (i 0) 7 (h _) _ rfl rfl
  have z : (FloatOps.ofBits .f32 0x00000000#32 : Ideal .f32) = (0 : EReal) := Ideal.ofBits_zero_f32
  rw [val_main_v123_apply, val_main_v122_apply, val_main_v121_apply, term7, g7, val_main_v109_apply, val_main_v108_apply, term6, g6, val_main_v96_apply, val_main_v95_apply, term5, g5, val_main_v83_apply, val_main_v82_apply, term4, g4, val_main_v70_apply, val_main_v69_apply, term3, g3, val_main_v57_apply, val_main_v56_apply, term2, g2, val_main_v44_apply, val_main_v43_apply, term1, g1, val_main_v31_apply, val_main_v30_apply, term0, g0, val_main_v18_apply, val_main_cst_1_apply, z]
  exact gated_sum x3 x5 (i 0) (term x0 x1 x2 (i 0) (i 1))

end Cert.UpReferenceIdeal.Moe

end
-- ==== Proof.UpClaim.lean ====
module

public import proofs.«01_k».proof.Defs
public import proofs.«01_k».proof.Proof.GateUp.Same
public import proofs.«01_k».proof.Proof.GateUpIdeal.Value
public import proofs.«01_k».proof.Proof.UpReferenceIdeal.Value
public import Idealize.ShloMosaic.Lib.Claim

@[expose] public section

/-! The claims of the gate and up products. -/

namespace Cert.UpClaim

open Idealize.ShloMosaic Idealize.ShloMosaic.TcCoe Idealize.SL.Sem

/-- The precondition is the plan of the tables. -/
theorem planned {m : (ℓ : Loc Cert.GateUp.nD Cert.GateUp.τ Cert.GateUp.sig) → Buf (Elt Bits) ℓ} (h : Cert.Pre_GateUp m) : Cert.GateUpIdeal.Moe.Planned (F := Bits) m :=
  fun s => Cert.Plan.gate_up_words (h 0) s

theorem planned_ideal {m : (ℓ : Loc Cert.GateUpIdeal.nD Cert.GateUpIdeal.τ Cert.GateUpIdeal.sig) → Buf (Elt Ideal) ℓ} (h : Cert.Pre_GateUpIdeal m) : Cert.GateUpIdeal.Moe.Planned m :=
  fun s => Cert.Plan.gate_up_words (h 0) s

theorem frame_kernel : Cert.quiescent_GateUp := fun m g h => by
  rw [Cert.GateUp.Same.defs_eq, Cert.GateUp.Same.main_eq]
  exact Cert.GateUpIdeal.Moe.frame (F := Bits) m g (Cert.GateUpIdeal.Moe.ok_of_planned (F := Bits) m (planned h)) (Cert.GateUpIdeal.Moe.tiles_of_planned (F := Bits) m (planned h))

theorem frame_ideal : Cert.quiescent_GateUpIdeal := fun m g h =>
  Cert.GateUpIdeal.Moe.frame m g (Cert.GateUpIdeal.Moe.ok_of_planned m (planned_ideal h)) (Cert.GateUpIdeal.Moe.tiles_of_planned m (planned_ideal h))

theorem frame_reference : Cert.quiescent_UpReferenceIdeal := fun m g _ =>
  (θ_run Cert.UpReferenceIdeal.defs _ _).mono (fun r h => ⟨fun c => (h c).2, sem_eq_zero_of_no_sems (by decide) _⟩) (Cert.UpReferenceIdeal.Value.run m g)

/-- The reference's run, its result in the plan's words. -/
theorem reference_run (m : (ℓ : Loc Cert.UpReferenceIdeal.nD Cert.UpReferenceIdeal.τ Cert.UpReferenceIdeal.sig) → Buf (Elt Ideal) ℓ) (g : Dev Cert.UpReferenceIdeal.nD → PrngReg) :
    θ_run Cert.UpReferenceIdeal.defs (onTc (τ := Cert.UpReferenceIdeal.τ) (Cert.UpReferenceIdeal.main (F := Ideal))) ⟨m, fun _ => 0, g⟩ (fun r => ∀ c : Dev Cert.UpReferenceIdeal.nD,
      r.2.mem ((c.tc : Thread Cert.UpReferenceIdeal.nD Cert.UpReferenceIdeal.τ).loc Cert.UpReferenceIdeal.main_v123) = Cert.UpReferenceIdeal.Read.val_main_v123 (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3)) (m ((c.tc : Thread Cert.UpReferenceIdeal.nD Cert.UpReferenceIdeal.τ).loc Cert.UpReferenceIdeal.main_arg5))
      ∧ r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4)
      ∧ r.2.mem ((c.tc : Thread Cert.UpReferenceIdeal.nD Cert.UpReferenceIdeal.τ).loc Cert.UpReferenceIdeal.main_arg5) = m ((c.tc : Thread Cert.UpReferenceIdeal.nD Cert.UpReferenceIdeal.τ).loc Cert.UpReferenceIdeal.main_arg5)) :=
  (θ_run Cert.UpReferenceIdeal.defs _ _).mono (fun r h c => ⟨(h c).1.trans (Cert.UpReferenceIdeal.Read.val_main_v123_eq (StableHlo.launchContents m c)), (h c).2⟩) (Cert.UpReferenceIdeal.Value.run m g)

theorem value : Cert.algebraic_GateUpIdeal_UpReferenceIdeal := by
  intro m g m' g' hpre hagree
  have hP := planned_ideal hpre
  have hO := Cert.GateUpIdeal.Moe.ok_of_planned m hP
  have hT := Cert.GateUpIdeal.Moe.tiles_of_planned m hP
  refine ⟨fun c => (Cert.GateUpIdeal.Moe.dats m hO 0 c).arrAt 3 (Cert.GateUpIdeal.Moe.cfgM m hO).N, Cert.GateUpIdeal.Moe.run_value m g hO hT, ?_⟩
  refine (θ_run Cert.UpReferenceIdeal.defs _ _).mono (fun r h c => ⟨(h c).1.trans ?_, (h c).2⟩) (reference_run m' g')
  obtain ⟨a0, a1, a2, a3, a4, a5⟩ := hagree c
  obtain rfl : c = 0 := Subsingleton.elim _ _
  refine Eq.trans ?_ (Cert.GateUpIdeal.Moe.final m hO hP 0).symm
  funext i
  rw [a0, a1, a2, a3, a5]
  exact Cert.UpReferenceIdeal.Moe.ref_at _ _ _ _ _ (Cert.GateUpIdeal.Moe.tbl m 1) i hP

end Cert.UpClaim
-- ==== Proof.Down.Same.lean ====
module

public import proofs.«01_k».proof.Proof.Gen.Down
public import proofs.«01_k».proof.Proof.Gen.DownIdeal

@[expose] public section

/-! The printed program of the down call and the one of its ideal reading are the same program over any float type, so what is
proved of the second, over any float type, holds of the first. -/

namespace Cert.Down.Same

open Idealize.ShloMosaic Idealize.ShloMosaic.TcCoe

variable {F : FTy → Type} [FloatOps F]

/-- The pipelines are the same. -/
theorem pcfgs_eq : Cert.Down.pcfgs (F := F) = Cert.DownIdeal.pcfgs (F := F) := rfl

/-- The bodies are the same. -/
theorem body_eq : Cert.Down.cc0_moe_down (F := F) = Cert.DownIdeal.cc0_moe_down (F := F) := rfl

/-- The bodies' tables are the same. -/
theorem bodies_eq : Cert.Down.defs₀ (F := F) = Cert.DownIdeal.defs₀ (F := F) := by
  unfold Cert.Down.defs₀ Cert.DownIdeal.defs₀
  refine congrArg Defs.onTc (funext fun x => ?_)
  match x with
  | 0 => exact funext fun (t, s) => rfl

/-- So are the programs' tables. -/
theorem defs_eq : Cert.Down.defs (F := F) = Cert.DownIdeal.defs (F := F) := by
  unfold Cert.Down.defs Cert.DownIdeal.defs
  exact congrArg (Pipeline.defs (Cert.DownIdeal.pcfgs (F := F))) bodies_eq

/-- So are the programs. -/
theorem main_eq : Cert.Down.main (F := F) = Cert.DownIdeal.main (F := F) := rfl

end Cert.Down.Same
-- ==== Proof.DownIdeal.Kit.lean ====
module

public import proofs.«01_k».proof.Proof.Gen.DownIdeal.Launch
public import proofs.«01_k».proof.Proof.Gen.DownIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.DownIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DownIdeal Cert.DownIdeal.Gen

variable {F : FTy → Type} [FloatOps F]

variable (m : (ℓ : Loc nD τ sig) → Buf (Elt F) ℓ) (ρ : Dev nD → PrngReg)
/-! The launch's set-up for the grouped down product with three prefetched routing tables: the pipeline at
any admissible contents of the tables, the windows' blocks, and the frame read off a run. -/

/-- The result's window is written back at the last block of the contraction, at any contents of the tables. -/
theorem flush0_2 (a : (pcfg0 (F := F)).Adm) (t : Fin (cfg0 a).N) : ((cfg0 a).win 2).flush t = true ↔ t.val % 7 = 6 :=
  Pipeline.Window.flushOf_reads cc0_transform_2 reads0_2 hreads0_2 1 (by decide) (by decide) (Pipeline.Window.sep_of_coord cc0_transform_2 1 1 (fun _ => rfl) (by decide)) (P := 7) (m := 6) (by decide) rfl t

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_down (grid0.coords t) (Memref.whole main_arg2) (Memref.isWhole_whole _) (Memref.whole main_arg3) (Memref.isWhole_whole _) (Memref.whole main_arg4) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2))

/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; the precondition gives it. -/
abbrev Ok : Prop := ok0 (F := F) (tbl m)
/-- The tables' contents as ADMISSIBLE contents, and the pipeline at them: what the launch theorem runs
    . -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S16 .i32 := Memref.whole main_arg2
abbrev htbM0_0 : tbM0_0.IsWhole := Memref.isWhole_whole _
abbrev tbM0_1 : Memref sig .tc .smem S16 .i32 := Memref.whole main_arg3
abbrev htbM0_1 : tbM0_1.IsWhole := Memref.isWhole_whole _
abbrev tbM0_2 : Memref sig .tc .smem S16 .i32 := Memref.whole main_arg4
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp (MT nD τ sig Unit (Elt F) ℕ (UR sig nD τ) ℕ)) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-! ## The frame claim from a run -/

/-- A run that ends at the library's post leaves every argument array as launched: the two staged inputs are never
    written back, and the tables are not the pipeline's to write. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w)) {r : PUnit × MemSt nD τ sig (Elt F)}
    (h : Pipeline.FramePost (Pipeline.pin pcfgs fun _ => adm m hO) dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans (((dats 0 c).arrAt_in 0 rfl _).trans ((hA c 0).trans (V_main_arg0 m c))),
   ((h c).1 1).trans (((dats 0 c).arrAt_in 1 rfl _).trans ((hA c 1).trans (V_main_arg1 m c))),
   ((h c).2 main_arg2 (by decide : main_arg2 ∈ Pipeline.restRefs sig spec0)).trans (V_main_arg2 m c),
   ((h c).2 main_arg3 (by decide : main_arg3 ∈ Pipeline.restRefs sig spec0)).trans (V_main_arg3 m c),
   ((h c).2 main_arg4 (by decide : main_arg4 ∈ Pipeline.restRefs sig spec0)).trans (V_main_arg4 m c)⟩

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S2048x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S2048x1024 .f32 := spec0_2.stage ((cfgM m hO).slots t 2)
abbrev hs0_2 (hO : Ok m) (t : Fin (cfgM m hO).N) : (ms0_2 m hO t).IsWhole := hstage0_2 (((cfgM m hO).slots t 2).cast nbuf0_2)

/-- The number of live row tiles of the super-row at grid point `i`: the word of the third table that the body loads. -/
abbrev word (i : grid0.Coords) (T2 : (Memref.whole main_arg4 : Memref sig .tc .smem S16 .i32).view.ty.Contents (Elt F)) : BitVec 32 :=
  View.readAt (Elt F) (tbM0_2).view (Rect.unit (s := S16) (k0_off1 i) S1.size (k0_off1_inb i)).toLoadRect T2 (Shape.Idx.first (numel1_S1.symm ▸ Nat.one_pos))

end Cert.DownIdeal.Moe

end
-- ==== Proof.DownIdeal.Run.lean ====
module

public import proofs.«01_k».proof.Proof.DownIdeal.Kit
public import Idealize.ShloMosaic.Lib.VecWindow

@[expose] public section

set_option maxRecDepth 16384

noncomputable section

namespace Cert.DownIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DownIdeal Cert.DownIdeal.Gen

variable {F : FTy → Type} [FloatOps F]

variable (m : (ℓ : Loc nD τ sig) → Buf (Elt F) ℓ) (ρ : Dev nD → PrngReg)
/-! The body of the down product: it zeroes the result's block at the first block of the contraction and adds
the product of the live rows. -/

/-- The four rectangles of live rows: the first 512, 1024, 1536 and all 2048 rows. -/
abbrev rect1 : Rect S2048x1024 := Rect.unit ![0, 0] S512x1024.size inb_S2048x1024_S512x1024_0_0
abbrev rect2 : Rect S2048x1024 := Rect.unit ![0, 0] S1024x1024.size inb_S2048x1024_S1024x1024_0_0
abbrev rect3 : Rect S2048x1024 := Rect.unit ![0, 0] S1536x1024.size inb_S2048x1024_S1536x1024_0_0
abbrev rect4 : Rect S2048x1024 := Rect.unit ![0, 0] S2048x1024.size inb_S2048x1024_S2048x1024_0_0

/-- The result's block before the product is added: zero at the first block of the contraction, else as found. -/
def base (i : grid0.Coords) (y : Vec F S2048x1024 .f32) : Vec F S2048x1024 .f32 := if k0_cond1 i = 1#1 then k0_pay1 else y

/-- The block `y` with the product of the first 512 rows added. -/
def added1 (x0 : Vec F S2048x1024 .bf16) (x1 : Vec F S1x1024x1024 .f32) (y : Vec F S2048x1024 .f32) : Vec F S2048x1024 .f32 :=
  rect1.overlay y (k0_pay2 (View.ld y rect1) (View.ld x0 rect1) x1)

/-- The block `y` with the product of the first 1024 rows added. -/
def added2 (x0 : Vec F S2048x1024 .bf16) (x1 : Vec F S1x1024x1024 .f32) (y : Vec F S2048x1024 .f32) : Vec F S2048x1024 .f32 :=
  rect2.overlay y (k0_pay3 (View.ld y rect2) (View.ld x0 rect2) x1)

/-- The block `y` with the product of the first 1536 rows added. -/
def added3 (x0 : Vec F S2048x1024 .bf16) (x1 : Vec F S1x1024x1024 .f32) (y : Vec F S2048x1024 .f32) : Vec F S2048x1024 .f32 :=
  rect3.overlay y (k0_pay4 (View.ld y rect3) (View.ld x0 rect3) x1)

/-- The block `y` with the product of the first 2048 rows added. -/
def added4 (x0 : Vec F S2048x1024 .bf16) (x1 : Vec F S1x1024x1024 .f32) (y : Vec F S2048x1024 .f32) : Vec F S2048x1024 .f32 :=
  rect4.overlay y (k0_pay5 (View.ld y rect4) (View.ld x0 rect4) x1)

/-- What the body leaves of a block `y`, the super-row having `w` live tiles. -/
def stepOut (i : grid0.Coords) (w : BitVec 32) (x0 : Vec F S2048x1024 .bf16) (x1 : Vec F S1x1024x1024 .f32) (y : Vec F S2048x1024 .f32) : Vec F S2048x1024 .f32 :=
  if w = 1#32 then added1 x0 x1 (base i y) else if w = 2#32 then added2 x0 x1 (base i y) else if w = 3#32 then added3 x0 x1 (base i y)
  else if w = 4#32 then added4 x0 x1 (base i y) else base i y

theorem stepOut_1 (i : grid0.Coords) (x0 : Vec F S2048x1024 .bf16) (x1 : Vec F S1x1024x1024 .f32) (y : Vec F S2048x1024 .f32) :
    stepOut i 1#32 x0 x1 y = added1 x0 x1 (base i y) := by unfold stepOut; rw [if_pos rfl]
theorem stepOut_2 (i : grid0.Coords) (x0 : Vec F S2048x1024 .bf16) (x1 : Vec F S1x1024x1024 .f32) (y : Vec F S2048x1024 .f32) :
    stepOut i 2#32 x0 x1 y = added2 x0 x1 (base i y) := by unfold stepOut; rw [if_neg (show ¬ ((2#32 : BitVec 32) = 1#32) by decide), if_pos rfl]
theorem stepOut_3 (i : grid0.Coords) (x0 : Vec F S2048x1024 .bf16) (x1 : Vec F S1x1024x1024 .f32) (y : Vec F S2048x1024 .f32) :
    stepOut i 3#32 x0 x1 y = added3 x0 x1 (base i y) := by unfold stepOut; rw [if_neg (show ¬ ((3#32 : BitVec 32) = 1#32) by decide), if_neg (show ¬ ((3#32 : BitVec 32) = 2#32) by decide), if_pos rfl]
theorem stepOut_4 (i : grid0.Coords) (x0 : Vec F S2048x1024 .bf16) (x1 : Vec F S1x1024x1024 .f32) (y : Vec F S2048x1024 .f32) :
    stepOut i 4#32 x0 x1 y = added4 x0 x1 (base i y) := by unfold stepOut; rw [if_neg (show ¬ ((4#32 : BitVec 32) = 1#32) by decide), if_neg (show ¬ ((4#32 : BitVec 32) = 2#32) by decide), if_neg (show ¬ ((4#32 : BitVec 32) = 3#32) by decide), if_pos rfl]
theorem stepOut_0 (i : grid0.Coords) (x0 : Vec F S2048x1024 .bf16) (x1 : Vec F S1x1024x1024 .f32) (y : Vec F S2048x1024 .f32) :
    stepOut i 0#32 x0 x1 y = base i y := by
  unfold stepOut
  rw [if_neg (by decide), if_neg (by decide), if_neg (by decide), if_neg (by decide)]

/-- A store over earlier ones leaves its payload under its rectangle and what they left elsewhere. -/
theorem read_cons {sp : Space} {s : Shape} {e : EltTy} {Val : EltTy → Type} (v : View sig .tc sp s e) (f : v.ty.Contents Val) (r : Rect s) (w : r.shape.Idx → Val e)
    (L : List (View.Piece Val s e)) : v.read Val (v.writes Val f (⟨r, w⟩ :: L)) = r.overlay (v.read Val (v.writes Val f L)) w := by
  funext y
  by_cases hy : y ∈ r.set
  · obtain ⟨x, rfl⟩ := r.exists_idx_of_mem hy
    exact (View.read_writes_cons_emb v f r w L x).trans (r.overlay_emb _ _ x).symm
  · rw [View.writes_cons, View.read_slice_write_of_not_mem r _ _ _ (by rwa [Rect.map_emb_univ]), r.overlay_of_not_mem _ _ hy]

/-- A store of the sum over the first 512 rows, read back. -/
theorem read_added1 {v : View sig .tc .vmem S2048x1024 .f32} {f : v.ty.Contents (Elt F)} {L : List (View.Piece (Elt F) S2048x1024 .f32)}
    {z : Vec F S2048x1024 .f32} {x0 : Vec F S2048x1024 .bf16} {x1 : Vec F S1x1024x1024 .f32} {a b d}
    (hz : v.read (Elt F) (v.writes (Elt F) f L) = z) (ha : a = View.ld z rect1) (hb : b = View.ld x0 rect1) (hd : d = x1) :
    v.read (Elt F) (v.writes (Elt F) f (⟨rect1, k0_pay2 a b d⟩ :: L)) = added1 x0 x1 z := by
  rw [read_cons, hz, ha, hb, hd]; rfl

/-- A store of the sum over the first 1024 rows, read back. -/
theorem read_added2 {v : View sig .tc .vmem S2048x1024 .f32} {f : v.ty.Contents (Elt F)} {L : List (View.Piece (Elt F) S2048x1024 .f32)}
    {z : Vec F S2048x1024 .f32} {x0 : Vec F S2048x1024 .bf16} {x1 : Vec F S1x1024x1024 .f32} {a b d}
    (hz : v.read (Elt F) (v.writes (Elt F) f L) = z) (ha : a = View.ld z rect2) (hb : b = View.ld x0 rect2) (hd : d = x1) :
    v.read (Elt F) (v.writes (Elt F) f (⟨rect2, k0_pay3 a b d⟩ :: L)) = added2 x0 x1 z := by
  rw [read_cons, hz, ha, hb, hd]; rfl

/-- A store of the sum over the first 1536 rows, read back. -/
theorem read_added3 {v : View sig .tc .vmem S2048x1024 .f32} {f : v.ty.Contents (Elt F)} {L : List (View.Piece (Elt F) S2048x1024 .f32)}
    {z : Vec F S2048x1024 .f32} {x0 : Vec F S2048x1024 .bf16} {x1 : Vec F S1x1024x1024 .f32} {a b d}
    (hz : v.read (Elt F) (v.writes (Elt F) f L) = z) (ha : a = View.ld z rect3) (hb : b = View.ld x0 rect3) (hd : d = x1) :
    v.read (Elt F) (v.writes (Elt F) f (⟨rect3, k0_pay4 a b d⟩ :: L)) = added3 x0 x1 z := by
  rw [read_cons, hz, ha, hb, hd]; rfl

/-- A store of the sum over the first 2048 rows, read back. -/
theorem read_added4 {v : View sig .tc .vmem S2048x1024 .f32} {f : v.ty.Contents (Elt F)} {L : List (View.Piece (Elt F) S2048x1024 .f32)}
    {z : Vec F S2048x1024 .f32} {x0 : Vec F S2048x1024 .bf16} {x1 : Vec F S1x1024x1024 .f32} {a b d}
    (hz : v.read (Elt F) (v.writes (Elt F) f L) = z) (ha : a = View.ld z rect4) (hb : b = View.ld x0 rect4) (hd : d = x1) :
    v.read (Elt F) (v.writes (Elt F) f (⟨rect4, k0_pay5 a b d⟩ :: L)) = added4 x0 x1 z := by
  rw [read_cons, hz, ha, hb, hd]; rfl

set_option maxHeartbeats 1000000 in
/-- The body at any point whose super-row has at most four live tiles. -/
theorem kernelRun (c : Dev nD) (i : grid0.Coords) (arg6 : Memref sig .tc .vmem S2048x1024 .bf16) (harg6 : arg6.IsWhole) (arg7 : Memref sig .tc .vmem S1x1024x1024 .f32) (harg7 : arg7.IsWhole) (arg8 : Memref sig .tc .vmem S2048x1024 .f32) (harg8 : arg8.IsWhole)
    (x0 : Vec F S2048x1024 .bf16) (x1 : Vec F S1x1024x1024 .f32) (y : Vec F S2048x1024 .f32) (xt0 : TbBuf0 (F := F) c tbM0_0) (xt1 : TbBuf0 (F := F) c tbM0_1) (xt2 : TbBuf0 (F := F) c tbM0_2)
    (hw : word i xt2 = 1#32 ∨ word i xt2 = 2#32 ∨ word i xt2 = 3#32 ∨ word i xt2 = 4#32 ∨ word i xt2 = 0#32)
    (E : Set ℕ) (K : PUnit → sProp (MT nD τ sig Unit (Elt F) ℕ (UR sig nD τ) ℕ)) :
        iprop(owns (c : Thread nD τ) arg6 fullShare x0 ∗ owns (c : Thread nD τ) arg7 fullShare x1 ∗ owns (c : Thread nD τ) arg8 fullShare y ∗ tbPt0 c tbM0_0 xt0 ∗ tbPt0 c tbM0_1 xt1 ∗ tbPt0 c tbM0_2 xt2
            ∗ (iprop(owns (c : Thread nD τ) arg6 fullShare x0 ∗ owns (c : Thread nD τ) arg7 fullShare x1 ∗ owns (c : Thread nD τ) arg8 fullShare (stepOut i (word i xt2) x0 x1 y) ∗ tbPt0 c tbM0_0 xt0 ∗ tbPt0 c tbM0_1 xt1 ∗ tbPt0 c tbM0_2 xt2) -∗ K ⟨⟩))
          ⊢ wp frame (wpE (defs₀ (F := F)) Variants.none c none) E (cc0_moe_down i tbM0_0 htbM0_0 tbM0_1 htbM0_1 tbM0_2 htbM0_2 arg6 harg6 arg7 harg7 arg8 harg8) K := by
  simp only [cc0_moe_down_eq_skeleton]; unfold cc0_moe_down_skel
  unfold owns
  iintro ⟨⟨%f0, %hf0, H0⟩, ⟨%f1, %hf1, H1⟩, ⟨%f2, %hf2, H2⟩, HT0, HT1, HT2, Hk⟩
  obtain rfl := harg6.eq_unread hf0; obtain rfl := harg7.eq_unread hf1; obtain rfl := harg8.eq_unread hf2
  have hx1 : View.readAt (Elt F) arg7.view (Rect.unit ![0, 0, 0] S1x1024x1024.size inb_S1x1024x1024_S1x1024x1024_0_0_0).toLoadRect (harg7.unread x1) = x1 :=
    (View.readAt_full _ _ _).trans hf1
  have hz : ∀ (f : arg8.view.ty.Contents (Elt F)) (L : List (View.Piece (Elt F) S2048x1024 .f32)), k0_cond1 i = 1#1 →
      arg8.view.read (Elt F) (arg8.view.writes (Elt F) f (⟨Rect.unit ![0, 0] S2048x1024.size inb_S2048x1024_S2048x1024_0_0, k0_pay1⟩ :: L)) = base i y :=
    fun f L h1 => (View.read_writes_full _ _ _ _ _).trans (if_pos h1).symm
  have hn : ¬ k0_cond1 i = 1#1 → arg8.view.read (Elt F) (arg8.view.writes (Elt F) (harg8.unread y) []) = base i y :=
    fun h1 => hf2.trans (if_neg h1).symm
  by_cases h1 : k0_cond1 i = 1#1
  · rcases hw with h | h | h | h | h
    · have h2 : k0_cond2 (word i xt2) = 1#1 := by rw [h]; decide
      have h3 : ¬ (k0_cond3 (word i xt2) = 1#1) := by rw [h]; decide
      have h4 : ¬ (k0_cond4 (word i xt2) = 1#1) := by rw [h]; decide
      have h5 : ¬ (k0_cond5 (word i xt2) = 1#1) := by rw [h]; decide
      sl_exec
      sl_step
      iapply Hk
      isplitl [H0]
      · iexists _; isplitr; · ipureintro; exact hf0
        iexact H0
      isplitl [H1]
      · iexists _; isplitr; · ipureintro; exact hf1
        iexact H1
      isplitl [H2]
      · iexists _; isplitr
        swap; · iexact H2
        ipureintro; rw [h, stepOut_1]
        exact read_added1 (hz _ _ h1) (congrArg (fun X => View.ld X rect1) (hz _ _ h1)) (congrArg (fun X => View.ld X rect1) hf0) rfl
      isplitl [HT0]; · iexact HT0
      isplitl [HT1]; · iexact HT1
      iexact HT2
    · have h2 : ¬ (k0_cond2 (word i xt2) = 1#1) := by rw [h]; decide
      have h3 : k0_cond3 (word i xt2) = 1#1 := by rw [h]; decide
      have h4 : ¬ (k0_cond4 (word i xt2) = 1#1) := by rw [h]; decide
      have h5 : ¬ (k0_cond5 (word i xt2) = 1#1) := by rw [h]; decide
      sl_exec
      sl_step
      iapply Hk
      isplitl [H0]
      · iexists _; isplitr; · ipureintro; exact hf0
        iexact H0
      isplitl [H1]
      · iexists _; isplitr; · ipureintro; exact hf1
        iexact H1
      isplitl [H2]
      · iexists _; isplitr
        swap; · iexact H2
        ipureintro; rw [h, stepOut_2]
        exact read_added2 (hz _ _ h1) (congrArg (fun X => View.ld X rect2) (hz _ _ h1)) (congrArg (fun X => View.ld X rect2) hf0) rfl
      isplitl [HT0]; · iexact HT0
      isplitl [HT1]; · iexact HT1
      iexact HT2
    · have h2 : ¬ (k0_cond2 (word i xt2) = 1#1) := by rw [h]; decide
      have h3 : ¬ (k0_cond3 (word i xt2) = 1#1) := by rw [h]; decide
      have h4 : k0_cond4 (word i xt2) = 1#1 := by rw [h]; decide
      have h5 : ¬ (k0_cond5 (word i xt2) = 1#1) := by rw [h]; decide
      sl_exec
      sl_step
      iapply Hk
      isplitl [H0]
      · iexists _; isplitr; · ipureintro; exact hf0
        iexact H0
      isplitl [H1]
      · iexists _; isplitr; · ipureintro; exact hf1
        iexact H1
      isplitl [H2]
      · iexists _; isplitr
        swap; · iexact H2
        ipureintro; rw [h, stepOut_3]
        exact read_added3 (hz _ _ h1) (congrArg (fun X => View.ld X rect3) (hz _ _ h1)) (congrArg (fun X => View.ld X rect3) hf0) rfl
      isplitl [HT0]; · iexact HT0
      isplitl [HT1]; · iexact HT1
      iexact HT2
    · have h2 : ¬ (k0_cond2 (word i xt2) = 1#1) := by rw [h]; decide
      have h3 : ¬ (k0_cond3 (word i xt2) = 1#1) := by rw [h]; decide
      have h4 : ¬ (k0_cond4 (word i xt2) = 1#1) := by rw [h]; decide
      have h5 : k0_cond5 (word i xt2) = 1#1 := by rw [h]; decide
      sl_exec
      sl_step
      iapply Hk
      isplitl [H0]
      · iexists _; isplitr; · ipureintro; exact hf0
        iexact H0
      isplitl [H1]
      · iexists _; isplitr; · ipureintro; exact hf1
        iexact H1
      isplitl [H2]
      · iexists _; isplitr
        swap; · iexact H2
        ipureintro; rw [h, stepOut_4]
        exact read_added4 (hz _ _ h1) (congrArg (fun X => View.ld X rect4) (hz _ _ h1)) (congrArg (fun X => View.ld X rect4) hf0) rfl
      isplitl [HT0]; · iexact HT0
      isplitl [HT1]; · iexact HT1
      iexact HT2
    · have h2 : ¬ (k0_cond2 (word i xt2) = 1#1) := by rw [h]; decide
      have h3 : ¬ (k0_cond3 (word i xt2) = 1#1) := by rw [h]; decide
      have h4 : ¬ (k0_cond4 (word i xt2) = 1#1) := by rw [h]; decide
      have h5 : ¬ (k0_cond5 (word i xt2) = 1#1) := by rw [h]; decide
      sl_exec
      sl_step
      iapply Hk
      isplitl [H0]
      · iexists _; isplitr; · ipureintro; exact hf0
        iexact H0
      isplitl [H1]
      · iexists _; isplitr; · ipureintro; exact hf1
        iexact H1
      isplitl [H2]
      · iexists _; isplitr
        swap; · iexact H2
        ipureintro; rw [h, stepOut_0]
        exact hz _ _ h1
      isplitl [HT0]; · iexact HT0
      isplitl [HT1]; · iexact HT1
      iexact HT2
  · rcases hw with h | h | h | h | h
    · have h2 : k0_cond2 (word i xt2) = 1#1 := by rw [h]; decide
      have h3 : ¬ (k0_cond3 (word i xt2) = 1#1) := by rw [h]; decide
      have h4 : ¬ (k0_cond4 (word i xt2) = 1#1) := by rw [h]; decide
      have h5 : ¬ (k0_cond5 (word i xt2) = 1#1) := by rw [h]; decide
      sl_exec
      sl_step
      iapply Hk
      isplitl [H0]
      · iexists _; isplitr; · ipureintro; exact hf0
        iexact H0
      isplitl [H1]
      · iexists _; isplitr; · ipureintro; exact hf1
        iexact H1
      isplitl [H2]
      · iexists _; isplitr
        swap; · iexact H2
        ipureintro; rw [h, stepOut_1]
        exact read_added1 (hn h1) (congrArg (fun X => View.ld X rect1) (hn h1)) (congrArg (fun X => View.ld X rect1) hf0) rfl
      isplitl [HT0]; · iexact HT0
      isplitl [HT1]; · iexact HT1
      iexact HT2
    · have h2 : ¬ (k0_cond2 (word i xt2) = 1#1) := by rw [h]; decide
      have h3 : k0_cond3 (word i xt2) = 1#1 := by rw [h]; decide
      have h4 : ¬ (k0_cond4 (word i xt2) = 1#1) := by rw [h]; decide
      have h5 : ¬ (k0_cond5 (word i xt2) = 1#1) := by rw [h]; decide
      sl_exec
      sl_step
      iapply Hk
      isplitl [H0]
      · iexists _; isplitr; · ipureintro; exact hf0
        iexact H0
      isplitl [H1]
      · iexists _; isplitr; · ipureintro; exact hf1
        iexact H1
      isplitl [H2]
      · iexists _; isplitr
        swap; · iexact H2
        ipureintro; rw [h, stepOut_2]
        exact read_added2 (hn h1) (congrArg (fun X => View.ld X rect2) (hn h1)) (congrArg (fun X => View.ld X rect2) hf0) rfl
      isplitl [HT0]; · iexact HT0
      isplitl [HT1]; · iexact HT1
      iexact HT2
    · have h2 : ¬ (k0_cond2 (word i xt2) = 1#1) := by rw [h]; decide
      have h3 : ¬ (k0_cond3 (word i xt2) = 1#1) := by rw [h]; decide
      have h4 : k0_cond4 (word i xt2) = 1#1 := by rw [h]; decide
      have h5 : ¬ (k0_cond5 (word i xt2) = 1#1) := by rw [h]; decide
      sl_exec
      sl_step
      iapply Hk
      isplitl [H0]
      · iexists _; isplitr; · ipureintro; exact hf0
        iexact H0
      isplitl [H1]
      · iexists _; isplitr; · ipureintro; exact hf1
        iexact H1
      isplitl [H2]
      · iexists _; isplitr
        swap; · iexact H2
        ipureintro; rw [h, stepOut_3]
        exact read_added3 (hn h1) (congrArg (fun X => View.ld X rect3) (hn h1)) (congrArg (fun X => View.ld X rect3) hf0) rfl
      isplitl [HT0]; · iexact HT0
      isplitl [HT1]; · iexact HT1
      iexact HT2
    · have h2 : ¬ (k0_cond2 (word i xt2) = 1#1) := by rw [h]; decide
      have h3 : ¬ (k0_cond3 (word i xt2) = 1#1) := by rw [h]; decide
      have h4 : ¬ (k0_cond4 (word i xt2) = 1#1) := by rw [h]; decide
      have h5 : k0_cond5 (word i xt2) = 1#1 := by rw [h]; decide
      sl_exec
      sl_step
      iapply Hk
      isplitl [H0]
      · iexists _; isplitr; · ipureintro; exact hf0
        iexact H0
      isplitl [H1]
      · iexists _; isplitr; · ipureintro; exact hf1
        iexact H1
      isplitl [H2]
      · iexists _; isplitr
        swap; · iexact H2
        ipureintro; rw [h, stepOut_4]
        exact read_added4 (hn h1) (congrArg (fun X => View.ld X rect4) (hn h1)) (congrArg (fun X => View.ld X rect4) hf0) rfl
      isplitl [HT0]; · iexact HT0
      isplitl [HT1]; · iexact HT1
      iexact HT2
    · have h2 : ¬ (k0_cond2 (word i xt2) = 1#1) := by rw [h]; decide
      have h3 : ¬ (k0_cond3 (word i xt2) = 1#1) := by rw [h]; decide
      have h4 : ¬ (k0_cond4 (word i xt2) = 1#1) := by rw [h]; decide
      have h5 : ¬ (k0_cond5 (word i xt2) = 1#1) := by rw [h]; decide
      sl_exec
      sl_step
      iapply Hk
      isplitl [H0]
      · iexists _; isplitr; · ipureintro; exact hf0
        iexact H0
      isplitl [H1]
      · iexists _; isplitr; · ipureintro; exact hf1
        iexact H1
      isplitl [H2]
      · iexists _; isplitr
        swap; · iexact H2
        ipureintro; rw [h, stepOut_0]
        exact hn h1
      isplitl [HT0]; · iexact HT0
      isplitl [HT1]; · iexact HT1
      iexact HT2

end Cert.DownIdeal.Moe

end
-- ==== Proof.DownIdeal.Frame.lean ====
module

public import proofs.«01_k».proof.Proof.DownIdeal.Run
public import Idealize.ShloMosaic.Lib.Claim
public import Idealize.ShloMosaic.Lib.Pipeline.TableIdle

@[expose] public section

set_option maxRecDepth 16384

noncomputable section

namespace Cert.DownIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DownIdeal Cert.DownIdeal.Gen

variable {F : FTy → Type} [FloatOps F]

variable (m : (ℓ : Loc nD τ sig) → Buf (Elt F) ℓ) (ρ : Dev nD → PrngReg)
/-! The frame of the grouped down product: the proof data, the body at every point, and the run. -/

/-- The body's step at point `t` on a block `y` of the result. -/
def stepAt (hO : Ok m) (c : Dev nD) (t : Fin (cfgM m hO).N) (y : Vec F S2048x1024 .f32) : Vec F S2048x1024 .f32 :=
  stepOut (grid0.coords t) (word (grid0.coords t) (tbl m 2)) (iblk m hO c 0 t) (iblk m hO c 1 t) y

/-- What the result's buffer holds after the body at point `n`: the steps up to it, one after the other. -/
def outs (hO : Ok m) (c : Dev nD) : (n : ℕ) → n < (cfgM m hO).N → Vec F S2048x1024 .f32
  | 0, h => stepAt m hO c ⟨0, h⟩ k0_pay1
  | n + 1, h => stepAt m hO c ⟨n + 1, h⟩ (outs hO c n (Nat.lt_of_succ_lt h))

/-- Every word of the third table names a number of tiles, none to four. -/
abbrev Tiles : Prop := ∀ i : grid0.Coords, word (F := F) i (tbl m 2) = 1#32 ∨ word (F := F) i (tbl m 2) = 2#32 ∨ word (F := F) i (tbl m 2) = 3#32 ∨ word (F := F) i (tbl m 2) = 4#32 ∨ word (F := F) i (tbl m 2) = 0#32

theorem outs_succ (hO : Ok m) (c : Dev nD) (n : ℕ) (h : n + 1 < (cfgM m hO).N) :
    outs m hO c (n + 1) h = stepAt m hO c ⟨n + 1, h⟩ (outs m hO c n (Nat.lt_of_succ_lt h)) := rfl

set_option maxRecDepth 65536 in
/-- The block is reset at the points that start a contraction. -/
theorem cond1_iff : ∀ t : Fin grid0.N, k0_cond1 (grid0.coords t) = 1#1 ↔ t.val % 7 = 0 := by decide +kernel

/-- At a point that starts a contraction the step does not look at the block. -/
theorem step_reset (hO : Ok m) (c : Dev nD) (t : Fin (cfgM m hO).N) (ht : t.val % 7 = 0) (y y' : Vec F S2048x1024 .f32) :
    stepAt m hO c t y = stepAt m hO c t y' := by
  have h1 := (cond1_iff t).2 ht
  have e : base (grid0.coords t) y = base (grid0.coords t) y' := (if_pos h1).trans (if_pos h1).symm
  unfold stepAt stepOut
  rw [e]

/-- The word the idle table reads is the word the body loads. -/
theorem atD_eq (i : grid0.Coords) : (tbl m).atD 2 (k0_off1 i) = word (F := F) i (tbl m 2) := by
  have h : ∀ a, k0_off1 i a + 1 ≤ S16.size a := fun a => by
    match a with
    | ⟨0, _⟩ => exact k0_off1_inb i 0
  refine (dif_pos h).trans ?_
  refine congrArg (tbl m 2) (funext fun a => Fin.ext ?_)
  match a with
  | ⟨0, _⟩ => show k0_off1 i 0 = k0_off1 i 0 + 1 * 0; omega

/-- A point idle for the result's window starts no contraction and has no live tile. -/
theorem of_idle (hO : Ok m) (hT : Tiles m) (t : Fin (cfgM m hO).N) (h : (cfgM m hO).idle 2 ((cfgM m hO).grid.coords t) = true) :
    ¬ t.val % 7 = 0 ∧ word (F := F) (grid0.coords t) (tbl m 2) = 0#32 := by
  have h' : (!(k0_cond1 (grid0.coords t) == 1#1) && !(k0_cond2 ((tbl m).atD 2 (k0_off1 (grid0.coords t))) == 1#1) && !(k0_cond3 ((tbl m).atD 2 (k0_off1 (grid0.coords t))) == 1#1) && !(k0_cond4 ((tbl m).atD 2 (k0_off1 (grid0.coords t))) == 1#1) && !(k0_cond5 ((tbl m).atD 2 (k0_off1 (grid0.coords t))) == 1#1)) = true := h
  rw [atD_eq] at h'
  simp only [Bool.and_eq_true, Bool.not_eq_true', beq_eq_false_iff_ne, ne_eq] at h'
  obtain ⟨⟨⟨⟨a1, a2⟩, a3⟩, a4⟩, a5⟩ := h'
  refine ⟨fun e => a1 ((cond1_iff t).2 e), ?_⟩
  rcases hT (grid0.coords t) with e | e | e | e | e
  · exact absurd (by rw [e]; decide) a2
  · exact absurd (by rw [e]; decide) a3
  · exact absurd (by rw [e]; decide) a4
  · exact absurd (by rw [e]; decide) a5
  · exact e

/-- At such a point the step leaves the block. -/
theorem step_idle (hO : Ok m) (hT : Tiles m) (c : Dev nD) (t : Fin (cfgM m hO).N) (h : (cfgM m hO).idle 2 ((cfgM m hO).grid.coords t) = true)
    (y : Vec F S2048x1024 .f32) : stepAt m hO c t y = y := by
  obtain ⟨h1, h2⟩ := of_idle m hO hT t h
  exact (congrArg (fun w => stepOut (grid0.coords t) w (iblk m hO c 0 t) (iblk m hO c 1 t) y) h2).trans
    ((stepOut_0 _ _ _ _).trans (if_neg fun e => h1 ((cond1_iff t).1 e)))

/-- The proof data on core `c`: the arrays as launched, after the body the inputs' buffers at their blocks and the
    result's at `outs`; the invariant is the scoped rest, the generator register and the tables' halves. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => outs m hO c t.val t.isLt
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = outs m hO c t.val t.isLt := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d

/-- Within a contraction the body finds what the point before left. -/
theorem before0_2 (hO : Ok m) (hT : Tiles m) (c : Dev nD) : ∀ (n : ℕ) (h : n + 1 < (cfgM m hO).N) (_ : ¬ (n + 1) % 7 = 0) (d),
    (dats m hO 0 c).before 2 ⟨n + 1, h⟩ d = outs m hO c n (Nat.lt_of_succ_lt h)
  | n, h, hn, d => by
    have hN : n < (cfgM m hO).N := Nat.lt_of_succ_lt h
    rw [(dats m hO 0 c).before_of_pos 2 ⟨n + 1, h⟩ (Nat.succ_ne_zero n) (((cfgM m hO).win 2).fetch_out rfl _) d]
    have e1 : (⟨(⟨n + 1, h⟩ : Fin (cfgM m hO).N).val - 1, Nat.lt_of_le_of_lt (Nat.sub_le _ _) h⟩ : Fin (cfgM m hO).N) = ⟨n, hN⟩ := Fin.ext (by simp)
    rw [e1]
    have hf : ¬ (((cfgM m hO).win 2).flush ⟨n, hN⟩ = true) := fun e => by
      have := (flush0_2 (adm m hO) ⟨n, hN⟩).1 e
      have : n % 7 = 6 := this
      omega
    rw [if_neg hf]
    unfold Dat.left
    cases hi : (cfgM m hO).idle 2 ((cfgM m hO).grid.coords ⟨n, hN⟩)
    · show (dats m hO 0 c).kept 2 ⟨n, hN⟩ d = _
      unfold Dat.kept
      rw [Pipeline.fill_of_clip_none 2 _ (fun _ => rfl) d ((dats m hO 0 c).after 2 _), Window.fill_cut]
      exact after0_2 m hO c ⟨n, hN⟩
    · show (dats m hO 0 c).before 2 ⟨n, hN⟩ d = _
      have h1 : ¬ n % 7 = 0 := (of_idle m hO hT ⟨n, hN⟩ hi).1
      match n, hN, hi, h1 with
      | 0, _, _, h1 => exact absurd rfl h1
      | k + 1, hN, hi, h1 =>
        rw [before0_2 hO hT c k hN h1 d, outs_succ, step_idle m hO hT c ⟨k + 1, hN⟩ hi]

/-- Whatever the buffer held at first, the step at point `t` leaves `outs` there. -/
theorem step_before (hO : Ok m) (hT : Tiles m) (c : Dev nD) (t : Fin (cfgM m hO).N) (d) :
    stepAt m hO c t ((dats m hO 0 c).before 2 t d) = outs m hO c t.val t.isLt := by
  match t with
  | ⟨0, h⟩ => exact step_reset m hO c ⟨0, h⟩ rfl _ _
  | ⟨n + 1, h⟩ =>
    by_cases hn : (n + 1) % 7 = 0
    · exact step_reset m hO c ⟨n + 1, h⟩ hn _ _
    · rw [before0_2 m hO hT c n h hn d]
      rfl

/-- What the body is called with at point `t`, -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d)))

/-- and what it returns: in the result's buffer, the step on what it found there. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ (∃ d, owns (c : Thread nD τ) (ms0_2 m hO t) fullShare (stepAt m hO c t ((dats m hO 0 c).before 2 t d))))

/-- The body at any point. -/
theorem sound_body (hO : Ok m) (hT : Tiles m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1]
  rw [show (dats m hO 0 c).Φ t.succ = (dats m hO 0 c).Φ t.castSucc from rfl,
    show (dats m hO 0 c).owesAt () t.succ = (dats m hO 0 c).owesAt () t.castSucc from rfl,
    after0_0, after0_1]
  rw [show (dats m hO 0 c).Φ t.castSucc = iprop(Pipeline.ΦA spec0 c ∗ Pipeline.ΦT pre0 (tbl m) c) from rfl, PhiT0_eq]
  unfold stepAt
  iintro ⟨⟨HΦ, ⟨HT0, HT1, HT2⟩⟩, Ho, ⟨%d0, H0⟩, ⟨%d1, H1⟩, ⟨%d2, H2⟩⟩
  iapply (kernelRun c (grid0.coords t) _ _ _ _ _ _ (iblk m hO c 0 t) (iblk m hO c 1 t) ((dats m hO 0 c).before 2 t d2) (tbl m 0) (tbl m 1) (tbl m 2) (hT (grid0.coords t)) Set.univ _)
  isplitl [H0]; · iexact H0
  isplitl [H1]; · iexact H1
  isplitl [H2]; · iexact H2
  isplitl [HT0]; · iexact HT0
  isplitl [HT1]; · iexact HT1
  isplitl [HT2]; · iexact HT2
  iintro ⟨H0, H1, H2, HT0, HT1, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  iexists d2
  iexact H2

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- What the obligation asks of the result's buffer: what the body found there at an idle point that writes nothing
    back, else `outs`. -/
theorem result_post (hO : Ok m) (hT : Tiles m) (c : Dev nD) (t : Fin (cfgM m hO).N) :
    iprop(∃ d, owns (c : Thread nD τ) (ms0_2 m hO t) fullShare (stepAt m hO c t ((dats m hO 0 c).before 2 t d)))
    ⊢ (match (cfgM m hO).idle 2 ((cfgM m hO).grid.coords t) with
      | true => match ((cfgM m hO).win 2).flush t with
        | false => iprop(∃ d, owns (c : Thread nD τ) (ms0_2 m hO t) fullShare ((dats m hO 0 c).before 2 t d))
        | true => owns (c : Thread nD τ) (ms0_2 m hO t) fullShare ((dats m hO 0 c).after 2 t)
      | false => owns (c : Thread nD τ) (ms0_2 m hO t) fullShare ((dats m hO 0 c).after 2 t) : sProp (MT nD τ sig Unit (Elt F) ℕ (UR sig nD τ) ℕ)) := by
  have key : iprop(∃ d, owns (c : Thread nD τ) (ms0_2 m hO t) fullShare (stepAt m hO c t ((dats m hO 0 c).before 2 t d)))
      ⊢ (owns (c : Thread nD τ) (ms0_2 m hO t) fullShare ((dats m hO 0 c).after 2 t) : sProp (MT nD τ sig Unit (Elt F) ℕ (UR sig nD τ) ℕ)) := by
    iintro ⟨%d, H⟩
    rw [step_before m hO hT c t d, after0_2]
    iexact H
  cases hi : (cfgM m hO).idle 2 ((cfgM m hO).grid.coords t)
  · exact key
  · cases hf : ((cfgM m hO).win 2).flush t
    · show _ ⊢ iprop(∃ d, owns (c : Thread nD τ) (ms0_2 m hO t) fullShare ((dats m hO 0 c).before 2 t d))
      iintro ⟨%d, H⟩
      have e := congrArg (fun X : Vec F S2048x1024 .f32 => (owns (c : Thread nD τ) (ms0_2 m hO t) fullShare X : sProp (MT nD τ sig Unit (Elt F) ℕ (UR sig nD τ) ℕ)))
        (step_idle m hO hT c t hi ((dats m hO 0 c).before 2 t d))
      ihave H := (Entails.of_eq e) $$ H
      iexists d
      iexact H
    · exact key

theorem body_obligation (hO : Ok m) (hT : Tiles m) (c : Dev nD) : BodyObligation (dats (F := F) m hO 0 c) (defs₀ (F := F)) Variants.none () Set.univ := fun t => by
  rw [bigSep_W0, bigSep_W0, defs₀_row m hO]
  refine triple_restated (sound_body m hO hT c t) rfl .rfl fun _ => ?_
  exact sep_mono .rfl (sep_mono .rfl (sep_mono .rfl (sep_mono .rfl (result_post m hO hT c t))))

set_option backward.isDefEq.respectTransparency.types false in
/-- Every execution ends with the arrays at what the proof data say and every counter at zero. -/
theorem run_main_quiescent (hO : Ok m) (hT : Tiles m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO hT c).loose) (hshare := fun c => (dats m hO 0 c).share_full fun _ => rfl)
    (howed := fun _ _ => rfl) (V := V m) (hmain := hmain m Variants.none) (hA := A_eq m hO) (hpf := V_pre m) (hΦ := fun _ _ => rfl)

/-- The frame: every execution ends, the arguments unchanged and every counter at zero. -/
theorem frame (hO : Ok m) (hT : Tiles m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨frame_of m hO (dats m hO) (A_eq m hO) h.1, h.2⟩) (run_main_quiescent m ρ hO hT)

/-- The run with the result named: the array of window 2 after the last point. -/
theorem run_value (hO : Ok m) (hT : Tiles m) : θ_run defs (onTc (τ := τ) (main (F := F))) ⟨m, fun _ => 0, ρ⟩ (fun r => ∀ c : Dev nD,
      r.2.mem ((c.tc : Thread nD τ).loc main_v0) = (dats m hO 0 c).arrAt 2 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 2, frame_of m hO (dats m hO) (A_eq m hO) h.1 c⟩) (run_main_quiescent m ρ hO hT)

end Cert.DownIdeal.Moe

end
-- ==== Proof.PlanDown.lean ====
module

public import proofs.«01_k».proof.Proof.Plan
public import proofs.«01_k».proof.Pre_planned_down
public import proofs.«01_k».proof.Proof.Gen.Pre_planned_down

@[expose] public section

/-! The plan of the grouped rows, as the down product's precondition states it. -/

noncomputable section

namespace Cert.Plan

open Idealize.ShloMosaic

variable {F : FTy → Type} [FloatOps F]

/-- The precondition of the down product. -/
theorem down_words {x wd} {se ss st : T16.Idx → BitVec 32}
    (h : Cert.Pre_planned_down.fn (F := F) x wd se ss st = fun _ => 1#1) (s : T16.Idx) : At se ss st s := by
  have e := congrFun h s
  simp only [Cert.Pre_planned_down.fn, Cert.Pre_planned_down.fn_part1, andi, ori, cmpi, IntOp.andi_eq_one, IntOp.ori_eq_one] at e
  obtain ⟨⟨⟨⟨⟨⟨a, b⟩, c⟩, d⟩, e⟩, f⟩, g⟩ := e
  exact at_of_words a b c d e f g

end Cert.Plan

end
-- ==== Proof.DownIdeal.Tables.lean ====
module

public import proofs.«01_k».proof.Proof.DownIdeal.Frame
public import proofs.«01_k».proof.Proof.PlanDown
public import Mathlib.Tactic.IntervalCases

@[expose] public section

/-! What the plan's words are to the grouped down product: the side condition of the pipeline, the number of live
tiles the body reads, and the blocks the windows name. -/

noncomputable section

namespace Cert.DownIdeal.Moe

open Idealize.ShloMosaic Idealize.ShloMosaic.TcCoe
open Cert.DownIdeal Cert.DownIdeal.Gen

variable {F : FTy → Type} [FloatOps F]
variable (m : (ℓ : Loc nD τ sig) → Buf (Elt F) ℓ)

/-- The super-row of a grid point, as an index of the tables. -/
abbrev sup (i : grid0.Coords) : S16.Idx := fun a => match a with | ⟨0, _⟩ => ⟨(i 0).val, (i 0).isLt⟩

/-- The plan holds of the launch memory's tables. -/
abbrev Planned : Prop := ∀ s : S16.Idx, Cert.Plan.At (tbl m 0) (tbl m 1) (tbl m 2) s

theorem off1_val (i : grid0.Coords) : k0_off1 i 0 = (i 0).val := by
  have : (i 0).val < 16 := (i 0).isLt
  show (BitVec.ofNat 32 (i 0).val).toNat = _
  rw [BitVec.toNat_ofNat]; omega

theorem emb_eq (i : grid0.Coords) (h) (x) : (Rect.unit (s := S16) (k0_off1 i) S1.size h).emb x = sup i := by
  funext a
  apply Fin.ext
  match a with
  | ⟨0, _⟩ =>
    have hx : (x 0).val < 1 := (x 0).isLt
    show k0_off1 i 0 + 1 * (x 0).val = (i 0).val
    rw [off1_val]; omega

/-- The word of the third table that the body loads is the table's word at the super-row. -/
theorem word_eq (i : grid0.Coords) (T2) : word (F := F) i T2 = T2 (sup i) :=
  congrArg T2 (emb_eq i _ _)

/-- The rows' window: the block row the second table names, at the column block of the point where a tile is live. -/
theorem map0_eq (pf : pre0.Contents (Elt F)) (i : grid0.Coords) (h) (h1) :
    cc0_transform_0 h h1 pf i = ![(pf 1 (sup i) : BitVec 32).toNat, (Scalar.select (Scalar.cmpi .sgt (pf 2 (sup i) : BitVec 32) 0#32) (BitVec.ofNat 32 (i 2).val) 6#32 : BitVec 32).toNat] :=
  congrArg (fun s : S16.Idx => (![(pf 1 s : BitVec 32).toNat, (Scalar.select (Scalar.cmpi .sgt (pf 2 s : BitVec 32) 0#32) (BitVec.ofNat 32 (i 2).val) 6#32 : BitVec 32).toNat] : Fin 2 → ℕ))
    (emb_eq i (h i) (Shape.Idx.first (h1.symm ▸ Nat.one_pos)))

/-- The weights' window: the expert the first table names, the row block likewise, the point's half of the columns. -/
theorem map1_eq (pf : pre0.Contents (Elt F)) (i : grid0.Coords) (h) (h1) :
    cc0_transform_1 h h1 pf i = ![(pf 0 (sup i) : BitVec 32).toNat, (Scalar.select (Scalar.cmpi .sgt (pf 2 (sup i) : BitVec 32) 0#32) (BitVec.ofNat 32 (i 2).val) 6#32 : BitVec 32).toNat, (BitVec.ofNat 32 (i 1).val).toNat] :=
  congrArg (fun s : S16.Idx => (![(pf 0 s : BitVec 32).toNat, (Scalar.select (Scalar.cmpi .sgt (pf 2 s : BitVec 32) 0#32) (BitVec.ofNat 32 (i 2).val) 6#32 : BitVec 32).toNat, (BitVec.ofNat 32 (i 1).val).toNat] : Fin 3 → ℕ))
    (emb_eq i (h i) (Shape.Idx.first (h1.symm ▸ Nat.one_pos)))

/-- The block of the contraction is one of the seven. -/
theorem col_lt (v : BitVec 1) (i : grid0.Coords) : (Scalar.select v (BitVec.ofNat 32 (i 2).val) 6#32 : BitVec 32).toNat < 7 := by
  have : (i 2).val < 7 := (i 2).isLt
  unfold Scalar.select
  split
  · rw [BitVec.toNat_ofNat]; omega
  · decide

/-- A live super-row's block of the contraction is the point's. -/
theorem col_eq {v : BitVec 32} (h0 : v.toNat ≠ 0) (h4 : v.toNat ≤ 4) (i : grid0.Coords) :
    (Scalar.select (Scalar.cmpi .sgt v 0#32) (BitVec.ofNat 32 (i 2).val) 6#32 : BitVec 32).toNat = (i 2).val := by
  have : (i 2).val < 7 := (i 2).isLt
  have e : Scalar.cmpi .sgt v 0#32 = 1#1 := (StableHlo.Predicate.sgt_iff_toNat (by omega) (by decide)).2 (by simp; omega)
  rw [e]
  show (BitVec.ofNat 32 (i 2).val).toNat = _
  rw [BitVec.toNat_ofNat]; omega

/-- The half of the columns is the point's. -/
theorem half_eq (i : grid0.Coords) : (BitVec.ofNat 32 (i 1).val).toNat = (i 1).val := by
  have : (i 1).val < 2 := (i 1).isLt
  rw [BitVec.toNat_ofNat]; omega

/-- A block of the rows' window is whole words, whichever block it is: it starts at an even row and has an even number of them. -/
theorem words0 (n j : ℕ) (h) : (Rect.block (s := S32768x7168) S2048x1024.size ![n, j] h).WholeWords (EltTy.packing .bf16) := by
  refine .inl (.inr ⟨by decide, rfl, .inl ⟨⟨n * 1024, ?_⟩, ⟨1024, rfl⟩⟩⟩)
  show n * 2048 = 2 * (n * 1024); omega

/-- Every block a planned table names is inside its array, and whole words. -/
theorem ok_of_planned (h : Planned m) : Ok (F := F) m := by
  refine ⟨fun i => ?_, fun i => ?_⟩
  · have hs := (h (sup i)).src
    have hc := col_lt (Scalar.cmpi .sgt (tbl m 2 (sup i) : BitVec 32) 0#32) i
    rw [map0_eq]
    refine ⟨fun a => ?_, ?_⟩
    · match a with
      | ⟨0, _⟩ => show ((tbl m 1 (sup i) : BitVec 32).toNat + 1) * 2048 ≤ 32768; omega
      | ⟨1, _⟩ => show ((Scalar.select (Scalar.cmpi .sgt (tbl m 2 (sup i) : BitVec 32) 0#32) (BitVec.ofNat 32 (i 2).val) 6#32 : BitVec 32).toNat + 1) * 1024 ≤ 7168; omega
    · right
      exact words0 _ _ _
  · have he := (h (sup i)).expert
    have hc := col_lt (Scalar.cmpi .sgt (tbl m 2 (sup i) : BitVec 32) 0#32) i
    have hh : (i 1).val < 2 := (i 1).isLt
    have he1 := half_eq i
    rw [map1_eq]
    refine ⟨fun a => ?_, .inl rfl⟩
    match a with
    | ⟨0, _⟩ => show ((tbl m 0 (sup i) : BitVec 32).toNat + 1) * 1 ≤ 8; omega
    | ⟨1, _⟩ => show ((Scalar.select (Scalar.cmpi .sgt (tbl m 2 (sup i) : BitVec 32) 0#32) (BitVec.ofNat 32 (i 2).val) 6#32 : BitVec 32).toNat + 1) * 1024 ≤ 7168; omega
    | ⟨2, _⟩ => show ((BitVec.ofNat 32 (i 1).val).toNat + 1) * 1024 ≤ 2048; rw [he1]; omega

/-- A planned table's word is none to four. -/
theorem tiles_of_planned (h : Planned m) : Tiles (F := F) m := by
  intro i
  have ht := (h (sup i)).tiles
  have e := word_eq (F := F) i (tbl m 2)
  have : ∀ v : BitVec 32, v.toNat ≤ 4 → v = 1#32 ∨ v = 2#32 ∨ v = 3#32 ∨ v = 4#32 ∨ v = 0#32 := by
    intro v hv
    obtain ⟨k, hk, rfl⟩ : ∃ k, k ≤ 4 ∧ v = BitVec.ofNat 32 k := ⟨v.toNat, hv, by simp⟩
    interval_cases k <;> simp
  rcases this _ ht with k | k | k | k | k
  · exact .inl (e.trans k)
  · exact .inr (.inl (e.trans k))
  · exact .inr (.inr (.inl (e.trans k)))
  · exact .inr (.inr (.inr (.inl (e.trans k))))
  · exact .inr (.inr (.inr (.inr (e.trans k))))

end Cert.DownIdeal.Moe

end
-- ==== Proof.DownIdeal.Block.lean ====
module

public import proofs.«01_k».proof.Proof.DownIdeal.Tables
public import proofs.«01_k».proof.Proof.Spec
public import Idealize.ShloMosaic.Lib.WholeRead
public import Idealize.ShloMosaic.Lib.Pipeline.Covers
public import Idealize.ShloMosaic.Lib.Pipeline.ValueKit

@[expose] public section

/-! What one grid point of the grouped down product adds to the result's block. -/

noncomputable section

namespace Cert.DownIdeal.Moe

open Idealize.ShloMosaic Idealize.ShloMosaic.TcCoe Idealize.ShloMosaic.Tactic
open Idealize.ShloMosaic.Pipeline (Dat Window)
open Cert.DownIdeal Cert.DownIdeal.Gen Cert.Plan

/-- The product of one block of rows and one block of the weights. -/
def blockDot {r : ℕ} (x : Shape.Idx ⟨2, ![r, 1024]⟩ → EReal) (w : S1x1024x1024.Idx → EReal) (j : Shape.Idx ⟨2, ![r, 1024]⟩) : EReal :=
  ∑ k : Fin 1024, x (ix2 (j 0) k) * w (ix3 0 k (j 1))

/-- The product of a row reads the row and the column. -/
theorem blockDot_congr {r r' : ℕ} {x : Shape.Idx ⟨2, ![r, 1024]⟩ → EReal} (x' : Shape.Idx ⟨2, ![r', 1024]⟩ → EReal)
    (w : S1x1024x1024.Idx → EReal) {j : Shape.Idx ⟨2, ![r, 1024]⟩} {j' : Shape.Idx ⟨2, ![r', 1024]⟩}
    (h0 : ∀ k, x (ix2 (j 0) k) = x' (ix2 (j' 0) k)) (h1 : j 1 = j' 1) : blockDot x w j = blockDot x' w j' := by
  unfold blockDot
  rw [h1]
  simp only [h0]

/-- The reset block. -/
theorem pay1_apply (j : S2048x1024.Idx) : k0_pay1 (F := Ideal) j = 0 := by
  pointwise [k0_pay1]

/-- The sum on 512 rows. -/
theorem pay2_apply (y : Vec Ideal S512x1024 .f32) (x : Vec Ideal S512x1024 .bf16) (w : Vec Ideal S1x1024x1024 .f32) (j : S512x1024.Idx) :
    k0_pay2 (F := Ideal) y x w j = y j + blockDot x w j := by
  unfold blockDot
  pointwise [k0_pay2]

/-- The block with the product of the first 512 rows added. -/
theorem added1_apply (x0 : Vec Ideal S2048x1024 .bf16) (x1 : Vec Ideal S1x1024x1024 .f32) (z : Vec Ideal S2048x1024 .f32) (y : S2048x1024.Idx) :
    added1 x0 x1 z y = z y + if (y 0 : ℕ) < 512 * 1 then blockDot x0 x1 y else 0 := by
  unfold added1
  by_cases hy : y ∈ rect1.set
  · obtain ⟨x, hx⟩ := rect1.exists_idx_of_mem hy
    have e : (y 0 : ℕ) = 0 + 1 * (x 0 : ℕ) := by rw [← hx]; rfl
    have e1 : (y 1 : ℕ) = 0 + 1 * (x 1 : ℕ) := by rw [← hx]; rfl
    have lx : (x 0 : ℕ) < 512 := (x 0).isLt
    rw [if_pos (by omega)]
    refine (congrArg (rect1.overlay z _) hx.symm).trans ((rect1.overlay_emb z _ x).trans ((pay2_apply _ _ _ x).trans ?_))
    refine congrArg₂ (· + ·) (congrArg z hx) ?_
    exact blockDot_congr x0 x1 (fun k => congrArg x0 (funext fun a => Fin.ext (by
      match a with
      | ⟨0, _⟩ => show 0 + 1 * (x 0 : ℕ) = (y 0 : ℕ); omega
      | ⟨1, _⟩ => show 0 + 1 * (k : ℕ) = (k : ℕ); omega))) (Fin.ext (by show (x 1 : ℕ) = (y 1 : ℕ); omega))
  · rw [if_neg fun h => hy (Rect.mem_set_unit.2 fun a => by
      match a with
      | ⟨0, _⟩ => exact ⟨Nat.zero_le _, by show (y 0 : ℕ) < 0 + 512; omega⟩
      | ⟨1, _⟩ => exact ⟨Nat.zero_le _, by have := (y 1).isLt; show (y 1 : ℕ) < 0 + 1024; exact lt_of_lt_of_eq this rfl⟩),
      add_zero]
    exact rect1.overlay_of_not_mem _ _ hy

/-- The sum on 1024 rows. -/
theorem pay3_apply (y : Vec Ideal S1024x1024 .f32) (x : Vec Ideal S1024x1024 .bf16) (w : Vec Ideal S1x1024x1024 .f32) (j : S1024x1024.Idx) :
    k0_pay3 (F := Ideal) y x w j = y j + blockDot x w j := by
  unfold blockDot
  pointwise [k0_pay3]

/-- The block with the product of the first 1024 rows added. -/
theorem added2_apply (x0 : Vec Ideal S2048x1024 .bf16) (x1 : Vec Ideal S1x1024x1024 .f32) (z : Vec Ideal S2048x1024 .f32) (y : S2048x1024.Idx) :
    added2 x0 x1 z y = z y + if (y 0 : ℕ) < 512 * 2 then blockDot x0 x1 y else 0 := by
  unfold added2
  by_cases hy : y ∈ rect2.set
  · obtain ⟨x, hx⟩ := rect2.exists_idx_of_mem hy
    have e : (y 0 : ℕ) = 0 + 1 * (x 0 : ℕ) := by rw [← hx]; rfl
    have e1 : (y 1 : ℕ) = 0 + 1 * (x 1 : ℕ) := by rw [← hx]; rfl
    have lx : (x 0 : ℕ) < 1024 := (x 0).isLt
    rw [if_pos (by omega)]
    refine (congrArg (rect2.overlay z _) hx.symm).trans ((rect2.overlay_emb z _ x).trans ((pay3_apply _ _ _ x).trans ?_))
    refine congrArg₂ (· + ·) (congrArg z hx) ?_
    exact blockDot_congr x0 x1 (fun k => congrArg x0 (funext fun a => Fin.ext (by
      match a with
      | ⟨0, _⟩ => show 0 + 1 * (x 0 : ℕ) = (y 0 : ℕ); omega
      | ⟨1, _⟩ => show 0 + 1 * (k : ℕ) = (k : ℕ); omega))) (Fin.ext (by show (x 1 : ℕ) = (y 1 : ℕ); omega))
  · rw [if_neg fun h => hy (Rect.mem_set_unit.2 fun a => by
      match a with
      | ⟨0, _⟩ => exact ⟨Nat.zero_le _, by show (y 0 : ℕ) < 0 + 1024; omega⟩
      | ⟨1, _⟩ => exact ⟨Nat.zero_le _, by have := (y 1).isLt; show (y 1 : ℕ) < 0 + 1024; exact lt_of_lt_of_eq this rfl⟩),
      add_zero]
    exact rect2.overlay_of_not_mem _ _ hy

/-- The sum on 1536 rows. -/
theorem pay4_apply (y : Vec Ideal S1536x1024 .f32) (x : Vec Ideal S1536x1024 .bf16) (w : Vec Ideal S1x1024x1024 .f32) (j : S1536x1024.Idx) :
    k0_pay4 (F := Ideal) y x w j = y j + blockDot x w j := by
  unfold blockDot
  pointwise [k0_pay4]

/-- The block with the product of the first 1536 rows added. -/
theorem added3_apply (x0 : Vec Ideal S2048x1024 .bf16) (x1 : Vec Ideal S1x1024x1024 .f32) (z : Vec Ideal S2048x1024 .f32) (y : S2048x1024.Idx) :
    added3 x0 x1 z y = z y + if (y 0 : ℕ) < 512 * 3 then blockDot x0 x1 y else 0 := by
  unfold added3
  by_cases hy : y ∈ rect3.set
  · obtain ⟨x, hx⟩ := rect3.exists_idx_of_mem hy
    have e : (y 0 : ℕ) = 0 + 1 * (x 0 : ℕ) := by rw [← hx]; rfl
    have e1 : (y 1 : ℕ) = 0 + 1 * (x 1 : ℕ) := by rw [← hx]; rfl
    have lx : (x 0 : ℕ) < 1536 := (x 0).isLt
    rw [if_pos (by omega)]
    refine (congrArg (rect3.overlay z _) hx.symm).trans ((rect3.overlay_emb z _ x).trans ((pay4_apply _ _ _ x).trans ?_))
    refine congrArg₂ (· + ·) (congrArg z hx) ?_
    exact blockDot_congr x0 x1 (fun k => congrArg x0 (funext fun a => Fin.ext (by
      match a with
      | ⟨0, _⟩ => show 0 + 1 * (x 0 : ℕ) = (y 0 : ℕ); omega
      | ⟨1, _⟩ => show 0 + 1 * (k : ℕ) = (k : ℕ); omega))) (Fin.ext (by show (x 1 : ℕ) = (y 1 : ℕ); omega))
  · rw [if_neg fun h => hy (Rect.mem_set_unit.2 fun a => by
      match a with
      | ⟨0, _⟩ => exact ⟨Nat.zero_le _, by show (y 0 : ℕ) < 0 + 1536; omega⟩
      | ⟨1, _⟩ => exact ⟨Nat.zero_le _, by have := (y 1).isLt; show (y 1 : ℕ) < 0 + 1024; exact lt_of_lt_of_eq this rfl⟩),
      add_zero]
    exact rect3.overlay_of_not_mem _ _ hy

/-- The sum on 2048 rows. -/
theorem pay5_apply (y : Vec Ideal S2048x1024 .f32) (x : Vec Ideal S2048x1024 .bf16) (w : Vec Ideal S1x1024x1024 .f32) (j : S2048x1024.Idx) :
    k0_pay5 (F := Ideal) y x w j = y j + blockDot x w j := by
  unfold blockDot
  pointwise [k0_pay5]

/-- The block with the product of the first 2048 rows added. -/
theorem added4_apply (x0 : Vec Ideal S2048x1024 .bf16) (x1 : Vec Ideal S1x1024x1024 .f32) (z : Vec Ideal S2048x1024 .f32) (y : S2048x1024.Idx) :
    added4 x0 x1 z y = z y + if (y 0 : ℕ) < 512 * 4 then blockDot x0 x1 y else 0 := by
  unfold added4
  by_cases hy : y ∈ rect4.set
  · obtain ⟨x, hx⟩ := rect4.exists_idx_of_mem hy
    have e : (y 0 : ℕ) = 0 + 1 * (x 0 : ℕ) := by rw [← hx]; rfl
    have e1 : (y 1 : ℕ) = 0 + 1 * (x 1 : ℕ) := by rw [← hx]; rfl
    have lx : (x 0 : ℕ) < 2048 := (x 0).isLt
    rw [if_pos (by omega)]
    refine (congrArg (rect4.overlay z _) hx.symm).trans ((rect4.overlay_emb z _ x).trans ((pay5_apply _ _ _ x).trans ?_))
    refine congrArg₂ (· + ·) (congrArg z hx) ?_
    exact blockDot_congr x0 x1 (fun k => congrArg x0 (funext fun a => Fin.ext (by
      match a with
      | ⟨0, _⟩ => show 0 + 1 * (x 0 : ℕ) = (y 0 : ℕ); omega
      | ⟨1, _⟩ => show 0 + 1 * (k : ℕ) = (k : ℕ); omega))) (Fin.ext (by show (x 1 : ℕ) = (y 1 : ℕ); omega))
  · rw [if_neg fun h => hy (Rect.mem_set_unit.2 fun a => by
      match a with
      | ⟨0, _⟩ => exact ⟨Nat.zero_le _, by show (y 0 : ℕ) < 0 + 2048; omega⟩
      | ⟨1, _⟩ => exact ⟨Nat.zero_le _, by have := (y 1).isLt; show (y 1 : ℕ) < 0 + 1024; exact lt_of_lt_of_eq this rfl⟩),
      add_zero]
    exact rect4.overlay_of_not_mem _ _ hy

/-- What the body leaves of a block: the block, reset where a contraction starts, and the product of its live rows. -/
theorem stepOut_apply (i : grid0.Coords) (w : BitVec 32) (hw : w = 1#32 ∨ w = 2#32 ∨ w = 3#32 ∨ w = 4#32 ∨ w = 0#32)
    (x0 : Vec Ideal S2048x1024 .bf16) (x1 : Vec Ideal S1x1024x1024 .f32) (z : Vec Ideal S2048x1024 .f32) (y : S2048x1024.Idx) :
    stepOut i w x0 x1 z y = base i z y + if (y 0 : ℕ) < 512 * w.toNat then blockDot x0 x1 y else 0 := by
  rcases hw with rfl | rfl | rfl | rfl | rfl
  · rw [stepOut_1, added1_apply]; rfl
  · rw [stepOut_2, added2_apply]; rfl
  · rw [stepOut_3, added3_apply]; rfl
  · rw [stepOut_4, added4_apply]; rfl
  · rw [stepOut_0, if_neg (by show ¬ (y 0 : ℕ) < 512 * 0; omega), add_zero]

variable (m : (ℓ : Loc nD τ sig) → Buf (Elt Ideal) ℓ)

/-- The blocks a point is handed: its rows, and its expert's weights. -/
abbrev rowsAt (hO : Ok m) (c : Dev nD) (t : Fin (cfgM m hO).N) : Vec Ideal S2048x1024 .bf16 := iblk m hO c 0 t
abbrev wtsAt (hO : Ok m) (c : Dev nD) (t : Fin (cfgM m hO).N) : Vec Ideal S1x1024x1024 .f32 := iblk m hO c 1 t

/-- What point `t` adds to the result's block. -/
def term (hO : Ok m) (c : Dev nD) (t : Fin (cfgM m hO).N) (y : S2048x1024.Idx) : EReal :=
  if (y 0 : ℕ) < 512 * (word (F := Ideal) (grid0.coords t) (tbl m 2)).toNat then blockDot (rowsAt m hO c t) (wtsAt m hO c t) y else 0

theorem stepAt_apply (hO : Ok m) (hT : Tiles m) (c : Dev nD) (t : Fin (cfgM m hO).N) (z : Vec Ideal S2048x1024 .f32) (y : S2048x1024.Idx) :
    stepAt m hO c t z y = base (F := Ideal) (grid0.coords t) z y + term m hO c t y :=
  stepOut_apply (grid0.coords t) _ (hT (grid0.coords t)) (rowsAt m hO c t) (wtsAt m hO c t) z y

/-- Where a contraction starts, the block is the point's term; -/
theorem outs_start (hO : Ok m) (hT : Tiles m) (c : Dev nD) (t : Fin (cfgM m hO).N) (ht : t.val % 7 = 0) (y : S2048x1024.Idx) :
    outs m hO c t.val t.isLt y = 0 + term m hO c t y := by
  have h1 := (cond1_iff t).2 ht
  have hb : ∀ z : Vec Ideal S2048x1024 .f32, base (F := Ideal) (grid0.coords t) z y = 0 := fun z =>
    (congrFun (if_pos h1) y).trans (pay1_apply y)
  have hs : ∀ z : Vec Ideal S2048x1024 .f32, stepAt m hO c t z y = 0 + term m hO c t y := fun z => by
    rw [stepAt_apply m hO hT c t z y, hb]
  match t with
  | ⟨0, h⟩ => exact hs _
  | ⟨n + 1, h⟩ => exact hs _

/-- elsewhere, what the point before left and the term. -/
theorem outs_next (hO : Ok m) (hT : Tiles m) (c : Dev nD) (t : Fin (cfgM m hO).N) (ht : ¬ t.val % 7 = 0) (y : S2048x1024.Idx) :
    outs m hO c t.val t.isLt y = outs m hO c (t.val - 1) (Nat.lt_of_le_of_lt (Nat.sub_le _ _) t.isLt) y + term m hO c t y := by
  have hb : ∀ z : Vec Ideal S2048x1024 .f32, base (F := Ideal) (grid0.coords t) z y = z y := fun z =>
    congrFun (if_neg fun e => ht ((cond1_iff t).1 e)) y
  have hs : ∀ z : Vec Ideal S2048x1024 .f32, stepAt m hO c t z y = z y + term m hO c t y := fun z => by
    rw [stepAt_apply m hO hT c t z y, hb]
  match t, ht, hs with
  | ⟨0, h⟩, ht, _ => exact absurd rfl ht
  | ⟨n + 1, h⟩, _, hs => exact hs _

/-- The block after the last point of a contraction. -/
theorem outs_last (hO : Ok m) (hT : Tiles m) (c : Dev nD) (t : Fin (cfgM m hO).N) (ht : t.val % 7 = 6) (y : S2048x1024.Idx) :
    outs m hO c t.val t.isLt y = 0 + ∑ s : Fin 7, term m hO c ⟨7 * (t.val / 7) + s.val, Pipeline.run_point_lt_of_flush t ht s⟩ y :=
  Pipeline.eq_sum_fin_of_reset_step_apply_of_flush (fun n h => outs m hO c n h) 7 (fun _ => 0) (term m hO c)
    (fun t h i => outs_start m hO hT c t h i) (fun t h i => outs_next m hO hT c t h i) t ht y

end Cert.DownIdeal.Moe

end
-- ==== Proof.DownIdeal.Value.lean ====
module

public import proofs.«01_k».proof.Proof.DownIdeal.Block

@[expose] public section

/-! The array the grouped down product leaves. -/

noncomputable section

namespace Cert.DownIdeal.Moe

open Idealize.ShloMosaic Idealize.ShloMosaic.TcCoe Idealize.ShloMosaic.Tactic
open Idealize.ShloMosaic.Pipeline (Dat Window)
open Cert.DownIdeal Cert.DownIdeal.Gen Cert.Plan

/-- The part of a row's down product in the `s`-th block of the contraction. -/
def partAt (h : Shape.Idx ⟨2, ![32768, 7168]⟩ → EReal) (wd : Shape.Idx ⟨3, ![8, 7168, 2048]⟩ → EReal)
    (se st : T16.Idx → BitVec 32) (r : Fin 32768) (f : Fin 2048) (s : Fin 7) : EReal :=
  if Live st r then ∑ k : Fin 1024, h (ix2 r ⟨s.val * 1024 + k.val, by omega⟩) * wd (ix3 (expertOf se (supOf r)) ⟨s.val * 1024 + k.val, by omega⟩ f) else 0

/-- The seven parts are the whole product. -/
theorem sum_partAt (h : Shape.Idx ⟨2, ![32768, 7168]⟩ → EReal) (wd : Shape.Idx ⟨3, ![8, 7168, 2048]⟩ → EReal)
    (se st : T16.Idx → BitVec 32) (r : Fin 32768) (f : Fin 2048) : ∑ s : Fin 7, partAt h wd se st r f s = downAt h wd se st r f := by
  unfold partAt downAt
  by_cases hl : Live st r
  · simp only [if_pos hl]
    exact Fin.sum_mul_add_congr fun s k hk => rfl
  · simp only [if_neg hl, Finset.sum_const_zero]

variable (m : (ℓ : Loc nD τ sig) → Buf (Elt Ideal) ℓ)

set_option maxRecDepth 65536 in
/-- The coordinates of a point: its super-row, its half of the columns, its block of the contraction. -/
theorem coords_eq : ∀ t : Fin grid0.N, (grid0.coords t 0).val = t.val / 14 ∧ (grid0.coords t 1).val = t.val / 7 % 2 ∧ (grid0.coords t 2).val = t.val % 7 := by
  decide +kernel

/-- Window 0's block index at a point whose super-row has a live tile. -/
theorem index0 (hO : Ok m) (hP : Planned m) (t : Fin (cfgM m hO).N) (h0 : (tbl m 2 (sup (grid0.coords t)) : BitVec 32).toNat ≠ 0) :
    ((cfgM m hO).win 0).index t = ![(tbl m 1 (sup (grid0.coords t)) : BitVec 32).toNat, (grid0.coords t 2).val] := by
  refine (map0_eq (F := Ideal) (tbl m) (grid0.coords t) _ _).trans ?_
  rw [col_eq h0 (hP _).tiles]

/-- Window 1's block index at a point whose super-row has a live tile. -/
theorem index1 (hO : Ok m) (hP : Planned m) (t : Fin (cfgM m hO).N) (h0 : (tbl m 2 (sup (grid0.coords t)) : BitVec 32).toNat ≠ 0) :
    ((cfgM m hO).win 1).index t = ![(tbl m 0 (sup (grid0.coords t)) : BitVec 32).toNat, (grid0.coords t 2).val, (grid0.coords t 1).val] := by
  refine (map1_eq (F := Ideal) (tbl m) (grid0.coords t) _ _).trans ?_
  rw [col_eq h0 (hP _).tiles, half_eq]

/-- Window 2's block index at a point. -/
theorem index2 (hO : Ok m) (t : Fin (cfgM m hO).N) :
    ((cfgM m hO).win 2).index t = ![(grid0.coords t 0).val, (grid0.coords t 1).val] := by
  have h0 : (grid0.coords t 0).val < 16 := (grid0.coords t 0).isLt
  have h1 : (grid0.coords t 1).val < 2 := (grid0.coords t 1).isLt
  show (![(BitVec.ofNat 32 (grid0.coords t 0).val).toNat, (BitVec.ofNat 32 (grid0.coords t 1).val).toNat] : Fin 2 → ℕ) = _
  rw [BitVec.toNat_ofNat, BitVec.toNat_ofNat, Nat.mod_eq_of_lt (by omega), Nat.mod_eq_of_lt (by omega)]

/-- The rows a point is handed, in the grouped array. -/
theorem rowsAt_apply (hO : Ok m) (hP : Planned m) (c : Dev nD) (t : Fin (cfgM m hO).N) (h0 : (tbl m 2 (sup (grid0.coords t)) : BitVec 32).toNat ≠ 0)
    (y : Fin 2048) (k : Fin 1024) (r : Fin 32768) (l : Fin 7168)
    (hr : r.val = (tbl m 1 (sup (grid0.coords t)) : BitVec 32).toNat * 2048 + y.val) (hl : l.val = (grid0.coords t 2).val * 1024 + k.val) :
    rowsAt m hO c t (ix2 y k) = V m c main_arg0 (ix2 r l) := by
  refine congrArg (V m c main_arg0) (funext fun a => Fin.ext ?_)
  blk_simp
  rw [index0 m hO hP t h0]
  match a with
  | ⟨0, _⟩ => exact hr.symm
  | ⟨1, _⟩ => exact hl.symm

/-- The weights a point is handed, in the weights. -/
theorem wtsAt_apply (hO : Ok m) (hP : Planned m) (c : Dev nD) (t : Fin (cfgM m hO).N) (h0 : (tbl m 2 (sup (grid0.coords t)) : BitVec 32).toNat ≠ 0)
    (k z : Fin 1024) (e : Fin 8) (l : Fin 7168) (f : Fin 2048)
    (he : e.val = (tbl m 0 (sup (grid0.coords t)) : BitVec 32).toNat) (hl : l.val = (grid0.coords t 2).val * 1024 + k.val)
    (hf : f.val = (grid0.coords t 1).val * 1024 + z.val) :
    wtsAt m hO c t (ix3 0 k z) = V m c main_arg1 (ix3 e l f) := by
  refine congrArg (V m c main_arg1) (funext fun a => Fin.ext ?_)
  blk_simp
  rw [index1 m hO hP t h0]
  match a with
  | ⟨0, _⟩ => show (tbl m 0 (sup (grid0.coords t)) : BitVec 32).toNat * 1 + 0 = (e : ℕ); omega
  | ⟨1, _⟩ => exact hl.symm
  | ⟨2, _⟩ => exact hf.symm

/-- What a point adds, where it lies in the array: its 1024 terms of the row's product, or nothing. -/
theorem term_eq (hO : Ok m) (hP : Planned m) (c : Dev nD) (t : Fin (cfgM m hO).N) (y : S2048x1024.Idx) (r : Fin 32768) (f : Fin 2048)
    (hr : r.val = t.val / 14 * 2048 + (y 0).val) (hf : f.val = t.val / 7 % 2 * 1024 + (y 1).val) :
    term m hO c t y = partAt (V m c main_arg0) (V m c main_arg1) (tbl m 0) (tbl m 2) r f ⟨t.val % 7, Nat.mod_lt _ (by decide)⟩ := by
  obtain ⟨c0, c1, c2⟩ := coords_eq t
  have hy : (y 0).val < 2048 := (y 0).isLt
  have hs : supOf r = sup (grid0.coords t) := funext fun a => Fin.ext (by
    match a with
    | ⟨0, _⟩ => show r.val / 2048 = (grid0.coords t 0).val; omega)
  have hw : word (F := Ideal) (grid0.coords t) (tbl m 2) = tbl m 2 (sup (grid0.coords t)) := word_eq _ _
  have hm : r.val % 2048 = (y 0).val := by omega
  unfold term partAt
  by_cases hl : (y 0 : ℕ) < 512 * (tbl m 2 (sup (grid0.coords t)) : BitVec 32).toNat
  · have h0 : (tbl m 2 (sup (grid0.coords t)) : BitVec 32).toNat ≠ 0 := by omega
    rw [if_pos (by rw [hw]; exact hl), if_pos (show Live (tbl m 2) r by unfold Live; rw [hs, hm]; exact hl), hs]
    have ho := (hP (sup (grid0.coords t))).own.resolve_left h0
    have he := (hP (sup (grid0.coords t))).expert
    have ho' : (tbl m 1 (sup (grid0.coords t)) : BitVec 32).toNat = (grid0.coords t 0).val := ho
    have hr' : r.val = (tbl m 1 (sup (grid0.coords t)) : BitVec 32).toNat * 2048 + (y 0).val := by
      rw [ho', c0]; exact hr
    have hx : (expertOf (tbl m 0) (sup (grid0.coords t))).val = (tbl m 0 (sup (grid0.coords t)) : BitVec 32).toNat := Nat.mod_eq_of_lt he
    unfold blockDot
    refine Finset.sum_congr rfl fun k _ => ?_
    exact congrArg₂ (· * ·) (rowsAt_apply m hO hP c t h0 (y 0) k r _ hr' (by rw [c2]))
      (wtsAt_apply m hO hP c t h0 k (y 1) _ _ f hx (by rw [c2]) (by rw [c1]; exact hf))
  · rw [if_neg (by rw [hw]; exact hl), if_neg (show ¬ Live (tbl m 2) r by unfold Live; rw [hs, hm]; exact hl)]

/-- The block the last point of a contraction leaves is the rows' product, where they lie in the array. -/
theorem outs_eq (hO : Ok m) (hP : Planned m) (c : Dev nD) (t : Fin (cfgM m hO).N) (ht : t.val % 7 = 6) (y : S2048x1024.Idx) (r : Fin 32768) (f : Fin 2048)
    (hr : r.val = (grid0.coords t 0).val * 2048 + (y 0).val) (hf : f.val = (grid0.coords t 1).val * 1024 + (y 1).val) :
    outs m hO c t.val t.isLt y = downAt (V m c main_arg0) (V m c main_arg1) (tbl m 0) (tbl m 2) r f := by
  obtain ⟨c0, c1, -⟩ := coords_eq t
  rw [c0] at hr
  rw [c1] at hf
  rw [outs_last m hO (tiles_of_planned m hP) c t ht y, zero_add]
  have e := fun s : Fin 7 => term_eq m hO hP c ⟨7 * (t.val / 7) + s.val, Pipeline.run_point_lt_of_flush t ht s⟩ y r f
    (by show r.val = (7 * (t.val / 7) + s.val) / 14 * 2048 + (y 0).val; omega) (by show f.val = (7 * (t.val / 7) + s.val) / 7 % 2 * 1024 + (y 1).val; omega)
  refine Eq.trans ?_ (sum_partAt (V m c main_arg0) (V m c main_arg1) (tbl m 0) (tbl m 2) r f)
  refine Finset.sum_congr rfl fun s _ => (e s).trans (congrArg _ (Fin.ext ?_))
  show (7 * (t.val / 7) + s.val) % 7 = s.val
  omega

/-- The array after the run. -/
theorem final (hO : Ok m) (hP : Planned m) (c : Dev nD) :
    (dats m hO 0 c).arrAt 2 (cfgM m hO).N = fun i : S32768x2048.Idx =>
      downAt (V m c main_arg0) (V m c main_arg1) (tbl m 0) (tbl m 2) (i 0) (i 1) := by
  refine (dats m hO 0 c).arrAt_eq_of_covers 2 _ ?_ fun t hf y => ?_
  · refine ((cfgM m hO).win 2).covers_of_indexMap_surj rfl (fun a => ?_) fun β => ?_
    · match a with
      | ⟨0, _⟩ => exact (by decide : 0 < 2048)
      | ⟨1, _⟩ => exact (by decide : 0 < 1024)
    · have b0 : (β (0 : Fin 2)).val < 16 := lt_of_lt_of_eq (β (0 : Fin 2)).isLt (by show (32768 + 2048 - 1) / 2048 = 16; decide)
      have b1 : (β (1 : Fin 2)).val < 2 := lt_of_lt_of_eq (β (1 : Fin 2)).isLt (by show (2048 + 1024 - 1) / 1024 = 2; decide)
      refine ⟨fun a => match a with | ⟨0, _⟩ => ⟨(β (0 : Fin 2)).val, b0⟩ | ⟨1, _⟩ => ⟨(β (1 : Fin 2)).val, b1⟩ | ⟨2, _⟩ => ⟨0, (by decide : 0 < 7)⟩, fun a => ?_⟩
      match a with
      | ⟨0, _⟩ => show (BitVec.ofNat 32 (β (0 : Fin 2)).val).toNat = (β (0 : Fin 2)).val; rw [BitVec.toNat_ofNat, Nat.mod_eq_of_lt (by omega)]
      | ⟨1, _⟩ => show (BitVec.ofNat 32 (β (1 : Fin 2)).val).toNat = (β (1 : Fin 2)).val; rw [BitVec.toNat_ofNat, Nat.mod_eq_of_lt (by omega)]
  · blk_simp
    rw [after0_2]
    refine outs_eq m hO hP c t ((flush0_2 (adm m hO) t).1 hf) y _ _ ?_ ?_
    · blk_simp; rw [index2 m hO t]; rfl
    · blk_simp; rw [index2 m hO t]; rfl

end Cert.DownIdeal.Moe

end
-- ==== Proof.DownReferenceIdeal.Value.lean ====
module

public import proofs.«01_k».proof.Proof.Collapse
public import proofs.«01_k».proof.Proof.Gen.DownReferenceIdeal.Read

@[expose] public section

/-! The reference of the down product, index by index. -/

noncomputable section

namespace Cert.DownReferenceIdeal.Moe

open Idealize.ShloMosaic Idealize.ShloMosaic.TcCoe Idealize.ShloMosaic.Tactic
open Cert.DownReferenceIdeal Cert.DownReferenceIdeal.Read Cert.Plan

variable (x0 : (⟨S32768x7168, .bf16⟩ : BufTy).Contents (Elt Ideal)) (x1 : (⟨S8x7168x2048, .f32⟩ : BufTy).Contents (Elt Ideal))
  (x2 x4 : (⟨S16, .i32⟩ : BufTy).Contents (Elt Ideal)) (ss : T16.Idx → BitVec 32)

/-- The gate's array. -/
theorem gate_at (r : Fin 32768) (e : Fin 8) (h : At x2 ss x4 (supOf r)) (i : S32768x8.Idx) (h0 : (i 0).val = r.val) (h1 : (i 1).val = e.val) :
    val_main_v17 (F := Ideal) x2 x4 i = gate x2 x4 r e := by
  have e3 : idx_main_v1 (idx_main_v2 (idx_main_v3 (idx_main_v12 i))) = supOf r := funext fun a => Fin.ext (by
    match a with
    | ⟨0, _⟩ => show ((i 0).val * 1 + 0) / 2048 = r.val / 2048; omega)
  have e5 : idx_main_v5 (idx_main_v8 (idx_main_v10 (idx_main_v15 i))) = supOf r := funext fun a => Fin.ext (by
    match a with
    | ⟨0, _⟩ => show ((i 0).val * 1 + 0) / 2048 = r.val / 2048; omega)
  have e4 : ((idx_main_v10 (idx_main_v15 i)) 1).val = r.val % 2048 := by
    show ((i 0).val * 1 + 0) % 2048 = r.val % 2048; omega
  have e1 : ((idx_main_v13 i) 1).val = e.val := h1
  rw [val_main_v17_apply, val_main_v16_apply, val_main_v14_apply, val_main_v12_apply, val_main_v3_apply, val_main_v2_apply, val_main_v1_apply,
    val_main_v13_apply, val_main_v11_apply, val_main_v15_apply, val_main_v10_apply, val_main_v9_apply, val_main_v4_apply, val_main_v8_apply,
    val_main_v7_apply, val_main_v6_apply, val_main_c_apply, val_main_v5_apply, val_main_call0_v0_apply, val_main_call0_v1_apply,
    val_main_cst_apply, val_main_cst_0_apply, e3, e5, e4, e1]
  refine Eq.trans ?_ (gate_of_words h e)
  congr 1
  · exact Ideal.ofBits_one_f32
  · exact Ideal.ofBits_zero_f32

/-- One expert's product at row `r`, column `f`. -/
def term (r : Fin 32768) (f : Fin 2048) (e : Fin 8) : EReal :=
  ∑ k : Fin 7168, x0 (ix2 r k) * x1 (ix3 e k f)

/-- Expert 0. -/
theorem term0 (i : S32768x2048.Idx) : val_main_v21 (F := Ideal) x0 x1 i = term x0 x1 (i 0) (i 1) 0 := by
  rw [val_main_v21_apply]
  refine Finset.sum_congr rfl fun k _ => ?_
  rw [val_main_v0_apply, val_main_v20_apply, val_main_v19_apply]
  have hk := k.isLt
  have hi : (i 1).val < 2048 := (i 1).isLt
  refine congrArg₂ (· * ·) (congrArg x0 (funext fun a => Fin.ext ?_)) (congrArg x1 (funext fun a => Fin.ext ?_))
  · match a with
    | ⟨0, _⟩ => rfl
    | ⟨1, _⟩ => rfl
  · match a with
    | ⟨0, _⟩ => rfl
    | ⟨1, _⟩ => show (k.val * 2048 + (i 1).val) / 2048 % 7168 = k.val; omega
    | ⟨2, _⟩ => show (k.val * 2048 + (i 1).val) % 2048 = (i 1).val; omega

/-- Expert 1. -/
theorem term1 (i : S32768x2048.Idx) : val_main_v29 (F := Ideal) x0 x1 i = term x0 x1 (i 0) (i 1) 1 := by
  rw [val_main_v29_apply]
  refine Finset.sum_congr rfl fun k _ => ?_
  rw [val_main_v0_apply, val_main_v28_apply, val_main_v27_apply]
  have hk := k.isLt
  have hi : (i 1).val < 2048 := (i 1).isLt
  refine congrArg₂ (· * ·) (congrArg x0 (funext fun a => Fin.ext ?_)) (congrArg x1 (funext fun a => Fin.ext ?_))
  · match a with
    | ⟨0, _⟩ => rfl
    | ⟨1, _⟩ => rfl
  · match a with
    | ⟨0, _⟩ => rfl
    | ⟨1, _⟩ => show (k.val * 2048 + (i 1).val) / 2048 % 7168 = k.val; omega
    | ⟨2, _⟩ => show (k.val * 2048 + (i 1).val) % 2048 = (i 1).val; omega

/-- Expert 2. -/
theorem term2 (i : S32768x2048.Idx) : val_main_v37 (F := Ideal) x0 x1 i = term x0 x1 (i 0) (i 1) 2 := by
  rw [val_main_v37_apply]
  refine Finset.sum_congr rfl fun k _ => ?_
  rw [val_main_v0_apply, val_main_v36_apply, val_main_v35_apply]
  have hk := k.isLt
  have hi : (i 1).val < 2048 := (i 1).isLt
  refine congrArg₂ (· * ·) (congrArg x0 (funext fun a => Fin.ext ?_)) (congrArg x1 (funext fun a => Fin.ext ?_))
  · match a with
    | ⟨0, _⟩ => rfl
    | ⟨1, _⟩ => rfl
  · match a with
    | ⟨0, _⟩ => rfl
    | ⟨1, _⟩ => show (k.val * 2048 + (i 1).val) / 2048 % 7168 = k.val; omega
    | ⟨2, _⟩ => show (k.val * 2048 + (i 1).val) % 2048 = (i 1).val; omega

/-- Expert 3. -/
theorem term3 (i : S32768x2048.Idx) : val_main_v45 (F := Ideal) x0 x1 i = term x0 x1 (i 0) (i 1) 3 := by
  rw [val_main_v45_apply]
  refine Finset.sum_congr rfl fun k _ => ?_
  rw [val_main_v0_apply, val_main_v44_apply, val_main_v43_apply]
  have hk := k.isLt
  have hi : (i 1).val < 2048 := (i 1).isLt
  refine congrArg₂ (· * ·) (congrArg x0 (funext fun a => Fin.ext ?_)) (congrArg x1 (funext fun a => Fin.ext ?_))
  · match a with
    | ⟨0, _⟩ => rfl
    | ⟨1, _⟩ => rfl
  · match a with
    | ⟨0, _⟩ => rfl
    | ⟨1, _⟩ => show (k.val * 2048 + (i 1).val) / 2048 % 7168 = k.val; omega
    | ⟨2, _⟩ => show (k.val * 2048 + (i 1).val) % 2048 = (i 1).val; omega

/-- Expert 4. -/
theorem term4 (i : S32768x2048.Idx) : val_main_v53 (F := Ideal) x0 x1 i = term x0 x1 (i 0) (i 1) 4 := by
  rw [val_main_v53_apply]
  refine Finset.sum_congr rfl fun k _ => ?_
  rw [val_main_v0_apply, val_main_v52_apply, val_main_v51_apply]
  have hk := k.isLt
  have hi : (i 1).val < 2048 := (i 1).isLt
  refine congrArg₂ (· * ·) (congrArg x0 (funext fun a => Fin.ext ?_)) (congrArg x1 (funext fun a => Fin.ext ?_))
  · match a with
    | ⟨0, _⟩ => rfl
    | ⟨1, _⟩ => rfl
  · match a with
    | ⟨0, _⟩ => rfl
    | ⟨1, _⟩ => show (k.val * 2048 + (i 1).val) / 2048 % 7168 = k.val; omega
    | ⟨2, _⟩ => show (k.val * 2048 + (i 1).val) % 2048 = (i 1).val; omega

/-- Expert 5. -/
theorem term5 (i : S32768x2048.Idx) : val_main_v61 (F := Ideal) x0 x1 i = term x0 x1 (i 0) (i 1) 5 := by
  rw [val_main_v61_apply]
  refine Finset.sum_congr rfl fun k _ => ?_
  rw [val_main_v0_apply, val_main_v60_apply, val_main_v59_apply]
  have hk := k.isLt
  have hi : (i 1).val < 2048 := (i 1).isLt
  refine congrArg₂ (· * ·) (congrArg x0 (funext fun a => Fin.ext ?_)) (congrArg x1 (funext fun a => Fin.ext ?_))
  · match a with
    | ⟨0, _⟩ => rfl
    | ⟨1, _⟩ => rfl
  · match a with
    | ⟨0, _⟩ => rfl
    | ⟨1, _⟩ => show (k.val * 2048 + (i 1).val) / 2048 % 7168 = k.val; omega
    | ⟨2, _⟩ => show (k.val * 2048 + (i 1).val) % 2048 = (i 1).val; omega

/-- Expert 6. -/
theorem term6 (i : S32768x2048.Idx) : val_main_v69 (F := Ideal) x0 x1 i = term x0 x1 (i 0) (i 1) 6 := by
  rw [val_main_v69_apply]
  refine Finset.sum_congr rfl fun k _ => ?_
  rw [val_main_v0_apply, val_main_v68_apply, val_main_v67_apply]
  have hk := k.isLt
  have hi : (i 1).val < 2048 := (i 1).isLt
  refine congrArg₂ (· * ·) (congrArg x0 (funext fun a => Fin.ext ?_)) (congrArg x1 (funext fun a => Fin.ext ?_))
  · match a with
    | ⟨0, _⟩ => rfl
    | ⟨1, _⟩ => rfl
  · match a with
    | ⟨0, _⟩ => rfl
    | ⟨1, _⟩ => show (k.val * 2048 + (i 1).val) / 2048 % 7168 = k.val; omega
    | ⟨2, _⟩ => show (k.val * 2048 + (i 1).val) % 2048 = (i 1).val; omega

/-- Expert 7. -/
theorem term7 (i : S32768x2048.Idx) : val_main_v77 (F := Ideal) x0 x1 i = term x0 x1 (i 0) (i 1) 7 := by
  rw [val_main_v77_apply]
  refine Finset.sum_congr rfl fun k _ => ?_
  rw [val_main_v0_apply, val_main_v76_apply, val_main_v75_apply]
  have hk := k.isLt
  have hi : (i 1).val < 2048 := (i 1).isLt
  refine congrArg₂ (· * ·) (congrArg x0 (funext fun a => Fin.ext ?_)) (congrArg x1 (funext fun a => Fin.ext ?_))
  · match a with
    | ⟨0, _⟩ => rfl
    | ⟨1, _⟩ => rfl
  · match a with
    | ⟨0, _⟩ => rfl
    | ⟨1, _⟩ => show (k.val * 2048 + (i 1).val) / 2048 % 7168 = k.val; omega
    | ⟨2, _⟩ => show (k.val * 2048 + (i 1).val) % 2048 = (i 1).val; omega

/-- The reference's result at row `r`, column `f`. -/
theorem ref_at (i : S32768x2048.Idx) (h : ∀ s, At x2 ss x4 s) :
    val_main_v82 (F := Ideal) x0 x1 x2 x4 i = downAt x0 x1 x2 x4 (i 0) (i 1) := by
  have g0 : val_main_v24 (F := Ideal) x2 x4 i = gate x2 x4 (i 0) 0 := by
    rw [val_main_v24_apply, val_main_v23_apply, val_main_v22_apply]
    exact gate_at x2 x4 ss (i 0) 0 (h _) _ rfl rfl
  have g1 : val_main_v32 (F := Ideal) x2 x4 i = gate x2 x4 (i 0) 1 := by
    rw [val_main_v32_apply, val_main_v31_apply, val_main_v30_apply]
    exact gate_at x2 x4 ss (i 0) 1 (h _) _ rfl rfl
  have g2 : val_main_v40 (F := Ideal) x2 x4 i = gate x2 x4 (i 0) 2 := by
    rw [val_main_v40_apply, val_main_v39_apply, val_main_v38_apply]
    exact gate_at x2 x4 ss (i 0) 2 (h _) _ rfl rfl
  have g3 : val_main_v48 (F := Ideal) x2 x4 i = gate x2 x4 (i 0) 3 := by
    rw [val_main_v48_apply, val_main_v47_apply, val_main_v46_apply]
    exact gate_at x2 x4 ss (i 0) 3 (h _) _ rfl rfl
  have g4 : val_main_v56 (F := Ideal) x2 x4 i = gate x2 x4 (i 0) 4 := by
    rw [val_main_v56_apply, val_main_v55_apply, val_main_v54_apply]
    exact gate_at x2 x4 ss (i 0) 4 (h _) _ rfl rfl
  have g5 : val_main_v64 (F := Ideal) x2 x4 i = gate x2 x4 (i 0) 5 := by
    rw [val_main_v64_apply, val_main_v63_apply, val_main_v62_apply]
    exact gate_at x2 x4 ss (i 0) 5 (h _) _ rfl rfl
  have g6 : val_main_v72 (F := Ideal) x2 x4 i = gate x2 x4 (i 0) 6 := by
    rw [val_main_v72_apply, val_main_v71_apply, val_main_v70_apply]
    exact gate_at x2 x4 ss (i 0) 6 (h _) _ rfl rfl
  have g7 : val_main_v80 (F := Ideal) x2 x4 i = gate x2 x4 (i 0) 7 := by
    rw [val_main_v80_apply, val_main_v79_apply, val_main_v78_apply]
    exact gate_at x2 x4 ss (i 0) 7 (h _) _ rfl rfl
  have z : (FloatOps.ofBits .f32 0x00000000#32 : Ideal .f32) = (0 : EReal) := Ideal.ofBits_zero_f32
  rw [val_main_v82_apply, val_main_v81_apply, term7, g7, val_main_v74_apply, val_main_v73_apply, term6, g6, val_main_v66_apply, val_main_v65_apply, term5, g5, val_main_v58_apply, val_main_v57_apply, term4, g4, val_main_v50_apply, val_main_v49_apply, term3, g3, val_main_v42_apply, val_main_v41_apply, term2, g2, val_main_v34_apply, val_main_v33_apply, term1, g1, val_main_v26_apply, val_main_v25_apply, term0, g0, val_main_v18_apply, val_main_cst_1_apply, z]
  exact gated_sum x2 x4 (i 0) (term x0 x1 (i 0) (i 1))

end Cert.DownReferenceIdeal.Moe

end
-- ==== Proof.DownClaim.lean ====
module

public import proofs.«01_k».proof.Defs
public import proofs.«01_k».proof.Proof.Down.Same
public import proofs.«01_k».proof.Proof.DownIdeal.Value
public import proofs.«01_k».proof.Proof.DownReferenceIdeal.Value
public import Idealize.ShloMosaic.Lib.Claim

@[expose] public section

/-! The claims of the down product. -/

namespace Cert.DownClaim

open Idealize.ShloMosaic Idealize.ShloMosaic.TcCoe Idealize.SL.Sem

/-- The precondition is the plan of the tables. -/
theorem planned {m : (ℓ : Loc Cert.Down.nD Cert.Down.τ Cert.Down.sig) → Buf (Elt Bits) ℓ} (h : Cert.Pre_Down m) : Cert.DownIdeal.Moe.Planned (F := Bits) m :=
  fun s => Cert.Plan.down_words (h 0) s

theorem planned_ideal {m : (ℓ : Loc Cert.DownIdeal.nD Cert.DownIdeal.τ Cert.DownIdeal.sig) → Buf (Elt Ideal) ℓ} (h : Cert.Pre_DownIdeal m) : Cert.DownIdeal.Moe.Planned m :=
  fun s => Cert.Plan.down_words (h 0) s

theorem frame_kernel : Cert.quiescent_Down := fun m g h => by
  rw [Cert.Down.Same.defs_eq, Cert.Down.Same.main_eq]
  exact Cert.DownIdeal.Moe.frame (F := Bits) m g (Cert.DownIdeal.Moe.ok_of_planned (F := Bits) m (planned h)) (Cert.DownIdeal.Moe.tiles_of_planned (F := Bits) m (planned h))

theorem frame_ideal : Cert.quiescent_DownIdeal := fun m g h =>
  Cert.DownIdeal.Moe.frame m g (Cert.DownIdeal.Moe.ok_of_planned m (planned_ideal h)) (Cert.DownIdeal.Moe.tiles_of_planned m (planned_ideal h))

theorem frame_reference : Cert.quiescent_DownReferenceIdeal := fun m g _ =>
  (θ_run Cert.DownReferenceIdeal.defs _ _).mono (fun r h => ⟨fun c => (h c).2, sem_eq_zero_of_no_sems (by decide) _⟩) (Cert.DownReferenceIdeal.Value.run m g)

/-- The reference's run, its result in the plan's words. -/
theorem reference_run (m : (ℓ : Loc Cert.DownReferenceIdeal.nD Cert.DownReferenceIdeal.τ Cert.DownReferenceIdeal.sig) → Buf (Elt Ideal) ℓ) (g : Dev Cert.DownReferenceIdeal.nD → PrngReg) :
    θ_run Cert.DownReferenceIdeal.defs (onTc (τ := Cert.DownReferenceIdeal.τ) (Cert.DownReferenceIdeal.main (F := Ideal))) ⟨m, fun _ => 0, g⟩ (fun r => ∀ c : Dev Cert.DownReferenceIdeal.nD,
      r.2.mem ((c.tc : Thread Cert.DownReferenceIdeal.nD Cert.DownReferenceIdeal.τ).loc Cert.DownReferenceIdeal.main_v82) = Cert.DownReferenceIdeal.Read.val_main_v82 (F := Ideal) (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1)) (m ((c.tc : Thread Cert.DownReferenceIdeal.nD Cert.DownReferenceIdeal.τ).loc Cert.DownReferenceIdeal.main_arg2)) (m ((c.tc : Thread Cert.DownReferenceIdeal.nD Cert.DownReferenceIdeal.τ).loc Cert.DownReferenceIdeal.main_arg4))
      ∧ r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4)) :=
  (θ_run Cert.DownReferenceIdeal.defs _ _).mono (fun r h c => ⟨(h c).1.trans (Cert.DownReferenceIdeal.Read.val_main_v82_eq m c), (h c).2⟩) (Cert.DownReferenceIdeal.Value.run m g)

theorem value : Cert.algebraic_DownIdeal_DownReferenceIdeal := by
  intro m g m' g' hpre hagree
  have hP := planned_ideal hpre
  have hO := Cert.DownIdeal.Moe.ok_of_planned m hP
  have hT := Cert.DownIdeal.Moe.tiles_of_planned m hP
  refine ⟨fun c => (Cert.DownIdeal.Moe.dats m hO 0 c).arrAt 2 (Cert.DownIdeal.Moe.cfgM m hO).N, Cert.DownIdeal.Moe.run_value m g hO hT, ?_⟩
  refine (θ_run Cert.DownReferenceIdeal.defs _ _).mono (fun r h c => ⟨(h c).1.trans ?_, (h c).2⟩) (reference_run m' g')
  obtain ⟨a0, a1, a2, a3, a4⟩ := hagree c
  obtain rfl : c = 0 := Subsingleton.elim _ _
  refine Eq.trans ?_ (Cert.DownIdeal.Moe.final m hO hP 0).symm
  funext i
  rw [a0, a1, a2, a4]
  exact Cert.DownReferenceIdeal.Moe.ref_at _ _ _ _ (Cert.DownIdeal.Moe.tbl m 1) i hP

end Cert.DownClaim
-- ==== Proof.DenseUpIdeal.Value.lean ====
module

public import proofs.«01_k».proof.Proof.Spec
public import proofs.«01_k».proof.Proof.Gen.DenseUpIdeal.Value
public import Idealize.ShloMosaic.Lib.WholeRead
public import Idealize.ShloMosaic.Lib.Pipeline.Covers

@[expose] public section

/-! What the dense layer's gate and up products leave. -/

noncomputable section

namespace Cert.DenseUpIdeal.Dense

open Idealize.ShloMosaic Idealize.ShloMosaic.TcCoe Idealize.ShloMosaic.Tactic
open Idealize.ShloMosaic.Pipeline (Dat Window)
open Cert.DenseUpIdeal Cert.DenseUpIdeal.Gen Cert.Plan

/-- The gated activation of token row `r` at column `f`. -/
def denseAt (x : Shape.Idx ⟨2, ![8448, 2048]⟩ → EReal) (wg wu : Shape.Idx ⟨2, ![2048, 7168]⟩ → EReal) (r : Fin 8448) (f : Fin 7168) : EReal :=
  act (∑ k : Fin 2048, x (ix2 r k) * wg (ix2 k f)) (∑ k : Fin 2048, x (ix2 r k) * wu (ix2 k f))

/-- What one point computes of its blocks. -/
theorem pay_apply (x : Vec Ideal S1056x2048 .bf16) (wg wu : Vec Ideal S2048x512 .f32) (j : S1056x512.Idx) :
    k0_pay1 (F := Ideal) x wg wu j = act (∑ k : Fin 2048, x (ix2 (j 0) k) * wg (ix2 k (j 1))) (∑ k : Fin 2048, x (ix2 (j 0) k) * wu (ix2 k (j 1))) := by
  unfold act
  rw [← zero_sub]
  pointwise [k0_pay1]

theorem out_apply (x : Vec Ideal S1056x2048 .bf16) (wg wu : Vec Ideal S2048x512 .f32) (j : S1056x512.Idx) :
    out0_3 (F := Ideal) x wg wu j = act (∑ k : Fin 2048, x (ix2 (j 0) k) * wg (ix2 k (j 1))) (∑ k : Fin 2048, x (ix2 (j 0) k) * wu (ix2 k (j 1))) := by
  frame_out
  exact pay_apply x wg wu j

variable (m : (ℓ : Loc nD τ sig) → Buf (Elt Ideal) ℓ)

/-- A grid coordinate as a word is itself. -/
theorem coord0 (t : Fin cfg0.N) : (BitVec.ofNat 32 (grid0.coords t 0).val).toNat = (grid0.coords t 0).val := by
  have h0 : (grid0.coords t 0).val < 8 := (grid0.coords t 0).isLt
  rw [BitVec.toNat_ofNat, Nat.mod_eq_of_lt (by omega)]

theorem coord1 (t : Fin cfg0.N) : (BitVec.ofNat 32 (grid0.coords t 1).val).toNat = (grid0.coords t 1).val := by
  have h0 : (grid0.coords t 1).val < 14 := (grid0.coords t 1).isLt
  rw [BitVec.toNat_ofNat, Nat.mod_eq_of_lt (by omega)]

/-- The blocks' indices at a point. -/
theorem index0 (t : Fin cfg0.N) : (cfg0.win 0).index t = ![(grid0.coords t 0).val, 0] := by
  show (![(BitVec.ofNat 32 (grid0.coords t 0).val).toNat, 0] : Fin 2 → ℕ) = _
  rw [coord0]

theorem index1 (t : Fin cfg0.N) : (cfg0.win 1).index t = ![0, (grid0.coords t 1).val] := by
  show (![0, (BitVec.ofNat 32 (grid0.coords t 1).val).toNat] : Fin 2 → ℕ) = _
  rw [coord1]

theorem index2 (t : Fin cfg0.N) : (cfg0.win 2).index t = ![0, (grid0.coords t 1).val] := index1 t

theorem index3 (t : Fin cfg0.N) : (cfg0.win 3).index t = ![(grid0.coords t 0).val, (grid0.coords t 1).val] := by
  show (![(BitVec.ofNat 32 (grid0.coords t 0).val).toNat, (BitVec.ofNat 32 (grid0.coords t 1).val).toNat] : Fin 2 → ℕ) = _
  rw [coord0, coord1]

abbrev rowsAt (c : Dev nD) (t : Fin cfg0.N) : Vec Ideal S1056x2048 .bf16 := iblk m c 0 t
abbrev gateAt (c : Dev nD) (t : Fin cfg0.N) : Vec Ideal S2048x512 .f32 := iblk m c 1 t
abbrev upAtPt (c : Dev nD) (t : Fin cfg0.N) : Vec Ideal S2048x512 .f32 := iblk m c 2 t

/-- The rows a point is handed, in the array. -/
theorem rowsAt_apply (c : Dev nD) (t : Fin cfg0.N) (y : Fin 1056) (k : Fin 2048) (r : Fin 8448) (hr : r.val = (grid0.coords t 0).val * 1056 + y.val) :
    rowsAt m c t (ix2 y k) = V m c main_arg0 (ix2 r k) := by
  refine congrArg (V m c main_arg0) (funext fun a => Fin.ext ?_)
  blk_simp
  rw [index0 t]
  match a with
  | ⟨0, _⟩ => exact hr.symm
  | ⟨1, _⟩ => show 0 * 2048 + (k : ℕ) = (k : ℕ); omega

/-- The gate columns a point is handed, in the weights. -/
theorem gateAt_apply (c : Dev nD) (t : Fin cfg0.N) (k : Fin 2048) (z : Fin 512) (f : Fin 7168) (hf : f.val = (grid0.coords t 1).val * 512 + z.val) :
    gateAt m c t (ix2 k z) = V m c main_arg1 (ix2 k f) := by
  refine congrArg (V m c main_arg1) (funext fun a => Fin.ext ?_)
  blk_simp
  rw [index1 t]
  match a with
  | ⟨0, _⟩ => show 0 * 2048 + (k : ℕ) = (k : ℕ); omega
  | ⟨1, _⟩ => exact hf.symm

/-- The up columns a point is handed, in the weights. -/
theorem upAtPt_apply (c : Dev nD) (t : Fin cfg0.N) (k : Fin 2048) (z : Fin 512) (f : Fin 7168) (hf : f.val = (grid0.coords t 1).val * 512 + z.val) :
    upAtPt m c t (ix2 k z) = V m c main_arg2 (ix2 k f) := by
  refine congrArg (V m c main_arg2) (funext fun a => Fin.ext ?_)
  blk_simp
  rw [index2 t]
  match a with
  | ⟨0, _⟩ => show 0 * 2048 + (k : ℕ) = (k : ℕ); omega
  | ⟨1, _⟩ => exact hf.symm

/-- The block a point leaves is the rows' activations, where they lie in the array. -/
theorem point_eq (c : Dev nD) (t : Fin cfg0.N) (y : S1056x512.Idx) (r : Fin 8448) (f : Fin 7168)
    (hr : r.val = (grid0.coords t 0).val * 1056 + (y 0).val) (hf : f.val = (grid0.coords t 1).val * 512 + (y 1).val) :
    out0_3 (rowsAt m c t) (gateAt m c t) (upAtPt m c t) y = denseAt (V m c main_arg0) (V m c main_arg1) (V m c main_arg2) r f := by
  rw [out_apply]
  unfold denseAt
  refine congrArg₂ act (Finset.sum_congr rfl fun k _ => ?_) (Finset.sum_congr rfl fun k _ => ?_)
  · exact congrArg₂ (· * ·) (rowsAt_apply m c t (y 0) k r hr) (gateAt_apply m c t k (y 1) f hf)
  · exact congrArg₂ (· * ·) (rowsAt_apply m c t (y 0) k r hr) (upAtPt_apply m c t k (y 1) f hf)

/-- The array after the run. -/
theorem final (c : Dev nD) :
    (dats m 0 c).arrAt 3 cfg0.N = fun i : S8448x7168.Idx => denseAt (V m c main_arg0) (V m c main_arg1) (V m c main_arg2) (i 0) (i 1) := by
  refine (dats m 0 c).arrAt_eq_of_covers 3 _ ?_ fun t hf y => ?_
  · refine (cfg0.win 3).covers_of_indexMap_surj rfl (fun a => ?_) fun β => ?_
    · match a with
      | ⟨0, _⟩ => exact (by decide : 0 < 1056)
      | ⟨1, _⟩ => exact (by decide : 0 < 512)
    · have b0 : (β (0 : Fin 2)).val < 8 := lt_of_lt_of_eq (β (0 : Fin 2)).isLt (by show (8448 + 1056 - 1) / 1056 = 8; decide)
      have b1 : (β (1 : Fin 2)).val < 14 := lt_of_lt_of_eq (β (1 : Fin 2)).isLt (by show (7168 + 512 - 1) / 512 = 14; decide)
      refine ⟨fun a => match a with | ⟨0, _⟩ => ⟨(β (0 : Fin 2)).val, b0⟩ | ⟨1, _⟩ => ⟨(β (1 : Fin 2)).val, b1⟩, fun a => ?_⟩
      match a with
      | ⟨0, _⟩ => show (BitVec.ofNat 32 (β (0 : Fin 2)).val).toNat = (β (0 : Fin 2)).val; rw [BitVec.toNat_ofNat, Nat.mod_eq_of_lt (by omega)]
      | ⟨1, _⟩ => show (BitVec.ofNat 32 (β (1 : Fin 2)).val).toNat = (β (1 : Fin 2)).val; rw [BitVec.toNat_ofNat, Nat.mod_eq_of_lt (by omega)]
  · blk_simp
    rw [after0_3]
    refine point_eq m c t y _ _ ?_ ?_
    · blk_simp; rw [index3 t]; rfl
    · blk_simp; rw [index3 t]; rfl

end Cert.DenseUpIdeal.Dense

end
-- ==== Proof.DenseUpReferenceIdeal.Value.lean ====
module

public import proofs.«01_k».proof.Proof.DenseUpIdeal.Value
public import proofs.«01_k».proof.Proof.Gen.DenseUpReferenceIdeal.Read

@[expose] public section

/-! The reference of the dense layer's gate and up products, index by index. -/

noncomputable section

namespace Cert.DenseUpReferenceIdeal.Dense

open Idealize.ShloMosaic Idealize.ShloMosaic.TcCoe Idealize.ShloMosaic.Tactic
open Cert.DenseUpReferenceIdeal Cert.DenseUpReferenceIdeal.Read Cert.Plan Cert.DenseUpIdeal.Dense

variable (x0 : (⟨S8448x2048, .bf16⟩ : BufTy).Contents (Elt Ideal)) (x1 x2 : (⟨S2048x7168, .f32⟩ : BufTy).Contents (Elt Ideal))

/-- The gate's product. -/
theorem gate_product (i : S8448x7168.Idx) : val_main_v1 (F := Ideal) x0 x1 i = ∑ k : Fin 2048, x0 (ix2 (i 0) k) * x1 (ix2 k (i 1)) := by
  rw [val_main_v1_apply]
  refine Finset.sum_congr rfl fun k _ => ?_
  rw [val_main_v0_apply]
  refine congrArg₂ (· * ·) (congrArg x0 (funext fun a => ?_)) (congrArg x1 (funext fun a => ?_)) <;>
  · match a with
    | ⟨0, _⟩ => rfl
    | ⟨1, _⟩ => rfl

/-- The up product is the gate's with other weights. -/
theorem up_product (i : S8448x7168.Idx) : val_main_v3 (F := Ideal) x0 x2 i = ∑ k : Fin 2048, x0 (ix2 (i 0) k) * x2 (ix2 k (i 1)) :=
  gate_product x0 x2 i

/-- The reference's result at row `i 0`, column `i 1`. -/
theorem ref_at (i : S8448x7168.Idx) : val_main_v5 (F := Ideal) x0 x1 x2 i = denseAt x0 x1 x2 (i 0) (i 1) := by
  rw [val_main_v5_apply, val_main_v4_apply, val_main_v2_apply, val_main_call0_v5_apply, val_main_call0_v4_apply, val_main_call0_cst_0_apply,
    val_main_call0_v3_apply, val_main_call0_v2_apply, val_main_call0_cst_apply, val_main_call0_v1_apply, val_main_call0_v0_apply, gate_product, up_product]
  unfold denseAt act
  have h1 : (FloatOps.ofBits .f32 0x3F800000#32 : Ideal .f32) = (1 : EReal) := Ideal.ofBits_one_f32
  rw [h1]
  rfl

end Cert.DenseUpReferenceIdeal.Dense

end
-- ==== Proof.DenseClaim.lean ====
module

public import proofs.«01_k».proof.Defs
public import proofs.«01_k».proof.Proof.Gen.DenseUp.Frame
public import proofs.«01_k».proof.Proof.DenseUpIdeal.Value
public import proofs.«01_k».proof.Proof.DenseUpReferenceIdeal.Value
public import Idealize.ShloMosaic.Lib.Claim

@[expose] public section

/-! The claims of the dense gate and up product. -/

namespace Cert.DenseClaim

open Idealize.ShloMosaic Idealize.ShloMosaic.TcCoe Idealize.SL.Sem

theorem frame_kernel : Cert.quiescent_DenseUp := fun m g _ => Cert.DenseUp.Gen.frame m g

theorem frame_ideal : Cert.quiescent_DenseUpIdeal := fun m g _ => Cert.DenseUpIdeal.Gen.frame m g

theorem frame_reference : Cert.quiescent_DenseUpReferenceIdeal := fun m g _ =>
  (θ_run Cert.DenseUpReferenceIdeal.defs _ _).mono (fun r h => ⟨fun c => (h c).2, sem_eq_zero_of_no_sems (by decide) _⟩) (Cert.DenseUpReferenceIdeal.Value.run m g)

theorem value : Cert.algebraic_DenseUpIdeal_DenseUpReferenceIdeal := by
  intro m g m' g' hpre hagree
  refine ⟨fun c => (Cert.DenseUpIdeal.Gen.dats m 0 c).arrAt 3 Cert.DenseUpIdeal.cfg0.N, Cert.DenseUpIdeal.Value.run_blocks m g, ?_⟩
  refine (θ_run Cert.DenseUpReferenceIdeal.defs _ _).mono (fun r h c => ⟨(h c).1.trans ((Cert.DenseUpReferenceIdeal.Read.val_main_v5_eq _ _ _).trans ?_), (h c).2⟩) (Cert.DenseUpReferenceIdeal.Value.run m' g')
  obtain ⟨a0, a1, a2⟩ := hagree c
  obtain rfl : c = 0 := Subsingleton.elim _ _
  refine Eq.trans ?_ (Cert.DenseUpIdeal.Dense.final m 0).symm
  funext i
  rw [a0, a1, a2]
  exact Cert.DenseUpReferenceIdeal.Dense.ref_at _ _ _ i

end Cert.DenseClaim
-- ==== Proof.Tokens.lean ====
module

public import Idealize.ShloMosaic.Lib.Pipeline.ValueKit

@[expose] public section

/-! The token rows: 8192 of the prompts, 32 of the samples, and 224 rows of zeros behind them; and what a projection
makes of one. -/

noncomputable section

namespace Cert.Tokens

open Idealize.ShloMosaic Idealize.ShloMosaic.Tactic

/-- Entry `k` of token row `r`. -/
def rowAt (xp : Shape.Idx ⟨3, ![4, 2048, 2048]⟩ → EReal) (xs : Shape.Idx ⟨3, ![8, 4, 2048]⟩ → EReal) (r : Fin 8448) (k : Fin 2048) : EReal :=
  if h : r.val < 8192 then xp (ix3 ⟨r.val / 2048, by omega⟩ ⟨r.val % 2048, by omega⟩ k)
  else if h' : r.val < 8224 then xs (ix3 ⟨(r.val - 8192) / 4, by omega⟩ ⟨(r.val - 8192) % 4, by omega⟩ k)
  else 0

/-- Token row `r` times column `f` of the weights. -/
def projAt {n : ℕ} (xp : Shape.Idx ⟨3, ![4, 2048, 2048]⟩ → EReal) (xs : Shape.Idx ⟨3, ![8, 4, 2048]⟩ → EReal) (w : Shape.Idx ⟨2, ![2048, n]⟩ → EReal)
    (r : Fin 8448) (f : Fin n) : EReal :=
  ∑ k : Fin 2048, rowAt xp xs r k * w (ix2 k f)

variable {n : ℕ} (xp : Shape.Idx ⟨3, ![4, 2048, 2048]⟩ → EReal) (xs : Shape.Idx ⟨3, ![8, 4, 2048]⟩ → EReal) (w : Shape.Idx ⟨2, ![2048, n]⟩ → EReal)

/-- A prompt's row. -/
theorem projAt_prompt (r : Fin 8448) (f : Fin n) (b : Fin 4) (t : Fin 2048) (h : r.val = b.val * 2048 + t.val) :
    projAt xp xs w r f = ∑ k : Fin 2048, xp (ix3 b t k) * w (ix2 k f) := by
  have hb := b.isLt
  have ht := t.isLt
  unfold projAt rowAt
  refine Finset.sum_congr rfl fun k _ => ?_
  rw [dif_pos (by omega)]
  refine congrArg (fun z => xp z * w (ix2 k f)) ?_
  have e0 : (⟨r.val / 2048, by omega⟩ : Fin 4) = b := Fin.ext (by show r.val / 2048 = b.val; omega)
  have e1 : (⟨r.val % 2048, by omega⟩ : Fin 2048) = t := Fin.ext (by show r.val % 2048 = t.val; omega)
  rw [e0, e1]

/-- A sample's row. -/
theorem projAt_sample (r : Fin 8448) (f : Fin n) (b : Fin 8) (t : Fin 4) (h : r.val = 8192 + (b.val * 4 + t.val)) :
    projAt xp xs w r f = ∑ k : Fin 2048, xs (ix3 b t k) * w (ix2 k f) := by
  have hb := b.isLt
  have ht := t.isLt
  unfold projAt rowAt
  refine Finset.sum_congr rfl fun k _ => ?_
  rw [dif_neg (by omega), dif_pos (by omega)]
  refine congrArg (fun z => xs z * w (ix2 k f)) ?_
  have e0 : (⟨(r.val - 8192) / 4, by omega⟩ : Fin 8) = b := Fin.ext (by show (r.val - 8192) / 4 = b.val; omega)
  have e1 : (⟨(r.val - 8192) % 4, by omega⟩ : Fin 4) = t := Fin.ext (by show (r.val - 8192) % 4 = t.val; omega)
  rw [e0, e1]

/-- A row behind them. -/
theorem projAt_zero (r : Fin 8448) (f : Fin n) (h : 8224 ≤ r.val) : projAt xp xs w r f = 0 := by
  unfold projAt rowAt
  refine Finset.sum_eq_zero fun k _ => ?_
  rw [dif_neg (by omega), dif_neg (by omega), zero_mul]

end Cert.Tokens

end
-- ==== Proof.ValuesIdeal.Value.lean ====
module

public import proofs.«01_k».proof.Proof.Tokens
public import proofs.«01_k».proof.Proof.Gen.ValuesIdeal.Value
public import Idealize.ShloMosaic.Lib.WholeRead
public import Idealize.ShloMosaic.Lib.Pipeline.Covers

@[expose] public section

/-! What the projection of the token rows leaves. -/

noncomputable section

namespace Cert.ValuesIdeal.Project

open Idealize.ShloMosaic Idealize.ShloMosaic.TcCoe Idealize.ShloMosaic.Tactic
open Idealize.ShloMosaic.Pipeline (Dat Window)
open Cert.ValuesIdeal Cert.ValuesIdeal.Gen Cert.Tokens

/-- What one point computes of its blocks. -/
theorem pay_apply (x : Vec Ideal S1056x2048 .bf16) (w : Vec Ideal S2048x512 .f32) (j : S1056x512.Idx) :
    k0_pay1 (F := Ideal) x w j = ∑ k : Fin 2048, x (ix2 (j 0) k) * w (ix2 k (j 1)) := by
  pointwise [k0_pay1]

theorem out_apply (x : Vec Ideal S1056x2048 .bf16) (w : Vec Ideal S2048x512 .f32) (j : S1056x512.Idx) :
    out0_2 (F := Ideal) x w j = ∑ k : Fin 2048, x (ix2 (j 0) k) * w (ix2 k (j 1)) := by
  frame_out
  exact pay_apply x w j

variable (m : (ℓ : Loc nD τ sig) → Buf (Elt Ideal) ℓ)

/-- A grid coordinate as a word is itself. -/
theorem coord0 (t : Fin cfg0.N) : (BitVec.ofNat 32 (grid0.coords t 0).val).toNat = (grid0.coords t 0).val := by
  have h0 : (grid0.coords t 0).val < 8 := (grid0.coords t 0).isLt
  rw [BitVec.toNat_ofNat, Nat.mod_eq_of_lt (by omega)]

theorem coord1 (t : Fin cfg0.N) : (BitVec.ofNat 32 (grid0.coords t 1).val).toNat = 0 := by
  have h0 : (grid0.coords t 1).val < 1 := (grid0.coords t 1).isLt
  rw [BitVec.toNat_ofNat, Nat.mod_eq_of_lt (by omega)]
  omega

/-- The blocks' indices at a point. -/
theorem index0 (t : Fin cfg0.N) : (cfg0.win 0).index t = ![(grid0.coords t 0).val, 0] := by
  show (![(BitVec.ofNat 32 (grid0.coords t 0).val).toNat, 0] : Fin 2 → ℕ) = _
  rw [coord0]

theorem index1 (t : Fin cfg0.N) : (cfg0.win 1).index t = ![0, 0] := by
  show (![0, (BitVec.ofNat 32 (grid0.coords t 1).val).toNat] : Fin 2 → ℕ) = _
  rw [coord1]

theorem index2 (t : Fin cfg0.N) : (cfg0.win 2).index t = ![(grid0.coords t 0).val, 0] := by
  show (![(BitVec.ofNat 32 (grid0.coords t 0).val).toNat, (BitVec.ofNat 32 (grid0.coords t 1).val).toNat] : Fin 2 → ℕ) = _
  rw [coord0, coord1]

/-- The two groups' tokens and the weights, as launched. -/
abbrev prompt (c : Dev nD) : Vec Ideal S4x2048x2048 .f32 := m ((c.tc : Thread nD τ).loc main_arg0)
abbrev sample (c : Dev nD) : Vec Ideal S8x4x2048 .f32 := m ((c.tc : Thread nD τ).loc main_arg1)
abbrev weights (c : Dev nD) : Vec Ideal S2048x512 .f32 := m ((c.tc : Thread nD τ).loc main_arg2)

/-- The rows the region finds. -/
theorem rows_eq (c : Dev nD) : (V m c main_v4 : S8448x2048.Idx → EReal) =
    truncf (F := Ideal) .bf16 (concatenate S8448x2048 0 [⟨S8192x2048, (shapeCast S8192x2048 (prompt m c) shapeCasts_S4x2048x2048_S8192x2048 : S8192x2048.Idx → EReal)⟩,
      ⟨S32x2048, (shapeCast S32x2048 (sample m c) shapeCasts_S8x4x2048_S32x2048 : S32x2048.Idx → EReal)⟩,
      ⟨S224x2048, (broadcastInDim S224x2048 ![] bcast_S_S224x2048 (constant (F := Ideal) S_ .f32 0x00000000#32) : S224x2048.Idx → EReal)⟩]
      concatenates_S8192x2048_S32x2048_S224x2048_S8448x2048_d0) bitsLt_bf16_f32 := by
  unfold_abbrev_sides
  after_results
  all_goals rfl

theorem rows_apply (c : Dev nD) (r : Fin 8448) (k : Fin 2048) : (V m c main_v4 : S8448x2048.Idx → EReal) (ix2 r k) = rowAt (prompt m c) (sample m c) r k := by
  rw [rows_eq]
  unfold rowAt
  pointwise
  by_cases h : r.val < 8192
  · rw [dif_pos h, dif_pos h]
  · rw [dif_neg h, dif_neg h]
    by_cases h' : r.val < 8224
    · rw [dif_pos h', dif_pos (by omega)]
    · rw [dif_neg h', dif_neg (by omega)]

abbrev rowsAt (c : Dev nD) (t : Fin cfg0.N) : Vec Ideal S1056x2048 .bf16 := iblk m c 0 t
abbrev weightsAt (c : Dev nD) (t : Fin cfg0.N) : Vec Ideal S2048x512 .f32 := iblk m c 1 t

/-- The rows a point is handed, in the array. -/
theorem rowsAt_apply (c : Dev nD) (t : Fin cfg0.N) (y : Fin 1056) (k : Fin 2048) (r : Fin 8448) (hr : r.val = (grid0.coords t 0).val * 1056 + y.val) :
    rowsAt m c t (ix2 y k) = rowAt (prompt m c) (sample m c) r k := by
  refine Eq.trans (congrArg (V m c main_v4) (funext fun a => Fin.ext ?_)) (rows_apply m c r k)
  blk_simp
  rw [index0 t]
  match a with
  | ⟨0, _⟩ => exact hr.symm
  | ⟨1, _⟩ => show 0 * 2048 + (k : ℕ) = (k : ℕ); omega

/-- The weights a point is handed. -/
theorem weightsAt_apply (c : Dev nD) (t : Fin cfg0.N) (k : Fin 2048) (f : Fin 512) : weightsAt m c t (ix2 k f) = weights m c (ix2 k f) := by
  refine Eq.trans (congrArg (V m c main_arg2) (funext fun a => Fin.ext ?_)) (congrFun (V_main_arg2 m c) (ix2 k f))
  blk_simp
  rw [index1 t]
  match a with
  | ⟨0, _⟩ => show 0 * 2048 + (k : ℕ) = (k : ℕ); omega
  | ⟨1, _⟩ => show 0 * 512 + (f : ℕ) = (f : ℕ); omega

/-- The block a point leaves is the rows' projection, where they lie in the array. -/
theorem point_eq (c : Dev nD) (t : Fin cfg0.N) (y : S1056x512.Idx) (r : Fin 8448) (f : Fin 512)
    (hr : r.val = (grid0.coords t 0).val * 1056 + (y 0).val) (hf : f.val = 0 * 512 + (y 1).val) :
    out0_2 (rowsAt m c t) (weightsAt m c t) y = projAt (prompt m c) (sample m c) (weights m c) r f := by
  obtain rfl : y 1 = f := Fin.ext (by omega)
  rw [out_apply]
  unfold projAt
  exact Finset.sum_congr rfl fun k _ => congrArg₂ (· * ·) (rowsAt_apply m c t (y 0) k r hr) (weightsAt_apply m c t k (y 1))

/-- The array after the run. -/
theorem final (c : Dev nD) :
    (dats m 0 c).arrAt 2 cfg0.N = fun i : S8448x512.Idx => projAt (prompt m c) (sample m c) (weights m c) (i 0) (i 1) := by
  refine (dats m 0 c).arrAt_eq_of_covers 2 _ ?_ fun t hf y => ?_
  · refine (cfg0.win 2).covers_of_indexMap_surj rfl (fun a => ?_) fun β => ?_
    · match a with
      | ⟨0, _⟩ => exact (by decide : 0 < 1056)
      | ⟨1, _⟩ => exact (by decide : 0 < 512)
    · have b0 : (β (0 : Fin 2)).val < 8 := lt_of_lt_of_eq (β (0 : Fin 2)).isLt (by show (8448 + 1056 - 1) / 1056 = 8; decide)
      have b1 : (β (1 : Fin 2)).val < 1 := lt_of_lt_of_eq (β (1 : Fin 2)).isLt (by show (512 + 512 - 1) / 512 = 1; decide)
      refine ⟨fun a => match a with | ⟨0, _⟩ => ⟨(β (0 : Fin 2)).val, b0⟩ | ⟨1, _⟩ => ⟨(β (1 : Fin 2)).val, b1⟩, fun a => ?_⟩
      match a with
      | ⟨0, _⟩ => show (BitVec.ofNat 32 (β (0 : Fin 2)).val).toNat = (β (0 : Fin 2)).val; rw [BitVec.toNat_ofNat, Nat.mod_eq_of_lt (by omega)]
      | ⟨1, _⟩ => show (BitVec.ofNat 32 (β (1 : Fin 2)).val).toNat = (β (1 : Fin 2)).val; rw [BitVec.toNat_ofNat, Nat.mod_eq_of_lt (by omega)]
  · blk_simp
    rw [after0_2]
    refine point_eq m c t y _ _ ?_ ?_
    · blk_simp; rw [index2 t]; rfl
    · blk_simp; rw [index2 t]; show 0 * 512 + (y 1 : ℕ) = (y 1 : ℕ); omega

end Cert.ValuesIdeal.Project

end
-- ==== Proof.ValuesReferenceIdeal.Value.lean ====
module

public import proofs.«01_k».proof.Proof.Tokens
public import proofs.«01_k».proof.Proof.Gen.ValuesReferenceIdeal.Read

@[expose] public section

/-! The reference of the projection of the token rows, index by index. -/

noncomputable section

namespace Cert.ValuesReferenceIdeal.Project

open Idealize.ShloMosaic Idealize.ShloMosaic.TcCoe Idealize.ShloMosaic.Tactic
open Cert.ValuesReferenceIdeal Cert.ValuesReferenceIdeal.Read Cert.Tokens

variable (x0 : (⟨S4x2048x2048, .f32⟩ : BufTy).Contents (Elt Ideal)) (x1 : (⟨S8x4x2048, .f32⟩ : BufTy).Contents (Elt Ideal))
  (x2 : (⟨S2048x512, .f32⟩ : BufTy).Contents (Elt Ideal))

/-- The prompts' product. -/
theorem prompt_product (i : S4x2048x512.Idx) : val_main_v0 (F := Ideal) x0 x2 i = ∑ k : Fin 2048, x0 (ix3 (i 0) (i 1) k) * x2 (ix2 k (i 2)) := by
  rw [val_main_v0_apply]
  refine Finset.sum_congr rfl fun k _ => congrArg₂ (· * ·) (congrArg x0 (funext fun a => ?_)) (congrArg x2 (funext fun a => ?_))
  · match a with
    | ⟨0, _⟩ => rfl
    | ⟨1, _⟩ => rfl
    | ⟨2, _⟩ => rfl
  · match a with
    | ⟨0, _⟩ => rfl
    | ⟨1, _⟩ => rfl

/-- The samples' product. -/
theorem sample_product (i : S8x4x512.Idx) : val_main_v1 (F := Ideal) x1 x2 i = ∑ k : Fin 2048, x1 (ix3 (i 0) (i 1) k) * x2 (ix2 k (i 2)) := by
  rw [val_main_v1_apply]
  refine Finset.sum_congr rfl fun k _ => congrArg₂ (· * ·) (congrArg x1 (funext fun a => ?_)) (congrArg x2 (funext fun a => ?_))
  · match a with
    | ⟨0, _⟩ => rfl
    | ⟨1, _⟩ => rfl
    | ⟨2, _⟩ => rfl
  · match a with
    | ⟨0, _⟩ => rfl
    | ⟨1, _⟩ => rfl

/-- The reference's result at row `i 0`, column `i 1`. -/
theorem ref_at (i : S8448x512.Idx) : val_main_v5 (F := Ideal) x0 x1 x2 i = projAt x0 x1 x2 (i 0) (i 1) := by
  unfold val_main_v5 val_main_v2 val_main_v3 val_main_v4 val_main_cst
  generalize e0 : val_main_v0 (F := Ideal) x0 x2 = y0
  generalize e1 : val_main_v1 (F := Ideal) x1 x2 = y1
  have hr : (i 0).val < 8448 := (i 0).isLt
  have hf : (i 1).val < 512 := (i 1).isLt
  pointwise
  by_cases h : (i 0).val < 8192
  · rw [dif_pos h, ← e0, prompt_product]
    exact (projAt_prompt x0 x1 x2 (i 0) (i 1) _ _ (by show (i 0).val = (i 0).val / 2048 * 2048 + (i 0).val % 2048; omega)).symm
  · rw [dif_neg h]
    by_cases h' : (i 0).val - 8192 < 32
    · rw [dif_pos h', ← e1, sample_product]
      exact (projAt_sample x0 x1 x2 (i 0) (i 1) _ _ (by show (i 0).val = 8192 + (((i 0).val - 8192) / 4 * 4 + ((i 0).val - 8192) % 4); omega)).symm
    · rw [dif_neg h']
      exact (projAt_zero x0 x1 x2 (i 0) (i 1) (by omega)).symm

end Cert.ValuesReferenceIdeal.Project

end
-- ==== Proof.ValuesClaim.lean ====
module

public import proofs.«01_k».proof.Defs
public import proofs.«01_k».proof.Proof.Gen.Values.Frame
public import proofs.«01_k».proof.Proof.ValuesIdeal.Value
public import proofs.«01_k».proof.Proof.ValuesReferenceIdeal.Value
public import Idealize.ShloMosaic.Lib.Claim

@[expose] public section

/-! The claims of the projection of the token rows. -/

namespace Cert.ValuesClaim

open Idealize.ShloMosaic Idealize.ShloMosaic.TcCoe Idealize.SL.Sem

theorem frame_kernel : Cert.quiescent_Values := fun m g _ => Cert.Values.Gen.frame m g

theorem frame_ideal : Cert.quiescent_ValuesIdeal := fun m g _ => Cert.ValuesIdeal.Gen.frame m g

theorem frame_reference : Cert.quiescent_ValuesReferenceIdeal := fun m g _ =>
  (θ_run Cert.ValuesReferenceIdeal.defs _ _).mono (fun r h => ⟨fun c => (h c).2, sem_eq_zero_of_no_sems (by decide) _⟩) (Cert.ValuesReferenceIdeal.Value.run m g)

theorem value : Cert.algebraic_ValuesIdeal_ValuesReferenceIdeal := by
  intro m g m' g' hpre hagree
  refine ⟨fun c => (Cert.ValuesIdeal.Gen.dats m 0 c).arrAt 2 Cert.ValuesIdeal.cfg0.N, Cert.ValuesIdeal.Value.run_blocks m g, ?_⟩
  refine (θ_run Cert.ValuesReferenceIdeal.defs _ _).mono (fun r h c => ⟨(h c).1.trans ((Cert.ValuesReferenceIdeal.Read.val_main_v5_eq _ _ _).trans ?_), (h c).2⟩) (Cert.ValuesReferenceIdeal.Value.run m' g')
  obtain ⟨a0, a1, a2⟩ := hagree c
  obtain rfl : c = 0 := Subsingleton.elim _ _
  refine Eq.trans ?_ (Cert.ValuesIdeal.Project.final m 0).symm
  funext i
  rw [a0, a1, a2]
  exact Cert.ValuesReferenceIdeal.Project.ref_at _ _ _ i

end Cert.ValuesClaim
-- ==== Proof.KeysIdeal.Body.lean ====
module

public import proofs.«01_k».proof.Proof.Tokens
public import proofs.«01_k».proof.Proof.Gen.KeysIdeal.Value
public import Idealize.ShloMosaic.Lib.WholeRead
public import Idealize.ShloMosaic.Lib.KernelVsHost

@[expose] public section

/-! What one point of the projection with rotation computes of its blocks. -/

noncomputable section

namespace Cert.KeysIdeal.Project

open Idealize.ShloMosaic Idealize.ShloMosaic.TcCoe Idealize.ShloMosaic.Tactic
open Cert.KeysIdeal Cert.KeysIdeal.Gen

/-- A row times a column. -/
def colAt (x : Vec Ideal S1056x2048 .bf16) (w : Vec Ideal S2048x512 .f32) (i : Fin 1056) (f : Fin 512) : EReal :=
  ∑ k : Fin 2048, x (ix2 i k) * w (ix2 k f)

/-- The product. -/
theorem product_apply (x : Vec Ideal S1056x2048 .bf16) (w : Vec Ideal S2048x512 .f32) (j : S1056x512.Idx) :
    k0_pay3 (F := Ideal) x w j = colAt x w (j 0) (j 1) := by
  unfold colAt
  pointwise [k0_pay3]

/-- A head's 128 columns with the three tables: the columns, the columns sixteen to the right and those sixteen to the
left, around the end. -/
def turned (y : Vec Ideal S1056x128 .f32) (a b c : Vec Ideal S1056x128 .f32) (i : Fin 1056) (d : Fin 128) : EReal :=
  y (ix2 i d) * a (ix2 i d) + y (ix2 i ⟨(d.val + 16) % 128, Nat.mod_lt _ (by decide)⟩) * b (ix2 i d)
    + y (ix2 i ⟨(d.val + 112) % 128, Nat.mod_lt _ (by decide)⟩) * c (ix2 i d)

theorem turned_apply (y a b c : FVec Ideal S1056x128 .f32) (j : S1056x128.Idx) :
    addf (addf (mulf y a) (mulf (dynamicRotate 1 112#32 none y rotates_S1056x128_d1) b)) (mulf (dynamicRotate 1 16#32 none y rotates_S1056x128_d1) c) j
      = turned y a b c (j 0) (j 1) := by
  obtain ⟨i, d, rfl⟩ : ∃ (i : Fin 1056) (d : Fin 128), j = ix2 i d := ⟨j 0, j 1, eq_ix2 j⟩
  have hd := d.isLt
  have e0 : dynamicRotate 1 112#32 none y rotates_S1056x128_d1 (ix2 i d) = y (ix2 i ⟨(d.val + 16) % 128, Nat.mod_lt _ (by decide)⟩) := by
    refine dynamicRotate_apply 1 112#32 y _ _ _ fun b => ?_
    match b with
    | ⟨0, _⟩ => rfl
    | ⟨1, _⟩ => show (d.val + 16) % 128 = (d.val + 128 - 112 % 128) % 128; omega
  have e1 : dynamicRotate 1 16#32 none y rotates_S1056x128_d1 (ix2 i d) = y (ix2 i ⟨(d.val + 112) % 128, Nat.mod_lt _ (by decide)⟩) := by
    refine dynamicRotate_apply 1 16#32 y _ _ _ fun b => ?_
    match b with
    | ⟨0, _⟩ => rfl
    | ⟨1, _⟩ => show (d.val + 112) % 128 = (d.val + 128 - 16 % 128) % 128; omega
  show y (ix2 i d) * a (ix2 i d) + dynamicRotate 1 112#32 none y rotates_S1056x128_d1 (ix2 i d) * b (ix2 i d)
    + dynamicRotate 1 16#32 none y rotates_S1056x128_d1 (ix2 i d) * c (ix2 i d) = _
  rw [e0, e1]
  rfl

/-- Four heads: head `h` is the columns from `128 h`. -/
theorem head_apply (y : FVec Ideal S1056x512 .f32) (o : ℕ) (hs : S1056x512.Slices ![0, o] S1056x128) (i : Fin 1056) (d : Fin 128) (f : Fin 512) (hf : f.val = o + d.val) :
    extractStridedSlice S1056x128 ![0, o] y hs (ix2 i d) = y (ix2 i f) := by
  refine extractStridedSlice_apply (s := S1056x512) (t := S1056x128) ![0, o] y hs (ix2 i d) (ix2 i f) fun a => ?_
  match a with
  | ⟨0, _⟩ => show i.val = 0 + i.val; omega
  | ⟨1, _⟩ => exact hf

/-- What the body leaves at row `i`, column `f`. -/
def bodyAt (x : Vec Ideal S1056x2048 .bf16) (w : Vec Ideal S2048x512 .f32) (a b c : Vec Ideal S1056x128 .f32) (i : Fin 1056) (f : Fin 512) : EReal :=
  colAt x w i f * a (ix2 i ⟨f.val % 128, by omega⟩)
    + colAt x w i ⟨f.val / 128 * 128 + (f.val % 128 + 16) % 128, by omega⟩ * b (ix2 i ⟨f.val % 128, by omega⟩)
    + colAt x w i ⟨f.val / 128 * 128 + (f.val % 128 + 112) % 128, by omega⟩ * c (ix2 i ⟨f.val % 128, by omega⟩)

theorem turned_head (x : Vec Ideal S1056x2048 .bf16) (w : Vec Ideal S2048x512 .f32) (a b c : Vec Ideal S1056x128 .f32) (h : ℕ) (hs : S1056x512.Slices ![0, h * 128] S1056x128)
    (i : Fin 1056) (d : Fin 128) (f : Fin 512) (hf : f.val = h * 128 + d.val) :
    turned (extractStridedSlice S1056x128 ![0, h * 128] (k0_pay3 (F := Ideal) x w) hs) a b c i d = bodyAt x w a b c i f := by
  have hd := d.isLt
  have hl := f.isLt
  have e : (⟨f.val % 128, by omega⟩ : Fin 128) = d := Fin.ext (by show f.val % 128 = d.val; omega)
  unfold turned bodyAt
  rw [head_apply _ (h * 128) hs i d f hf,
    head_apply _ (h * 128) hs i ⟨(d.val + 16) % 128, Nat.mod_lt _ (by decide)⟩ ⟨f.val / 128 * 128 + (f.val % 128 + 16) % 128, by omega⟩
      (by show f.val / 128 * 128 + (f.val % 128 + 16) % 128 = h * 128 + (d.val + 16) % 128; omega),
    head_apply _ (h * 128) hs i ⟨(d.val + 112) % 128, Nat.mod_lt _ (by decide)⟩ ⟨f.val / 128 * 128 + (f.val % 128 + 112) % 128, by omega⟩
      (by show f.val / 128 * 128 + (f.val % 128 + 112) % 128 = h * 128 + (d.val + 112) % 128; omega),
    product_apply, product_apply, product_apply, e]
  rfl

theorem cast_eq (a : Vec Ideal S1056x128 .f32) : shapeCast S1056x128 a shapeCasts_S1056x128_S1056x128 = a := by
  funext j
  exact shapeCast_apply a shapeCasts_S1056x128_S1056x128 j j rfl

/-- A head's payload at an index of it. -/
theorem piece (x : Vec Ideal S1056x2048 .bf16) (w : Vec Ideal S2048x512 .f32) (a b c : Vec Ideal S1056x128 .f32) (h o : ℕ) (ho : o = h * 128)
    (hs : S1056x512.Slices ![0, o] S1056x128) (z : S1056x128.Idx) (i : Fin 1056) (f : Fin 512) (hi : i.val = 0 + 1 * (z 0).val) (hf : f.val = o + 1 * (z 1).val) :
    addf (addf (mulf (extractStridedSlice S1056x128 ![0, o] (k0_pay3 (F := Ideal) x w) hs) (shapeCast S1056x128 a shapeCasts_S1056x128_S1056x128))
      (mulf (dynamicRotate 1 112#32 none (extractStridedSlice S1056x128 ![0, o] (k0_pay3 (F := Ideal) x w) hs) rotates_S1056x128_d1) (shapeCast S1056x128 b shapeCasts_S1056x128_S1056x128)))
      (mulf (dynamicRotate 1 16#32 none (extractStridedSlice S1056x128 ![0, o] (k0_pay3 (F := Ideal) x w) hs) rotates_S1056x128_d1) (shapeCast S1056x128 c shapeCasts_S1056x128_S1056x128)) z
      = bodyAt x w a b c i f := by
  subst ho
  rw [cast_eq a, cast_eq b, cast_eq c, turned_apply]
  obtain rfl : z 0 = i := Fin.ext (by omega)
  exact turned_head x w a b c h hs (z 0) (z 1) f (by omega)

theorem out_apply (x : Vec Ideal S1056x2048 .bf16) (w : Vec Ideal S2048x512 .f32) (a b c : Vec Ideal S1056x128 .f32) (j : S1056x512.Idx) :
    out0_5 (F := Ideal) x w a b c j = bodyAt x w a b c (j 0) (j 1) := by
  frame_out
  have e12 : k0_pay12 (F := Ideal) x w a b c = k0_pay6 c := by
    unfold k0_pay12
    exact congrArg k0_pay6 (View.ld_unit_zero (funext fun a => match a with | ⟨0, _⟩ => rfl | ⟨1, _⟩ => rfl) _ _)
  rw [e12]
  have hG : ∀ p ∈ ([⟨r0_6, k0_pay2 (F := Ideal) (k0_pay3 x w) (k0_pay4 a) (k0_pay5 b) (k0_pay6 c)⟩,
      ⟨r0_5, k0_pay1 (k0_pay6 c) (k0_pay10 x w) (k0_pay11 x w a b)⟩, ⟨r0_4, k0_pay8 x w a b c⟩, ⟨r0_3, k0_pay7 x w a b c⟩] :
        List (View.Piece (Elt Ideal) S1056x512 .f32)), ∀ z : p.1.shape.Idx, p.2 z = (fun y : S1056x512.Idx => bodyAt x w a b c (y 0) (y 1)) (p.1.emb z) := by
    simp only [List.mem_cons, List.not_mem_nil, or_false, forall_eq_or_imp, forall_eq]
    refine ⟨fun z => ?_, fun z => ?_, fun z => ?_, fun z => ?_⟩
    · exact piece x w a b c 3 384 rfl slices_S1056x512_o0_384_S1056x128 z (r0_6.emb z 0) (r0_6.emb z 1) rfl rfl
    · exact piece x w a b c 2 256 rfl slices_S1056x512_o0_256_S1056x128 z (r0_5.emb z 0) (r0_5.emb z 1) rfl rfl
    · exact piece x w a b c 1 128 rfl slices_S1056x512_o0_128_S1056x128 z (r0_4.emb z 0) (r0_4.emb z 1) rfl rfl
    · exact piece x w a b c 0 0 rfl slices_S1056x512_o0_0_S1056x128 z (r0_3.emb z 0) (r0_3.emb z 1) rfl rfl
  exact View.canon_apply_of_pieces (Val := Elt Ideal) (e := .f32) (fun y : S1056x512.Idx => bodyAt x w a b c (y 0) (y 1)) _ hG j (cover0_5 _ _ _ _ j)

end Cert.KeysIdeal.Project

end
-- ==== Proof.Rotation.lean ====
module

public import proofs.«01_k».proof.Proof.Tokens

@[expose] public section

/-! The rotation of the keys and the queries: a token's position, its sixteen angles, and a rotated row. -/

noncomputable section

namespace Cert.Rotation

open Idealize.ShloMosaic Idealize.ShloMosaic.Tactic Cert.Tokens

/-- The position of token row `r`: from 0 in each prompt, from 16384 in each sample, 0 behind them. -/
def posAt (r : Fin 8448) : BitVec 32 :=
  if r.val < 8192 then BitVec.ofNat 32 (r.val % 2048) else if r.val < 8224 then 16384#32 + BitVec.ofNat 32 ((r.val - 8192) % 4) else 0#32

/-- The inverse frequency of pair `d`. -/
def freq (d : Fin 16) : EReal :=
  FloatOps.hostPowf (F := Ideal) (φ := .f32) (FloatOps.ofBits .f32 0x48F42400#32)
    (FloatOps.hostDivf (F := Ideal) (φ := .f32)
      (FloatOps.hostNegf (F := Ideal) (φ := .f32) (FloatOps.addf (F := Ideal) (φ := .f32) (FloatOps.ofBits .f32 0x00000000#32)
        (FloatOps.mulf (F := Ideal) (φ := .f32) (FloatOps.ofBits .f32 0x40000000#32) (FloatOps.sitofp (F := Ideal) .f32 (BitVec.ofNat 32 d.val)))))
      (FloatOps.ofBits .f32 0x42000000#32))

/-- Pair `d`'s angle at position `p`. -/
def angle (p : BitVec 32) (d : Fin 16) : EReal := FloatOps.sitofp (F := Ideal) .f32 p * freq d

def cosAt (p : BitVec 32) (d : Fin 16) : EReal := FloatOps.hostUnary (F := Ideal) (φ := .f32) .cos (angle p d)
def sinAt (p : BitVec 32) (d : Fin 16) : EReal := FloatOps.hostUnary (F := Ideal) (φ := .f32) .sin (angle p d)

variable {n : ℕ} [hn : Fact (n % 128 = 0)]

instance : Fact (512 % 128 = 0) := ⟨rfl⟩
instance : Fact (2048 % 128 = 0) := ⟨rfl⟩

/-- Column `f` of a row `y` of heads of 128 columns, rotated at position `p`: in each head the first sixteen columns
are paired with the next sixteen, the rest stays. -/
def turnAt (y : Fin n → EReal) (p : BitVec 32) (f : Fin n) : EReal :=
  if h : f.val % 128 < 16 then y f * cosAt p ⟨f.val % 128, h⟩ - y ⟨f.val + 16, by have := hn.out; omega⟩ * sinAt p ⟨f.val % 128, h⟩
  else if h' : f.val % 128 < 32 then y f * cosAt p ⟨f.val % 128 - 16, by omega⟩ + y ⟨f.val - 16, by omega⟩ * sinAt p ⟨f.val % 128 - 16, by omega⟩
  else y f

/-- Nothing is turned to nothing. -/
theorem turnAt_zero (y : Fin n → EReal) (p : BitVec 32) (f : Fin n) (h : ∀ f, y f = 0) : turnAt y p f = 0 := by
  unfold turnAt
  split
  · rw [h, h, zero_mul, zero_mul, sub_zero]
  · split
    · rw [h, h, zero_mul, zero_mul, add_zero]
    · exact h f

/-- The three tables' entry `d` at position `p`. -/
def tableA (p : BitVec 32) (d : Fin 128) : EReal :=
  if h : d.val < 16 then cosAt p ⟨d.val, h⟩ else if h' : d.val < 32 then cosAt p ⟨d.val - 16, by omega⟩ else 1
def tableB (p : BitVec 32) (d : Fin 128) : EReal := if h : d.val < 16 then -sinAt p ⟨d.val, h⟩ else 0
def tableC (p : BitVec 32) (d : Fin 128) : EReal :=
  if h : d.val < 16 then 0 else if h' : d.val < 32 then sinAt p ⟨d.val - 16, by omega⟩ else 0

/-- The three products with the tables make the rotated row. -/
theorem turnAt_tables (y : Fin n → EReal) (p : BitVec 32) (f : Fin n) :
    y f * tableA p ⟨f.val % 128, by omega⟩
      + y ⟨f.val / 128 * 128 + (f.val % 128 + 16) % 128, by have := hn.out; omega⟩ * tableB p ⟨f.val % 128, by omega⟩
      + y ⟨f.val / 128 * 128 + (f.val % 128 + 112) % 128, by have := hn.out; omega⟩ * tableC p ⟨f.val % 128, by omega⟩ = turnAt y p f := by
  have hl := f.isLt
  have hw := hn.out
  unfold tableA tableB tableC turnAt
  by_cases h : f.val % 128 < 16
  · rw [dif_pos h, dif_pos h, dif_pos h, dif_pos h, mul_zero, add_zero, sub_eq_add_neg, mul_neg]
    have e : (⟨f.val / 128 * 128 + (f.val % 128 + 16) % 128, by have := hn.out; omega⟩ : Fin n) = ⟨f.val + 16, by have := hn.out; omega⟩ :=
      Fin.ext (by show f.val / 128 * 128 + (f.val % 128 + 16) % 128 = f.val + 16; omega)
    rw [e]
  · rw [dif_neg h, dif_neg h, dif_neg h, dif_neg h, mul_zero, add_zero]
    by_cases h' : f.val % 128 < 32
    · rw [dif_pos h', dif_pos h', dif_pos h']
      have e : (⟨f.val / 128 * 128 + (f.val % 128 + 112) % 128, by have := hn.out; omega⟩ : Fin n) = ⟨f.val - 16, by omega⟩ :=
        Fin.ext (by show f.val / 128 * 128 + (f.val % 128 + 112) % 128 = f.val - 16; omega)
      rw [e]
    · rw [dif_neg h', dif_neg h', dif_neg h', mul_zero, add_zero, mul_one]

/-- Column `d` of head `h`, put together of the head's three parts, is the column of the row of heads. -/
theorem turn_pieces (y : Fin n → EReal) (c s : Fin 16 → EReal) {H : ℕ} (hH : H * 128 = n) (h : Fin H) (d : Fin 128) (f : Fin n) (hf : f.val = h.val * 128 + d.val) :
    (if h1 : d.val < 16 then
        y ⟨h.val * 128 + d.val, by have := hn.out; omega⟩ * c ⟨d.val, h1⟩ - y ⟨h.val * 128 + (16 + d.val), by have := hn.out; omega⟩ * s ⟨d.val, h1⟩
      else if h2 : d.val - 16 < 16 then
        y ⟨h.val * 128 + (16 + (d.val - 16)), by have := hn.out; omega⟩ * c ⟨d.val - 16, h2⟩ + y ⟨h.val * 128 + (d.val - 16), by have := hn.out; omega⟩ * s ⟨d.val - 16, h2⟩
      else y ⟨h.val * 128 + (32 + (d.val - 16 - 16)), by have := hn.out; omega⟩)
    = if h1 : f.val % 128 < 16 then y f * c ⟨f.val % 128, h1⟩ - y ⟨f.val + 16, by have := hn.out; omega⟩ * s ⟨f.val % 128, h1⟩
      else if h2 : f.val % 128 < 32 then
        y f * c ⟨f.val % 128 - 16, by omega⟩ + y ⟨f.val - 16, by omega⟩ * s ⟨f.val % 128 - 16, by omega⟩
      else y f := by
  have hd := d.isLt
  have hb := h.isLt
  have hw := hn.out
  have hm : f.val % 128 = d.val := by omega
  by_cases h1 : d.val < 16
  · rw [dif_pos h1, dif_pos (by omega)]
    exact congrArg₂ (· - ·) (congrArg₂ (· * ·) (congrArg y (Fin.ext hf.symm)) (congrArg c (Fin.ext hm.symm)))
      (congrArg₂ (· * ·) (congrArg y (Fin.ext (by show h.val * 128 + (16 + d.val) = f.val + 16; omega))) (congrArg s (Fin.ext hm.symm)))
  · rw [dif_neg h1, dif_neg (by omega : ¬f.val % 128 < 16)]
    by_cases h2 : d.val < 32
    · rw [dif_pos (by omega : d.val - 16 < 16), dif_pos (by omega)]
      exact congrArg₂ (· + ·) (congrArg₂ (· * ·) (congrArg y (Fin.ext (by show h.val * 128 + (16 + (d.val - 16)) = f.val; omega)))
          (congrArg c (Fin.ext (by show d.val - 16 = f.val % 128 - 16; omega))))
        (congrArg₂ (· * ·) (congrArg y (Fin.ext (by show h.val * 128 + (d.val - 16) = f.val - 16; omega)))
          (congrArg s (Fin.ext (by show d.val - 16 = f.val % 128 - 16; omega))))
    · rw [dif_neg (by omega : ¬d.val - 16 < 16), dif_neg (by omega)]
      exact congrArg y (Fin.ext (by show h.val * 128 + (32 + (d.val - 16 - 16)) = f.val; omega))

/-- A token row's keys or queries: the projection, rotated at the row's position. -/
def keyAt (xp : Shape.Idx ⟨3, ![4, 2048, 2048]⟩ → EReal) (xs : Shape.Idx ⟨3, ![8, 4, 2048]⟩ → EReal) (w : Shape.Idx ⟨2, ![2048, n]⟩ → EReal)
    (r : Fin 8448) (f : Fin n) : EReal :=
  turnAt (fun f => projAt xp xs w r f) (posAt r) f

end Cert.Rotation

end
-- ==== Proof.KeysIdeal.Tables.lean ====
module

public import proofs.«01_k».proof.Proof.Rotation
public import proofs.«01_k».proof.Proof.Gen.KeysIdeal.Value
public import Idealize.ShloMosaic.Lib.StableHlo.ReadAt

@[expose] public section

/-! What the host leaves the projection with rotation: the token rows and the three tables, entry by entry. -/

noncomputable section

namespace Cert.KeysIdeal.Project

open Idealize.ShloMosaic Idealize.ShloMosaic.TcCoe Idealize.ShloMosaic.Tactic
open Cert.KeysIdeal Cert.KeysIdeal.Gen Cert.Tokens Cert.Rotation

variable (m : (ℓ : Loc nD τ sig) → Buf (Elt Ideal) ℓ)

/-- The two groups' tokens and the weights, as launched. -/
abbrev prompt (c : Dev nD) : Vec Ideal S4x2048x2048 .f32 := m ((c.tc : Thread nD τ).loc main_arg0)
abbrev sample (c : Dev nD) : Vec Ideal S8x4x2048 .f32 := m ((c.tc : Thread nD τ).loc main_arg1)
abbrev weights (c : Dev nD) : Vec Ideal S2048x512 .f32 := m ((c.tc : Thread nD τ).loc main_arg2)

/-- The token rows. -/
theorem rows_eq (c : Dev nD) : (V m c main_v16 : S8448x2048.Idx → EReal) =
    truncf (F := Ideal) .bf16 (concatenate S8448x2048 0 [⟨S8192x2048, (shapeCast S8192x2048 (prompt m c) shapeCasts_S4x2048x2048_S8192x2048 : S8192x2048.Idx → EReal)⟩,
      ⟨S32x2048, (shapeCast S32x2048 (sample m c) shapeCasts_S8x4x2048_S32x2048 : S32x2048.Idx → EReal)⟩,
      ⟨S224x2048, (broadcastInDim S224x2048 ![] bcast_S_S224x2048 (constant (F := Ideal) S_ .f32 0x00000000#32) : S224x2048.Idx → EReal)⟩]
      concatenates_S8192x2048_S32x2048_S224x2048_S8448x2048_d0) bitsLt_bf16_f32 := by
  unfold_abbrev_sides
  after_results
  all_goals rfl

theorem rows_apply (c : Dev nD) (r : Fin 8448) (k : Fin 2048) : (V m c main_v16 : S8448x2048.Idx → EReal) (ix2 r k) = rowAt (prompt m c) (sample m c) r k := by
  rw [rows_eq]
  unfold rowAt
  pointwise
  by_cases h : r.val < 8192
  · rw [dif_pos h, dif_pos h]
  · rw [dif_neg h, dif_neg h]
    by_cases h' : r.val < 8224
    · rw [dif_pos h', dif_pos (by omega)]
    · rw [dif_neg h', dif_neg (by omega)]

/-- The positions of the prompts' tokens, of the samples', and the zeros behind them. -/
def promptPos : S8192.Idx → BitVec 32 :=
  shapeCast S8192 (broadcastInDim S4x2048 ![0, 1] bcast_S1x2048_S4x2048_0_1 (shapeCast S1x2048 (iotaInDim S2048 32 0) shapeCasts_S2048_S1x2048)) shapeCasts_S4x2048_S8192
def samplePos : S32.Idx → BitVec 32 :=
  shapeCast S32 (broadcastInDim S8x4 ![0, 1] bcast_S1x4_S8x4_0_1 (shapeCast S1x4 (addi (broadcastInDim S4 ![] bcast_S_S4 (constantI S_ 32 16384#32))
    (iotaInDim S4 32 0)) shapeCasts_S4_S1x4)) shapeCasts_S8x4_S32
def zeroPos : S224.Idx → BitVec 32 := broadcastInDim S224 ![] bcast_S_S224 (constantI S_ 32 0#32)

/-- All tokens' positions. -/
def positions : S8448.Idx → BitVec 32 := concatenate S8448 0 [⟨S8192, promptPos⟩, ⟨S32, samplePos⟩, ⟨S224, zeroPos⟩] concatenates_S8192_S32_S224_S8448_d0

/-- The sixteen inverse frequencies. -/
def freqs : S16.Idx → EReal :=
  Host.powf (F := Ideal) (φ := .f32) (broadcastInDim S16 ![] bcast_S_S16 (constant (F := Ideal) S_ .f32 0x48F42400#32))
    (Host.divf (F := Ideal) (φ := .f32) (Host.negf (F := Ideal) (φ := .f32) (addf (F := Ideal) (φ := .f32) (broadcastInDim S16 ![] bcast_S_S16 (constant (F := Ideal) S_ .f32 0x00000000#32))
      (mulf (F := Ideal) (φ := .f32) (broadcastInDim S16 ![] bcast_S_S16 (constant (F := Ideal) S_ .f32 0x40000000#32)) (sitofp (F := Ideal) .f32 (iotaInDim S16 32 0)))))
      (broadcastInDim S16 ![] bcast_S_S16 (constant (F := Ideal) S_ .f32 0x42000000#32)))

/-- The angle of each token and each pair. -/
def angles : S8448x16.Idx → EReal :=
  mulf (F := Ideal) (φ := .f32) (broadcastInDim S8448x16 ![0, 1] bcast_S8448x1_S8448x16_0_1 (broadcastInDim S8448x1 ![0] bcast_S8448_S8448x1_0 (sitofp (F := Ideal) .f32 positions)))
    (broadcastInDim S8448x16 ![0, 1] bcast_S1x16_S8448x16_0_1 (broadcastInDim S1x16 ![1] bcast_S16_S1x16_1 freqs))
def cosines : S8448x16.Idx → EReal := Host.cos (F := Ideal) (φ := .f32) angles
def sines : S8448x16.Idx → EReal := Host.sin (F := Ideal) (φ := .f32) angles
def ones96 : S8448x96.Idx → EReal := broadcastInDim S8448x96 ![] bcast_S_S8448x96 (constant (F := Ideal) S_ .f32 0x3F800000#32)
def zeros16 : S8448x16.Idx → EReal := broadcastInDim S8448x16 ![] bcast_S_S8448x16 (constant (F := Ideal) S_ .f32 0x00000000#32)
def zeros96 : S8448x96.Idx → EReal := broadcastInDim S8448x96 ![] bcast_S_S8448x96 (constant (F := Ideal) S_ .f32 0x00000000#32)
def zeros112 : S8448x112.Idx → EReal := broadcastInDim S8448x112 ![] bcast_S_S8448x112 (constant (F := Ideal) S_ .f32 0x00000000#32)

theorem tableA_host (c : Dev nD) : (V m c main_v37 : S8448x128.Idx → EReal) =
    concatenate S8448x128 1 [⟨S8448x16, cosines⟩, ⟨S8448x16, cosines⟩, ⟨S8448x96, ones96⟩] concatenates_S8448x16_S8448x16_S8448x96_S8448x128_d1 := by
  unfold_abbrev_sides
  after_results
  all_goals rfl

theorem tableB_host (c : Dev nD) : (V m c main_v39 : S8448x128.Idx → EReal) =
    concatenate S8448x128 1 [⟨S8448x16, (Host.negf (F := Ideal) (φ := .f32) sines : S8448x16.Idx → EReal)⟩,
      ⟨S8448x112, zeros112⟩] concatenates_S8448x16_S8448x112_S8448x128_d1 := by
  unfold_abbrev_sides
  after_results
  all_goals rfl

theorem tableC_host (c : Dev nD) : (V m c main_v42 : S8448x128.Idx → EReal) =
    concatenate S8448x128 1 [⟨S8448x16, zeros16⟩, ⟨S8448x16, sines⟩, ⟨S8448x96, zeros96⟩]
      concatenates_S8448x16_S8448x16_S8448x96_S8448x128_d1 := by
  unfold_abbrev_sides
  after_results
  all_goals rfl

theorem promptPos_apply (r : Fin 8192) : promptPos (ix1 r) = BitVec.ofNat 32 (r.val % 2048) := by
  unfold promptPos
  generalize hq : (iotaInDim S2048 32 0 : S2048.Idx → BitVec 32) = q
  pointwise
  subst hq
  rfl

theorem samplePos_apply (r : Fin 32) : samplePos (ix1 r) = 16384#32 + BitVec.ofNat 32 (r.val % 4) := by
  unfold samplePos
  generalize hq : (addi (broadcastInDim S4 ![] bcast_S_S4 (constantI S_ 32 16384#32)) (iotaInDim S4 32 0) : S4.Idx → BitVec 32) = q
  pointwise
  subst hq
  rfl

theorem positions_apply (r : Fin 8448) : positions (ix1 r) = posAt r := by
  unfold positions posAt
  have hp := promptPos_apply
  have hs := samplePos_apply
  have hz : ∀ r : Fin 224, zeroPos (ix1 r) = 0#32 := fun _ => rfl
  revert hp hs hz
  generalize promptPos = a
  generalize samplePos = b
  generalize zeroPos = z
  intro hp hs hz
  pointwise
  by_cases h : r.val < 8192
  · rw [dif_pos h, if_pos h]
    exact hp _
  · rw [dif_neg h, if_neg h]
    by_cases h' : r.val < 8224
    · rw [if_pos h', dif_pos (by omega)]
      exact hs _
    · rw [if_neg h', dif_neg (by omega)]
      exact hz _

theorem freqs_apply (d : Fin 16) : freqs (ix1 d) = freq d := by
  rfl

theorem angles_apply (r : Fin 8448) (d : Fin 16) : angles (ix2 r d) = angle (posAt r) d := by
  unfold angle
  rw [← positions_apply, ← freqs_apply]
  unfold angles
  generalize positions = p
  generalize freqs = q
  pointwise

theorem cosines_apply (r : Fin 8448) (d : Fin 16) : cosines (ix2 r d) = cosAt (posAt r) d := by
  unfold cosAt
  rw [← angles_apply]
  rfl

theorem sines_apply (r : Fin 8448) (d : Fin 16) : sines (ix2 r d) = sinAt (posAt r) d := by
  unfold sinAt
  rw [← angles_apply]
  rfl

theorem tableA_apply (c : Dev nD) (r : Fin 8448) (d : Fin 128) : (V m c main_v37 : S8448x128.Idx → EReal) (ix2 r d) = tableA (posAt r) d := by
  rw [tableA_host]
  unfold tableA
  simp only [← cosines_apply]
  generalize cosines = q
  pointwise [ones96]
  by_cases h : d.val < 16
  · rw [dif_pos h, dif_pos h]
  · rw [dif_neg h, dif_neg h]
    by_cases h' : d.val < 32
    · rw [dif_pos h', dif_pos (by omega)]
    · rw [dif_neg h', dif_neg (by omega)]

theorem tableB_apply (c : Dev nD) (r : Fin 8448) (d : Fin 128) : (V m c main_v39 : S8448x128.Idx → EReal) (ix2 r d) = tableB (posAt r) d := by
  rw [tableB_host]
  unfold tableB
  simp only [← sines_apply]
  generalize sines = q
  pointwise [zeros112]

theorem tableC_apply (c : Dev nD) (r : Fin 8448) (d : Fin 128) : (V m c main_v42 : S8448x128.Idx → EReal) (ix2 r d) = tableC (posAt r) d := by
  rw [tableC_host]
  unfold tableC
  simp only [← sines_apply]
  generalize sines = q
  pointwise [zeros16, zeros96]
  by_cases h : d.val < 16
  · rw [dif_pos h, dif_pos h]
  · rw [dif_neg h, dif_neg h]
    by_cases h' : d.val < 32
    · rw [dif_pos h', dif_pos (by omega)]
    · rw [dif_neg h', dif_neg (by omega)]

end Cert.KeysIdeal.Project

end
-- ==== Proof.KeysIdeal.Value.lean ====
module

public import proofs.«01_k».proof.Proof.KeysIdeal.Body
public import proofs.«01_k».proof.Proof.KeysIdeal.Tables
public import Idealize.ShloMosaic.Lib.WholeRead
public import Idealize.ShloMosaic.Lib.Pipeline.Covers

@[expose] public section

/-! What the projection with rotation leaves. -/

noncomputable section

namespace Cert.KeysIdeal.Project

open Idealize.ShloMosaic Idealize.ShloMosaic.TcCoe Idealize.ShloMosaic.Tactic
open Idealize.ShloMosaic.Pipeline (Dat Window)
open Cert.KeysIdeal Cert.KeysIdeal.Gen Cert.Tokens Cert.Rotation

variable (m : (ℓ : Loc nD τ sig) → Buf (Elt Ideal) ℓ)

/-- A grid coordinate as a word is itself. -/
theorem coord0 (t : Fin cfg0.N) : (BitVec.ofNat 32 (grid0.coords t 0).val).toNat = (grid0.coords t 0).val := by
  have h0 : (grid0.coords t 0).val < 8 := (grid0.coords t 0).isLt
  rw [BitVec.toNat_ofNat, Nat.mod_eq_of_lt (by omega)]

theorem coord1 (t : Fin cfg0.N) : (BitVec.ofNat 32 (grid0.coords t 1).val).toNat = 0 := by
  have h0 : (grid0.coords t 1).val < 1 := (grid0.coords t 1).isLt
  rw [BitVec.toNat_ofNat, Nat.mod_eq_of_lt (by omega)]
  omega

/-- The blocks' indices at a point. -/
theorem index0 (t : Fin cfg0.N) : (cfg0.win 0).index t = ![(grid0.coords t 0).val, 0] := by
  show (![(BitVec.ofNat 32 (grid0.coords t 0).val).toNat, 0] : Fin 2 → ℕ) = _
  rw [coord0]

theorem index1 (t : Fin cfg0.N) : (cfg0.win 1).index t = ![0, 0] := by
  show (![0, (BitVec.ofNat 32 (grid0.coords t 1).val).toNat] : Fin 2 → ℕ) = _
  rw [coord1]

theorem index2 (t : Fin cfg0.N) : (cfg0.win 2).index t = ![(grid0.coords t 0).val, 0] := by
  show (![(BitVec.ofNat 32 (grid0.coords t 0).val).toNat, 0] : Fin 2 → ℕ) = _
  rw [coord0]

theorem index3 (t : Fin cfg0.N) : (cfg0.win 3).index t = ![(grid0.coords t 0).val, 0] := by
  show (![(BitVec.ofNat 32 (grid0.coords t 0).val).toNat, 0] : Fin 2 → ℕ) = _
  rw [coord0]

theorem index4 (t : Fin cfg0.N) : (cfg0.win 4).index t = ![(grid0.coords t 0).val, 0] := by
  show (![(BitVec.ofNat 32 (grid0.coords t 0).val).toNat, 0] : Fin 2 → ℕ) = _
  rw [coord0]

theorem index5 (t : Fin cfg0.N) : (cfg0.win 5).index t = ![(grid0.coords t 0).val, 0] := by
  show (![(BitVec.ofNat 32 (grid0.coords t 0).val).toNat, (BitVec.ofNat 32 (grid0.coords t 1).val).toNat] : Fin 2 → ℕ) = _
  rw [coord0, coord1]

abbrev rowsAt (c : Dev nD) (t : Fin cfg0.N) : Vec Ideal S1056x2048 .bf16 := iblk m c 0 t
abbrev weightsAt (c : Dev nD) (t : Fin cfg0.N) : Vec Ideal S2048x512 .f32 := iblk m c 1 t

/-- The rows a point is handed, in the array. -/
theorem rowsAt_apply (c : Dev nD) (t : Fin cfg0.N) (y : Fin 1056) (k : Fin 2048) (r : Fin 8448) (hr : r.val = (grid0.coords t 0).val * 1056 + y.val) :
    rowsAt m c t (ix2 y k) = rowAt (prompt m c) (sample m c) r k := by
  refine Eq.trans (congrArg (V m c main_v16) (funext fun a => Fin.ext ?_)) (rows_apply m c r k)
  blk_simp
  rw [index0 t]
  match a with
  | ⟨0, _⟩ => exact hr.symm
  | ⟨1, _⟩ => show 0 * 2048 + (k : ℕ) = (k : ℕ); omega

/-- The weights a point is handed. -/
theorem weightsAt_apply (c : Dev nD) (t : Fin cfg0.N) (k : Fin 2048) (f : Fin 512) : weightsAt m c t (ix2 k f) = weights m c (ix2 k f) := by
  refine Eq.trans (congrArg (V m c main_arg2) (funext fun a => Fin.ext ?_)) (congrFun (V_main_arg2 m c) (ix2 k f))
  blk_simp
  rw [index1 t]
  match a with
  | ⟨0, _⟩ => show 0 * 2048 + (k : ℕ) = (k : ℕ); omega
  | ⟨1, _⟩ => show 0 * 512 + (f : ℕ) = (f : ℕ); omega

/-- The tables a point is handed. -/
abbrev tableAAt (c : Dev nD) (t : Fin cfg0.N) : Vec Ideal S1056x128 .f32 := iblk m c 2 t

theorem tableAAt_apply (c : Dev nD) (t : Fin cfg0.N) (y : Fin 1056) (d : Fin 128) (r : Fin 8448) (hr : r.val = (grid0.coords t 0).val * 1056 + y.val) :
    tableAAt m c t (ix2 y d) = tableA (posAt r) d := by
  refine Eq.trans (congrArg (V m c main_v37) (funext fun a => Fin.ext ?_)) (tableA_apply m c r d)
  blk_simp
  rw [index2 t]
  match a with
  | ⟨0, _⟩ => exact hr.symm
  | ⟨1, _⟩ => show 0 * 128 + (d : ℕ) = (d : ℕ); omega

abbrev tableBAt (c : Dev nD) (t : Fin cfg0.N) : Vec Ideal S1056x128 .f32 := iblk m c 3 t

theorem tableBAt_apply (c : Dev nD) (t : Fin cfg0.N) (y : Fin 1056) (d : Fin 128) (r : Fin 8448) (hr : r.val = (grid0.coords t 0).val * 1056 + y.val) :
    tableBAt m c t (ix2 y d) = tableB (posAt r) d := by
  refine Eq.trans (congrArg (V m c main_v39) (funext fun a => Fin.ext ?_)) (tableB_apply m c r d)
  blk_simp
  rw [index3 t]
  match a with
  | ⟨0, _⟩ => exact hr.symm
  | ⟨1, _⟩ => show 0 * 128 + (d : ℕ) = (d : ℕ); omega

abbrev tableCAt (c : Dev nD) (t : Fin cfg0.N) : Vec Ideal S1056x128 .f32 := iblk m c 4 t

theorem tableCAt_apply (c : Dev nD) (t : Fin cfg0.N) (y : Fin 1056) (d : Fin 128) (r : Fin 8448) (hr : r.val = (grid0.coords t 0).val * 1056 + y.val) :
    tableCAt m c t (ix2 y d) = tableC (posAt r) d := by
  refine Eq.trans (congrArg (V m c main_v42) (funext fun a => Fin.ext ?_)) (tableC_apply m c r d)
  blk_simp
  rw [index4 t]
  match a with
  | ⟨0, _⟩ => exact hr.symm
  | ⟨1, _⟩ => show 0 * 128 + (d : ℕ) = (d : ℕ); omega

/-- A product of the blocks is the row's projection. -/
theorem colAt_eq (c : Dev nD) (t : Fin cfg0.N) (y : Fin 1056) (f : Fin 512) (r : Fin 8448) (hr : r.val = (grid0.coords t 0).val * 1056 + y.val) :
    colAt (rowsAt m c t) (weightsAt m c t) y f = projAt (prompt m c) (sample m c) (weights m c) r f := by
  unfold colAt projAt
  exact Finset.sum_congr rfl fun k _ => congrArg₂ (· * ·) (rowsAt_apply m c t y k r hr) (weightsAt_apply m c t k f)

/-- The block a point leaves is the rows' keys, where they lie in the array. -/
theorem point_eq (c : Dev nD) (t : Fin cfg0.N) (y : S1056x512.Idx) (r : Fin 8448) (f : Fin 512)
    (hr : r.val = (grid0.coords t 0).val * 1056 + (y 0).val) (hf : f.val = 0 * 512 + (y 1).val) :
    out0_5 (rowsAt m c t) (weightsAt m c t) (tableAAt m c t) (tableBAt m c t) (tableCAt m c t) y = keyAt (prompt m c) (sample m c) (weights m c) r f := by
  obtain rfl : y 1 = f := Fin.ext (by omega)
  rw [out_apply]
  unfold bodyAt keyAt
  refine Eq.trans ?_ (turnAt_tables _ _ _)
  exact congrArg₂ (· + ·) (congrArg₂ (· + ·)
    (congrArg₂ (· * ·) (colAt_eq m c t (y 0) _ r hr) (tableAAt_apply m c t (y 0) _ r hr))
    (congrArg₂ (· * ·) (colAt_eq m c t (y 0) _ r hr) (tableBAt_apply m c t (y 0) _ r hr)))
    (congrArg₂ (· * ·) (colAt_eq m c t (y 0) _ r hr) (tableCAt_apply m c t (y 0) _ r hr))

/-- The array after the run. -/
theorem final (c : Dev nD) :
    (dats m 0 c).arrAt 5 cfg0.N = fun i : S8448x512.Idx => keyAt (prompt m c) (sample m c) (weights m c) (i 0) (i 1) := by
  refine (dats m 0 c).arrAt_eq_of_covers 5 _ ?_ fun t hf y => ?_
  · refine (cfg0.win 5).covers_of_indexMap_surj rfl (fun a => ?_) fun β => ?_
    · match a with
      | ⟨0, _⟩ => exact (by decide : 0 < 1056)
      | ⟨1, _⟩ => exact (by decide : 0 < 512)
    · have b0 : (β (0 : Fin 2)).val < 8 := lt_of_lt_of_eq (β (0 : Fin 2)).isLt (by show (8448 + 1056 - 1) / 1056 = 8; decide)
      have b1 : (β (1 : Fin 2)).val < 1 := lt_of_lt_of_eq (β (1 : Fin 2)).isLt (by show (512 + 512 - 1) / 512 = 1; decide)
      refine ⟨fun a => match a with | ⟨0, _⟩ => ⟨(β (0 : Fin 2)).val, b0⟩ | ⟨1, _⟩ => ⟨(β (1 : Fin 2)).val, b1⟩, fun a => ?_⟩
      match a with
      | ⟨0, _⟩ => show (BitVec.ofNat 32 (β (0 : Fin 2)).val).toNat = (β (0 : Fin 2)).val; rw [BitVec.toNat_ofNat, Nat.mod_eq_of_lt (by omega)]
      | ⟨1, _⟩ => show (BitVec.ofNat 32 (β (1 : Fin 2)).val).toNat = (β (1 : Fin 2)).val; rw [BitVec.toNat_ofNat, Nat.mod_eq_of_lt (by omega)]
  · blk_simp
    rw [after0_5]
    refine point_eq m c t y _ _ ?_ ?_
    · blk_simp; rw [index5 t]; rfl
    · blk_simp; rw [index5 t]; show 0 * 512 + (y 1 : ℕ) = (y 1 : ℕ); omega

end Cert.KeysIdeal.Project

end
-- ==== Proof.KeysReferenceIdeal.Turn.lean ====
module

public import proofs.«01_k».proof.Proof.Rotation
public import proofs.«01_k».proof.Proof.Gen.KeysReferenceIdeal.Read

@[expose] public section

/-! The reference's rotation of the prompts' and of the samples' keys, index by index. -/

noncomputable section

namespace Cert.KeysReferenceIdeal.Project

open Idealize.ShloMosaic Idealize.ShloMosaic.TcCoe Idealize.ShloMosaic.Tactic
open Cert.KeysReferenceIdeal Cert.KeysReferenceIdeal.Read Cert.Tokens Cert.Rotation

variable (x0 : (⟨S4x2048x2048, .f32⟩ : BufTy).Contents (Elt Ideal)) (x1 : (⟨S8x4x2048, .f32⟩ : BufTy).Contents (Elt Ideal))
  (x2 : (⟨S2048x512, .f32⟩ : BufTy).Contents (Elt Ideal))

/-- The prompts' product. -/
theorem prompt_product (i : S4x2048x512.Idx) : val_main_v0 (F := Ideal) x0 x2 i = ∑ k : Fin 2048, x0 (ix3 (i 0) (i 1) k) * x2 (ix2 k (i 2)) := by
  rw [val_main_v0_apply]
  refine Finset.sum_congr rfl fun k _ => congrArg₂ (· * ·) (congrArg x0 (funext fun a => ?_)) (congrArg x2 (funext fun a => ?_))
  · match a with
    | ⟨0, _⟩ => rfl
    | ⟨1, _⟩ => rfl
    | ⟨2, _⟩ => rfl
  · match a with
    | ⟨0, _⟩ => rfl
    | ⟨1, _⟩ => rfl

/-- The samples' product. -/
theorem sample_product (i : S8x4x512.Idx) : val_main_v39 (F := Ideal) x1 x2 i = ∑ k : Fin 2048, x1 (ix3 (i 0) (i 1) k) * x2 (ix2 k (i 2)) := by
  rw [val_main_v39_apply]
  refine Finset.sum_congr rfl fun k _ => congrArg₂ (· * ·) (congrArg x1 (funext fun a => ?_)) (congrArg x2 (funext fun a => ?_))
  · match a with
    | ⟨0, _⟩ => rfl
    | ⟨1, _⟩ => rfl
    | ⟨2, _⟩ => rfl
  · match a with
    | ⟨0, _⟩ => rfl
    | ⟨1, _⟩ => rfl

/-- The prompts' angles. -/
theorem prompt_freq (d : Fin 16) : val_main_v14 (F := Ideal) (ix1 d) = freq d := rfl

theorem prompt_pos (t : Fin 2048) : val_main_v4 (F := Ideal) (ix1 t) = BitVec.ofNat 32 t.val := BitVec.zero_add _

theorem prompt_angle (t : Fin 2048) (d : Fin 16) : val_main_v20 (F := Ideal) (ix2 t d) = angle (BitVec.ofNat 32 t.val) d := by
  unfold angle
  rw [← prompt_pos, ← prompt_freq]
  unfold val_main_v20 val_main_v18 val_main_v16 val_main_v15 val_main_v19 val_main_v17
  generalize val_main_v4 (F := Ideal) = p
  generalize val_main_v14 (F := Ideal) = q
  pointwise

/-- The samples' angles. -/
theorem sample_freq (d : Fin 16) : val_main_v53 (F := Ideal) (ix1 d) = freq d := rfl

theorem sample_pos (t : Fin 4) : val_main_v43 (F := Ideal) (ix1 t) = 16384#32 + BitVec.ofNat 32 t.val := rfl

theorem sample_angle (t : Fin 4) (d : Fin 16) : val_main_v59 (F := Ideal) (ix2 t d) = angle (16384#32 + BitVec.ofNat 32 t.val) d := by
  unfold angle
  rw [← sample_pos, ← sample_freq]
  unfold val_main_v59 val_main_v57 val_main_v55 val_main_v54 val_main_v58 val_main_v56
  generalize val_main_v43 (F := Ideal) = p
  generalize val_main_v53 (F := Ideal) = q
  pointwise

/-- The prompts' rotated rows. -/
theorem prompt_turn (b : Fin 4) (t : Fin 2048) (h : Fin 4) (d : Fin 128) (f : Fin 512) (hf : f.val = h.val * 128 + d.val) :
    val_main_v38 (F := Ideal) x0 x2 (ix4 b t h d) = turnAt (fun f => val_main_v0 (F := Ideal) x0 x2 (ix3 b t f)) (BitVec.ofNat 32 t.val) f := by
  have hc : ∀ e : Fin 16, val_main_v21 (F := Ideal) (ix2 t e) = cosAt (BitVec.ofNat 32 t.val) e := fun e => by
    unfold cosAt; rw [← prompt_angle]; rfl
  have hs : ∀ e : Fin 16, val_main_v23 (F := Ideal) (ix2 t e) = sinAt (BitVec.ofNat 32 t.val) e := fun e => by
    unfold sinAt; rw [← prompt_angle]; rfl
  unfold val_main_v38 val_main_v31 val_main_v36 val_main_v37 val_main_v28 val_main_v30 val_main_v33 val_main_v35 val_main_v27 val_main_v29 val_main_v32
    val_main_v34 val_main_v22 val_main_v24 val_main_v25 val_main_v26 val_main_v1
  unfold turnAt
  simp only [← hc, ← hs]
  generalize val_main_v0 (F := Ideal) x0 x2 = y
  generalize val_main_v21 (F := Ideal) = c
  generalize val_main_v23 (F := Ideal) = s
  pointwise
  exact turn_pieces (H := 4) (fun f => y (ix3 b t f)) (fun e => c (ix2 t e)) (fun e => s (ix2 t e)) rfl h d f hf

/-- The samples' rotated rows. -/
theorem sample_turn (b : Fin 8) (t : Fin 4) (h : Fin 4) (d : Fin 128) (f : Fin 512) (hf : f.val = h.val * 128 + d.val) :
    val_main_v77 (F := Ideal) x1 x2 (ix4 b t h d) = turnAt (fun f => val_main_v39 (F := Ideal) x1 x2 (ix3 b t f)) (16384#32 + BitVec.ofNat 32 t.val) f := by
  have hc : ∀ e : Fin 16, val_main_v60 (F := Ideal) (ix2 t e) = cosAt (16384#32 + BitVec.ofNat 32 t.val) e := fun e => by
    unfold cosAt; rw [← sample_angle]; rfl
  have hs : ∀ e : Fin 16, val_main_v62 (F := Ideal) (ix2 t e) = sinAt (16384#32 + BitVec.ofNat 32 t.val) e := fun e => by
    unfold sinAt; rw [← sample_angle]; rfl
  unfold val_main_v77 val_main_v70 val_main_v75 val_main_v76 val_main_v67 val_main_v69 val_main_v72 val_main_v74 val_main_v66 val_main_v68 val_main_v71
    val_main_v73 val_main_v61 val_main_v63 val_main_v64 val_main_v65 val_main_v40
  unfold turnAt
  simp only [← hc, ← hs]
  generalize val_main_v39 (F := Ideal) x1 x2 = y
  generalize val_main_v60 (F := Ideal) = c
  generalize val_main_v62 (F := Ideal) = s
  pointwise
  exact turn_pieces (H := 4) (fun f => y (ix3 b t f)) (fun e => c (ix2 t e)) (fun e => s (ix2 t e)) rfl h d f hf

end Cert.KeysReferenceIdeal.Project

end
-- ==== Proof.KeysReferenceIdeal.Value.lean ====
module

public import proofs.«01_k».proof.Proof.KeysReferenceIdeal.Turn

@[expose] public section

/-! The reference of the projection with rotation, index by index. -/

noncomputable section

namespace Cert.KeysReferenceIdeal.Project

open Idealize.ShloMosaic Idealize.ShloMosaic.TcCoe Idealize.ShloMosaic.Tactic
open Cert.KeysReferenceIdeal Cert.KeysReferenceIdeal.Read Cert.Tokens Cert.Rotation

variable (x0 : (⟨S4x2048x2048, .f32⟩ : BufTy).Contents (Elt Ideal)) (x1 : (⟨S8x4x2048, .f32⟩ : BufTy).Contents (Elt Ideal))
  (x2 : (⟨S2048x512, .f32⟩ : BufTy).Contents (Elt Ideal))

/-- A prompt's token. -/
theorem prompt_keys (r : Fin 8448) (b : Fin 4) (t : Fin 2048) (hr : r.val = b.val * 2048 + t.val) (h : Fin 4) (d : Fin 128) (f : Fin 512)
    (hf : f.val = h.val * 128 + d.val) : val_main_v38 (F := Ideal) x0 x2 (ix4 b t h d) = keyAt x0 x1 x2 r f := by
  have hb := b.isLt
  have ht := t.isLt
  rw [prompt_turn x0 x2 b t h d f hf]
  unfold keyAt posAt
  rw [if_pos (by omega), show r.val % 2048 = t.val by omega]
  refine congrArg (fun y => turnAt y _ f) (funext fun g => ?_)
  rw [prompt_product]
  exact (projAt_prompt x0 x1 x2 r g b t hr).symm

/-- A sample's token. -/
theorem sample_keys (r : Fin 8448) (b : Fin 8) (t : Fin 4) (hr : r.val = 8192 + (b.val * 4 + t.val)) (h : Fin 4) (d : Fin 128) (f : Fin 512)
    (hf : f.val = h.val * 128 + d.val) : val_main_v77 (F := Ideal) x1 x2 (ix4 b t h d) = keyAt x0 x1 x2 r f := by
  have hb := b.isLt
  have ht := t.isLt
  rw [sample_turn x1 x2 b t h d f hf]
  unfold keyAt posAt
  rw [if_neg (by omega), if_pos (by omega), show (r.val - 8192) % 4 = t.val by omega]
  refine congrArg (fun y => turnAt y _ f) (funext fun g => ?_)
  rw [sample_product]
  exact (projAt_sample x0 x1 x2 r g b t hr).symm

/-- The reference's result at row `i 0`, column `i 1`. -/
theorem ref_at (i : S8448x512.Idx) : val_main_v81 (F := Ideal) x0 x1 x2 i = keyAt x0 x1 x2 (i 0) (i 1) := by
  unfold val_main_v81 val_main_v78 val_main_v79 val_main_v80 val_main_cst_8
  have hp := prompt_keys x0 x1 x2
  have hs := sample_keys x0 x1 x2
  revert hp hs
  generalize val_main_v38 (F := Ideal) x0 x2 = y0
  generalize val_main_v77 (F := Ideal) x1 x2 = y1
  intro hp hs
  have hr : (i 0).val < 8448 := (i 0).isLt
  have hf : (i 1).val < 512 := (i 1).isLt
  pointwise
  by_cases h : (i 0).val < 8192
  · rw [dif_pos h]
    exact hp (i 0) _ _ (by show (i 0).val = (i 0).val / 2048 * 2048 + (i 0).val % 2048; omega) _ _ (i 1)
      (by show (i 1).val = (i 1).val / 128 * 128 + (i 1).val % 128; omega)
  · rw [dif_neg h]
    by_cases h' : (i 0).val - 8192 < 32
    · rw [dif_pos h']
      exact hs (i 0) _ _ (by show (i 0).val = 8192 + (((i 0).val - 8192) / 4 * 4 + ((i 0).val - 8192) % 4); omega) _ _ (i 1)
        (by show (i 1).val = (i 1).val / 128 * 128 + (i 1).val % 128; omega)
    · rw [dif_neg h']
      exact (turnAt_zero _ _ _ fun f => projAt_zero x0 x1 x2 (i 0) f (by omega)).symm

end Cert.KeysReferenceIdeal.Project

end
-- ==== Proof.KeysClaim.lean ====
module

public import proofs.«01_k».proof.Defs
public import proofs.«01_k».proof.Proof.Gen.Keys.Frame
public import proofs.«01_k».proof.Proof.KeysIdeal.Value
public import proofs.«01_k».proof.Proof.KeysReferenceIdeal.Value
public import Idealize.ShloMosaic.Lib.Claim

@[expose] public section

/-! The claims of the projection to the keys with its rotation. -/

namespace Cert.KeysClaim

open Idealize.ShloMosaic Idealize.ShloMosaic.TcCoe Idealize.SL.Sem

theorem frame_kernel : Cert.quiescent_Keys := fun m g _ => Cert.Keys.Gen.frame m g

theorem frame_ideal : Cert.quiescent_KeysIdeal := fun m g _ => Cert.KeysIdeal.Gen.frame m g

theorem frame_reference : Cert.quiescent_KeysReferenceIdeal := fun m g _ =>
  (θ_run Cert.KeysReferenceIdeal.defs _ _).mono (fun r h => ⟨fun c => (h c).2, sem_eq_zero_of_no_sems (by decide) _⟩) (Cert.KeysReferenceIdeal.Value.run m g)

theorem value : Cert.algebraic_KeysIdeal_KeysReferenceIdeal := by
  intro m g m' g' hpre hagree
  refine ⟨fun c => (Cert.KeysIdeal.Gen.dats m 0 c).arrAt 5 Cert.KeysIdeal.cfg0.N, Cert.KeysIdeal.Value.run_blocks m g, ?_⟩
  refine (θ_run Cert.KeysReferenceIdeal.defs _ _).mono (fun r h c => ⟨(h c).1.trans ((Cert.KeysReferenceIdeal.Read.val_main_v81_eq m' c).trans ?_), (h c).2⟩) (Cert.KeysReferenceIdeal.Value.run m' g')
  obtain ⟨a0, a1, a2⟩ := hagree c
  obtain rfl : c = 0 := Subsingleton.elim _ _
  refine Eq.trans ?_ (Cert.KeysIdeal.Project.final m 0).symm
  funext i
  rw [a0, a1, a2]
  exact Cert.KeysReferenceIdeal.Project.ref_at _ _ _ i

end Cert.KeysClaim
-- ==== Proof.DenseDownIdeal.Body.lean ====
module

public import proofs.«01_k».proof.Proof.Gen.DenseDownIdeal.Value
public import Idealize.ShloMosaic.PureOps.Ideal
public import Idealize.ShloMosaic.Lib.Pointwise
public import Idealize.ShloMosaic.Lib.ValueIdx
public import Idealize.ShloMosaic.Lib.Pipeline.Value

@[expose] public section

/-! What one grid point of the dense down product leaves in the accumulator it carries. -/

noncomputable section

namespace Cert.DenseDownIdeal.Dense

open Idealize.ShloMosaic Idealize.ShloMosaic.TcCoe Idealize.ShloMosaic.Tactic
open Cert.DenseDownIdeal Cert.DenseDownIdeal.Gen

variable {F : FTy → Type} [FloatOps F]

/-- The offsets of a whole block. -/
theorem off_zero : (![0, 0] : Fin 2 → ℕ) = fun _ => 0 := funext fun a => by fin_cases a <;> rfl

/-- A point in the middle of a contraction adds its product to the accumulator. -/
theorem carried_mid (c : Dev nD) (i : grid0.Coords)
    (a2 : Memref sig .tc .vmem S1056x2048 .f32) (h2 : a2.IsWhole) (a3 : Memref sig .tc .vmem S1056x512 .bf16) (h3 : a3.IsWhole)
    (a4 : Memref sig .tc .vmem S512x2048 .f32) (h4 : a4.IsWhole) (a5 : Memref sig .tc .vmem S1x2048 .f32) (h5 : a5.IsWhole)
    (a6 : Memref sig .tc .vmem S1x2048 .f32) (h6 : a6.IsWhole) (a7 : Memref sig .tc .vmem S1056x2048 .f32) (h7 : a7.IsWhole)
    (a8 : Memref sig .tc .vmem S1056x2048 .bf16) (h8 : a8.IsWhole) (a9 : Memref sig .tc .vmem S1056x2048 .f32) (h9 : a9.IsWhole)
    (hc0 : ¬cond0_0 i) (hc1 : ¬cond0_1 i) (x0 : Vec F S1056x2048 .f32) (x1 : Vec F S1056x512 .bf16) (x2 : Vec F S512x2048 .f32)
    (x3 : Vec F S1x2048 .f32) (x4 : Vec F S1x2048 .f32) (xs : Vec F S1056x2048 .f32) :
    sout0_B_0 c i a2 h2 a3 h3 a4 h4 a5 h5 a6 h6 a7 h7 a8 h8 a9 h9 hc0 hc1 x0 x1 x2 x3 x4 xs = k0_pay2 xs x1 x2 := by
  unfold sout0_B_0
  rw [View.read_writes_eq_canon _ _ _ (scover0_B_0 c i a2 h2 a3 h3 a4 h4 a5 h5 a6 h6 a7 h7 a8 h8 a9 h9 hc0 hc1 x0 x1 x2 x3 x4 xs)]
  unfold kernelRun0_B
  dsimp only
  rw [View.canon_unit_zero off_zero]
  simp only [View.readAt_eq_ld, h2.read_unread, h3.read_unread, h4.read_unread, h9.read_unread, View.ld_unit_zero (S := S1056x2048) off_zero, View.ld_unit_zero (S := S1056x512) off_zero, View.ld_unit_zero (S := S512x2048) off_zero]

/-- The first point of a contraction starts from the reset block. -/
theorem carried_first (c : Dev nD) (i : grid0.Coords)
    (a2 : Memref sig .tc .vmem S1056x2048 .f32) (h2 : a2.IsWhole) (a3 : Memref sig .tc .vmem S1056x512 .bf16) (h3 : a3.IsWhole)
    (a4 : Memref sig .tc .vmem S512x2048 .f32) (h4 : a4.IsWhole) (a5 : Memref sig .tc .vmem S1x2048 .f32) (h5 : a5.IsWhole)
    (a6 : Memref sig .tc .vmem S1x2048 .f32) (h6 : a6.IsWhole) (a7 : Memref sig .tc .vmem S1056x2048 .f32) (h7 : a7.IsWhole)
    (a8 : Memref sig .tc .vmem S1056x2048 .bf16) (h8 : a8.IsWhole) (a9 : Memref sig .tc .vmem S1056x2048 .f32) (h9 : a9.IsWhole)
    (hc0 : cond0_0 i) (hc1 : ¬cond0_1 i) (x0 : Vec F S1056x2048 .f32) (x1 : Vec F S1056x512 .bf16) (x2 : Vec F S512x2048 .f32)
    (x3 : Vec F S1x2048 .f32) (x4 : Vec F S1x2048 .f32) :
    sout0_A_0 c i a2 h2 a3 h3 a4 h4 a5 h5 a6 h6 a7 h7 a8 h8 a9 h9 hc0 hc1 x0 x1 x2 x3 x4 = k0_pay2 k0_pay1 x1 x2 := by
  unfold sout0_A_0
  rw [View.read_writes_eq_canon _ _ _ (scover0_A_0 c i a2 h2 a3 h3 a4 h4 a5 h5 a6 h6 a7 h7 a8 h8 a9 h9 hc0 hc1 x0 x1 x2 x3 x4)]
  unfold kernelRun0_A
  dsimp only
  sl_unfold_words
  rw [View.canon_cons_unit_zero (S := S1056x2048) off_zero, View.readCov_unit_zero (S := S1056x2048) _ off_zero]
  simp only [View.readAt_eq_ld, h3.read_unread, h4.read_unread, View.ld_unit_zero (S := S1056x512) off_zero, View.ld_unit_zero (S := S512x2048) off_zero]

/-- The last point of a contraction adds its product too. -/
theorem carried_last (c : Dev nD) (i : grid0.Coords)
    (a2 : Memref sig .tc .vmem S1056x2048 .f32) (h2 : a2.IsWhole) (a3 : Memref sig .tc .vmem S1056x512 .bf16) (h3 : a3.IsWhole)
    (a4 : Memref sig .tc .vmem S512x2048 .f32) (h4 : a4.IsWhole) (a5 : Memref sig .tc .vmem S1x2048 .f32) (h5 : a5.IsWhole)
    (a6 : Memref sig .tc .vmem S1x2048 .f32) (h6 : a6.IsWhole) (a7 : Memref sig .tc .vmem S1056x2048 .f32) (h7 : a7.IsWhole)
    (a8 : Memref sig .tc .vmem S1056x2048 .bf16) (h8 : a8.IsWhole) (a9 : Memref sig .tc .vmem S1056x2048 .f32) (h9 : a9.IsWhole)
    (hc0 : ¬cond0_0 i) (hc1 : cond0_1 i) (x0 : Vec F S1056x2048 .f32) (x1 : Vec F S1056x512 .bf16) (x2 : Vec F S512x2048 .f32)
    (x3 : Vec F S1x2048 .f32) (x4 : Vec F S1x2048 .f32) (xs : Vec F S1056x2048 .f32) :
    sout0_C_0 c i a2 h2 a3 h3 a4 h4 a5 h5 a6 h6 a7 h7 a8 h8 a9 h9 hc0 hc1 x0 x1 x2 x3 x4 xs = k0_pay2 xs x1 x2 := by
  unfold sout0_C_0
  rw [View.read_writes_eq_canon _ _ _ (scover0_C_0 c i a2 h2 a3 h3 a4 h4 a5 h5 a6 h6 a7 h7 a8 h8 a9 h9 hc0 hc1 x0 x1 x2 x3 x4 xs)]
  unfold kernelRun0_C
  dsimp only
  sl_unfold_words
  rw [View.canon_unit_zero off_zero]
  simp only [View.readAt_eq_ld, h2.read_unread, h3.read_unread, h4.read_unread, h9.read_unread, View.ld_unit_zero (S := S1056x2048) off_zero, View.ld_unit_zero (S := S1056x512) off_zero, View.ld_unit_zero (S := S512x2048) off_zero]

end Cert.DenseDownIdeal.Dense

end
-- ==== Proof.Norm.lean ====
module

public import Idealize.ShloMosaic.PureOps.Ideal
public import Idealize.ShloMosaic.Lib.Pointwise
public import Idealize.ShloMosaic.Lib.ValueIdx

@[expose] public section

/-! The layer norm of a row of 2048 entries, over the extended reals. -/

noncomputable section

namespace Cert.Norm

open Idealize.ShloMosaic

/-- The factor of the residual. -/
def alpha : EReal := FloatOps.ofBits (F := Ideal) .f32 0x3FD744FD#32

/-- The number of entries of a row. -/
def width : EReal := FloatOps.ofBits (F := Ideal) .f32 0x45000000#32

/-- What is added to the variance. -/
def eps : EReal := FloatOps.ofBits (F := Ideal) .f32 0x3727C5AC#32

/-- The mean of a row. -/
def meanOf (z : Fin 2048 → EReal) : EReal := FloatOps.divf (F := Ideal) (φ := .f32) (∑ k : Fin 2048, z k) width

/-- The row less its mean. -/
def centred (z : Fin 2048 → EReal) (k : Fin 2048) : EReal := z k - meanOf z

/-- The row's variance. -/
def varOf (z : Fin 2048 → EReal) : EReal := meanOf fun k => centred z k * centred z k

/-- An entry of the row's layer norm. -/
def normAt (z g b : Fin 2048 → EReal) (k : Fin 2048) : EReal :=
  centred z k * FloatOps.rsqrt (F := Ideal) (φ := .f32) (varOf z + eps) * g k + b k

/-- An entry of the layer norm reads the row, the scale and the shift. -/
theorem normAt_congr {z z' g g' b b' : Fin 2048 → EReal} {k k' : Fin 2048} (hz : z = z') (hg : g = g') (hb : b = b') (hk : k = k') :
    normAt z g b k = normAt z' g' b' k' := by
  rw [hz, hg, hb, hk]

/-- The row that is normalised: the residual's row, scaled, and the product's. -/
def mixed (x a : Fin 2048 → EReal) (k : Fin 2048) : EReal := alpha * x k + a k

/-- An entry of the product of the rows and the weights. -/
def denseAt {n : ℕ} (h : Shape.Idx ⟨2, ![8448, n]⟩ → EReal) (w : Shape.Idx ⟨2, ![n, 2048]⟩ → EReal) (r : Fin 8448) (f : Fin 2048) : EReal :=
  ∑ k : Fin n, h (ix2 r k) * w (ix2 k f)

/-- An entry of the result: the layer norm of the scaled residual and the product. -/
def layerAt {n : ℕ} (h : Shape.Idx ⟨2, ![8448, n]⟩ → EReal) (w : Shape.Idx ⟨2, ![n, 2048]⟩ → EReal) (x : Shape.Idx ⟨2, ![8448, 2048]⟩ → EReal)
    (g b : Shape.Idx ⟨1, ![2048]⟩ → EReal) (r : Fin 8448) (f : Fin 2048) : EReal :=
  normAt (mixed (fun k => x (ix2 r k)) (fun k => denseAt h w r k)) (fun k => g (ix1 k)) (fun k => b (ix1 k)) f

/-- An entry of the layer norm of the scaled residual and what is added to it. -/
def pooledAt (x a : Shape.Idx ⟨2, ![8448, 2048]⟩ → EReal) (g b : Shape.Idx ⟨1, ![2048]⟩ → EReal) (r : Fin 8448) (f : Fin 2048) : EReal :=
  normAt (mixed (fun k => x (ix2 r k)) (fun k => a (ix2 r k))) (fun k => g (ix1 k)) (fun k => b (ix1 k)) f

end Cert.Norm

end
-- ==== Proof.DenseDownIdeal.Rows.lean ====
module

public import proofs.«01_k».proof.Proof.DenseDownIdeal.Body
public import proofs.«01_k».proof.Proof.Norm

@[expose] public section

/-! The dense down product's arithmetic, entry by entry. -/

noncomputable section

namespace Cert.DenseDownIdeal.Dense

open Idealize.ShloMosaic Idealize.ShloMosaic.TcCoe Idealize.ShloMosaic.Tactic
open Cert.DenseDownIdeal Cert.DenseDownIdeal.Gen Cert.Norm

/-- The reset block. -/
theorem reset_apply (j : S1056x2048.Idx) : k0_pay1 (F := Ideal) j = 0 := by
  pointwise [k0_pay1]

/-- The product of one block of rows and one block of the weights. -/
def blockDot (x : S1056x512.Idx → EReal) (w : S512x2048.Idx → EReal) (j : S1056x2048.Idx) : EReal :=
  ∑ k : Fin 512, x (ix2 (j 0) k) * w (ix2 k (j 1))

/-- What a point adds to the accumulator. -/
theorem added_apply (a : Vec Ideal S1056x2048 .f32) (x : Vec Ideal S1056x512 .bf16) (w : Vec Ideal S512x2048 .f32) (j : S1056x2048.Idx) :
    k0_pay2 (F := Ideal) a x w j = a j + blockDot x w j := by
  unfold blockDot
  pointwise [k0_pay2]

/-- The layer norm of a chunk of rows. -/
theorem norm_apply (x a : Vec Ideal S96x2048 .f32) (g b : Vec Ideal S1x2048 .f32) (j : S96x2048.Idx) :
    k0_pay3 (F := Ideal) x a g b j
      = normAt (mixed (fun k => x (ix2 (j 0) k)) (fun k => a (ix2 (j 0) k))) (fun k => g (ix2 0 k)) (fun k => b (ix2 0 k)) (j 1) := by
  unfold normAt varOf centred meanOf mixed alpha width eps
  pointwise [k0_pay3]

end Cert.DenseDownIdeal.Dense

end
-- ==== Proof.DenseDownIdeal.Sum.lean ====
module

public import proofs.«01_k».proof.Proof.DenseDownIdeal.Rows

@[expose] public section

/-! The accumulator after each point of a contraction: the sum of the products so far. -/

noncomputable section

namespace Cert.DenseDownIdeal.Dense

open Idealize.ShloMosaic Idealize.ShloMosaic.TcCoe Idealize.ShloMosaic.Tactic
open Idealize.ShloMosaic.Pipeline (Dat Window)
open Cert.DenseDownIdeal Cert.DenseDownIdeal.Gen

variable (m : (ℓ : Loc nD τ sig) → Buf (Elt Ideal) ℓ)

abbrev rowsAt (c : Dev nD) (t : Fin cfg0.N) : Vec Ideal S1056x512 .bf16 := iblk m c 1 t
abbrev weightsAt (c : Dev nD) (t : Fin cfg0.N) : Vec Ideal S512x2048 .f32 := iblk m c 2 t

/-- What the point `n` adds. -/
def term (c : Dev nD) (n : ℕ) (y : S1056x2048.Idx) : EReal :=
  if h : n < cfg0.N then blockDot (rowsAt m c ⟨n, h⟩) (weightsAt m c ⟨n, h⟩) y else 0

theorem term_of_lt (c : Dev nD) (n : ℕ) (h : n < cfg0.N) (y : S1056x2048.Idx) :
    term m c n y = blockDot (rowsAt m c ⟨n, h⟩) (weightsAt m c ⟨n, h⟩) y := dif_pos h

/-- The accumulator after point `s` of a contraction. -/
theorem carried_eq (c : Dev nD) (q : ℕ) (y : S1056x2048.Idx) : ∀ (s : ℕ) (hs : s < 14) (h : 14 * q + s < cfg0.N),
    (outsAt0 m c (14 * q + s) h).2.2 y = ∑ j ∈ Finset.range (s + 1), term m c (14 * q + j) y
  | 0, hs, h => by
    rw [outsAt0_A m c ⟨14 * q + 0, h⟩ (by show (14 * q + 0) % 14 = 0; omega) (by show ¬(14 * q + 0) % 14 = 13; omega)]
    dsimp only
    rw [carried_first, added_apply, reset_apply, zero_add, Finset.sum_range_one, term_of_lt m c _ h]
  | s + 1, hs, h => by
    rw [Finset.sum_range_succ, ← carried_eq c q y s (by omega) (by omega), term_of_lt m c _ h]
    by_cases hl : s + 1 = 13
    · rw [outsAt0_C m c ⟨14 * q + (s + 1), h⟩ (by show ¬(14 * q + (s + 1)) % 14 = 0; omega) (by show (14 * q + (s + 1)) % 14 = 13; omega)]
      dsimp only
      rw [carried_last, added_apply]
      rfl
    · rw [outsAt0_B m c ⟨14 * q + (s + 1), h⟩ (by show ¬(14 * q + (s + 1)) % 14 = 0; omega) (by show ¬(14 * q + (s + 1)) % 14 = 13; omega)]
      dsimp only
      rw [carried_mid, added_apply]
      rfl

end Cert.DenseDownIdeal.Dense

end
-- ==== Proof.DenseDownIdeal.Chunks.lean ====
module

public import proofs.«01_k».proof.Proof.DenseDownIdeal.Rows

@[expose] public section

/-! The last point of a contraction normalises its block of rows, 96 rows at a time. -/

noncomputable section

namespace Cert.DenseDownIdeal.Dense

open Idealize.ShloMosaic Idealize.ShloMosaic.TcCoe Idealize.ShloMosaic.Tactic
open Cert.DenseDownIdeal Cert.DenseDownIdeal.Gen Cert.Norm

/-- The layer norm of a block of rows: of the residual, scaled, and the product. -/
def normed (x a : S1056x2048.Idx → EReal) (g b : S1x2048.Idx → EReal) (y : S1056x2048.Idx) : EReal :=
  normAt (mixed (fun k => x (ix2 (y 0) k)) (fun k => a (ix2 (y 0) k))) (fun k => g (ix2 0 k)) (fun k => b (ix2 0 k)) (y 1)

/-- A buffer written whole reads as what was written. -/
theorem read_whole (a : Memref sig .tc .vmem S1056x2048 .f32) (f : BufTy.Contents (Elt Ideal) a.view.ty) (w : Vec Ideal S1056x2048 .f32) :
    a.view.read (Elt Ideal) (a.view.writes (Elt Ideal) f [⟨Rect.unit (s := S1056x2048) ![0, 0] S1056x2048.size inb_S1056x2048_S1056x2048_0_0, w⟩]) = w := by
  rw [View.read_writes_eq_canon _ _ _ (fun y => ⟨_, List.mem_singleton.2 rfl, View.mem_set_unit_zero off_zero inb_S1056x2048_S1056x2048_0_0 y⟩)]
  rw [View.canon_unit_zero off_zero]

/-- The narrowed layer norm of a chunk of rows is the layer norm. -/
theorem narrowed_apply (x a : Vec Ideal S96x2048 .f32) (g b : Vec Ideal S1x2048 .f32) (j : S96x2048.Idx) :
    k0_pay4 (F := Ideal) x a g b j
      = normAt (mixed (fun k => x (ix2 (j 0) k)) (fun k => a (ix2 (j 0) k))) (fun k => g (ix2 0 k)) (fun k => b (ix2 0 k)) (j 1) :=
  norm_apply x a g b j

/-- One trip of the loop stores the layer norm of its 96 rows. -/
theorem trip_wide (𝒱 : Variants) (c : Dev nD) (bd : Option 𝒱.V) (i : grid0.Coords)
    (a2 : Memref sig .tc .vmem S1056x2048 .f32) (h2 : a2.IsWhole) (a3 : Memref sig .tc .vmem S1056x512 .bf16) (h3 : a3.IsWhole)
    (a4 : Memref sig .tc .vmem S512x2048 .f32) (h4 : a4.IsWhole) (a5 : Memref sig .tc .vmem S1x2048 .f32) (h5 : a5.IsWhole)
    (a6 : Memref sig .tc .vmem S1x2048 .f32) (h6 : a6.IsWhole) (a7 : Memref sig .tc .vmem S1056x2048 .f32) (h7 : a7.IsWhole)
    (a8 : Memref sig .tc .vmem S1056x2048 .bf16) (h8 : a8.IsWhole) (a9 : Memref sig .tc .vmem S1056x2048 .f32) (h9 : a9.IsWhole)
    (hc1 : cond0_1 i) (X2 : BufTy.Contents (Elt Ideal) a2.view.ty) (X5 : BufTy.Contents (Elt Ideal) a5.view.ty)
    (X6 : BufTy.Contents (Elt Ideal) a6.view.ty) (X9 : BufTy.Contents (Elt Ideal) a9.view.ty) (n : Fin k0_t1_loop.trips) :
    ∀ p ∈ (tripL_k0_t1 (F := Ideal) 𝒱 c bd i a2 h2 a3 h3 a4 h4 a5 h5 a6 h6 a7 h7 a8 h8 a9 h9 hc1 X2 X5 X6 X9 n).1, ∀ x : p.1.shape.Idx,
      p.2 x = normed (a2.view.read (Elt Ideal) X2) (a9.view.read (Elt Ideal) X9) (a5.view.read (Elt Ideal) X5) (a6.view.read (Elt Ideal) X6) (p.1.emb x) := by
  intro p hp x
  unfold tripL_k0_t1 trip_k0_t1 at hp
  dsimp only at hp
  rw [List.mem_singleton] at hp
  subst hp
  refine (norm_apply _ _ _ _ x).trans ?_
  simp only [View.readAt_eq_ld]
  unfold normed
  refine normAt_congr (congrArg₂ mixed (funext fun k => ?_) (funext fun k => ?_)) (funext fun k => ?_) (funext fun k => ?_) (Fin.ext ?_)
  · refine congrArg (a2.view.read (Elt Ideal) X2) (funext fun a => Fin.ext ?_)
    match a with
    | ⟨0, _⟩ => rfl
    | ⟨1, _⟩ => show 0 + 1 * (k : ℕ) = (k : ℕ); omega
  · refine congrArg (a9.view.read (Elt Ideal) X9) (funext fun a => Fin.ext ?_)
    match a with
    | ⟨0, _⟩ => rfl
    | ⟨1, _⟩ => show 0 + 1 * (k : ℕ) = (k : ℕ); omega
  · refine congrArg (a5.view.read (Elt Ideal) X5) (funext fun a => Fin.ext ?_)
    match a with
    | ⟨0, _⟩ => rfl
    | ⟨1, _⟩ => show 0 + 1 * (k : ℕ) = (k : ℕ); omega
  · refine congrArg (a6.view.read (Elt Ideal) X6) (funext fun a => Fin.ext ?_)
    match a with
    | ⟨0, _⟩ => rfl
    | ⟨1, _⟩ => show 0 + 1 * (k : ℕ) = (k : ℕ); omega
  · show (x 1 : ℕ) = 0 + 1 * (x 1 : ℕ); omega

/-- The same of the narrowed result. -/
theorem trip_narrow (𝒱 : Variants) (c : Dev nD) (bd : Option 𝒱.V) (i : grid0.Coords)
    (a2 : Memref sig .tc .vmem S1056x2048 .f32) (h2 : a2.IsWhole) (a3 : Memref sig .tc .vmem S1056x512 .bf16) (h3 : a3.IsWhole)
    (a4 : Memref sig .tc .vmem S512x2048 .f32) (h4 : a4.IsWhole) (a5 : Memref sig .tc .vmem S1x2048 .f32) (h5 : a5.IsWhole)
    (a6 : Memref sig .tc .vmem S1x2048 .f32) (h6 : a6.IsWhole) (a7 : Memref sig .tc .vmem S1056x2048 .f32) (h7 : a7.IsWhole)
    (a8 : Memref sig .tc .vmem S1056x2048 .bf16) (h8 : a8.IsWhole) (a9 : Memref sig .tc .vmem S1056x2048 .f32) (h9 : a9.IsWhole)
    (hc1 : cond0_1 i) (X2 : BufTy.Contents (Elt Ideal) a2.view.ty) (X5 : BufTy.Contents (Elt Ideal) a5.view.ty)
    (X6 : BufTy.Contents (Elt Ideal) a6.view.ty) (X9 : BufTy.Contents (Elt Ideal) a9.view.ty) (n : Fin k0_t1_loop.trips) :
    ∀ p ∈ (tripL_k0_t1 (F := Ideal) 𝒱 c bd i a2 h2 a3 h3 a4 h4 a5 h5 a6 h6 a7 h7 a8 h8 a9 h9 hc1 X2 X5 X6 X9 n).2, ∀ x : p.1.shape.Idx,
      p.2 x = normed (a2.view.read (Elt Ideal) X2) (a9.view.read (Elt Ideal) X9) (a5.view.read (Elt Ideal) X5) (a6.view.read (Elt Ideal) X6) (p.1.emb x) := by
  intro p hp x
  unfold tripL_k0_t1 trip_k0_t1 at hp
  dsimp only at hp
  rw [List.mem_singleton] at hp
  subst hp
  refine (narrowed_apply _ _ _ _ x).trans ?_
  simp only [View.readAt_eq_ld]
  unfold normed
  refine normAt_congr (congrArg₂ mixed (funext fun k => ?_) (funext fun k => ?_)) (funext fun k => ?_) (funext fun k => ?_) (Fin.ext ?_)
  · refine congrArg (a2.view.read (Elt Ideal) X2) (funext fun a => Fin.ext ?_)
    match a with
    | ⟨0, _⟩ => rfl
    | ⟨1, _⟩ => show 0 + 1 * (k : ℕ) = (k : ℕ); omega
  · refine congrArg (a9.view.read (Elt Ideal) X9) (funext fun a => Fin.ext ?_)
    match a with
    | ⟨0, _⟩ => rfl
    | ⟨1, _⟩ => show 0 + 1 * (k : ℕ) = (k : ℕ); omega
  · refine congrArg (a5.view.read (Elt Ideal) X5) (funext fun a => Fin.ext ?_)
    match a with
    | ⟨0, _⟩ => rfl
    | ⟨1, _⟩ => show 0 + 1 * (k : ℕ) = (k : ℕ); omega
  · refine congrArg (a6.view.read (Elt Ideal) X6) (funext fun a => Fin.ext ?_)
    match a with
    | ⟨0, _⟩ => rfl
    | ⟨1, _⟩ => show 0 + 1 * (k : ℕ) = (k : ℕ); omega
  · show (x 1 : ℕ) = 0 + 1 * (x 1 : ℕ); omega

/-- So do the trips before any one of them. -/
theorem loop_wide (𝒱 : Variants) (c : Dev nD) (bd : Option 𝒱.V) (i : grid0.Coords)
    (a2 : Memref sig .tc .vmem S1056x2048 .f32) (h2 : a2.IsWhole) (a3 : Memref sig .tc .vmem S1056x512 .bf16) (h3 : a3.IsWhole)
    (a4 : Memref sig .tc .vmem S512x2048 .f32) (h4 : a4.IsWhole) (a5 : Memref sig .tc .vmem S1x2048 .f32) (h5 : a5.IsWhole)
    (a6 : Memref sig .tc .vmem S1x2048 .f32) (h6 : a6.IsWhole) (a7 : Memref sig .tc .vmem S1056x2048 .f32) (h7 : a7.IsWhole)
    (a8 : Memref sig .tc .vmem S1056x2048 .bf16) (h8 : a8.IsWhole) (a9 : Memref sig .tc .vmem S1056x2048 .f32) (h9 : a9.IsWhole)
    (hc1 : cond0_1 i) (X2 : BufTy.Contents (Elt Ideal) a2.view.ty) (X5 : BufTy.Contents (Elt Ideal) a5.view.ty)
    (X6 : BufTy.Contents (Elt Ideal) a6.view.ty) (X9 : BufTy.Contents (Elt Ideal) a9.view.ty) : ∀ n ≤ k0_t1_loop.trips,
    ∀ p ∈ (pb_k0_t1 (F := Ideal) 𝒱 c bd i a2 h2 a3 h3 a4 h4 a5 h5 a6 h6 a7 h7 a8 h8 a9 h9 hc1 X2 X5 X6 X9 n).1, ∀ x : p.1.shape.Idx,
      p.2 x = normed (a2.view.read (Elt Ideal) X2) (a9.view.read (Elt Ideal) X9) (a5.view.read (Elt Ideal) X5) (a6.view.read (Elt Ideal) X6) (p.1.emb x)
  | 0, _, p, hp, x => absurd hp (List.not_mem_nil)
  | n + 1, hn, p, hp, x => by
    rw [pb_k0_t1_succ (F := Ideal) 𝒱 c bd i a2 h2 a3 h3 a4 h4 a5 h5 a6 h6 a7 h7 a8 h8 a9 h9 hc1 X2 X5 X6 X9 ⟨n, hn⟩] at hp
    rcases List.mem_append.1 hp with h | h
    · exact trip_wide 𝒱 c bd i a2 h2 a3 h3 a4 h4 a5 h5 a6 h6 a7 h7 a8 h8 a9 h9 hc1 X2 X5 X6 X9 ⟨n, hn⟩ p h x
    · exact loop_wide 𝒱 c bd i a2 h2 a3 h3 a4 h4 a5 h5 a6 h6 a7 h7 a8 h8 a9 h9 hc1 X2 X5 X6 X9 n (Nat.le_of_succ_le hn) p h x

/-- The same of the narrowed result. -/
theorem loop_narrow (𝒱 : Variants) (c : Dev nD) (bd : Option 𝒱.V) (i : grid0.Coords)
    (a2 : Memref sig .tc .vmem S1056x2048 .f32) (h2 : a2.IsWhole) (a3 : Memref sig .tc .vmem S1056x512 .bf16) (h3 : a3.IsWhole)
    (a4 : Memref sig .tc .vmem S512x2048 .f32) (h4 : a4.IsWhole) (a5 : Memref sig .tc .vmem S1x2048 .f32) (h5 : a5.IsWhole)
    (a6 : Memref sig .tc .vmem S1x2048 .f32) (h6 : a6.IsWhole) (a7 : Memref sig .tc .vmem S1056x2048 .f32) (h7 : a7.IsWhole)
    (a8 : Memref sig .tc .vmem S1056x2048 .bf16) (h8 : a8.IsWhole) (a9 : Memref sig .tc .vmem S1056x2048 .f32) (h9 : a9.IsWhole)
    (hc1 : cond0_1 i) (X2 : BufTy.Contents (Elt Ideal) a2.view.ty) (X5 : BufTy.Contents (Elt Ideal) a5.view.ty)
    (X6 : BufTy.Contents (Elt Ideal) a6.view.ty) (X9 : BufTy.Contents (Elt Ideal) a9.view.ty) : ∀ n ≤ k0_t1_loop.trips,
    ∀ p ∈ (pb_k0_t1 (F := Ideal) 𝒱 c bd i a2 h2 a3 h3 a4 h4 a5 h5 a6 h6 a7 h7 a8 h8 a9 h9 hc1 X2 X5 X6 X9 n).2, ∀ x : p.1.shape.Idx,
      p.2 x = normed (a2.view.read (Elt Ideal) X2) (a9.view.read (Elt Ideal) X9) (a5.view.read (Elt Ideal) X5) (a6.view.read (Elt Ideal) X6) (p.1.emb x)
  | 0, _, p, hp, x => absurd hp (List.not_mem_nil)
  | n + 1, hn, p, hp, x => by
    rw [pb_k0_t1_succ (F := Ideal) 𝒱 c bd i a2 h2 a3 h3 a4 h4 a5 h5 a6 h6 a7 h7 a8 h8 a9 h9 hc1 X2 X5 X6 X9 ⟨n, hn⟩] at hp
    rcases List.mem_append.1 hp with h | h
    · exact trip_narrow 𝒱 c bd i a2 h2 a3 h3 a4 h4 a5 h5 a6 h6 a7 h7 a8 h8 a9 h9 hc1 X2 X5 X6 X9 ⟨n, hn⟩ p h x
    · exact loop_narrow 𝒱 c bd i a2 h2 a3 h3 a4 h4 a5 h5 a6 h6 a7 h7 a8 h8 a9 h9 hc1 X2 X5 X6 X9 n (Nat.le_of_succ_le hn) p h x

/-- The block the last point leaves is the layer norm of its rows. -/
theorem out_wide (c : Dev nD) (i : grid0.Coords)
    (a2 : Memref sig .tc .vmem S1056x2048 .f32) (h2 : a2.IsWhole) (a3 : Memref sig .tc .vmem S1056x512 .bf16) (h3 : a3.IsWhole)
    (a4 : Memref sig .tc .vmem S512x2048 .f32) (h4 : a4.IsWhole) (a5 : Memref sig .tc .vmem S1x2048 .f32) (h5 : a5.IsWhole)
    (a6 : Memref sig .tc .vmem S1x2048 .f32) (h6 : a6.IsWhole) (a7 : Memref sig .tc .vmem S1056x2048 .f32) (h7 : a7.IsWhole)
    (a8 : Memref sig .tc .vmem S1056x2048 .bf16) (h8 : a8.IsWhole) (a9 : Memref sig .tc .vmem S1056x2048 .f32) (h9 : a9.IsWhole)
    (hc0 : ¬cond0_0 i) (hc1 : cond0_1 i) (x0 : Vec Ideal S1056x2048 .f32) (x1 : Vec Ideal S1056x512 .bf16) (x2 : Vec Ideal S512x2048 .f32)
    (x3 : Vec Ideal S1x2048 .f32) (x4 : Vec Ideal S1x2048 .f32) (xs : Vec Ideal S1056x2048 .f32) (y : S1056x2048.Idx) :
    out0_C_5 (F := Ideal) c i a2 h2 a3 h3 a4 h4 a5 h5 a6 h6 a7 h7 a8 h8 a9 h9 hc0 hc1 x0 x1 x2 x3 x4 xs y = normed x0 (k0_pay2 xs x1 x2) x3 x4 y := by
  unfold out0_C_5
  rw [View.read_writes_eq_canon _ _ _ (cover0_C_5 c i a2 h2 a3 h3 a4 h4 a5 h5 a6 h6 a7 h7 a8 h8 a9 h9 hc0 hc1 x0 x1 x2 x3 x4 xs)]
  refine View.canon_apply_of_pieces (Val := Elt Ideal) (e := .f32) (fun y => normed x0 (k0_pay2 xs x1 x2) x3 x4 y) _ ?_ y
    (cover0_C_5 c i a2 h2 a3 h3 a4 h4 a5 h5 a6 h6 a7 h7 a8 h8 a9 h9 hc0 hc1 x0 x1 x2 x3 x4 xs y)
  unfold kernelRun0_C
  dsimp only
  sl_unfold_words
  intro p hp x
  refine (loop_wide _ c _ i a2 h2 a3 h3 a4 h4 a5 h5 a6 h6 a7 h7 a8 h8 a9 h9 hc1 _ _ _ _ _ (le_of_eq rfl) p hp x).trans ?_
  rw [h2.read_unread, h5.read_unread, h6.read_unread, read_whole]
  simp only [View.readAt_eq_ld, h3.read_unread, h4.read_unread, h9.read_unread, View.ld_unit_zero (S := S1056x2048) off_zero, View.ld_unit_zero (S := S1056x512) off_zero, View.ld_unit_zero (S := S512x2048) off_zero]

/-- The same of the narrowed result. -/
theorem out_narrow (c : Dev nD) (i : grid0.Coords)
    (a2 : Memref sig .tc .vmem S1056x2048 .f32) (h2 : a2.IsWhole) (a3 : Memref sig .tc .vmem S1056x512 .bf16) (h3 : a3.IsWhole)
    (a4 : Memref sig .tc .vmem S512x2048 .f32) (h4 : a4.IsWhole) (a5 : Memref sig .tc .vmem S1x2048 .f32) (h5 : a5.IsWhole)
    (a6 : Memref sig .tc .vmem S1x2048 .f32) (h6 : a6.IsWhole) (a7 : Memref sig .tc .vmem S1056x2048 .f32) (h7 : a7.IsWhole)
    (a8 : Memref sig .tc .vmem S1056x2048 .bf16) (h8 : a8.IsWhole) (a9 : Memref sig .tc .vmem S1056x2048 .f32) (h9 : a9.IsWhole)
    (hc0 : ¬cond0_0 i) (hc1 : cond0_1 i) (x0 : Vec Ideal S1056x2048 .f32) (x1 : Vec Ideal S1056x512 .bf16) (x2 : Vec Ideal S512x2048 .f32)
    (x3 : Vec Ideal S1x2048 .f32) (x4 : Vec Ideal S1x2048 .f32) (xs : Vec Ideal S1056x2048 .f32) (y : S1056x2048.Idx) :
    out0_C_6 (F := Ideal) c i a2 h2 a3 h3 a4 h4 a5 h5 a6 h6 a7 h7 a8 h8 a9 h9 hc0 hc1 x0 x1 x2 x3 x4 xs y = normed x0 (k0_pay2 xs x1 x2) x3 x4 y := by
  unfold out0_C_6
  rw [View.read_writes_eq_canon _ _ _ (cover0_C_6 c i a2 h2 a3 h3 a4 h4 a5 h5 a6 h6 a7 h7 a8 h8 a9 h9 hc0 hc1 x0 x1 x2 x3 x4 xs)]
  refine View.canon_apply_of_pieces (Val := Elt Ideal) (e := .bf16) (fun y => normed x0 (k0_pay2 xs x1 x2) x3 x4 y) _ ?_ y
    (cover0_C_6 c i a2 h2 a3 h3 a4 h4 a5 h5 a6 h6 a7 h7 a8 h8 a9 h9 hc0 hc1 x0 x1 x2 x3 x4 xs y)
  unfold kernelRun0_C
  dsimp only
  sl_unfold_words
  intro p hp x
  refine (loop_narrow _ c _ i a2 h2 a3 h3 a4 h4 a5 h5 a6 h6 a7 h7 a8 h8 a9 h9 hc1 _ _ _ _ _ (le_of_eq rfl) p hp x).trans ?_
  rw [h2.read_unread, h5.read_unread, h6.read_unread, read_whole]
  simp only [View.readAt_eq_ld, h3.read_unread, h4.read_unread, h9.read_unread, View.ld_unit_zero (S := S1056x2048) off_zero, View.ld_unit_zero (S := S1056x512) off_zero, View.ld_unit_zero (S := S512x2048) off_zero]

end Cert.DenseDownIdeal.Dense

end
-- ==== Proof.DenseDownIdeal.Value.lean ====
module

public import proofs.«01_k».proof.Proof.DenseDownIdeal.Sum
public import proofs.«01_k».proof.Proof.DenseDownIdeal.Chunks
public import Idealize.ShloMosaic.Lib.WholeRead
public import Idealize.ShloMosaic.Lib.Pipeline.Covers
public import Idealize.ShloMosaic.Lib.Pipeline.ValueKit

@[expose] public section

/-! What the dense down product with its layer norm leaves. -/

noncomputable section

namespace Cert.DenseDownIdeal.Dense

open Idealize.ShloMosaic Idealize.ShloMosaic.TcCoe Idealize.ShloMosaic.Tactic
open Idealize.ShloMosaic.Pipeline (Dat Window)
open Cert.DenseDownIdeal Cert.DenseDownIdeal.Gen Cert.Norm

variable (m : (ℓ : Loc nD τ sig) → Buf (Elt Ideal) ℓ)

/-- The hidden rows, the weights, the residual, the scale and the shift, as launched. -/
abbrev hidden (c : Dev nD) : Vec Ideal S8448x7168 .bf16 := m ((c.tc : Thread nD τ).loc main_arg0)
abbrev weights (c : Dev nD) : Vec Ideal S7168x2048 .f32 := m ((c.tc : Thread nD τ).loc main_arg1)
abbrev residual (c : Dev nD) : Vec Ideal S8448x2048 .f32 := m ((c.tc : Thread nD τ).loc main_arg2)
abbrev scale (c : Dev nD) : Vec Ideal S2048 .f32 := m ((c.tc : Thread nD τ).loc main_arg3)
abbrev shift (c : Dev nD) : Vec Ideal S2048 .f32 := m ((c.tc : Thread nD τ).loc main_arg4)

/-- A grid coordinate as a word is itself. -/
theorem coord0 (t : Fin cfg0.N) : (BitVec.ofNat 32 (grid0.coords t 0).val).toNat = (grid0.coords t 0).val := by
  have h0 : (grid0.coords t 0).val < 8 := (grid0.coords t 0).isLt
  rw [BitVec.toNat_ofNat, Nat.mod_eq_of_lt (by omega)]

theorem coord1 (t : Fin cfg0.N) : (BitVec.ofNat 32 (grid0.coords t 1).val).toNat = (grid0.coords t 1).val := by
  have h0 : (grid0.coords t 1).val < 14 := (grid0.coords t 1).isLt
  rw [BitVec.toNat_ofNat, Nat.mod_eq_of_lt (by omega)]

/-- The coordinates of a point: its block of rows, its block of the contraction. -/
theorem coords_eq : ∀ t : Fin grid0.N, (grid0.coords t 0).val = t.val / 14 ∧ (grid0.coords t 1).val = t.val % 14 := by
  decide +kernel

/-- The blocks' indices at a point. -/
theorem index0 (t : Fin cfg0.N) : (cfg0.win 0).index t = ![(grid0.coords t 0).val, 0] := by
  show (![(BitVec.ofNat 32 (grid0.coords t 0).val).toNat, 0] : Fin 2 → ℕ) = _
  rw [coord0]

theorem index1 (t : Fin cfg0.N) : (cfg0.win 1).index t = ![(grid0.coords t 0).val, (grid0.coords t 1).val] := by
  show (![(BitVec.ofNat 32 (grid0.coords t 0).val).toNat, (BitVec.ofNat 32 (grid0.coords t 1).val).toNat] : Fin 2 → ℕ) = _
  rw [coord0, coord1]

theorem index2 (t : Fin cfg0.N) : (cfg0.win 2).index t = ![(grid0.coords t 1).val, 0] := by
  show (![(BitVec.ofNat 32 (grid0.coords t 1).val).toNat, 0] : Fin 2 → ℕ) = _
  rw [coord1]

theorem index3 (t : Fin cfg0.N) : (cfg0.win 3).index t = ![0, 0] := rfl

theorem index4 (t : Fin cfg0.N) : (cfg0.win 4).index t = ![0, 0] := rfl

theorem index5 (t : Fin cfg0.N) : (cfg0.win 5).index t = ![(grid0.coords t 0).val, 0] := by
  show (![(BitVec.ofNat 32 (grid0.coords t 0).val).toNat, 0] : Fin 2 → ℕ) = _
  rw [coord0]

theorem index6 (t : Fin cfg0.N) : (cfg0.win 6).index t = ![(grid0.coords t 0).val, 0] := by
  show (![(BitVec.ofNat 32 (grid0.coords t 0).val).toNat, 0] : Fin 2 → ℕ) = _
  rw [coord0]

/-- The scale as one row. -/
theorem scale_eq (c : Dev nD) : (V m c main_v0 : S1x2048.Idx → EReal) = shapeCast S1x2048 (scale m c) shapeCasts_S2048_S1x2048 := by
  unfold_abbrev_sides
  after_results
  all_goals rfl

theorem scale_apply (c : Dev nD) (t : Fin cfg0.N) (k : Fin 2048) : (iblk m c 3 t : Vec Ideal S1x2048 .f32) (ix2 0 k) = scale m c (ix1 k) := by
  have e : (V m c main_v0 : S1x2048.Idx → EReal) (ix2 0 k) = scale m c (ix1 k) := by
    rw [scale_eq]
    pointwise
  refine Eq.trans (congrArg (V m c main_v0) (funext fun a => Fin.ext ?_)) e
  blk_simp
  rw [index3 t]
  match a with
  | ⟨0, _⟩ => rfl
  | ⟨1, _⟩ => show 0 * 2048 + (k : ℕ) = (k : ℕ); omega

/-- The shift as one row. -/
theorem shift_eq (c : Dev nD) : (V m c main_v1 : S1x2048.Idx → EReal) = shapeCast S1x2048 (shift m c) shapeCasts_S2048_S1x2048 := by
  unfold_abbrev_sides
  after_results
  all_goals rfl

theorem shift_apply (c : Dev nD) (t : Fin cfg0.N) (k : Fin 2048) : (iblk m c 4 t : Vec Ideal S1x2048 .f32) (ix2 0 k) = shift m c (ix1 k) := by
  have e : (V m c main_v1 : S1x2048.Idx → EReal) (ix2 0 k) = shift m c (ix1 k) := by
    rw [shift_eq]
    pointwise
  refine Eq.trans (congrArg (V m c main_v1) (funext fun a => Fin.ext ?_)) e
  blk_simp
  rw [index4 t]
  match a with
  | ⟨0, _⟩ => rfl
  | ⟨1, _⟩ => show 0 * 2048 + (k : ℕ) = (k : ℕ); omega

/-- The residual's rows a point is handed, in the array. -/
theorem residual_apply (c : Dev nD) (t : Fin cfg0.N) (y : Fin 1056) (k : Fin 2048) (r : Fin 8448) (hr : r.val = (grid0.coords t 0).val * 1056 + y.val) :
    (iblk m c 0 t : Vec Ideal S1056x2048 .f32) (ix2 y k) = residual m c (ix2 r k) := by
  refine Eq.trans (congrArg (V m c main_arg2) (funext fun a => Fin.ext ?_)) (congrFun (V_main_arg2 m c) (ix2 r k))
  blk_simp
  rw [index0 t]
  match a with
  | ⟨0, _⟩ => exact hr.symm
  | ⟨1, _⟩ => show 0 * 2048 + (k : ℕ) = (k : ℕ); omega

/-- The hidden rows a point is handed, in the array. -/
theorem rowsAt_apply (c : Dev nD) (t : Fin cfg0.N) (y : Fin 1056) (k : Fin 512) (r : Fin 8448) (l : Fin 7168)
    (hr : r.val = (grid0.coords t 0).val * 1056 + y.val) (hl : l.val = (grid0.coords t 1).val * 512 + k.val) :
    rowsAt m c t (ix2 y k) = hidden m c (ix2 r l) := by
  refine Eq.trans (congrArg (V m c main_arg0) (funext fun a => Fin.ext ?_)) (congrFun (V_main_arg0 m c) (ix2 r l))
  blk_simp
  rw [index1 t]
  match a with
  | ⟨0, _⟩ => exact hr.symm
  | ⟨1, _⟩ => exact hl.symm

/-- The weights a point is handed, in the array. -/
theorem weightsAt_apply (c : Dev nD) (t : Fin cfg0.N) (k : Fin 512) (f : Fin 2048) (l : Fin 7168) (hl : l.val = (grid0.coords t 1).val * 512 + k.val) :
    weightsAt m c t (ix2 k f) = weights m c (ix2 l f) := by
  refine Eq.trans (congrArg (V m c main_arg1) (funext fun a => Fin.ext ?_)) (congrFun (V_main_arg1 m c) (ix2 l f))
  blk_simp
  rw [index2 t]
  match a with
  | ⟨0, _⟩ => exact hl.symm
  | ⟨1, _⟩ => show 0 * 2048 + (f : ℕ) = (f : ℕ); omega

/-- The accumulator at the end of a contraction is the rows' product. -/
theorem carried_last_eq (c : Dev nD) (t : Fin cfg0.N) (ht : t.val % 14 = 13) (y : S1056x2048.Idx) (r : Fin 8448)
    (hr : r.val = (grid0.coords t 0).val * 1056 + (y 0).val) :
    (outsAt0 m c t.val t.isLt).2.2 y = denseAt (hidden m c) (weights m c) r (y 1) := by
  have hN : t.val < 112 := lt_of_lt_of_eq t.isLt N_0
  have hq : 14 * (t.val / 14) + 13 = t.val := by omega
  have e := carried_eq m c (t.val / 14) y 13 (by decide) (lt_of_eq_of_lt hq t.isLt)
  simp only [hq] at e
  refine e.trans ?_
  unfold denseAt
  rw [Finset.sum_range]
  refine Eq.trans (Finset.sum_congr rfl fun s _ => ?_) (Fin.sum_mul_add_congr (S := 14) (n := 512)
    (F := fun s k => hidden m c (ix2 r ⟨s.val * 512 + k.val, by omega⟩) * weights m c (ix2 ⟨s.val * 512 + k.val, by omega⟩ (y 1)))
    (f := fun k => hidden m c (ix2 r k) * weights m c (ix2 k (y 1))) fun s k hk => rfl)
  have hs : s.val < 14 := s.isLt
  have hp : 14 * (t.val / 14) + s.val < cfg0.N := lt_of_lt_of_eq (by omega : _ < 112) N_0.symm
  obtain ⟨c0, -⟩ := coords_eq t
  obtain ⟨d0, d1⟩ := coords_eq ⟨14 * (t.val / 14) + s.val, hp⟩
  dsimp only at d0 d1
  rw [term_of_lt m c _ hp]
  unfold blockDot
  refine Finset.sum_congr rfl fun k _ => congrArg₂ (· * ·) (rowsAt_apply m c _ (y 0) k r _ ?_ ?_) (weightsAt_apply m c _ k (y 1) _ ?_)
  · rw [hr, c0, d0]; congr 2; omega
  · show s.val * 512 + k.val = _; rw [d1]; congr 2; omega
  · show s.val * 512 + k.val = _; rw [d1]; congr 2; omega

/-- The layer norm of a block of rows, where they lie in the array. -/
theorem normed_eq (c : Dev nD) (t : Fin cfg0.N) (ht : t.val % 14 = 13) (y : S1056x2048.Idx) (r : Fin 8448) (f : Fin 2048)
    (hr : r.val = (grid0.coords t 0).val * 1056 + (y 0).val) (hf : f.val = (y 1).val) :
    normed (iblk m c 0 t) (outsAt0 m c t.val t.isLt).2.2 (iblk m c 3 t) (iblk m c 4 t) y
      = layerAt (hidden m c) (weights m c) (residual m c) (scale m c) (shift m c) r f := by
  unfold normed layerAt
  exact normAt_congr (congrArg₂ mixed (funext fun k => residual_apply m c t (y 0) k r hr) (funext fun k => carried_last_eq m c t ht (ix2 (y 0) k) r hr))
    (funext fun k => scale_apply m c t k) (funext fun k => shift_apply m c t k) (Fin.ext hf.symm)

/-- The block the last point of a contraction leaves: the layer norm of its rows, where they lie in the array. -/
theorem wide_eq (c : Dev nD) (t : Fin cfg0.N) (ht : t.val % 14 = 13) (y : S1056x2048.Idx) (r : Fin 8448) (f : Fin 2048)
    (hr : r.val = (grid0.coords t 0).val * 1056 + (y 0).val) (hf : f.val = (y 1).val) :
    (outsAt0 m c t.val t.isLt).1 y = layerAt (hidden m c) (weights m c) (residual m c) (scale m c) (shift m c) r f := by
  have h0 : ¬t.val % 14 = 0 := by omega
  have hs : (outsAt0 m c t.val t.isLt).2.2 = k0_pay2 (F := Ideal) (outsAt0 m c (t.val - 1) (Nat.lt_of_le_of_lt (Nat.sub_le _ _) t.isLt)).2.2 (rowsAt m c t) (weightsAt m c t) := by
    rw [outsAt0_C m c t h0 ht]
    dsimp only
    rw [carried_last]
  have e : (outsAt0 m c t.val t.isLt).1 y = normed (iblk m c 0 t) (outsAt0 m c t.val t.isLt).2.2 (iblk m c 3 t) (iblk m c 4 t) y := by
    rw [hs, outsAt0_C m c t h0 ht]
    dsimp only
    rw [out_wide]
  rw [e]
  exact normed_eq m c t ht y r f hr hf

/-- The block the last point of a contraction leaves, narrowed: the layer norm of its rows, where they lie in the array. -/
theorem narrow_eq (c : Dev nD) (t : Fin cfg0.N) (ht : t.val % 14 = 13) (y : S1056x2048.Idx) (r : Fin 8448) (f : Fin 2048)
    (hr : r.val = (grid0.coords t 0).val * 1056 + (y 0).val) (hf : f.val = (y 1).val) :
    (outsAt0 m c t.val t.isLt).2.1 y = layerAt (hidden m c) (weights m c) (residual m c) (scale m c) (shift m c) r f := by
  have h0 : ¬t.val % 14 = 0 := by omega
  have hs : (outsAt0 m c t.val t.isLt).2.2 = k0_pay2 (F := Ideal) (outsAt0 m c (t.val - 1) (Nat.lt_of_le_of_lt (Nat.sub_le _ _) t.isLt)).2.2 (rowsAt m c t) (weightsAt m c t) := by
    rw [outsAt0_C m c t h0 ht]
    dsimp only
    rw [carried_last]
  have e : (outsAt0 m c t.val t.isLt).2.1 y = normed (iblk m c 0 t) (outsAt0 m c t.val t.isLt).2.2 (iblk m c 3 t) (iblk m c 4 t) y := by
    rw [hs, outsAt0_C m c t h0 ht]
    dsimp only
    rw [out_narrow]
  rw [e]
  exact normed_eq m c t ht y r f hr hf

/-- The array the run leaves. -/
theorem final_wide (c : Dev nD) :
    (dats m 0 c).arrAt 5 cfg0.N = fun i : S8448x2048.Idx => layerAt (hidden m c) (weights m c) (residual m c) (scale m c) (shift m c) (i 0) (i 1) := by
  refine (dats m 0 c).arrAt_eq_of_covers 5 _ ?_ fun t hf y => ?_
  · refine (cfg0.win 5).covers_of_indexMap_surj rfl (fun a => ?_) fun β => ?_
    · match a with
      | ⟨0, _⟩ => exact (by decide : 0 < 1056)
      | ⟨1, _⟩ => exact (by decide : 0 < 2048)
    · have b0 : (β (0 : Fin 2)).val < 8 := lt_of_lt_of_eq (β (0 : Fin 2)).isLt (by show (8448 + 1056 - 1) / 1056 = 8; decide)
      have b1 : (β (1 : Fin 2)).val < 1 := lt_of_lt_of_eq (β (1 : Fin 2)).isLt (by show (2048 + 2048 - 1) / 2048 = 1; decide)
      refine ⟨fun a => match a with | ⟨0, _⟩ => ⟨(β (0 : Fin 2)).val, b0⟩ | ⟨1, _⟩ => (⟨0, by decide⟩ : Fin 14), fun a => ?_⟩
      match a with
      | ⟨0, _⟩ => show (BitVec.ofNat 32 (β (0 : Fin 2)).val).toNat = (β (0 : Fin 2)).val; rw [BitVec.toNat_ofNat, Nat.mod_eq_of_lt (by omega)]
      | ⟨1, _⟩ => show 0 = (β (1 : Fin 2)).val; omega
  · have ht : t.val % 14 = 13 := (flush0_5 t).1 hf
    blk_simp
    rw [after0_5]
    refine wide_eq m c t ht y _ _ ?_ ?_
    · blk_simp; rw [index5 t]; rfl
    · blk_simp; rw [index5 t]; show 0 * 2048 + (y 1 : ℕ) = (y 1 : ℕ); omega

/-- The array the run leaves, narrowed. -/
theorem final_narrow (c : Dev nD) :
    (dats m 0 c).arrAt 6 cfg0.N = fun i : S8448x2048.Idx => layerAt (hidden m c) (weights m c) (residual m c) (scale m c) (shift m c) (i 0) (i 1) := by
  refine (dats m 0 c).arrAt_eq_of_covers 6 _ ?_ fun t hf y => ?_
  · refine (cfg0.win 6).covers_of_indexMap_surj rfl (fun a => ?_) fun β => ?_
    · match a with
      | ⟨0, _⟩ => exact (by decide : 0 < 1056)
      | ⟨1, _⟩ => exact (by decide : 0 < 2048)
    · have b0 : (β (0 : Fin 2)).val < 8 := lt_of_lt_of_eq (β (0 : Fin 2)).isLt (by show (8448 + 1056 - 1) / 1056 = 8; decide)
      have b1 : (β (1 : Fin 2)).val < 1 := lt_of_lt_of_eq (β (1 : Fin 2)).isLt (by show (2048 + 2048 - 1) / 2048 = 1; decide)
      refine ⟨fun a => match a with | ⟨0, _⟩ => ⟨(β (0 : Fin 2)).val, b0⟩ | ⟨1, _⟩ => (⟨0, by decide⟩ : Fin 14), fun a => ?_⟩
      match a with
      | ⟨0, _⟩ => show (BitVec.ofNat 32 (β (0 : Fin 2)).val).toNat = (β (0 : Fin 2)).val; rw [BitVec.toNat_ofNat, Nat.mod_eq_of_lt (by omega)]
      | ⟨1, _⟩ => show 0 = (β (1 : Fin 2)).val; omega
  · have ht : t.val % 14 = 13 := (flush0_6 t).1 hf
    blk_simp
    rw [after0_6]
    refine narrow_eq m c t ht y _ _ ?_ ?_
    · blk_simp; rw [index6 t]; rfl
    · blk_simp; rw [index6 t]; show 0 * 2048 + (y 1 : ℕ) = (y 1 : ℕ); omega

end Cert.DenseDownIdeal.Dense

end
-- ==== Proof.DenseDownReferenceIdeal.Value.lean ====
module

public import proofs.«01_k».proof.Proof.Gen.DenseDownReferenceIdeal.Read
public import proofs.«01_k».proof.Proof.Norm

@[expose] public section

/-! The reference of the dense down product with its layer norm, index by index. -/

noncomputable section

namespace Cert.DenseDownReferenceIdeal.Dense

open Idealize.ShloMosaic Idealize.ShloMosaic.TcCoe Idealize.ShloMosaic.Tactic
open Cert.DenseDownReferenceIdeal Cert.DenseDownReferenceIdeal.Read Cert.Norm

variable (x0 : (⟨S8448x7168, .bf16⟩ : BufTy).Contents (Elt Ideal)) (x1 : (⟨S7168x2048, .f32⟩ : BufTy).Contents (Elt Ideal))
  (x2 : (⟨S8448x2048, .f32⟩ : BufTy).Contents (Elt Ideal)) (x3 x4 : (⟨S2048, .f32⟩ : BufTy).Contents (Elt Ideal))

/-- The row that the reference normalises. -/
abbrev row (r : Fin 8448) : Fin 2048 → EReal := mixed (fun k => x2 (ix2 r k)) (fun k => denseAt x0 x1 r k)

/-- The scaled residual and the product. -/
theorem sum_apply (i : S8448x2048.Idx) : val_main_v4 (F := Ideal) x0 x1 x2 i = row x0 x1 x2 (i 0) (i 1) := by
  rw [val_main_v4_apply, val_main_v1_apply, val_main_v0_apply, val_main_cst_apply, val_main_v3_apply]
  refine congrArg₂ (· + ·) (congrArg (alpha * ·) (congrArg x2 (funext fun a => ?_))) (Finset.sum_congr rfl fun k _ =>
    congrArg₂ (· * ·) (congrArg x0 (funext fun a => ?_)) (congrArg x1 (funext fun a => ?_)))
  all_goals match a with
    | ⟨0, _⟩ => rfl
    | ⟨1, _⟩ => rfl

/-- The rows' means. -/
theorem mean_apply (i : S8448x1.Idx) : val_main_v8 (F := Ideal) x0 x1 x2 i = meanOf (row x0 x1 x2 (i 0)) := by
  rw [val_main_v8_apply, val_main_v6_apply, val_main_v7_apply, val_main_v5_apply, val_main_cst_0_apply, val_main_cst_1_apply]
  simp only [sum_apply]
  unfold meanOf width
  pointwise
  rfl

/-- The rows less their means. -/
theorem centred_apply (i : S8448x2048.Idx) : val_main_v10 (F := Ideal) x0 x1 x2 i = centred (row x0 x1 x2 (i 0)) (i 1) := by
  rw [val_main_v10_apply, val_main_v9_apply, sum_apply, mean_apply]
  rfl

theorem centred_again_apply (i : S8448x2048.Idx) : val_main_v17 (F := Ideal) x0 x1 x2 i = centred (row x0 x1 x2 (i 0)) (i 1) := by
  rw [val_main_v17_apply, val_main_v16_apply, sum_apply, mean_apply]
  rfl

/-- The rows' variances. -/
theorem var_apply (i : S8448x1.Idx) : val_main_v15 (F := Ideal) x0 x1 x2 i = varOf (row x0 x1 x2 (i 0)) := by
  rw [val_main_v15_apply, val_main_v13_apply, val_main_v14_apply, val_main_v12_apply, val_main_cst_2_apply, val_main_cst_3_apply]
  simp only [val_main_v11_apply, centred_apply]
  unfold varOf meanOf width
  pointwise
  rfl

/-- The reference's result. -/
theorem ref_at (i : S8448x2048.Idx) : val_main_v28 (F := Ideal) x0 x1 x2 x3 x4 i = layerAt x0 x1 x2 x3 x4 (i 0) (i 1) := by
  rw [val_main_v28_apply, val_main_v25_apply, val_main_v22_apply, centred_again_apply, val_main_v21_apply, val_main_v20_apply, val_main_v19_apply,
    var_apply, val_main_v18_apply, val_main_cst_4_apply, val_main_v24_apply, val_main_v23_apply, val_main_v27_apply, val_main_v26_apply]
  refine congrArg₂ (· + ·) (congrArg₂ (· * ·) rfl (congrArg x3 (funext fun a => ?_))) (congrArg x4 (funext fun a => ?_))
  all_goals match a with
    | ⟨0, _⟩ => rfl

/-- The narrowed result. -/
theorem ref_narrow_at (i : S8448x2048.Idx) : val_main_v29 (F := Ideal) x0 x1 x2 x3 x4 i = layerAt x0 x1 x2 x3 x4 (i 0) (i 1) :=
  ref_at x0 x1 x2 x3 x4 i

end Cert.DenseDownReferenceIdeal.Dense

end
-- ==== Proof.DenseDownClaim.lean ====
module

public import proofs.«01_k».proof.Defs
public import proofs.«01_k».proof.Proof.Gen.DenseDown.Frame
public import proofs.«01_k».proof.Proof.DenseDownIdeal.Value
public import proofs.«01_k».proof.Proof.DenseDownReferenceIdeal.Value
public import Idealize.ShloMosaic.Lib.Claim

@[expose] public section

/-! The claims of the dense down product with its residual and its layer norm. -/

namespace Cert.DenseDownClaim

open Idealize.ShloMosaic Idealize.ShloMosaic.TcCoe Idealize.SL.Sem

theorem frame_kernel : Cert.quiescent_DenseDown := fun m g _ => Cert.DenseDown.Gen.frame m g

theorem frame_ideal : Cert.quiescent_DenseDownIdeal := fun m g _ => Cert.DenseDownIdeal.Gen.frame m g

theorem frame_reference : Cert.quiescent_DenseDownReferenceIdeal := fun m g _ =>
  (θ_run Cert.DenseDownReferenceIdeal.defs _ _).mono (fun r h => ⟨fun c => (h c).2.2, sem_eq_zero_of_no_sems (by decide) _⟩) (Cert.DenseDownReferenceIdeal.Value.run m g)

theorem value : Cert.algebraic_DenseDownIdeal_DenseDownReferenceIdeal := by
  intro m g m' g' hpre hagree
  refine ⟨fun c => (Cert.DenseDownIdeal.Gen.dats m 0 c).arrAt 5 Cert.DenseDownIdeal.cfg0.N, fun c => (Cert.DenseDownIdeal.Gen.dats m 0 c).arrAt 6 Cert.DenseDownIdeal.cfg0.N, Cert.DenseDownIdeal.Value.run_blocks m g, ?_⟩
  refine (θ_run Cert.DenseDownReferenceIdeal.defs _ _).mono (fun r h c => ⟨(h c).1.trans ((Cert.DenseDownReferenceIdeal.Read.val_main_v28_eq _ _ _ _ _).trans ?_), (h c).2.1.trans ((Cert.DenseDownReferenceIdeal.Read.val_main_v29_eq _ _ _ _ _).trans ?_), (h c).2.2⟩) (Cert.DenseDownReferenceIdeal.Value.run m' g')
  · obtain ⟨a0, a1, a2, a3, a4⟩ := hagree c
    obtain rfl : c = 0 := Subsingleton.elim _ _
    refine Eq.trans ?_ (Cert.DenseDownIdeal.Dense.final_wide m 0).symm
    funext i
    rw [a0, a1, a2, a3, a4]
    exact Cert.DenseDownReferenceIdeal.Dense.ref_at _ _ _ _ _ i
  · obtain ⟨a0, a1, a2, a3, a4⟩ := hagree c
    obtain rfl : c = 0 := Subsingleton.elim _ _
    refine Eq.trans ?_ (Cert.DenseDownIdeal.Dense.final_narrow m 0).symm
    funext i
    rw [a0, a1, a2, a3, a4]
    exact Cert.DenseDownReferenceIdeal.Dense.ref_narrow_at _ _ _ _ _ i

end Cert.DenseDownClaim
-- ==== Proof.AttentionOutIdeal.Body.lean ====
module

public import proofs.«01_k».proof.Proof.Gen.AttentionOutIdeal.Value
public import Idealize.ShloMosaic.PureOps.Ideal
public import Idealize.ShloMosaic.Lib.Pointwise
public import Idealize.ShloMosaic.Lib.ValueIdx
public import Idealize.ShloMosaic.Lib.Pipeline.Value

@[expose] public section

/-! What one grid point of an output projection leaves in the accumulator it carries. -/

noncomputable section

namespace Cert.AttentionOutIdeal.Output

open Idealize.ShloMosaic Idealize.ShloMosaic.TcCoe Idealize.ShloMosaic.Tactic
open Cert.AttentionOutIdeal Cert.AttentionOutIdeal.Gen

variable {F : FTy → Type} [FloatOps F]

/-- The offsets of a whole block. -/
theorem off_zero : (![0, 0] : Fin 2 → ℕ) = fun _ => 0 := funext fun a => by fin_cases a <;> rfl

/-- A point in the middle of a contraction adds its product to the accumulator. -/
theorem carried_mid (c : Dev nD) (i : grid0.Coords)
    (a2 : Memref sig .tc .vmem S1056x2048 .f32) (h2 : a2.IsWhole) (a3 : Memref sig .tc .vmem S1056x512 .bf16) (h3 : a3.IsWhole)
    (a4 : Memref sig .tc .vmem S512x2048 .f32) (h4 : a4.IsWhole) (a5 : Memref sig .tc .vmem S1x2048 .f32) (h5 : a5.IsWhole)
    (a6 : Memref sig .tc .vmem S1x2048 .f32) (h6 : a6.IsWhole) (a7 : Memref sig .tc .vmem S1056x2048 .f32) (h7 : a7.IsWhole)
    (a8 : Memref sig .tc .vmem S1056x2048 .bf16) (h8 : a8.IsWhole) (a9 : Memref sig .tc .vmem S1056x2048 .f32) (h9 : a9.IsWhole)
    (hc0 : ¬cond0_0 i) (hc1 : ¬cond0_1 i) (x0 : Vec F S1056x2048 .f32) (x1 : Vec F S1056x512 .bf16) (x2 : Vec F S512x2048 .f32)
    (x3 : Vec F S1x2048 .f32) (x4 : Vec F S1x2048 .f32) (xs : Vec F S1056x2048 .f32) :
    sout0_B_0 c i a2 h2 a3 h3 a4 h4 a5 h5 a6 h6 a7 h7 a8 h8 a9 h9 hc0 hc1 x0 x1 x2 x3 x4 xs = k0_pay2 xs x1 x2 := by
  unfold sout0_B_0
  rw [View.read_writes_eq_canon _ _ _ (scover0_B_0 c i a2 h2 a3 h3 a4 h4 a5 h5 a6 h6 a7 h7 a8 h8 a9 h9 hc0 hc1 x0 x1 x2 x3 x4 xs)]
  unfold kernelRun0_B
  dsimp only
  rw [View.canon_unit_zero off_zero]
  simp only [View.readAt_eq_ld, h2.read_unread, h3.read_unread, h4.read_unread, h9.read_unread, View.ld_unit_zero (S := S1056x2048) off_zero, View.ld_unit_zero (S := S1056x512) off_zero, View.ld_unit_zero (S := S512x2048) off_zero]

/-- The first point of a contraction starts from the reset block. -/
theorem carried_first (c : Dev nD) (i : grid0.Coords)
    (a2 : Memref sig .tc .vmem S1056x2048 .f32) (h2 : a2.IsWhole) (a3 : Memref sig .tc .vmem S1056x512 .bf16) (h3 : a3.IsWhole)
    (a4 : Memref sig .tc .vmem S512x2048 .f32) (h4 : a4.IsWhole) (a5 : Memref sig .tc .vmem S1x2048 .f32) (h5 : a5.IsWhole)
    (a6 : Memref sig .tc .vmem S1x2048 .f32) (h6 : a6.IsWhole) (a7 : Memref sig .tc .vmem S1056x2048 .f32) (h7 : a7.IsWhole)
    (a8 : Memref sig .tc .vmem S1056x2048 .bf16) (h8 : a8.IsWhole) (a9 : Memref sig .tc .vmem S1056x2048 .f32) (h9 : a9.IsWhole)
    (hc0 : cond0_0 i) (hc1 : ¬cond0_1 i) (x0 : Vec F S1056x2048 .f32) (x1 : Vec F S1056x512 .bf16) (x2 : Vec F S512x2048 .f32)
    (x3 : Vec F S1x2048 .f32) (x4 : Vec F S1x2048 .f32) :
    sout0_A_0 c i a2 h2 a3 h3 a4 h4 a5 h5 a6 h6 a7 h7 a8 h8 a9 h9 hc0 hc1 x0 x1 x2 x3 x4 = k0_pay2 k0_pay1 x1 x2 := by
  unfold sout0_A_0
  rw [View.read_writes_eq_canon _ _ _ (scover0_A_0 c i a2 h2 a3 h3 a4 h4 a5 h5 a6 h6 a7 h7 a8 h8 a9 h9 hc0 hc1 x0 x1 x2 x3 x4)]
  unfold kernelRun0_A
  dsimp only
  sl_unfold_words
  rw [View.canon_cons_unit_zero (S := S1056x2048) off_zero, View.readCov_unit_zero (S := S1056x2048) _ off_zero]
  simp only [View.readAt_eq_ld, h3.read_unread, h4.read_unread, View.ld_unit_zero (S := S1056x512) off_zero, View.ld_unit_zero (S := S512x2048) off_zero]

/-- The last point of a contraction adds its product too. -/
theorem carried_last (c : Dev nD) (i : grid0.Coords)
    (a2 : Memref sig .tc .vmem S1056x2048 .f32) (h2 : a2.IsWhole) (a3 : Memref sig .tc .vmem S1056x512 .bf16) (h3 : a3.IsWhole)
    (a4 : Memref sig .tc .vmem S512x2048 .f32) (h4 : a4.IsWhole) (a5 : Memref sig .tc .vmem S1x2048 .f32) (h5 : a5.IsWhole)
    (a6 : Memref sig .tc .vmem S1x2048 .f32) (h6 : a6.IsWhole) (a7 : Memref sig .tc .vmem S1056x2048 .f32) (h7 : a7.IsWhole)
    (a8 : Memref sig .tc .vmem S1056x2048 .bf16) (h8 : a8.IsWhole) (a9 : Memref sig .tc .vmem S1056x2048 .f32) (h9 : a9.IsWhole)
    (hc0 : ¬cond0_0 i) (hc1 : cond0_1 i) (x0 : Vec F S1056x2048 .f32) (x1 : Vec F S1056x512 .bf16) (x2 : Vec F S512x2048 .f32)
    (x3 : Vec F S1x2048 .f32) (x4 : Vec F S1x2048 .f32) (xs : Vec F S1056x2048 .f32) :
    sout0_C_0 c i a2 h2 a3 h3 a4 h4 a5 h5 a6 h6 a7 h7 a8 h8 a9 h9 hc0 hc1 x0 x1 x2 x3 x4 xs = k0_pay2 xs x1 x2 := by
  unfold sout0_C_0
  rw [View.read_writes_eq_canon _ _ _ (scover0_C_0 c i a2 h2 a3 h3 a4 h4 a5 h5 a6 h6 a7 h7 a8 h8 a9 h9 hc0 hc1 x0 x1 x2 x3 x4 xs)]
  unfold kernelRun0_C
  dsimp only
  sl_unfold_words
  rw [View.canon_unit_zero off_zero]
  simp only [View.readAt_eq_ld, h2.read_unread, h3.read_unread, h4.read_unread, h9.read_unread, View.ld_unit_zero (S := S1056x2048) off_zero, View.ld_unit_zero (S := S1056x512) off_zero, View.ld_unit_zero (S := S512x2048) off_zero]

end Cert.AttentionOutIdeal.Output

end
-- ==== Proof.AttentionOutIdeal.Rows.lean ====
module

public import proofs.«01_k».proof.Proof.AttentionOutIdeal.Body
public import proofs.«01_k».proof.Proof.Norm

@[expose] public section

/-! The output projection's arithmetic, entry by entry. -/

noncomputable section

namespace Cert.AttentionOutIdeal.Output

open Idealize.ShloMosaic Idealize.ShloMosaic.TcCoe Idealize.ShloMosaic.Tactic
open Cert.AttentionOutIdeal Cert.AttentionOutIdeal.Gen Cert.Norm

/-- The reset block. -/
theorem reset_apply (j : S1056x2048.Idx) : k0_pay1 (F := Ideal) j = 0 := by
  pointwise [k0_pay1]

/-- The product of one block of rows and one block of the weights. -/
def blockDot (x : S1056x512.Idx → EReal) (w : S512x2048.Idx → EReal) (j : S1056x2048.Idx) : EReal :=
  ∑ k : Fin 512, x (ix2 (j 0) k) * w (ix2 k (j 1))

/-- What a point adds to the accumulator. -/
theorem added_apply (a : Vec Ideal S1056x2048 .f32) (x : Vec Ideal S1056x512 .bf16) (w : Vec Ideal S512x2048 .f32) (j : S1056x2048.Idx) :
    k0_pay2 (F := Ideal) a x w j = a j + blockDot x w j := by
  unfold blockDot
  pointwise [k0_pay2]

/-- The layer norm of a chunk of rows. -/
theorem norm_apply (x a : Vec Ideal S96x2048 .f32) (g b : Vec Ideal S1x2048 .f32) (j : S96x2048.Idx) :
    k0_pay3 (F := Ideal) x a g b j
      = normAt (mixed (fun k => x (ix2 (j 0) k)) (fun k => a (ix2 (j 0) k))) (fun k => g (ix2 0 k)) (fun k => b (ix2 0 k)) (j 1) := by
  unfold normAt varOf centred meanOf mixed alpha width eps
  pointwise [k0_pay3]

end Cert.AttentionOutIdeal.Output

end
-- ==== Proof.AttentionOutIdeal.Sum.lean ====
module

public import proofs.«01_k».proof.Proof.AttentionOutIdeal.Rows

@[expose] public section

/-! The accumulator after each point of a contraction: the sum of the products so far. -/

noncomputable section

namespace Cert.AttentionOutIdeal.Output

open Idealize.ShloMosaic Idealize.ShloMosaic.TcCoe Idealize.ShloMosaic.Tactic
open Idealize.ShloMosaic.Pipeline (Dat Window)
open Cert.AttentionOutIdeal Cert.AttentionOutIdeal.Gen

variable (m : (ℓ : Loc nD τ sig) → Buf (Elt Ideal) ℓ)

abbrev rowsAt (c : Dev nD) (t : Fin cfg0.N) : Vec Ideal S1056x512 .bf16 := iblk m c 1 t
abbrev weightsAt (c : Dev nD) (t : Fin cfg0.N) : Vec Ideal S512x2048 .f32 := iblk m c 2 t

/-- What the point `n` adds. -/
def term (c : Dev nD) (n : ℕ) (y : S1056x2048.Idx) : EReal :=
  if h : n < cfg0.N then blockDot (rowsAt m c ⟨n, h⟩) (weightsAt m c ⟨n, h⟩) y else 0

theorem term_of_lt (c : Dev nD) (n : ℕ) (h : n < cfg0.N) (y : S1056x2048.Idx) :
    term m c n y = blockDot (rowsAt m c ⟨n, h⟩) (weightsAt m c ⟨n, h⟩) y := dif_pos h

/-- The accumulator after point `s` of a contraction. -/
theorem carried_eq (c : Dev nD) (q : ℕ) (y : S1056x2048.Idx) : ∀ (s : ℕ) (hs : s < 4) (h : 4 * q + s < cfg0.N),
    (outsAt0 m c (4 * q + s) h).2.2 y = ∑ j ∈ Finset.range (s + 1), term m c (4 * q + j) y
  | 0, hs, h => by
    rw [outsAt0_A m c ⟨4 * q + 0, h⟩ (by show (4 * q + 0) % 4 = 0; omega) (by show ¬(4 * q + 0) % 4 = 3; omega)]
    dsimp only
    rw [carried_first, added_apply, reset_apply, zero_add, Finset.sum_range_one, term_of_lt m c _ h]
  | s + 1, hs, h => by
    rw [Finset.sum_range_succ, ← carried_eq c q y s (by omega) (by omega), term_of_lt m c _ h]
    by_cases hl : s + 1 = 3
    · rw [outsAt0_C m c ⟨4 * q + (s + 1), h⟩ (by show ¬(4 * q + (s + 1)) % 4 = 0; omega) (by show (4 * q + (s + 1)) % 4 = 3; omega)]
      dsimp only
      rw [carried_last, added_apply]
      rfl
    · rw [outsAt0_B m c ⟨4 * q + (s + 1), h⟩ (by show ¬(4 * q + (s + 1)) % 4 = 0; omega) (by show ¬(4 * q + (s + 1)) % 4 = 3; omega)]
      dsimp only
      rw [carried_mid, added_apply]
      rfl

end Cert.AttentionOutIdeal.Output

end
-- ==== Proof.AttentionOutIdeal.Chunks.lean ====
module

public import proofs.«01_k».proof.Proof.AttentionOutIdeal.Rows

@[expose] public section

/-! The last point of a contraction normalises its block of rows, 96 rows at a time. -/

noncomputable section

namespace Cert.AttentionOutIdeal.Output

open Idealize.ShloMosaic Idealize.ShloMosaic.TcCoe Idealize.ShloMosaic.Tactic
open Cert.AttentionOutIdeal Cert.AttentionOutIdeal.Gen Cert.Norm

/-- The layer norm of a block of rows: of the residual, scaled, and the product. -/
def normed (x a : S1056x2048.Idx → EReal) (g b : S1x2048.Idx → EReal) (y : S1056x2048.Idx) : EReal :=
  normAt (mixed (fun k => x (ix2 (y 0) k)) (fun k => a (ix2 (y 0) k))) (fun k => g (ix2 0 k)) (fun k => b (ix2 0 k)) (y 1)

/-- A buffer written whole reads as what was written. -/
theorem read_whole (a : Memref sig .tc .vmem S1056x2048 .f32) (f : BufTy.Contents (Elt Ideal) a.view.ty) (w : Vec Ideal S1056x2048 .f32) :
    a.view.read (Elt Ideal) (a.view.writes (Elt Ideal) f [⟨Rect.unit (s := S1056x2048) ![0, 0] S1056x2048.size inb_S1056x2048_S1056x2048_0_0, w⟩]) = w := by
  rw [View.read_writes_eq_canon _ _ _ (fun y => ⟨_, List.mem_singleton.2 rfl, View.mem_set_unit_zero off_zero inb_S1056x2048_S1056x2048_0_0 y⟩)]
  rw [View.canon_unit_zero off_zero]

/-- The narrowed layer norm of a chunk of rows is the layer norm. -/
theorem narrowed_apply (x a : Vec Ideal S96x2048 .f32) (g b : Vec Ideal S1x2048 .f32) (j : S96x2048.Idx) :
    k0_pay4 (F := Ideal) x a g b j
      = normAt (mixed (fun k => x (ix2 (j 0) k)) (fun k => a (ix2 (j 0) k))) (fun k => g (ix2 0 k)) (fun k => b (ix2 0 k)) (j 1) :=
  norm_apply x a g b j

/-- One trip of the loop stores the layer norm of its 96 rows. -/
theorem trip_wide (𝒱 : Variants) (c : Dev nD) (bd : Option 𝒱.V) (i : grid0.Coords)
    (a2 : Memref sig .tc .vmem S1056x2048 .f32) (h2 : a2.IsWhole) (a3 : Memref sig .tc .vmem S1056x512 .bf16) (h3 : a3.IsWhole)
    (a4 : Memref sig .tc .vmem S512x2048 .f32) (h4 : a4.IsWhole) (a5 : Memref sig .tc .vmem S1x2048 .f32) (h5 : a5.IsWhole)
    (a6 : Memref sig .tc .vmem S1x2048 .f32) (h6 : a6.IsWhole) (a7 : Memref sig .tc .vmem S1056x2048 .f32) (h7 : a7.IsWhole)
    (a8 : Memref sig .tc .vmem S1056x2048 .bf16) (h8 : a8.IsWhole) (a9 : Memref sig .tc .vmem S1056x2048 .f32) (h9 : a9.IsWhole)
    (hc1 : cond0_1 i) (X2 : BufTy.Contents (Elt Ideal) a2.view.ty) (X5 : BufTy.Contents (Elt Ideal) a5.view.ty)
    (X6 : BufTy.Contents (Elt Ideal) a6.view.ty) (X9 : BufTy.Contents (Elt Ideal) a9.view.ty) (n : Fin k0_t1_loop.trips) :
    ∀ p ∈ (tripL_k0_t1 (F := Ideal) 𝒱 c bd i a2 h2 a3 h3 a4 h4 a5 h5 a6 h6 a7 h7 a8 h8 a9 h9 hc1 X2 X5 X6 X9 n).1, ∀ x : p.1.shape.Idx,
      p.2 x = normed (a2.view.read (Elt Ideal) X2) (a9.view.read (Elt Ideal) X9) (a5.view.read (Elt Ideal) X5) (a6.view.read (Elt Ideal) X6) (p.1.emb x) := by
  intro p hp x
  unfold tripL_k0_t1 trip_k0_t1 at hp
  dsimp only at hp
  rw [List.mem_singleton] at hp
  subst hp
  refine (norm_apply _ _ _ _ x).trans ?_
  simp only [View.readAt_eq_ld]
  unfold normed
  refine normAt_congr (congrArg₂ mixed (funext fun k => ?_) (funext fun k => ?_)) (funext fun k => ?_) (funext fun k => ?_) (Fin.ext ?_)
  · refine congrArg (a2.view.read (Elt Ideal) X2) (funext fun a => Fin.ext ?_)
    match a with
    | ⟨0, _⟩ => rfl
    | ⟨1, _⟩ => show 0 + 1 * (k : ℕ) = (k : ℕ); omega
  · refine congrArg (a9.view.read (Elt Ideal) X9) (funext fun a => Fin.ext ?_)
    match a with
    | ⟨0, _⟩ => rfl
    | ⟨1, _⟩ => show 0 + 1 * (k : ℕ) = (k : ℕ); omega
  · refine congrArg (a5.view.read (Elt Ideal) X5) (funext fun a => Fin.ext ?_)
    match a with
    | ⟨0, _⟩ => rfl
    | ⟨1, _⟩ => show 0 + 1 * (k : ℕ) = (k : ℕ); omega
  · refine congrArg (a6.view.read (Elt Ideal) X6) (funext fun a => Fin.ext ?_)
    match a with
    | ⟨0, _⟩ => rfl
    | ⟨1, _⟩ => show 0 + 1 * (k : ℕ) = (k : ℕ); omega
  · show (x 1 : ℕ) = 0 + 1 * (x 1 : ℕ); omega

/-- The same of the narrowed result. -/
theorem trip_narrow (𝒱 : Variants) (c : Dev nD) (bd : Option 𝒱.V) (i : grid0.Coords)
    (a2 : Memref sig .tc .vmem S1056x2048 .f32) (h2 : a2.IsWhole) (a3 : Memref sig .tc .vmem S1056x512 .bf16) (h3 : a3.IsWhole)
    (a4 : Memref sig .tc .vmem S512x2048 .f32) (h4 : a4.IsWhole) (a5 : Memref sig .tc .vmem S1x2048 .f32) (h5 : a5.IsWhole)
    (a6 : Memref sig .tc .vmem S1x2048 .f32) (h6 : a6.IsWhole) (a7 : Memref sig .tc .vmem S1056x2048 .f32) (h7 : a7.IsWhole)
    (a8 : Memref sig .tc .vmem S1056x2048 .bf16) (h8 : a8.IsWhole) (a9 : Memref sig .tc .vmem S1056x2048 .f32) (h9 : a9.IsWhole)
    (hc1 : cond0_1 i) (X2 : BufTy.Contents (Elt Ideal) a2.view.ty) (X5 : BufTy.Contents (Elt Ideal) a5.view.ty)
    (X6 : BufTy.Contents (Elt Ideal) a6.view.ty) (X9 : BufTy.Contents (Elt Ideal) a9.view.ty) (n : Fin k0_t1_loop.trips) :
    ∀ p ∈ (tripL_k0_t1 (F := Ideal) 𝒱 c bd i a2 h2 a3 h3 a4 h4 a5 h5 a6 h6 a7 h7 a8 h8 a9 h9 hc1 X2 X5 X6 X9 n).2, ∀ x : p.1.shape.Idx,
      p.2 x = normed (a2.view.read (Elt Ideal) X2) (a9.view.read (Elt Ideal) X9) (a5.view.read (Elt Ideal) X5) (a6.view.read (Elt Ideal) X6) (p.1.emb x) := by
  intro p hp x
  unfold tripL_k0_t1 trip_k0_t1 at hp
  dsimp only at hp
  rw [List.mem_singleton] at hp
  subst hp
  refine (narrowed_apply _ _ _ _ x).trans ?_
  simp only [View.readAt_eq_ld]
  unfold normed
  refine normAt_congr (congrArg₂ mixed (funext fun k => ?_) (funext fun k => ?_)) (funext fun k => ?_) (funext fun k => ?_) (Fin.ext ?_)
  · refine congrArg (a2.view.read (Elt Ideal) X2) (funext fun a => Fin.ext ?_)
    match a with
    | ⟨0, _⟩ => rfl
    | ⟨1, _⟩ => show 0 + 1 * (k : ℕ) = (k : ℕ); omega
  · refine congrArg (a9.view.read (Elt Ideal) X9) (funext fun a => Fin.ext ?_)
    match a with
    | ⟨0, _⟩ => rfl
    | ⟨1, _⟩ => show 0 + 1 * (k : ℕ) = (k : ℕ); omega
  · refine congrArg (a5.view.read (Elt Ideal) X5) (funext fun a => Fin.ext ?_)
    match a with
    | ⟨0, _⟩ => rfl
    | ⟨1, _⟩ => show 0 + 1 * (k : ℕ) = (k : ℕ); omega
  · refine congrArg (a6.view.read (Elt Ideal) X6) (funext fun a => Fin.ext ?_)
    match a with
    | ⟨0, _⟩ => rfl
    | ⟨1, _⟩ => show 0 + 1 * (k : ℕ) = (k : ℕ); omega
  · show (x 1 : ℕ) = 0 + 1 * (x 1 : ℕ); omega

/-- So do the trips before any one of them. -/
theorem loop_wide (𝒱 : Variants) (c : Dev nD) (bd : Option 𝒱.V) (i : grid0.Coords)
    (a2 : Memref sig .tc .vmem S1056x2048 .f32) (h2 : a2.IsWhole) (a3 : Memref sig .tc .vmem S1056x512 .bf16) (h3 : a3.IsWhole)
    (a4 : Memref sig .tc .vmem S512x2048 .f32) (h4 : a4.IsWhole) (a5 : Memref sig .tc .vmem S1x2048 .f32) (h5 : a5.IsWhole)
    (a6 : Memref sig .tc .vmem S1x2048 .f32) (h6 : a6.IsWhole) (a7 : Memref sig .tc .vmem S1056x2048 .f32) (h7 : a7.IsWhole)
    (a8 : Memref sig .tc .vmem S1056x2048 .bf16) (h8 : a8.IsWhole) (a9 : Memref sig .tc .vmem S1056x2048 .f32) (h9 : a9.IsWhole)
    (hc1 : cond0_1 i) (X2 : BufTy.Contents (Elt Ideal) a2.view.ty) (X5 : BufTy.Contents (Elt Ideal) a5.view.ty)
    (X6 : BufTy.Contents (Elt Ideal) a6.view.ty) (X9 : BufTy.Contents (Elt Ideal) a9.view.ty) : ∀ n ≤ k0_t1_loop.trips,
    ∀ p ∈ (pb_k0_t1 (F := Ideal) 𝒱 c bd i a2 h2 a3 h3 a4 h4 a5 h5 a6 h6 a7 h7 a8 h8 a9 h9 hc1 X2 X5 X6 X9 n).1, ∀ x : p.1.shape.Idx,
      p.2 x = normed (a2.view.read (Elt Ideal) X2) (a9.view.read (Elt Ideal) X9) (a5.view.read (Elt Ideal) X5) (a6.view.read (Elt Ideal) X6) (p.1.emb x)
  | 0, _, p, hp, x => absurd hp (List.not_mem_nil)
  | n + 1, hn, p, hp, x => by
    rw [pb_k0_t1_succ (F := Ideal) 𝒱 c bd i a2 h2 a3 h3 a4 h4 a5 h5 a6 h6 a7 h7 a8 h8 a9 h9 hc1 X2 X5 X6 X9 ⟨n, hn⟩] at hp
    rcases List.mem_append.1 hp with h | h
    · exact trip_wide 𝒱 c bd i a2 h2 a3 h3 a4 h4 a5 h5 a6 h6 a7 h7 a8 h8 a9 h9 hc1 X2 X5 X6 X9 ⟨n, hn⟩ p h x
    · exact loop_wide 𝒱 c bd i a2 h2 a3 h3 a4 h4 a5 h5 a6 h6 a7 h7 a8 h8 a9 h9 hc1 X2 X5 X6 X9 n (Nat.le_of_succ_le hn) p h x

/-- The same of the narrowed result. -/
theorem loop_narrow (𝒱 : Variants) (c : Dev nD) (bd : Option 𝒱.V) (i : grid0.Coords)
    (a2 : Memref sig .tc .vmem S1056x2048 .f32) (h2 : a2.IsWhole) (a3 : Memref sig .tc .vmem S1056x512 .bf16) (h3 : a3.IsWhole)
    (a4 : Memref sig .tc .vmem S512x2048 .f32) (h4 : a4.IsWhole) (a5 : Memref sig .tc .vmem S1x2048 .f32) (h5 : a5.IsWhole)
    (a6 : Memref sig .tc .vmem S1x2048 .f32) (h6 : a6.IsWhole) (a7 : Memref sig .tc .vmem S1056x2048 .f32) (h7 : a7.IsWhole)
    (a8 : Memref sig .tc .vmem S1056x2048 .bf16) (h8 : a8.IsWhole) (a9 : Memref sig .tc .vmem S1056x2048 .f32) (h9 : a9.IsWhole)
    (hc1 : cond0_1 i) (X2 : BufTy.Contents (Elt Ideal) a2.view.ty) (X5 : BufTy.Contents (Elt Ideal) a5.view.ty)
    (X6 : BufTy.Contents (Elt Ideal) a6.view.ty) (X9 : BufTy.Contents (Elt Ideal) a9.view.ty) : ∀ n ≤ k0_t1_loop.trips,
    ∀ p ∈ (pb_k0_t1 (F := Ideal) 𝒱 c bd i a2 h2 a3 h3 a4 h4 a5 h5 a6 h6 a7 h7 a8 h8 a9 h9 hc1 X2 X5 X6 X9 n).2, ∀ x : p.1.shape.Idx,
      p.2 x = normed (a2.view.read (Elt Ideal) X2) (a9.view.read (Elt Ideal) X9) (a5.view.read (Elt Ideal) X5) (a6.view.read (Elt Ideal) X6) (p.1.emb x)
  | 0, _, p, hp, x => absurd hp (List.not_mem_nil)
  | n + 1, hn, p, hp, x => by
    rw [pb_k0_t1_succ (F := Ideal) 𝒱 c bd i a2 h2 a3 h3 a4 h4 a5 h5 a6 h6 a7 h7 a8 h8 a9 h9 hc1 X2 X5 X6 X9 ⟨n, hn⟩] at hp
    rcases List.mem_append.1 hp with h | h
    · exact trip_narrow 𝒱 c bd i a2 h2 a3 h3 a4 h4 a5 h5 a6 h6 a7 h7 a8 h8 a9 h9 hc1 X2 X5 X6 X9 ⟨n, hn⟩ p h x
    · exact loop_narrow 𝒱 c bd i a2 h2 a3 h3 a4 h4 a5 h5 a6 h6 a7 h7 a8 h8 a9 h9 hc1 X2 X5 X6 X9 n (Nat.le_of_succ_le hn) p h x

/-- The block the last point leaves is the layer norm of its rows. -/
theorem out_wide (c : Dev nD) (i : grid0.Coords)
    (a2 : Memref sig .tc .vmem S1056x2048 .f32) (h2 : a2.IsWhole) (a3 : Memref sig .tc .vmem S1056x512 .bf16) (h3 : a3.IsWhole)
    (a4 : Memref sig .tc .vmem S512x2048 .f32) (h4 : a4.IsWhole) (a5 : Memref sig .tc .vmem S1x2048 .f32) (h5 : a5.IsWhole)
    (a6 : Memref sig .tc .vmem S1x2048 .f32) (h6 : a6.IsWhole) (a7 : Memref sig .tc .vmem S1056x2048 .f32) (h7 : a7.IsWhole)
    (a8 : Memref sig .tc .vmem S1056x2048 .bf16) (h8 : a8.IsWhole) (a9 : Memref sig .tc .vmem S1056x2048 .f32) (h9 : a9.IsWhole)
    (hc0 : ¬cond0_0 i) (hc1 : cond0_1 i) (x0 : Vec Ideal S1056x2048 .f32) (x1 : Vec Ideal S1056x512 .bf16) (x2 : Vec Ideal S512x2048 .f32)
    (x3 : Vec Ideal S1x2048 .f32) (x4 : Vec Ideal S1x2048 .f32) (xs : Vec Ideal S1056x2048 .f32) (y : S1056x2048.Idx) :
    out0_C_5 (F := Ideal) c i a2 h2 a3 h3 a4 h4 a5 h5 a6 h6 a7 h7 a8 h8 a9 h9 hc0 hc1 x0 x1 x2 x3 x4 xs y = normed x0 (k0_pay2 xs x1 x2) x3 x4 y := by
  unfold out0_C_5
  rw [View.read_writes_eq_canon _ _ _ (cover0_C_5 c i a2 h2 a3 h3 a4 h4 a5 h5 a6 h6 a7 h7 a8 h8 a9 h9 hc0 hc1 x0 x1 x2 x3 x4 xs)]
  refine View.canon_apply_of_pieces (Val := Elt Ideal) (e := .f32) (fun y => normed x0 (k0_pay2 xs x1 x2) x3 x4 y) _ ?_ y
    (cover0_C_5 c i a2 h2 a3 h3 a4 h4 a5 h5 a6 h6 a7 h7 a8 h8 a9 h9 hc0 hc1 x0 x1 x2 x3 x4 xs y)
  unfold kernelRun0_C
  dsimp only
  sl_unfold_words
  intro p hp x
  refine (loop_wide _ c _ i a2 h2 a3 h3 a4 h4 a5 h5 a6 h6 a7 h7 a8 h8 a9 h9 hc1 _ _ _ _ _ (le_of_eq rfl) p hp x).trans ?_
  rw [h2.read_unread, h5.read_unread, h6.read_unread, read_whole]
  simp only [View.readAt_eq_ld, h3.read_unread, h4.read_unread, h9.read_unread, View.ld_unit_zero (S := S1056x2048) off_zero, View.ld_unit_zero (S := S1056x512) off_zero, View.ld_unit_zero (S := S512x2048) off_zero]

/-- The same of the narrowed result. -/
theorem out_narrow (c : Dev nD) (i : grid0.Coords)
    (a2 : Memref sig .tc .vmem S1056x2048 .f32) (h2 : a2.IsWhole) (a3 : Memref sig .tc .vmem S1056x512 .bf16) (h3 : a3.IsWhole)
    (a4 : Memref sig .tc .vmem S512x2048 .f32) (h4 : a4.IsWhole) (a5 : Memref sig .tc .vmem S1x2048 .f32) (h5 : a5.IsWhole)
    (a6 : Memref sig .tc .vmem S1x2048 .f32) (h6 : a6.IsWhole) (a7 : Memref sig .tc .vmem S1056x2048 .f32) (h7 : a7.IsWhole)
    (a8 : Memref sig .tc .vmem S1056x2048 .bf16) (h8 : a8.IsWhole) (a9 : Memref sig .tc .vmem S1056x2048 .f32) (h9 : a9.IsWhole)
    (hc0 : ¬cond0_0 i) (hc1 : cond0_1 i) (x0 : Vec Ideal S1056x2048 .f32) (x1 : Vec Ideal S1056x512 .bf16) (x2 : Vec Ideal S512x2048 .f32)
    (x3 : Vec Ideal S1x2048 .f32) (x4 : Vec Ideal S1x2048 .f32) (xs : Vec Ideal S1056x2048 .f32) (y : S1056x2048.Idx) :
    out0_C_6 (F := Ideal) c i a2 h2 a3 h3 a4 h4 a5 h5 a6 h6 a7 h7 a8 h8 a9 h9 hc0 hc1 x0 x1 x2 x3 x4 xs y = normed x0 (k0_pay2 xs x1 x2) x3 x4 y := by
  unfold out0_C_6
  rw [View.read_writes_eq_canon _ _ _ (cover0_C_6 c i a2 h2 a3 h3 a4 h4 a5 h5 a6 h6 a7 h7 a8 h8 a9 h9 hc0 hc1 x0 x1 x2 x3 x4 xs)]
  refine View.canon_apply_of_pieces (Val := Elt Ideal) (e := .bf16) (fun y => normed x0 (k0_pay2 xs x1 x2) x3 x4 y) _ ?_ y
    (cover0_C_6 c i a2 h2 a3 h3 a4 h4 a5 h5 a6 h6 a7 h7 a8 h8 a9 h9 hc0 hc1 x0 x1 x2 x3 x4 xs y)
  unfold kernelRun0_C
  dsimp only
  sl_unfold_words
  intro p hp x
  refine (loop_narrow _ c _ i a2 h2 a3 h3 a4 h4 a5 h5 a6 h6 a7 h7 a8 h8 a9 h9 hc1 _ _ _ _ _ (le_of_eq rfl) p hp x).trans ?_
  rw [h2.read_unread, h5.read_unread, h6.read_unread, read_whole]
  simp only [View.readAt_eq_ld, h3.read_unread, h4.read_unread, h9.read_unread, View.ld_unit_zero (S := S1056x2048) off_zero, View.ld_unit_zero (S := S1056x512) off_zero, View.ld_unit_zero (S := S512x2048) off_zero]

end Cert.AttentionOutIdeal.Output

end
-- ==== Proof.AttentionOutIdeal.Value.lean ====
module

public import proofs.«01_k».proof.Proof.AttentionOutIdeal.Sum
public import proofs.«01_k».proof.Proof.AttentionOutIdeal.Chunks
public import Idealize.ShloMosaic.Lib.WholeRead
public import Idealize.ShloMosaic.Lib.Pipeline.Covers
public import Idealize.ShloMosaic.Lib.Pipeline.ValueKit

@[expose] public section

/-! What the output projection with its layer norm leaves. -/

noncomputable section

namespace Cert.AttentionOutIdeal.Output

open Idealize.ShloMosaic Idealize.ShloMosaic.TcCoe Idealize.ShloMosaic.Tactic
open Idealize.ShloMosaic.Pipeline (Dat Window)
open Cert.AttentionOutIdeal Cert.AttentionOutIdeal.Gen Cert.Norm

variable (m : (ℓ : Loc nD τ sig) → Buf (Elt Ideal) ℓ)

/-- The attended rows, the weights, the residual, the scale and the shift, as launched. -/
abbrev attended (c : Dev nD) : Vec Ideal S8448x2048 .bf16 := m ((c.tc : Thread nD τ).loc main_arg0)
abbrev weights (c : Dev nD) : Vec Ideal S2048x2048 .f32 := m ((c.tc : Thread nD τ).loc main_arg1)
abbrev residual (c : Dev nD) : Vec Ideal S8448x2048 .f32 := m ((c.tc : Thread nD τ).loc main_arg2)
abbrev scale (c : Dev nD) : Vec Ideal S2048 .f32 := m ((c.tc : Thread nD τ).loc main_arg3)
abbrev shift (c : Dev nD) : Vec Ideal S2048 .f32 := m ((c.tc : Thread nD τ).loc main_arg4)

/-- A grid coordinate as a word is itself. -/
theorem coord0 (t : Fin cfg0.N) : (BitVec.ofNat 32 (grid0.coords t 0).val).toNat = (grid0.coords t 0).val := by
  have h0 : (grid0.coords t 0).val < 8 := (grid0.coords t 0).isLt
  rw [BitVec.toNat_ofNat, Nat.mod_eq_of_lt (by omega)]

theorem coord1 (t : Fin cfg0.N) : (BitVec.ofNat 32 (grid0.coords t 1).val).toNat = (grid0.coords t 1).val := by
  have h0 : (grid0.coords t 1).val < 4 := (grid0.coords t 1).isLt
  rw [BitVec.toNat_ofNat, Nat.mod_eq_of_lt (by omega)]

/-- The coordinates of a point: its block of rows, its block of the contraction. -/
theorem coords_eq : ∀ t : Fin grid0.N, (grid0.coords t 0).val = t.val / 4 ∧ (grid0.coords t 1).val = t.val % 4 := by
  decide +kernel

/-- The blocks' indices at a point. -/
theorem index0 (t : Fin cfg0.N) : (cfg0.win 0).index t = ![(grid0.coords t 0).val, 0] := by
  show (![(BitVec.ofNat 32 (grid0.coords t 0).val).toNat, 0] : Fin 2 → ℕ) = _
  rw [coord0]

theorem index1 (t : Fin cfg0.N) : (cfg0.win 1).index t = ![(grid0.coords t 0).val, (grid0.coords t 1).val] := by
  show (![(BitVec.ofNat 32 (grid0.coords t 0).val).toNat, (BitVec.ofNat 32 (grid0.coords t 1).val).toNat] : Fin 2 → ℕ) = _
  rw [coord0, coord1]

theorem index2 (t : Fin cfg0.N) : (cfg0.win 2).index t = ![(grid0.coords t 1).val, 0] := by
  show (![(BitVec.ofNat 32 (grid0.coords t 1).val).toNat, 0] : Fin 2 → ℕ) = _
  rw [coord1]

theorem index3 (t : Fin cfg0.N) : (cfg0.win 3).index t = ![0, 0] := rfl

theorem index4 (t : Fin cfg0.N) : (cfg0.win 4).index t = ![0, 0] := rfl

theorem index5 (t : Fin cfg0.N) : (cfg0.win 5).index t = ![(grid0.coords t 0).val, 0] := by
  show (![(BitVec.ofNat 32 (grid0.coords t 0).val).toNat, 0] : Fin 2 → ℕ) = _
  rw [coord0]

theorem index6 (t : Fin cfg0.N) : (cfg0.win 6).index t = ![(grid0.coords t 0).val, 0] := by
  show (![(BitVec.ofNat 32 (grid0.coords t 0).val).toNat, 0] : Fin 2 → ℕ) = _
  rw [coord0]

/-- The scale as one row. -/
theorem scale_eq (c : Dev nD) : (V m c main_v0 : S1x2048.Idx → EReal) = shapeCast S1x2048 (scale m c) shapeCasts_S2048_S1x2048 := by
  unfold_abbrev_sides
  after_results
  all_goals rfl

theorem scale_apply (c : Dev nD) (t : Fin cfg0.N) (k : Fin 2048) : (iblk m c 3 t : Vec Ideal S1x2048 .f32) (ix2 0 k) = scale m c (ix1 k) := by
  have e : (V m c main_v0 : S1x2048.Idx → EReal) (ix2 0 k) = scale m c (ix1 k) := by
    rw [scale_eq]
    pointwise
  refine Eq.trans (congrArg (V m c main_v0) (funext fun a => Fin.ext ?_)) e
  blk_simp
  rw [index3 t]
  match a with
  | ⟨0, _⟩ => rfl
  | ⟨1, _⟩ => show 0 * 2048 + (k : ℕ) = (k : ℕ); omega

/-- The shift as one row. -/
theorem shift_eq (c : Dev nD) : (V m c main_v1 : S1x2048.Idx → EReal) = shapeCast S1x2048 (shift m c) shapeCasts_S2048_S1x2048 := by
  unfold_abbrev_sides
  after_results
  all_goals rfl

theorem shift_apply (c : Dev nD) (t : Fin cfg0.N) (k : Fin 2048) : (iblk m c 4 t : Vec Ideal S1x2048 .f32) (ix2 0 k) = shift m c (ix1 k) := by
  have e : (V m c main_v1 : S1x2048.Idx → EReal) (ix2 0 k) = shift m c (ix1 k) := by
    rw [shift_eq]
    pointwise
  refine Eq.trans (congrArg (V m c main_v1) (funext fun a => Fin.ext ?_)) e
  blk_simp
  rw [index4 t]
  match a with
  | ⟨0, _⟩ => rfl
  | ⟨1, _⟩ => show 0 * 2048 + (k : ℕ) = (k : ℕ); omega

/-- The residual's rows a point is handed, in the array. -/
theorem residual_apply (c : Dev nD) (t : Fin cfg0.N) (y : Fin 1056) (k : Fin 2048) (r : Fin 8448) (hr : r.val = (grid0.coords t 0).val * 1056 + y.val) :
    (iblk m c 0 t : Vec Ideal S1056x2048 .f32) (ix2 y k) = residual m c (ix2 r k) := by
  refine Eq.trans (congrArg (V m c main_arg2) (funext fun a => Fin.ext ?_)) (congrFun (V_main_arg2 m c) (ix2 r k))
  blk_simp
  rw [index0 t]
  match a with
  | ⟨0, _⟩ => exact hr.symm
  | ⟨1, _⟩ => show 0 * 2048 + (k : ℕ) = (k : ℕ); omega

/-- The attended rows a point is handed, in the array. -/
theorem rowsAt_apply (c : Dev nD) (t : Fin cfg0.N) (y : Fin 1056) (k : Fin 512) (r : Fin 8448) (l : Fin 2048)
    (hr : r.val = (grid0.coords t 0).val * 1056 + y.val) (hl : l.val = (grid0.coords t 1).val * 512 + k.val) :
    rowsAt m c t (ix2 y k) = attended m c (ix2 r l) := by
  refine Eq.trans (congrArg (V m c main_arg0) (funext fun a => Fin.ext ?_)) (congrFun (V_main_arg0 m c) (ix2 r l))
  blk_simp
  rw [index1 t]
  match a with
  | ⟨0, _⟩ => exact hr.symm
  | ⟨1, _⟩ => exact hl.symm

/-- The weights a point is handed, in the array. -/
theorem weightsAt_apply (c : Dev nD) (t : Fin cfg0.N) (k : Fin 512) (f : Fin 2048) (l : Fin 2048) (hl : l.val = (grid0.coords t 1).val * 512 + k.val) :
    weightsAt m c t (ix2 k f) = weights m c (ix2 l f) := by
  refine Eq.trans (congrArg (V m c main_arg1) (funext fun a => Fin.ext ?_)) (congrFun (V_main_arg1 m c) (ix2 l f))
  blk_simp
  rw [index2 t]
  match a with
  | ⟨0, _⟩ => exact hl.symm
  | ⟨1, _⟩ => show 0 * 2048 + (f : ℕ) = (f : ℕ); omega

/-- The accumulator at the end of a contraction is the rows' product. -/
theorem carried_last_eq (c : Dev nD) (t : Fin cfg0.N) (ht : t.val % 4 = 3) (y : S1056x2048.Idx) (r : Fin 8448)
    (hr : r.val = (grid0.coords t 0).val * 1056 + (y 0).val) :
    (outsAt0 m c t.val t.isLt).2.2 y = denseAt (attended m c) (weights m c) r (y 1) := by
  have hN : t.val < 32 := lt_of_lt_of_eq t.isLt N_0
  have hq : 4 * (t.val / 4) + 3 = t.val := by omega
  have e := carried_eq m c (t.val / 4) y 3 (by decide) (lt_of_eq_of_lt hq t.isLt)
  simp only [hq] at e
  refine e.trans ?_
  unfold denseAt
  rw [Finset.sum_range]
  refine Eq.trans (Finset.sum_congr rfl fun s _ => ?_) (Fin.sum_mul_add_congr (S := 4) (n := 512)
    (F := fun s k => attended m c (ix2 r ⟨s.val * 512 + k.val, by omega⟩) * weights m c (ix2 ⟨s.val * 512 + k.val, by omega⟩ (y 1)))
    (f := fun k => attended m c (ix2 r k) * weights m c (ix2 k (y 1))) fun s k hk => rfl)
  have hs : s.val < 4 := s.isLt
  have hp : 4 * (t.val / 4) + s.val < cfg0.N := lt_of_lt_of_eq (by omega : _ < 32) N_0.symm
  obtain ⟨c0, -⟩ := coords_eq t
  obtain ⟨d0, d1⟩ := coords_eq ⟨4 * (t.val / 4) + s.val, hp⟩
  dsimp only at d0 d1
  rw [term_of_lt m c _ hp]
  unfold blockDot
  refine Finset.sum_congr rfl fun k _ => congrArg₂ (· * ·) (rowsAt_apply m c _ (y 0) k r _ ?_ ?_) (weightsAt_apply m c _ k (y 1) _ ?_)
  · rw [hr, c0, d0]; congr 2; omega
  · show s.val * 512 + k.val = _; rw [d1]; congr 2; omega
  · show s.val * 512 + k.val = _; rw [d1]; congr 2; omega

/-- The layer norm of a block of rows, where they lie in the array. -/
theorem normed_eq (c : Dev nD) (t : Fin cfg0.N) (ht : t.val % 4 = 3) (y : S1056x2048.Idx) (r : Fin 8448) (f : Fin 2048)
    (hr : r.val = (grid0.coords t 0).val * 1056 + (y 0).val) (hf : f.val = (y 1).val) :
    normed (iblk m c 0 t) (outsAt0 m c t.val t.isLt).2.2 (iblk m c 3 t) (iblk m c 4 t) y
      = layerAt (attended m c) (weights m c) (residual m c) (scale m c) (shift m c) r f := by
  unfold normed layerAt
  exact normAt_congr (congrArg₂ mixed (funext fun k => residual_apply m c t (y 0) k r hr) (funext fun k => carried_last_eq m c t ht (ix2 (y 0) k) r hr))
    (funext fun k => scale_apply m c t k) (funext fun k => shift_apply m c t k) (Fin.ext hf.symm)

/-- The block the last point of a contraction leaves: the layer norm of its rows, where they lie in the array. -/
theorem wide_eq (c : Dev nD) (t : Fin cfg0.N) (ht : t.val % 4 = 3) (y : S1056x2048.Idx) (r : Fin 8448) (f : Fin 2048)
    (hr : r.val = (grid0.coords t 0).val * 1056 + (y 0).val) (hf : f.val = (y 1).val) :
    (outsAt0 m c t.val t.isLt).1 y = layerAt (attended m c) (weights m c) (residual m c) (scale m c) (shift m c) r f := by
  have h0 : ¬t.val % 4 = 0 := by omega
  have hs : (outsAt0 m c t.val t.isLt).2.2 = k0_pay2 (F := Ideal) (outsAt0 m c (t.val - 1) (Nat.lt_of_le_of_lt (Nat.sub_le _ _) t.isLt)).2.2 (rowsAt m c t) (weightsAt m c t) := by
    rw [outsAt0_C m c t h0 ht]
    dsimp only
    rw [carried_last]
  have e : (outsAt0 m c t.val t.isLt).1 y = normed (iblk m c 0 t) (outsAt0 m c t.val t.isLt).2.2 (iblk m c 3 t) (iblk m c 4 t) y := by
    rw [hs, outsAt0_C m c t h0 ht]
    dsimp only
    rw [out_wide]
  rw [e]
  exact normed_eq m c t ht y r f hr hf

/-- The block the last point of a contraction leaves, narrowed: the layer norm of its rows, where they lie in the array. -/
theorem narrow_eq (c : Dev nD) (t : Fin cfg0.N) (ht : t.val % 4 = 3) (y : S1056x2048.Idx) (r : Fin 8448) (f : Fin 2048)
    (hr : r.val = (grid0.coords t 0).val * 1056 + (y 0).val) (hf : f.val = (y 1).val) :
    (outsAt0 m c t.val t.isLt).2.1 y = layerAt (attended m c) (weights m c) (residual m c) (scale m c) (shift m c) r f := by
  have h0 : ¬t.val % 4 = 0 := by omega
  have hs : (outsAt0 m c t.val t.isLt).2.2 = k0_pay2 (F := Ideal) (outsAt0 m c (t.val - 1) (Nat.lt_of_le_of_lt (Nat.sub_le _ _) t.isLt)).2.2 (rowsAt m c t) (weightsAt m c t) := by
    rw [outsAt0_C m c t h0 ht]
    dsimp only
    rw [carried_last]
  have e : (outsAt0 m c t.val t.isLt).2.1 y = normed (iblk m c 0 t) (outsAt0 m c t.val t.isLt).2.2 (iblk m c 3 t) (iblk m c 4 t) y := by
    rw [hs, outsAt0_C m c t h0 ht]
    dsimp only
    rw [out_narrow]
  rw [e]
  exact normed_eq m c t ht y r f hr hf

/-- The array the run leaves. -/
theorem final_wide (c : Dev nD) :
    (dats m 0 c).arrAt 5 cfg0.N = fun i : S8448x2048.Idx => layerAt (attended m c) (weights m c) (residual m c) (scale m c) (shift m c) (i 0) (i 1) := by
  refine (dats m 0 c).arrAt_eq_of_covers 5 _ ?_ fun t hf y => ?_
  · refine (cfg0.win 5).covers_of_indexMap_surj rfl (fun a => ?_) fun β => ?_
    · match a with
      | ⟨0, _⟩ => exact (by decide : 0 < 1056)
      | ⟨1, _⟩ => exact (by decide : 0 < 2048)
    · have b0 : (β (0 : Fin 2)).val < 8 := lt_of_lt_of_eq (β (0 : Fin 2)).isLt (by show (8448 + 1056 - 1) / 1056 = 8; decide)
      have b1 : (β (1 : Fin 2)).val < 1 := lt_of_lt_of_eq (β (1 : Fin 2)).isLt (by show (2048 + 2048 - 1) / 2048 = 1; decide)
      refine ⟨fun a => match a with | ⟨0, _⟩ => ⟨(β (0 : Fin 2)).val, b0⟩ | ⟨1, _⟩ => (⟨0, by decide⟩ : Fin 4), fun a => ?_⟩
      match a with
      | ⟨0, _⟩ => show (BitVec.ofNat 32 (β (0 : Fin 2)).val).toNat = (β (0 : Fin 2)).val; rw [BitVec.toNat_ofNat, Nat.mod_eq_of_lt (by omega)]
      | ⟨1, _⟩ => show 0 = (β (1 : Fin 2)).val; omega
  · have ht : t.val % 4 = 3 := (flush0_5 t).1 hf
    blk_simp
    rw [after0_5]
    refine wide_eq m c t ht y _ _ ?_ ?_
    · blk_simp; rw [index5 t]; rfl
    · blk_simp; rw [index5 t]; show 0 * 2048 + (y 1 : ℕ) = (y 1 : ℕ); omega

/-- The array the run leaves, narrowed. -/
theorem final_narrow (c : Dev nD) :
    (dats m 0 c).arrAt 6 cfg0.N = fun i : S8448x2048.Idx => layerAt (attended m c) (weights m c) (residual m c) (scale m c) (shift m c) (i 0) (i 1) := by
  refine (dats m 0 c).arrAt_eq_of_covers 6 _ ?_ fun t hf y => ?_
  · refine (cfg0.win 6).covers_of_indexMap_surj rfl (fun a => ?_) fun β => ?_
    · match a with
      | ⟨0, _⟩ => exact (by decide : 0 < 1056)
      | ⟨1, _⟩ => exact (by decide : 0 < 2048)
    · have b0 : (β (0 : Fin 2)).val < 8 := lt_of_lt_of_eq (β (0 : Fin 2)).isLt (by show (8448 + 1056 - 1) / 1056 = 8; decide)
      have b1 : (β (1 : Fin 2)).val < 1 := lt_of_lt_of_eq (β (1 : Fin 2)).isLt (by show (2048 + 2048 - 1) / 2048 = 1; decide)
      refine ⟨fun a => match a with | ⟨0, _⟩ => ⟨(β (0 : Fin 2)).val, b0⟩ | ⟨1, _⟩ => (⟨0, by decide⟩ : Fin 4), fun a => ?_⟩
      match a with
      | ⟨0, _⟩ => show (BitVec.ofNat 32 (β (0 : Fin 2)).val).toNat = (β (0 : Fin 2)).val; rw [BitVec.toNat_ofNat, Nat.mod_eq_of_lt (by omega)]
      | ⟨1, _⟩ => show 0 = (β (1 : Fin 2)).val; omega
  · have ht : t.val % 4 = 3 := (flush0_6 t).1 hf
    blk_simp
    rw [after0_6]
    refine narrow_eq m c t ht y _ _ ?_ ?_
    · blk_simp; rw [index6 t]; rfl
    · blk_simp; rw [index6 t]; show 0 * 2048 + (y 1 : ℕ) = (y 1 : ℕ); omega

end Cert.AttentionOutIdeal.Output

end
-- ==== Proof.AttentionOutReferenceIdeal.Value.lean ====
module

public import proofs.«01_k».proof.Proof.Gen.AttentionOutReferenceIdeal.Read
public import proofs.«01_k».proof.Proof.Norm

@[expose] public section

/-! The reference of the output projection with its layer norm, index by index. -/

noncomputable section

namespace Cert.AttentionOutReferenceIdeal.Output

open Idealize.ShloMosaic Idealize.ShloMosaic.TcCoe Idealize.ShloMosaic.Tactic
open Cert.AttentionOutReferenceIdeal Cert.AttentionOutReferenceIdeal.Read Cert.Norm

variable (x0 : (⟨S8448x2048, .bf16⟩ : BufTy).Contents (Elt Ideal)) (x1 : (⟨S2048x2048, .f32⟩ : BufTy).Contents (Elt Ideal))
  (x2 : (⟨S8448x2048, .f32⟩ : BufTy).Contents (Elt Ideal)) (x3 x4 : (⟨S2048, .f32⟩ : BufTy).Contents (Elt Ideal))

/-- The row that the reference normalises. -/
abbrev row (r : Fin 8448) : Fin 2048 → EReal := mixed (fun k => x2 (ix2 r k)) (fun k => denseAt x0 x1 r k)

/-- The scaled residual and the product. -/
theorem sum_apply (i : S8448x2048.Idx) : val_main_v4 (F := Ideal) x0 x1 x2 i = row x0 x1 x2 (i 0) (i 1) := by
  rw [val_main_v4_apply, val_main_v1_apply, val_main_v0_apply, val_main_cst_apply, val_main_v3_apply]
  refine congrArg₂ (· + ·) (congrArg (alpha * ·) (congrArg x2 (funext fun a => ?_))) (Finset.sum_congr rfl fun k _ =>
    congrArg₂ (· * ·) (congrArg x0 (funext fun a => ?_)) (congrArg x1 (funext fun a => ?_)))
  all_goals match a with
    | ⟨0, _⟩ => rfl
    | ⟨1, _⟩ => rfl

/-- The rows' means. -/
theorem mean_apply (i : S8448x1.Idx) : val_main_v8 (F := Ideal) x0 x1 x2 i = meanOf (row x0 x1 x2 (i 0)) := by
  rw [val_main_v8_apply, val_main_v6_apply, val_main_v7_apply, val_main_v5_apply, val_main_cst_0_apply, val_main_cst_1_apply]
  simp only [sum_apply]
  unfold meanOf width
  pointwise
  rfl

/-- The rows less their means. -/
theorem centred_apply (i : S8448x2048.Idx) : val_main_v10 (F := Ideal) x0 x1 x2 i = centred (row x0 x1 x2 (i 0)) (i 1) := by
  rw [val_main_v10_apply, val_main_v9_apply, sum_apply, mean_apply]
  rfl

theorem centred_again_apply (i : S8448x2048.Idx) : val_main_v17 (F := Ideal) x0 x1 x2 i = centred (row x0 x1 x2 (i 0)) (i 1) := by
  rw [val_main_v17_apply, val_main_v16_apply, sum_apply, mean_apply]
  rfl

/-- The rows' variances. -/
theorem var_apply (i : S8448x1.Idx) : val_main_v15 (F := Ideal) x0 x1 x2 i = varOf (row x0 x1 x2 (i 0)) := by
  rw [val_main_v15_apply, val_main_v13_apply, val_main_v14_apply, val_main_v12_apply, val_main_cst_2_apply, val_main_cst_3_apply]
  simp only [val_main_v11_apply, centred_apply]
  unfold varOf meanOf width
  pointwise
  rfl

/-- The reference's result. -/
theorem ref_at (i : S8448x2048.Idx) : val_main_v28 (F := Ideal) x0 x1 x2 x3 x4 i = layerAt x0 x1 x2 x3 x4 (i 0) (i 1) := by
  rw [val_main_v28_apply, val_main_v25_apply, val_main_v22_apply, centred_again_apply, val_main_v21_apply, val_main_v20_apply, val_main_v19_apply,
    var_apply, val_main_v18_apply, val_main_cst_4_apply, val_main_v24_apply, val_main_v23_apply, val_main_v27_apply, val_main_v26_apply]
  refine congrArg₂ (· + ·) (congrArg₂ (· * ·) rfl (congrArg x3 (funext fun a => ?_))) (congrArg x4 (funext fun a => ?_))
  all_goals match a with
    | ⟨0, _⟩ => rfl

/-- The narrowed result. -/
theorem ref_narrow_at (i : S8448x2048.Idx) : val_main_v29 (F := Ideal) x0 x1 x2 x3 x4 i = layerAt x0 x1 x2 x3 x4 (i 0) (i 1) :=
  ref_at x0 x1 x2 x3 x4 i

end Cert.AttentionOutReferenceIdeal.Output

end
-- ==== Proof.AttentionOutClaim.lean ====
module

public import proofs.«01_k».proof.Defs
public import proofs.«01_k».proof.Proof.Gen.AttentionOut.Frame
public import proofs.«01_k».proof.Proof.AttentionOutIdeal.Value
public import proofs.«01_k».proof.Proof.AttentionOutReferenceIdeal.Value
public import Idealize.ShloMosaic.Lib.Claim

@[expose] public section

/-! The claims of the output projection of an attention with its residual and its layer norm. -/

namespace Cert.AttentionOutClaim

open Idealize.ShloMosaic Idealize.ShloMosaic.TcCoe Idealize.SL.Sem

theorem frame_kernel : Cert.quiescent_AttentionOut := fun m g _ => Cert.AttentionOut.Gen.frame m g

theorem frame_ideal : Cert.quiescent_AttentionOutIdeal := fun m g _ => Cert.AttentionOutIdeal.Gen.frame m g

theorem frame_reference : Cert.quiescent_AttentionOutReferenceIdeal := fun m g _ =>
  (θ_run Cert.AttentionOutReferenceIdeal.defs _ _).mono (fun r h => ⟨fun c => (h c).2.2, sem_eq_zero_of_no_sems (by decide) _⟩) (Cert.AttentionOutReferenceIdeal.Value.run m g)

theorem value : Cert.algebraic_AttentionOutIdeal_AttentionOutReferenceIdeal := by
  intro m g m' g' hpre hagree
  refine ⟨fun c => (Cert.AttentionOutIdeal.Gen.dats m 0 c).arrAt 5 Cert.AttentionOutIdeal.cfg0.N, fun c => (Cert.AttentionOutIdeal.Gen.dats m 0 c).arrAt 6 Cert.AttentionOutIdeal.cfg0.N, Cert.AttentionOutIdeal.Value.run_blocks m g, ?_⟩
  refine (θ_run Cert.AttentionOutReferenceIdeal.defs _ _).mono (fun r h c => ⟨(h c).1.trans ((Cert.AttentionOutReferenceIdeal.Read.val_main_v28_eq _ _ _ _ _).trans ?_), (h c).2.1.trans ((Cert.AttentionOutReferenceIdeal.Read.val_main_v29_eq _ _ _ _ _).trans ?_), (h c).2.2⟩) (Cert.AttentionOutReferenceIdeal.Value.run m' g')
  · obtain ⟨a0, a1, a2, a3, a4⟩ := hagree c
    obtain rfl : c = 0 := Subsingleton.elim _ _
    refine Eq.trans ?_ (Cert.AttentionOutIdeal.Output.final_wide m 0).symm
    funext i
    rw [a0, a1, a2, a3, a4]
    exact Cert.AttentionOutReferenceIdeal.Output.ref_at _ _ _ _ _ i
  · obtain ⟨a0, a1, a2, a3, a4⟩ := hagree c
    obtain rfl : c = 0 := Subsingleton.elim _ _
    refine Eq.trans ?_ (Cert.AttentionOutIdeal.Output.final_narrow m 0).symm
    funext i
    rw [a0, a1, a2, a3, a4]
    exact Cert.AttentionOutReferenceIdeal.Output.ref_narrow_at _ _ _ _ _ i

end Cert.AttentionOutClaim
-- ==== Proof.PlainQueriesIdeal.Value.lean ====
module

public import proofs.«01_k».proof.Proof.Tokens
public import proofs.«01_k».proof.Proof.Gen.PlainQueriesIdeal.Value
public import Idealize.ShloMosaic.Lib.WholeRead
public import Idealize.ShloMosaic.Lib.Pipeline.Covers

@[expose] public section

/-! What the projection of the token rows leaves. -/

noncomputable section

namespace Cert.PlainQueriesIdeal.Project

open Idealize.ShloMosaic Idealize.ShloMosaic.TcCoe Idealize.ShloMosaic.Tactic
open Idealize.ShloMosaic.Pipeline (Dat Window)
open Cert.PlainQueriesIdeal Cert.PlainQueriesIdeal.Gen Cert.Tokens

/-- What one point computes of its blocks. -/
theorem pay_apply (x : Vec Ideal S1056x2048 .bf16) (w : Vec Ideal S2048x512 .f32) (j : S1056x512.Idx) :
    k0_pay1 (F := Ideal) x w j = ∑ k : Fin 2048, x (ix2 (j 0) k) * w (ix2 k (j 1)) := by
  pointwise [k0_pay1]

theorem out_apply (x : Vec Ideal S1056x2048 .bf16) (w : Vec Ideal S2048x512 .f32) (j : S1056x512.Idx) :
    out0_2 (F := Ideal) x w j = ∑ k : Fin 2048, x (ix2 (j 0) k) * w (ix2 k (j 1)) := by
  frame_out
  exact pay_apply x w j

variable (m : (ℓ : Loc nD τ sig) → Buf (Elt Ideal) ℓ)

/-- A grid coordinate as a word is itself. -/
theorem coord0 (t : Fin cfg0.N) : (BitVec.ofNat 32 (grid0.coords t 0).val).toNat = (grid0.coords t 0).val := by
  have h0 : (grid0.coords t 0).val < 8 := (grid0.coords t 0).isLt
  rw [BitVec.toNat_ofNat, Nat.mod_eq_of_lt (by omega)]

theorem coord1 (t : Fin cfg0.N) : (BitVec.ofNat 32 (grid0.coords t 1).val).toNat = (grid0.coords t 1).val := by
  have h0 : (grid0.coords t 1).val < 4 := (grid0.coords t 1).isLt
  rw [BitVec.toNat_ofNat, Nat.mod_eq_of_lt (by omega)]

/-- The blocks' indices at a point. -/
theorem index0 (t : Fin cfg0.N) : (cfg0.win 0).index t = ![(grid0.coords t 0).val, 0] := by
  show (![(BitVec.ofNat 32 (grid0.coords t 0).val).toNat, 0] : Fin 2 → ℕ) = _
  rw [coord0]

theorem index1 (t : Fin cfg0.N) : (cfg0.win 1).index t = ![0, (grid0.coords t 1).val] := by
  show (![0, (BitVec.ofNat 32 (grid0.coords t 1).val).toNat] : Fin 2 → ℕ) = _
  rw [coord1]

theorem index2 (t : Fin cfg0.N) : (cfg0.win 2).index t = ![(grid0.coords t 0).val, (grid0.coords t 1).val] := by
  show (![(BitVec.ofNat 32 (grid0.coords t 0).val).toNat, (BitVec.ofNat 32 (grid0.coords t 1).val).toNat] : Fin 2 → ℕ) = _
  rw [coord0, coord1]

/-- The two groups' tokens and the weights, as launched. -/
abbrev prompt (c : Dev nD) : Vec Ideal S4x2048x2048 .f32 := m ((c.tc : Thread nD τ).loc main_arg0)
abbrev sample (c : Dev nD) : Vec Ideal S8x4x2048 .f32 := m ((c.tc : Thread nD τ).loc main_arg1)
abbrev weights (c : Dev nD) : Vec Ideal S2048x2048 .f32 := m ((c.tc : Thread nD τ).loc main_arg2)

/-- The rows the region finds. -/
theorem rows_eq (c : Dev nD) : (V m c main_v4 : S8448x2048.Idx → EReal) =
    truncf (F := Ideal) .bf16 (concatenate S8448x2048 0 [⟨S8192x2048, (shapeCast S8192x2048 (prompt m c) shapeCasts_S4x2048x2048_S8192x2048 : S8192x2048.Idx → EReal)⟩,
      ⟨S32x2048, (shapeCast S32x2048 (sample m c) shapeCasts_S8x4x2048_S32x2048 : S32x2048.Idx → EReal)⟩,
      ⟨S224x2048, (broadcastInDim S224x2048 ![] bcast_S_S224x2048 (constant (F := Ideal) S_ .f32 0x00000000#32) : S224x2048.Idx → EReal)⟩]
      concatenates_S8192x2048_S32x2048_S224x2048_S8448x2048_d0) bitsLt_bf16_f32 := by
  unfold_abbrev_sides
  after_results
  all_goals rfl

theorem rows_apply (c : Dev nD) (r : Fin 8448) (k : Fin 2048) : (V m c main_v4 : S8448x2048.Idx → EReal) (ix2 r k) = rowAt (prompt m c) (sample m c) r k := by
  rw [rows_eq]
  unfold rowAt
  pointwise
  by_cases h : r.val < 8192
  · rw [dif_pos h, dif_pos h]
  · rw [dif_neg h, dif_neg h]
    by_cases h' : r.val < 8224
    · rw [dif_pos h', dif_pos (by omega)]
    · rw [dif_neg h', dif_neg (by omega)]

abbrev rowsAt (c : Dev nD) (t : Fin cfg0.N) : Vec Ideal S1056x2048 .bf16 := iblk m c 0 t
abbrev weightsAt (c : Dev nD) (t : Fin cfg0.N) : Vec Ideal S2048x512 .f32 := iblk m c 1 t

/-- The rows a point is handed, in the array. -/
theorem rowsAt_apply (c : Dev nD) (t : Fin cfg0.N) (y : Fin 1056) (k : Fin 2048) (r : Fin 8448) (hr : r.val = (grid0.coords t 0).val * 1056 + y.val) :
    rowsAt m c t (ix2 y k) = rowAt (prompt m c) (sample m c) r k := by
  refine Eq.trans (congrArg (V m c main_v4) (funext fun a => Fin.ext ?_)) (rows_apply m c r k)
  blk_simp
  rw [index0 t]
  match a with
  | ⟨0, _⟩ => exact hr.symm
  | ⟨1, _⟩ => show 0 * 2048 + (k : ℕ) = (k : ℕ); omega

/-- The weights a point is handed. -/
theorem weightsAt_apply (c : Dev nD) (t : Fin cfg0.N) (k : Fin 2048) (z : Fin 512) (f : Fin 2048) (hf : f.val = (grid0.coords t 1).val * 512 + z.val) :
    weightsAt m c t (ix2 k z) = weights m c (ix2 k f) := by
  refine Eq.trans (congrArg (V m c main_arg2) (funext fun a => Fin.ext ?_)) (congrFun (V_main_arg2 m c) (ix2 k f))
  blk_simp
  rw [index1 t]
  match a with
  | ⟨0, _⟩ => show 0 * 2048 + (k : ℕ) = (k : ℕ); omega
  | ⟨1, _⟩ => exact hf.symm

/-- The block a point leaves is the rows' projection, where they lie in the array. -/
theorem point_eq (c : Dev nD) (t : Fin cfg0.N) (y : S1056x512.Idx) (r : Fin 8448) (f : Fin 2048)
    (hr : r.val = (grid0.coords t 0).val * 1056 + (y 0).val) (hf : f.val = (grid0.coords t 1).val * 512 + (y 1).val) :
    out0_2 (rowsAt m c t) (weightsAt m c t) y = projAt (prompt m c) (sample m c) (weights m c) r f := by
  rw [out_apply]
  unfold projAt
  exact Finset.sum_congr rfl fun k _ => congrArg₂ (· * ·) (rowsAt_apply m c t (y 0) k r hr) (weightsAt_apply m c t k (y 1) f hf)

/-- The array after the run. -/
theorem final (c : Dev nD) :
    (dats m 0 c).arrAt 2 cfg0.N = fun i : S8448x2048.Idx => projAt (prompt m c) (sample m c) (weights m c) (i 0) (i 1) := by
  refine (dats m 0 c).arrAt_eq_of_covers 2 _ ?_ fun t hf y => ?_
  · refine (cfg0.win 2).covers_of_indexMap_surj rfl (fun a => ?_) fun β => ?_
    · match a with
      | ⟨0, _⟩ => exact (by decide : 0 < 1056)
      | ⟨1, _⟩ => exact (by decide : 0 < 512)
    · have b0 : (β (0 : Fin 2)).val < 8 := lt_of_lt_of_eq (β (0 : Fin 2)).isLt (by show (8448 + 1056 - 1) / 1056 = 8; decide)
      have b1 : (β (1 : Fin 2)).val < 4 := lt_of_lt_of_eq (β (1 : Fin 2)).isLt (by show (2048 + 512 - 1) / 512 = 4; decide)
      refine ⟨fun a => match a with | ⟨0, _⟩ => ⟨(β (0 : Fin 2)).val, b0⟩ | ⟨1, _⟩ => ⟨(β (1 : Fin 2)).val, b1⟩, fun a => ?_⟩
      match a with
      | ⟨0, _⟩ => show (BitVec.ofNat 32 (β (0 : Fin 2)).val).toNat = (β (0 : Fin 2)).val; rw [BitVec.toNat_ofNat, Nat.mod_eq_of_lt (by omega)]
      | ⟨1, _⟩ => show (BitVec.ofNat 32 (β (1 : Fin 2)).val).toNat = (β (1 : Fin 2)).val; rw [BitVec.toNat_ofNat, Nat.mod_eq_of_lt (by omega)]
  · blk_simp
    rw [after0_2]
    refine point_eq m c t y _ _ ?_ ?_
    · blk_simp; rw [index2 t]; rfl
    · blk_simp; rw [index2 t]; rfl

end Cert.PlainQueriesIdeal.Project

end
-- ==== Proof.PlainQueriesReferenceIdeal.Value.lean ====
module

public import proofs.«01_k».proof.Proof.Tokens
public import proofs.«01_k».proof.Proof.Gen.PlainQueriesReferenceIdeal.Read

@[expose] public section

/-! The reference of the projection of the token rows, index by index. -/

noncomputable section

namespace Cert.PlainQueriesReferenceIdeal.Project

open Idealize.ShloMosaic Idealize.ShloMosaic.TcCoe Idealize.ShloMosaic.Tactic
open Cert.PlainQueriesReferenceIdeal Cert.PlainQueriesReferenceIdeal.Read Cert.Tokens

variable (x0 : (⟨S4x2048x2048, .f32⟩ : BufTy).Contents (Elt Ideal)) (x1 : (⟨S8x4x2048, .f32⟩ : BufTy).Contents (Elt Ideal))
  (x2 : (⟨S2048x2048, .f32⟩ : BufTy).Contents (Elt Ideal))

/-- The prompts' product. -/
theorem prompt_product (i : S4x2048x2048.Idx) : val_main_v0 (F := Ideal) x0 x2 i = ∑ k : Fin 2048, x0 (ix3 (i 0) (i 1) k) * x2 (ix2 k (i 2)) := by
  rw [val_main_v0_apply]
  refine Finset.sum_congr rfl fun k _ => congrArg₂ (· * ·) (congrArg x0 (funext fun a => ?_)) (congrArg x2 (funext fun a => ?_))
  · match a with
    | ⟨0, _⟩ => rfl
    | ⟨1, _⟩ => rfl
    | ⟨2, _⟩ => rfl
  · match a with
    | ⟨0, _⟩ => rfl
    | ⟨1, _⟩ => rfl

/-- The samples' product. -/
theorem sample_product (i : S8x4x2048.Idx) : val_main_v1 (F := Ideal) x1 x2 i = ∑ k : Fin 2048, x1 (ix3 (i 0) (i 1) k) * x2 (ix2 k (i 2)) := by
  rw [val_main_v1_apply]
  refine Finset.sum_congr rfl fun k _ => congrArg₂ (· * ·) (congrArg x1 (funext fun a => ?_)) (congrArg x2 (funext fun a => ?_))
  · match a with
    | ⟨0, _⟩ => rfl
    | ⟨1, _⟩ => rfl
    | ⟨2, _⟩ => rfl
  · match a with
    | ⟨0, _⟩ => rfl
    | ⟨1, _⟩ => rfl

/-- The reference's result at row `i 0`, column `i 1`. -/
theorem ref_at (i : S8448x2048.Idx) : val_main_v5 (F := Ideal) x0 x1 x2 i = projAt x0 x1 x2 (i 0) (i 1) := by
  unfold val_main_v5 val_main_v2 val_main_v3 val_main_v4 val_main_cst
  generalize e0 : val_main_v0 (F := Ideal) x0 x2 = y0
  generalize e1 : val_main_v1 (F := Ideal) x1 x2 = y1
  have hr : (i 0).val < 8448 := (i 0).isLt
  have hf : (i 1).val < 2048 := (i 1).isLt
  pointwise
  by_cases h : (i 0).val < 8192
  · rw [dif_pos h, ← e0, prompt_product]
    exact (projAt_prompt x0 x1 x2 (i 0) (i 1) _ _ (by show (i 0).val = (i 0).val / 2048 * 2048 + (i 0).val % 2048; omega)).symm
  · rw [dif_neg h]
    by_cases h' : (i 0).val - 8192 < 32
    · rw [dif_pos h', ← e1, sample_product]
      exact (projAt_sample x0 x1 x2 (i 0) (i 1) _ _ (by show (i 0).val = 8192 + (((i 0).val - 8192) / 4 * 4 + ((i 0).val - 8192) % 4); omega)).symm
    · rw [dif_neg h']
      exact (projAt_zero x0 x1 x2 (i 0) (i 1) (by omega)).symm

end Cert.PlainQueriesReferenceIdeal.Project

end
-- ==== Proof.PlainQueriesClaim.lean ====
module

public import proofs.«01_k».proof.Defs
public import proofs.«01_k».proof.Proof.Gen.PlainQueries.Frame
public import proofs.«01_k».proof.Proof.PlainQueriesIdeal.Value
public import proofs.«01_k».proof.Proof.PlainQueriesReferenceIdeal.Value
public import Idealize.ShloMosaic.Lib.Claim

@[expose] public section

/-! The claims of the projection of the token rows. -/

namespace Cert.PlainQueriesClaim

open Idealize.ShloMosaic Idealize.ShloMosaic.TcCoe Idealize.SL.Sem

theorem frame_kernel : Cert.quiescent_PlainQueries := fun m g _ => Cert.PlainQueries.Gen.frame m g

theorem frame_ideal : Cert.quiescent_PlainQueriesIdeal := fun m g _ => Cert.PlainQueriesIdeal.Gen.frame m g

theorem frame_reference : Cert.quiescent_PlainQueriesReferenceIdeal := fun m g _ =>
  (θ_run Cert.PlainQueriesReferenceIdeal.defs _ _).mono (fun r h => ⟨fun c => (h c).2, sem_eq_zero_of_no_sems (by decide) _⟩) (Cert.PlainQueriesReferenceIdeal.Value.run m g)

theorem value : Cert.algebraic_PlainQueriesIdeal_PlainQueriesReferenceIdeal := by
  intro m g m' g' hpre hagree
  refine ⟨fun c => (Cert.PlainQueriesIdeal.Gen.dats m 0 c).arrAt 2 Cert.PlainQueriesIdeal.cfg0.N, Cert.PlainQueriesIdeal.Value.run_blocks m g, ?_⟩
  refine (θ_run Cert.PlainQueriesReferenceIdeal.defs _ _).mono (fun r h c => ⟨(h c).1.trans ((Cert.PlainQueriesReferenceIdeal.Read.val_main_v5_eq _ _ _).trans ?_), (h c).2⟩) (Cert.PlainQueriesReferenceIdeal.Value.run m' g')
  obtain ⟨a0, a1, a2⟩ := hagree c
  obtain rfl : c = 0 := Subsingleton.elim _ _
  refine Eq.trans ?_ (Cert.PlainQueriesIdeal.Project.final m 0).symm
  funext i
  rw [a0, a1, a2]
  exact Cert.PlainQueriesReferenceIdeal.Project.ref_at _ _ _ i

end Cert.PlainQueriesClaim
-- ==== Proof.QueriesIdeal.Body.lean ====
module

public import proofs.«01_k».proof.Proof.Tokens
public import proofs.«01_k».proof.Proof.Gen.QueriesIdeal.Value
public import Idealize.ShloMosaic.Lib.WholeRead
public import Idealize.ShloMosaic.Lib.KernelVsHost

@[expose] public section

/-! What one point of the projection with rotation computes of its blocks. -/

noncomputable section

namespace Cert.QueriesIdeal.Project

open Idealize.ShloMosaic Idealize.ShloMosaic.TcCoe Idealize.ShloMosaic.Tactic
open Cert.QueriesIdeal Cert.QueriesIdeal.Gen

/-- A row times a column. -/
def colAt (x : Vec Ideal S1056x2048 .bf16) (w : Vec Ideal S2048x512 .f32) (i : Fin 1056) (f : Fin 512) : EReal :=
  ∑ k : Fin 2048, x (ix2 i k) * w (ix2 k f)

/-- The product. -/
theorem product_apply (x : Vec Ideal S1056x2048 .bf16) (w : Vec Ideal S2048x512 .f32) (j : S1056x512.Idx) :
    k0_pay3 (F := Ideal) x w j = colAt x w (j 0) (j 1) := by
  unfold colAt
  pointwise [k0_pay3]

/-- A head's 128 columns with the three tables: the columns, the columns sixteen to the right and those sixteen to the
left, around the end. -/
def turned (y : Vec Ideal S1056x128 .f32) (a b c : Vec Ideal S1056x128 .f32) (i : Fin 1056) (d : Fin 128) : EReal :=
  y (ix2 i d) * a (ix2 i d) + y (ix2 i ⟨(d.val + 16) % 128, Nat.mod_lt _ (by decide)⟩) * b (ix2 i d)
    + y (ix2 i ⟨(d.val + 112) % 128, Nat.mod_lt _ (by decide)⟩) * c (ix2 i d)

theorem turned_apply (y a b c : FVec Ideal S1056x128 .f32) (j : S1056x128.Idx) :
    addf (addf (mulf y a) (mulf (dynamicRotate 1 112#32 none y rotates_S1056x128_d1) b)) (mulf (dynamicRotate 1 16#32 none y rotates_S1056x128_d1) c) j
      = turned y a b c (j 0) (j 1) := by
  obtain ⟨i, d, rfl⟩ : ∃ (i : Fin 1056) (d : Fin 128), j = ix2 i d := ⟨j 0, j 1, eq_ix2 j⟩
  have hd := d.isLt
  have e0 : dynamicRotate 1 112#32 none y rotates_S1056x128_d1 (ix2 i d) = y (ix2 i ⟨(d.val + 16) % 128, Nat.mod_lt _ (by decide)⟩) := by
    refine dynamicRotate_apply 1 112#32 y _ _ _ fun b => ?_
    match b with
    | ⟨0, _⟩ => rfl
    | ⟨1, _⟩ => show (d.val + 16) % 128 = (d.val + 128 - 112 % 128) % 128; omega
  have e1 : dynamicRotate 1 16#32 none y rotates_S1056x128_d1 (ix2 i d) = y (ix2 i ⟨(d.val + 112) % 128, Nat.mod_lt _ (by decide)⟩) := by
    refine dynamicRotate_apply 1 16#32 y _ _ _ fun b => ?_
    match b with
    | ⟨0, _⟩ => rfl
    | ⟨1, _⟩ => show (d.val + 112) % 128 = (d.val + 128 - 16 % 128) % 128; omega
  show y (ix2 i d) * a (ix2 i d) + dynamicRotate 1 112#32 none y rotates_S1056x128_d1 (ix2 i d) * b (ix2 i d)
    + dynamicRotate 1 16#32 none y rotates_S1056x128_d1 (ix2 i d) * c (ix2 i d) = _
  rw [e0, e1]
  rfl

/-- Four heads: head `h` is the columns from `128 h`. -/
theorem head_apply (y : FVec Ideal S1056x512 .f32) (o : ℕ) (hs : S1056x512.Slices ![0, o] S1056x128) (i : Fin 1056) (d : Fin 128) (f : Fin 512) (hf : f.val = o + d.val) :
    extractStridedSlice S1056x128 ![0, o] y hs (ix2 i d) = y (ix2 i f) := by
  refine extractStridedSlice_apply (s := S1056x512) (t := S1056x128) ![0, o] y hs (ix2 i d) (ix2 i f) fun a => ?_
  match a with
  | ⟨0, _⟩ => show i.val = 0 + i.val; omega
  | ⟨1, _⟩ => exact hf

/-- What the body leaves at row `i`, column `f`. -/
def bodyAt (x : Vec Ideal S1056x2048 .bf16) (w : Vec Ideal S2048x512 .f32) (a b c : Vec Ideal S1056x128 .f32) (i : Fin 1056) (f : Fin 512) : EReal :=
  colAt x w i f * a (ix2 i ⟨f.val % 128, by omega⟩)
    + colAt x w i ⟨f.val / 128 * 128 + (f.val % 128 + 16) % 128, by omega⟩ * b (ix2 i ⟨f.val % 128, by omega⟩)
    + colAt x w i ⟨f.val / 128 * 128 + (f.val % 128 + 112) % 128, by omega⟩ * c (ix2 i ⟨f.val % 128, by omega⟩)

theorem turned_head (x : Vec Ideal S1056x2048 .bf16) (w : Vec Ideal S2048x512 .f32) (a b c : Vec Ideal S1056x128 .f32) (h : ℕ) (hs : S1056x512.Slices ![0, h * 128] S1056x128)
    (i : Fin 1056) (d : Fin 128) (f : Fin 512) (hf : f.val = h * 128 + d.val) :
    turned (extractStridedSlice S1056x128 ![0, h * 128] (k0_pay3 (F := Ideal) x w) hs) a b c i d = bodyAt x w a b c i f := by
  have hd := d.isLt
  have hl := f.isLt
  have e : (⟨f.val % 128, by omega⟩ : Fin 128) = d := Fin.ext (by show f.val % 128 = d.val; omega)
  unfold turned bodyAt
  rw [head_apply _ (h * 128) hs i d f hf,
    head_apply _ (h * 128) hs i ⟨(d.val + 16) % 128, Nat.mod_lt _ (by decide)⟩ ⟨f.val / 128 * 128 + (f.val % 128 + 16) % 128, by omega⟩
      (by show f.val / 128 * 128 + (f.val % 128 + 16) % 128 = h * 128 + (d.val + 16) % 128; omega),
    head_apply _ (h * 128) hs i ⟨(d.val + 112) % 128, Nat.mod_lt _ (by decide)⟩ ⟨f.val / 128 * 128 + (f.val % 128 + 112) % 128, by omega⟩
      (by show f.val / 128 * 128 + (f.val % 128 + 112) % 128 = h * 128 + (d.val + 112) % 128; omega),
    product_apply, product_apply, product_apply, e]
  rfl

theorem cast_eq (a : Vec Ideal S1056x128 .f32) : shapeCast S1056x128 a shapeCasts_S1056x128_S1056x128 = a := by
  funext j
  exact shapeCast_apply a shapeCasts_S1056x128_S1056x128 j j rfl

/-- A head's payload at an index of it. -/
theorem piece (x : Vec Ideal S1056x2048 .bf16) (w : Vec Ideal S2048x512 .f32) (a b c : Vec Ideal S1056x128 .f32) (h o : ℕ) (ho : o = h * 128)
    (hs : S1056x512.Slices ![0, o] S1056x128) (z : S1056x128.Idx) (i : Fin 1056) (f : Fin 512) (hi : i.val = 0 + 1 * (z 0).val) (hf : f.val = o + 1 * (z 1).val) :
    addf (addf (mulf (extractStridedSlice S1056x128 ![0, o] (k0_pay3 (F := Ideal) x w) hs) (shapeCast S1056x128 a shapeCasts_S1056x128_S1056x128))
      (mulf (dynamicRotate 1 112#32 none (extractStridedSlice S1056x128 ![0, o] (k0_pay3 (F := Ideal) x w) hs) rotates_S1056x128_d1) (shapeCast S1056x128 b shapeCasts_S1056x128_S1056x128)))
      (mulf (dynamicRotate 1 16#32 none (extractStridedSlice S1056x128 ![0, o] (k0_pay3 (F := Ideal) x w) hs) rotates_S1056x128_d1) (shapeCast S1056x128 c shapeCasts_S1056x128_S1056x128)) z
      = bodyAt x w a b c i f := by
  subst ho
  rw [cast_eq a, cast_eq b, cast_eq c, turned_apply]
  obtain rfl : z 0 = i := Fin.ext (by omega)
  exact turned_head x w a b c h hs (z 0) (z 1) f (by omega)

theorem out_apply (x : Vec Ideal S1056x2048 .bf16) (w : Vec Ideal S2048x512 .f32) (a b c : Vec Ideal S1056x128 .f32) (j : S1056x512.Idx) :
    out0_5 (F := Ideal) x w a b c j = bodyAt x w a b c (j 0) (j 1) := by
  frame_out
  have e12 : k0_pay12 (F := Ideal) x w a b c = k0_pay6 c := by
    unfold k0_pay12
    exact congrArg k0_pay6 (View.ld_unit_zero (funext fun a => match a with | ⟨0, _⟩ => rfl | ⟨1, _⟩ => rfl) _ _)
  rw [e12]
  have hG : ∀ p ∈ ([⟨r0_6, k0_pay2 (F := Ideal) (k0_pay3 x w) (k0_pay4 a) (k0_pay5 b) (k0_pay6 c)⟩,
      ⟨r0_5, k0_pay1 (k0_pay6 c) (k0_pay10 x w) (k0_pay11 x w a b)⟩, ⟨r0_4, k0_pay8 x w a b c⟩, ⟨r0_3, k0_pay7 x w a b c⟩] :
        List (View.Piece (Elt Ideal) S1056x512 .f32)), ∀ z : p.1.shape.Idx, p.2 z = (fun y : S1056x512.Idx => bodyAt x w a b c (y 0) (y 1)) (p.1.emb z) := by
    simp only [List.mem_cons, List.not_mem_nil, or_false, forall_eq_or_imp, forall_eq]
    refine ⟨fun z => ?_, fun z => ?_, fun z => ?_, fun z => ?_⟩
    · exact piece x w a b c 3 384 rfl slices_S1056x512_o0_384_S1056x128 z (r0_6.emb z 0) (r0_6.emb z 1) rfl rfl
    · exact piece x w a b c 2 256 rfl slices_S1056x512_o0_256_S1056x128 z (r0_5.emb z 0) (r0_5.emb z 1) rfl rfl
    · exact piece x w a b c 1 128 rfl slices_S1056x512_o0_128_S1056x128 z (r0_4.emb z 0) (r0_4.emb z 1) rfl rfl
    · exact piece x w a b c 0 0 rfl slices_S1056x512_o0_0_S1056x128 z (r0_3.emb z 0) (r0_3.emb z 1) rfl rfl
  exact View.canon_apply_of_pieces (Val := Elt Ideal) (e := .f32) (fun y : S1056x512.Idx => bodyAt x w a b c (y 0) (y 1)) _ hG j (cover0_5 _ _ _ _ j)

end Cert.QueriesIdeal.Project

end
-- ==== Proof.QueriesIdeal.Tables.lean ====
module

public import proofs.«01_k».proof.Proof.Rotation
public import proofs.«01_k».proof.Proof.Gen.QueriesIdeal.Value
public import Idealize.ShloMosaic.Lib.StableHlo.ReadAt

@[expose] public section

/-! What the host leaves the projection with rotation: the token rows and the three tables, entry by entry. -/

noncomputable section

namespace Cert.QueriesIdeal.Project

open Idealize.ShloMosaic Idealize.ShloMosaic.TcCoe Idealize.ShloMosaic.Tactic
open Cert.QueriesIdeal Cert.QueriesIdeal.Gen Cert.Tokens Cert.Rotation

variable (m : (ℓ : Loc nD τ sig) → Buf (Elt Ideal) ℓ)

/-- The two groups' tokens and the weights, as launched. -/
abbrev prompt (c : Dev nD) : Vec Ideal S4x2048x2048 .f32 := m ((c.tc : Thread nD τ).loc main_arg0)
abbrev sample (c : Dev nD) : Vec Ideal S8x4x2048 .f32 := m ((c.tc : Thread nD τ).loc main_arg1)
abbrev weights (c : Dev nD) : Vec Ideal S2048x2048 .f32 := m ((c.tc : Thread nD τ).loc main_arg2)

/-- The token rows. -/
theorem rows_eq (c : Dev nD) : (V m c main_v16 : S8448x2048.Idx → EReal) =
    truncf (F := Ideal) .bf16 (concatenate S8448x2048 0 [⟨S8192x2048, (shapeCast S8192x2048 (prompt m c) shapeCasts_S4x2048x2048_S8192x2048 : S8192x2048.Idx → EReal)⟩,
      ⟨S32x2048, (shapeCast S32x2048 (sample m c) shapeCasts_S8x4x2048_S32x2048 : S32x2048.Idx → EReal)⟩,
      ⟨S224x2048, (broadcastInDim S224x2048 ![] bcast_S_S224x2048 (constant (F := Ideal) S_ .f32 0x00000000#32) : S224x2048.Idx → EReal)⟩]
      concatenates_S8192x2048_S32x2048_S224x2048_S8448x2048_d0) bitsLt_bf16_f32 := by
  unfold_abbrev_sides
  after_results
  all_goals rfl

theorem rows_apply (c : Dev nD) (r : Fin 8448) (k : Fin 2048) : (V m c main_v16 : S8448x2048.Idx → EReal) (ix2 r k) = rowAt (prompt m c) (sample m c) r k := by
  rw [rows_eq]
  unfold rowAt
  pointwise
  by_cases h : r.val < 8192
  · rw [dif_pos h, dif_pos h]
  · rw [dif_neg h, dif_neg h]
    by_cases h' : r.val < 8224
    · rw [dif_pos h', dif_pos (by omega)]
    · rw [dif_neg h', dif_neg (by omega)]

/-- The positions of the prompts' tokens, of the samples', and the zeros behind them. -/
def promptPos : S8192.Idx → BitVec 32 :=
  shapeCast S8192 (broadcastInDim S4x2048 ![0, 1] bcast_S1x2048_S4x2048_0_1 (shapeCast S1x2048 (iotaInDim S2048 32 0) shapeCasts_S2048_S1x2048)) shapeCasts_S4x2048_S8192
def samplePos : S32.Idx → BitVec 32 :=
  shapeCast S32 (broadcastInDim S8x4 ![0, 1] bcast_S1x4_S8x4_0_1 (shapeCast S1x4 (addi (broadcastInDim S4 ![] bcast_S_S4 (constantI S_ 32 16384#32))
    (iotaInDim S4 32 0)) shapeCasts_S4_S1x4)) shapeCasts_S8x4_S32
def zeroPos : S224.Idx → BitVec 32 := broadcastInDim S224 ![] bcast_S_S224 (constantI S_ 32 0#32)

/-- All tokens' positions. -/
def positions : S8448.Idx → BitVec 32 := concatenate S8448 0 [⟨S8192, promptPos⟩, ⟨S32, samplePos⟩, ⟨S224, zeroPos⟩] concatenates_S8192_S32_S224_S8448_d0

/-- The sixteen inverse frequencies. -/
def freqs : S16.Idx → EReal :=
  Host.powf (F := Ideal) (φ := .f32) (broadcastInDim S16 ![] bcast_S_S16 (constant (F := Ideal) S_ .f32 0x48F42400#32))
    (Host.divf (F := Ideal) (φ := .f32) (Host.negf (F := Ideal) (φ := .f32) (addf (F := Ideal) (φ := .f32) (broadcastInDim S16 ![] bcast_S_S16 (constant (F := Ideal) S_ .f32 0x00000000#32))
      (mulf (F := Ideal) (φ := .f32) (broadcastInDim S16 ![] bcast_S_S16 (constant (F := Ideal) S_ .f32 0x40000000#32)) (sitofp (F := Ideal) .f32 (iotaInDim S16 32 0)))))
      (broadcastInDim S16 ![] bcast_S_S16 (constant (F := Ideal) S_ .f32 0x42000000#32)))

/-- The angle of each token and each pair. -/
def angles : S8448x16.Idx → EReal :=
  mulf (F := Ideal) (φ := .f32) (broadcastInDim S8448x16 ![0, 1] bcast_S8448x1_S8448x16_0_1 (broadcastInDim S8448x1 ![0] bcast_S8448_S8448x1_0 (sitofp (F := Ideal) .f32 positions)))
    (broadcastInDim S8448x16 ![0, 1] bcast_S1x16_S8448x16_0_1 (broadcastInDim S1x16 ![1] bcast_S16_S1x16_1 freqs))
def cosines : S8448x16.Idx → EReal := Host.cos (F := Ideal) (φ := .f32) angles
def sines : S8448x16.Idx → EReal := Host.sin (F := Ideal) (φ := .f32) angles
def ones96 : S8448x96.Idx → EReal := broadcastInDim S8448x96 ![] bcast_S_S8448x96 (constant (F := Ideal) S_ .f32 0x3F800000#32)
def zeros16 : S8448x16.Idx → EReal := broadcastInDim S8448x16 ![] bcast_S_S8448x16 (constant (F := Ideal) S_ .f32 0x00000000#32)
def zeros96 : S8448x96.Idx → EReal := broadcastInDim S8448x96 ![] bcast_S_S8448x96 (constant (F := Ideal) S_ .f32 0x00000000#32)
def zeros112 : S8448x112.Idx → EReal := broadcastInDim S8448x112 ![] bcast_S_S8448x112 (constant (F := Ideal) S_ .f32 0x00000000#32)

theorem tableA_host (c : Dev nD) : (V m c main_v37 : S8448x128.Idx → EReal) =
    concatenate S8448x128 1 [⟨S8448x16, cosines⟩, ⟨S8448x16, cosines⟩, ⟨S8448x96, ones96⟩] concatenates_S8448x16_S8448x16_S8448x96_S8448x128_d1 := by
  unfold_abbrev_sides
  after_results
  all_goals rfl

theorem tableB_host (c : Dev nD) : (V m c main_v39 : S8448x128.Idx → EReal) =
    concatenate S8448x128 1 [⟨S8448x16, (Host.negf (F := Ideal) (φ := .f32) sines : S8448x16.Idx → EReal)⟩,
      ⟨S8448x112, zeros112⟩] concatenates_S8448x16_S8448x112_S8448x128_d1 := by
  unfold_abbrev_sides
  after_results
  all_goals rfl

theorem tableC_host (c : Dev nD) : (V m c main_v42 : S8448x128.Idx → EReal) =
    concatenate S8448x128 1 [⟨S8448x16, zeros16⟩, ⟨S8448x16, sines⟩, ⟨S8448x96, zeros96⟩]
      concatenates_S8448x16_S8448x16_S8448x96_S8448x128_d1 := by
  unfold_abbrev_sides
  after_results
  all_goals rfl

theorem promptPos_apply (r : Fin 8192) : promptPos (ix1 r) = BitVec.ofNat 32 (r.val % 2048) := by
  unfold promptPos
  generalize hq : (iotaInDim S2048 32 0 : S2048.Idx → BitVec 32) = q
  pointwise
  subst hq
  rfl

theorem samplePos_apply (r : Fin 32) : samplePos (ix1 r) = 16384#32 + BitVec.ofNat 32 (r.val % 4) := by
  unfold samplePos
  generalize hq : (addi (broadcastInDim S4 ![] bcast_S_S4 (constantI S_ 32 16384#32)) (iotaInDim S4 32 0) : S4.Idx → BitVec 32) = q
  pointwise
  subst hq
  rfl

theorem positions_apply (r : Fin 8448) : positions (ix1 r) = posAt r := by
  unfold positions posAt
  have hp := promptPos_apply
  have hs := samplePos_apply
  have hz : ∀ r : Fin 224, zeroPos (ix1 r) = 0#32 := fun _ => rfl
  revert hp hs hz
  generalize promptPos = a
  generalize samplePos = b
  generalize zeroPos = z
  intro hp hs hz
  pointwise
  by_cases h : r.val < 8192
  · rw [dif_pos h, if_pos h]
    exact hp _
  · rw [dif_neg h, if_neg h]
    by_cases h' : r.val < 8224
    · rw [if_pos h', dif_pos (by omega)]
      exact hs _
    · rw [if_neg h', dif_neg (by omega)]
      exact hz _

theorem freqs_apply (d : Fin 16) : freqs (ix1 d) = freq d := by
  rfl

theorem angles_apply (r : Fin 8448) (d : Fin 16) : angles (ix2 r d) = angle (posAt r) d := by
  unfold angle
  rw [← positions_apply, ← freqs_apply]
  unfold angles
  generalize positions = p
  generalize freqs = q
  pointwise

theorem cosines_apply (r : Fin 8448) (d : Fin 16) : cosines (ix2 r d) = cosAt (posAt r) d := by
  unfold cosAt
  rw [← angles_apply]
  rfl

theorem sines_apply (r : Fin 8448) (d : Fin 16) : sines (ix2 r d) = sinAt (posAt r) d := by
  unfold sinAt
  rw [← angles_apply]
  rfl

theorem tableA_apply (c : Dev nD) (r : Fin 8448) (d : Fin 128) : (V m c main_v37 : S8448x128.Idx → EReal) (ix2 r d) = tableA (posAt r) d := by
  rw [tableA_host]
  unfold tableA
  simp only [← cosines_apply]
  generalize cosines = q
  pointwise [ones96]
  by_cases h : d.val < 16
  · rw [dif_pos h, dif_pos h]
  · rw [dif_neg h, dif_neg h]
    by_cases h' : d.val < 32
    · rw [dif_pos h', dif_pos (by omega)]
    · rw [dif_neg h', dif_neg (by omega)]

theorem tableB_apply (c : Dev nD) (r : Fin 8448) (d : Fin 128) : (V m c main_v39 : S8448x128.Idx → EReal) (ix2 r d) = tableB (posAt r) d := by
  rw [tableB_host]
  unfold tableB
  simp only [← sines_apply]
  generalize sines = q
  pointwise [zeros112]

theorem tableC_apply (c : Dev nD) (r : Fin 8448) (d : Fin 128) : (V m c main_v42 : S8448x128.Idx → EReal) (ix2 r d) = tableC (posAt r) d := by
  rw [tableC_host]
  unfold tableC
  simp only [← sines_apply]
  generalize sines = q
  pointwise [zeros16, zeros96]
  by_cases h : d.val < 16
  · rw [dif_pos h, dif_pos h]
  · rw [dif_neg h, dif_neg h]
    by_cases h' : d.val < 32
    · rw [dif_pos h', dif_pos (by omega)]
    · rw [dif_neg h', dif_neg (by omega)]

end Cert.QueriesIdeal.Project

end
-- ==== Proof.QueriesIdeal.Value.lean ====
module

public import proofs.«01_k».proof.Proof.QueriesIdeal.Body
public import proofs.«01_k».proof.Proof.QueriesIdeal.Tables
public import Idealize.ShloMosaic.Lib.WholeRead
public import Idealize.ShloMosaic.Lib.Pipeline.Covers

@[expose] public section

/-! What the projection with rotation leaves. -/

noncomputable section

namespace Cert.QueriesIdeal.Project

open Idealize.ShloMosaic Idealize.ShloMosaic.TcCoe Idealize.ShloMosaic.Tactic
open Idealize.ShloMosaic.Pipeline (Dat Window)
open Cert.QueriesIdeal Cert.QueriesIdeal.Gen Cert.Tokens Cert.Rotation

variable (m : (ℓ : Loc nD τ sig) → Buf (Elt Ideal) ℓ)

/-- A grid coordinate as a word is itself. -/
theorem coord0 (t : Fin cfg0.N) : (BitVec.ofNat 32 (grid0.coords t 0).val).toNat = (grid0.coords t 0).val := by
  have h0 : (grid0.coords t 0).val < 8 := (grid0.coords t 0).isLt
  rw [BitVec.toNat_ofNat, Nat.mod_eq_of_lt (by omega)]

theorem coord1 (t : Fin cfg0.N) : (BitVec.ofNat 32 (grid0.coords t 1).val).toNat = (grid0.coords t 1).val := by
  have h0 : (grid0.coords t 1).val < 4 := (grid0.coords t 1).isLt
  rw [BitVec.toNat_ofNat, Nat.mod_eq_of_lt (by omega)]

/-- The blocks' indices at a point. -/
theorem index0 (t : Fin cfg0.N) : (cfg0.win 0).index t = ![(grid0.coords t 0).val, 0] := by
  show (![(BitVec.ofNat 32 (grid0.coords t 0).val).toNat, 0] : Fin 2 → ℕ) = _
  rw [coord0]

theorem index1 (t : Fin cfg0.N) : (cfg0.win 1).index t = ![0, (grid0.coords t 1).val] := by
  show (![0, (BitVec.ofNat 32 (grid0.coords t 1).val).toNat] : Fin 2 → ℕ) = _
  rw [coord1]

theorem index2 (t : Fin cfg0.N) : (cfg0.win 2).index t = ![(grid0.coords t 0).val, 0] := by
  show (![(BitVec.ofNat 32 (grid0.coords t 0).val).toNat, 0] : Fin 2 → ℕ) = _
  rw [coord0]

theorem index3 (t : Fin cfg0.N) : (cfg0.win 3).index t = ![(grid0.coords t 0).val, 0] := by
  show (![(BitVec.ofNat 32 (grid0.coords t 0).val).toNat, 0] : Fin 2 → ℕ) = _
  rw [coord0]

theorem index4 (t : Fin cfg0.N) : (cfg0.win 4).index t = ![(grid0.coords t 0).val, 0] := by
  show (![(BitVec.ofNat 32 (grid0.coords t 0).val).toNat, 0] : Fin 2 → ℕ) = _
  rw [coord0]

theorem index5 (t : Fin cfg0.N) : (cfg0.win 5).index t = ![(grid0.coords t 0).val, (grid0.coords t 1).val] := by
  show (![(BitVec.ofNat 32 (grid0.coords t 0).val).toNat, (BitVec.ofNat 32 (grid0.coords t 1).val).toNat] : Fin 2 → ℕ) = _
  rw [coord0, coord1]

abbrev rowsAt (c : Dev nD) (t : Fin cfg0.N) : Vec Ideal S1056x2048 .bf16 := iblk m c 0 t
abbrev weightsAt (c : Dev nD) (t : Fin cfg0.N) : Vec Ideal S2048x512 .f32 := iblk m c 1 t

/-- The rows a point is handed, in the array. -/
theorem rowsAt_apply (c : Dev nD) (t : Fin cfg0.N) (y : Fin 1056) (k : Fin 2048) (r : Fin 8448) (hr : r.val = (grid0.coords t 0).val * 1056 + y.val) :
    rowsAt m c t (ix2 y k) = rowAt (prompt m c) (sample m c) r k := by
  refine Eq.trans (congrArg (V m c main_v16) (funext fun a => Fin.ext ?_)) (rows_apply m c r k)
  blk_simp
  rw [index0 t]
  match a with
  | ⟨0, _⟩ => exact hr.symm
  | ⟨1, _⟩ => show 0 * 2048 + (k : ℕ) = (k : ℕ); omega

/-- The weights a point is handed. -/
theorem weightsAt_apply (c : Dev nD) (t : Fin cfg0.N) (k : Fin 2048) (z : Fin 512) (f : Fin 2048) (hf : f.val = (grid0.coords t 1).val * 512 + z.val) :
    weightsAt m c t (ix2 k z) = weights m c (ix2 k f) := by
  refine Eq.trans (congrArg (V m c main_arg2) (funext fun a => Fin.ext ?_)) (congrFun (V_main_arg2 m c) (ix2 k f))
  blk_simp
  rw [index1 t]
  match a with
  | ⟨0, _⟩ => show 0 * 2048 + (k : ℕ) = (k : ℕ); omega
  | ⟨1, _⟩ => exact hf.symm

/-- The tables a point is handed. -/
abbrev tableAAt (c : Dev nD) (t : Fin cfg0.N) : Vec Ideal S1056x128 .f32 := iblk m c 2 t

theorem tableAAt_apply (c : Dev nD) (t : Fin cfg0.N) (y : Fin 1056) (d : Fin 128) (r : Fin 8448) (hr : r.val = (grid0.coords t 0).val * 1056 + y.val) :
    tableAAt m c t (ix2 y d) = tableA (posAt r) d := by
  refine Eq.trans (congrArg (V m c main_v37) (funext fun a => Fin.ext ?_)) (tableA_apply m c r d)
  blk_simp
  rw [index2 t]
  match a with
  | ⟨0, _⟩ => exact hr.symm
  | ⟨1, _⟩ => show 0 * 128 + (d : ℕ) = (d : ℕ); omega

abbrev tableBAt (c : Dev nD) (t : Fin cfg0.N) : Vec Ideal S1056x128 .f32 := iblk m c 3 t

theorem tableBAt_apply (c : Dev nD) (t : Fin cfg0.N) (y : Fin 1056) (d : Fin 128) (r : Fin 8448) (hr : r.val = (grid0.coords t 0).val * 1056 + y.val) :
    tableBAt m c t (ix2 y d) = tableB (posAt r) d := by
  refine Eq.trans (congrArg (V m c main_v39) (funext fun a => Fin.ext ?_)) (tableB_apply m c r d)
  blk_simp
  rw [index3 t]
  match a with
  | ⟨0, _⟩ => exact hr.symm
  | ⟨1, _⟩ => show 0 * 128 + (d : ℕ) = (d : ℕ); omega

abbrev tableCAt (c : Dev nD) (t : Fin cfg0.N) : Vec Ideal S1056x128 .f32 := iblk m c 4 t

theorem tableCAt_apply (c : Dev nD) (t : Fin cfg0.N) (y : Fin 1056) (d : Fin 128) (r : Fin 8448) (hr : r.val = (grid0.coords t 0).val * 1056 + y.val) :
    tableCAt m c t (ix2 y d) = tableC (posAt r) d := by
  refine Eq.trans (congrArg (V m c main_v42) (funext fun a => Fin.ext ?_)) (tableC_apply m c r d)
  blk_simp
  rw [index4 t]
  match a with
  | ⟨0, _⟩ => exact hr.symm
  | ⟨1, _⟩ => show 0 * 128 + (d : ℕ) = (d : ℕ); omega

/-- A product of the blocks is the row's projection. -/
theorem colAt_eq (c : Dev nD) (t : Fin cfg0.N) (y : Fin 1056) (z : Fin 512) (r : Fin 8448) (f : Fin 2048) (hr : r.val = (grid0.coords t 0).val * 1056 + y.val)
    (hf : f.val = (grid0.coords t 1).val * 512 + z.val) :
    colAt (rowsAt m c t) (weightsAt m c t) y z = projAt (prompt m c) (sample m c) (weights m c) r f := by
  unfold colAt projAt
  exact Finset.sum_congr rfl fun k _ => congrArg₂ (· * ·) (rowsAt_apply m c t y k r hr) (weightsAt_apply m c t k z f hf)

/-- The block a point leaves is the rows' queries, where they lie in the array. -/
theorem point_eq (c : Dev nD) (t : Fin cfg0.N) (y : S1056x512.Idx) (r : Fin 8448) (f : Fin 2048)
    (hr : r.val = (grid0.coords t 0).val * 1056 + (y 0).val) (hf : f.val = (grid0.coords t 1).val * 512 + (y 1).val) :
    out0_5 (rowsAt m c t) (weightsAt m c t) (tableAAt m c t) (tableBAt m c t) (tableCAt m c t) y = keyAt (prompt m c) (sample m c) (weights m c) r f := by
  have hz : (y 1).val < 512 := (y 1).isLt
  have e : (⟨(y 1).val % 128, by omega⟩ : Fin 128) = ⟨f.val % 128, by omega⟩ := Fin.ext (by show (y 1).val % 128 = f.val % 128; omega)
  rw [out_apply]
  unfold bodyAt keyAt
  rw [e]
  refine Eq.trans ?_ (turnAt_tables _ _ _)
  exact congrArg₂ (· + ·) (congrArg₂ (· + ·)
    (congrArg₂ (· * ·) (colAt_eq m c t (y 0) _ r f hr hf) (tableAAt_apply m c t (y 0) _ r hr))
    (congrArg₂ (· * ·) (colAt_eq m c t (y 0) _ r _ hr (by
      show f.val / 128 * 128 + (f.val % 128 + 16) % 128 = (grid0.coords t 1).val * 512 + ((y 1).val / 128 * 128 + ((y 1).val % 128 + 16) % 128); omega))
      (tableBAt_apply m c t (y 0) _ r hr)))
    (congrArg₂ (· * ·) (colAt_eq m c t (y 0) _ r _ hr (by
      show f.val / 128 * 128 + (f.val % 128 + 112) % 128 = (grid0.coords t 1).val * 512 + ((y 1).val / 128 * 128 + ((y 1).val % 128 + 112) % 128); omega))
      (tableCAt_apply m c t (y 0) _ r hr))

/-- The array after the run. -/
theorem final (c : Dev nD) :
    (dats m 0 c).arrAt 5 cfg0.N = fun i : S8448x2048.Idx => keyAt (prompt m c) (sample m c) (weights m c) (i 0) (i 1) := by
  refine (dats m 0 c).arrAt_eq_of_covers 5 _ ?_ fun t hf y => ?_
  · refine (cfg0.win 5).covers_of_indexMap_surj rfl (fun a => ?_) fun β => ?_
    · match a with
      | ⟨0, _⟩ => exact (by decide : 0 < 1056)
      | ⟨1, _⟩ => exact (by decide : 0 < 512)
    · have b0 : (β (0 : Fin 2)).val < 8 := lt_of_lt_of_eq (β (0 : Fin 2)).isLt (by show (8448 + 1056 - 1) / 1056 = 8; decide)
      have b1 : (β (1 : Fin 2)).val < 4 := lt_of_lt_of_eq (β (1 : Fin 2)).isLt (by show (2048 + 512 - 1) / 512 = 4; decide)
      refine ⟨fun a => match a with | ⟨0, _⟩ => ⟨(β (0 : Fin 2)).val, b0⟩ | ⟨1, _⟩ => ⟨(β (1 : Fin 2)).val, b1⟩, fun a => ?_⟩
      match a with
      | ⟨0, _⟩ => show (BitVec.ofNat 32 (β (0 : Fin 2)).val).toNat = (β (0 : Fin 2)).val; rw [BitVec.toNat_ofNat, Nat.mod_eq_of_lt (by omega)]
      | ⟨1, _⟩ => show (BitVec.ofNat 32 (β (1 : Fin 2)).val).toNat = (β (1 : Fin 2)).val; rw [BitVec.toNat_ofNat, Nat.mod_eq_of_lt (by omega)]
  · blk_simp
    rw [after0_5]
    refine point_eq m c t y _ _ ?_ ?_
    · blk_simp; rw [index5 t]; rfl
    · blk_simp; rw [index5 t]; rfl

end Cert.QueriesIdeal.Project

end
-- ==== Proof.QueriesReferenceIdeal.Turn.lean ====
module

public import proofs.«01_k».proof.Proof.Rotation
public import proofs.«01_k».proof.Proof.Gen.QueriesReferenceIdeal.Read

@[expose] public section

/-! The reference's rotation of the prompts' and of the samples' queries, index by index. -/

noncomputable section

namespace Cert.QueriesReferenceIdeal.Project

open Idealize.ShloMosaic Idealize.ShloMosaic.TcCoe Idealize.ShloMosaic.Tactic
open Cert.QueriesReferenceIdeal Cert.QueriesReferenceIdeal.Read Cert.Tokens Cert.Rotation

variable (x0 : (⟨S4x2048x2048, .f32⟩ : BufTy).Contents (Elt Ideal)) (x1 : (⟨S8x4x2048, .f32⟩ : BufTy).Contents (Elt Ideal))
  (x2 : (⟨S2048x2048, .f32⟩ : BufTy).Contents (Elt Ideal))

/-- The prompts' product. -/
theorem prompt_product (i : S4x2048x2048.Idx) : val_main_v0 (F := Ideal) x0 x2 i = ∑ k : Fin 2048, x0 (ix3 (i 0) (i 1) k) * x2 (ix2 k (i 2)) := by
  rw [val_main_v0_apply]
  refine Finset.sum_congr rfl fun k _ => congrArg₂ (· * ·) (congrArg x0 (funext fun a => ?_)) (congrArg x2 (funext fun a => ?_))
  · match a with
    | ⟨0, _⟩ => rfl
    | ⟨1, _⟩ => rfl
    | ⟨2, _⟩ => rfl
  · match a with
    | ⟨0, _⟩ => rfl
    | ⟨1, _⟩ => rfl

/-- The samples' product. -/
theorem sample_product (i : S8x4x2048.Idx) : val_main_v39 (F := Ideal) x1 x2 i = ∑ k : Fin 2048, x1 (ix3 (i 0) (i 1) k) * x2 (ix2 k (i 2)) := by
  rw [val_main_v39_apply]
  refine Finset.sum_congr rfl fun k _ => congrArg₂ (· * ·) (congrArg x1 (funext fun a => ?_)) (congrArg x2 (funext fun a => ?_))
  · match a with
    | ⟨0, _⟩ => rfl
    | ⟨1, _⟩ => rfl
    | ⟨2, _⟩ => rfl
  · match a with
    | ⟨0, _⟩ => rfl
    | ⟨1, _⟩ => rfl

/-- The prompts' angles. -/
theorem prompt_freq (d : Fin 16) : val_main_v14 (F := Ideal) (ix1 d) = freq d := rfl

theorem prompt_pos (t : Fin 2048) : val_main_v4 (F := Ideal) (ix1 t) = BitVec.ofNat 32 t.val := BitVec.zero_add _

theorem prompt_angle (t : Fin 2048) (d : Fin 16) : val_main_v20 (F := Ideal) (ix2 t d) = angle (BitVec.ofNat 32 t.val) d := by
  unfold angle
  rw [← prompt_pos, ← prompt_freq]
  unfold val_main_v20 val_main_v18 val_main_v16 val_main_v15 val_main_v19 val_main_v17
  generalize val_main_v4 (F := Ideal) = p
  generalize val_main_v14 (F := Ideal) = q
  pointwise

/-- The samples' angles. -/
theorem sample_freq (d : Fin 16) : val_main_v53 (F := Ideal) (ix1 d) = freq d := rfl

theorem sample_pos (t : Fin 4) : val_main_v43 (F := Ideal) (ix1 t) = 16384#32 + BitVec.ofNat 32 t.val := rfl

theorem sample_angle (t : Fin 4) (d : Fin 16) : val_main_v59 (F := Ideal) (ix2 t d) = angle (16384#32 + BitVec.ofNat 32 t.val) d := by
  unfold angle
  rw [← sample_pos, ← sample_freq]
  unfold val_main_v59 val_main_v57 val_main_v55 val_main_v54 val_main_v58 val_main_v56
  generalize val_main_v43 (F := Ideal) = p
  generalize val_main_v53 (F := Ideal) = q
  pointwise

/-- The prompts' rotated rows. -/
theorem prompt_turn (b : Fin 4) (t : Fin 2048) (h : Fin 16) (d : Fin 128) (f : Fin 2048) (hf : f.val = h.val * 128 + d.val) :
    val_main_v38 (F := Ideal) x0 x2 (ix4 b t h d) = turnAt (fun f => val_main_v0 (F := Ideal) x0 x2 (ix3 b t f)) (BitVec.ofNat 32 t.val) f := by
  have hc : ∀ e : Fin 16, val_main_v21 (F := Ideal) (ix2 t e) = cosAt (BitVec.ofNat 32 t.val) e := fun e => by
    unfold cosAt; rw [← prompt_angle]; rfl
  have hs : ∀ e : Fin 16, val_main_v23 (F := Ideal) (ix2 t e) = sinAt (BitVec.ofNat 32 t.val) e := fun e => by
    unfold sinAt; rw [← prompt_angle]; rfl
  unfold val_main_v38 val_main_v31 val_main_v36 val_main_v37 val_main_v28 val_main_v30 val_main_v33 val_main_v35 val_main_v27 val_main_v29 val_main_v32
    val_main_v34 val_main_v22 val_main_v24 val_main_v25 val_main_v26 val_main_v1
  unfold turnAt
  simp only [← hc, ← hs]
  generalize val_main_v0 (F := Ideal) x0 x2 = y
  generalize val_main_v21 (F := Ideal) = c
  generalize val_main_v23 (F := Ideal) = s
  pointwise
  exact turn_pieces (H := 16) (fun f => y (ix3 b t f)) (fun e => c (ix2 t e)) (fun e => s (ix2 t e)) rfl h d f hf

/-- The samples' rotated rows. -/
theorem sample_turn (b : Fin 8) (t : Fin 4) (h : Fin 16) (d : Fin 128) (f : Fin 2048) (hf : f.val = h.val * 128 + d.val) :
    val_main_v77 (F := Ideal) x1 x2 (ix4 b t h d) = turnAt (fun f => val_main_v39 (F := Ideal) x1 x2 (ix3 b t f)) (16384#32 + BitVec.ofNat 32 t.val) f := by
  have hc : ∀ e : Fin 16, val_main_v60 (F := Ideal) (ix2 t e) = cosAt (16384#32 + BitVec.ofNat 32 t.val) e := fun e => by
    unfold cosAt; rw [← sample_angle]; rfl
  have hs : ∀ e : Fin 16, val_main_v62 (F := Ideal) (ix2 t e) = sinAt (16384#32 + BitVec.ofNat 32 t.val) e := fun e => by
    unfold sinAt; rw [← sample_angle]; rfl
  unfold val_main_v77 val_main_v70 val_main_v75 val_main_v76 val_main_v67 val_main_v69 val_main_v72 val_main_v74 val_main_v66 val_main_v68 val_main_v71
    val_main_v73 val_main_v61 val_main_v63 val_main_v64 val_main_v65 val_main_v40
  unfold turnAt
  simp only [← hc, ← hs]
  generalize val_main_v39 (F := Ideal) x1 x2 = y
  generalize val_main_v60 (F := Ideal) = c
  generalize val_main_v62 (F := Ideal) = s
  pointwise
  exact turn_pieces (H := 16) (fun f => y (ix3 b t f)) (fun e => c (ix2 t e)) (fun e => s (ix2 t e)) rfl h d f hf

end Cert.QueriesReferenceIdeal.Project

end
-- ==== Proof.QueriesReferenceIdeal.Value.lean ====
module

public import proofs.«01_k».proof.Proof.QueriesReferenceIdeal.Turn

@[expose] public section

/-! The reference of the projection with rotation, index by index. -/

noncomputable section

namespace Cert.QueriesReferenceIdeal.Project

open Idealize.ShloMosaic Idealize.ShloMosaic.TcCoe Idealize.ShloMosaic.Tactic
open Cert.QueriesReferenceIdeal Cert.QueriesReferenceIdeal.Read Cert.Tokens Cert.Rotation

variable (x0 : (⟨S4x2048x2048, .f32⟩ : BufTy).Contents (Elt Ideal)) (x1 : (⟨S8x4x2048, .f32⟩ : BufTy).Contents (Elt Ideal))
  (x2 : (⟨S2048x2048, .f32⟩ : BufTy).Contents (Elt Ideal))

/-- A prompt's token. -/
theorem prompt_queries (r : Fin 8448) (b : Fin 4) (t : Fin 2048) (hr : r.val = b.val * 2048 + t.val) (h : Fin 16) (d : Fin 128) (f : Fin 2048)
    (hf : f.val = h.val * 128 + d.val) : val_main_v38 (F := Ideal) x0 x2 (ix4 b t h d) = keyAt x0 x1 x2 r f := by
  have hb := b.isLt
  have ht := t.isLt
  rw [prompt_turn x0 x2 b t h d f hf]
  unfold keyAt posAt
  rw [if_pos (by omega), show r.val % 2048 = t.val by omega]
  refine congrArg (fun y => turnAt y _ f) (funext fun g => ?_)
  rw [prompt_product]
  exact (projAt_prompt x0 x1 x2 r g b t hr).symm

/-- A sample's token. -/
theorem sample_queries (r : Fin 8448) (b : Fin 8) (t : Fin 4) (hr : r.val = 8192 + (b.val * 4 + t.val)) (h : Fin 16) (d : Fin 128) (f : Fin 2048)
    (hf : f.val = h.val * 128 + d.val) : val_main_v77 (F := Ideal) x1 x2 (ix4 b t h d) = keyAt x0 x1 x2 r f := by
  have hb := b.isLt
  have ht := t.isLt
  rw [sample_turn x1 x2 b t h d f hf]
  unfold keyAt posAt
  rw [if_neg (by omega), if_pos (by omega), show (r.val - 8192) % 4 = t.val by omega]
  refine congrArg (fun y => turnAt y _ f) (funext fun g => ?_)
  rw [sample_product]
  exact (projAt_sample x0 x1 x2 r g b t hr).symm

/-- The reference's result at row `i 0`, column `i 1`. -/
theorem ref_at (i : S8448x2048.Idx) : val_main_v81 (F := Ideal) x0 x1 x2 i = keyAt x0 x1 x2 (i 0) (i 1) := by
  unfold val_main_v81 val_main_v78 val_main_v79 val_main_v80 val_main_cst_8
  have hp := prompt_queries x0 x1 x2
  have hs := sample_queries x0 x1 x2
  revert hp hs
  generalize val_main_v38 (F := Ideal) x0 x2 = y0
  generalize val_main_v77 (F := Ideal) x1 x2 = y1
  intro hp hs
  have hr : (i 0).val < 8448 := (i 0).isLt
  have hf : (i 1).val < 2048 := (i 1).isLt
  pointwise
  by_cases h : (i 0).val < 8192
  · rw [dif_pos h]
    exact hp (i 0) _ _ (by show (i 0).val = (i 0).val / 2048 * 2048 + (i 0).val % 2048; omega) _ _ (i 1)
      (by show (i 1).val = (i 1).val / 128 * 128 + (i 1).val % 128; omega)
  · rw [dif_neg h]
    by_cases h' : (i 0).val - 8192 < 32
    · rw [dif_pos h']
      exact hs (i 0) _ _ (by show (i 0).val = 8192 + (((i 0).val - 8192) / 4 * 4 + ((i 0).val - 8192) % 4); omega) _ _ (i 1)
        (by show (i 1).val = (i 1).val / 128 * 128 + (i 1).val % 128; omega)
    · rw [dif_neg h']
      exact (turnAt_zero _ _ _ fun f => projAt_zero x0 x1 x2 (i 0) f (by omega)).symm

end Cert.QueriesReferenceIdeal.Project

end
-- ==== Proof.QueriesClaim.lean ====
module

public import proofs.«01_k».proof.Defs
public import proofs.«01_k».proof.Proof.Gen.Queries.Frame
public import proofs.«01_k».proof.Proof.QueriesIdeal.Value
public import proofs.«01_k».proof.Proof.QueriesReferenceIdeal.Value
public import Idealize.ShloMosaic.Lib.Claim

@[expose] public section

/-! The claims of the projection to the queries with its rotation. -/

namespace Cert.QueriesClaim

open Idealize.ShloMosaic Idealize.ShloMosaic.TcCoe Idealize.SL.Sem

theorem frame_kernel : Cert.quiescent_Queries := fun m g _ => Cert.Queries.Gen.frame m g

theorem frame_ideal : Cert.quiescent_QueriesIdeal := fun m g _ => Cert.QueriesIdeal.Gen.frame m g

theorem frame_reference : Cert.quiescent_QueriesReferenceIdeal := fun m g _ =>
  (θ_run Cert.QueriesReferenceIdeal.defs _ _).mono (fun r h => ⟨fun c => (h c).2, sem_eq_zero_of_no_sems (by decide) _⟩) (Cert.QueriesReferenceIdeal.Value.run m g)

theorem value : Cert.algebraic_QueriesIdeal_QueriesReferenceIdeal := by
  intro m g m' g' hpre hagree
  refine ⟨fun c => (Cert.QueriesIdeal.Gen.dats m 0 c).arrAt 5 Cert.QueriesIdeal.cfg0.N, Cert.QueriesIdeal.Value.run_blocks m g, ?_⟩
  refine (θ_run Cert.QueriesReferenceIdeal.defs _ _).mono (fun r h c => ⟨(h c).1.trans ((Cert.QueriesReferenceIdeal.Read.val_main_v81_eq m' c).trans ?_), (h c).2⟩) (Cert.QueriesReferenceIdeal.Value.run m' g')
  obtain ⟨a0, a1, a2⟩ := hagree c
  obtain rfl : c = 0 := Subsingleton.elim _ _
  refine Eq.trans ?_ (Cert.QueriesIdeal.Project.final m 0).symm
  funext i
  rw [a0, a1, a2]
  exact Cert.QueriesReferenceIdeal.Project.ref_at _ _ _ i

end Cert.QueriesClaim
-- ==== Proof.PooledNormIdeal.Value.lean ====
module

public import proofs.«01_k».proof.Proof.Gen.PooledNormIdeal.Value
public import proofs.«01_k».proof.Proof.Norm
public import Idealize.ShloMosaic.Lib.WholeRead
public import Idealize.ShloMosaic.Lib.Pipeline.Covers
public import Idealize.ShloMosaic.Lib.Pipeline.ValueKit

@[expose] public section

/-! What the pooled layer's norm leaves. -/

noncomputable section

namespace Cert.PooledNormIdeal.Pooled

open Idealize.ShloMosaic Idealize.ShloMosaic.TcCoe Idealize.ShloMosaic.Tactic
open Idealize.ShloMosaic.Pipeline (Dat Window)
open Cert.PooledNormIdeal Cert.PooledNormIdeal.Gen Cert.Norm

/-- The layer norm of a block of rows. -/
theorem norm_apply (x a : Vec Ideal S528x2048 .f32) (g b : Vec Ideal S1x2048 .f32) (j : S528x2048.Idx) :
    k0_pay1 (F := Ideal) x a g b j
      = normAt (mixed (fun k => x (ix2 (j 0) k)) (fun k => a (ix2 (j 0) k))) (fun k => g (ix2 0 k)) (fun k => b (ix2 0 k)) (j 1) := by
  unfold normAt varOf centred meanOf mixed alpha width eps
  pointwise [k0_pay1]

/-- The block of the wide result. -/
theorem out_wide (x a : Vec Ideal S528x2048 .f32) (g b : Vec Ideal S1x2048 .f32) (j : S528x2048.Idx) :
    out0_4 (F := Ideal) x a g b j
      = normAt (mixed (fun k => x (ix2 (j 0) k)) (fun k => a (ix2 (j 0) k))) (fun k => g (ix2 0 k)) (fun k => b (ix2 0 k)) (j 1) := by
  frame_out
  exact norm_apply x a g b j

/-- The block of the narrowed result. -/
theorem out_narrow (x a : Vec Ideal S528x2048 .f32) (g b : Vec Ideal S1x2048 .f32) (j : S528x2048.Idx) :
    out0_5 (F := Ideal) x a g b j
      = normAt (mixed (fun k => x (ix2 (j 0) k)) (fun k => a (ix2 (j 0) k))) (fun k => g (ix2 0 k)) (fun k => b (ix2 0 k)) (j 1) := by
  frame_out
  exact norm_apply x a g b j

variable (m : (ℓ : Loc nD τ sig) → Buf (Elt Ideal) ℓ)

/-- The residual, what is added to it, the scale and the shift, as launched. -/
abbrev residual (c : Dev nD) : Vec Ideal S8448x2048 .f32 := m ((c.tc : Thread nD τ).loc main_arg0)
abbrev added (c : Dev nD) : Vec Ideal S8448x2048 .f32 := m ((c.tc : Thread nD τ).loc main_arg1)
abbrev scale (c : Dev nD) : Vec Ideal S2048 .f32 := m ((c.tc : Thread nD τ).loc main_arg2)
abbrev shift (c : Dev nD) : Vec Ideal S2048 .f32 := m ((c.tc : Thread nD τ).loc main_arg3)

/-- A grid coordinate as a word is itself. -/
theorem coord0 (t : Fin cfg0.N) : (BitVec.ofNat 32 (grid0.coords t 0).val).toNat = (grid0.coords t 0).val := by
  have h0 : (grid0.coords t 0).val < 16 := (grid0.coords t 0).isLt
  rw [BitVec.toNat_ofNat, Nat.mod_eq_of_lt (by omega)]

/-- The blocks' indices at a point. -/
theorem index0 (t : Fin cfg0.N) : (cfg0.win 0).index t = ![(grid0.coords t 0).val, 0] := by
  show (![(BitVec.ofNat 32 (grid0.coords t 0).val).toNat, 0] : Fin 2 → ℕ) = _
  rw [coord0]

theorem index1 (t : Fin cfg0.N) : (cfg0.win 1).index t = ![(grid0.coords t 0).val, 0] := by
  show (![(BitVec.ofNat 32 (grid0.coords t 0).val).toNat, 0] : Fin 2 → ℕ) = _
  rw [coord0]

theorem index4 (t : Fin cfg0.N) : (cfg0.win 4).index t = ![(grid0.coords t 0).val, 0] := by
  show (![(BitVec.ofNat 32 (grid0.coords t 0).val).toNat, 0] : Fin 2 → ℕ) = _
  rw [coord0]

theorem index5 (t : Fin cfg0.N) : (cfg0.win 5).index t = ![(grid0.coords t 0).val, 0] := by
  show (![(BitVec.ofNat 32 (grid0.coords t 0).val).toNat, 0] : Fin 2 → ℕ) = _
  rw [coord0]

theorem index2 (t : Fin cfg0.N) : (cfg0.win 2).index t = ![0, 0] := rfl

theorem index3 (t : Fin cfg0.N) : (cfg0.win 3).index t = ![0, 0] := rfl

/-- The scale as one row. -/
theorem scale_eq (c : Dev nD) : (V m c main_v0 : S1x2048.Idx → EReal) = shapeCast S1x2048 (scale m c) shapeCasts_S2048_S1x2048 := by
  unfold_abbrev_sides
  after_results
  all_goals rfl

theorem scale_apply (c : Dev nD) (t : Fin cfg0.N) (k : Fin 2048) : (iblk m c 2 t : Vec Ideal S1x2048 .f32) (ix2 0 k) = scale m c (ix1 k) := by
  have e : (V m c main_v0 : S1x2048.Idx → EReal) (ix2 0 k) = scale m c (ix1 k) := by
    rw [scale_eq]
    pointwise
  refine Eq.trans (congrArg (V m c main_v0) (funext fun a => Fin.ext ?_)) e
  blk_simp
  rw [index2 t]
  match a with
  | ⟨0, _⟩ => rfl
  | ⟨1, _⟩ => show 0 * 2048 + (k : ℕ) = (k : ℕ); omega

/-- The shift as one row. -/
theorem shift_eq (c : Dev nD) : (V m c main_v1 : S1x2048.Idx → EReal) = shapeCast S1x2048 (shift m c) shapeCasts_S2048_S1x2048 := by
  unfold_abbrev_sides
  after_results
  all_goals rfl

theorem shift_apply (c : Dev nD) (t : Fin cfg0.N) (k : Fin 2048) : (iblk m c 3 t : Vec Ideal S1x2048 .f32) (ix2 0 k) = shift m c (ix1 k) := by
  have e : (V m c main_v1 : S1x2048.Idx → EReal) (ix2 0 k) = shift m c (ix1 k) := by
    rw [shift_eq]
    pointwise
  refine Eq.trans (congrArg (V m c main_v1) (funext fun a => Fin.ext ?_)) e
  blk_simp
  rw [index3 t]
  match a with
  | ⟨0, _⟩ => rfl
  | ⟨1, _⟩ => show 0 * 2048 + (k : ℕ) = (k : ℕ); omega

/-- The residual's rows that a point is handed, in the array. -/
theorem residual_apply (c : Dev nD) (t : Fin cfg0.N) (y : Fin 528) (k : Fin 2048) (r : Fin 8448) (hr : r.val = (grid0.coords t 0).val * 528 + y.val) :
    (iblk m c 0 t : Vec Ideal S528x2048 .f32) (ix2 y k) = residual m c (ix2 r k) := by
  refine Eq.trans (congrArg (V m c main_arg0) (funext fun a => Fin.ext ?_)) (congrFun (V_main_arg0 m c) (ix2 r k))
  blk_simp
  rw [index0 t]
  match a with
  | ⟨0, _⟩ => exact hr.symm
  | ⟨1, _⟩ => show 0 * 2048 + (k : ℕ) = (k : ℕ); omega

/-- The added rows that a point is handed, in the array. -/
theorem added_apply (c : Dev nD) (t : Fin cfg0.N) (y : Fin 528) (k : Fin 2048) (r : Fin 8448) (hr : r.val = (grid0.coords t 0).val * 528 + y.val) :
    (iblk m c 1 t : Vec Ideal S528x2048 .f32) (ix2 y k) = added m c (ix2 r k) := by
  refine Eq.trans (congrArg (V m c main_arg1) (funext fun a => Fin.ext ?_)) (congrFun (V_main_arg1 m c) (ix2 r k))
  blk_simp
  rw [index1 t]
  match a with
  | ⟨0, _⟩ => exact hr.symm
  | ⟨1, _⟩ => show 0 * 2048 + (k : ℕ) = (k : ℕ); omega

/-- The layer norm of a block of rows, where they lie in the array. -/
theorem normed_eq (c : Dev nD) (t : Fin cfg0.N) (y : S528x2048.Idx) (r : Fin 8448) (f : Fin 2048)
    (hr : r.val = (grid0.coords t 0).val * 528 + (y 0).val) (hf : f.val = (y 1).val) :
    normAt (mixed (fun k => (iblk m c 0 t : Vec Ideal S528x2048 .f32) (ix2 (y 0) k)) (fun k => (iblk m c 1 t : Vec Ideal S528x2048 .f32) (ix2 (y 0) k)))
        (fun k => (iblk m c 2 t : Vec Ideal S1x2048 .f32) (ix2 0 k)) (fun k => (iblk m c 3 t : Vec Ideal S1x2048 .f32) (ix2 0 k)) (y 1)
      = pooledAt (residual m c) (added m c) (scale m c) (shift m c) r f := by
  unfold pooledAt
  exact normAt_congr (congrArg₂ mixed (funext fun k => residual_apply m c t (y 0) k r hr) (funext fun k => added_apply m c t (y 0) k r hr))
    (funext fun k => scale_apply m c t k) (funext fun k => shift_apply m c t k) (Fin.ext hf.symm)

/-- The array the run leaves. -/
theorem final_wide (c : Dev nD) :
    (dats m 0 c).arrAt 4 cfg0.N = fun i : S8448x2048.Idx => pooledAt (residual m c) (added m c) (scale m c) (shift m c) (i 0) (i 1) := by
  refine (dats m 0 c).arrAt_eq_of_covers 4 _ ?_ fun t hf y => ?_
  · refine (cfg0.win 4).covers_of_indexMap_surj rfl (fun a => ?_) fun β => ?_
    · match a with
      | ⟨0, _⟩ => exact (by decide : 0 < 528)
      | ⟨1, _⟩ => exact (by decide : 0 < 2048)
    · have b0 : (β (0 : Fin 2)).val < 16 := lt_of_lt_of_eq (β (0 : Fin 2)).isLt (by show (8448 + 528 - 1) / 528 = 16; decide)
      have b1 : (β (1 : Fin 2)).val < 1 := lt_of_lt_of_eq (β (1 : Fin 2)).isLt (by show (2048 + 2048 - 1) / 2048 = 1; decide)
      refine ⟨fun a => match a with | ⟨0, _⟩ => ⟨(β (0 : Fin 2)).val, b0⟩, fun a => ?_⟩
      match a with
      | ⟨0, _⟩ => show (BitVec.ofNat 32 (β (0 : Fin 2)).val).toNat = (β (0 : Fin 2)).val; rw [BitVec.toNat_ofNat, Nat.mod_eq_of_lt (by omega)]
      | ⟨1, _⟩ => show 0 = (β (1 : Fin 2)).val; omega
  · blk_simp
    rw [after0_4]
    refine (out_wide _ _ _ _ y).trans (normed_eq m c t y _ _ ?_ ?_)
    · blk_simp; rw [index4 t]; rfl
    · blk_simp; rw [index4 t]; show 0 * 2048 + (y 1 : ℕ) = (y 1 : ℕ); omega

/-- The array the run leaves, narrowed. -/
theorem final_narrow (c : Dev nD) :
    (dats m 0 c).arrAt 5 cfg0.N = fun i : S8448x2048.Idx => pooledAt (residual m c) (added m c) (scale m c) (shift m c) (i 0) (i 1) := by
  refine (dats m 0 c).arrAt_eq_of_covers 5 _ ?_ fun t hf y => ?_
  · refine (cfg0.win 5).covers_of_indexMap_surj rfl (fun a => ?_) fun β => ?_
    · match a with
      | ⟨0, _⟩ => exact (by decide : 0 < 528)
      | ⟨1, _⟩ => exact (by decide : 0 < 2048)
    · have b0 : (β (0 : Fin 2)).val < 16 := lt_of_lt_of_eq (β (0 : Fin 2)).isLt (by show (8448 + 528 - 1) / 528 = 16; decide)
      have b1 : (β (1 : Fin 2)).val < 1 := lt_of_lt_of_eq (β (1 : Fin 2)).isLt (by show (2048 + 2048 - 1) / 2048 = 1; decide)
      refine ⟨fun a => match a with | ⟨0, _⟩ => ⟨(β (0 : Fin 2)).val, b0⟩, fun a => ?_⟩
      match a with
      | ⟨0, _⟩ => show (BitVec.ofNat 32 (β (0 : Fin 2)).val).toNat = (β (0 : Fin 2)).val; rw [BitVec.toNat_ofNat, Nat.mod_eq_of_lt (by omega)]
      | ⟨1, _⟩ => show 0 = (β (1 : Fin 2)).val; omega
  · blk_simp
    rw [after0_5]
    refine (out_narrow _ _ _ _ y).trans (normed_eq m c t y _ _ ?_ ?_)
    · blk_simp; rw [index5 t]; rfl
    · blk_simp; rw [index5 t]; show 0 * 2048 + (y 1 : ℕ) = (y 1 : ℕ); omega

end Cert.PooledNormIdeal.Pooled

end
-- ==== Proof.PooledNormReferenceIdeal.Value.lean ====
module

public import proofs.«01_k».proof.Proof.Gen.PooledNormReferenceIdeal.Read
public import proofs.«01_k».proof.Proof.Norm

@[expose] public section

/-! The reference of the pooled layer's norm, index by index. -/

noncomputable section

namespace Cert.PooledNormReferenceIdeal.Pooled

open Idealize.ShloMosaic Idealize.ShloMosaic.TcCoe Idealize.ShloMosaic.Tactic
open Cert.PooledNormReferenceIdeal Cert.PooledNormReferenceIdeal.Read Cert.Norm

variable (x0 x1 : (⟨S8448x2048, .f32⟩ : BufTy).Contents (Elt Ideal)) (x2 x3 : (⟨S2048, .f32⟩ : BufTy).Contents (Elt Ideal))

/-- The row that the reference normalises. -/
abbrev row (r : Fin 8448) : Fin 2048 → EReal := mixed (fun k => x0 (ix2 r k)) (fun k => x1 (ix2 r k))

/-- The scaled residual and what is added to it. -/
theorem sum_apply (i : S8448x2048.Idx) : val_main_v2 (F := Ideal) x0 x1 i = row x0 x1 (i 0) (i 1) := by
  rw [val_main_v2_apply, val_main_v1_apply, val_main_v0_apply, val_main_cst_apply]
  refine congrArg₂ (· + ·) (congrArg (alpha * ·) (congrArg x0 (funext fun a => ?_))) (congrArg x1 (funext fun a => ?_))
  all_goals match a with
    | ⟨0, _⟩ => rfl
    | ⟨1, _⟩ => rfl

/-- The rows' means. -/
theorem mean_apply (i : S8448x1.Idx) : val_main_v6 (F := Ideal) x0 x1 i = meanOf (row x0 x1 (i 0)) := by
  rw [val_main_v6_apply, val_main_v4_apply, val_main_v5_apply, val_main_v3_apply, val_main_cst_0_apply, val_main_cst_1_apply]
  simp only [sum_apply]
  unfold meanOf width
  pointwise
  rfl

/-- The rows less their means. -/
theorem centred_apply (i : S8448x2048.Idx) : val_main_v8 (F := Ideal) x0 x1 i = centred (row x0 x1 (i 0)) (i 1) := by
  rw [val_main_v8_apply, val_main_v7_apply, sum_apply, mean_apply]
  rfl

theorem centred_again_apply (i : S8448x2048.Idx) : val_main_v15 (F := Ideal) x0 x1 i = centred (row x0 x1 (i 0)) (i 1) := by
  rw [val_main_v15_apply, val_main_v14_apply, sum_apply, mean_apply]
  rfl

/-- The rows' variances. -/
theorem var_apply (i : S8448x1.Idx) : val_main_v13 (F := Ideal) x0 x1 i = varOf (row x0 x1 (i 0)) := by
  rw [val_main_v13_apply, val_main_v11_apply, val_main_v12_apply, val_main_v10_apply, val_main_cst_2_apply, val_main_cst_3_apply]
  simp only [val_main_v9_apply, centred_apply]
  unfold varOf meanOf width
  pointwise
  rfl

/-- The reference's result. -/
theorem ref_at (i : S8448x2048.Idx) : val_main_v26 (F := Ideal) x0 x1 x2 x3 i = pooledAt x0 x1 x2 x3 (i 0) (i 1) := by
  rw [val_main_v26_apply, val_main_v23_apply, val_main_v20_apply, centred_again_apply, val_main_v19_apply, val_main_v18_apply, val_main_v17_apply,
    var_apply, val_main_v16_apply, val_main_cst_4_apply, val_main_v22_apply, val_main_v21_apply, val_main_v25_apply, val_main_v24_apply]
  refine congrArg₂ (· + ·) (congrArg₂ (· * ·) rfl (congrArg x2 (funext fun a => ?_))) (congrArg x3 (funext fun a => ?_))
  all_goals match a with
    | ⟨0, _⟩ => rfl

/-- The narrowed result. -/
theorem ref_narrow_at (i : S8448x2048.Idx) : val_main_v27 (F := Ideal) x0 x1 x2 x3 i = pooledAt x0 x1 x2 x3 (i 0) (i 1) :=
  ref_at x0 x1 x2 x3 i

end Cert.PooledNormReferenceIdeal.Pooled

end
-- ==== Proof.PooledNormClaim.lean ====
module

public import proofs.«01_k».proof.Defs
public import proofs.«01_k».proof.Proof.Gen.PooledNorm.Frame
public import proofs.«01_k».proof.Proof.PooledNormIdeal.Value
public import proofs.«01_k».proof.Proof.PooledNormReferenceIdeal.Value
public import Idealize.ShloMosaic.Lib.Claim

@[expose] public section

/-! The claims of the pooled layer's norm. -/

namespace Cert.PooledNormClaim

open Idealize.ShloMosaic Idealize.ShloMosaic.TcCoe Idealize.SL.Sem

theorem frame_kernel : Cert.quiescent_PooledNorm := fun m g _ => Cert.PooledNorm.Gen.frame m g

theorem frame_ideal : Cert.quiescent_PooledNormIdeal := fun m g _ => Cert.PooledNormIdeal.Gen.frame m g

theorem frame_reference : Cert.quiescent_PooledNormReferenceIdeal := fun m g _ =>
  (θ_run Cert.PooledNormReferenceIdeal.defs _ _).mono (fun r h => ⟨fun c => (h c).2.2, sem_eq_zero_of_no_sems (by decide) _⟩) (Cert.PooledNormReferenceIdeal.Value.run m g)

theorem value : Cert.algebraic_PooledNormIdeal_PooledNormReferenceIdeal := by
  intro m g m' g' hpre hagree
  refine ⟨fun c => (Cert.PooledNormIdeal.Gen.dats m 0 c).arrAt 4 Cert.PooledNormIdeal.cfg0.N, fun c => (Cert.PooledNormIdeal.Gen.dats m 0 c).arrAt 5 Cert.PooledNormIdeal.cfg0.N, Cert.PooledNormIdeal.Value.run_blocks m g, ?_⟩
  refine (θ_run Cert.PooledNormReferenceIdeal.defs _ _).mono (fun r h c => ⟨(h c).1.trans ((Cert.PooledNormReferenceIdeal.Read.val_main_v26_eq _ _ _ _).trans ?_), (h c).2.1.trans ((Cert.PooledNormReferenceIdeal.Read.val_main_v27_eq _ _ _ _).trans ?_), (h c).2.2⟩) (Cert.PooledNormReferenceIdeal.Value.run m' g')
  · obtain ⟨a0, a1, a2, a3⟩ := hagree c
    obtain rfl : c = 0 := Subsingleton.elim _ _
    refine Eq.trans ?_ (Cert.PooledNormIdeal.Pooled.final_wide m 0).symm
    funext i
    rw [a0, a1, a2, a3]
    exact Cert.PooledNormReferenceIdeal.Pooled.ref_at _ _ _ _ i
  · obtain ⟨a0, a1, a2, a3⟩ := hagree c
    obtain rfl : c = 0 := Subsingleton.elim _ _
    refine Eq.trans ?_ (Cert.PooledNormIdeal.Pooled.final_narrow m 0).symm
    funext i
    rw [a0, a1, a2, a3]
    exact Cert.PooledNormReferenceIdeal.Pooled.ref_narrow_at _ _ _ _ i

end Cert.PooledNormClaim
-- ==== Proof.Window.lean ====
module

public import Idealize.ShloMosaic.PureOps.Ideal
public import Idealize.ShloMosaic.Lib.Pointwise
public import Idealize.ShloMosaic.Lib.ValueIdx

@[expose] public section

/-! The windowed means of the pooled layer, over the extended reals. -/

noncomputable section

namespace Cert.Window

open Idealize.ShloMosaic

/-- The sum of the entries 0 to `n`. -/
def backSum (f : ℕ → EReal) : ℕ → EReal
  | 0 => f 0
  | n + 1 => backSum f n + f (n + 1)

/-- The number of inputs of a window of `w` at position `p`: those from position 0 on. -/
def span (w p : BitVec 32) : EReal := FloatOps.sitofp (F := Ideal) .f32 (IntOp.minsi w (IntOp.addi p 1#32))

/-- The mean of the last `n + 1` inputs before and at row `t` of a history, less the input there. -/
def mixedAt (h : ℕ → EReal) (n : ℕ) (w p : BitVec 32) (t : ℕ) : EReal :=
  FloatOps.divf (F := Ideal) (φ := .f32) (backSum (fun d => h (15 + t - d)) n) (span w p) - h (15 + t)

/-- The window of a group of columns: 2, 4, 8 or 16 inputs. -/
def windowOf (g : ℕ) : ℕ := 2 ^ (g + 1)

/-- The windowed mean of a group's column. -/
def groupAt (h : ℕ → EReal) (g : ℕ) (p : BitVec 32) (t : ℕ) : EReal := mixedAt h (windowOf g - 1) (BitVec.ofNat 32 (windowOf g)) p t

/-- What the body selects is the windowed mean of its group. -/
theorem picked (h : ℕ → EReal) (g : Fin 4) (p : BitVec 32) (t : ℕ) :
    Scalar.select (Scalar.cmpi .eq (BitVec.ofNat 32 g.val) 3#32) (mixedAt h 15 16#32 p t)
      (Scalar.select (Scalar.cmpi .eq (BitVec.ofNat 32 g.val) 2#32) (mixedAt h 7 8#32 p t)
        (Scalar.select (Scalar.cmpi .eq (BitVec.ofNat 32 g.val) 1#32) (mixedAt h 3 4#32 p t) (mixedAt h 1 2#32 p t)))
      = groupAt h g.val p t := by
  unfold groupAt
  match g with
  | ⟨0, _⟩ => rfl
  | ⟨1, _⟩ => rfl
  | ⟨2, _⟩ => rfl
  | ⟨3, _⟩ => rfl

/-- The history of a sample's column: the state's 15 inputs, the 4 new ones, zeros behind them. -/
def sampleHist (s : Shape.Idx ⟨3, ![8, 15, 2048]⟩ → EReal) (x : Shape.Idx ⟨3, ![8, 4, 2048]⟩ → EReal) (b : Fin 8) (f : Fin 2048) (r : ℕ) : EReal :=
  if h : r < 15 then s (ix3 b ⟨r, h⟩ f) else if h' : r - 15 < 4 then x (ix3 b ⟨r - 15, h'⟩ f) else 0

/-- The column `k` of the group `g`. -/
abbrev col (g : Fin 4) (k : Fin 512) : Fin 2048 := ⟨g.val * 512 + k.val, by omega⟩

/-- An entry of the samples' result. -/
def sampleAt (s : Shape.Idx ⟨3, ![8, 15, 2048]⟩ → EReal) (x : Shape.Idx ⟨3, ![8, 4, 2048]⟩ → EReal) (w : Shape.Idx ⟨3, ![4, 512, 512]⟩ → EReal)
    (c : Shape.Idx ⟨1, ![2048]⟩ → EReal) (b t : Fin 8) (g : Fin 4) (e : Fin 512) : EReal :=
  (∑ k : Fin 512, groupAt (sampleHist s x b (col g k)) g.val (IntOp.addi 16384#32 (BitVec.ofNat 32 t.val)) t.val * w (ix3 g k e)) * c (ix1 (col g e))

/-- The samples' result: a column is in the group of its 512. -/
def sampleOut (s : Shape.Idx ⟨3, ![8, 15, 2048]⟩ → EReal) (x : Shape.Idx ⟨3, ![8, 4, 2048]⟩ → EReal) (w : Shape.Idx ⟨3, ![4, 512, 512]⟩ → EReal)
    (c : Shape.Idx ⟨1, ![2048]⟩ → EReal) (b t : Fin 8) (f : Fin 2048) : EReal :=
  sampleAt s x w c b t ⟨f.val / 512, by omega⟩ ⟨f.val % 512, by omega⟩

theorem sampleOut_eq (s : Shape.Idx ⟨3, ![8, 15, 2048]⟩ → EReal) (x : Shape.Idx ⟨3, ![8, 4, 2048]⟩ → EReal) (w : Shape.Idx ⟨3, ![4, 512, 512]⟩ → EReal)
    (c : Shape.Idx ⟨1, ![2048]⟩ → EReal) (b t : Fin 8) (f : Fin 2048) (g : Fin 4) (e : Fin 512) (hf : f.val = g.val * 512 + e.val) :
    sampleOut s x w c b t f = sampleAt s x w c b t g e := by
  unfold sampleOut
  exact congrArg₂ (sampleAt s x w c b t) (Fin.ext (by show f.val / 512 = g.val; omega)) (Fin.ext (by show f.val % 512 = e.val; omega))

/-- What a sum over the windows reads of a history: its rows up to 15 rows after the entry's. -/
theorem groupAt_congr {h h' : ℕ → EReal} {g : ℕ} {p : BitVec 32} {t n : ℕ} (e : ∀ r < n, h r = h' r) (ht : 15 + t < n) : groupAt h g p t = groupAt h' g p t := by
  have s : ∀ k, backSum (fun d => h (15 + t - d)) k = backSum (fun d => h' (15 + t - d)) k := fun k => by
    induction k with
    | zero => exact e _ (by omega)
    | succ k ih => exact congrArg₂ (· + ·) ih (e _ (by omega))
  unfold groupAt mixedAt
  rw [s, e _ ht]

/-- The history of a prompt's column: 15 zeros before its inputs. -/
def promptHist (x : Shape.Idx ⟨3, ![4, 2048, 2048]⟩ → EReal) (b : Fin 4) (f : Fin 2048) (r : ℕ) : EReal :=
  if h : 15 ≤ r ∧ r - 15 < 2048 then x (ix3 b ⟨r - 15, h.2⟩ f) else 0

/-- An entry of the prompts' result. -/
def promptAt (x : Shape.Idx ⟨3, ![4, 2048, 2048]⟩ → EReal) (w : Shape.Idx ⟨3, ![4, 512, 512]⟩ → EReal) (c : Shape.Idx ⟨1, ![2048]⟩ → EReal)
    (b : Fin 4) (t : Fin 2048) (g : Fin 4) (e : Fin 512) : EReal :=
  (∑ k : Fin 512, groupAt (promptHist x b (col g k)) g.val (BitVec.ofNat 32 t.val) t.val * w (ix3 g k e)) * c (ix1 (col g e))

/-- The prompts' result: a column is in the group of its 512. -/
def promptOut (x : Shape.Idx ⟨3, ![4, 2048, 2048]⟩ → EReal) (w : Shape.Idx ⟨3, ![4, 512, 512]⟩ → EReal) (c : Shape.Idx ⟨1, ![2048]⟩ → EReal)
    (b : Fin 4) (t f : Fin 2048) : EReal :=
  promptAt x w c b t ⟨f.val / 512, by omega⟩ ⟨f.val % 512, by omega⟩

theorem promptOut_eq (x : Shape.Idx ⟨3, ![4, 2048, 2048]⟩ → EReal) (w : Shape.Idx ⟨3, ![4, 512, 512]⟩ → EReal) (c : Shape.Idx ⟨1, ![2048]⟩ → EReal)
    (b : Fin 4) (t f : Fin 2048) (g : Fin 4) (e : Fin 512) (hf : f.val = g.val * 512 + e.val) : promptOut x w c b t f = promptAt x w c b t g e := by
  unfold promptOut
  exact congrArg₂ (promptAt x w c b t) (Fin.ext (by show f.val / 512 = g.val; omega)) (Fin.ext (by show f.val % 512 = e.val; omega))

end Cert.Window

end
-- ==== Proof.PooledSampleIdeal.Body.lean ====
module

public import proofs.«01_k».proof.Proof.Gen.PooledSampleIdeal.Value
public import proofs.«01_k».proof.Proof.Window
public import Idealize.ShloMosaic.Lib.WholeRead
public import Idealize.ShloMosaic.Lib.Pipeline.ValueKit

@[expose] public section

/-! What the pooled layer's body leaves in its block, for the samples. -/

noncomputable section

namespace Cert.PooledSampleIdeal.Pooled

open Idealize.ShloMosaic Idealize.ShloMosaic.TcCoe Idealize.ShloMosaic.Tactic
open Cert.PooledSampleIdeal Cert.PooledSampleIdeal.Gen Cert.Window

/-- A block's entry by its row, zero beyond the block. -/
def blk (x : S1x24x512.Idx → EReal) (k : Fin 512) (r : ℕ) : EReal := if h : r + 1 < 24 then x (ix3 0 ⟨r + 1, h⟩ k) else 0

/-- The position of a row. -/
abbrev pos (t : Fin 8) : BitVec 32 := IntOp.addi 16384#32 (BitVec.ofNat 32 t.val)

/-- The rows of a block that are read `o` rows down. -/
theorem ld_row (x : Vec Ideal S1x24x512 .f32) (o : ℕ) (inb : ∀ a, (![0, o, 0] : Fin 3 → ℕ) a + S1x8x512.size a ≤ S1x24x512.size a) (ho : 0 < o) (ho' : o ≤ 16) (t : Fin 8) (k : Fin 512) :
    View.ld x (Rect.unit (s := S1x24x512) ![0, o, 0] S1x8x512.size inb) (ix3 0 t k) = blk x k (15 + t.val - (16 - o)) := by
  have h : 15 + t.val - (16 - o) + 1 < 24 := by omega
  unfold blk
  rw [dif_pos h]
  refine congrArg x (funext fun a => Fin.ext ?_)
  match a with
  | ⟨0, _⟩ => rfl
  | ⟨1, _⟩ => show o + 1 * t.val = 15 + t.val - (16 - o) + 1; omega
  | ⟨2, _⟩ => show 0 + 1 * k.val = k.val; omega

/-- The windows of two and of four inputs. -/
theorem two_apply (a0 a1 : Vec Ideal S1x8x512 .f32) (t : Fin 8) (k : Fin 512) :
    k0_pay5 (F := Ideal) a0 a1 (ix2 t k) = FloatOps.divf (F := Ideal) (φ := .f32) (a0 (ix3 0 t k) + a1 (ix3 0 t k)) (span 2#32 (pos t)) - a0 (ix3 0 t k) := by
  unfold span
  pointwise [k0_pay5, k0_pay4, k0_pay3]

theorem four_apply (a0 a1 a2 a3 : Vec Ideal S1x8x512 .f32) (t : Fin 8) (k : Fin 512) :
    k0_pay7 (F := Ideal) a0 a1 a2 a3 (ix2 t k) = FloatOps.divf (F := Ideal) (φ := .f32) (a0 (ix3 0 t k) + a1 (ix3 0 t k) + a2 (ix3 0 t k) + a3 (ix3 0 t k)) (span 4#32 (pos t)) - a0 (ix3 0 t k) := by
  unfold span
  pointwise [k0_pay7, k0_pay6, k0_pay5, k0_pay4, k0_pay3]

/-- The window of eight inputs, where it is the group's. -/
theorem eight_apply (g : BitVec 32) (x u v z : FVec Ideal S8x512 .f32) (q : BitVec 32) (a b c d : Vec Ideal S1x8x512 .f32) (t : Fin 8) (k : Fin 512) :
    k0_pay9 (F := Ideal) g x u v z q a b c d (ix2 t k) = Scalar.select (Scalar.cmpi .eq g 2#32)
      (FloatOps.divf (F := Ideal) (φ := .f32) (v (ix2 t k) + a (ix3 0 t k) + b (ix3 0 t k) + c (ix3 0 t k) + d (ix3 0 t k)) (span 8#32 (pos t)) - x (ix2 t k))
      (Scalar.select (Scalar.cmpi .eq g q) (z (ix2 t k)) (u (ix2 t k))) := by
  unfold span
  pointwise [k0_pay9, k0_pay8]

theorem four_sum_apply (a0 a1 a2 a3 : Vec Ideal S1x8x512 .f32) (t : Fin 8) (k : Fin 512) :
    k0_pay6 (F := Ideal) a0 a1 a2 a3 (ix2 t k) = a0 (ix3 0 t k) + a1 (ix3 0 t k) + a2 (ix3 0 t k) + a3 (ix3 0 t k) := by
  pointwise [k0_pay6, k0_pay4, k0_pay3]

theorem ten_sum_apply (v : FVec Ideal S8x512 .f32) (a b c d e f : Vec Ideal S1x8x512 .f32) (t : Fin 8) (k : Fin 512) :
    k0_pay10 (F := Ideal) v a b c d e f (ix2 t k) = v (ix2 t k) + a (ix3 0 t k) + b (ix3 0 t k) + c (ix3 0 t k) + d (ix3 0 t k) + e (ix3 0 t k) + f (ix3 0 t k) := by
  pointwise [k0_pay10, k0_pay8]

theorem row_apply (a : Vec Ideal S1x8x512 .f32) (t : Fin 8) (k : Fin 512) : k0_pay3 (F := Ideal) a (ix2 t k) = a (ix3 0 t k) := by
  pointwise [k0_pay3]

theorem row_again_apply (a : Vec Ideal S1x8x512 .f32) (t : Fin 8) (k : Fin 512) : k0_pay11 (F := Ideal) a (ix2 t k) = a (ix3 0 t k) := by
  pointwise [k0_pay11]

theorem weights_row_apply (a : Vec Ideal S1x512x512 .f32) (k e : Fin 512) : k0_pay2 (F := Ideal) a (ix2 k e) = a (ix3 0 k e) := by
  pointwise [k0_pay2]

theorem stored_apply (a : FVec Ideal S8x512 .f32) (y : S1x8x512.Idx) : k0_pay1 (F := Ideal) a y = a (ix2 (y 1) (y 2)) := by
  pointwise [k0_pay1]

/-- The product of what the window leaves and the group's weights, scaled. -/
theorem last_apply (g : BitVec 32) (w : Vec Ideal S512x512 .bf16) (x u v y : FVec Ideal S8x512 .f32) (a b c d e : Vec Ideal S1x8x512 .f32) (s : Vec Ideal S1x512 .f32) (t : Fin 8) (f : Fin 512) :
    k0_pay12 (F := Ideal) g w x u v y a b c d e s (ix2 t f) = (∑ k : Fin 512, (Scalar.select (Scalar.cmpi .eq g 3#32) (FloatOps.divf (F := Ideal) (φ := .f32) (v (ix2 t k) + y (ix2 t k) + a (ix3 0 t k) + b (ix3 0 t k) + c (ix3 0 t k) + d (ix3 0 t k) + e (ix3 0 t k)) (span 16#32 (pos t)) - x (ix2 t k))
      (u (ix2 t k))) * w (ix2 k f)) * s (ix2 0 f) := by
  unfold span
  pointwise [k0_pay12]

/-- An entry of the block that a point leaves. -/
theorem entry_apply (i : grid0.Coords) (x : Vec Ideal S1x24x512 .f32) (w : Vec Ideal S1x512x512 .f32) (s : Vec Ideal S1x512 .f32) (g : Fin 4) (t : Fin 8) (e : Fin 512) :
    k0_pay12 (F := Ideal) (BitVec.ofNat 32 g.val) (k0_pay2 w) (k0_pay13 i x w s) (k0_pay9 (BitVec.ofNat 32 g.val) (k0_pay13 i x w s) (k0_pay5 (View.ld x r0_1) (View.ld x r0_2)) (k0_pay14 i x w s)
        (k0_pay7 (View.ld x r0_1) (View.ld x r0_2) (View.ld x r0_3) (View.ld x r0_4)) 1#32 (View.ld x r0_5) (View.ld x r0_6) (View.ld x r0_7) (View.ld x r0_8))
      (k0_pay10 (k0_pay14 i x w s) (View.ld x r0_5) (View.ld x r0_6) (View.ld x r0_7) (View.ld x r0_8) (View.ld x r0_9) (View.ld x r0_10)) (k0_pay11 (View.ld x r0_11))
      (View.ld x r0_12) (View.ld x r0_13) (View.ld x r0_14) (View.ld x r0_15) (View.ld x r0_16) s (ix2 t e)
      = (∑ k : Fin 512, groupAt (blk x k) g.val (pos t) t.val * w (ix3 0 k e)) * s (ix2 0 e) := by
  rw [last_apply]
  refine congrArg (· * s (ix2 0 e)) (Finset.sum_congr rfl fun k _ => congrArg₂ (· * ·) ?_ (weights_row_apply w k e))
  rw [← picked]
  simp only [eight_apply, four_sum_apply, ten_sum_apply, row_apply, row_again_apply, two_apply, four_apply, k0_pay13, k0_pay14]
  rw [ld_row x 16, ld_row x 15, ld_row x 14, ld_row x 13, ld_row x 12, ld_row x 11, ld_row x 10, ld_row x 9, ld_row x 8, ld_row x 7, ld_row x 6, ld_row x 5,
    ld_row x 4, ld_row x 3, ld_row x 2, ld_row x 1]
  · rfl
  all_goals decide

/-- The block that a point leaves. -/
theorem out_apply (i : grid0.Coords) (x : Vec Ideal S1x24x512 .f32) (w : Vec Ideal S1x512x512 .f32) (s : Vec Ideal S1x512 .f32) (y : S1x8x512.Idx) :
    out0_3 (F := Ideal) i x w s y
      = (∑ k : Fin 512, groupAt (blk x k) (i 1).val (pos (y 1)) (y 1).val * w (ix3 0 k (y 2))) * s (ix2 0 (y 2)) := by
  frame_out
  exact (stored_apply _ y).trans (entry_apply i x w s (i 1) (y 1) (y 2))

end Cert.PooledSampleIdeal.Pooled

end
-- ==== Proof.PooledSampleIdeal.Value.lean ====
module

public import proofs.«01_k».proof.Proof.PooledSampleIdeal.Body
public import Idealize.ShloMosaic.Lib.Pipeline.Covers
public import Idealize.ShloMosaic.Lib.StableHlo.ReadAt

@[expose] public section

/-! What the pooled layer leaves for the samples, and the state that its host code makes. -/

noncomputable section

namespace Cert.PooledSampleIdeal.Pooled

open Idealize.ShloMosaic Idealize.ShloMosaic.TcCoe Idealize.ShloMosaic.Tactic Idealize.SL.Sem
open Idealize.ShloMosaic.Pipeline (Dat Window)
open Cert.PooledSampleIdeal Cert.PooledSampleIdeal.Gen Cert.Window

variable (m : (ℓ : Loc nD τ sig) → Buf (Elt Ideal) ℓ)

/-- The state, the new inputs, the groups' weights and the scale, as launched. -/
abbrev state (c : Dev nD) : Vec Ideal S8x15x2048 .f32 := m ((c.tc : Thread nD τ).loc main_arg0)
abbrev inputs (c : Dev nD) : Vec Ideal S8x4x2048 .f32 := m ((c.tc : Thread nD τ).loc main_arg1)
abbrev weights (c : Dev nD) : Vec Ideal S4x512x512 .f32 := m ((c.tc : Thread nD τ).loc main_arg2)
abbrev scale (c : Dev nD) : Vec Ideal S2048 .f32 := m ((c.tc : Thread nD τ).loc main_arg3)

/-- The history that the host joins. -/
theorem hist_eq (c : Dev nD) : (V m c main_v2 : S8x24x2048.Idx → EReal) =
    concatenate S8x24x2048 1 [⟨S8x1x2048, (broadcastInDim S8x1x2048 ![] bcast_S_S8x1x2048 (constant (F := Ideal) S_ .f32 0x00000000#32) : S8x1x2048.Idx → EReal)⟩,
      ⟨S8x15x2048, (state m c : S8x15x2048.Idx → EReal)⟩, ⟨S8x4x2048, (inputs m c : S8x4x2048.Idx → EReal)⟩,
      ⟨S8x4x2048, (broadcastInDim S8x4x2048 ![] bcast_S_S8x4x2048 (constant (F := Ideal) S_ .f32 0x00000000#32) : S8x4x2048.Idx → EReal)⟩]
      concatenates_S8x1x2048_S8x15x2048_S8x4x2048_S8x4x2048_S8x24x2048_d1 := by
  unfold_abbrev_sides
  after_results
  all_goals rfl

theorem hist_apply (c : Dev nD) (b : Fin 8) (r : ℕ) (hr : r + 1 < 24) (f : Fin 2048) :
    (V m c main_v2 : S8x24x2048.Idx → EReal) (ix3 b ⟨r + 1, hr⟩ f) = sampleHist (state m c) (inputs m c) b f r := by
  rw [hist_eq]
  unfold sampleHist
  pointwise
  by_cases h : r < 15
  · rw [dif_pos h, dif_neg (by omega), dif_pos (by omega)]
    rfl
  · rw [dif_neg h, dif_neg (by omega), dif_neg (by omega)]
    by_cases h' : r - 15 < 4
    · rw [dif_pos h', dif_pos (by omega)]
      refine congrArg (inputs m c) (funext fun a => Fin.ext ?_)
      match a with
      | ⟨0, _⟩ => rfl
      | ⟨1, _⟩ => show r + 1 - 16 = r - 15; omega
      | ⟨2, _⟩ => rfl
    · rw [dif_neg h', dif_neg (by omega)]

/-- The scale as one row. -/
theorem scale_eq (c : Dev nD) : (V m c main_v5 : S1x2048.Idx → EReal) = shapeCast S1x2048 (scale m c) shapeCasts_S2048_S1x2048 := by
  unfold_abbrev_sides
  after_results
  all_goals rfl

/-- The state that the host makes. -/
theorem state_eq (c : Dev nD) : (V m c main_v4 : S8x15x2048.Idx → EReal) =
    extractStridedSlice S8x15x2048 ![0, 4, 0] (concatenate S8x19x2048 1 [⟨S8x15x2048, (state m c : S8x15x2048.Idx → EReal)⟩, ⟨S8x4x2048, (inputs m c : S8x4x2048.Idx → EReal)⟩]
      concatenates_S8x15x2048_S8x4x2048_S8x19x2048_d1) slices_S8x19x2048_S8x15x2048_0_4_0 := by
  unfold_abbrev_sides
  after_results
  all_goals rfl

/-- A grid coordinate as a word is itself. -/
theorem coord0 (t : Fin cfg0.N) : (BitVec.ofNat 32 (grid0.coords t 0).val).toNat = (grid0.coords t 0).val := by
  have h0 : (grid0.coords t 0).val < 8 := (grid0.coords t 0).isLt
  rw [BitVec.toNat_ofNat, Nat.mod_eq_of_lt (by omega)]

theorem coord1 (t : Fin cfg0.N) : (BitVec.ofNat 32 (grid0.coords t 1).val).toNat = (grid0.coords t 1).val := by
  have h0 : (grid0.coords t 1).val < 4 := (grid0.coords t 1).isLt
  rw [BitVec.toNat_ofNat, Nat.mod_eq_of_lt (by omega)]

/-- The blocks' indices at a point. -/
theorem index0 (t : Fin cfg0.N) : (cfg0.win 0).index t = ![(grid0.coords t 0).val, 0, (grid0.coords t 1).val] := by
  show (![(BitVec.ofNat 32 (grid0.coords t 0).val).toNat, 0, (BitVec.ofNat 32 (grid0.coords t 1).val).toNat] : Fin 3 → ℕ) = _
  rw [coord0, coord1]

theorem index1 (t : Fin cfg0.N) : (cfg0.win 1).index t = ![(grid0.coords t 1).val, 0, 0] := by
  show (![(BitVec.ofNat 32 (grid0.coords t 1).val).toNat, 0, 0] : Fin 3 → ℕ) = _
  rw [coord1]

theorem index2 (t : Fin cfg0.N) : (cfg0.win 2).index t = ![0, (grid0.coords t 1).val] := by
  show (![0, (BitVec.ofNat 32 (grid0.coords t 1).val).toNat] : Fin 2 → ℕ) = _
  rw [coord1]

theorem index3 (t : Fin cfg0.N) : (cfg0.win 3).index t = ![(grid0.coords t 0).val, 0, (grid0.coords t 1).val] := by
  show (![(BitVec.ofNat 32 (grid0.coords t 0).val).toNat, 0, (BitVec.ofNat 32 (grid0.coords t 1).val).toNat] : Fin 3 → ℕ) = _
  rw [coord0, coord1]

/-- The rows of the history that a point is handed. -/
theorem rows_apply (c : Dev nD) (t : Fin cfg0.N) (k : Fin 512) (r : ℕ) (hr : r < 23) :
    blk (iblk m c 0 t) k r = sampleHist (state m c) (inputs m c) (grid0.coords t 0) (col (grid0.coords t 1) k) r := by
  unfold blk
  rw [dif_pos (by omega)]
  refine Eq.trans (congrArg (V m c main_v2) (funext fun a => Fin.ext ?_)) (hist_apply m c (grid0.coords t 0) r (by omega) (col (grid0.coords t 1) k))
  blk_simp
  rw [index0 t]
  match a with
  | ⟨0, _⟩ => show (grid0.coords t 0).val * 1 + 0 = (grid0.coords t 0).val; omega
  | ⟨1, _⟩ => show 0 * 24 + (r + 1) = r + 1; omega
  | ⟨2, _⟩ => rfl

/-- The weights that a point is handed. -/
theorem weights_apply (c : Dev nD) (t : Fin cfg0.N) (k e : Fin 512) :
    (iblk m c 1 t : Vec Ideal S1x512x512 .f32) (ix3 0 k e) = weights m c (ix3 (grid0.coords t 1) k e) := by
  refine Eq.trans (congrArg (V m c main_arg2) (funext fun a => Fin.ext ?_)) (congrFun (V_main_arg2 m c) (ix3 (grid0.coords t 1) k e))
  blk_simp
  rw [index1 t]
  match a with
  | ⟨0, _⟩ => show (grid0.coords t 1).val * 1 + 0 = (grid0.coords t 1).val; omega
  | ⟨1, _⟩ => show 0 * 512 + (k : ℕ) = (k : ℕ); omega
  | ⟨2, _⟩ => show 0 * 512 + (e : ℕ) = (e : ℕ); omega

/-- The scale that a point is handed. -/
theorem scale_apply (c : Dev nD) (t : Fin cfg0.N) (e : Fin 512) :
    (iblk m c 2 t : Vec Ideal S1x512 .f32) (ix2 0 e) = scale m c (ix1 (col (grid0.coords t 1) e)) := by
  have h : (V m c main_v5 : S1x2048.Idx → EReal) (ix2 0 (col (grid0.coords t 1) e)) = scale m c (ix1 (col (grid0.coords t 1) e)) := by
    rw [scale_eq]
    pointwise
  refine Eq.trans (congrArg (V m c main_v5) (funext fun a => Fin.ext ?_)) h
  blk_simp
  rw [index2 t]
  match a with
  | ⟨0, _⟩ => rfl
  | ⟨1, _⟩ => rfl

/-- What a point leaves, where it lies in the array. -/
theorem point_eq (c : Dev nD) (t : Fin cfg0.N) (y : S1x8x512.Idx) (b r : Fin 8) (f : Fin 2048)
    (hb : b.val = (grid0.coords t 0).val) (hr : r.val = (y 1).val) (hf : f.val = (grid0.coords t 1).val * 512 + (y 2).val) :
    out0_3 (grid0.coords t) (iblk m c 0 t) (iblk m c 1 t) (iblk m c 2 t) y = sampleOut (state m c) (inputs m c) (weights m c) (scale m c) b r f := by
  obtain rfl : grid0.coords t 0 = b := Fin.ext hb.symm
  obtain rfl : y 1 = r := Fin.ext hr.symm
  have hy : (y 1).val < 8 := (y 1).isLt
  refine (out_apply (grid0.coords t) (iblk m c 0 t) (iblk m c 1 t) (iblk m c 2 t) y).trans
    (Eq.trans ?_ (sampleOut_eq (state m c) (inputs m c) (weights m c) (scale m c) (grid0.coords t 0) (y 1) f (grid0.coords t 1) (y 2) hf).symm)
  unfold sampleAt
  exact congrArg₂ (· * ·) (Finset.sum_congr rfl fun k _ => congrArg₂ (· * ·) (groupAt_congr (n := 23) (fun r hr => rows_apply m c t k r hr) (by omega)) (weights_apply m c t k (y 2)))
    (scale_apply m c t (y 2))

/-- The array the run leaves. -/
theorem final (c : Dev nD) :
    (dats m 0 c).arrAt 3 cfg0.N = fun i : S8x8x2048.Idx => sampleOut (state m c) (inputs m c) (weights m c) (scale m c) (i 0) (i 1) (i 2) := by
  refine (dats m 0 c).arrAt_eq_of_covers 3 _ ?_ fun t hf y => ?_
  · refine (cfg0.win 3).covers_of_indexMap_surj rfl (fun a => ?_) fun β => ?_
    · match a with
      | ⟨0, _⟩ => exact (by decide : 0 < 1)
      | ⟨1, _⟩ => exact (by decide : 0 < 8)
      | ⟨2, _⟩ => exact (by decide : 0 < 512)
    · have b0 : (β (0 : Fin 3)).val < 8 := lt_of_lt_of_eq (β (0 : Fin 3)).isLt (by show (8 + 1 - 1) / 1 = 8; decide)
      have b1 : (β (1 : Fin 3)).val < 1 := lt_of_lt_of_eq (β (1 : Fin 3)).isLt (by show (8 + 8 - 1) / 8 = 1; decide)
      have b2 : (β (2 : Fin 3)).val < 4 := lt_of_lt_of_eq (β (2 : Fin 3)).isLt (by show (2048 + 512 - 1) / 512 = 4; decide)
      refine ⟨fun a => match a with | ⟨0, _⟩ => ⟨(β (0 : Fin 3)).val, b0⟩ | ⟨1, _⟩ => ⟨(β (2 : Fin 3)).val, b2⟩, fun a => ?_⟩
      match a with
      | ⟨0, _⟩ => show (BitVec.ofNat 32 (β (0 : Fin 3)).val).toNat = (β (0 : Fin 3)).val; rw [BitVec.toNat_ofNat, Nat.mod_eq_of_lt (by omega)]
      | ⟨1, _⟩ => show 0 = (β (1 : Fin 3)).val; omega
      | ⟨2, _⟩ => show (BitVec.ofNat 32 (β (2 : Fin 3)).val).toNat = (β (2 : Fin 3)).val; rw [BitVec.toNat_ofNat, Nat.mod_eq_of_lt (by omega)]
  · blk_simp
    rw [after0_3]
    refine point_eq m c t y _ _ _ ?_ ?_ ?_
    · blk_simp; rw [index3 t]; rfl
    · blk_simp; rw [index3 t]; show 0 * 8 + (y 1).val = (y 1).val; omega
    · blk_simp; rw [index3 t]; rfl

/-- The run, with both results. -/
theorem run (g : Dev nD → PrngReg) : θ_run defs (onTc (τ := τ) (main (F := Ideal))) ⟨m, fun _ => 0, g⟩ fun r => ∀ c : Dev nD,
      r.2.mem ((c : Thread nD τ).loc main_v6) = (dats m 0 c).arrAt 3 cfg0.N
      ∧ r.2.mem ((c : Thread nD τ).loc main_v4) = V m c main_v4
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨Value.post3 m r h c, (h c).2 main_v4 (Pipeline.mem_restRefs_of main_v4 (by decide) (by decide)),
    Value.kept_main_arg0 m r h c, Value.kept_main_arg1 m r h c, Value.kept_main_arg2 m r h c, Value.kept_main_arg3 m r h c⟩) (run_main m g)

end Cert.PooledSampleIdeal.Pooled

end
-- ==== Proof.PooledSampleReferenceIdeal.Value.lean ====
module

public import proofs.«01_k».proof.Proof.Gen.PooledSampleReferenceIdeal.Read
public import proofs.«01_k».proof.Proof.Window

@[expose] public section

/-! The reference of the pooled layer for the samples, index by index. -/

noncomputable section

namespace Cert.PooledSampleReferenceIdeal.Pooled

open Idealize.ShloMosaic Idealize.ShloMosaic.TcCoe Idealize.ShloMosaic.Tactic
open Cert.PooledSampleReferenceIdeal Cert.PooledSampleReferenceIdeal.Read Cert.Window

variable (x0 : (⟨S8x15x2048, .f32⟩ : BufTy).Contents (Elt Ideal)) (x1 : (⟨S8x4x2048, .f32⟩ : BufTy).Contents (Elt Ideal))
  (x2 : (⟨S4x512x512, .f32⟩ : BufTy).Contents (Elt Ideal)) (x3 : (⟨S2048, .f32⟩ : BufTy).Contents (Elt Ideal))

/-- The new inputs with zeros behind them. -/
theorem padded_apply (b r : Fin 8) (f : Fin 2048) :
    val_main_v1 (F := Ideal) x1 (ix3 b r f) = if h : r.val < 4 then x1 (ix3 b ⟨r.val, h⟩ f) else 0 := by
  have z : ∀ j, val_main_v0 (F := Ideal) j = 0 := fun j => by
    rw [val_main_v0_apply, val_main_cst_apply]
    pointwise
  unfold val_main_v1
  generalize val_main_v0 (F := Ideal) = y at z
  pointwise
  by_cases h : r.val < 4
  · rw [dif_pos h, dif_pos h]
  · rw [dif_neg h, dif_neg h]
    exact z _

/-- The history. -/
theorem hist_apply (b : Fin 8) (r : Fin 23) (f : Fin 2048) : val_main_v5 (F := Ideal) x0 x1 (ix3 b r f) = sampleHist x0 x1 b f r.val := by
  have z := padded_apply x1
  unfold val_main_v5 sampleHist
  generalize val_main_v1 (F := Ideal) x1 = y at z
  pointwise
  by_cases h : r.val < 15
  · rw [dif_pos h, dif_pos h]
  · rw [dif_neg h, dif_neg h]
    exact z b ⟨r.val - 15, by omega⟩ f

/-- The rows `d` before an entry's own, of a group's columns. -/
theorem pick (d : ℕ) (g : Fin 4) (hd : d ≤ 15) (h : S8x23x2048.Slices ![0, 15 - d, g.val * 512] S8x8x512) (b t : Fin 8) (k : Fin 512) :
    extractStridedSlice S8x8x512 ![0, 15 - d, g.val * 512] (val_main_v5 (F := Ideal) x0 x1) h (ix3 b t k) = sampleHist x0 x1 b (col g k) (15 + t.val - d) := by
  refine (extractStridedSlice_apply ![0, 15 - d, g.val * 512] _ h (ix3 b t k) (ix3 b (⟨15 + t.val - d, by omega⟩ : Fin 23) (col g k)) fun a => ?_).trans (hist_apply x0 x1 b _ _)
  match a with
  | ⟨0, _⟩ => show b.val = 0 + b.val; omega
  | ⟨1, _⟩ => show 15 + t.val - d = 15 - d + t.val; omega
  | ⟨2, _⟩ => rfl

/-- One more summand. -/
theorem step {a s : EReal} {f : ℕ → EReal} {n : ℕ} (h : a = backSum f n) (h' : s = f (n + 1)) : FloatOps.addf (F := Ideal) (φ := .f32) a s = backSum f (n + 1) :=
  congrArg₂ (· + ·) h h'

/-- The mean over a group's window. -/
abbrev meanOf (g : Fin 4) (b t : Fin 8) (k : Fin 512) : EReal :=
  FloatOps.divf (F := Ideal) (φ := .f32) (backSum (fun d => sampleHist x0 x1 b (col g k) (15 + t.val - d)) (windowOf g.val - 1))
    (span (BitVec.ofNat 32 (windowOf g.val)) (IntOp.addi 16384#32 (BitVec.ofNat 32 t.val)))

theorem mean_two (b t : Fin 8) (k : Fin 512) : val_main_v16 (F := Ideal) x0 x1 (ix3 b t k) = meanOf x0 x1 0 b t k := by
  rw [val_main_v16_apply]
  refine congrArg₂ (FloatOps.divf (F := Ideal) (φ := .f32)) ?_ ?_
  · simp only [val_main_v8_apply]
    exact step (n := 0) (pick x0 x1 0 0 (by decide) _ b t k) (pick x0 x1 1 0 (by decide) _ b t k)
  · rw [val_main_v15_apply, val_main_v14_apply, val_main_v13_apply, val_main_v12_apply, val_main_v11_apply, val_main_c_1_apply, val_main_v10_apply, val_main_v9_apply, val_main_c_0_apply,
      val_main_v4_apply, val_main_v3_apply, val_main_c_apply, val_main_v2_apply]
    rfl

theorem mean_four (b t : Fin 8) (k : Fin 512) : val_main_v31 (F := Ideal) x0 x1 (ix3 b t k) = meanOf x0 x1 1 b t k := by
  rw [val_main_v31_apply]
  refine congrArg₂ (FloatOps.divf (F := Ideal) (φ := .f32)) ?_ ?_
  · simp only [val_main_v23_apply, val_main_v21_apply, val_main_v19_apply]
    exact step (n := 2) (step (n := 1) (step (n := 0) (pick x0 x1 0 1 (by decide) _ b t k) (pick x0 x1 1 1 (by decide) _ b t k)) (pick x0 x1 2 1 (by decide) _ b t k)) (pick x0 x1 3 1 (by decide) _ b t k)
  · rw [val_main_v30_apply, val_main_v29_apply, val_main_v28_apply, val_main_v27_apply, val_main_v26_apply, val_main_c_3_apply, val_main_v25_apply, val_main_v24_apply, val_main_c_2_apply,
      val_main_v4_apply, val_main_v3_apply, val_main_c_apply, val_main_v2_apply]
    rfl

theorem mean_eight (b t : Fin 8) (k : Fin 512) : val_main_v54 (F := Ideal) x0 x1 (ix3 b t k) = meanOf x0 x1 2 b t k := by
  have p := fun d hd h => pick x0 x1 d 2 hd h b t k
  rw [val_main_v54_apply]
  refine congrArg₂ (FloatOps.divf (F := Ideal) (φ := .f32)) ?_ ?_
  · simp only [val_main_v46_apply, val_main_v44_apply, val_main_v42_apply, val_main_v40_apply, val_main_v38_apply, val_main_v36_apply, val_main_v34_apply]
    refine step (n := 6) (step (n := 5) (step (n := 4) (step (n := 3) (step (n := 2) (step (n := 1) (step (n := 0) (p 0 ?_ _) (p 1 ?_ _)) (p 2 ?_ _)) (p 3 ?_ _)) (p 4 ?_ _)) (p 5 ?_ _)) (p 6 ?_ _)) (p 7 ?_ _)
    all_goals decide
  · rw [val_main_v53_apply, val_main_v52_apply, val_main_v51_apply, val_main_v50_apply, val_main_v49_apply, val_main_c_5_apply, val_main_v48_apply, val_main_v47_apply, val_main_c_4_apply,
      val_main_v4_apply, val_main_v3_apply, val_main_c_apply, val_main_v2_apply]
    rfl

theorem mean_sixteen (b t : Fin 8) (k : Fin 512) : val_main_v93 (F := Ideal) x0 x1 (ix3 b t k) = meanOf x0 x1 3 b t k := by
  have p := fun d hd h => pick x0 x1 d 3 hd h b t k
  rw [val_main_v93_apply]
  refine congrArg₂ (FloatOps.divf (F := Ideal) (φ := .f32)) ?_ ?_
  · simp only [val_main_v85_apply, val_main_v83_apply, val_main_v81_apply, val_main_v79_apply, val_main_v77_apply, val_main_v75_apply, val_main_v73_apply, val_main_v71_apply, val_main_v69_apply,
      val_main_v67_apply, val_main_v65_apply, val_main_v63_apply, val_main_v61_apply, val_main_v59_apply, val_main_v57_apply]
    refine step (n := 14) (step (n := 13) (step (n := 12) (step (n := 11) (step (n := 10) (step (n := 9) (step (n := 8) (step (n := 7) (step (n := 6) (step (n := 5) (step (n := 4) (step (n := 3) (step (n := 2) (step (n := 1)
      (step (n := 0) (p 0 ?_ _) (p 1 ?_ _)) (p 2 ?_ _)) (p 3 ?_ _)) (p 4 ?_ _)) (p 5 ?_ _)) (p 6 ?_ _)) (p 7 ?_ _)) (p 8 ?_ _)) (p 9 ?_ _)) (p 10 ?_ _)) (p 11 ?_ _)) (p 12 ?_ _)) (p 13 ?_ _)) (p 14 ?_ _)) (p 15 ?_ _)
    all_goals decide
  · rw [val_main_v92_apply, val_main_v91_apply, val_main_v90_apply, val_main_v89_apply, val_main_v88_apply, val_main_c_7_apply, val_main_v87_apply, val_main_v86_apply, val_main_c_6_apply,
      val_main_v4_apply, val_main_v3_apply, val_main_c_apply, val_main_v2_apply]
    rfl

/-- The groups' means side by side. -/
theorem joined_apply (b t : Fin 8) (g : Fin 4) (k : Fin 512) : val_main_v94 (F := Ideal) x0 x1 (ix3 b t (col g k)) = meanOf x0 x1 g b t k := by
  have z0 := mean_two x0 x1 b t k
  have z1 := mean_four x0 x1 b t k
  have z2 := mean_eight x0 x1 b t k
  have z3 := mean_sixteen x0 x1 b t k
  unfold val_main_v94
  generalize val_main_v16 (F := Ideal) x0 x1 = y0 at z0
  generalize val_main_v31 (F := Ideal) x0 x1 = y1 at z1
  generalize val_main_v54 (F := Ideal) x0 x1 = y2 at z2
  generalize val_main_v93 (F := Ideal) x0 x1 = y3 at z3
  have hk := k.isLt
  match g with
  | ⟨0, _⟩ =>
    refine Eq.trans ?_ z0
    pointwise
  | ⟨1, _⟩ =>
    refine Eq.trans ?_ z1
    pointwise
  | ⟨2, _⟩ =>
    refine Eq.trans ?_ z2
    pointwise
    rw [dif_neg (by omega), dif_neg (by omega), dif_pos (by omega)]
    exact congrArg (fun j => y2 (ix3 b t j)) (Fin.ext (by show 2 * 512 + k.val - 1024 = k.val; omega))
  | ⟨3, _⟩ =>
    refine Eq.trans ?_ z3
    pointwise
    rw [dif_neg (by omega), dif_neg (by omega), dif_neg (by omega)]
    exact congrArg (fun j => y3 (ix3 b t j)) (Fin.ext (by show 1536 + k.val - 512 - 512 - 512 = k.val; omega))

/-- The means less the inputs. -/
theorem mixed_apply (b t : Fin 8) (g : Fin 4) (k : Fin 512) : val_main_v96 (F := Ideal) x0 x1 (ix3 b t (col g k))
    = groupAt (sampleHist x0 x1 b (col g k)) g.val (IntOp.addi 16384#32 (BitVec.ofNat 32 t.val)) t.val := by
  rw [val_main_v96_apply, joined_apply, val_main_v95_apply]
  refine congrArg (meanOf x0 x1 g b t k - ·) (Eq.trans (congrArg (val_main_v5 (F := Ideal) x0 x1) (funext fun a => ?_)) (hist_apply x0 x1 b ⟨15 + t.val, by omega⟩ (col g k)))
  match a with
  | ⟨0, _⟩ => rfl
  | ⟨1, _⟩ => rfl
  | ⟨2, _⟩ => rfl

/-- The mixed rows by their groups. -/
theorem product_apply (b t : Fin 8) (g : Fin 4) (e : Fin 512) : val_main_v98 (F := Ideal) x0 x1 x2 (ix4 g e b t)
    = ∑ k : Fin 512, groupAt (sampleHist x0 x1 b (col g k)) g.val (IntOp.addi 16384#32 (BitVec.ofNat 32 t.val)) t.val * x2 (ix3 g k e) := by
  rw [val_main_v98_apply]
  refine Finset.sum_congr rfl fun k _ => (mul_comm _ _).trans (congrArg₂ (· * ·) ?_ (congrArg x2 (funext fun a => ?_)))
  · rw [val_main_v97_apply]
    refine Eq.trans (congrArg (val_main_v96 (F := Ideal) x0 x1) (funext fun a => Fin.ext ?_)) (mixed_apply x0 x1 b t g k)
    have hb := b.isLt; have ht := t.isLt; have hg := g.isLt; have hk := k.isLt
    match a with
    | ⟨0, _⟩ => show (((b.val * 8 + t.val) * 4 + g.val) * 512 + k.val) / 16384 = b.val; omega
    | ⟨1, _⟩ => show (((b.val * 8 + t.val) * 4 + g.val) * 512 + k.val) / 2048 % 8 = t.val; omega
    | ⟨2, _⟩ => show (((b.val * 8 + t.val) * 4 + g.val) * 512 + k.val) % 2048 = g.val * 512 + k.val; omega
  · match a with
    | ⟨0, _⟩ => rfl
    | ⟨1, _⟩ => rfl
    | ⟨2, _⟩ => rfl

/-- The reference's result. -/
theorem ref_at (i : S8x8x2048.Idx) : val_main_v103 (F := Ideal) x0 x1 x2 x3 i = sampleOut x0 x1 x2 x3 (i 0) (i 1) (i 2) := by
  have h0 : (i 0).val < 8 := (i 0).isLt
  have h1 : (i 1).val < 8 := (i 1).isLt
  have h2 : (i 2).val < 2048 := (i 2).isLt
  rw [val_main_v103_apply, val_main_v100_apply, val_main_v99_apply, val_main_v102_apply, val_main_v101_apply]
  refine congrArg₂ (· * ·) (Eq.trans (congrArg (val_main_v98 (F := Ideal) x0 x1 x2) (funext fun a => Fin.ext ?_))
    (product_apply x0 x1 x2 (i 0) (i 1) ⟨(i 2).val / 512, by omega⟩ ⟨(i 2).val % 512, by omega⟩)) (congrArg x3 (funext fun a => Fin.ext ?_))
  · match a with
    | ⟨0, _⟩ => show (((i 0).val * 8 + (i 1).val) * 2048 + (i 2).val) / 512 % 4 = (i 2).val / 512; omega
    | ⟨1, _⟩ => show (((i 0).val * 8 + (i 1).val) * 2048 + (i 2).val) % 512 = (i 2).val % 512; omega
    | ⟨2, _⟩ => show (((i 0).val * 8 + (i 1).val) * 2048 + (i 2).val) / 16384 = (i 0).val; omega
    | ⟨3, _⟩ => show (((i 0).val * 8 + (i 1).val) * 2048 + (i 2).val) / 2048 % 8 = (i 1).val; omega
  · match a with
    | ⟨0, _⟩ => show (i 2).val = (i 2).val / 512 * 512 + (i 2).val % 512; omega

end Cert.PooledSampleReferenceIdeal.Pooled

end
-- ==== Proof.PooledSampleClaim.lean ====
module

public import proofs.«01_k».proof.Defs
public import proofs.«01_k».proof.Proof.Gen.PooledSample.Frame
public import proofs.«01_k».proof.Proof.PooledSampleIdeal.Value
public import proofs.«01_k».proof.Proof.PooledSampleReferenceIdeal.Value
public import proofs.«01_k».proof.Proof.Gen.PooledSampleReferenceIdeal.Run
public import Idealize.ShloMosaic.Lib.Claim

@[expose] public section

/-! The claims of the pooled layer for the samples. -/

namespace Cert.PooledSampleClaim

open Idealize.ShloMosaic Idealize.ShloMosaic.TcCoe Idealize.SL.Sem

theorem frame_kernel : Cert.quiescent_PooledSample := fun m g _ => Cert.PooledSample.Gen.frame m g

theorem frame_ideal : Cert.quiescent_PooledSampleIdeal := fun m g _ => Cert.PooledSampleIdeal.Gen.frame m g

theorem frame_reference : Cert.quiescent_PooledSampleReferenceIdeal := fun m g _ =>
  (θ_run Cert.PooledSampleReferenceIdeal.defs _ _).mono (fun r h => ⟨fun c => (h c).2.2, sem_eq_zero_of_no_sems (by decide) _⟩) (Cert.PooledSampleReferenceIdeal.Value.run m g)

theorem value : Cert.algebraic_PooledSampleIdeal_PooledSampleReferenceIdeal := by
  intro m g m' g' hpre hagree
  refine ⟨fun c => (Cert.PooledSampleIdeal.Gen.dats m 0 c).arrAt 3 Cert.PooledSampleIdeal.cfg0.N, fun c => Cert.PooledSampleIdeal.Gen.V m c Cert.PooledSampleIdeal.main_v4, Cert.PooledSampleIdeal.Pooled.run m g, ?_⟩
  refine (θ_run Cert.PooledSampleReferenceIdeal.defs _ _).mono (fun r h c => ⟨(h c).1.trans ?_, (h c).2.1.trans ?_, (h c).2.2⟩) (Cert.PooledSampleReferenceIdeal.Value.run m' g')
  · obtain ⟨a0, a1, a2, a3⟩ := hagree c
    obtain rfl : c = 0 := Subsingleton.elim _ _
    refine Eq.trans ((Cert.PooledSampleReferenceIdeal.Read.val_main_v103_eq m' 0).trans ?_) (Cert.PooledSampleIdeal.Pooled.final m 0).symm
    funext i
    rw [a0, a1, a2, a3]
    exact Cert.PooledSampleReferenceIdeal.Pooled.ref_at _ _ _ _ i
  · obtain ⟨a0, a1, a2, a3⟩ := hagree c
    obtain rfl : c = 0 := Subsingleton.elim _ _
    refine Eq.trans ?_ (Cert.PooledSampleIdeal.Pooled.state_eq m 0).symm
    rw [a0, a1]

end Cert.PooledSampleClaim
-- ==== Proof.PooledPromptIdeal.Body.lean ====
module

public import proofs.«01_k».proof.Proof.Gen.PooledPromptIdeal.Value
public import proofs.«01_k».proof.Proof.Window
public import Idealize.ShloMosaic.Lib.WholeRead
public import Idealize.ShloMosaic.Lib.Pipeline.ValueKit

@[expose] public section

/-! What the pooled layer's body leaves in its block, for the prompt: four times the same of 512 rows each. -/

noncomputable section

namespace Cert.PooledPromptIdeal.Pooled

open Idealize.ShloMosaic Idealize.ShloMosaic.TcCoe Idealize.ShloMosaic.Tactic
open Cert.PooledPromptIdeal Cert.PooledPromptIdeal.Gen Cert.Window

/-- A block's entry by its row, zero beyond the block. -/
def blk (x : S1x2064x512.Idx → EReal) (k : Fin 512) (r : ℕ) : EReal := if h : r + 1 < 2064 then x (ix3 0 ⟨r + 1, h⟩ k) else 0

/-- 512 rows of a block from row `o` on. -/
def rowsFrom (x : Vec Ideal S1x2064x512 .f32) (o : ℕ) : Vec Ideal S1x512x512 .f32 := fun y => blk x (y 2) (o + (y 1).val - 1)

theorem ld_rows (x : Vec Ideal S1x2064x512 .f32) (o : ℕ) (inb : ∀ a, (![0, o, 0] : Fin 3 → ℕ) a + S1x512x512.size a ≤ S1x2064x512.size a) (ho : 0 < o) :
    View.ld x (Rect.unit (s := S1x2064x512) ![0, o, 0] S1x512x512.size inb) = rowsFrom x o := by
  have hi : o + 512 ≤ 2064 := inb 1
  funext y
  have h1 : (y 1).val < 512 := (y 1).isLt
  unfold rowsFrom blk
  rw [dif_pos (by omega)]
  refine congrArg x (funext fun a => Fin.ext ?_)
  match a with
  | ⟨0, _⟩ => have h0 : (y 0).val < 1 := (y 0).isLt; show 0 + 1 * (y 0).val = 0; omega
  | ⟨1, _⟩ => show o + 1 * (y 1).val = o + (y 1).val - 1 + 1; omega
  | ⟨2, _⟩ => show 0 + 1 * (y 2).val = (y 2).val; omega

/-- The sum of the rows 0 to `n` of a family. -/
def sumTo (a : ℕ → Vec Ideal S1x512x512 .f32) : ℕ → FVec Ideal S512x512 .f32
  | 0 => shapeCast S512x512 (a 0) shapeCasts_S1x512x512_S512x512
  | n + 1 => addf (sumTo a n) (shapeCast S512x512 (a (n + 1)) shapeCasts_S1x512x512_S512x512)

/-- The counts of a window's inputs, from position `p` on. -/
def counts (p q : BitVec 32) : FVec Ideal S512x512 .f32 :=
  broadcastTo S512x512 (sitofp .f32 (minsi (broadcast S512x1 q) (addi (addi (broadcast S512x1 p) (iota .tc S512x1 32 [0] iota_S512x1_d0_w32)) (broadcast S512x1 1#32))) : FVec Ideal S512x1 .f32)
    broadcasts_S512x1_S512x512

/-- The mean over a window less the input. -/
def mean (p q : BitVec 32) (a : ℕ → Vec Ideal S1x512x512 .f32) (n : ℕ) : FVec Ideal S512x512 .f32 :=
  subf (divf (sumTo a n) (counts p q)) (shapeCast S512x512 (a 0) shapeCasts_S1x512x512_S512x512)

/-- The mean of the group `g`. -/
def chosen (g p : BitVec 32) (a : ℕ → Vec Ideal S1x512x512 .f32) : FVec Ideal S512x512 .f32 :=
  Scalar.select (Scalar.cmpi .eq g 3#32) (mean p 16#32 a 15)
    (Scalar.select (Scalar.cmpi .eq g 2#32) (mean p 8#32 a 7) (Scalar.select (Scalar.cmpi .eq g 1#32) (mean p 4#32 a 3) (mean p 2#32 a 1)))

/-- What is stored of 512 rows. -/
def chunk (g p : BitVec 32) (a : ℕ → Vec Ideal S1x512x512 .f32) (w : Vec Ideal S1x512x512 .f32) (s : Vec Ideal S1x512 .f32) : FVec Ideal S1x512x512 .f32 :=
  shapeCast S1x512x512 (mulf (matmul dot_S512x512_S512x512_S512x512_1_0_0_1_n_n none (truncf .bf16 (chosen g p a) bitsLt_bf16_f32)
      (truncf .bf16 (shapeCast S512x512 w shapeCasts_S1x512x512_S512x512 : FVec Ideal S512x512 .f32) bitsLt_bf16_f32) (constant S512x512 .f32 0x00000000#32))
    (broadcastTo S512x512 (shapeCast S1x512 s shapeCasts_S1x512_S1x512) broadcasts_S1x512_S512x512)) shapeCasts_S512x512_S1x512x512

theorem row_apply (a : Vec Ideal S1x512x512 .f32) (t k : Fin 512) : (shapeCast S512x512 a shapeCasts_S1x512x512_S512x512 : FVec Ideal S512x512 .f32) (ix2 t k) = a (ix3 0 t k) := by
  pointwise

theorem sumTo_apply (a : ℕ → Vec Ideal S1x512x512 .f32) (n : ℕ) (t k : Fin 512) : sumTo a n (ix2 t k) = backSum (fun d => a d (ix3 0 t k)) n := by
  induction n with
  | zero => exact row_apply (a 0) t k
  | succ n ih => exact congrArg₂ (· + ·) ih (row_apply (a (n + 1)) t k)

theorem counts_apply (p q : BitVec 32) (t k : Fin 512) : counts p q (ix2 t k) = span q (IntOp.addi p (BitVec.ofNat 32 t.val)) := by
  unfold span
  pointwise [counts]

theorem mean_apply (p q : BitVec 32) (a : ℕ → Vec Ideal S1x512x512 .f32) (n : ℕ) (t k : Fin 512) :
    mean p q a n (ix2 t k) = FloatOps.divf (F := Ideal) (φ := .f32) (backSum (fun d => a d (ix3 0 t k)) n) (span q (IntOp.addi p (BitVec.ofNat 32 t.val))) - a 0 (ix3 0 t k) := by
  rw [← sumTo_apply, ← counts_apply p q t k, ← row_apply (a 0) t k]
  rfl

/-- The sum over a window of rows of a block. -/
theorem mean_rows (x : Vec Ideal S1x2064x512 .f32) (p q : BitVec 32) (c n : ℕ) (t k : Fin 512) (hn : n ≤ 15) :
    mean p q (fun d => rowsFrom x (16 + c - d)) n (ix2 t k) = mixedAt (blk x k) n q (IntOp.addi p (BitVec.ofNat 32 t.val)) (c + t.val) := by
  have r : ∀ d ≤ 15, rowsFrom x (16 + c - d) (ix3 0 t k) = blk x k (15 + (c + t.val) - d) := fun d hd =>
    congrArg (blk x k) (by show 16 + c - d + t.val - 1 = 15 + (c + t.val) - d; omega)
  have e : ∀ j ≤ 15, backSum (fun d => rowsFrom x (16 + c - d) (ix3 0 t k)) j = backSum (fun d => blk x k (15 + (c + t.val) - d)) j := fun j => by
    induction j with
    | zero => exact fun _ => r 0 (by omega)
    | succ j ih => exact fun hj => congrArg₂ (· + ·) (ih (by omega)) (r (j + 1) hj)
  rw [mean_apply, e n hn, r 0 (by omega)]
  rfl

/-- The mean that is chosen. -/
theorem chosen_apply (g : Fin 4) (x : Vec Ideal S1x2064x512 .f32) (p : BitVec 32) (c : ℕ) (t k : Fin 512) :
    chosen (BitVec.ofNat 32 g.val) p (fun d => rowsFrom x (16 + c - d)) (ix2 t k) = groupAt (blk x k) g.val (IntOp.addi p (BitVec.ofNat 32 t.val)) (c + t.val) := by
  rw [← picked, ← mean_rows x p 16#32 c 15 t k (by omega), ← mean_rows x p 8#32 c 7 t k (by omega), ← mean_rows x p 4#32 c 3 t k (by omega), ← mean_rows x p 2#32 c 1 t k (by omega)]
  unfold chosen
  match g with
  | ⟨0, _⟩ => rfl
  | ⟨1, _⟩ => rfl
  | ⟨2, _⟩ => rfl
  | ⟨3, _⟩ => rfl

theorem stored_apply (m : FVec Ideal S512x512 .f32) (w : Vec Ideal S1x512x512 .f32) (s : Vec Ideal S1x512 .f32) (t e : Fin 512) :
    (shapeCast S1x512x512 (mulf (matmul dot_S512x512_S512x512_S512x512_1_0_0_1_n_n none (truncf .bf16 m bitsLt_bf16_f32)
      (truncf .bf16 (shapeCast S512x512 w shapeCasts_S1x512x512_S512x512 : FVec Ideal S512x512 .f32) bitsLt_bf16_f32) (constant S512x512 .f32 0x00000000#32))
    (broadcastTo S512x512 (shapeCast S1x512 s shapeCasts_S1x512_S1x512) broadcasts_S1x512_S512x512)) shapeCasts_S512x512_S1x512x512 : FVec Ideal S1x512x512 .f32) (ix3 0 t e)
      = (∑ k : Fin 512, m (ix2 t k) * w (ix3 0 k e)) * s (ix2 0 e) := by
  pointwise

/-- An entry of what is stored of the 512 rows from `c` on. -/
theorem chunk_apply (g : Fin 4) (x : Vec Ideal S1x2064x512 .f32) (w : Vec Ideal S1x512x512 .f32) (s : Vec Ideal S1x512 .f32) (c : ℕ) (t e : Fin 512) :
    chunk (BitVec.ofNat 32 g.val) (BitVec.ofNat 32 c) (fun d => rowsFrom x (16 + c - d)) w s (ix3 0 t e)
      = (∑ k : Fin 512, groupAt (blk x k) g.val (BitVec.ofNat 32 (c + t.val)) (c + t.val) * w (ix3 0 k e)) * s (ix2 0 e) := by
  unfold chunk
  rw [stored_apply]
  refine congrArg (· * s (ix2 0 e)) (Finset.sum_congr rfl fun k _ => congrArg (· * w (ix3 0 k e)) ?_)
  rw [chosen_apply, BitVec.ofNat_add]
  rfl

/-- An entry of the block that a point leaves. -/
def entry (g : Fin 4) (x : Vec Ideal S1x2064x512 .f32) (w : Vec Ideal S1x512x512 .f32) (s : Vec Ideal S1x512 .f32) (t : ℕ) (e : Fin 512) : EReal :=
  (∑ k : Fin 512, groupAt (blk x k) g.val (BitVec.ofNat 32 t) t * w (ix3 0 k e)) * s (ix2 0 e)

theorem chunk_entry (g : Fin 4) (x : Vec Ideal S1x2064x512 .f32) (w : Vec Ideal S1x512x512 .f32) (s : Vec Ideal S1x512 .f32) (c : ℕ) (z : S1x512x512.Idx) (t : ℕ) (e : Fin 512)
    (ht : t = c + (z 1).val) (he : e.val = (z 2).val) (f : FVec Ideal S1x512x512 .f32) (hf : f = chunk (BitVec.ofNat 32 g.val) (BitVec.ofNat 32 c) (fun d => rowsFrom x (16 + c - d)) w s) :
    f z = entry g x w s t e := by
  obtain rfl : z 2 = e := Fin.ext he.symm
  have z0 : (z 0).val < 1 := (z 0).isLt
  rw [hf, ht]
  refine Eq.trans (congrArg _ (funext fun a => Fin.ext ?_)) (chunk_apply g x w s c (z 1) (z 2))
  match a with
  | ⟨0, _⟩ => show (z 0).val = 0; omega
  | ⟨1, _⟩ => rfl
  | ⟨2, _⟩ => rfl

/-- The block that a point leaves. -/
theorem out_apply (i : grid0.Coords) (x : Vec Ideal S1x2064x512 .f32) (w : Vec Ideal S1x512x512 .f32) (s : Vec Ideal S1x512 .f32) (y : S1x2048x512.Idx) :
    out0_3 (F := Ideal) i x w s y = entry (i 1) x w s (y 1).val (y 2) := by
  unfold_out out0_3
  canon_tiles z h
  · refine chunk_entry (i 1) x w s 1536 z _ _ (by omega) (by omega) _ ?_
    simp (disch := decide) only [ld_rows, View.ld_unit_lit']
    rfl
  · refine chunk_entry (i 1) x w s 1024 z _ _ (by omega) (by omega) _ ?_
    simp (disch := decide) only [ld_rows, View.ld_unit_lit']
    rfl
  · refine chunk_entry (i 1) x w s 512 z _ _ (by omega) (by omega) _ ?_
    simp (disch := decide) only [ld_rows, View.ld_unit_lit']
    rfl
  · refine chunk_entry (i 1) x w s 0 z _ _ (by omega) (by omega) _ ?_
    simp (disch := decide) only [ld_rows, View.ld_unit_lit']
    rfl

end Cert.PooledPromptIdeal.Pooled

end
-- ==== Proof.PooledPromptIdeal.Value.lean ====
module

public import proofs.«01_k».proof.Proof.PooledPromptIdeal.Body
public import Idealize.ShloMosaic.Lib.Pipeline.Covers
public import Idealize.ShloMosaic.Lib.StableHlo.ReadAt

@[expose] public section

/-! What the pooled layer leaves for the prompt, and the state that its host code makes. -/

noncomputable section

namespace Cert.PooledPromptIdeal.Pooled

open Idealize.ShloMosaic Idealize.ShloMosaic.TcCoe Idealize.ShloMosaic.Tactic Idealize.SL.Sem
open Idealize.ShloMosaic.Pipeline (Dat Window)
open Cert.PooledPromptIdeal Cert.PooledPromptIdeal.Gen Cert.Window

variable (m : (ℓ : Loc nD τ sig) → Buf (Elt Ideal) ℓ)

/-- The inputs, the groups' weights and the scale, as launched. -/
abbrev inputs (c : Dev nD) : Vec Ideal S4x2048x2048 .f32 := m ((c.tc : Thread nD τ).loc main_arg0)
abbrev weights (c : Dev nD) : Vec Ideal S4x512x512 .f32 := m ((c.tc : Thread nD τ).loc main_arg1)
abbrev scale (c : Dev nD) : Vec Ideal S2048 .f32 := m ((c.tc : Thread nD τ).loc main_arg2)

/-- The inputs behind 16 rows of zeros, which the host joins. -/
abbrev joined (c : Dev nD) : S4x2064x2048.Idx → EReal :=
  concatenate S4x2064x2048 1 [⟨S4x16x2048, (broadcastInDim S4x16x2048 ![] bcast_S_S4x16x2048 (constant (F := Ideal) S_ .f32 0x00000000#32) : S4x16x2048.Idx → EReal)⟩,
    ⟨S4x2048x2048, (inputs m c : S4x2048x2048.Idx → EReal)⟩] concatenates_S4x16x2048_S4x2048x2048_S4x2064x2048_d1

theorem hist_eq (c : Dev nD) : (V m c main_v1 : S4x2064x2048.Idx → EReal) = joined m c := by
  unfold_abbrev_sides
  after_results
  all_goals rfl

theorem joined_apply (c : Dev nD) (b : Fin 4) (r : ℕ) (hr : r + 1 < 2064) (f : Fin 2048) : joined m c (ix3 b ⟨r + 1, hr⟩ f) = promptHist (inputs m c) b f r := by
  unfold promptHist
  pointwise
  by_cases h : r < 15
  · rw [dif_pos (by omega), dif_neg (by omega)]
    first | done | rfl | pointwise
  · rw [dif_neg (by omega), dif_pos (by omega)]
    refine congrArg (inputs m c) (funext fun a => Fin.ext ?_)
    match a with
    | ⟨0, _⟩ => rfl
    | ⟨1, _⟩ => show r + 1 - 16 = r - 15; omega
    | ⟨2, _⟩ => rfl

theorem hist_apply (c : Dev nD) (b : Fin 4) (r : ℕ) (hr : r + 1 < 2064) (f : Fin 2048) :
    (V m c main_v1 : S4x2064x2048.Idx → EReal) (ix3 b ⟨r + 1, hr⟩ f) = promptHist (inputs m c) b f r :=
  (congrFun (hist_eq m c) _).trans (joined_apply m c b r hr f)

/-- The scale as one row. -/
theorem scale_eq (c : Dev nD) : (V m c main_v3 : S1x2048.Idx → EReal) = shapeCast S1x2048 (scale m c) shapeCasts_S2048_S1x2048 := by
  unfold_abbrev_sides
  after_results
  all_goals rfl

/-- The state that the host makes. -/
theorem state_eq (c : Dev nD) : (V m c main_v2 : S4x15x2048.Idx → EReal) = extractStridedSlice S4x15x2048 ![0, 2049, 0] (joined m c) slices_S4x2064x2048_S4x15x2048_0_2049_0 := by
  unfold_abbrev_sides
  after_results
  all_goals rfl

/-- The state is the last 15 inputs. -/
theorem state_at (c : Dev nD) (b : Fin 4) (r : Fin 15) (f : Fin 2048) : (V m c main_v2 : S4x15x2048.Idx → EReal) (ix3 b r f) = inputs m c (ix3 b ⟨2033 + r.val, by omega⟩ f) := by
  have hr := r.isLt
  rw [state_eq]
  refine (extractStridedSlice_apply ![0, 2049, 0] (joined m c) slices_S4x2064x2048_S4x15x2048_0_2049_0 (ix3 b r f) (ix3 b (⟨2048 + r.val + 1, by omega⟩ : Fin 2064) f) fun a => ?_).trans ?_
  · match a with
    | ⟨0, _⟩ => show b.val = 0 + b.val; omega
    | ⟨1, _⟩ => show 2048 + r.val + 1 = 2049 + r.val; omega
    | ⟨2, _⟩ => show f.val = 0 + f.val; omega
  · rw [joined_apply m c b (2048 + r.val) (by omega) f]
    unfold promptHist
    rw [dif_pos (by omega)]
    exact congrArg (fun j => inputs m c (ix3 b j f)) (Fin.ext (by show 2048 + r.val - 15 = 2033 + r.val; omega))

/-- A grid coordinate as a word is itself. -/
theorem coord0 (t : Fin cfg0.N) : (BitVec.ofNat 32 (grid0.coords t 0).val).toNat = (grid0.coords t 0).val := by
  have h0 : (grid0.coords t 0).val < 4 := (grid0.coords t 0).isLt
  rw [BitVec.toNat_ofNat, Nat.mod_eq_of_lt (by omega)]

theorem coord1 (t : Fin cfg0.N) : (BitVec.ofNat 32 (grid0.coords t 1).val).toNat = (grid0.coords t 1).val := by
  have h0 : (grid0.coords t 1).val < 4 := (grid0.coords t 1).isLt
  rw [BitVec.toNat_ofNat, Nat.mod_eq_of_lt (by omega)]

/-- The blocks' indices at a point. -/
theorem index0 (t : Fin cfg0.N) : (cfg0.win 0).index t = ![(grid0.coords t 0).val, 0, (grid0.coords t 1).val] := by
  show (![(BitVec.ofNat 32 (grid0.coords t 0).val).toNat, 0, (BitVec.ofNat 32 (grid0.coords t 1).val).toNat] : Fin 3 → ℕ) = _
  rw [coord0, coord1]

theorem index1 (t : Fin cfg0.N) : (cfg0.win 1).index t = ![(grid0.coords t 1).val, 0, 0] := by
  show (![(BitVec.ofNat 32 (grid0.coords t 1).val).toNat, 0, 0] : Fin 3 → ℕ) = _
  rw [coord1]

theorem index2 (t : Fin cfg0.N) : (cfg0.win 2).index t = ![0, (grid0.coords t 1).val] := by
  show (![0, (BitVec.ofNat 32 (grid0.coords t 1).val).toNat] : Fin 2 → ℕ) = _
  rw [coord1]

theorem index3 (t : Fin cfg0.N) : (cfg0.win 3).index t = ![(grid0.coords t 0).val, 0, (grid0.coords t 1).val] := by
  show (![(BitVec.ofNat 32 (grid0.coords t 0).val).toNat, 0, (BitVec.ofNat 32 (grid0.coords t 1).val).toNat] : Fin 3 → ℕ) = _
  rw [coord0, coord1]

/-- The rows of the history that a point is handed. -/
theorem rows_apply (c : Dev nD) (t : Fin cfg0.N) (k : Fin 512) (r : ℕ) (hr : r < 2063) :
    blk (iblk m c 0 t) k r = promptHist (inputs m c) (grid0.coords t 0) (col (grid0.coords t 1) k) r := by
  unfold blk
  rw [dif_pos (by omega)]
  refine Eq.trans (congrArg (V m c main_v1) (funext fun a => Fin.ext ?_)) (hist_apply m c (grid0.coords t 0) r (by omega) (col (grid0.coords t 1) k))
  blk_simp
  rw [index0 t]
  match a with
  | ⟨0, _⟩ => show (grid0.coords t 0).val * 1 + 0 = (grid0.coords t 0).val; omega
  | ⟨1, _⟩ => show 0 * 2064 + (r + 1) = r + 1; omega
  | ⟨2, _⟩ => rfl

/-- The weights that a point is handed. -/
theorem weights_apply (c : Dev nD) (t : Fin cfg0.N) (k e : Fin 512) :
    (iblk m c 1 t : Vec Ideal S1x512x512 .f32) (ix3 0 k e) = weights m c (ix3 (grid0.coords t 1) k e) := by
  refine Eq.trans (congrArg (V m c main_arg1) (funext fun a => Fin.ext ?_)) (congrFun (V_main_arg1 m c) (ix3 (grid0.coords t 1) k e))
  blk_simp
  rw [index1 t]
  match a with
  | ⟨0, _⟩ => show (grid0.coords t 1).val * 1 + 0 = (grid0.coords t 1).val; omega
  | ⟨1, _⟩ => show 0 * 512 + (k : ℕ) = (k : ℕ); omega
  | ⟨2, _⟩ => show 0 * 512 + (e : ℕ) = (e : ℕ); omega

/-- The scale that a point is handed. -/
theorem scale_apply (c : Dev nD) (t : Fin cfg0.N) (e : Fin 512) :
    (iblk m c 2 t : Vec Ideal S1x512 .f32) (ix2 0 e) = scale m c (ix1 (col (grid0.coords t 1) e)) := by
  have h : (V m c main_v3 : S1x2048.Idx → EReal) (ix2 0 (col (grid0.coords t 1) e)) = scale m c (ix1 (col (grid0.coords t 1) e)) := by
    rw [scale_eq]
    pointwise
  refine Eq.trans (congrArg (V m c main_v3) (funext fun a => Fin.ext ?_)) h
  blk_simp
  rw [index2 t]
  match a with
  | ⟨0, _⟩ => rfl
  | ⟨1, _⟩ => rfl

/-- What a point leaves, where it lies in the array. -/
theorem point_eq (c : Dev nD) (t : Fin cfg0.N) (y : S1x2048x512.Idx) (b : Fin 4) (r f : Fin 2048)
    (hb : b.val = (grid0.coords t 0).val) (hr : r.val = (y 1).val) (hf : f.val = (grid0.coords t 1).val * 512 + (y 2).val) :
    out0_3 (grid0.coords t) (iblk m c 0 t) (iblk m c 1 t) (iblk m c 2 t) y = promptOut (inputs m c) (weights m c) (scale m c) b r f := by
  obtain rfl : grid0.coords t 0 = b := Fin.ext hb.symm
  obtain rfl : y 1 = r := Fin.ext hr.symm
  have hy : (y 1).val < 2048 := (y 1).isLt
  refine (out_apply (grid0.coords t) (iblk m c 0 t) (iblk m c 1 t) (iblk m c 2 t) y).trans
    (Eq.trans ?_ (promptOut_eq (inputs m c) (weights m c) (scale m c) (grid0.coords t 0) (y 1) f (grid0.coords t 1) (y 2) hf).symm)
  unfold entry promptAt
  exact congrArg₂ (· * ·) (Finset.sum_congr rfl fun k _ => congrArg₂ (· * ·) (groupAt_congr (n := 2063) (fun r hr => rows_apply m c t k r hr) (by omega)) (weights_apply m c t k (y 2)))
    (scale_apply m c t (y 2))

/-- The array the run leaves. -/
theorem final (c : Dev nD) :
    (dats m 0 c).arrAt 3 cfg0.N = fun i : S4x2048x2048.Idx => promptOut (inputs m c) (weights m c) (scale m c) (i 0) (i 1) (i 2) := by
  refine (dats m 0 c).arrAt_eq_of_covers 3 _ ?_ fun t hf y => ?_
  · refine (cfg0.win 3).covers_of_indexMap_surj rfl (fun a => ?_) fun β => ?_
    · match a with
      | ⟨0, _⟩ => exact (by decide : 0 < 1)
      | ⟨1, _⟩ => exact (by decide : 0 < 2048)
      | ⟨2, _⟩ => exact (by decide : 0 < 512)
    · have b0 : (β (0 : Fin 3)).val < 4 := lt_of_lt_of_eq (β (0 : Fin 3)).isLt (by show (4 + 1 - 1) / 1 = 4; decide)
      have b1 : (β (1 : Fin 3)).val < 1 := lt_of_lt_of_eq (β (1 : Fin 3)).isLt (by show (2048 + 2048 - 1) / 2048 = 1; decide)
      have b2 : (β (2 : Fin 3)).val < 4 := lt_of_lt_of_eq (β (2 : Fin 3)).isLt (by show (2048 + 512 - 1) / 512 = 4; decide)
      refine ⟨fun a => match a with | ⟨0, _⟩ => ⟨(β (0 : Fin 3)).val, b0⟩ | ⟨1, _⟩ => ⟨(β (2 : Fin 3)).val, b2⟩, fun a => ?_⟩
      match a with
      | ⟨0, _⟩ => show (BitVec.ofNat 32 (β (0 : Fin 3)).val).toNat = (β (0 : Fin 3)).val; rw [BitVec.toNat_ofNat, Nat.mod_eq_of_lt (by omega)]
      | ⟨1, _⟩ => show 0 = (β (1 : Fin 3)).val; omega
      | ⟨2, _⟩ => show (BitVec.ofNat 32 (β (2 : Fin 3)).val).toNat = (β (2 : Fin 3)).val; rw [BitVec.toNat_ofNat, Nat.mod_eq_of_lt (by omega)]
  · blk_simp
    rw [after0_3]
    refine point_eq m c t y _ _ _ ?_ ?_ ?_
    · blk_simp; rw [index3 t]; rfl
    · blk_simp; rw [index3 t]; show 0 * 2048 + (y 1).val = (y 1).val; omega
    · blk_simp; rw [index3 t]; rfl

/-- The run, with both results. -/
theorem run (g : Dev nD → PrngReg) : θ_run defs (onTc (τ := τ) (main (F := Ideal))) ⟨m, fun _ => 0, g⟩ fun r => ∀ c : Dev nD,
      r.2.mem ((c : Thread nD τ).loc main_v4) = (dats m 0 c).arrAt 3 cfg0.N
      ∧ r.2.mem ((c : Thread nD τ).loc main_v2) = V m c main_v2
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨Value.post3 m r h c, (h c).2 main_v2 (Pipeline.mem_restRefs_of main_v2 (by decide) (by decide)),
    Value.kept_main_arg0 m r h c, Value.kept_main_arg1 m r h c, Value.kept_main_arg2 m r h c⟩) (run_main m g)

end Cert.PooledPromptIdeal.Pooled

end
-- ==== Proof.PooledPromptReferenceIdeal.Value.lean ====
module

public import proofs.«01_k».proof.Proof.Gen.PooledPromptReferenceIdeal.Read
public import proofs.«01_k».proof.Proof.Window

@[expose] public section

/-! The reference of the pooled layer for the prompt, index by index. -/

noncomputable section

namespace Cert.PooledPromptReferenceIdeal.Pooled

open Idealize.ShloMosaic Idealize.ShloMosaic.TcCoe Idealize.ShloMosaic.Tactic
open Cert.PooledPromptReferenceIdeal Cert.PooledPromptReferenceIdeal.Read Cert.Window

variable (x0 : (⟨S4x2048x2048, .f32⟩ : BufTy).Contents (Elt Ideal)) (x1 : (⟨S4x512x512, .f32⟩ : BufTy).Contents (Elt Ideal)) (x2 : (⟨S2048, .f32⟩ : BufTy).Contents (Elt Ideal))

/-- The history. -/
theorem hist_apply (b : Fin 4) (r : Fin 2063) (f : Fin 2048) : val_main_v2 (F := Ideal) x0 (ix3 b r f) = promptHist x0 b f r.val := by
  have z : ∀ j, val_main_v0 (F := Ideal) j = 0 := fun j => by
    rw [val_main_v0_apply, val_main_cst_apply]
    pointwise
  have hr := r.isLt
  unfold val_main_v2 promptHist
  generalize val_main_v0 (F := Ideal) = y at z
  pointwise
  by_cases h : r.val < 15
  · rw [dif_pos h, dif_neg (by omega)]
    exact z _
  · rw [dif_neg h, dif_pos (by omega)]

/-- The rows `d` before an entry's own, of a group's columns. -/
theorem pick (d : ℕ) (g : Fin 4) (hd : d ≤ 15) (h : S4x2063x2048.Slices ![0, 15 - d, g.val * 512] S4x2048x512) (b : Fin 4) (t : Fin 2048) (k : Fin 512) :
    extractStridedSlice S4x2048x512 ![0, 15 - d, g.val * 512] (val_main_v2 (F := Ideal) x0) h (ix3 b t k) = promptHist x0 b (col g k) (15 + t.val - d) := by
  refine (extractStridedSlice_apply ![0, 15 - d, g.val * 512] _ h (ix3 b t k) (ix3 b (⟨15 + t.val - d, by omega⟩ : Fin 2063) (col g k)) fun a => ?_).trans (hist_apply x0 b _ _)
  match a with
  | ⟨0, _⟩ => show b.val = 0 + b.val; omega
  | ⟨1, _⟩ => show 15 + t.val - d = 15 - d + t.val; omega
  | ⟨2, _⟩ => rfl

/-- One more summand. -/
theorem step {a s : EReal} {f : ℕ → EReal} {n : ℕ} (h : a = backSum f n) (h' : s = f (n + 1)) : FloatOps.addf (F := Ideal) (φ := .f32) a s = backSum f (n + 1) :=
  congrArg₂ (· + ·) h h'

/-- The mean over a group's window. -/
abbrev meanOf (g : Fin 4) (b : Fin 4) (t : Fin 2048) (k : Fin 512) : EReal :=
  FloatOps.divf (F := Ideal) (φ := .f32) (backSum (fun d => promptHist x0 b (col g k) (15 + t.val - d)) (windowOf g.val - 1))
    (span (BitVec.ofNat 32 (windowOf g.val)) (BitVec.ofNat 32 t.val))

theorem mean_two (b : Fin 4) (t : Fin 2048) (k : Fin 512) : val_main_v13 (F := Ideal) x0 (ix3 b t k) = meanOf x0 0 b t k := by
  rw [val_main_v13_apply]
  refine congrArg₂ (FloatOps.divf (F := Ideal) (φ := .f32)) ?_ ?_
  · simp only [val_main_v5_apply]
    exact step (n := 0) (pick x0 0 0 (by decide) _ b t k) (pick x0 1 0 (by decide) _ b t k)
  · rw [val_main_v12_apply, val_main_v11_apply, val_main_v10_apply, val_main_v9_apply, val_main_v8_apply, val_main_c_0_apply, val_main_v7_apply, val_main_v6_apply, val_main_c_apply,
      val_main_v1_apply]
    rfl

theorem mean_four (b : Fin 4) (t : Fin 2048) (k : Fin 512) : val_main_v28 (F := Ideal) x0 (ix3 b t k) = meanOf x0 1 b t k := by
  rw [val_main_v28_apply]
  refine congrArg₂ (FloatOps.divf (F := Ideal) (φ := .f32)) ?_ ?_
  · simp only [val_main_v20_apply, val_main_v18_apply, val_main_v16_apply]
    exact step (n := 2) (step (n := 1) (step (n := 0) (pick x0 0 1 (by decide) _ b t k) (pick x0 1 1 (by decide) _ b t k)) (pick x0 2 1 (by decide) _ b t k)) (pick x0 3 1 (by decide) _ b t k)
  · rw [val_main_v27_apply, val_main_v26_apply, val_main_v25_apply, val_main_v24_apply, val_main_v23_apply, val_main_c_2_apply, val_main_v22_apply, val_main_v21_apply, val_main_c_1_apply,
      val_main_v1_apply]
    rfl

theorem mean_eight (b : Fin 4) (t : Fin 2048) (k : Fin 512) : val_main_v51 (F := Ideal) x0 (ix3 b t k) = meanOf x0 2 b t k := by
  have p := fun d hd h => pick x0 d 2 hd h b t k
  rw [val_main_v51_apply]
  refine congrArg₂ (FloatOps.divf (F := Ideal) (φ := .f32)) ?_ ?_
  · simp only [val_main_v43_apply, val_main_v41_apply, val_main_v39_apply, val_main_v37_apply, val_main_v35_apply, val_main_v33_apply, val_main_v31_apply]
    refine step (n := 6) (step (n := 5) (step (n := 4) (step (n := 3) (step (n := 2) (step (n := 1) (step (n := 0) (p 0 ?_ _) (p 1 ?_ _)) (p 2 ?_ _)) (p 3 ?_ _)) (p 4 ?_ _)) (p 5 ?_ _)) (p 6 ?_ _)) (p 7 ?_ _)
    all_goals decide
  · rw [val_main_v50_apply, val_main_v49_apply, val_main_v48_apply, val_main_v47_apply, val_main_v46_apply, val_main_c_4_apply, val_main_v45_apply, val_main_v44_apply, val_main_c_3_apply,
      val_main_v1_apply]
    rfl

theorem mean_sixteen (b : Fin 4) (t : Fin 2048) (k : Fin 512) : val_main_v90 (F := Ideal) x0 (ix3 b t k) = meanOf x0 3 b t k := by
  have p := fun d hd h => pick x0 d 3 hd h b t k
  rw [val_main_v90_apply]
  refine congrArg₂ (FloatOps.divf (F := Ideal) (φ := .f32)) ?_ ?_
  · simp only [val_main_v82_apply, val_main_v80_apply, val_main_v78_apply, val_main_v76_apply, val_main_v74_apply, val_main_v72_apply, val_main_v70_apply, val_main_v68_apply, val_main_v66_apply,
      val_main_v64_apply, val_main_v62_apply, val_main_v60_apply, val_main_v58_apply, val_main_v56_apply, val_main_v54_apply]
    refine step (n := 14) (step (n := 13) (step (n := 12) (step (n := 11) (step (n := 10) (step (n := 9) (step (n := 8) (step (n := 7) (step (n := 6) (step (n := 5) (step (n := 4) (step (n := 3) (step (n := 2) (step (n := 1)
      (step (n := 0) (p 0 ?_ _) (p 1 ?_ _)) (p 2 ?_ _)) (p 3 ?_ _)) (p 4 ?_ _)) (p 5 ?_ _)) (p 6 ?_ _)) (p 7 ?_ _)) (p 8 ?_ _)) (p 9 ?_ _)) (p 10 ?_ _)) (p 11 ?_ _)) (p 12 ?_ _)) (p 13 ?_ _)) (p 14 ?_ _)) (p 15 ?_ _)
    all_goals decide
  · rw [val_main_v89_apply, val_main_v88_apply, val_main_v87_apply, val_main_v86_apply, val_main_v85_apply, val_main_c_6_apply, val_main_v84_apply, val_main_v83_apply, val_main_c_5_apply,
      val_main_v1_apply]
    rfl

/-- The groups' means side by side. -/
theorem joined_apply (b : Fin 4) (t : Fin 2048) (g : Fin 4) (k : Fin 512) : val_main_v91 (F := Ideal) x0 (ix3 b t (col g k)) = meanOf x0 g b t k := by
  have z0 := mean_two x0 b t k
  have z1 := mean_four x0 b t k
  have z2 := mean_eight x0 b t k
  have z3 := mean_sixteen x0 b t k
  unfold val_main_v91
  generalize val_main_v13 (F := Ideal) x0 = y0 at z0
  generalize val_main_v28 (F := Ideal) x0 = y1 at z1
  generalize val_main_v51 (F := Ideal) x0 = y2 at z2
  generalize val_main_v90 (F := Ideal) x0 = y3 at z3
  have hk := k.isLt
  match g with
  | ⟨0, _⟩ =>
    refine Eq.trans ?_ z0
    pointwise
  | ⟨1, _⟩ =>
    refine Eq.trans ?_ z1
    pointwise
  | ⟨2, _⟩ =>
    refine Eq.trans ?_ z2
    pointwise
    rw [dif_neg (by omega), dif_neg (by omega), dif_pos (by omega)]
    exact congrArg (fun j => y2 (ix3 b t j)) (Fin.ext (by show 2 * 512 + k.val - 1024 = k.val; omega))
  | ⟨3, _⟩ =>
    refine Eq.trans ?_ z3
    pointwise
    rw [dif_neg (by omega), dif_neg (by omega), dif_neg (by omega)]
    exact congrArg (fun j => y3 (ix3 b t j)) (Fin.ext (by show 1536 + k.val - 512 - 512 - 512 = k.val; omega))

/-- The means less the inputs. -/
theorem mixed_apply (b : Fin 4) (t : Fin 2048) (g : Fin 4) (k : Fin 512) : val_main_v93 (F := Ideal) x0 (ix3 b t (col g k))
    = groupAt (promptHist x0 b (col g k)) g.val (BitVec.ofNat 32 t.val) t.val := by
  rw [val_main_v93_apply, joined_apply, val_main_v92_apply]
  refine congrArg (meanOf x0 g b t k - ·) (Eq.trans (congrArg (val_main_v2 (F := Ideal) x0) (funext fun a => ?_)) (hist_apply x0 b ⟨15 + t.val, by omega⟩ (col g k)))
  match a with
  | ⟨0, _⟩ => rfl
  | ⟨1, _⟩ => rfl
  | ⟨2, _⟩ => rfl

/-- The mixed rows by their groups. -/
theorem product_apply (b : Fin 4) (t : Fin 2048) (g : Fin 4) (e : Fin 512) : val_main_v95 (F := Ideal) x0 x1 (ix4 g e b t)
    = ∑ k : Fin 512, groupAt (promptHist x0 b (col g k)) g.val (BitVec.ofNat 32 t.val) t.val * x1 (ix3 g k e) := by
  rw [val_main_v95_apply]
  refine Finset.sum_congr rfl fun k _ => (mul_comm _ _).trans (congrArg₂ (· * ·) ?_ (congrArg x1 (funext fun a => ?_)))
  · rw [val_main_v94_apply]
    refine Eq.trans (congrArg (val_main_v93 (F := Ideal) x0) (funext fun a => Fin.ext ?_)) (mixed_apply x0 b t g k)
    have hb := b.isLt; have ht := t.isLt; have hg := g.isLt; have hk := k.isLt
    match a with
    | ⟨0, _⟩ => show (((b.val * 2048 + t.val) * 4 + g.val) * 512 + k.val) / 4194304 = b.val; omega
    | ⟨1, _⟩ => show (((b.val * 2048 + t.val) * 4 + g.val) * 512 + k.val) / 2048 % 2048 = t.val; omega
    | ⟨2, _⟩ => show (((b.val * 2048 + t.val) * 4 + g.val) * 512 + k.val) % 2048 = g.val * 512 + k.val; omega
  · match a with
    | ⟨0, _⟩ => rfl
    | ⟨1, _⟩ => rfl
    | ⟨2, _⟩ => rfl

/-- The reference's result. -/
theorem ref_at (i : S4x2048x2048.Idx) : val_main_v100 (F := Ideal) x0 x1 x2 i = promptOut x0 x1 x2 (i 0) (i 1) (i 2) := by
  have h0 : (i 0).val < 4 := (i 0).isLt
  have h1 : (i 1).val < 2048 := (i 1).isLt
  have h2 : (i 2).val < 2048 := (i 2).isLt
  rw [val_main_v100_apply, val_main_v97_apply, val_main_v96_apply, val_main_v99_apply, val_main_v98_apply]
  refine congrArg₂ (· * ·) (Eq.trans (congrArg (val_main_v95 (F := Ideal) x0 x1) (funext fun a => Fin.ext ?_))
    (product_apply x0 x1 (i 0) (i 1) ⟨(i 2).val / 512, by omega⟩ ⟨(i 2).val % 512, by omega⟩)) (congrArg x2 (funext fun a => Fin.ext ?_))
  · match a with
    | ⟨0, _⟩ => show (((i 0).val * 2048 + (i 1).val) * 2048 + (i 2).val) / 512 % 4 = (i 2).val / 512; omega
    | ⟨1, _⟩ => show (((i 0).val * 2048 + (i 1).val) * 2048 + (i 2).val) % 512 = (i 2).val % 512; omega
    | ⟨2, _⟩ => show (((i 0).val * 2048 + (i 1).val) * 2048 + (i 2).val) / 4194304 = (i 0).val; omega
    | ⟨3, _⟩ => show (((i 0).val * 2048 + (i 1).val) * 2048 + (i 2).val) / 2048 % 2048 = (i 1).val; omega
  · match a with
    | ⟨0, _⟩ => show (i 2).val = (i 2).val / 512 * 512 + (i 2).val % 512; omega

/-- The state that the reference takes: the last 15 inputs. -/
theorem state_at (b : Fin 4) (r : Fin 15) (f : Fin 2048) : val_main_v102 (F := Ideal) x0 (ix3 b r f) = x0 (ix3 b ⟨2033 + r.val, by omega⟩ f) := by
  have e : idx_main_v102 (ix3 b r f) = ix3 b (⟨2048 + r.val, by omega⟩ : Fin 2063) f := funext fun a => match a with
    | ⟨0, _⟩ => rfl
    | ⟨1, _⟩ => rfl
    | ⟨2, _⟩ => rfl
  rw [val_main_v102_apply, e]
  refine (hist_apply x0 b ⟨2048 + r.val, by omega⟩ f).trans ?_
  have hr := r.isLt
  unfold promptHist
  rw [dif_pos (by constructor <;> show _ <;> dsimp only <;> omega)]
  exact congrArg (fun j => x0 (ix3 b j f)) (Fin.ext (by show 2048 + r.val - 15 = 2033 + r.val; omega))

end Cert.PooledPromptReferenceIdeal.Pooled

end
-- ==== Proof.PooledPromptClaim.lean ====
module

public import proofs.«01_k».proof.Defs
public import proofs.«01_k».proof.Proof.Gen.PooledPrompt.Frame
public import proofs.«01_k».proof.Proof.PooledPromptIdeal.Value
public import proofs.«01_k».proof.Proof.PooledPromptReferenceIdeal.Value
public import proofs.«01_k».proof.Proof.Gen.PooledPromptReferenceIdeal.Run
public import Idealize.ShloMosaic.Lib.Claim

@[expose] public section

/-! The claims of the pooled layer for the prompt. -/

namespace Cert.PooledPromptClaim

open Idealize.ShloMosaic Idealize.ShloMosaic.TcCoe Idealize.SL.Sem

theorem frame_kernel : Cert.quiescent_PooledPrompt := fun m g _ => Cert.PooledPrompt.Gen.frame m g

theorem frame_ideal : Cert.quiescent_PooledPromptIdeal := fun m g _ => Cert.PooledPromptIdeal.Gen.frame m g

theorem frame_reference : Cert.quiescent_PooledPromptReferenceIdeal := fun m g _ =>
  (θ_run Cert.PooledPromptReferenceIdeal.defs _ _).mono (fun r h => ⟨fun c => (h c).2.2, sem_eq_zero_of_no_sems (by decide) _⟩) (Cert.PooledPromptReferenceIdeal.Value.run m g)

theorem value : Cert.algebraic_PooledPromptIdeal_PooledPromptReferenceIdeal := by
  intro m g m' g' hpre hagree
  refine ⟨fun c => (Cert.PooledPromptIdeal.Gen.dats m 0 c).arrAt 3 Cert.PooledPromptIdeal.cfg0.N, fun c => Cert.PooledPromptIdeal.Gen.V m c Cert.PooledPromptIdeal.main_v2, Cert.PooledPromptIdeal.Pooled.run m g, ?_⟩
  refine (θ_run Cert.PooledPromptReferenceIdeal.defs _ _).mono (fun r h c => ⟨(h c).1.trans ?_, (h c).2.1.trans ?_, (h c).2.2⟩) (Cert.PooledPromptReferenceIdeal.Value.run m' g')
  · obtain ⟨a0, a1, a2⟩ := hagree c
    obtain rfl : c = 0 := Subsingleton.elim _ _
    refine Eq.trans ((Cert.PooledPromptReferenceIdeal.Read.val_main_v100_eq m' 0).trans ?_) (Cert.PooledPromptIdeal.Pooled.final m 0).symm
    funext i
    rw [a0, a1, a2]
    exact Cert.PooledPromptReferenceIdeal.Pooled.ref_at _ _ _ i
  · obtain ⟨a0, a1, a2⟩ := hagree c
    obtain rfl : c = 0 := Subsingleton.elim _ _
    refine (Cert.PooledPromptReferenceIdeal.Read.val_main_v102_eq (F := Ideal) _).trans ?_
    funext i
    obtain ⟨b, r, f, rfl⟩ : ∃ b r f, i = ix3 b r f := ⟨i 0, i 1, i 2, funext fun a => match a with | ⟨0, _⟩ => rfl | ⟨1, _⟩ => rfl | ⟨2, _⟩ => rfl⟩
    rw [a0]
    exact (Cert.PooledPromptReferenceIdeal.Pooled.state_at _ b r f).trans (Cert.PooledPromptIdeal.Pooled.state_at m 0 b r f).symm

end Cert.PooledPromptClaim
-- ==== Proof.lean ====
module

public import proofs.«01_k».proof.Defs
public import proofs.«01_k».proof.Proof.UpClaim
public import proofs.«01_k».proof.Proof.DownClaim
public import proofs.«01_k».proof.Proof.DenseClaim
public import proofs.«01_k».proof.Proof.ValuesClaim
public import proofs.«01_k».proof.Proof.KeysClaim
public import proofs.«01_k».proof.Proof.DenseDownClaim
public import proofs.«01_k».proof.Proof.AttentionOutClaim
public import proofs.«01_k».proof.Proof.PlainQueriesClaim
public import proofs.«01_k».proof.Proof.QueriesClaim
public import proofs.«01_k».proof.Proof.PooledNormClaim
public import proofs.«01_k».proof.Proof.PooledSampleClaim
public import proofs.«01_k».proof.Proof.PooledPromptClaim
public import proofs.«01_k».proof.Proof.Gen.GateUp
public import proofs.«01_k».proof.Proof.Gen.GateUp.Skeleton
public import proofs.«01_k».proof.Proof.Gen.GateUp.Launch
public import proofs.«01_k».proof.Proof.Gen.GateUpIdeal
public import proofs.«01_k».proof.Proof.Gen.GateUpIdeal.Skeleton
public import proofs.«01_k».proof.Proof.Gen.GateUpIdeal.Launch
public import proofs.«01_k».proof.Proof.Gen.Down
public import proofs.«01_k».proof.Proof.Gen.Down.Skeleton
public import proofs.«01_k».proof.Proof.Gen.Down.Launch
public import proofs.«01_k».proof.Proof.Gen.DownIdeal
public import proofs.«01_k».proof.Proof.Gen.DownIdeal.Skeleton
public import proofs.«01_k».proof.Proof.Gen.DownIdeal.Launch
public import proofs.«01_k».proof.Proof.Gen.UpReferenceIdeal
public import proofs.«01_k».proof.Proof.Gen.UpReferenceIdeal.Run
public import proofs.«01_k».proof.Proof.Gen.UpReferenceIdeal.Read
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Gen.Pre_planned_gate_up
public import proofs.«01_k».proof.Proof.Gen.Pre_planned_down
public import proofs.«01_k».proof.Proof.Gen.DenseUp.Frame
public import proofs.«01_k».proof.Proof.Gen.DenseUpIdeal.Value
public import proofs.«01_k».proof.Proof.Gen.DenseUpReferenceIdeal.Run
public import proofs.«01_k».proof.Proof.Gen.DenseUpReferenceIdeal.Read
public import proofs.«01_k».proof.Proof.Gen.Values.Frame
public import proofs.«01_k».proof.Proof.Gen.ValuesIdeal.Value
public import proofs.«01_k».proof.Proof.Gen.ValuesReferenceIdeal.Run
public import proofs.«01_k».proof.Proof.Gen.ValuesReferenceIdeal.Read
public import proofs.«01_k».proof.Proof.Gen.Keys.Frame
public import proofs.«01_k».proof.Proof.Gen.KeysIdeal.Value
public import proofs.«01_k».proof.Proof.Gen.KeysReferenceIdeal.Run
public import proofs.«01_k».proof.Proof.Gen.KeysReferenceIdeal.Read
public import proofs.«01_k».proof.Proof.Gen.DenseDown.Frame
public import proofs.«01_k».proof.Proof.Gen.DenseDownIdeal.Value
public import proofs.«01_k».proof.Proof.Gen.DenseDownReferenceIdeal.Run
public import proofs.«01_k».proof.Proof.Gen.DenseDownReferenceIdeal.Read
public import proofs.«01_k».proof.Proof.Gen.AttentionOut.Frame
public import proofs.«01_k».proof.Proof.Gen.AttentionOutIdeal.Value
public import proofs.«01_k».proof.Proof.Gen.AttentionOutReferenceIdeal.Run
public import proofs.«01_k».proof.Proof.Gen.AttentionOutReferenceIdeal.Read
public import proofs.«01_k».proof.Proof.Gen.PlainQueries.Frame
public import proofs.«01_k».proof.Proof.Gen.PlainQueriesIdeal.Value
public import proofs.«01_k».proof.Proof.Gen.PlainQueriesReferenceIdeal.Run
public import proofs.«01_k».proof.Proof.Gen.PlainQueriesReferenceIdeal.Read
public import proofs.«01_k».proof.Proof.Gen.Queries.Frame
public import proofs.«01_k».proof.Proof.Gen.QueriesIdeal.Value
public import proofs.«01_k».proof.Proof.Gen.QueriesReferenceIdeal.Run
public import proofs.«01_k».proof.Proof.Gen.QueriesReferenceIdeal.Read
public import proofs.«01_k».proof.Proof.Gen.PooledNorm.Frame
public import proofs.«01_k».proof.Proof.Gen.PooledNormIdeal.Value
public import proofs.«01_k».proof.Proof.Gen.PooledNormReferenceIdeal.Run
public import proofs.«01_k».proof.Proof.Gen.PooledNormReferenceIdeal.Read
public import proofs.«01_k».proof.Proof.Gen.PooledSample.Frame
public import proofs.«01_k».proof.Proof.Gen.PooledSampleIdeal.Value
public import proofs.«01_k».proof.Proof.Gen.PooledSampleReferenceIdeal.Run
public import proofs.«01_k».proof.Proof.Gen.PooledSampleReferenceIdeal.Read
public import proofs.«01_k».proof.Proof.Gen.PooledPrompt.Frame
public import proofs.«01_k».proof.Proof.Gen.PooledPromptIdeal.Value
public import proofs.«01_k».proof.Proof.Gen.PooledPromptReferenceIdeal.Run
public import proofs.«01_k».proof.Proof.Gen.PooledPromptReferenceIdeal.Read

@[expose] public section

/-- Everything that the statement claims. -/
theorem Cert.Proof.claim : Cert.Claim :=
  ⟨inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance,
    Cert.UpClaim.frame_kernel, Cert.UpClaim.frame_ideal, Cert.UpClaim.frame_reference,
    Cert.DownClaim.frame_kernel, Cert.DownClaim.frame_ideal, Cert.DownClaim.frame_reference,
    Cert.DenseClaim.frame_kernel, Cert.DenseClaim.frame_ideal, Cert.DenseClaim.frame_reference,
    Cert.ValuesClaim.frame_kernel, Cert.ValuesClaim.frame_ideal, Cert.ValuesClaim.frame_reference,
    Cert.KeysClaim.frame_kernel, Cert.KeysClaim.frame_ideal, Cert.KeysClaim.frame_reference,
    Cert.DenseDownClaim.frame_kernel, Cert.DenseDownClaim.frame_ideal, Cert.DenseDownClaim.frame_reference,
    Cert.AttentionOutClaim.frame_kernel, Cert.AttentionOutClaim.frame_ideal, Cert.AttentionOutClaim.frame_reference,
    Cert.PlainQueriesClaim.frame_kernel, Cert.PlainQueriesClaim.frame_ideal, Cert.PlainQueriesClaim.frame_reference,
    Cert.QueriesClaim.frame_kernel, Cert.QueriesClaim.frame_ideal, Cert.QueriesClaim.frame_reference,
    Cert.PooledNormClaim.frame_kernel, Cert.PooledNormClaim.frame_ideal, Cert.PooledNormClaim.frame_reference,
    Cert.PooledSampleClaim.frame_kernel, Cert.PooledSampleClaim.frame_ideal, Cert.PooledSampleClaim.frame_reference,
    Cert.PooledPromptClaim.frame_kernel, Cert.PooledPromptClaim.frame_ideal, Cert.PooledPromptClaim.frame_reference,
    trivial, Cert.UpClaim.value, trivial, Cert.DownClaim.value, trivial, Cert.DenseClaim.value, trivial, Cert.ValuesClaim.value, trivial, Cert.KeysClaim.value, trivial, Cert.DenseDownClaim.value,
    trivial, Cert.AttentionOutClaim.value, trivial, Cert.PlainQueriesClaim.value, trivial, Cert.QueriesClaim.value, trivial, Cert.PooledNormClaim.value, trivial, Cert.PooledSampleClaim.value,
    trivial, Cert.PooledPromptClaim.value⟩
